-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFoxIdeal_finite_fox [hPre_finite_fox : Cert.Pre_finite_fox.Facts] (m : (ℓ : Loc Cert.KernelFoxIdeal.nD Cert.KernelFoxIdeal.τ Cert.KernelFoxIdeal.sig) → Buf (Elt Ideal) ℓ) : Prop :=
  ∀ c : Dev Cert.KernelFoxIdeal.nD,
    (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))).1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))).2.1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))).2.2.1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))).2.2.2.1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))).2.2.2.2 = (fun _ => 1#1)

def Pre_ReferenceFoxIdeal (m : (ℓ : Loc Cert.ReferenceFoxIdeal.nD Cert.ReferenceFoxIdeal.τ Cert.ReferenceFoxIdeal.sig) → Buf (Elt Ideal) ℓ) : Prop :=
  True

def Pre_ReferenceFoxIdeal_finite_fox [hPre_finite_fox : Cert.Pre_finite_fox.Facts] (m : (ℓ : Loc Cert.ReferenceFoxIdeal.nD Cert.ReferenceFoxIdeal.τ Cert.ReferenceFoxIdeal.sig) → Buf (Elt Ideal) ℓ) : Prop :=
  ∀ c : Dev Cert.ReferenceFoxIdeal.nD,
    (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))).1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))).2.1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))).2.2.1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))).2.2.2.1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))).2.2.2.2 = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2 = (fun _ => 1#1)

def Pre_KernelFcum (m : (ℓ : Loc Cert.KernelFcum.nD Cert.KernelFcum.τ Cert.KernelFcum.sig) → Buf (Elt Bits) ℓ) : Prop :=
  True

def Pre_KernelFcumIdeal (m : (ℓ : Loc Cert.KernelFcumIdeal.nD Cert.KernelFcumIdeal.τ Cert.KernelFcumIdeal.sig) → Buf (Elt Ideal) ℓ) : Prop :=
  True

def Pre_ReferenceFcumIdeal (m : (ℓ : Loc Cert.ReferenceFcumIdeal.nD Cert.ReferenceFcumIdeal.τ Cert.ReferenceFcumIdeal.sig) → Buf (Elt Ideal) ℓ) : Prop :=
  True

def Pre_KernelModnorm (m : (ℓ : Loc Cert.KernelModnorm.nD Cert.KernelModnorm.τ Cert.KernelModnorm.sig) → Buf (Elt Bits) ℓ) : Prop :=
  True

def Pre_KernelModnormIdeal (m : (ℓ : Loc Cert.KernelModnormIdeal.nD Cert.KernelModnormIdeal.τ Cert.KernelModnormIdeal.sig) → Buf (Elt Ideal) ℓ) : Prop :=
  True

def Pre_KernelModnormIdeal_finite_modnorm [hPre_finite_modnorm : Cert.Pre_finite_modnorm.Facts] (m : (ℓ : Loc Cert.KernelModnormIdeal.nD Cert.KernelModnormIdeal.τ Cert.KernelModnormIdeal.sig) → Buf (Elt Ideal) ℓ) : Prop :=
  ∀ c : Dev Cert.KernelModnormIdeal.nD,
    (Cert.Pre_finite_modnorm.fn (F := Ideal) (m ((c.tc : Thread Cert.KernelModnormIdeal.nD Cert.KernelModnormIdeal.τ).loc Cert.KernelModnormIdeal.main_arg0)) (m ((c.tc : Thread Cert.KernelModnormIdeal.nD Cert.KernelModnormIdeal.τ).loc Cert.KernelModnormIdeal.main_arg1)) (m ((c.tc : Thread Cert.KernelModnormIdeal.nD Cert.KernelModnormIdeal.τ).loc Cert.KernelModnormIdeal.main_arg2)) (m ((c.tc : Thread Cert.KernelModnormIdeal.nD Cert.KernelModnormIdeal.τ).loc Cert.KernelModnormIdeal.main_arg3)) (m ((c.tc : Thread Cert.KernelModnormIdeal.nD Cert.KernelModnormIdeal.τ).loc Cert.KernelModnormIdeal.main_arg4))).1 = (fun _ => 1#1)
    ∧ (Cert.Pre_finite_modnorm.fn (F := Ideal) (m ((c.tc : Thread Cert.KernelModnormIdeal.nD Cert.KernelModnormIdeal.τ).loc Cert.KernelModnormIdeal.main_arg0)) (m ((c.tc : Thread Cert.KernelModnormIdeal.nD Cert.KernelModnormIdeal.τ).loc Cert.KernelModnormIdeal.main_arg1)) (m ((c.tc : Thread Cert.KernelModnormIdeal.nD Cert.KernelModnormIdeal.τ).loc Cert.KernelModnormIdeal.main_arg2)) (m ((c.tc : Thread Cert.KernelModnormIdeal.nD Cert.KernelModnormIdeal.τ).loc Cert.KernelModnormIdeal.main_arg3)) (m ((c.tc : Thread Cert.KernelModnormIdeal.nD Cert.KernelModnormIdeal.τ).loc Cert.KernelModnormIdeal.main_arg4))).2.1 = (fun _ => 1#1)
    ∧ (Cert.Pre_finite_modnorm.fn (F := Ideal) (m ((c.tc : Thread Cert.KernelModnormIdeal.nD Cert.KernelModnormIdeal.τ).loc Cert.KernelModnormIdeal.main_arg0)) (m ((c.tc : Thread Cert.KernelModnormIdeal.nD Cert.KernelModnormIdeal.τ).loc Cert.KernelModnormIdeal.main_arg1)) (m ((c.tc : Thread Cert.KernelModnormIdeal.nD Cert.KernelModnormIdeal.τ).loc Cert.KernelModnormIdeal.main_arg2)) (m ((c.tc : Thread Cert.KernelModnormIdeal.nD Cert.KernelModnormIdeal.τ).loc Cert.KernelModnormIdeal.main_arg3)) (m ((c.tc : Thread Cert.KernelModnormIdeal.nD Cert.KernelModnormIdeal.τ).loc Cert.KernelModnormIdeal.main_arg4))).2.2 = (fun _ => 1#1)

def Pre_ReferenceModnormIdeal (m : (ℓ : Loc Cert.ReferenceModnormIdeal.nD Cert.ReferenceModnormIdeal.τ Cert.ReferenceModnormIdeal.sig) → Buf (Elt Ideal) ℓ) : Prop :=
  True

def Pre_ReferenceModnormIdeal_finite_modnorm [hPre_finite_modnorm : Cert.Pre_finite_modnorm.Facts] (m : (ℓ : Loc Cert.ReferenceModnormIdeal.nD Cert.ReferenceModnormIdeal.τ Cert.ReferenceModnormIdeal.sig) → Buf (Elt Ideal) ℓ) : Prop :=
  ∀ c : Dev Cert.ReferenceModnormIdeal.nD,
    (Cert.Pre_finite_modnorm.fn (F := Ideal) (m ((c.tc : Thread Cert.ReferenceModnormIdeal.nD Cert.ReferenceModnormIdeal.τ).loc Cert.ReferenceModnormIdeal.main_arg0)) (m ((c.tc : Thread Cert.ReferenceModnormIdeal.nD Cert.ReferenceModnormIdeal.τ).loc Cert.ReferenceModnormIdeal.main_arg1)) (m ((c.tc : Thread Cert.ReferenceModnormIdeal.nD Cert.ReferenceModnormIdeal.τ).loc Cert.ReferenceModnormIdeal.main_arg2)) (m ((c.tc : Thread Cert.ReferenceModnormIdeal.nD Cert.ReferenceModnormIdeal.τ).loc Cert.ReferenceModnormIdeal.main_arg3)) (m ((c.tc : Thread Cert.ReferenceModnormIdeal.nD Cert.ReferenceModnormIdeal.τ).loc Cert.ReferenceModnormIdeal.main_arg4))).1 = (fun _ => 1#1)
    ∧ (Cert.Pre_finite_modnorm.fn (F := Ideal) (m ((c.tc : Thread Cert.ReferenceModnormIdeal.nD Cert.ReferenceModnormIdeal.τ).loc Cert.ReferenceModnormIdeal.main_arg0)) (m ((c.tc : Thread Cert.ReferenceModnormIdeal.nD Cert.ReferenceModnormIdeal.τ).loc Cert.ReferenceModnormIdeal.main_arg1)) (m ((c.tc : Thread Cert.ReferenceModnormIdeal.nD Cert.ReferenceModnormIdeal.τ).loc Cert.ReferenceModnormIdeal.main_arg2)) (m ((c.tc : Thread Cert.ReferenceModnormIdeal.nD Cert.ReferenceModnormIdeal.τ).loc Cert.ReferenceModnormIdeal.main_arg3)) (m ((c.tc : Thread Cert.ReferenceModnormIdeal.nD Cert.ReferenceModnormIdeal.τ).loc Cert.ReferenceModnormIdeal.main_arg4))).2.1 = (fun _ => 1#1)
    ∧ (Cert.Pre_finite_modnorm.fn (F := Ideal) (m ((c.tc : Thread Cert.ReferenceModnormIdeal.nD Cert.ReferenceModnormIdeal.τ).loc Cert.ReferenceModnormIdeal.main_arg0)) (m ((c.tc : Thread Cert.ReferenceModnormIdeal.nD Cert.ReferenceModnormIdeal.τ).loc Cert.ReferenceModnormIdeal.main_arg1)) (m ((c.tc : Thread Cert.ReferenceModnormIdeal.nD Cert.ReferenceModnormIdeal.τ).loc Cert.ReferenceModnormIdeal.main_arg2)) (m ((c.tc : Thread Cert.ReferenceModnormIdeal.nD Cert.ReferenceModnormIdeal.τ).loc Cert.ReferenceModnormIdeal.main_arg3)) (m ((c.tc : Thread Cert.ReferenceModnormIdeal.nD Cert.ReferenceModnormIdeal.τ).loc Cert.ReferenceModnormIdeal.main_arg4))).2.2 = (fun _ => 1#1)

def Pre_KernelQnorm (m : (ℓ : Loc Cert.KernelQnorm.nD Cert.KernelQnorm.τ Cert.KernelQnorm.sig) → Buf (Elt Bits) ℓ) : Prop :=
  True

def Pre_KernelQnormIdeal (m : (ℓ : Loc Cert.KernelQnormIdeal.nD Cert.KernelQnormIdeal.τ Cert.KernelQnormIdeal.sig) → Buf (Elt Ideal) ℓ) : Prop :=
  True

def Pre_ReferenceQnormIdeal (m : (ℓ : Loc Cert.ReferenceQnormIdeal.nD Cert.ReferenceQnormIdeal.τ Cert.ReferenceQnormIdeal.sig) → Buf (Elt Ideal) ℓ) : Prop :=
  True

def Pre_KernelKnorm (m : (ℓ : Loc Cert.KernelKnorm.nD Cert.KernelKnorm.τ Cert.KernelKnorm.sig) → Buf (Elt Bits) ℓ) : Prop :=
  True

def Pre_KernelKnormIdeal (m : (ℓ : Loc Cert.KernelKnormIdeal.nD Cert.KernelKnormIdeal.τ Cert.KernelKnormIdeal.sig) → Buf (Elt Ideal) ℓ) : Prop :=
  True

def Pre_ReferenceKnormIdeal (m : (ℓ : Loc Cert.ReferenceKnormIdeal.nD Cert.ReferenceKnormIdeal.τ Cert.ReferenceKnormIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelMixfwd (m : (ℓ : Loc Cert.KernelMixfwd.nD Cert.KernelMixfwd.τ Cert.KernelMixfwd.sig) → Buf (Elt Bits) ℓ) : Prop :=
  True

def Pre_KernelMixfwdIdeal (m : (ℓ : Loc Cert.KernelMixfwdIdeal.nD Cert.KernelMixfwdIdeal.τ Cert.KernelMixfwdIdeal.sig) → Buf (Elt Ideal) ℓ) : Prop :=
  True

def Pre_ReferenceMixfwdIdeal (m : (ℓ : Loc Cert.ReferenceMixfwdIdeal.nD Cert.ReferenceMixfwdIdeal.τ Cert.ReferenceMixfwdIdeal.sig) → Buf (Elt Ideal) ℓ) : Prop :=
  True

def Pre_KernelModnormfwd (m : (ℓ : Loc Cert.KernelModnormfwd.nD Cert.KernelModnormfwd.τ Cert.KernelModnormfwd.sig) → Buf (Elt Bits) ℓ) : Prop :=
  True

def Pre_KernelModnormfwdIdeal (m : (ℓ : Loc Cert.KernelModnormfwdIdeal.nD Cert.KernelModnormfwdIdeal.τ Cert.KernelModnormfwdIdeal.sig) → Buf (Elt Ideal) ℓ) : Prop :=
  True

def Pre_ReferenceModnormfwdIdeal (m : (ℓ : Loc Cert.ReferenceModnormfwdIdeal.nD Cert.ReferenceModnormfwdIdeal.τ Cert.ReferenceModnormfwdIdeal.sig) → Buf (Elt Ideal) ℓ) : Prop :=
  True

def Pre_KernelLnfwd (m : (ℓ : Loc Cert.KernelLnfwd.nD Cert.KernelLnfwd.τ Cert.KernelLnfwd.sig) → Buf (Elt Bits) ℓ) : Prop :=
  True

def Pre_KernelLnfwdIdeal (m : (ℓ : Loc Cert.KernelLnfwdIdeal.nD Cert.KernelLnfwdIdeal.τ Cert.KernelLnfwdIdeal.sig) → Buf (Elt Ideal) ℓ) : Prop :=
  True

def Pre_ReferenceLnfwdIdeal (m : (ℓ : Loc Cert.ReferenceLnfwdIdeal.nD Cert.ReferenceLnfwdIdeal.τ Cert.ReferenceLnfwdIdeal.sig) → Buf (Elt Ideal) ℓ) : Prop :=
  True

def Pre_KernelGatesfwd (m : (ℓ : Loc Cert.KernelGatesfwd.nD Cert.KernelGatesfwd.τ Cert.KernelGatesfwd.sig) → Buf (Elt Bits) ℓ) : Prop :=
  True

def Pre_KernelGatesfwdIdeal (m : (ℓ : Loc Cert.KernelGatesfwdIdeal.nD Cert.KernelGatesfwdIdeal.τ Cert.KernelGatesfwdIdeal.sig) → Buf (Elt Ideal) ℓ) : Prop :=
  True

def Pre_ReferenceGatesfwdIdeal (m : (ℓ : Loc Cert.ReferenceGatesfwdIdeal.nD Cert.ReferenceGatesfwdIdeal.τ Cert.ReferenceGatesfwdIdeal.sig) → Buf (Elt Ideal) ℓ) : Prop :=
  True

def Pre_KernelGeluup (m : (ℓ : Loc Cert.KernelGeluup.nD Cert.KernelGeluup.τ Cert.KernelGeluup.sig) → Buf (Elt Bits) ℓ) : Prop :=
  True

def Pre_KernelGeluupIdeal (m : (ℓ : Loc Cert.KernelGeluupIdeal.nD Cert.KernelGeluupIdeal.τ Cert.KernelGeluupIdeal.sig) → Buf (Elt Ideal) ℓ) : Prop :=
  True

def Pre_ReferenceGeluupIdeal (m : (ℓ : Loc Cert.ReferenceGeluupIdeal.nD Cert.ReferenceGeluupIdeal.τ Cert.ReferenceGeluupIdeal.sig) → Buf (Elt Ideal) ℓ) : Prop :=
  True

def Pre_KernelUpfwd (m : (ℓ : Loc Cert.KernelUpfwd.nD Cert.KernelUpfwd.τ Cert.KernelUpfwd.sig) → Buf (Elt Bits) ℓ) : Prop :=
  True

def Pre_KernelUpfwdIdeal (m : (ℓ : Loc Cert.KernelUpfwdIdeal.nD Cert.KernelUpfwdIdeal.τ Cert.KernelUpfwdIdeal.sig) → Buf (Elt Ideal) ℓ) : Prop :=
  True

def Pre_ReferenceUpfwdIdeal (m : (ℓ : Loc Cert.ReferenceUpfwdIdeal.nD Cert.ReferenceUpfwdIdeal.τ Cert.ReferenceUpfwdIdeal.sig) → Buf (Elt Ideal) ℓ) : Prop :=
  True

def Pre_KernelQfwd (m : (ℓ : Loc Cert.KernelQfwd.nD Cert.KernelQfwd.τ Cert.KernelQfwd.sig) → Buf (Elt Bits) ℓ) : Prop :=
  True

def Pre_KernelQfwdIdeal (m : (ℓ : Loc Cert.KernelQfwdIdeal.nD Cert.KernelQfwdIdeal.τ Cert.KernelQfwdIdeal.sig) → Buf (Elt Ideal) ℓ) : Prop :=
  True

def Pre_ReferenceQfwdIdeal (m : (ℓ : Loc Cert.ReferenceQfwdIdeal.nD Cert.ReferenceQfwdIdeal.τ Cert.ReferenceQfwdIdeal.sig) → Buf (Elt Ideal) ℓ) : Prop :=
  True

def Pre_KernelKfwd (m : (ℓ : Loc Cert.KernelKfwd.nD Cert.KernelKfwd.τ Cert.KernelKfwd.sig) → Buf (Elt Bits) ℓ) : Prop :=
  True

def Pre_KernelKfwdIdeal (m : (ℓ : Loc Cert.KernelKfwdIdeal.nD Cert.KernelKfwdIdeal.τ Cert.KernelKfwdIdeal.sig) → Buf (Elt Ideal) ℓ) : Prop :=
  True

def Pre_ReferenceKfwdIdeal (m : (ℓ : Loc Cert.ReferenceKfwdIdeal.nD Cert.ReferenceKfwdIdeal.τ Cert.ReferenceKfwdIdeal.sig) → Buf (Elt Ideal) ℓ) : Prop :=
  True

def Pre_KernelDownfwd (m : (ℓ : Loc Cert.KernelDownfwd.nD Cert.KernelDownfwd.τ Cert.KernelDownfwd.sig) → Buf (Elt Bits) ℓ) : Prop :=
  True

def Pre_KernelDownfwdIdeal (m : (ℓ : Loc Cert.KernelDownfwdIdeal.nD Cert.KernelDownfwdIdeal.τ Cert.KernelDownfwdIdeal.sig) → Buf (Elt Ideal) ℓ) : Prop :=
  True

def Pre_ReferenceDownfwdIdeal (m : (ℓ : Loc Cert.ReferenceDownfwdIdeal.nD Cert.ReferenceDownfwdIdeal.τ Cert.ReferenceDownfwdIdeal.sig) → Buf (Elt Ideal) ℓ) : Prop :=
  True

def Pre_KernelAttnofwd (m : (ℓ : Loc Cert.KernelAttnofwd.nD Cert.KernelAttnofwd.τ Cert.KernelAttnofwd.sig) → Buf (Elt Bits) ℓ) : Prop :=
  True

def Pre_KernelAttnofwdIdeal (m : (ℓ : Loc Cert.KernelAttnofwdIdeal.nD Cert.KernelAttnofwdIdeal.τ Cert.KernelAttnofwdIdeal.sig) → Buf (Elt Ideal) ℓ) : Prop :=
  True

def Pre_ReferenceAttnofwdIdeal (m : (ℓ : Loc Cert.ReferenceAttnofwdIdeal.nD Cert.ReferenceAttnofwdIdeal.τ Cert.ReferenceAttnofwdIdeal.sig) → Buf (Elt Ideal) ℓ) : Prop :=
  True

def Pre_KernelGmlpoutfwd (m : (ℓ : Loc Cert.KernelGmlpoutfwd.nD Cert.KernelGmlpoutfwd.τ Cert.KernelGmlpoutfwd.sig) → Buf (Elt Bits) ℓ) : Prop :=
  True

def Pre_KernelGmlpoutfwdIdeal (m : (ℓ : Loc Cert.KernelGmlpoutfwdIdeal.nD Cert.KernelGmlpoutfwdIdeal.τ Cert.KernelGmlpoutfwdIdeal.sig) → Buf (Elt Ideal) ℓ) : Prop :=
  True

def Pre_ReferenceGmlpoutfwdIdeal (m : (ℓ : Loc Cert.ReferenceGmlpoutfwdIdeal.nD Cert.ReferenceGmlpoutfwdIdeal.τ Cert.ReferenceGmlpoutfwdIdeal.sig) → Buf (Elt Ideal) ℓ) : Prop :=
  True

def Pre_KernelSilufwd (m : (ℓ : Loc Cert.KernelSilufwd.nD Cert.KernelSilufwd.τ Cert.KernelSilufwd.sig) → Buf (Elt Bits) ℓ) : Prop :=
  True

def Pre_KernelSilufwdIdeal (m : (ℓ : Loc Cert.KernelSilufwdIdeal.nD Cert.KernelSilufwdIdeal.τ Cert.KernelSilufwdIdeal.sig) → Buf (Elt Ideal) ℓ) : Prop :=
  True

def Pre_ReferenceSilufwdIdeal (m : (ℓ : Loc Cert.ReferenceSilufwdIdeal.nD Cert.ReferenceSilufwdIdeal.τ Cert.ReferenceSilufwdIdeal.sig) → Buf (Elt Ideal) ℓ) : Prop :=
  True

def Pre_KernelAdafwd (m : (ℓ : Loc Cert.KernelAdafwd.nD Cert.KernelAdafwd.τ Cert.KernelAdafwd.sig) → Buf (Elt Bits) ℓ) : Prop :=
  True

def Pre_KernelAdafwdIdeal (m : (ℓ : Loc Cert.KernelAdafwdIdeal.nD Cert.KernelAdafwdIdeal.τ Cert.KernelAdafwdIdeal.sig) → Buf (Elt Ideal) ℓ) : Prop :=
  True

def Pre_ReferenceAdafwdIdeal (m : (ℓ : Loc Cert.ReferenceAdafwdIdeal.nD Cert.ReferenceAdafwdIdeal.τ Cert.ReferenceAdafwdIdeal.sig) → Buf (Elt Ideal) ℓ) : Prop :=
  True

def Pre_KernelFcumfwd (m : (ℓ : Loc Cert.KernelFcumfwd.nD Cert.KernelFcumfwd.τ Cert.KernelFcumfwd.sig) → Buf (Elt Bits) ℓ) : Prop :=
  True

def Pre_KernelFcumfwdIdeal (m : (ℓ : Loc Cert.KernelFcumfwdIdeal.nD Cert.KernelFcumfwdIdeal.τ Cert.KernelFcumfwdIdeal.sig) → Buf (Elt Ideal) ℓ) : Prop :=
  True

def Pre_ReferenceFcumfwdIdeal (m : (ℓ : Loc Cert.ReferenceFcumfwdIdeal.nD Cert.ReferenceFcumfwdIdeal.τ Cert.ReferenceFcumfwdIdeal.sig) → Buf (Elt Ideal) ℓ) : Prop :=
  True

def Pre_KernelWgrad (m : (ℓ : Loc Cert.KernelWgrad.nD Cert.KernelWgrad.τ Cert.KernelWgrad.sig) → Buf (Elt Bits) ℓ) : Prop :=
  True

def Pre_KernelWgradIdeal (m : (ℓ : Loc Cert.KernelWgradIdeal.nD Cert.KernelWgradIdeal.τ Cert.KernelWgradIdeal.sig) → Buf (Elt Ideal) ℓ) : Prop :=
  True

def Pre_ReferenceWgradIdeal (m : (ℓ : Loc Cert.ReferenceWgradIdeal.nD Cert.ReferenceWgradIdeal.τ Cert.ReferenceWgradIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelSumdev (m : (ℓ : Loc Cert.KernelSumdev.nD Cert.KernelSumdev.τ Cert.KernelSumdev.sig) → Buf (Elt Bits) ℓ) : Prop :=
  True

def Pre_KernelSumdevIdeal (m : (ℓ : Loc Cert.KernelSumdevIdeal.nD Cert.KernelSumdevIdeal.τ Cert.KernelSumdevIdeal.sig) → Buf (Elt Ideal) ℓ) : Prop :=
  True

def Pre_ReferenceSumdevIdeal (m : (ℓ : Loc Cert.ReferenceSumdevIdeal.nD Cert.ReferenceSumdevIdeal.τ Cert.ReferenceSumdevIdeal.sig) → Buf (Elt Ideal) ℓ) : Prop :=
  True

def Pre_KernelExch (m : (ℓ : Loc Cert.KernelExch.nD Cert.KernelExch.τ Cert.KernelExch.sig) → Buf (Elt Bits) ℓ) : Prop :=
  True

def Pre_KernelExchIdeal (m : (ℓ : Loc Cert.KernelExchIdeal.nD Cert.KernelExchIdeal.τ Cert.KernelExchIdeal.sig) → Buf (Elt Ideal) ℓ) : Prop :=
  True

def Pre_ReferenceExchIdeal (m : (ℓ : Loc Cert.ReferenceExchIdeal.nD Cert.ReferenceExchIdeal.τ Cert.ReferenceExchIdeal.sig) → Buf (Elt Ideal) ℓ) : Prop :=
  True

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_KernelFoxIdeal_pre_finite_fox [hKernelFoxIdeal : Cert.KernelFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal_finite_fox m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_ReferenceFoxIdeal_pre_finite_fox [hReferenceFoxIdeal : Cert.ReferenceFoxIdeal.Facts] [hPre_finite_fox : Cert.Pre_finite_fox.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal_finite_fox m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelFcum [hKernelFcum : Cert.KernelFcum.Facts] : Prop :=
  ∀ (m : (ℓ : Loc Cert.KernelFcum.nD Cert.KernelFcum.τ Cert.KernelFcum.sig) → Buf (Elt Bits) ℓ) (g : Dev Cert.KernelFcum.nD → PrngReg), Pre_KernelFcum m →
    θ_run (Cert.KernelFcum.defs (F := Bits)) (onTc (τ := Cert.KernelFcum.τ) (Cert.KernelFcum.main (F := Bits))) ⟨m, fun _ => 0, g⟩ (fun r => (∀ c : Dev Cert.KernelFcum.nD,
      r.2.mem ((c.tc : Thread Cert.KernelFcum.nD Cert.KernelFcum.τ).loc Cert.KernelFcum.main_arg0) = m ((c.tc : Thread Cert.KernelFcum.nD Cert.KernelFcum.τ).loc Cert.KernelFcum.main_arg0)
      ∧ r.2.mem ((c.tc : Thread Cert.KernelFcum.nD Cert.KernelFcum.τ).loc Cert.KernelFcum.main_arg1) = m ((c.tc : Thread Cert.KernelFcum.nD Cert.KernelFcum.τ).loc Cert.KernelFcum.main_arg1)
      ∧ r.2.mem ((c.tc : Thread Cert.KernelFcum.nD Cert.KernelFcum.τ).loc Cert.KernelFcum.main_arg2) = m ((c.tc : Thread Cert.KernelFcum.nD Cert.KernelFcum.τ).loc Cert.KernelFcum.main_arg2)
      ∧ r.2.mem ((c.tc : Thread Cert.KernelFcum.nD Cert.KernelFcum.τ).loc Cert.KernelFcum.main_arg3) = m ((c.tc : Thread Cert.KernelFcum.nD Cert.KernelFcum.τ).loc Cert.KernelFcum.main_arg3))
      ∧ r.2.sem = fun _ => 0)

def quiescent_KernelFcumIdeal [hKernelFcumIdeal : Cert.KernelFcumIdeal.Facts] : Prop :=
  ∀ (m : (ℓ : Loc Cert.KernelFcumIdeal.nD Cert.KernelFcumIdeal.τ Cert.KernelFcumIdeal.sig) → Buf (Elt Ideal) ℓ) (g : Dev Cert.KernelFcumIdeal.nD → PrngReg), Pre_KernelFcumIdeal m →
    θ_run (Cert.KernelFcumIdeal.defs (F := Ideal)) (onTc (τ := Cert.KernelFcumIdeal.τ) (Cert.KernelFcumIdeal.main (F := Ideal))) ⟨m, fun _ => 0, g⟩ (fun r => (∀ c : Dev Cert.KernelFcumIdeal.nD,
      r.2.mem ((c.tc : Thread Cert.KernelFcumIdeal.nD Cert.KernelFcumIdeal.τ).loc Cert.KernelFcumIdeal.main_arg0) = m ((c.tc : Thread Cert.KernelFcumIdeal.nD Cert.KernelFcumIdeal.τ).loc Cert.KernelFcumIdeal.main_arg0)
      ∧ r.2.mem ((c.tc : Thread Cert.KernelFcumIdeal.nD Cert.KernelFcumIdeal.τ).loc Cert.KernelFcumIdeal.main_arg1) = m ((c.tc : Thread Cert.KernelFcumIdeal.nD Cert.KernelFcumIdeal.τ).loc Cert.KernelFcumIdeal.main_arg1)
      ∧ r.2.mem ((c.tc : Thread Cert.KernelFcumIdeal.nD Cert.KernelFcumIdeal.τ).loc Cert.KernelFcumIdeal.main_arg2) = m ((c.tc : Thread Cert.KernelFcumIdeal.nD Cert.KernelFcumIdeal.τ).loc Cert.KernelFcumIdeal.main_arg2)
      ∧ r.2.mem ((c.tc : Thread Cert.KernelFcumIdeal.nD Cert.KernelFcumIdeal.τ).loc Cert.KernelFcumIdeal.main_arg3) = m ((c.tc : Thread Cert.KernelFcumIdeal.nD Cert.KernelFcumIdeal.τ).loc Cert.KernelFcumIdeal.main_arg3))
      ∧ r.2.sem = fun _ => 0)

def quiescent_ReferenceFcumIdeal [hReferenceFcumIdeal : Cert.ReferenceFcumIdeal.Facts] : Prop :=
  ∀ (m : (ℓ : Loc Cert.ReferenceFcumIdeal.nD Cert.ReferenceFcumIdeal.τ Cert.ReferenceFcumIdeal.sig) → Buf (Elt Ideal) ℓ) (g : Dev Cert.ReferenceFcumIdeal.nD → PrngReg), Pre_ReferenceFcumIdeal m →
    θ_run (Cert.ReferenceFcumIdeal.defs (F := Ideal)) (onTc (τ := Cert.ReferenceFcumIdeal.τ) (Cert.ReferenceFcumIdeal.main (F := Ideal))) ⟨m, fun _ => 0, g⟩ (fun r => (∀ c : Dev Cert.ReferenceFcumIdeal.nD,
      r.2.mem ((c.tc : Thread Cert.ReferenceFcumIdeal.nD Cert.ReferenceFcumIdeal.τ).loc Cert.ReferenceFcumIdeal.main_arg0) = m ((c.tc : Thread Cert.ReferenceFcumIdeal.nD Cert.ReferenceFcumIdeal.τ).loc Cert.ReferenceFcumIdeal.main_arg0)
      ∧ r.2.mem ((c.tc : Thread Cert.ReferenceFcumIdeal.nD Cert.ReferenceFcumIdeal.τ).loc Cert.ReferenceFcumIdeal.main_arg1) = m ((c.tc : Thread Cert.ReferenceFcumIdeal.nD Cert.ReferenceFcumIdeal.τ).loc Cert.ReferenceFcumIdeal.main_arg1)
      ∧ r.2.mem ((c.tc : Thread Cert.ReferenceFcumIdeal.nD Cert.ReferenceFcumIdeal.τ).loc Cert.ReferenceFcumIdeal.main_arg2) = m ((c.tc : Thread Cert.ReferenceFcumIdeal.nD Cert.ReferenceFcumIdeal.τ).loc Cert.ReferenceFcumIdeal.main_arg2)
      ∧ r.2.mem ((c.tc : Thread Cert.ReferenceFcumIdeal.nD Cert.ReferenceFcumIdeal.τ).loc Cert.ReferenceFcumIdeal.main_arg3) = m ((c.tc : Thread Cert.ReferenceFcumIdeal.nD Cert.ReferenceFcumIdeal.τ).loc Cert.ReferenceFcumIdeal.main_arg3))
      ∧ r.2.sem = fun _ => 0)

def quiescent_KernelModnorm [hKernelModnorm : Cert.KernelModnorm.Facts] : Prop :=
  ∀ (m : (ℓ : Loc Cert.KernelModnorm.nD Cert.KernelModnorm.τ Cert.KernelModnorm.sig) → Buf (Elt Bits) ℓ) (g : Dev Cert.KernelModnorm.nD → PrngReg), Pre_KernelModnorm m →
    θ_run (Cert.KernelModnorm.defs (F := Bits)) (onTc (τ := Cert.KernelModnorm.τ) (Cert.KernelModnorm.main (F := Bits))) ⟨m, fun _ => 0, g⟩ (fun r => (∀ c : Dev Cert.KernelModnorm.nD,
      r.2.mem ((c.tc : Thread Cert.KernelModnorm.nD Cert.KernelModnorm.τ).loc Cert.KernelModnorm.main_arg0) = m ((c.tc : Thread Cert.KernelModnorm.nD Cert.KernelModnorm.τ).loc Cert.KernelModnorm.main_arg0)
      ∧ r.2.mem ((c.tc : Thread Cert.KernelModnorm.nD Cert.KernelModnorm.τ).loc Cert.KernelModnorm.main_arg1) = m ((c.tc : Thread Cert.KernelModnorm.nD Cert.KernelModnorm.τ).loc Cert.KernelModnorm.main_arg1)
      ∧ r.2.mem ((c.tc : Thread Cert.KernelModnorm.nD Cert.KernelModnorm.τ).loc Cert.KernelModnorm.main_arg2) = m ((c.tc : Thread Cert.KernelModnorm.nD Cert.KernelModnorm.τ).loc Cert.KernelModnorm.main_arg2)
      ∧ r.2.mem ((c.tc : Thread Cert.KernelModnorm.nD Cert.KernelModnorm.τ).loc Cert.KernelModnorm.main_arg3) = m ((c.tc : Thread Cert.KernelModnorm.nD Cert.KernelModnorm.τ).loc Cert.KernelModnorm.main_arg3)
      ∧ r.2.mem ((c.tc : Thread Cert.KernelModnorm.nD Cert.KernelModnorm.τ).loc Cert.KernelModnorm.main_arg4) = m ((c.tc : Thread Cert.KernelModnorm.nD Cert.KernelModnorm.τ).loc Cert.KernelModnorm.main_arg4))
      ∧ r.2.sem = fun _ => 0)

def quiescent_KernelModnormIdeal [hKernelModnormIdeal : Cert.KernelModnormIdeal.Facts] : Prop :=
  ∀ (m : (ℓ : Loc Cert.KernelModnormIdeal.nD Cert.KernelModnormIdeal.τ Cert.KernelModnormIdeal.sig) → Buf (Elt Ideal) ℓ) (g : Dev Cert.KernelModnormIdeal.nD → PrngReg), Pre_KernelModnormIdeal m →
    θ_run (Cert.KernelModnormIdeal.defs (F := Ideal)) (onTc (τ := Cert.KernelModnormIdeal.τ) (Cert.KernelModnormIdeal.main (F := Ideal))) ⟨m, fun _ => 0, g⟩ (fun r => (∀ c : Dev Cert.KernelModnormIdeal.nD,
      r.2.mem ((c.tc : Thread Cert.KernelModnormIdeal.nD Cert.KernelModnormIdeal.τ).loc Cert.KernelModnormIdeal.main_arg0) = m ((c.tc : Thread Cert.KernelModnormIdeal.nD Cert.KernelModnormIdeal.τ).loc Cert.KernelModnormIdeal.main_arg0)
      ∧ r.2.mem ((c.tc : Thread Cert.KernelModnormIdeal.nD Cert.KernelModnormIdeal.τ).loc Cert.KernelModnormIdeal.main_arg1) = m ((c.tc : Thread Cert.KernelModnormIdeal.nD Cert.KernelModnormIdeal.τ).loc Cert.KernelModnormIdeal.main_arg1)
      ∧ r.2.mem ((c.tc : Thread Cert.KernelModnormIdeal.nD Cert.KernelModnormIdeal.τ).loc Cert.KernelModnormIdeal.main_arg2) = m ((c.tc : Thread Cert.KernelModnormIdeal.nD Cert.KernelModnormIdeal.τ).loc Cert.KernelModnormIdeal.main_arg2)
      ∧ r.2.mem ((c.tc : Thread Cert.KernelModnormIdeal.nD Cert.KernelModnormIdeal.τ).loc Cert.KernelModnormIdeal.main_arg3) = m ((c.tc : Thread Cert.KernelModnormIdeal.nD Cert.KernelModnormIdeal.τ).loc Cert.KernelModnormIdeal.main_arg3)
      ∧ r.2.mem ((c.tc : Thread Cert.KernelModnormIdeal.nD Cert.KernelModnormIdeal.τ).loc Cert.KernelModnormIdeal.main_arg4) = m ((c.tc : Thread Cert.KernelModnormIdeal.nD Cert.KernelModnormIdeal.τ).loc Cert.KernelModnormIdeal.main_arg4))
      ∧ r.2.sem = fun _ => 0)

def quiescent_KernelModnormIdeal_pre_finite_modnorm [hKernelModnormIdeal : Cert.KernelModnormIdeal.Facts] [hPre_finite_modnorm : Cert.Pre_finite_modnorm.Facts] : Prop :=
  ∀ (m : (ℓ : Loc Cert.KernelModnormIdeal.nD Cert.KernelModnormIdeal.τ Cert.KernelModnormIdeal.sig) → Buf (Elt Ideal) ℓ) (g : Dev Cert.KernelModnormIdeal.nD → PrngReg), Pre_KernelModnormIdeal_finite_modnorm m →
    θ_run (Cert.KernelModnormIdeal.defs (F := Ideal)) (onTc (τ := Cert.KernelModnormIdeal.τ) (Cert.KernelModnormIdeal.main (F := Ideal))) ⟨m, fun _ => 0, g⟩ (fun r => (∀ c : Dev Cert.KernelModnormIdeal.nD,
      r.2.mem ((c.tc : Thread Cert.KernelModnormIdeal.nD Cert.KernelModnormIdeal.τ).loc Cert.KernelModnormIdeal.main_arg0) = m ((c.tc : Thread Cert.KernelModnormIdeal.nD Cert.KernelModnormIdeal.τ).loc Cert.KernelModnormIdeal.main_arg0)
      ∧ r.2.mem ((c.tc : Thread Cert.KernelModnormIdeal.nD Cert.KernelModnormIdeal.τ).loc Cert.KernelModnormIdeal.main_arg1) = m ((c.tc : Thread Cert.KernelModnormIdeal.nD Cert.KernelModnormIdeal.τ).loc Cert.KernelModnormIdeal.main_arg1)
      ∧ r.2.mem ((c.tc : Thread Cert.KernelModnormIdeal.nD Cert.KernelModnormIdeal.τ).loc Cert.KernelModnormIdeal.main_arg2) = m ((c.tc : Thread Cert.KernelModnormIdeal.nD Cert.KernelModnormIdeal.τ).loc Cert.KernelModnormIdeal.main_arg2)
      ∧ r.2.mem ((c.tc : Thread Cert.KernelModnormIdeal.nD Cert.KernelModnormIdeal.τ).loc Cert.KernelModnormIdeal.main_arg3) = m ((c.tc : Thread Cert.KernelModnormIdeal.nD Cert.KernelModnormIdeal.τ).loc Cert.KernelModnormIdeal.main_arg3)
      ∧ r.2.mem ((c.tc : Thread Cert.KernelModnormIdeal.nD Cert.KernelModnormIdeal.τ).loc Cert.KernelModnormIdeal.main_arg4) = m ((c.tc : Thread Cert.KernelModnormIdeal.nD Cert.KernelModnormIdeal.τ).loc Cert.KernelModnormIdeal.main_arg4))
      ∧ r.2.sem = fun _ => 0)

def quiescent_ReferenceModnormIdeal [hReferenceModnormIdeal : Cert.ReferenceModnormIdeal.Facts] : Prop :=
  ∀ (m : (ℓ : Loc Cert.ReferenceModnormIdeal.nD Cert.ReferenceModnormIdeal.τ Cert.ReferenceModnormIdeal.sig) → Buf (Elt Ideal) ℓ) (g : Dev Cert.ReferenceModnormIdeal.nD → PrngReg), Pre_ReferenceModnormIdeal m →
    θ_run (Cert.ReferenceModnormIdeal.defs (F := Ideal)) (onTc (τ := Cert.ReferenceModnormIdeal.τ) (Cert.ReferenceModnormIdeal.main (F := Ideal))) ⟨m, fun _ => 0, g⟩ (fun r => (∀ c : Dev Cert.ReferenceModnormIdeal.nD,
      r.2.mem ((c.tc : Thread Cert.ReferenceModnormIdeal.nD Cert.ReferenceModnormIdeal.τ).loc Cert.ReferenceModnormIdeal.main_arg0) = m ((c.tc : Thread Cert.ReferenceModnormIdeal.nD Cert.ReferenceModnormIdeal.τ).loc Cert.ReferenceModnormIdeal.main_arg0)
      ∧ r.2.mem ((c.tc : Thread Cert.ReferenceModnormIdeal.nD Cert.ReferenceModnormIdeal.τ).loc Cert.ReferenceModnormIdeal.main_arg1) = m ((c.tc : Thread Cert.ReferenceModnormIdeal.nD Cert.ReferenceModnormIdeal.τ).loc Cert.ReferenceModnormIdeal.main_arg1)
      ∧ r.2.mem ((c.tc : Thread Cert.ReferenceModnormIdeal.nD Cert.ReferenceModnormIdeal.τ).loc Cert.ReferenceModnormIdeal.main_arg2) = m ((c.tc : Thread Cert.ReferenceModnormIdeal.nD Cert.ReferenceModnormIdeal.τ).loc Cert.ReferenceModnormIdeal.main_arg2)
      ∧ r.2.mem ((c.tc : Thread Cert.ReferenceModnormIdeal.nD Cert.ReferenceModnormIdeal.τ).loc Cert.ReferenceModnormIdeal.main_arg3) = m ((c.tc : Thread Cert.ReferenceModnormIdeal.nD Cert.ReferenceModnormIdeal.τ).loc Cert.ReferenceModnormIdeal.main_arg3)
      ∧ r.2.mem ((c.tc : Thread Cert.ReferenceModnormIdeal.nD Cert.ReferenceModnormIdeal.τ).loc Cert.ReferenceModnormIdeal.main_arg4) = m ((c.tc : Thread Cert.ReferenceModnormIdeal.nD Cert.ReferenceModnormIdeal.τ).loc Cert.ReferenceModnormIdeal.main_arg4))
      ∧ r.2.sem = fun _ => 0)

def quiescent_ReferenceModnormIdeal_pre_finite_modnorm [hReferenceModnormIdeal : Cert.ReferenceModnormIdeal.Facts] [hPre_finite_modnorm : Cert.Pre_finite_modnorm.Facts] : Prop :=
  ∀ (m : (ℓ : Loc Cert.ReferenceModnormIdeal.nD Cert.ReferenceModnormIdeal.τ Cert.ReferenceModnormIdeal.sig) → Buf (Elt Ideal) ℓ) (g : Dev Cert.ReferenceModnormIdeal.nD → PrngReg), Pre_ReferenceModnormIdeal_finite_modnorm m →
    θ_run (Cert.ReferenceModnormIdeal.defs (F := Ideal)) (onTc (τ := Cert.ReferenceModnormIdeal.τ) (Cert.ReferenceModnormIdeal.main (F := Ideal))) ⟨m, fun _ => 0, g⟩ (fun r => (∀ c : Dev Cert.ReferenceModnormIdeal.nD,
      r.2.mem ((c.tc : Thread Cert.ReferenceModnormIdeal.nD Cert.ReferenceModnormIdeal.τ).loc Cert.ReferenceModnormIdeal.main_arg0) = m ((c.tc : Thread Cert.ReferenceModnormIdeal.nD Cert.ReferenceModnormIdeal.τ).loc Cert.ReferenceModnormIdeal.main_arg0)
      ∧ r.2.mem ((c.tc : Thread Cert.ReferenceModnormIdeal.nD Cert.ReferenceModnormIdeal.τ).loc Cert.ReferenceModnormIdeal.main_arg1) = m ((c.tc : Thread Cert.ReferenceModnormIdeal.nD Cert.ReferenceModnormIdeal.τ).loc Cert.ReferenceModnormIdeal.main_arg1)
      ∧ r.2.mem ((c.tc : Thread Cert.ReferenceModnormIdeal.nD Cert.ReferenceModnormIdeal.τ).loc Cert.ReferenceModnormIdeal.main_arg2) = m ((c.tc : Thread Cert.ReferenceModnormIdeal.nD Cert.ReferenceModnormIdeal.τ).loc Cert.ReferenceModnormIdeal.main_arg2)
      ∧ r.2.mem ((c.tc : Thread Cert.ReferenceModnormIdeal.nD Cert.ReferenceModnormIdeal.τ).loc Cert.ReferenceModnormIdeal.main_arg3) = m ((c.tc : Thread Cert.ReferenceModnormIdeal.nD Cert.ReferenceModnormIdeal.τ).loc Cert.ReferenceModnormIdeal.main_arg3)
      ∧ r.2.mem ((c.tc : Thread Cert.ReferenceModnormIdeal.nD Cert.ReferenceModnormIdeal.τ).loc Cert.ReferenceModnormIdeal.main_arg4) = m ((c.tc : Thread Cert.ReferenceModnormIdeal.nD Cert.ReferenceModnormIdeal.τ).loc Cert.ReferenceModnormIdeal.main_arg4))
      ∧ r.2.sem = fun _ => 0)

def quiescent_KernelQnorm [hKernelQnorm : Cert.KernelQnorm.Facts] : Prop :=
  ∀ (m : (ℓ : Loc Cert.KernelQnorm.nD Cert.KernelQnorm.τ Cert.KernelQnorm.sig) → Buf (Elt Bits) ℓ) (g : Dev Cert.KernelQnorm.nD → PrngReg), Pre_KernelQnorm m →
    θ_run (Cert.KernelQnorm.defs (F := Bits)) (onTc (τ := Cert.KernelQnorm.τ) (Cert.KernelQnorm.main (F := Bits))) ⟨m, fun _ => 0, g⟩ (fun r => (∀ c : Dev Cert.KernelQnorm.nD,
      r.2.mem ((c.tc : Thread Cert.KernelQnorm.nD Cert.KernelQnorm.τ).loc Cert.KernelQnorm.main_arg0) = m ((c.tc : Thread Cert.KernelQnorm.nD Cert.KernelQnorm.τ).loc Cert.KernelQnorm.main_arg0)
      ∧ r.2.mem ((c.tc : Thread Cert.KernelQnorm.nD Cert.KernelQnorm.τ).loc Cert.KernelQnorm.main_arg1) = m ((c.tc : Thread Cert.KernelQnorm.nD Cert.KernelQnorm.τ).loc Cert.KernelQnorm.main_arg1)
      ∧ r.2.mem ((c.tc : Thread Cert.KernelQnorm.nD Cert.KernelQnorm.τ).loc Cert.KernelQnorm.main_arg2) = m ((c.tc : Thread Cert.KernelQnorm.nD Cert.KernelQnorm.τ).loc Cert.KernelQnorm.main_arg2))
      ∧ r.2.sem = fun _ => 0)

def quiescent_KernelQnormIdeal [hKernelQnormIdeal : Cert.KernelQnormIdeal.Facts] : Prop :=
  ∀ (m : (ℓ : Loc Cert.KernelQnormIdeal.nD Cert.KernelQnormIdeal.τ Cert.KernelQnormIdeal.sig) → Buf (Elt Ideal) ℓ) (g : Dev Cert.KernelQnormIdeal.nD → PrngReg), Pre_KernelQnormIdeal m →
    θ_run (Cert.KernelQnormIdeal.defs (F := Ideal)) (onTc (τ := Cert.KernelQnormIdeal.τ) (Cert.KernelQnormIdeal.main (F := Ideal))) ⟨m, fun _ => 0, g⟩ (fun r => (∀ c : Dev Cert.KernelQnormIdeal.nD,
      r.2.mem ((c.tc : Thread Cert.KernelQnormIdeal.nD Cert.KernelQnormIdeal.τ).loc Cert.KernelQnormIdeal.main_arg0) = m ((c.tc : Thread Cert.KernelQnormIdeal.nD Cert.KernelQnormIdeal.τ).loc Cert.KernelQnormIdeal.main_arg0)
      ∧ r.2.mem ((c.tc : Thread Cert.KernelQnormIdeal.nD Cert.KernelQnormIdeal.τ).loc Cert.KernelQnormIdeal.main_arg1) = m ((c.tc : Thread Cert.KernelQnormIdeal.nD Cert.KernelQnormIdeal.τ).loc Cert.KernelQnormIdeal.main_arg1)
      ∧ r.2.mem ((c.tc : Thread Cert.KernelQnormIdeal.nD Cert.KernelQnormIdeal.τ).loc Cert.KernelQnormIdeal.main_arg2) = m ((c.tc : Thread Cert.KernelQnormIdeal.nD Cert.KernelQnormIdeal.τ).loc Cert.KernelQnormIdeal.main_arg2))
      ∧ r.2.sem = fun _ => 0)

def quiescent_ReferenceQnormIdeal [hReferenceQnormIdeal : Cert.ReferenceQnormIdeal.Facts] : Prop :=
  ∀ (m : (ℓ : Loc Cert.ReferenceQnormIdeal.nD Cert.ReferenceQnormIdeal.τ Cert.ReferenceQnormIdeal.sig) → Buf (Elt Ideal) ℓ) (g : Dev Cert.ReferenceQnormIdeal.nD → PrngReg), Pre_ReferenceQnormIdeal m →
    θ_run (Cert.ReferenceQnormIdeal.defs (F := Ideal)) (onTc (τ := Cert.ReferenceQnormIdeal.τ) (Cert.ReferenceQnormIdeal.main (F := Ideal))) ⟨m, fun _ => 0, g⟩ (fun r => (∀ c : Dev Cert.ReferenceQnormIdeal.nD,
      r.2.mem ((c.tc : Thread Cert.ReferenceQnormIdeal.nD Cert.ReferenceQnormIdeal.τ).loc Cert.ReferenceQnormIdeal.main_arg0) = m ((c.tc : Thread Cert.ReferenceQnormIdeal.nD Cert.ReferenceQnormIdeal.τ).loc Cert.ReferenceQnormIdeal.main_arg0)
      ∧ r.2.mem ((c.tc : Thread Cert.ReferenceQnormIdeal.nD Cert.ReferenceQnormIdeal.τ).loc Cert.ReferenceQnormIdeal.main_arg1) = m ((c.tc : Thread Cert.ReferenceQnormIdeal.nD Cert.ReferenceQnormIdeal.τ).loc Cert.ReferenceQnormIdeal.main_arg1)
      ∧ r.2.mem ((c.tc : Thread Cert.ReferenceQnormIdeal.nD Cert.ReferenceQnormIdeal.τ).loc Cert.ReferenceQnormIdeal.main_arg2) = m ((c.tc : Thread Cert.ReferenceQnormIdeal.nD Cert.ReferenceQnormIdeal.τ).loc Cert.ReferenceQnormIdeal.main_arg2))
      ∧ r.2.sem = fun _ => 0)

def quiescent_KernelKnorm [hKernelKnorm : Cert.KernelKnorm.Facts] : Prop :=
  ∀ (m : (ℓ : Loc Cert.KernelKnorm.nD Cert.KernelKnorm.τ Cert.KernelKnorm.sig) → Buf (Elt Bits) ℓ) (g : Dev Cert.KernelKnorm.nD → PrngReg), Pre_KernelKnorm m →
    θ_run (Cert.KernelKnorm.defs (F := Bits)) (onTc (τ := Cert.KernelKnorm.τ) (Cert.KernelKnorm.main (F := Bits))) ⟨m, fun _ => 0, g⟩ (fun r => (∀ c : Dev Cert.KernelKnorm.nD,
      r.2.mem ((c.tc : Thread Cert.KernelKnorm.nD Cert.KernelKnorm.τ).loc Cert.KernelKnorm.main_arg0) = m ((c.tc : Thread Cert.KernelKnorm.nD Cert.KernelKnorm.τ).loc Cert.KernelKnorm.main_arg0)
      ∧ r.2.mem ((c.tc : Thread Cert.KernelKnorm.nD Cert.KernelKnorm.τ).loc Cert.KernelKnorm.main_arg1) = m ((c.tc : Thread Cert.KernelKnorm.nD Cert.KernelKnorm.τ).loc Cert.KernelKnorm.main_arg1)
      ∧ r.2.mem ((c.tc : Thread Cert.KernelKnorm.nD Cert.KernelKnorm.τ).loc Cert.KernelKnorm.main_arg2) = m ((c.tc : Thread Cert.KernelKnorm.nD Cert.KernelKnorm.τ).loc Cert.KernelKnorm.main_arg2)
      ∧ r.2.mem ((c.tc : Thread Cert.KernelKnorm.nD Cert.KernelKnorm.τ).loc Cert.KernelKnorm.main_arg3) = m ((c.tc : Thread Cert.KernelKnorm.nD Cert.KernelKnorm.τ).loc Cert.KernelKnorm.main_arg3))
      ∧ r.2.sem = fun _ => 0)

def quiescent_KernelKnormIdeal [hKernelKnormIdeal : Cert.KernelKnormIdeal.Facts] : Prop :=
  ∀ (m : (ℓ : Loc Cert.KernelKnormIdeal.nD Cert.KernelKnormIdeal.τ Cert.KernelKnormIdeal.sig) → Buf (Elt Ideal) ℓ) (g : Dev Cert.KernelKnormIdeal.nD → PrngReg), Pre_KernelKnormIdeal m →
    θ_run (Cert.KernelKnormIdeal.defs (F := Ideal)) (onTc (τ := Cert.KernelKnormIdeal.τ) (Cert.KernelKnormIdeal.main (F := Ideal))) ⟨m, fun _ => 0, g⟩ (fun r => (∀ c : Dev Cert.KernelKnormIdeal.nD,
      r.2.mem ((c.tc : Thread Cert.KernelKnormIdeal.nD Cert.KernelKnormIdeal.τ).loc Cert.KernelKnormIdeal.main_arg0) = m ((c.tc : Thread Cert.KernelKnormIdeal.nD Cert.KernelKnormIdeal.τ).loc Cert.KernelKnormIdeal.main_arg0)
      ∧ r.2.mem ((c.tc : Thread Cert.KernelKnormIdeal.nD Cert.KernelKnormIdeal.τ).loc Cert.KernelKnormIdeal.main_arg1) = m ((c.tc : Thread Cert.KernelKnormIdeal.nD Cert.KernelKnormIdeal.τ).loc Cert.KernelKnormIdeal.main_arg1)
      ∧ r.2.mem ((c.tc : Thread Cert.KernelKnormIdeal.nD Cert.KernelKnormIdeal.τ).loc Cert.KernelKnormIdeal.main_arg2) = m ((c.tc : Thread Cert.KernelKnormIdeal.nD Cert.KernelKnormIdeal.τ).loc Cert.KernelKnormIdeal.main_arg2)
      ∧ r.2.mem ((c.tc : Thread Cert.KernelKnormIdeal.nD Cert.KernelKnormIdeal.τ).loc Cert.KernelKnormIdeal.main_arg3) = m ((c.tc : Thread Cert.KernelKnormIdeal.nD Cert.KernelKnormIdeal.τ).loc Cert.KernelKnormIdeal.main_arg3))
      ∧ r.2.sem = fun _ => 0)

def quiescent_ReferenceKnormIdeal [hReferenceKnormIdeal : Cert.ReferenceKnormIdeal.Facts] : Prop :=
  ∀ (m : (ℓ : Loc Cert.ReferenceKnormIdeal.nD Cert.ReferenceKnormIdeal.τ Cert.ReferenceKnormIdeal.sig) → Buf (Elt Ideal) ℓ) (g : Dev Cert.ReferenceKnormIdeal.nD → PrngReg), Pre_ReferenceKnormIdeal m →
    θ_run (Cert.ReferenceKnormIdeal.defs (F := Ideal)) (onTc (τ := Cert.ReferenceKnormIdeal.τ) (Cert.ReferenceKnormIdeal.main (F := Ideal))) ⟨m, fun _ => 0, g⟩ (fun r => (∀ c : Dev Cert.ReferenceKnormIdeal.nD,
      r.2.mem ((c.tc : Thread Cert.ReferenceKnormIdeal.nD Cert.ReferenceKnormIdeal.τ).loc Cert.ReferenceKnormIdeal.main_arg0) = m ((c.tc : Thread Cert.ReferenceKnormIdeal.nD Cert.ReferenceKnormIdeal.τ).loc Cert.ReferenceKnormIdeal.main_arg0)
      ∧ r.2.mem ((c.tc : Thread Cert.ReferenceKnormIdeal.nD Cert.ReferenceKnormIdeal.τ).loc Cert.ReferenceKnormIdeal.main_arg1) = m ((c.tc : Thread Cert.ReferenceKnormIdeal.nD Cert.ReferenceKnormIdeal.τ).loc Cert.ReferenceKnormIdeal.main_arg1)
      ∧ r.2.mem ((c.tc : Thread Cert.ReferenceKnormIdeal.nD Cert.ReferenceKnormIdeal.τ).loc Cert.ReferenceKnormIdeal.main_arg2) = m ((c.tc : Thread Cert.ReferenceKnormIdeal.nD Cert.ReferenceKnormIdeal.τ).loc Cert.ReferenceKnormIdeal.main_arg2)
      ∧ r.2.mem ((c.tc : Thread Cert.ReferenceKnormIdeal.nD Cert.ReferenceKnormIdeal.τ).loc Cert.ReferenceKnormIdeal.main_arg3) = m ((c.tc : Thread Cert.ReferenceKnormIdeal.nD Cert.ReferenceKnormIdeal.τ).loc Cert.ReferenceKnormIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelMixfwd [hKernelMixfwd : Cert.KernelMixfwd.Facts] : Prop :=
  ∀ (m : (ℓ : Loc Cert.KernelMixfwd.nD Cert.KernelMixfwd.τ Cert.KernelMixfwd.sig) → Buf (Elt Bits) ℓ) (g : Dev Cert.KernelMixfwd.nD → PrngReg), Pre_KernelMixfwd m →
    θ_run (Cert.KernelMixfwd.defs (F := Bits)) (onTc (τ := Cert.KernelMixfwd.τ) (Cert.KernelMixfwd.main (F := Bits))) ⟨m, fun _ => 0, g⟩ (fun r => (∀ c : Dev Cert.KernelMixfwd.nD,
      r.2.mem ((c.tc : Thread Cert.KernelMixfwd.nD Cert.KernelMixfwd.τ).loc Cert.KernelMixfwd.main_arg0) = m ((c.tc : Thread Cert.KernelMixfwd.nD Cert.KernelMixfwd.τ).loc Cert.KernelMixfwd.main_arg0)
      ∧ r.2.mem ((c.tc : Thread Cert.KernelMixfwd.nD Cert.KernelMixfwd.τ).loc Cert.KernelMixfwd.main_arg1) = m ((c.tc : Thread Cert.KernelMixfwd.nD Cert.KernelMixfwd.τ).loc Cert.KernelMixfwd.main_arg1)
      ∧ r.2.mem ((c.tc : Thread Cert.KernelMixfwd.nD Cert.KernelMixfwd.τ).loc Cert.KernelMixfwd.main_arg2) = m ((c.tc : Thread Cert.KernelMixfwd.nD Cert.KernelMixfwd.τ).loc Cert.KernelMixfwd.main_arg2)
      ∧ r.2.mem ((c.tc : Thread Cert.KernelMixfwd.nD Cert.KernelMixfwd.τ).loc Cert.KernelMixfwd.main_arg3) = m ((c.tc : Thread Cert.KernelMixfwd.nD Cert.KernelMixfwd.τ).loc Cert.KernelMixfwd.main_arg3))
      ∧ r.2.sem = fun _ => 0)

def quiescent_KernelMixfwdIdeal [hKernelMixfwdIdeal : Cert.KernelMixfwdIdeal.Facts] : Prop :=
  ∀ (m : (ℓ : Loc Cert.KernelMixfwdIdeal.nD Cert.KernelMixfwdIdeal.τ Cert.KernelMixfwdIdeal.sig) → Buf (Elt Ideal) ℓ) (g : Dev Cert.KernelMixfwdIdeal.nD → PrngReg), Pre_KernelMixfwdIdeal m →
    θ_run (Cert.KernelMixfwdIdeal.defs (F := Ideal)) (onTc (τ := Cert.KernelMixfwdIdeal.τ) (Cert.KernelMixfwdIdeal.main (F := Ideal))) ⟨m, fun _ => 0, g⟩ (fun r => (∀ c : Dev Cert.KernelMixfwdIdeal.nD,
      r.2.mem ((c.tc : Thread Cert.KernelMixfwdIdeal.nD Cert.KernelMixfwdIdeal.τ).loc Cert.KernelMixfwdIdeal.main_arg0) = m ((c.tc : Thread Cert.KernelMixfwdIdeal.nD Cert.KernelMixfwdIdeal.τ).loc Cert.KernelMixfwdIdeal.main_arg0)
      ∧ r.2.mem ((c.tc : Thread Cert.KernelMixfwdIdeal.nD Cert.KernelMixfwdIdeal.τ).loc Cert.KernelMixfwdIdeal.main_arg1) = m ((c.tc : Thread Cert.KernelMixfwdIdeal.nD Cert.KernelMixfwdIdeal.τ).loc Cert.KernelMixfwdIdeal.main_arg1)
      ∧ r.2.mem ((c.tc : Thread Cert.KernelMixfwdIdeal.nD Cert.KernelMixfwdIdeal.τ).loc Cert.KernelMixfwdIdeal.main_arg2) = m ((c.tc : Thread Cert.KernelMixfwdIdeal.nD Cert.KernelMixfwdIdeal.τ).loc Cert.KernelMixfwdIdeal.main_arg2)
      ∧ r.2.mem ((c.tc : Thread Cert.KernelMixfwdIdeal.nD Cert.KernelMixfwdIdeal.τ).loc Cert.KernelMixfwdIdeal.main_arg3) = m ((c.tc : Thread Cert.KernelMixfwdIdeal.nD Cert.KernelMixfwdIdeal.τ).loc Cert.KernelMixfwdIdeal.main_arg3))
      ∧ r.2.sem = fun _ => 0)

def quiescent_ReferenceMixfwdIdeal [hReferenceMixfwdIdeal : Cert.ReferenceMixfwdIdeal.Facts] : Prop :=
  ∀ (m : (ℓ : Loc Cert.ReferenceMixfwdIdeal.nD Cert.ReferenceMixfwdIdeal.τ Cert.ReferenceMixfwdIdeal.sig) → Buf (Elt Ideal) ℓ) (g : Dev Cert.ReferenceMixfwdIdeal.nD → PrngReg), Pre_ReferenceMixfwdIdeal m →
    θ_run (Cert.ReferenceMixfwdIdeal.defs (F := Ideal)) (onTc (τ := Cert.ReferenceMixfwdIdeal.τ) (Cert.ReferenceMixfwdIdeal.main (F := Ideal))) ⟨m, fun _ => 0, g⟩ (fun r => (∀ c : Dev Cert.ReferenceMixfwdIdeal.nD,
      r.2.mem ((c.tc : Thread Cert.ReferenceMixfwdIdeal.nD Cert.ReferenceMixfwdIdeal.τ).loc Cert.ReferenceMixfwdIdeal.main_arg0) = m ((c.tc : Thread Cert.ReferenceMixfwdIdeal.nD Cert.ReferenceMixfwdIdeal.τ).loc Cert.ReferenceMixfwdIdeal.main_arg0)
      ∧ r.2.mem ((c.tc : Thread Cert.ReferenceMixfwdIdeal.nD Cert.ReferenceMixfwdIdeal.τ).loc Cert.ReferenceMixfwdIdeal.main_arg1) = m ((c.tc : Thread Cert.ReferenceMixfwdIdeal.nD Cert.ReferenceMixfwdIdeal.τ).loc Cert.ReferenceMixfwdIdeal.main_arg1)
      ∧ r.2.mem ((c.tc : Thread Cert.ReferenceMixfwdIdeal.nD Cert.ReferenceMixfwdIdeal.τ).loc Cert.ReferenceMixfwdIdeal.main_arg2) = m ((c.tc : Thread Cert.ReferenceMixfwdIdeal.nD Cert.ReferenceMixfwdIdeal.τ).loc Cert.ReferenceMixfwdIdeal.main_arg2)
      ∧ r.2.mem ((c.tc : Thread Cert.ReferenceMixfwdIdeal.nD Cert.ReferenceMixfwdIdeal.τ).loc Cert.ReferenceMixfwdIdeal.main_arg3) = m ((c.tc : Thread Cert.ReferenceMixfwdIdeal.nD Cert.ReferenceMixfwdIdeal.τ).loc Cert.ReferenceMixfwdIdeal.main_arg3))
      ∧ r.2.sem = fun _ => 0)

def quiescent_KernelModnormfwd [hKernelModnormfwd : Cert.KernelModnormfwd.Facts] : Prop :=
  ∀ (m : (ℓ : Loc Cert.KernelModnormfwd.nD Cert.KernelModnormfwd.τ Cert.KernelModnormfwd.sig) → Buf (Elt Bits) ℓ) (g : Dev Cert.KernelModnormfwd.nD → PrngReg), Pre_KernelModnormfwd m →
    θ_run (Cert.KernelModnormfwd.defs (F := Bits)) (onTc (τ := Cert.KernelModnormfwd.τ) (Cert.KernelModnormfwd.main (F := Bits))) ⟨m, fun _ => 0, g⟩ (fun r => (∀ c : Dev Cert.KernelModnormfwd.nD,
      r.2.mem ((c.tc : Thread Cert.KernelModnormfwd.nD Cert.KernelModnormfwd.τ).loc Cert.KernelModnormfwd.main_arg0) = m ((c.tc : Thread Cert.KernelModnormfwd.nD Cert.KernelModnormfwd.τ).loc Cert.KernelModnormfwd.main_arg0)
      ∧ r.2.mem ((c.tc : Thread Cert.KernelModnormfwd.nD Cert.KernelModnormfwd.τ).loc Cert.KernelModnormfwd.main_arg1) = m ((c.tc : Thread Cert.KernelModnormfwd.nD Cert.KernelModnormfwd.τ).loc Cert.KernelModnormfwd.main_arg1)
      ∧ r.2.mem ((c.tc : Thread Cert.KernelModnormfwd.nD Cert.KernelModnormfwd.τ).loc Cert.KernelModnormfwd.main_arg2) = m ((c.tc : Thread Cert.KernelModnormfwd.nD Cert.KernelModnormfwd.τ).loc Cert.KernelModnormfwd.main_arg2)
      ∧ r.2.mem ((c.tc : Thread Cert.KernelModnormfwd.nD Cert.KernelModnormfwd.τ).loc Cert.KernelModnormfwd.main_arg3) = m ((c.tc : Thread Cert.KernelModnormfwd.nD Cert.KernelModnormfwd.τ).loc Cert.KernelModnormfwd.main_arg3))
      ∧ r.2.sem = fun _ => 0)

def quiescent_KernelModnormfwdIdeal [hKernelModnormfwdIdeal : Cert.KernelModnormfwdIdeal.Facts] : Prop :=
  ∀ (m : (ℓ : Loc Cert.KernelModnormfwdIdeal.nD Cert.KernelModnormfwdIdeal.τ Cert.KernelModnormfwdIdeal.sig) → Buf (Elt Ideal) ℓ) (g : Dev Cert.KernelModnormfwdIdeal.nD → PrngReg), Pre_KernelModnormfwdIdeal m →
    θ_run (Cert.KernelModnormfwdIdeal.defs (F := Ideal)) (onTc (τ := Cert.KernelModnormfwdIdeal.τ) (Cert.KernelModnormfwdIdeal.main (F := Ideal))) ⟨m, fun _ => 0, g⟩ (fun r => (∀ c : Dev Cert.KernelModnormfwdIdeal.nD,
      r.2.mem ((c.tc : Thread Cert.KernelModnormfwdIdeal.nD Cert.KernelModnormfwdIdeal.τ).loc Cert.KernelModnormfwdIdeal.main_arg0) = m ((c.tc : Thread Cert.KernelModnormfwdIdeal.nD Cert.KernelModnormfwdIdeal.τ).loc Cert.KernelModnormfwdIdeal.main_arg0)
      ∧ r.2.mem ((c.tc : Thread Cert.KernelModnormfwdIdeal.nD Cert.KernelModnormfwdIdeal.τ).loc Cert.KernelModnormfwdIdeal.main_arg1) = m ((c.tc : Thread Cert.KernelModnormfwdIdeal.nD Cert.KernelModnormfwdIdeal.τ).loc Cert.KernelModnormfwdIdeal.main_arg1)
      ∧ r.2.mem ((c.tc : Thread Cert.KernelModnormfwdIdeal.nD Cert.KernelModnormfwdIdeal.τ).loc Cert.KernelModnormfwdIdeal.main_arg2) = m ((c.tc : Thread Cert.KernelModnormfwdIdeal.nD Cert.KernelModnormfwdIdeal.τ).loc Cert.KernelModnormfwdIdeal.main_arg2)
      ∧ r.2.mem ((c.tc : Thread Cert.KernelModnormfwdIdeal.nD Cert.KernelModnormfwdIdeal.τ).loc Cert.KernelModnormfwdIdeal.main_arg3) = m ((c.tc : Thread Cert.KernelModnormfwdIdeal.nD Cert.KernelModnormfwdIdeal.τ).loc Cert.KernelModnormfwdIdeal.main_arg3))
      ∧ r.2.sem = fun _ => 0)

def quiescent_ReferenceModnormfwdIdeal [hReferenceModnormfwdIdeal : Cert.ReferenceModnormfwdIdeal.Facts] : Prop :=
  ∀ (m : (ℓ : Loc Cert.ReferenceModnormfwdIdeal.nD Cert.ReferenceModnormfwdIdeal.τ Cert.ReferenceModnormfwdIdeal.sig) → Buf (Elt Ideal) ℓ) (g : Dev Cert.ReferenceModnormfwdIdeal.nD → PrngReg), Pre_ReferenceModnormfwdIdeal m →
    θ_run (Cert.ReferenceModnormfwdIdeal.defs (F := Ideal)) (onTc (τ := Cert.ReferenceModnormfwdIdeal.τ) (Cert.ReferenceModnormfwdIdeal.main (F := Ideal))) ⟨m, fun _ => 0, g⟩ (fun r => (∀ c : Dev Cert.ReferenceModnormfwdIdeal.nD,
      r.2.mem ((c.tc : Thread Cert.ReferenceModnormfwdIdeal.nD Cert.ReferenceModnormfwdIdeal.τ).loc Cert.ReferenceModnormfwdIdeal.main_arg0) = m ((c.tc : Thread Cert.ReferenceModnormfwdIdeal.nD Cert.ReferenceModnormfwdIdeal.τ).loc Cert.ReferenceModnormfwdIdeal.main_arg0)
      ∧ r.2.mem ((c.tc : Thread Cert.ReferenceModnormfwdIdeal.nD Cert.ReferenceModnormfwdIdeal.τ).loc Cert.ReferenceModnormfwdIdeal.main_arg1) = m ((c.tc : Thread Cert.ReferenceModnormfwdIdeal.nD Cert.ReferenceModnormfwdIdeal.τ).loc Cert.ReferenceModnormfwdIdeal.main_arg1)
      ∧ r.2.mem ((c.tc : Thread Cert.ReferenceModnormfwdIdeal.nD Cert.ReferenceModnormfwdIdeal.τ).loc Cert.ReferenceModnormfwdIdeal.main_arg2) = m ((c.tc : Thread Cert.ReferenceModnormfwdIdeal.nD Cert.ReferenceModnormfwdIdeal.τ).loc Cert.ReferenceModnormfwdIdeal.main_arg2)
      ∧ r.2.mem ((c.tc : Thread Cert.ReferenceModnormfwdIdeal.nD Cert.ReferenceModnormfwdIdeal.τ).loc Cert.ReferenceModnormfwdIdeal.main_arg3) = m ((c.tc : Thread Cert.ReferenceModnormfwdIdeal.nD Cert.ReferenceModnormfwdIdeal.τ).loc Cert.ReferenceModnormfwdIdeal.main_arg3))
      ∧ r.2.sem = fun _ => 0)

def quiescent_KernelLnfwd [hKernelLnfwd : Cert.KernelLnfwd.Facts] : Prop :=
  ∀ (m : (ℓ : Loc Cert.KernelLnfwd.nD Cert.KernelLnfwd.τ Cert.KernelLnfwd.sig) → Buf (Elt Bits) ℓ) (g : Dev Cert.KernelLnfwd.nD → PrngReg), Pre_KernelLnfwd m →
    θ_run (Cert.KernelLnfwd.defs (F := Bits)) (onTc (τ := Cert.KernelLnfwd.τ) (Cert.KernelLnfwd.main (F := Bits))) ⟨m, fun _ => 0, g⟩ (fun r => (∀ c : Dev Cert.KernelLnfwd.nD,
      r.2.mem ((c.tc : Thread Cert.KernelLnfwd.nD Cert.KernelLnfwd.τ).loc Cert.KernelLnfwd.main_arg0) = m ((c.tc : Thread Cert.KernelLnfwd.nD Cert.KernelLnfwd.τ).loc Cert.KernelLnfwd.main_arg0)
      ∧ r.2.mem ((c.tc : Thread Cert.KernelLnfwd.nD Cert.KernelLnfwd.τ).loc Cert.KernelLnfwd.main_arg1) = m ((c.tc : Thread Cert.KernelLnfwd.nD Cert.KernelLnfwd.τ).loc Cert.KernelLnfwd.main_arg1)
      ∧ r.2.mem ((c.tc : Thread Cert.KernelLnfwd.nD Cert.KernelLnfwd.τ).loc Cert.KernelLnfwd.main_arg2) = m ((c.tc : Thread Cert.KernelLnfwd.nD Cert.KernelLnfwd.τ).loc Cert.KernelLnfwd.main_arg2))
      ∧ r.2.sem = fun _ => 0)

def quiescent_KernelLnfwdIdeal [hKernelLnfwdIdeal : Cert.KernelLnfwdIdeal.Facts] : Prop :=
  ∀ (m : (ℓ : Loc Cert.KernelLnfwdIdeal.nD Cert.KernelLnfwdIdeal.τ Cert.KernelLnfwdIdeal.sig) → Buf (Elt Ideal) ℓ) (g : Dev Cert.KernelLnfwdIdeal.nD → PrngReg), Pre_KernelLnfwdIdeal m →
    θ_run (Cert.KernelLnfwdIdeal.defs (F := Ideal)) (onTc (τ := Cert.KernelLnfwdIdeal.τ) (Cert.KernelLnfwdIdeal.main (F := Ideal))) ⟨m, fun _ => 0, g⟩ (fun r => (∀ c : Dev Cert.KernelLnfwdIdeal.nD,
      r.2.mem ((c.tc : Thread Cert.KernelLnfwdIdeal.nD Cert.KernelLnfwdIdeal.τ).loc Cert.KernelLnfwdIdeal.main_arg0) = m ((c.tc : Thread Cert.KernelLnfwdIdeal.nD Cert.KernelLnfwdIdeal.τ).loc Cert.KernelLnfwdIdeal.main_arg0)
      ∧ r.2.mem ((c.tc : Thread Cert.KernelLnfwdIdeal.nD Cert.KernelLnfwdIdeal.τ).loc Cert.KernelLnfwdIdeal.main_arg1) = m ((c.tc : Thread Cert.KernelLnfwdIdeal.nD Cert.KernelLnfwdIdeal.τ).loc Cert.KernelLnfwdIdeal.main_arg1)
      ∧ r.2.mem ((c.tc : Thread Cert.KernelLnfwdIdeal.nD Cert.KernelLnfwdIdeal.τ).loc Cert.KernelLnfwdIdeal.main_arg2) = m ((c.tc : Thread Cert.KernelLnfwdIdeal.nD Cert.KernelLnfwdIdeal.τ).loc Cert.KernelLnfwdIdeal.main_arg2))
      ∧ r.2.sem = fun _ => 0)

def quiescent_ReferenceLnfwdIdeal [hReferenceLnfwdIdeal : Cert.ReferenceLnfwdIdeal.Facts] : Prop :=
  ∀ (m : (ℓ : Loc Cert.ReferenceLnfwdIdeal.nD Cert.ReferenceLnfwdIdeal.τ Cert.ReferenceLnfwdIdeal.sig) → Buf (Elt Ideal) ℓ) (g : Dev Cert.ReferenceLnfwdIdeal.nD → PrngReg), Pre_ReferenceLnfwdIdeal m →
    θ_run (Cert.ReferenceLnfwdIdeal.defs (F := Ideal)) (onTc (τ := Cert.ReferenceLnfwdIdeal.τ) (Cert.ReferenceLnfwdIdeal.main (F := Ideal))) ⟨m, fun _ => 0, g⟩ (fun r => (∀ c : Dev Cert.ReferenceLnfwdIdeal.nD,
      r.2.mem ((c.tc : Thread Cert.ReferenceLnfwdIdeal.nD Cert.ReferenceLnfwdIdeal.τ).loc Cert.ReferenceLnfwdIdeal.main_arg0) = m ((c.tc : Thread Cert.ReferenceLnfwdIdeal.nD Cert.ReferenceLnfwdIdeal.τ).loc Cert.ReferenceLnfwdIdeal.main_arg0)
      ∧ r.2.mem ((c.tc : Thread Cert.ReferenceLnfwdIdeal.nD Cert.ReferenceLnfwdIdeal.τ).loc Cert.ReferenceLnfwdIdeal.main_arg1) = m ((c.tc : Thread Cert.ReferenceLnfwdIdeal.nD Cert.ReferenceLnfwdIdeal.τ).loc Cert.ReferenceLnfwdIdeal.main_arg1)
      ∧ r.2.mem ((c.tc : Thread Cert.ReferenceLnfwdIdeal.nD Cert.ReferenceLnfwdIdeal.τ).loc Cert.ReferenceLnfwdIdeal.main_arg2) = m ((c.tc : Thread Cert.ReferenceLnfwdIdeal.nD Cert.ReferenceLnfwdIdeal.τ).loc Cert.ReferenceLnfwdIdeal.main_arg2))
      ∧ r.2.sem = fun _ => 0)

def quiescent_KernelGatesfwd [hKernelGatesfwd : Cert.KernelGatesfwd.Facts] : Prop :=
  ∀ (m : (ℓ : Loc Cert.KernelGatesfwd.nD Cert.KernelGatesfwd.τ Cert.KernelGatesfwd.sig) → Buf (Elt Bits) ℓ) (g : Dev Cert.KernelGatesfwd.nD → PrngReg), Pre_KernelGatesfwd m →
    θ_run (Cert.KernelGatesfwd.defs (F := Bits)) (onTc (τ := Cert.KernelGatesfwd.τ) (Cert.KernelGatesfwd.main (F := Bits))) ⟨m, fun _ => 0, g⟩ (fun r => (∀ c : Dev Cert.KernelGatesfwd.nD,
      r.2.mem ((c.tc : Thread Cert.KernelGatesfwd.nD Cert.KernelGatesfwd.τ).loc Cert.KernelGatesfwd.main_arg0) = m ((c.tc : Thread Cert.KernelGatesfwd.nD Cert.KernelGatesfwd.τ).loc Cert.KernelGatesfwd.main_arg0)
      ∧ r.2.mem ((c.tc : Thread Cert.KernelGatesfwd.nD Cert.KernelGatesfwd.τ).loc Cert.KernelGatesfwd.main_arg1) = m ((c.tc : Thread Cert.KernelGatesfwd.nD Cert.KernelGatesfwd.τ).loc Cert.KernelGatesfwd.main_arg1)
      ∧ r.2.mem ((c.tc : Thread Cert.KernelGatesfwd.nD Cert.KernelGatesfwd.τ).loc Cert.KernelGatesfwd.main_arg2) = m ((c.tc : Thread Cert.KernelGatesfwd.nD Cert.KernelGatesfwd.τ).loc Cert.KernelGatesfwd.main_arg2))
      ∧ r.2.sem = fun _ => 0)

def quiescent_KernelGatesfwdIdeal [hKernelGatesfwdIdeal : Cert.KernelGatesfwdIdeal.Facts] : Prop :=
  ∀ (m : (ℓ : Loc Cert.KernelGatesfwdIdeal.nD Cert.KernelGatesfwdIdeal.τ Cert.KernelGatesfwdIdeal.sig) → Buf (Elt Ideal) ℓ) (g : Dev Cert.KernelGatesfwdIdeal.nD → PrngReg), Pre_KernelGatesfwdIdeal m →
    θ_run (Cert.KernelGatesfwdIdeal.defs (F := Ideal)) (onTc (τ := Cert.KernelGatesfwdIdeal.τ) (Cert.KernelGatesfwdIdeal.main (F := Ideal))) ⟨m, fun _ => 0, g⟩ (fun r => (∀ c : Dev Cert.KernelGatesfwdIdeal.nD,
      r.2.mem ((c.tc : Thread Cert.KernelGatesfwdIdeal.nD Cert.KernelGatesfwdIdeal.τ).loc Cert.KernelGatesfwdIdeal.main_arg0) = m ((c.tc : Thread Cert.KernelGatesfwdIdeal.nD Cert.KernelGatesfwdIdeal.τ).loc Cert.KernelGatesfwdIdeal.main_arg0)
      ∧ r.2.mem ((c.tc : Thread Cert.KernelGatesfwdIdeal.nD Cert.KernelGatesfwdIdeal.τ).loc Cert.KernelGatesfwdIdeal.main_arg1) = m ((c.tc : Thread Cert.KernelGatesfwdIdeal.nD Cert.KernelGatesfwdIdeal.τ).loc Cert.KernelGatesfwdIdeal.main_arg1)
      ∧ r.2.mem ((c.tc : Thread Cert.KernelGatesfwdIdeal.nD Cert.KernelGatesfwdIdeal.τ).loc Cert.KernelGatesfwdIdeal.main_arg2) = m ((c.tc : Thread Cert.KernelGatesfwdIdeal.nD Cert.KernelGatesfwdIdeal.τ).loc Cert.KernelGatesfwdIdeal.main_arg2))
      ∧ r.2.sem = fun _ => 0)

def quiescent_ReferenceGatesfwdIdeal [hReferenceGatesfwdIdeal : Cert.ReferenceGatesfwdIdeal.Facts] : Prop :=
  ∀ (m : (ℓ : Loc Cert.ReferenceGatesfwdIdeal.nD Cert.ReferenceGatesfwdIdeal.τ Cert.ReferenceGatesfwdIdeal.sig) → Buf (Elt Ideal) ℓ) (g : Dev Cert.ReferenceGatesfwdIdeal.nD → PrngReg), Pre_ReferenceGatesfwdIdeal m →
    θ_run (Cert.ReferenceGatesfwdIdeal.defs (F := Ideal)) (onTc (τ := Cert.ReferenceGatesfwdIdeal.τ) (Cert.ReferenceGatesfwdIdeal.main (F := Ideal))) ⟨m, fun _ => 0, g⟩ (fun r => (∀ c : Dev Cert.ReferenceGatesfwdIdeal.nD,
      r.2.mem ((c.tc : Thread Cert.ReferenceGatesfwdIdeal.nD Cert.ReferenceGatesfwdIdeal.τ).loc Cert.ReferenceGatesfwdIdeal.main_arg0) = m ((c.tc : Thread Cert.ReferenceGatesfwdIdeal.nD Cert.ReferenceGatesfwdIdeal.τ).loc Cert.ReferenceGatesfwdIdeal.main_arg0)
      ∧ r.2.mem ((c.tc : Thread Cert.ReferenceGatesfwdIdeal.nD Cert.ReferenceGatesfwdIdeal.τ).loc Cert.ReferenceGatesfwdIdeal.main_arg1) = m ((c.tc : Thread Cert.ReferenceGatesfwdIdeal.nD Cert.ReferenceGatesfwdIdeal.τ).loc Cert.ReferenceGatesfwdIdeal.main_arg1)
      ∧ r.2.mem ((c.tc : Thread Cert.ReferenceGatesfwdIdeal.nD Cert.ReferenceGatesfwdIdeal.τ).loc Cert.ReferenceGatesfwdIdeal.main_arg2) = m ((c.tc : Thread Cert.ReferenceGatesfwdIdeal.nD Cert.ReferenceGatesfwdIdeal.τ).loc Cert.ReferenceGatesfwdIdeal.main_arg2))
      ∧ r.2.sem = fun _ => 0)

def quiescent_KernelGeluup [hKernelGeluup : Cert.KernelGeluup.Facts] : Prop :=
  ∀ (m : (ℓ : Loc Cert.KernelGeluup.nD Cert.KernelGeluup.τ Cert.KernelGeluup.sig) → Buf (Elt Bits) ℓ) (g : Dev Cert.KernelGeluup.nD → PrngReg), Pre_KernelGeluup m →
    θ_run (Cert.KernelGeluup.defs (F := Bits)) (onTc (τ := Cert.KernelGeluup.τ) (Cert.KernelGeluup.main (F := Bits))) ⟨m, fun _ => 0, g⟩ (fun r => (∀ c : Dev Cert.KernelGeluup.nD,
      r.2.mem ((c.tc : Thread Cert.KernelGeluup.nD Cert.KernelGeluup.τ).loc Cert.KernelGeluup.main_arg0) = m ((c.tc : Thread Cert.KernelGeluup.nD Cert.KernelGeluup.τ).loc Cert.KernelGeluup.main_arg0)
      ∧ r.2.mem ((c.tc : Thread Cert.KernelGeluup.nD Cert.KernelGeluup.τ).loc Cert.KernelGeluup.main_arg1) = m ((c.tc : Thread Cert.KernelGeluup.nD Cert.KernelGeluup.τ).loc Cert.KernelGeluup.main_arg1))
      ∧ r.2.sem = fun _ => 0)

def quiescent_KernelGeluupIdeal [hKernelGeluupIdeal : Cert.KernelGeluupIdeal.Facts] : Prop :=
  ∀ (m : (ℓ : Loc Cert.KernelGeluupIdeal.nD Cert.KernelGeluupIdeal.τ Cert.KernelGeluupIdeal.sig) → Buf (Elt Ideal) ℓ) (g : Dev Cert.KernelGeluupIdeal.nD → PrngReg), Pre_KernelGeluupIdeal m →
    θ_run (Cert.KernelGeluupIdeal.defs (F := Ideal)) (onTc (τ := Cert.KernelGeluupIdeal.τ) (Cert.KernelGeluupIdeal.main (F := Ideal))) ⟨m, fun _ => 0, g⟩ (fun r => (∀ c : Dev Cert.KernelGeluupIdeal.nD,
      r.2.mem ((c.tc : Thread Cert.KernelGeluupIdeal.nD Cert.KernelGeluupIdeal.τ).loc Cert.KernelGeluupIdeal.main_arg0) = m ((c.tc : Thread Cert.KernelGeluupIdeal.nD Cert.KernelGeluupIdeal.τ).loc Cert.KernelGeluupIdeal.main_arg0)
      ∧ r.2.mem ((c.tc : Thread Cert.KernelGeluupIdeal.nD Cert.KernelGeluupIdeal.τ).loc Cert.KernelGeluupIdeal.main_arg1) = m ((c.tc : Thread Cert.KernelGeluupIdeal.nD Cert.KernelGeluupIdeal.τ).loc Cert.KernelGeluupIdeal.main_arg1))
      ∧ r.2.sem = fun _ => 0)

def quiescent_ReferenceGeluupIdeal [hReferenceGeluupIdeal : Cert.ReferenceGeluupIdeal.Facts] : Prop :=
  ∀ (m : (ℓ : Loc Cert.ReferenceGeluupIdeal.nD Cert.ReferenceGeluupIdeal.τ Cert.ReferenceGeluupIdeal.sig) → Buf (Elt Ideal) ℓ) (g : Dev Cert.ReferenceGeluupIdeal.nD → PrngReg), Pre_ReferenceGeluupIdeal m →
    θ_run (Cert.ReferenceGeluupIdeal.defs (F := Ideal)) (onTc (τ := Cert.ReferenceGeluupIdeal.τ) (Cert.ReferenceGeluupIdeal.main (F := Ideal))) ⟨m, fun _ => 0, g⟩ (fun r => (∀ c : Dev Cert.ReferenceGeluupIdeal.nD,
      r.2.mem ((c.tc : Thread Cert.ReferenceGeluupIdeal.nD Cert.ReferenceGeluupIdeal.τ).loc Cert.ReferenceGeluupIdeal.main_arg0) = m ((c.tc : Thread Cert.ReferenceGeluupIdeal.nD Cert.ReferenceGeluupIdeal.τ).loc Cert.ReferenceGeluupIdeal.main_arg0)
      ∧ r.2.mem ((c.tc : Thread Cert.ReferenceGeluupIdeal.nD Cert.ReferenceGeluupIdeal.τ).loc Cert.ReferenceGeluupIdeal.main_arg1) = m ((c.tc : Thread Cert.ReferenceGeluupIdeal.nD Cert.ReferenceGeluupIdeal.τ).loc Cert.ReferenceGeluupIdeal.main_arg1))
      ∧ r.2.sem = fun _ => 0)

def quiescent_KernelUpfwd [hKernelUpfwd : Cert.KernelUpfwd.Facts] : Prop :=
  ∀ (m : (ℓ : Loc Cert.KernelUpfwd.nD Cert.KernelUpfwd.τ Cert.KernelUpfwd.sig) → Buf (Elt Bits) ℓ) (g : Dev Cert.KernelUpfwd.nD → PrngReg), Pre_KernelUpfwd m →
    θ_run (Cert.KernelUpfwd.defs (F := Bits)) (onTc (τ := Cert.KernelUpfwd.τ) (Cert.KernelUpfwd.main (F := Bits))) ⟨m, fun _ => 0, g⟩ (fun r => (∀ c : Dev Cert.KernelUpfwd.nD,
      r.2.mem ((c.tc : Thread Cert.KernelUpfwd.nD Cert.KernelUpfwd.τ).loc Cert.KernelUpfwd.main_arg0) = m ((c.tc : Thread Cert.KernelUpfwd.nD Cert.KernelUpfwd.τ).loc Cert.KernelUpfwd.main_arg0)
      ∧ r.2.mem ((c.tc : Thread Cert.KernelUpfwd.nD Cert.KernelUpfwd.τ).loc Cert.KernelUpfwd.main_arg1) = m ((c.tc : Thread Cert.KernelUpfwd.nD Cert.KernelUpfwd.τ).loc Cert.KernelUpfwd.main_arg1))
      ∧ r.2.sem = fun _ => 0)

def quiescent_KernelUpfwdIdeal [hKernelUpfwdIdeal : Cert.KernelUpfwdIdeal.Facts] : Prop :=
  ∀ (m : (ℓ : Loc Cert.KernelUpfwdIdeal.nD Cert.KernelUpfwdIdeal.τ Cert.KernelUpfwdIdeal.sig) → Buf (Elt Ideal) ℓ) (g : Dev Cert.KernelUpfwdIdeal.nD → PrngReg), Pre_KernelUpfwdIdeal m →
    θ_run (Cert.KernelUpfwdIdeal.defs (F := Ideal)) (onTc (τ := Cert.KernelUpfwdIdeal.τ) (Cert.KernelUpfwdIdeal.main (F := Ideal))) ⟨m, fun _ => 0, g⟩ (fun r => (∀ c : Dev Cert.KernelUpfwdIdeal.nD,
      r.2.mem ((c.tc : Thread Cert.KernelUpfwdIdeal.nD Cert.KernelUpfwdIdeal.τ).loc Cert.KernelUpfwdIdeal.main_arg0) = m ((c.tc : Thread Cert.KernelUpfwdIdeal.nD Cert.KernelUpfwdIdeal.τ).loc Cert.KernelUpfwdIdeal.main_arg0)
      ∧ r.2.mem ((c.tc : Thread Cert.KernelUpfwdIdeal.nD Cert.KernelUpfwdIdeal.τ).loc Cert.KernelUpfwdIdeal.main_arg1) = m ((c.tc : Thread Cert.KernelUpfwdIdeal.nD Cert.KernelUpfwdIdeal.τ).loc Cert.KernelUpfwdIdeal.main_arg1))
      ∧ r.2.sem = fun _ => 0)

def quiescent_ReferenceUpfwdIdeal [hReferenceUpfwdIdeal : Cert.ReferenceUpfwdIdeal.Facts] : Prop :=
  ∀ (m : (ℓ : Loc Cert.ReferenceUpfwdIdeal.nD Cert.ReferenceUpfwdIdeal.τ Cert.ReferenceUpfwdIdeal.sig) → Buf (Elt Ideal) ℓ) (g : Dev Cert.ReferenceUpfwdIdeal.nD → PrngReg), Pre_ReferenceUpfwdIdeal m →
    θ_run (Cert.ReferenceUpfwdIdeal.defs (F := Ideal)) (onTc (τ := Cert.ReferenceUpfwdIdeal.τ) (Cert.ReferenceUpfwdIdeal.main (F := Ideal))) ⟨m, fun _ => 0, g⟩ (fun r => (∀ c : Dev Cert.ReferenceUpfwdIdeal.nD,
      r.2.mem ((c.tc : Thread Cert.ReferenceUpfwdIdeal.nD Cert.ReferenceUpfwdIdeal.τ).loc Cert.ReferenceUpfwdIdeal.main_arg0) = m ((c.tc : Thread Cert.ReferenceUpfwdIdeal.nD Cert.ReferenceUpfwdIdeal.τ).loc Cert.ReferenceUpfwdIdeal.main_arg0)
      ∧ r.2.mem ((c.tc : Thread Cert.ReferenceUpfwdIdeal.nD Cert.ReferenceUpfwdIdeal.τ).loc Cert.ReferenceUpfwdIdeal.main_arg1) = m ((c.tc : Thread Cert.ReferenceUpfwdIdeal.nD Cert.ReferenceUpfwdIdeal.τ).loc Cert.ReferenceUpfwdIdeal.main_arg1))
      ∧ r.2.sem = fun _ => 0)

def quiescent_KernelQfwd [hKernelQfwd : Cert.KernelQfwd.Facts] : Prop :=
  ∀ (m : (ℓ : Loc Cert.KernelQfwd.nD Cert.KernelQfwd.τ Cert.KernelQfwd.sig) → Buf (Elt Bits) ℓ) (g : Dev Cert.KernelQfwd.nD → PrngReg), Pre_KernelQfwd m →
    θ_run (Cert.KernelQfwd.defs (F := Bits)) (onTc (τ := Cert.KernelQfwd.τ) (Cert.KernelQfwd.main (F := Bits))) ⟨m, fun _ => 0, g⟩ (fun r => (∀ c : Dev Cert.KernelQfwd.nD,
      r.2.mem ((c.tc : Thread Cert.KernelQfwd.nD Cert.KernelQfwd.τ).loc Cert.KernelQfwd.main_arg0) = m ((c.tc : Thread Cert.KernelQfwd.nD Cert.KernelQfwd.τ).loc Cert.KernelQfwd.main_arg0)
      ∧ r.2.mem ((c.tc : Thread Cert.KernelQfwd.nD Cert.KernelQfwd.τ).loc Cert.KernelQfwd.main_arg1) = m ((c.tc : Thread Cert.KernelQfwd.nD Cert.KernelQfwd.τ).loc Cert.KernelQfwd.main_arg1)
      ∧ r.2.mem ((c.tc : Thread Cert.KernelQfwd.nD Cert.KernelQfwd.τ).loc Cert.KernelQfwd.main_arg2) = m ((c.tc : Thread Cert.KernelQfwd.nD Cert.KernelQfwd.τ).loc Cert.KernelQfwd.main_arg2))
      ∧ r.2.sem = fun _ => 0)

def quiescent_KernelQfwdIdeal [hKernelQfwdIdeal : Cert.KernelQfwdIdeal.Facts] : Prop :=
  ∀ (m : (ℓ : Loc Cert.KernelQfwdIdeal.nD Cert.KernelQfwdIdeal.τ Cert.KernelQfwdIdeal.sig) → Buf (Elt Ideal) ℓ) (g : Dev Cert.KernelQfwdIdeal.nD → PrngReg), Pre_KernelQfwdIdeal m →
    θ_run (Cert.KernelQfwdIdeal.defs (F := Ideal)) (onTc (τ := Cert.KernelQfwdIdeal.τ) (Cert.KernelQfwdIdeal.main (F := Ideal))) ⟨m, fun _ => 0, g⟩ (fun r => (∀ c : Dev Cert.KernelQfwdIdeal.nD,
      r.2.mem ((c.tc : Thread Cert.KernelQfwdIdeal.nD Cert.KernelQfwdIdeal.τ).loc Cert.KernelQfwdIdeal.main_arg0) = m ((c.tc : Thread Cert.KernelQfwdIdeal.nD Cert.KernelQfwdIdeal.τ).loc Cert.KernelQfwdIdeal.main_arg0)
      ∧ r.2.mem ((c.tc : Thread Cert.KernelQfwdIdeal.nD Cert.KernelQfwdIdeal.τ).loc Cert.KernelQfwdIdeal.main_arg1) = m ((c.tc : Thread Cert.KernelQfwdIdeal.nD Cert.KernelQfwdIdeal.τ).loc Cert.KernelQfwdIdeal.main_arg1)
      ∧ r.2.mem ((c.tc : Thread Cert.KernelQfwdIdeal.nD Cert.KernelQfwdIdeal.τ).loc Cert.KernelQfwdIdeal.main_arg2) = m ((c.tc : Thread Cert.KernelQfwdIdeal.nD Cert.KernelQfwdIdeal.τ).loc Cert.KernelQfwdIdeal.main_arg2))
      ∧ r.2.sem = fun _ => 0)

def quiescent_ReferenceQfwdIdeal [hReferenceQfwdIdeal : Cert.ReferenceQfwdIdeal.Facts] : Prop :=
  ∀ (m : (ℓ : Loc Cert.ReferenceQfwdIdeal.nD Cert.ReferenceQfwdIdeal.τ Cert.ReferenceQfwdIdeal.sig) → Buf (Elt Ideal) ℓ) (g : Dev Cert.ReferenceQfwdIdeal.nD → PrngReg), Pre_ReferenceQfwdIdeal m →
    θ_run (Cert.ReferenceQfwdIdeal.defs (F := Ideal)) (onTc (τ := Cert.ReferenceQfwdIdeal.τ) (Cert.ReferenceQfwdIdeal.main (F := Ideal))) ⟨m, fun _ => 0, g⟩ (fun r => (∀ c : Dev Cert.ReferenceQfwdIdeal.nD,
      r.2.mem ((c.tc : Thread Cert.ReferenceQfwdIdeal.nD Cert.ReferenceQfwdIdeal.τ).loc Cert.ReferenceQfwdIdeal.main_arg0) = m ((c.tc : Thread Cert.ReferenceQfwdIdeal.nD Cert.ReferenceQfwdIdeal.τ).loc Cert.ReferenceQfwdIdeal.main_arg0)
      ∧ r.2.mem ((c.tc : Thread Cert.ReferenceQfwdIdeal.nD Cert.ReferenceQfwdIdeal.τ).loc Cert.ReferenceQfwdIdeal.main_arg1) = m ((c.tc : Thread Cert.ReferenceQfwdIdeal.nD Cert.ReferenceQfwdIdeal.τ).loc Cert.ReferenceQfwdIdeal.main_arg1)
      ∧ r.2.mem ((c.tc : Thread Cert.ReferenceQfwdIdeal.nD Cert.ReferenceQfwdIdeal.τ).loc Cert.ReferenceQfwdIdeal.main_arg2) = m ((c.tc : Thread Cert.ReferenceQfwdIdeal.nD Cert.ReferenceQfwdIdeal.τ).loc Cert.ReferenceQfwdIdeal.main_arg2))
      ∧ r.2.sem = fun _ => 0)

def quiescent_KernelKfwd [hKernelKfwd : Cert.KernelKfwd.Facts] : Prop :=
  ∀ (m : (ℓ : Loc Cert.KernelKfwd.nD Cert.KernelKfwd.τ Cert.KernelKfwd.sig) → Buf (Elt Bits) ℓ) (g : Dev Cert.KernelKfwd.nD → PrngReg), Pre_KernelKfwd m →
    θ_run (Cert.KernelKfwd.defs (F := Bits)) (onTc (τ := Cert.KernelKfwd.τ) (Cert.KernelKfwd.main (F := Bits))) ⟨m, fun _ => 0, g⟩ (fun r => (∀ c : Dev Cert.KernelKfwd.nD,
      r.2.mem ((c.tc : Thread Cert.KernelKfwd.nD Cert.KernelKfwd.τ).loc Cert.KernelKfwd.main_arg0) = m ((c.tc : Thread Cert.KernelKfwd.nD Cert.KernelKfwd.τ).loc Cert.KernelKfwd.main_arg0)
      ∧ r.2.mem ((c.tc : Thread Cert.KernelKfwd.nD Cert.KernelKfwd.τ).loc Cert.KernelKfwd.main_arg1) = m ((c.tc : Thread Cert.KernelKfwd.nD Cert.KernelKfwd.τ).loc Cert.KernelKfwd.main_arg1)
      ∧ r.2.mem ((c.tc : Thread Cert.KernelKfwd.nD Cert.KernelKfwd.τ).loc Cert.KernelKfwd.main_arg2) = m ((c.tc : Thread Cert.KernelKfwd.nD Cert.KernelKfwd.τ).loc Cert.KernelKfwd.main_arg2))
      ∧ r.2.sem = fun _ => 0)

def quiescent_KernelKfwdIdeal [hKernelKfwdIdeal : Cert.KernelKfwdIdeal.Facts] : Prop :=
  ∀ (m : (ℓ : Loc Cert.KernelKfwdIdeal.nD Cert.KernelKfwdIdeal.τ Cert.KernelKfwdIdeal.sig) → Buf (Elt Ideal) ℓ) (g : Dev Cert.KernelKfwdIdeal.nD → PrngReg), Pre_KernelKfwdIdeal m →
    θ_run (Cert.KernelKfwdIdeal.defs (F := Ideal)) (onTc (τ := Cert.KernelKfwdIdeal.τ) (Cert.KernelKfwdIdeal.main (F := Ideal))) ⟨m, fun _ => 0, g⟩ (fun r => (∀ c : Dev Cert.KernelKfwdIdeal.nD,
      r.2.mem ((c.tc : Thread Cert.KernelKfwdIdeal.nD Cert.KernelKfwdIdeal.τ).loc Cert.KernelKfwdIdeal.main_arg0) = m ((c.tc : Thread Cert.KernelKfwdIdeal.nD Cert.KernelKfwdIdeal.τ).loc Cert.KernelKfwdIdeal.main_arg0)
      ∧ r.2.mem ((c.tc : Thread Cert.KernelKfwdIdeal.nD Cert.KernelKfwdIdeal.τ).loc Cert.KernelKfwdIdeal.main_arg1) = m ((c.tc : Thread Cert.KernelKfwdIdeal.nD Cert.KernelKfwdIdeal.τ).loc Cert.KernelKfwdIdeal.main_arg1)
      ∧ r.2.mem ((c.tc : Thread Cert.KernelKfwdIdeal.nD Cert.KernelKfwdIdeal.τ).loc Cert.KernelKfwdIdeal.main_arg2) = m ((c.tc : Thread Cert.KernelKfwdIdeal.nD Cert.KernelKfwdIdeal.τ).loc Cert.KernelKfwdIdeal.main_arg2))
      ∧ r.2.sem = fun _ => 0)

def quiescent_ReferenceKfwdIdeal [hReferenceKfwdIdeal : Cert.ReferenceKfwdIdeal.Facts] : Prop :=
  ∀ (m : (ℓ : Loc Cert.ReferenceKfwdIdeal.nD Cert.ReferenceKfwdIdeal.τ Cert.ReferenceKfwdIdeal.sig) → Buf (Elt Ideal) ℓ) (g : Dev Cert.ReferenceKfwdIdeal.nD → PrngReg), Pre_ReferenceKfwdIdeal m →
    θ_run (Cert.ReferenceKfwdIdeal.defs (F := Ideal)) (onTc (τ := Cert.ReferenceKfwdIdeal.τ) (Cert.ReferenceKfwdIdeal.main (F := Ideal))) ⟨m, fun _ => 0, g⟩ (fun r => (∀ c : Dev Cert.ReferenceKfwdIdeal.nD,
      r.2.mem ((c.tc : Thread Cert.ReferenceKfwdIdeal.nD Cert.ReferenceKfwdIdeal.τ).loc Cert.ReferenceKfwdIdeal.main_arg0) = m ((c.tc : Thread Cert.ReferenceKfwdIdeal.nD Cert.ReferenceKfwdIdeal.τ).loc Cert.ReferenceKfwdIdeal.main_arg0)
      ∧ r.2.mem ((c.tc : Thread Cert.ReferenceKfwdIdeal.nD Cert.ReferenceKfwdIdeal.τ).loc Cert.ReferenceKfwdIdeal.main_arg1) = m ((c.tc : Thread Cert.ReferenceKfwdIdeal.nD Cert.ReferenceKfwdIdeal.τ).loc Cert.ReferenceKfwdIdeal.main_arg1)
      ∧ r.2.mem ((c.tc : Thread Cert.ReferenceKfwdIdeal.nD Cert.ReferenceKfwdIdeal.τ).loc Cert.ReferenceKfwdIdeal.main_arg2) = m ((c.tc : Thread Cert.ReferenceKfwdIdeal.nD Cert.ReferenceKfwdIdeal.τ).loc Cert.ReferenceKfwdIdeal.main_arg2))
      ∧ r.2.sem = fun _ => 0)

def quiescent_KernelDownfwd [hKernelDownfwd : Cert.KernelDownfwd.Facts] : Prop :=
  ∀ (m : (ℓ : Loc Cert.KernelDownfwd.nD Cert.KernelDownfwd.τ Cert.KernelDownfwd.sig) → Buf (Elt Bits) ℓ) (g : Dev Cert.KernelDownfwd.nD → PrngReg), Pre_KernelDownfwd m →
    θ_run (Cert.KernelDownfwd.defs (F := Bits)) (onTc (τ := Cert.KernelDownfwd.τ) (Cert.KernelDownfwd.main (F := Bits))) ⟨m, fun _ => 0, g⟩ (fun r => (∀ c : Dev Cert.KernelDownfwd.nD,
      r.2.mem ((c.tc : Thread Cert.KernelDownfwd.nD Cert.KernelDownfwd.τ).loc Cert.KernelDownfwd.main_arg0) = m ((c.tc : Thread Cert.KernelDownfwd.nD Cert.KernelDownfwd.τ).loc Cert.KernelDownfwd.main_arg0)
      ∧ r.2.mem ((c.tc : Thread Cert.KernelDownfwd.nD Cert.KernelDownfwd.τ).loc Cert.KernelDownfwd.main_arg1) = m ((c.tc : Thread Cert.KernelDownfwd.nD Cert.KernelDownfwd.τ).loc Cert.KernelDownfwd.main_arg1)
      ∧ r.2.mem ((c.tc : Thread Cert.KernelDownfwd.nD Cert.KernelDownfwd.τ).loc Cert.KernelDownfwd.main_arg2) = m ((c.tc : Thread Cert.KernelDownfwd.nD Cert.KernelDownfwd.τ).loc Cert.KernelDownfwd.main_arg2)
      ∧ r.2.mem ((c.tc : Thread Cert.KernelDownfwd.nD Cert.KernelDownfwd.τ).loc Cert.KernelDownfwd.main_arg3) = m ((c.tc : Thread Cert.KernelDownfwd.nD Cert.KernelDownfwd.τ).loc Cert.KernelDownfwd.main_arg3))
      ∧ r.2.sem = fun _ => 0)

def quiescent_KernelDownfwdIdeal [hKernelDownfwdIdeal : Cert.KernelDownfwdIdeal.Facts] : Prop :=
  ∀ (m : (ℓ : Loc Cert.KernelDownfwdIdeal.nD Cert.KernelDownfwdIdeal.τ Cert.KernelDownfwdIdeal.sig) → Buf (Elt Ideal) ℓ) (g : Dev Cert.KernelDownfwdIdeal.nD → PrngReg), Pre_KernelDownfwdIdeal m →
    θ_run (Cert.KernelDownfwdIdeal.defs (F := Ideal)) (onTc (τ := Cert.KernelDownfwdIdeal.τ) (Cert.KernelDownfwdIdeal.main (F := Ideal))) ⟨m, fun _ => 0, g⟩ (fun r => (∀ c : Dev Cert.KernelDownfwdIdeal.nD,
      r.2.mem ((c.tc : Thread Cert.KernelDownfwdIdeal.nD Cert.KernelDownfwdIdeal.τ).loc Cert.KernelDownfwdIdeal.main_arg0) = m ((c.tc : Thread Cert.KernelDownfwdIdeal.nD Cert.KernelDownfwdIdeal.τ).loc Cert.KernelDownfwdIdeal.main_arg0)
      ∧ r.2.mem ((c.tc : Thread Cert.KernelDownfwdIdeal.nD Cert.KernelDownfwdIdeal.τ).loc Cert.KernelDownfwdIdeal.main_arg1) = m ((c.tc : Thread Cert.KernelDownfwdIdeal.nD Cert.KernelDownfwdIdeal.τ).loc Cert.KernelDownfwdIdeal.main_arg1)
      ∧ r.2.mem ((c.tc : Thread Cert.KernelDownfwdIdeal.nD Cert.KernelDownfwdIdeal.τ).loc Cert.KernelDownfwdIdeal.main_arg2) = m ((c.tc : Thread Cert.KernelDownfwdIdeal.nD Cert.KernelDownfwdIdeal.τ).loc Cert.KernelDownfwdIdeal.main_arg2)
      ∧ r.2.mem ((c.tc : Thread Cert.KernelDownfwdIdeal.nD Cert.KernelDownfwdIdeal.τ).loc Cert.KernelDownfwdIdeal.main_arg3) = m ((c.tc : Thread Cert.KernelDownfwdIdeal.nD Cert.KernelDownfwdIdeal.τ).loc Cert.KernelDownfwdIdeal.main_arg3))
      ∧ r.2.sem = fun _ => 0)

def quiescent_ReferenceDownfwdIdeal [hReferenceDownfwdIdeal : Cert.ReferenceDownfwdIdeal.Facts] : Prop :=
  ∀ (m : (ℓ : Loc Cert.ReferenceDownfwdIdeal.nD Cert.ReferenceDownfwdIdeal.τ Cert.ReferenceDownfwdIdeal.sig) → Buf (Elt Ideal) ℓ) (g : Dev Cert.ReferenceDownfwdIdeal.nD → PrngReg), Pre_ReferenceDownfwdIdeal m →
    θ_run (Cert.ReferenceDownfwdIdeal.defs (F := Ideal)) (onTc (τ := Cert.ReferenceDownfwdIdeal.τ) (Cert.ReferenceDownfwdIdeal.main (F := Ideal))) ⟨m, fun _ => 0, g⟩ (fun r => (∀ c : Dev Cert.ReferenceDownfwdIdeal.nD,
      r.2.mem ((c.tc : Thread Cert.ReferenceDownfwdIdeal.nD Cert.ReferenceDownfwdIdeal.τ).loc Cert.ReferenceDownfwdIdeal.main_arg0) = m ((c.tc : Thread Cert.ReferenceDownfwdIdeal.nD Cert.ReferenceDownfwdIdeal.τ).loc Cert.ReferenceDownfwdIdeal.main_arg0)
      ∧ r.2.mem ((c.tc : Thread Cert.ReferenceDownfwdIdeal.nD Cert.ReferenceDownfwdIdeal.τ).loc Cert.ReferenceDownfwdIdeal.main_arg1) = m ((c.tc : Thread Cert.ReferenceDownfwdIdeal.nD Cert.ReferenceDownfwdIdeal.τ).loc Cert.ReferenceDownfwdIdeal.main_arg1)
      ∧ r.2.mem ((c.tc : Thread Cert.ReferenceDownfwdIdeal.nD Cert.ReferenceDownfwdIdeal.τ).loc Cert.ReferenceDownfwdIdeal.main_arg2) = m ((c.tc : Thread Cert.ReferenceDownfwdIdeal.nD Cert.ReferenceDownfwdIdeal.τ).loc Cert.ReferenceDownfwdIdeal.main_arg2)
      ∧ r.2.mem ((c.tc : Thread Cert.ReferenceDownfwdIdeal.nD Cert.ReferenceDownfwdIdeal.τ).loc Cert.ReferenceDownfwdIdeal.main_arg3) = m ((c.tc : Thread Cert.ReferenceDownfwdIdeal.nD Cert.ReferenceDownfwdIdeal.τ).loc Cert.ReferenceDownfwdIdeal.main_arg3))
      ∧ r.2.sem = fun _ => 0)

def quiescent_KernelAttnofwd [hKernelAttnofwd : Cert.KernelAttnofwd.Facts] : Prop :=
  ∀ (m : (ℓ : Loc Cert.KernelAttnofwd.nD Cert.KernelAttnofwd.τ Cert.KernelAttnofwd.sig) → Buf (Elt Bits) ℓ) (g : Dev Cert.KernelAttnofwd.nD → PrngReg), Pre_KernelAttnofwd m →
    θ_run (Cert.KernelAttnofwd.defs (F := Bits)) (onTc (τ := Cert.KernelAttnofwd.τ) (Cert.KernelAttnofwd.main (F := Bits))) ⟨m, fun _ => 0, g⟩ (fun r => (∀ c : Dev Cert.KernelAttnofwd.nD,
      r.2.mem ((c.tc : Thread Cert.KernelAttnofwd.nD Cert.KernelAttnofwd.τ).loc Cert.KernelAttnofwd.main_arg0) = m ((c.tc : Thread Cert.KernelAttnofwd.nD Cert.KernelAttnofwd.τ).loc Cert.KernelAttnofwd.main_arg0)
      ∧ r.2.mem ((c.tc : Thread Cert.KernelAttnofwd.nD Cert.KernelAttnofwd.τ).loc Cert.KernelAttnofwd.main_arg1) = m ((c.tc : Thread Cert.KernelAttnofwd.nD Cert.KernelAttnofwd.τ).loc Cert.KernelAttnofwd.main_arg1)
      ∧ r.2.mem ((c.tc : Thread Cert.KernelAttnofwd.nD Cert.KernelAttnofwd.τ).loc Cert.KernelAttnofwd.main_arg2) = m ((c.tc : Thread Cert.KernelAttnofwd.nD Cert.KernelAttnofwd.τ).loc Cert.KernelAttnofwd.main_arg2)
      ∧ r.2.mem ((c.tc : Thread Cert.KernelAttnofwd.nD Cert.KernelAttnofwd.τ).loc Cert.KernelAttnofwd.main_arg3) = m ((c.tc : Thread Cert.KernelAttnofwd.nD Cert.KernelAttnofwd.τ).loc Cert.KernelAttnofwd.main_arg3))
      ∧ r.2.sem = fun _ => 0)

def quiescent_KernelAttnofwdIdeal [hKernelAttnofwdIdeal : Cert.KernelAttnofwdIdeal.Facts] : Prop :=
  ∀ (m : (ℓ : Loc Cert.KernelAttnofwdIdeal.nD Cert.KernelAttnofwdIdeal.τ Cert.KernelAttnofwdIdeal.sig) → Buf (Elt Ideal) ℓ) (g : Dev Cert.KernelAttnofwdIdeal.nD → PrngReg), Pre_KernelAttnofwdIdeal m →
    θ_run (Cert.KernelAttnofwdIdeal.defs (F := Ideal)) (onTc (τ := Cert.KernelAttnofwdIdeal.τ) (Cert.KernelAttnofwdIdeal.main (F := Ideal))) ⟨m, fun _ => 0, g⟩ (fun r => (∀ c : Dev Cert.KernelAttnofwdIdeal.nD,
      r.2.mem ((c.tc : Thread Cert.KernelAttnofwdIdeal.nD Cert.KernelAttnofwdIdeal.τ).loc Cert.KernelAttnofwdIdeal.main_arg0) = m ((c.tc : Thread Cert.KernelAttnofwdIdeal.nD Cert.KernelAttnofwdIdeal.τ).loc Cert.KernelAttnofwdIdeal.main_arg0)
      ∧ r.2.mem ((c.tc : Thread Cert.KernelAttnofwdIdeal.nD Cert.KernelAttnofwdIdeal.τ).loc Cert.KernelAttnofwdIdeal.main_arg1) = m ((c.tc : Thread Cert.KernelAttnofwdIdeal.nD Cert.KernelAttnofwdIdeal.τ).loc Cert.KernelAttnofwdIdeal.main_arg1)
      ∧ r.2.mem ((c.tc : Thread Cert.KernelAttnofwdIdeal.nD Cert.KernelAttnofwdIdeal.τ).loc Cert.KernelAttnofwdIdeal.main_arg2) = m ((c.tc : Thread Cert.KernelAttnofwdIdeal.nD Cert.KernelAttnofwdIdeal.τ).loc Cert.KernelAttnofwdIdeal.main_arg2)
      ∧ r.2.mem ((c.tc : Thread Cert.KernelAttnofwdIdeal.nD Cert.KernelAttnofwdIdeal.τ).loc Cert.KernelAttnofwdIdeal.main_arg3) = m ((c.tc : Thread Cert.KernelAttnofwdIdeal.nD Cert.KernelAttnofwdIdeal.τ).loc Cert.KernelAttnofwdIdeal.main_arg3))
      ∧ r.2.sem = fun _ => 0)

def quiescent_ReferenceAttnofwdIdeal [hReferenceAttnofwdIdeal : Cert.ReferenceAttnofwdIdeal.Facts] : Prop :=
  ∀ (m : (ℓ : Loc Cert.ReferenceAttnofwdIdeal.nD Cert.ReferenceAttnofwdIdeal.τ Cert.ReferenceAttnofwdIdeal.sig) → Buf (Elt Ideal) ℓ) (g : Dev Cert.ReferenceAttnofwdIdeal.nD → PrngReg), Pre_ReferenceAttnofwdIdeal m →
    θ_run (Cert.ReferenceAttnofwdIdeal.defs (F := Ideal)) (onTc (τ := Cert.ReferenceAttnofwdIdeal.τ) (Cert.ReferenceAttnofwdIdeal.main (F := Ideal))) ⟨m, fun _ => 0, g⟩ (fun r => (∀ c : Dev Cert.ReferenceAttnofwdIdeal.nD,
      r.2.mem ((c.tc : Thread Cert.ReferenceAttnofwdIdeal.nD Cert.ReferenceAttnofwdIdeal.τ).loc Cert.ReferenceAttnofwdIdeal.main_arg0) = m ((c.tc : Thread Cert.ReferenceAttnofwdIdeal.nD Cert.ReferenceAttnofwdIdeal.τ).loc Cert.ReferenceAttnofwdIdeal.main_arg0)
      ∧ r.2.mem ((c.tc : Thread Cert.ReferenceAttnofwdIdeal.nD Cert.ReferenceAttnofwdIdeal.τ).loc Cert.ReferenceAttnofwdIdeal.main_arg1) = m ((c.tc : Thread Cert.ReferenceAttnofwdIdeal.nD Cert.ReferenceAttnofwdIdeal.τ).loc Cert.ReferenceAttnofwdIdeal.main_arg1)
      ∧ r.2.mem ((c.tc : Thread Cert.ReferenceAttnofwdIdeal.nD Cert.ReferenceAttnofwdIdeal.τ).loc Cert.ReferenceAttnofwdIdeal.main_arg2) = m ((c.tc : Thread Cert.ReferenceAttnofwdIdeal.nD Cert.ReferenceAttnofwdIdeal.τ).loc Cert.ReferenceAttnofwdIdeal.main_arg2)
      ∧ r.2.mem ((c.tc : Thread Cert.ReferenceAttnofwdIdeal.nD Cert.ReferenceAttnofwdIdeal.τ).loc Cert.ReferenceAttnofwdIdeal.main_arg3) = m ((c.tc : Thread Cert.ReferenceAttnofwdIdeal.nD Cert.ReferenceAttnofwdIdeal.τ).loc Cert.ReferenceAttnofwdIdeal.main_arg3))
      ∧ r.2.sem = fun _ => 0)

def quiescent_KernelGmlpoutfwd [hKernelGmlpoutfwd : Cert.KernelGmlpoutfwd.Facts] : Prop :=
  ∀ (m : (ℓ : Loc Cert.KernelGmlpoutfwd.nD Cert.KernelGmlpoutfwd.τ Cert.KernelGmlpoutfwd.sig) → Buf (Elt Bits) ℓ) (g : Dev Cert.KernelGmlpoutfwd.nD → PrngReg), Pre_KernelGmlpoutfwd m →
    θ_run (Cert.KernelGmlpoutfwd.defs (F := Bits)) (onTc (τ := Cert.KernelGmlpoutfwd.τ) (Cert.KernelGmlpoutfwd.main (F := Bits))) ⟨m, fun _ => 0, g⟩ (fun r => (∀ c : Dev Cert.KernelGmlpoutfwd.nD,
      r.2.mem ((c.tc : Thread Cert.KernelGmlpoutfwd.nD Cert.KernelGmlpoutfwd.τ).loc Cert.KernelGmlpoutfwd.main_arg0) = m ((c.tc : Thread Cert.KernelGmlpoutfwd.nD Cert.KernelGmlpoutfwd.τ).loc Cert.KernelGmlpoutfwd.main_arg0)
      ∧ r.2.mem ((c.tc : Thread Cert.KernelGmlpoutfwd.nD Cert.KernelGmlpoutfwd.τ).loc Cert.KernelGmlpoutfwd.main_arg1) = m ((c.tc : Thread Cert.KernelGmlpoutfwd.nD Cert.KernelGmlpoutfwd.τ).loc Cert.KernelGmlpoutfwd.main_arg1)
      ∧ r.2.mem ((c.tc : Thread Cert.KernelGmlpoutfwd.nD Cert.KernelGmlpoutfwd.τ).loc Cert.KernelGmlpoutfwd.main_arg2) = m ((c.tc : Thread Cert.KernelGmlpoutfwd.nD Cert.KernelGmlpoutfwd.τ).loc Cert.KernelGmlpoutfwd.main_arg2)
      ∧ r.2.mem ((c.tc : Thread Cert.KernelGmlpoutfwd.nD Cert.KernelGmlpoutfwd.τ).loc Cert.KernelGmlpoutfwd.main_arg3) = m ((c.tc : Thread Cert.KernelGmlpoutfwd.nD Cert.KernelGmlpoutfwd.τ).loc Cert.KernelGmlpoutfwd.main_arg3))
      ∧ r.2.sem = fun _ => 0)

def quiescent_KernelGmlpoutfwdIdeal [hKernelGmlpoutfwdIdeal : Cert.KernelGmlpoutfwdIdeal.Facts] : Prop :=
  ∀ (m : (ℓ : Loc Cert.KernelGmlpoutfwdIdeal.nD Cert.KernelGmlpoutfwdIdeal.τ Cert.KernelGmlpoutfwdIdeal.sig) → Buf (Elt Ideal) ℓ) (g : Dev Cert.KernelGmlpoutfwdIdeal.nD → PrngReg), Pre_KernelGmlpoutfwdIdeal m →
    θ_run (Cert.KernelGmlpoutfwdIdeal.defs (F := Ideal)) (onTc (τ := Cert.KernelGmlpoutfwdIdeal.τ) (Cert.KernelGmlpoutfwdIdeal.main (F := Ideal))) ⟨m, fun _ => 0, g⟩ (fun r => (∀ c : Dev Cert.KernelGmlpoutfwdIdeal.nD,
      r.2.mem ((c.tc : Thread Cert.KernelGmlpoutfwdIdeal.nD Cert.KernelGmlpoutfwdIdeal.τ).loc Cert.KernelGmlpoutfwdIdeal.main_arg0) = m ((c.tc : Thread Cert.KernelGmlpoutfwdIdeal.nD Cert.KernelGmlpoutfwdIdeal.τ).loc Cert.KernelGmlpoutfwdIdeal.main_arg0)
      ∧ r.2.mem ((c.tc : Thread Cert.KernelGmlpoutfwdIdeal.nD Cert.KernelGmlpoutfwdIdeal.τ).loc Cert.KernelGmlpoutfwdIdeal.main_arg1) = m ((c.tc : Thread Cert.KernelGmlpoutfwdIdeal.nD Cert.KernelGmlpoutfwdIdeal.τ).loc Cert.KernelGmlpoutfwdIdeal.main_arg1)
      ∧ r.2.mem ((c.tc : Thread Cert.KernelGmlpoutfwdIdeal.nD Cert.KernelGmlpoutfwdIdeal.τ).loc Cert.KernelGmlpoutfwdIdeal.main_arg2) = m ((c.tc : Thread Cert.KernelGmlpoutfwdIdeal.nD Cert.KernelGmlpoutfwdIdeal.τ).loc Cert.KernelGmlpoutfwdIdeal.main_arg2)
      ∧ r.2.mem ((c.tc : Thread Cert.KernelGmlpoutfwdIdeal.nD Cert.KernelGmlpoutfwdIdeal.τ).loc Cert.KernelGmlpoutfwdIdeal.main_arg3) = m ((c.tc : Thread Cert.KernelGmlpoutfwdIdeal.nD Cert.KernelGmlpoutfwdIdeal.τ).loc Cert.KernelGmlpoutfwdIdeal.main_arg3))
      ∧ r.2.sem = fun _ => 0)

def quiescent_ReferenceGmlpoutfwdIdeal [hReferenceGmlpoutfwdIdeal : Cert.ReferenceGmlpoutfwdIdeal.Facts] : Prop :=
  ∀ (m : (ℓ : Loc Cert.ReferenceGmlpoutfwdIdeal.nD Cert.ReferenceGmlpoutfwdIdeal.τ Cert.ReferenceGmlpoutfwdIdeal.sig) → Buf (Elt Ideal) ℓ) (g : Dev Cert.ReferenceGmlpoutfwdIdeal.nD → PrngReg), Pre_ReferenceGmlpoutfwdIdeal m →
    θ_run (Cert.ReferenceGmlpoutfwdIdeal.defs (F := Ideal)) (onTc (τ := Cert.ReferenceGmlpoutfwdIdeal.τ) (Cert.ReferenceGmlpoutfwdIdeal.main (F := Ideal))) ⟨m, fun _ => 0, g⟩ (fun r => (∀ c : Dev Cert.ReferenceGmlpoutfwdIdeal.nD,
      r.2.mem ((c.tc : Thread Cert.ReferenceGmlpoutfwdIdeal.nD Cert.ReferenceGmlpoutfwdIdeal.τ).loc Cert.ReferenceGmlpoutfwdIdeal.main_arg0) = m ((c.tc : Thread Cert.ReferenceGmlpoutfwdIdeal.nD Cert.ReferenceGmlpoutfwdIdeal.τ).loc Cert.ReferenceGmlpoutfwdIdeal.main_arg0)
      ∧ r.2.mem ((c.tc : Thread Cert.ReferenceGmlpoutfwdIdeal.nD Cert.ReferenceGmlpoutfwdIdeal.τ).loc Cert.ReferenceGmlpoutfwdIdeal.main_arg1) = m ((c.tc : Thread Cert.ReferenceGmlpoutfwdIdeal.nD Cert.ReferenceGmlpoutfwdIdeal.τ).loc Cert.ReferenceGmlpoutfwdIdeal.main_arg1)
      ∧ r.2.mem ((c.tc : Thread Cert.ReferenceGmlpoutfwdIdeal.nD Cert.ReferenceGmlpoutfwdIdeal.τ).loc Cert.ReferenceGmlpoutfwdIdeal.main_arg2) = m ((c.tc : Thread Cert.ReferenceGmlpoutfwdIdeal.nD Cert.ReferenceGmlpoutfwdIdeal.τ).loc Cert.ReferenceGmlpoutfwdIdeal.main_arg2)
      ∧ r.2.mem ((c.tc : Thread Cert.ReferenceGmlpoutfwdIdeal.nD Cert.ReferenceGmlpoutfwdIdeal.τ).loc Cert.ReferenceGmlpoutfwdIdeal.main_arg3) = m ((c.tc : Thread Cert.ReferenceGmlpoutfwdIdeal.nD Cert.ReferenceGmlpoutfwdIdeal.τ).loc Cert.ReferenceGmlpoutfwdIdeal.main_arg3))
      ∧ r.2.sem = fun _ => 0)

def quiescent_KernelSilufwd [hKernelSilufwd : Cert.KernelSilufwd.Facts] : Prop :=
  ∀ (m : (ℓ : Loc Cert.KernelSilufwd.nD Cert.KernelSilufwd.τ Cert.KernelSilufwd.sig) → Buf (Elt Bits) ℓ) (g : Dev Cert.KernelSilufwd.nD → PrngReg), Pre_KernelSilufwd m →
    θ_run (Cert.KernelSilufwd.defs (F := Bits)) (onTc (τ := Cert.KernelSilufwd.τ) (Cert.KernelSilufwd.main (F := Bits))) ⟨m, fun _ => 0, g⟩ (fun r => (∀ c : Dev Cert.KernelSilufwd.nD,
      r.2.mem ((c.tc : Thread Cert.KernelSilufwd.nD Cert.KernelSilufwd.τ).loc Cert.KernelSilufwd.main_arg0) = m ((c.tc : Thread Cert.KernelSilufwd.nD Cert.KernelSilufwd.τ).loc Cert.KernelSilufwd.main_arg0))
      ∧ r.2.sem = fun _ => 0)

def quiescent_KernelSilufwdIdeal [hKernelSilufwdIdeal : Cert.KernelSilufwdIdeal.Facts] : Prop :=
  ∀ (m : (ℓ : Loc Cert.KernelSilufwdIdeal.nD Cert.KernelSilufwdIdeal.τ Cert.KernelSilufwdIdeal.sig) → Buf (Elt Ideal) ℓ) (g : Dev Cert.KernelSilufwdIdeal.nD → PrngReg), Pre_KernelSilufwdIdeal m →
    θ_run (Cert.KernelSilufwdIdeal.defs (F := Ideal)) (onTc (τ := Cert.KernelSilufwdIdeal.τ) (Cert.KernelSilufwdIdeal.main (F := Ideal))) ⟨m, fun _ => 0, g⟩ (fun r => (∀ c : Dev Cert.KernelSilufwdIdeal.nD,
      r.2.mem ((c.tc : Thread Cert.KernelSilufwdIdeal.nD Cert.KernelSilufwdIdeal.τ).loc Cert.KernelSilufwdIdeal.main_arg0) = m ((c.tc : Thread Cert.KernelSilufwdIdeal.nD Cert.KernelSilufwdIdeal.τ).loc Cert.KernelSilufwdIdeal.main_arg0))
      ∧ r.2.sem = fun _ => 0)

def quiescent_ReferenceSilufwdIdeal [hReferenceSilufwdIdeal : Cert.ReferenceSilufwdIdeal.Facts] : Prop :=
  ∀ (m : (ℓ : Loc Cert.ReferenceSilufwdIdeal.nD Cert.ReferenceSilufwdIdeal.τ Cert.ReferenceSilufwdIdeal.sig) → Buf (Elt Ideal) ℓ) (g : Dev Cert.ReferenceSilufwdIdeal.nD → PrngReg), Pre_ReferenceSilufwdIdeal m →
    θ_run (Cert.ReferenceSilufwdIdeal.defs (F := Ideal)) (onTc (τ := Cert.ReferenceSilufwdIdeal.τ) (Cert.ReferenceSilufwdIdeal.main (F := Ideal))) ⟨m, fun _ => 0, g⟩ (fun r => (∀ c : Dev Cert.ReferenceSilufwdIdeal.nD,
      r.2.mem ((c.tc : Thread Cert.ReferenceSilufwdIdeal.nD Cert.ReferenceSilufwdIdeal.τ).loc Cert.ReferenceSilufwdIdeal.main_arg0) = m ((c.tc : Thread Cert.ReferenceSilufwdIdeal.nD Cert.ReferenceSilufwdIdeal.τ).loc Cert.ReferenceSilufwdIdeal.main_arg0))
      ∧ r.2.sem = fun _ => 0)

def quiescent_KernelAdafwd [hKernelAdafwd : Cert.KernelAdafwd.Facts] : Prop :=
  ∀ (m : (ℓ : Loc Cert.KernelAdafwd.nD Cert.KernelAdafwd.τ Cert.KernelAdafwd.sig) → Buf (Elt Bits) ℓ) (g : Dev Cert.KernelAdafwd.nD → PrngReg), Pre_KernelAdafwd m →
    θ_run (Cert.KernelAdafwd.defs (F := Bits)) (onTc (τ := Cert.KernelAdafwd.τ) (Cert.KernelAdafwd.main (F := Bits))) ⟨m, fun _ => 0, g⟩ (fun r => (∀ c : Dev Cert.KernelAdafwd.nD,
      r.2.mem ((c.tc : Thread Cert.KernelAdafwd.nD Cert.KernelAdafwd.τ).loc Cert.KernelAdafwd.main_arg0) = m ((c.tc : Thread Cert.KernelAdafwd.nD Cert.KernelAdafwd.τ).loc Cert.KernelAdafwd.main_arg0)
      ∧ r.2.mem ((c.tc : Thread Cert.KernelAdafwd.nD Cert.KernelAdafwd.τ).loc Cert.KernelAdafwd.main_arg1) = m ((c.tc : Thread Cert.KernelAdafwd.nD Cert.KernelAdafwd.τ).loc Cert.KernelAdafwd.main_arg1)
      ∧ r.2.mem ((c.tc : Thread Cert.KernelAdafwd.nD Cert.KernelAdafwd.τ).loc Cert.KernelAdafwd.main_arg2) = m ((c.tc : Thread Cert.KernelAdafwd.nD Cert.KernelAdafwd.τ).loc Cert.KernelAdafwd.main_arg2))
      ∧ r.2.sem = fun _ => 0)

def quiescent_KernelAdafwdIdeal [hKernelAdafwdIdeal : Cert.KernelAdafwdIdeal.Facts] : Prop :=
  ∀ (m : (ℓ : Loc Cert.KernelAdafwdIdeal.nD Cert.KernelAdafwdIdeal.τ Cert.KernelAdafwdIdeal.sig) → Buf (Elt Ideal) ℓ) (g : Dev Cert.KernelAdafwdIdeal.nD → PrngReg), Pre_KernelAdafwdIdeal m →
    θ_run (Cert.KernelAdafwdIdeal.defs (F := Ideal)) (onTc (τ := Cert.KernelAdafwdIdeal.τ) (Cert.KernelAdafwdIdeal.main (F := Ideal))) ⟨m, fun _ => 0, g⟩ (fun r => (∀ c : Dev Cert.KernelAdafwdIdeal.nD,
      r.2.mem ((c.tc : Thread Cert.KernelAdafwdIdeal.nD Cert.KernelAdafwdIdeal.τ).loc Cert.KernelAdafwdIdeal.main_arg0) = m ((c.tc : Thread Cert.KernelAdafwdIdeal.nD Cert.KernelAdafwdIdeal.τ).loc Cert.KernelAdafwdIdeal.main_arg0)
      ∧ r.2.mem ((c.tc : Thread Cert.KernelAdafwdIdeal.nD Cert.KernelAdafwdIdeal.τ).loc Cert.KernelAdafwdIdeal.main_arg1) = m ((c.tc : Thread Cert.KernelAdafwdIdeal.nD Cert.KernelAdafwdIdeal.τ).loc Cert.KernelAdafwdIdeal.main_arg1)
      ∧ r.2.mem ((c.tc : Thread Cert.KernelAdafwdIdeal.nD Cert.KernelAdafwdIdeal.τ).loc Cert.KernelAdafwdIdeal.main_arg2) = m ((c.tc : Thread Cert.KernelAdafwdIdeal.nD Cert.KernelAdafwdIdeal.τ).loc Cert.KernelAdafwdIdeal.main_arg2))
      ∧ r.2.sem = fun _ => 0)

def quiescent_ReferenceAdafwdIdeal [hReferenceAdafwdIdeal : Cert.ReferenceAdafwdIdeal.Facts] : Prop :=
  ∀ (m : (ℓ : Loc Cert.ReferenceAdafwdIdeal.nD Cert.ReferenceAdafwdIdeal.τ Cert.ReferenceAdafwdIdeal.sig) → Buf (Elt Ideal) ℓ) (g : Dev Cert.ReferenceAdafwdIdeal.nD → PrngReg), Pre_ReferenceAdafwdIdeal m →
    θ_run (Cert.ReferenceAdafwdIdeal.defs (F := Ideal)) (onTc (τ := Cert.ReferenceAdafwdIdeal.τ) (Cert.ReferenceAdafwdIdeal.main (F := Ideal))) ⟨m, fun _ => 0, g⟩ (fun r => (∀ c : Dev Cert.ReferenceAdafwdIdeal.nD,
      r.2.mem ((c.tc : Thread Cert.ReferenceAdafwdIdeal.nD Cert.ReferenceAdafwdIdeal.τ).loc Cert.ReferenceAdafwdIdeal.main_arg0) = m ((c.tc : Thread Cert.ReferenceAdafwdIdeal.nD Cert.ReferenceAdafwdIdeal.τ).loc Cert.ReferenceAdafwdIdeal.main_arg0)
      ∧ r.2.mem ((c.tc : Thread Cert.ReferenceAdafwdIdeal.nD Cert.ReferenceAdafwdIdeal.τ).loc Cert.ReferenceAdafwdIdeal.main_arg1) = m ((c.tc : Thread Cert.ReferenceAdafwdIdeal.nD Cert.ReferenceAdafwdIdeal.τ).loc Cert.ReferenceAdafwdIdeal.main_arg1)
      ∧ r.2.mem ((c.tc : Thread Cert.ReferenceAdafwdIdeal.nD Cert.ReferenceAdafwdIdeal.τ).loc Cert.ReferenceAdafwdIdeal.main_arg2) = m ((c.tc : Thread Cert.ReferenceAdafwdIdeal.nD Cert.ReferenceAdafwdIdeal.τ).loc Cert.ReferenceAdafwdIdeal.main_arg2))
      ∧ r.2.sem = fun _ => 0)

def quiescent_KernelFcumfwd [hKernelFcumfwd : Cert.KernelFcumfwd.Facts] : Prop :=
  ∀ (m : (ℓ : Loc Cert.KernelFcumfwd.nD Cert.KernelFcumfwd.τ Cert.KernelFcumfwd.sig) → Buf (Elt Bits) ℓ) (g : Dev Cert.KernelFcumfwd.nD → PrngReg), Pre_KernelFcumfwd m →
    θ_run (Cert.KernelFcumfwd.defs (F := Bits)) (onTc (τ := Cert.KernelFcumfwd.τ) (Cert.KernelFcumfwd.main (F := Bits))) ⟨m, fun _ => 0, g⟩ (fun r => (∀ c : Dev Cert.KernelFcumfwd.nD,
      r.2.mem ((c.tc : Thread Cert.KernelFcumfwd.nD Cert.KernelFcumfwd.τ).loc Cert.KernelFcumfwd.main_arg0) = m ((c.tc : Thread Cert.KernelFcumfwd.nD Cert.KernelFcumfwd.τ).loc Cert.KernelFcumfwd.main_arg0))
      ∧ r.2.sem = fun _ => 0)

def quiescent_KernelFcumfwdIdeal [hKernelFcumfwdIdeal : Cert.KernelFcumfwdIdeal.Facts] : Prop :=
  ∀ (m : (ℓ : Loc Cert.KernelFcumfwdIdeal.nD Cert.KernelFcumfwdIdeal.τ Cert.KernelFcumfwdIdeal.sig) → Buf (Elt Ideal) ℓ) (g : Dev Cert.KernelFcumfwdIdeal.nD → PrngReg), Pre_KernelFcumfwdIdeal m →
    θ_run (Cert.KernelFcumfwdIdeal.defs (F := Ideal)) (onTc (τ := Cert.KernelFcumfwdIdeal.τ) (Cert.KernelFcumfwdIdeal.main (F := Ideal))) ⟨m, fun _ => 0, g⟩ (fun r => (∀ c : Dev Cert.KernelFcumfwdIdeal.nD,
      r.2.mem ((c.tc : Thread Cert.KernelFcumfwdIdeal.nD Cert.KernelFcumfwdIdeal.τ).loc Cert.KernelFcumfwdIdeal.main_arg0) = m ((c.tc : Thread Cert.KernelFcumfwdIdeal.nD Cert.KernelFcumfwdIdeal.τ).loc Cert.KernelFcumfwdIdeal.main_arg0))
      ∧ r.2.sem = fun _ => 0)

def quiescent_ReferenceFcumfwdIdeal [hReferenceFcumfwdIdeal : Cert.ReferenceFcumfwdIdeal.Facts] : Prop :=
  ∀ (m : (ℓ : Loc Cert.ReferenceFcumfwdIdeal.nD Cert.ReferenceFcumfwdIdeal.τ Cert.ReferenceFcumfwdIdeal.sig) → Buf (Elt Ideal) ℓ) (g : Dev Cert.ReferenceFcumfwdIdeal.nD → PrngReg), Pre_ReferenceFcumfwdIdeal m →
    θ_run (Cert.ReferenceFcumfwdIdeal.defs (F := Ideal)) (onTc (τ := Cert.ReferenceFcumfwdIdeal.τ) (Cert.ReferenceFcumfwdIdeal.main (F := Ideal))) ⟨m, fun _ => 0, g⟩ (fun r => (∀ c : Dev Cert.ReferenceFcumfwdIdeal.nD,
      r.2.mem ((c.tc : Thread Cert.ReferenceFcumfwdIdeal.nD Cert.ReferenceFcumfwdIdeal.τ).loc Cert.ReferenceFcumfwdIdeal.main_arg0) = m ((c.tc : Thread Cert.ReferenceFcumfwdIdeal.nD Cert.ReferenceFcumfwdIdeal.τ).loc Cert.ReferenceFcumfwdIdeal.main_arg0))
      ∧ r.2.sem = fun _ => 0)

def quiescent_KernelWgrad [hKernelWgrad : Cert.KernelWgrad.Facts] : Prop :=
  ∀ (m : (ℓ : Loc Cert.KernelWgrad.nD Cert.KernelWgrad.τ Cert.KernelWgrad.sig) → Buf (Elt Bits) ℓ) (g : Dev Cert.KernelWgrad.nD → PrngReg), Pre_KernelWgrad m →
    θ_run (Cert.KernelWgrad.defs (F := Bits)) (onTc (τ := Cert.KernelWgrad.τ) (Cert.KernelWgrad.main (F := Bits))) ⟨m, fun _ => 0, g⟩ (fun r => (∀ c : Dev Cert.KernelWgrad.nD,
      r.2.mem ((c.tc : Thread Cert.KernelWgrad.nD Cert.KernelWgrad.τ).loc Cert.KernelWgrad.main_arg0) = m ((c.tc : Thread Cert.KernelWgrad.nD Cert.KernelWgrad.τ).loc Cert.KernelWgrad.main_arg0)
      ∧ r.2.mem ((c.tc : Thread Cert.KernelWgrad.nD Cert.KernelWgrad.τ).loc Cert.KernelWgrad.main_arg1) = m ((c.tc : Thread Cert.KernelWgrad.nD Cert.KernelWgrad.τ).loc Cert.KernelWgrad.main_arg1))
      ∧ r.2.sem = fun _ => 0)

def quiescent_KernelWgradIdeal [hKernelWgradIdeal : Cert.KernelWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg), Pre_KernelWgradIdeal m →
    θ_run (Cert.KernelWgradIdeal.defs (F := Ideal)) (onTc (τ := Cert.KernelWgradIdeal.τ) (Cert.KernelWgradIdeal.main (F := Ideal))) ⟨m, fun _ => 0, g⟩ (fun r => (∀ c : Dev Cert.KernelWgradIdeal.nD,
      r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
      ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ r.2.sem = fun _ => 0)

def quiescent_ReferenceWgradIdeal [hReferenceWgradIdeal : Cert.ReferenceWgradIdeal.Facts] : Prop :=
  ∀ (m : (ℓ : Loc Cert.ReferenceWgradIdeal.nD Cert.ReferenceWgradIdeal.τ Cert.ReferenceWgradIdeal.sig) → Buf (Elt Ideal) ℓ) (g : Dev Cert.ReferenceWgradIdeal.nD → PrngReg), Pre_ReferenceWgradIdeal m →
    θ_run (Cert.ReferenceWgradIdeal.defs (F := Ideal)) (onTc (τ := Cert.ReferenceWgradIdeal.τ) (Cert.ReferenceWgradIdeal.main (F := Ideal))) ⟨m, fun _ => 0, g⟩ (fun r => (∀ c : Dev Cert.ReferenceWgradIdeal.nD,
      r.2.mem ((c.tc : Thread Cert.ReferenceWgradIdeal.nD Cert.ReferenceWgradIdeal.τ).loc Cert.ReferenceWgradIdeal.main_arg0) = m ((c.tc : Thread Cert.ReferenceWgradIdeal.nD Cert.ReferenceWgradIdeal.τ).loc Cert.ReferenceWgradIdeal.main_arg0)
      ∧ r.2.mem ((c.tc : Thread Cert.ReferenceWgradIdeal.nD Cert.ReferenceWgradIdeal.τ).loc Cert.ReferenceWgradIdeal.main_arg1) = m ((c.tc : Thread Cert.ReferenceWgradIdeal.nD Cert.ReferenceWgradIdeal.τ).loc Cert.ReferenceWgradIdeal.main_arg1))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelSumdev [hKernelSumdev : Cert.KernelSumdev.Facts] : Prop :=
  ∀ (m : (ℓ : Loc Cert.KernelSumdev.nD Cert.KernelSumdev.τ Cert.KernelSumdev.sig) → Buf (Elt Bits) ℓ) (g : Dev Cert.KernelSumdev.nD → PrngReg), Pre_KernelSumdev m →
    θ_run (Cert.KernelSumdev.defs (F := Bits)) (onTc (τ := Cert.KernelSumdev.τ) (Cert.KernelSumdev.main (F := Bits))) ⟨m, fun _ => 0, g⟩ (fun r => (∀ c : Dev Cert.KernelSumdev.nD,
      r.2.mem ((c.tc : Thread Cert.KernelSumdev.nD Cert.KernelSumdev.τ).loc Cert.KernelSumdev.main_arg0) = m ((c.tc : Thread Cert.KernelSumdev.nD Cert.KernelSumdev.τ).loc Cert.KernelSumdev.main_arg0))
      ∧ r.2.sem = fun _ => 0)

def quiescent_KernelSumdevIdeal [hKernelSumdevIdeal : Cert.KernelSumdevIdeal.Facts] : Prop :=
  ∀ (m : (ℓ : Loc Cert.KernelSumdevIdeal.nD Cert.KernelSumdevIdeal.τ Cert.KernelSumdevIdeal.sig) → Buf (Elt Ideal) ℓ) (g : Dev Cert.KernelSumdevIdeal.nD → PrngReg), Pre_KernelSumdevIdeal m →
    θ_run (Cert.KernelSumdevIdeal.defs (F := Ideal)) (onTc (τ := Cert.KernelSumdevIdeal.τ) (Cert.KernelSumdevIdeal.main (F := Ideal))) ⟨m, fun _ => 0, g⟩ (fun r => (∀ c : Dev Cert.KernelSumdevIdeal.nD,
      r.2.mem ((c.tc : Thread Cert.KernelSumdevIdeal.nD Cert.KernelSumdevIdeal.τ).loc Cert.KernelSumdevIdeal.main_arg0) = m ((c.tc : Thread Cert.KernelSumdevIdeal.nD Cert.KernelSumdevIdeal.τ).loc Cert.KernelSumdevIdeal.main_arg0))
      ∧ r.2.sem = fun _ => 0)

def quiescent_ReferenceSumdevIdeal [hReferenceSumdevIdeal : Cert.ReferenceSumdevIdeal.Facts] : Prop :=
  ∀ (m : (ℓ : Loc Cert.ReferenceSumdevIdeal.nD Cert.ReferenceSumdevIdeal.τ Cert.ReferenceSumdevIdeal.sig) → Buf (Elt Ideal) ℓ) (g : Dev Cert.ReferenceSumdevIdeal.nD → PrngReg), Pre_ReferenceSumdevIdeal m →
    θ_run (Cert.ReferenceSumdevIdeal.defs (F := Ideal)) (onTc (τ := Cert.ReferenceSumdevIdeal.τ) (Cert.ReferenceSumdevIdeal.main (F := Ideal))) ⟨m, fun _ => 0, g⟩ (fun r => (∀ c : Dev Cert.ReferenceSumdevIdeal.nD,
      r.2.mem ((c.tc : Thread Cert.ReferenceSumdevIdeal.nD Cert.ReferenceSumdevIdeal.τ).loc Cert.ReferenceSumdevIdeal.main_arg0) = m ((c.tc : Thread Cert.ReferenceSumdevIdeal.nD Cert.ReferenceSumdevIdeal.τ).loc Cert.ReferenceSumdevIdeal.main_arg0))
      ∧ r.2.sem = fun _ => 0)

def quiescent_KernelExch [hKernelExch : Cert.KernelExch.Facts] : Prop :=
  ∀ (m : (ℓ : Loc Cert.KernelExch.nD Cert.KernelExch.τ Cert.KernelExch.sig) → Buf (Elt Bits) ℓ) (g : Dev Cert.KernelExch.nD → PrngReg), Pre_KernelExch m →
    θ_run (Cert.KernelExch.defs (F := Bits)) (onTc (τ := Cert.KernelExch.τ) (Cert.KernelExch.main (F := Bits))) ⟨m, fun _ => 0, g⟩ (fun r => (∀ c : Dev Cert.KernelExch.nD,
      r.2.mem ((c.tc : Thread Cert.KernelExch.nD Cert.KernelExch.τ).loc Cert.KernelExch.main_arg0) = m ((c.tc : Thread Cert.KernelExch.nD Cert.KernelExch.τ).loc Cert.KernelExch.main_arg0)
      ∧ r.2.mem ((c.tc : Thread Cert.KernelExch.nD Cert.KernelExch.τ).loc Cert.KernelExch.main_arg1) = m ((c.tc : Thread Cert.KernelExch.nD Cert.KernelExch.τ).loc Cert.KernelExch.main_arg1))
      ∧ r.2.sem = fun _ => 0)

def quiescent_KernelExchIdeal [hKernelExchIdeal : Cert.KernelExchIdeal.Facts] : Prop :=
  ∀ (m : (ℓ : Loc Cert.KernelExchIdeal.nD Cert.KernelExchIdeal.τ Cert.KernelExchIdeal.sig) → Buf (Elt Ideal) ℓ) (g : Dev Cert.KernelExchIdeal.nD → PrngReg), Pre_KernelExchIdeal m →
    θ_run (Cert.KernelExchIdeal.defs (F := Ideal)) (onTc (τ := Cert.KernelExchIdeal.τ) (Cert.KernelExchIdeal.main (F := Ideal))) ⟨m, fun _ => 0, g⟩ (fun r => (∀ c : Dev Cert.KernelExchIdeal.nD,
      r.2.mem ((c.tc : Thread Cert.KernelExchIdeal.nD Cert.KernelExchIdeal.τ).loc Cert.KernelExchIdeal.main_arg0) = m ((c.tc : Thread Cert.KernelExchIdeal.nD Cert.KernelExchIdeal.τ).loc Cert.KernelExchIdeal.main_arg0)
      ∧ r.2.mem ((c.tc : Thread Cert.KernelExchIdeal.nD Cert.KernelExchIdeal.τ).loc Cert.KernelExchIdeal.main_arg1) = m ((c.tc : Thread Cert.KernelExchIdeal.nD Cert.KernelExchIdeal.τ).loc Cert.KernelExchIdeal.main_arg1))
      ∧ r.2.sem = fun _ => 0)

def quiescent_ReferenceExchIdeal [hReferenceExchIdeal : Cert.ReferenceExchIdeal.Facts] : Prop :=
  ∀ (m : (ℓ : Loc Cert.ReferenceExchIdeal.nD Cert.ReferenceExchIdeal.τ Cert.ReferenceExchIdeal.sig) → Buf (Elt Ideal) ℓ) (g : Dev Cert.ReferenceExchIdeal.nD → PrngReg), Pre_ReferenceExchIdeal m →
    θ_run (Cert.ReferenceExchIdeal.defs (F := Ideal)) (onTc (τ := Cert.ReferenceExchIdeal.τ) (Cert.ReferenceExchIdeal.main (F := Ideal))) ⟨m, fun _ => 0, g⟩ (fun r => (∀ c : Dev Cert.ReferenceExchIdeal.nD,
      r.2.mem ((c.tc : Thread Cert.ReferenceExchIdeal.nD Cert.ReferenceExchIdeal.τ).loc Cert.ReferenceExchIdeal.main_arg0) = m ((c.tc : Thread Cert.ReferenceExchIdeal.nD Cert.ReferenceExchIdeal.τ).loc Cert.ReferenceExchIdeal.main_arg0)
      ∧ r.2.mem ((c.tc : Thread Cert.ReferenceExchIdeal.nD Cert.ReferenceExchIdeal.τ).loc Cert.ReferenceExchIdeal.main_arg1) = m ((c.tc : Thread Cert.ReferenceExchIdeal.nD Cert.ReferenceExchIdeal.τ).loc Cert.ReferenceExchIdeal.main_arg1))
      ∧ r.2.sem = fun _ => 0)

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v8) = v0 c
          ∧ r.2.mem ((c.tc : Thread Cert.ReferenceGateIdeal.nD Cert.ReferenceGateIdeal.τ).loc Cert.ReferenceGateIdeal.main_v7) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelFox_KernelFoxIdeal : Prop :=
  IdealRules.named_const.Statement Cert.KernelFoxIdeal.κ "mask" .f32 0xF149F2CA#32 ⊥

def algebraic_KernelFoxIdeal_ReferenceFoxIdeal_pre_finite_fox [hKernelFoxIdeal : Cert.KernelFoxIdeal.Facts] [hReferenceFoxIdeal : Cert.ReferenceFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal_finite_fox m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)
      ∧ m' ((c.tc : Thread Cert.ReferenceFoxIdeal.nD Cert.ReferenceFoxIdeal.τ).loc Cert.ReferenceFoxIdeal.main_arg3) = m ((c.tc : Thread Cert.KernelFoxIdeal.nD Cert.KernelFoxIdeal.τ).loc Cert.KernelFoxIdeal.main_arg3)
      ∧ m' ((c.tc : Thread Cert.ReferenceFoxIdeal.nD Cert.ReferenceFoxIdeal.τ).loc Cert.ReferenceFoxIdeal.main_arg4) = m ((c.tc : Thread Cert.KernelFoxIdeal.nD Cert.KernelFoxIdeal.τ).loc Cert.KernelFoxIdeal.main_arg4)) →
    ∃ (v0 : (c : Dev Cert.KernelFoxIdeal.nD) → Buf (Elt Ideal) ((c.tc : Thread Cert.KernelFoxIdeal.nD Cert.KernelFoxIdeal.τ).loc Cert.KernelFoxIdeal.main_v9_0)) (v1 : (c : Dev Cert.KernelFoxIdeal.nD) → Buf (Elt Ideal) ((c.tc : Thread Cert.KernelFoxIdeal.nD Cert.KernelFoxIdeal.τ).loc Cert.KernelFoxIdeal.main_v9_1)) (v2 : (c : Dev Cert.KernelFoxIdeal.nD) → Buf (Elt Ideal) ((c.tc : Thread Cert.KernelFoxIdeal.nD Cert.KernelFoxIdeal.τ).loc Cert.KernelFoxIdeal.main_v10_0)) (v3 : (c : Dev Cert.KernelFoxIdeal.nD) → Buf (Elt Ideal) ((c.tc : Thread Cert.KernelFoxIdeal.nD Cert.KernelFoxIdeal.τ).loc Cert.KernelFoxIdeal.main_v11_0)) (v4 : (c : Dev Cert.KernelFoxIdeal.nD) → Buf (Elt Ideal) ((c.tc : Thread Cert.KernelFoxIdeal.nD Cert.KernelFoxIdeal.τ).loc Cert.KernelFoxIdeal.main_v11_1)) (v5 : (c : Dev Cert.KernelFoxIdeal.nD) → Buf (Elt Ideal) ((c.tc : Thread Cert.KernelFoxIdeal.nD Cert.KernelFoxIdeal.τ).loc Cert.KernelFoxIdeal.main_v11_2)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v9_0) = v0 c
          ∧ r.2.mem ((c.tc : Thread Cert.KernelFoxIdeal.nD Cert.KernelFoxIdeal.τ).loc Cert.KernelFoxIdeal.main_v9_1) = v1 c
          ∧ r.2.mem ((c.tc : Thread Cert.KernelFoxIdeal.nD Cert.KernelFoxIdeal.τ).loc Cert.KernelFoxIdeal.main_v10_0) = v2 c
          ∧ r.2.mem ((c.tc : Thread Cert.KernelFoxIdeal.nD Cert.KernelFoxIdeal.τ).loc Cert.KernelFoxIdeal.main_v11_0) = v3 c
          ∧ r.2.mem ((c.tc : Thread Cert.KernelFoxIdeal.nD Cert.KernelFoxIdeal.τ).loc Cert.KernelFoxIdeal.main_v11_1) = v4 c
          ∧ r.2.mem ((c.tc : Thread Cert.KernelFoxIdeal.nD Cert.KernelFoxIdeal.τ).loc Cert.KernelFoxIdeal.main_v11_2) = v5 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
          ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
          ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v93) = v0 c
          ∧ r.2.mem ((c.tc : Thread Cert.ReferenceFoxIdeal.nD Cert.ReferenceFoxIdeal.τ).loc Cert.ReferenceFoxIdeal.main_v55) = v1 c
          ∧ r.2.mem ((c.tc : Thread Cert.ReferenceFoxIdeal.nD Cert.ReferenceFoxIdeal.τ).loc Cert.ReferenceFoxIdeal.main_v94) = v2 c
          ∧ r.2.mem ((c.tc : Thread Cert.ReferenceFoxIdeal.nD Cert.ReferenceFoxIdeal.τ).loc Cert.ReferenceFoxIdeal.main_v95) = v3 c
          ∧ r.2.mem ((c.tc : Thread Cert.ReferenceFoxIdeal.nD Cert.ReferenceFoxIdeal.τ).loc Cert.ReferenceFoxIdeal.main_v96) = v4 c
          ∧ r.2.mem ((c.tc : Thread Cert.ReferenceFoxIdeal.nD Cert.ReferenceFoxIdeal.τ).loc Cert.ReferenceFoxIdeal.main_v92) = v5 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2)
          ∧ r.2.mem ((c.tc : Thread Cert.ReferenceFoxIdeal.nD Cert.ReferenceFoxIdeal.τ).loc Cert.ReferenceFoxIdeal.main_arg3) = m' ((c.tc : Thread Cert.ReferenceFoxIdeal.nD Cert.ReferenceFoxIdeal.τ).loc Cert.ReferenceFoxIdeal.main_arg3)
          ∧ r.2.mem ((c.tc : Thread Cert.ReferenceFoxIdeal.nD Cert.ReferenceFoxIdeal.τ).loc Cert.ReferenceFoxIdeal.main_arg4) = m' ((c.tc : Thread Cert.ReferenceFoxIdeal.nD Cert.ReferenceFoxIdeal.τ).loc Cert.ReferenceFoxIdeal.main_arg4))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)) →
    ∃ (v0 : (c : Dev Cert.KernelMlpIdeal.nD) → Buf (Elt Ideal) ((c.tc : Thread Cert.KernelMlpIdeal.nD Cert.KernelMlpIdeal.τ).loc Cert.KernelMlpIdeal.main_v0)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v0) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v15) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v2_0)) (v1 : (c : Dev Cert.KernelMixIdeal.nD) → Buf (Elt Ideal) ((c.tc : Thread Cert.KernelMixIdeal.nD Cert.KernelMixIdeal.τ).loc Cert.KernelMixIdeal.main_v2_1)) (v2 : (c : Dev Cert.KernelMixIdeal.nD) → Buf (Elt Ideal) ((c.tc : Thread Cert.KernelMixIdeal.nD Cert.KernelMixIdeal.τ).loc Cert.KernelMixIdeal.main_v2_2)) (v3 : (c : Dev Cert.KernelMixIdeal.nD) → Buf (Elt Ideal) ((c.tc : Thread Cert.KernelMixIdeal.nD Cert.KernelMixIdeal.τ).loc Cert.KernelMixIdeal.main_v2_3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2_0) = v0 c
          ∧ r.2.mem ((c.tc : Thread Cert.KernelMixIdeal.nD Cert.KernelMixIdeal.τ).loc Cert.KernelMixIdeal.main_v2_1) = v1 c
          ∧ r.2.mem ((c.tc : Thread Cert.KernelMixIdeal.nD Cert.KernelMixIdeal.τ).loc Cert.KernelMixIdeal.main_v2_2) = v2 c
          ∧ r.2.mem ((c.tc : Thread Cert.KernelMixIdeal.nD Cert.KernelMixIdeal.τ).loc Cert.KernelMixIdeal.main_v2_3) = v3 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v38) = v0 c
          ∧ r.2.mem ((c.tc : Thread Cert.ReferenceMixIdeal.nD Cert.ReferenceMixIdeal.τ).loc Cert.ReferenceMixIdeal.main_v39) = v1 c
          ∧ r.2.mem ((c.tc : Thread Cert.ReferenceMixIdeal.nD Cert.ReferenceMixIdeal.τ).loc Cert.ReferenceMixIdeal.main_v36) = v2 c
          ∧ r.2.mem ((c.tc : Thread Cert.ReferenceMixIdeal.nD Cert.ReferenceMixIdeal.τ).loc Cert.ReferenceMixIdeal.main_v41) = v3 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelAct_KernelActIdeal : Prop :=
  IdealRules.named_const.Statement Cert.KernelActIdeal.κ "inv_sqrt_2" .f32 0x3F3504F3#32 (((Real.sqrt 2)⁻¹ : ℝ) : EReal)
  ∧ IdealRules.named_const.Statement Cert.KernelActIdeal.κ "inv_sqrt_2pi" .f32 0x3ECC422A#32 ((9465531 * (16777216 * (Real.sqrt 2))⁻¹ : ℝ) : EReal)

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v1_0)) (v1 : (c : Dev Cert.KernelActIdeal.nD) → Buf (Elt Ideal) ((c.tc : Thread Cert.KernelActIdeal.nD Cert.KernelActIdeal.τ).loc Cert.KernelActIdeal.main_v1_1)) (v2 : (c : Dev Cert.KernelActIdeal.nD) → Buf (Elt Ideal) ((c.tc : Thread Cert.KernelActIdeal.nD Cert.KernelActIdeal.τ).loc Cert.KernelActIdeal.main_v1_2)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v1_0) = v0 c
          ∧ r.2.mem ((c.tc : Thread Cert.KernelActIdeal.nD Cert.KernelActIdeal.τ).loc Cert.KernelActIdeal.main_v1_1) = v1 c
          ∧ r.2.mem ((c.tc : Thread Cert.KernelActIdeal.nD Cert.KernelActIdeal.τ).loc Cert.KernelActIdeal.main_v1_2) = v2 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v91) = v0 c
          ∧ r.2.mem ((c.tc : Thread Cert.ReferenceActIdeal.nD Cert.ReferenceActIdeal.τ).loc Cert.ReferenceActIdeal.main_v92) = v1 c
          ∧ r.2.mem ((c.tc : Thread Cert.ReferenceActIdeal.nD Cert.ReferenceActIdeal.τ).loc Cert.ReferenceActIdeal.main_v93) = v2 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelFcum_KernelFcumIdeal : Prop :=
  True

def algebraic_KernelFcumIdeal_ReferenceFcumIdeal [hKernelFcumIdeal : Cert.KernelFcumIdeal.Facts] [hReferenceFcumIdeal : Cert.ReferenceFcumIdeal.Facts] : Prop :=
  ∀ (m : (ℓ : Loc Cert.KernelFcumIdeal.nD Cert.KernelFcumIdeal.τ Cert.KernelFcumIdeal.sig) → Buf (Elt Ideal) ℓ) (g : Dev Cert.KernelFcumIdeal.nD → PrngReg)
    (m' : (ℓ : Loc Cert.ReferenceFcumIdeal.nD Cert.ReferenceFcumIdeal.τ Cert.ReferenceFcumIdeal.sig) → Buf (Elt Ideal) ℓ) (g' : Dev Cert.ReferenceFcumIdeal.nD → PrngReg), Pre_KernelFcumIdeal m →
    (∀ c : Dev Cert.KernelFcumIdeal.nD,
      m' ((c.tc : Thread Cert.ReferenceFcumIdeal.nD Cert.ReferenceFcumIdeal.τ).loc Cert.ReferenceFcumIdeal.main_arg0) = m ((c.tc : Thread Cert.KernelFcumIdeal.nD Cert.KernelFcumIdeal.τ).loc Cert.KernelFcumIdeal.main_arg0)
      ∧ m' ((c.tc : Thread Cert.ReferenceFcumIdeal.nD Cert.ReferenceFcumIdeal.τ).loc Cert.ReferenceFcumIdeal.main_arg1) = m ((c.tc : Thread Cert.KernelFcumIdeal.nD Cert.KernelFcumIdeal.τ).loc Cert.KernelFcumIdeal.main_arg1)
      ∧ m' ((c.tc : Thread Cert.ReferenceFcumIdeal.nD Cert.ReferenceFcumIdeal.τ).loc Cert.ReferenceFcumIdeal.main_arg2) = m ((c.tc : Thread Cert.KernelFcumIdeal.nD Cert.KernelFcumIdeal.τ).loc Cert.KernelFcumIdeal.main_arg2)
      ∧ m' ((c.tc : Thread Cert.ReferenceFcumIdeal.nD Cert.ReferenceFcumIdeal.τ).loc Cert.ReferenceFcumIdeal.main_arg3) = m ((c.tc : Thread Cert.KernelFcumIdeal.nD Cert.KernelFcumIdeal.τ).loc Cert.KernelFcumIdeal.main_arg3)) →
    ∃ (v0 : (c : Dev Cert.KernelFcumIdeal.nD) → Buf (Elt Ideal) ((c.tc : Thread Cert.KernelFcumIdeal.nD Cert.KernelFcumIdeal.τ).loc Cert.KernelFcumIdeal.main_v6_0)) (v1 : (c : Dev Cert.KernelFcumIdeal.nD) → Buf (Elt Ideal) ((c.tc : Thread Cert.KernelFcumIdeal.nD Cert.KernelFcumIdeal.τ).loc Cert.KernelFcumIdeal.main_v6_1)),
      θ_run (Cert.KernelFcumIdeal.defs (F := Ideal)) (onTc (τ := Cert.KernelFcumIdeal.τ) (Cert.KernelFcumIdeal.main (F := Ideal))) ⟨m, fun _ => 0, g⟩ (fun r => ∀ c : Dev Cert.KernelFcumIdeal.nD,
          r.2.mem ((c.tc : Thread Cert.KernelFcumIdeal.nD Cert.KernelFcumIdeal.τ).loc Cert.KernelFcumIdeal.main_v6_0) = v0 c
          ∧ r.2.mem ((c.tc : Thread Cert.KernelFcumIdeal.nD Cert.KernelFcumIdeal.τ).loc Cert.KernelFcumIdeal.main_v6_1) = v1 c
          ∧ r.2.mem ((c.tc : Thread Cert.KernelFcumIdeal.nD Cert.KernelFcumIdeal.τ).loc Cert.KernelFcumIdeal.main_arg0) = m ((c.tc : Thread Cert.KernelFcumIdeal.nD Cert.KernelFcumIdeal.τ).loc Cert.KernelFcumIdeal.main_arg0)
          ∧ r.2.mem ((c.tc : Thread Cert.KernelFcumIdeal.nD Cert.KernelFcumIdeal.τ).loc Cert.KernelFcumIdeal.main_arg1) = m ((c.tc : Thread Cert.KernelFcumIdeal.nD Cert.KernelFcumIdeal.τ).loc Cert.KernelFcumIdeal.main_arg1)
          ∧ r.2.mem ((c.tc : Thread Cert.KernelFcumIdeal.nD Cert.KernelFcumIdeal.τ).loc Cert.KernelFcumIdeal.main_arg2) = m ((c.tc : Thread Cert.KernelFcumIdeal.nD Cert.KernelFcumIdeal.τ).loc Cert.KernelFcumIdeal.main_arg2)
          ∧ r.2.mem ((c.tc : Thread Cert.KernelFcumIdeal.nD Cert.KernelFcumIdeal.τ).loc Cert.KernelFcumIdeal.main_arg3) = m ((c.tc : Thread Cert.KernelFcumIdeal.nD Cert.KernelFcumIdeal.τ).loc Cert.KernelFcumIdeal.main_arg3))
      ∧ θ_run (Cert.ReferenceFcumIdeal.defs (F := Ideal)) (onTc (τ := Cert.ReferenceFcumIdeal.τ) (Cert.ReferenceFcumIdeal.main (F := Ideal))) ⟨m', fun _ => 0, g'⟩ (fun r => ∀ c : Dev Cert.ReferenceFcumIdeal.nD,
          r.2.mem ((c.tc : Thread Cert.ReferenceFcumIdeal.nD Cert.ReferenceFcumIdeal.τ).loc Cert.ReferenceFcumIdeal.main_v14) = v0 c
          ∧ r.2.mem ((c.tc : Thread Cert.ReferenceFcumIdeal.nD Cert.ReferenceFcumIdeal.τ).loc Cert.ReferenceFcumIdeal.main_v16) = v1 c
          ∧ r.2.mem ((c.tc : Thread Cert.ReferenceFcumIdeal.nD Cert.ReferenceFcumIdeal.τ).loc Cert.ReferenceFcumIdeal.main_arg0) = m' ((c.tc : Thread Cert.ReferenceFcumIdeal.nD Cert.ReferenceFcumIdeal.τ).loc Cert.ReferenceFcumIdeal.main_arg0)
          ∧ r.2.mem ((c.tc : Thread Cert.ReferenceFcumIdeal.nD Cert.ReferenceFcumIdeal.τ).loc Cert.ReferenceFcumIdeal.main_arg1) = m' ((c.tc : Thread Cert.ReferenceFcumIdeal.nD Cert.ReferenceFcumIdeal.τ).loc Cert.ReferenceFcumIdeal.main_arg1)
          ∧ r.2.mem ((c.tc : Thread Cert.ReferenceFcumIdeal.nD Cert.ReferenceFcumIdeal.τ).loc Cert.ReferenceFcumIdeal.main_arg2) = m' ((c.tc : Thread Cert.ReferenceFcumIdeal.nD Cert.ReferenceFcumIdeal.τ).loc Cert.ReferenceFcumIdeal.main_arg2)
          ∧ r.2.mem ((c.tc : Thread Cert.ReferenceFcumIdeal.nD Cert.ReferenceFcumIdeal.τ).loc Cert.ReferenceFcumIdeal.main_arg3) = m' ((c.tc : Thread Cert.ReferenceFcumIdeal.nD Cert.ReferenceFcumIdeal.τ).loc Cert.ReferenceFcumIdeal.main_arg3))

def preserves_KernelModnorm_KernelModnormIdeal : Prop :=
  True

def algebraic_KernelModnormIdeal_ReferenceModnormIdeal_pre_finite_modnorm [hKernelModnormIdeal : Cert.KernelModnormIdeal.Facts] [hReferenceModnormIdeal : Cert.ReferenceModnormIdeal.Facts] [hPre_finite_modnorm : Cert.Pre_finite_modnorm.Facts] : Prop :=
  ∀ (m : (ℓ : Loc Cert.KernelModnormIdeal.nD Cert.KernelModnormIdeal.τ Cert.KernelModnormIdeal.sig) → Buf (Elt Ideal) ℓ) (g : Dev Cert.KernelModnormIdeal.nD → PrngReg)
    (m' : (ℓ : Loc Cert.ReferenceModnormIdeal.nD Cert.ReferenceModnormIdeal.τ Cert.ReferenceModnormIdeal.sig) → Buf (Elt Ideal) ℓ) (g' : Dev Cert.ReferenceModnormIdeal.nD → PrngReg), Pre_KernelModnormIdeal_finite_modnorm m →
    (∀ c : Dev Cert.KernelModnormIdeal.nD,
      m' ((c.tc : Thread Cert.ReferenceModnormIdeal.nD Cert.ReferenceModnormIdeal.τ).loc Cert.ReferenceModnormIdeal.main_arg0) = m ((c.tc : Thread Cert.KernelModnormIdeal.nD Cert.KernelModnormIdeal.τ).loc Cert.KernelModnormIdeal.main_arg0)
      ∧ m' ((c.tc : Thread Cert.ReferenceModnormIdeal.nD Cert.ReferenceModnormIdeal.τ).loc Cert.ReferenceModnormIdeal.main_arg1) = m ((c.tc : Thread Cert.KernelModnormIdeal.nD Cert.KernelModnormIdeal.τ).loc Cert.KernelModnormIdeal.main_arg1)
      ∧ m' ((c.tc : Thread Cert.ReferenceModnormIdeal.nD Cert.ReferenceModnormIdeal.τ).loc Cert.ReferenceModnormIdeal.main_arg2) = m ((c.tc : Thread Cert.KernelModnormIdeal.nD Cert.KernelModnormIdeal.τ).loc Cert.KernelModnormIdeal.main_arg2)
      ∧ m' ((c.tc : Thread Cert.ReferenceModnormIdeal.nD Cert.ReferenceModnormIdeal.τ).loc Cert.ReferenceModnormIdeal.main_arg3) = m ((c.tc : Thread Cert.KernelModnormIdeal.nD Cert.KernelModnormIdeal.τ).loc Cert.KernelModnormIdeal.main_arg3)
      ∧ m' ((c.tc : Thread Cert.ReferenceModnormIdeal.nD Cert.ReferenceModnormIdeal.τ).loc Cert.ReferenceModnormIdeal.main_arg4) = m ((c.tc : Thread Cert.KernelModnormIdeal.nD Cert.KernelModnormIdeal.τ).loc Cert.KernelModnormIdeal.main_arg4)) →
    ∃ (v0 : (c : Dev Cert.KernelModnormIdeal.nD) → Buf (Elt Ideal) ((c.tc : Thread Cert.KernelModnormIdeal.nD Cert.KernelModnormIdeal.τ).loc Cert.KernelModnormIdeal.main_v1_0)) (v1 : (c : Dev Cert.KernelModnormIdeal.nD) → Buf (Elt Ideal) ((c.tc : Thread Cert.KernelModnormIdeal.nD Cert.KernelModnormIdeal.τ).loc Cert.KernelModnormIdeal.main_v1_1)) (v2 : (c : Dev Cert.KernelModnormIdeal.nD) → Buf (Elt Ideal) ((c.tc : Thread Cert.KernelModnormIdeal.nD Cert.KernelModnormIdeal.τ).loc Cert.KernelModnormIdeal.main_v1_2)) (v3 : (c : Dev Cert.KernelModnormIdeal.nD) → Buf (Elt Ideal) ((c.tc : Thread Cert.KernelModnormIdeal.nD Cert.KernelModnormIdeal.τ).loc Cert.KernelModnormIdeal.main_v1_3)),
      θ_run (Cert.KernelModnormIdeal.defs (F := Ideal)) (onTc (τ := Cert.KernelModnormIdeal.τ) (Cert.KernelModnormIdeal.main (F := Ideal))) ⟨m, fun _ => 0, g⟩ (fun r => ∀ c : Dev Cert.KernelModnormIdeal.nD,
          r.2.mem ((c.tc : Thread Cert.KernelModnormIdeal.nD Cert.KernelModnormIdeal.τ).loc Cert.KernelModnormIdeal.main_v1_0) = v0 c
          ∧ r.2.mem ((c.tc : Thread Cert.KernelModnormIdeal.nD Cert.KernelModnormIdeal.τ).loc Cert.KernelModnormIdeal.main_v1_1) = v1 c
          ∧ r.2.mem ((c.tc : Thread Cert.KernelModnormIdeal.nD Cert.KernelModnormIdeal.τ).loc Cert.KernelModnormIdeal.main_v1_2) = v2 c
          ∧ r.2.mem ((c.tc : Thread Cert.KernelModnormIdeal.nD Cert.KernelModnormIdeal.τ).loc Cert.KernelModnormIdeal.main_v1_3) = v3 c
          ∧ r.2.mem ((c.tc : Thread Cert.KernelModnormIdeal.nD Cert.KernelModnormIdeal.τ).loc Cert.KernelModnormIdeal.main_arg0) = m ((c.tc : Thread Cert.KernelModnormIdeal.nD Cert.KernelModnormIdeal.τ).loc Cert.KernelModnormIdeal.main_arg0)
          ∧ r.2.mem ((c.tc : Thread Cert.KernelModnormIdeal.nD Cert.KernelModnormIdeal.τ).loc Cert.KernelModnormIdeal.main_arg1) = m ((c.tc : Thread Cert.KernelModnormIdeal.nD Cert.KernelModnormIdeal.τ).loc Cert.KernelModnormIdeal.main_arg1)
          ∧ r.2.mem ((c.tc : Thread Cert.KernelModnormIdeal.nD Cert.KernelModnormIdeal.τ).loc Cert.KernelModnormIdeal.main_arg2) = m ((c.tc : Thread Cert.KernelModnormIdeal.nD Cert.KernelModnormIdeal.τ).loc Cert.KernelModnormIdeal.main_arg2)
          ∧ r.2.mem ((c.tc : Thread Cert.KernelModnormIdeal.nD Cert.KernelModnormIdeal.τ).loc Cert.KernelModnormIdeal.main_arg3) = m ((c.tc : Thread Cert.KernelModnormIdeal.nD Cert.KernelModnormIdeal.τ).loc Cert.KernelModnormIdeal.main_arg3)
          ∧ r.2.mem ((c.tc : Thread Cert.KernelModnormIdeal.nD Cert.KernelModnormIdeal.τ).loc Cert.KernelModnormIdeal.main_arg4) = m ((c.tc : Thread Cert.KernelModnormIdeal.nD Cert.KernelModnormIdeal.τ).loc Cert.KernelModnormIdeal.main_arg4))
      ∧ θ_run (Cert.ReferenceModnormIdeal.defs (F := Ideal)) (onTc (τ := Cert.ReferenceModnormIdeal.τ) (Cert.ReferenceModnormIdeal.main (F := Ideal))) ⟨m', fun _ => 0, g'⟩ (fun r => ∀ c : Dev Cert.ReferenceModnormIdeal.nD,
          r.2.mem ((c.tc : Thread Cert.ReferenceModnormIdeal.nD Cert.ReferenceModnormIdeal.τ).loc Cert.ReferenceModnormIdeal.main_v51) = v0 c
          ∧ r.2.mem ((c.tc : Thread Cert.ReferenceModnormIdeal.nD Cert.ReferenceModnormIdeal.τ).loc Cert.ReferenceModnormIdeal.main_v25) = v1 c
          ∧ r.2.mem ((c.tc : Thread Cert.ReferenceModnormIdeal.nD Cert.ReferenceModnormIdeal.τ).loc Cert.ReferenceModnormIdeal.main_v52) = v2 c
          ∧ r.2.mem ((c.tc : Thread Cert.ReferenceModnormIdeal.nD Cert.ReferenceModnormIdeal.τ).loc Cert.ReferenceModnormIdeal.main_v28) = v3 c
          ∧ r.2.mem ((c.tc : Thread Cert.ReferenceModnormIdeal.nD Cert.ReferenceModnormIdeal.τ).loc Cert.ReferenceModnormIdeal.main_arg0) = m' ((c.tc : Thread Cert.ReferenceModnormIdeal.nD Cert.ReferenceModnormIdeal.τ).loc Cert.ReferenceModnormIdeal.main_arg0)
          ∧ r.2.mem ((c.tc : Thread Cert.ReferenceModnormIdeal.nD Cert.ReferenceModnormIdeal.τ).loc Cert.ReferenceModnormIdeal.main_arg1) = m' ((c.tc : Thread Cert.ReferenceModnormIdeal.nD Cert.ReferenceModnormIdeal.τ).loc Cert.ReferenceModnormIdeal.main_arg1)
          ∧ r.2.mem ((c.tc : Thread Cert.ReferenceModnormIdeal.nD Cert.ReferenceModnormIdeal.τ).loc Cert.ReferenceModnormIdeal.main_arg2) = m' ((c.tc : Thread Cert.ReferenceModnormIdeal.nD Cert.ReferenceModnormIdeal.τ).loc Cert.ReferenceModnormIdeal.main_arg2)
          ∧ r.2.mem ((c.tc : Thread Cert.ReferenceModnormIdeal.nD Cert.ReferenceModnormIdeal.τ).loc Cert.ReferenceModnormIdeal.main_arg3) = m' ((c.tc : Thread Cert.ReferenceModnormIdeal.nD Cert.ReferenceModnormIdeal.τ).loc Cert.ReferenceModnormIdeal.main_arg3)
          ∧ r.2.mem ((c.tc : Thread Cert.ReferenceModnormIdeal.nD Cert.ReferenceModnormIdeal.τ).loc Cert.ReferenceModnormIdeal.main_arg4) = m' ((c.tc : Thread Cert.ReferenceModnormIdeal.nD Cert.ReferenceModnormIdeal.τ).loc Cert.ReferenceModnormIdeal.main_arg4))

def preserves_KernelQnorm_KernelQnormIdeal : Prop :=
  True

def algebraic_KernelQnormIdeal_ReferenceQnormIdeal [hKernelQnormIdeal : Cert.KernelQnormIdeal.Facts] [hReferenceQnormIdeal : Cert.ReferenceQnormIdeal.Facts] : Prop :=
  ∀ (m : (ℓ : Loc Cert.KernelQnormIdeal.nD Cert.KernelQnormIdeal.τ Cert.KernelQnormIdeal.sig) → Buf (Elt Ideal) ℓ) (g : Dev Cert.KernelQnormIdeal.nD → PrngReg)
    (m' : (ℓ : Loc Cert.ReferenceQnormIdeal.nD Cert.ReferenceQnormIdeal.τ Cert.ReferenceQnormIdeal.sig) → Buf (Elt Ideal) ℓ) (g' : Dev Cert.ReferenceQnormIdeal.nD → PrngReg), Pre_KernelQnormIdeal m →
    (∀ c : Dev Cert.KernelQnormIdeal.nD,
      m' ((c.tc : Thread Cert.ReferenceQnormIdeal.nD Cert.ReferenceQnormIdeal.τ).loc Cert.ReferenceQnormIdeal.main_arg0) = m ((c.tc : Thread Cert.KernelQnormIdeal.nD Cert.KernelQnormIdeal.τ).loc Cert.KernelQnormIdeal.main_arg0)
      ∧ m' ((c.tc : Thread Cert.ReferenceQnormIdeal.nD Cert.ReferenceQnormIdeal.τ).loc Cert.ReferenceQnormIdeal.main_arg1) = m ((c.tc : Thread Cert.KernelQnormIdeal.nD Cert.KernelQnormIdeal.τ).loc Cert.KernelQnormIdeal.main_arg1)
      ∧ m' ((c.tc : Thread Cert.ReferenceQnormIdeal.nD Cert.ReferenceQnormIdeal.τ).loc Cert.ReferenceQnormIdeal.main_arg2) = m ((c.tc : Thread Cert.KernelQnormIdeal.nD Cert.KernelQnormIdeal.τ).loc Cert.KernelQnormIdeal.main_arg2)) →
    ∃ (v0 : (c : Dev Cert.KernelQnormIdeal.nD) → Buf (Elt Ideal) ((c.tc : Thread Cert.KernelQnormIdeal.nD Cert.KernelQnormIdeal.τ).loc Cert.KernelQnormIdeal.main_v1_0)) (v1 : (c : Dev Cert.KernelQnormIdeal.nD) → Buf (Elt Ideal) ((c.tc : Thread Cert.KernelQnormIdeal.nD Cert.KernelQnormIdeal.τ).loc Cert.KernelQnormIdeal.main_v1_1)),
      θ_run (Cert.KernelQnormIdeal.defs (F := Ideal)) (onTc (τ := Cert.KernelQnormIdeal.τ) (Cert.KernelQnormIdeal.main (F := Ideal))) ⟨m, fun _ => 0, g⟩ (fun r => ∀ c : Dev Cert.KernelQnormIdeal.nD,
          r.2.mem ((c.tc : Thread Cert.KernelQnormIdeal.nD Cert.KernelQnormIdeal.τ).loc Cert.KernelQnormIdeal.main_v1_0) = v0 c
          ∧ r.2.mem ((c.tc : Thread Cert.KernelQnormIdeal.nD Cert.KernelQnormIdeal.τ).loc Cert.KernelQnormIdeal.main_v1_1) = v1 c
          ∧ r.2.mem ((c.tc : Thread Cert.KernelQnormIdeal.nD Cert.KernelQnormIdeal.τ).loc Cert.KernelQnormIdeal.main_arg0) = m ((c.tc : Thread Cert.KernelQnormIdeal.nD Cert.KernelQnormIdeal.τ).loc Cert.KernelQnormIdeal.main_arg0)
          ∧ r.2.mem ((c.tc : Thread Cert.KernelQnormIdeal.nD Cert.KernelQnormIdeal.τ).loc Cert.KernelQnormIdeal.main_arg1) = m ((c.tc : Thread Cert.KernelQnormIdeal.nD Cert.KernelQnormIdeal.τ).loc Cert.KernelQnormIdeal.main_arg1)
          ∧ r.2.mem ((c.tc : Thread Cert.KernelQnormIdeal.nD Cert.KernelQnormIdeal.τ).loc Cert.KernelQnormIdeal.main_arg2) = m ((c.tc : Thread Cert.KernelQnormIdeal.nD Cert.KernelQnormIdeal.τ).loc Cert.KernelQnormIdeal.main_arg2))
      ∧ θ_run (Cert.ReferenceQnormIdeal.defs (F := Ideal)) (onTc (τ := Cert.ReferenceQnormIdeal.τ) (Cert.ReferenceQnormIdeal.main (F := Ideal))) ⟨m', fun _ => 0, g'⟩ (fun r => ∀ c : Dev Cert.ReferenceQnormIdeal.nD,
          r.2.mem ((c.tc : Thread Cert.ReferenceQnormIdeal.nD Cert.ReferenceQnormIdeal.τ).loc Cert.ReferenceQnormIdeal.main_v41) = v0 c
          ∧ r.2.mem ((c.tc : Thread Cert.ReferenceQnormIdeal.nD Cert.ReferenceQnormIdeal.τ).loc Cert.ReferenceQnormIdeal.main_v42) = v1 c
          ∧ r.2.mem ((c.tc : Thread Cert.ReferenceQnormIdeal.nD Cert.ReferenceQnormIdeal.τ).loc Cert.ReferenceQnormIdeal.main_arg0) = m' ((c.tc : Thread Cert.ReferenceQnormIdeal.nD Cert.ReferenceQnormIdeal.τ).loc Cert.ReferenceQnormIdeal.main_arg0)
          ∧ r.2.mem ((c.tc : Thread Cert.ReferenceQnormIdeal.nD Cert.ReferenceQnormIdeal.τ).loc Cert.ReferenceQnormIdeal.main_arg1) = m' ((c.tc : Thread Cert.ReferenceQnormIdeal.nD Cert.ReferenceQnormIdeal.τ).loc Cert.ReferenceQnormIdeal.main_arg1)
          ∧ r.2.mem ((c.tc : Thread Cert.ReferenceQnormIdeal.nD Cert.ReferenceQnormIdeal.τ).loc Cert.ReferenceQnormIdeal.main_arg2) = m' ((c.tc : Thread Cert.ReferenceQnormIdeal.nD Cert.ReferenceQnormIdeal.τ).loc Cert.ReferenceQnormIdeal.main_arg2))

def preserves_KernelKnorm_KernelKnormIdeal : Prop :=
  True

def algebraic_KernelKnormIdeal_ReferenceKnormIdeal [hKernelKnormIdeal : Cert.KernelKnormIdeal.Facts] [hReferenceKnormIdeal : Cert.ReferenceKnormIdeal.Facts] : Prop :=
  ∀ (m : (ℓ : Loc Cert.KernelKnormIdeal.nD Cert.KernelKnormIdeal.τ Cert.KernelKnormIdeal.sig) → Buf (Elt Ideal) ℓ) (g : Dev Cert.KernelKnormIdeal.nD → PrngReg)
    (m' : (ℓ : Loc Cert.ReferenceKnormIdeal.nD Cert.ReferenceKnormIdeal.τ Cert.ReferenceKnormIdeal.sig) → Buf (Elt Ideal) ℓ) (g' : Dev Cert.ReferenceKnormIdeal.nD → PrngReg), Pre_KernelKnormIdeal m →
    (∀ c : Dev Cert.KernelKnormIdeal.nD,
      m' ((c.tc : Thread Cert.ReferenceKnormIdeal.nD Cert.ReferenceKnormIdeal.τ).loc Cert.ReferenceKnormIdeal.main_arg0) = m ((c.tc : Thread Cert.KernelKnormIdeal.nD Cert.KernelKnormIdeal.τ).loc Cert.KernelKnormIdeal.main_arg0)
      ∧ m' ((c.tc : Thread Cert.ReferenceKnormIdeal.nD Cert.ReferenceKnormIdeal.τ).loc Cert.ReferenceKnormIdeal.main_arg1) = m ((c.tc : Thread Cert.KernelKnormIdeal.nD Cert.KernelKnormIdeal.τ).loc Cert.KernelKnormIdeal.main_arg1)
      ∧ m' ((c.tc : Thread Cert.ReferenceKnormIdeal.nD Cert.ReferenceKnormIdeal.τ).loc Cert.ReferenceKnormIdeal.main_arg2) = m ((c.tc : Thread Cert.KernelKnormIdeal.nD Cert.KernelKnormIdeal.τ).loc Cert.KernelKnormIdeal.main_arg2)
      ∧ m' ((c.tc : Thread Cert.ReferenceKnormIdeal.nD Cert.ReferenceKnormIdeal.τ).loc Cert.ReferenceKnormIdeal.main_arg3) = m ((c.tc : Thread Cert.KernelKnormIdeal.nD Cert.KernelKnormIdeal.τ).loc Cert.KernelKnormIdeal.main_arg3)) →
    ∃ (v0 : (c : Dev Cert.KernelKnormIdeal.nD) → Buf (Elt Ideal) ((c.tc : Thread Cert.KernelKnormIdeal.nD Cert.KernelKnormIdeal.τ).loc Cert.KernelKnormIdeal.main_v1_0)) (v1 : (c : Dev Cert.KernelKnormIdeal.nD) → Buf (Elt Ideal) ((c.tc : Thread Cert.KernelKnormIdeal.nD Cert.KernelKnormIdeal.τ).loc Cert.KernelKnormIdeal.main_v1_1)),
      θ_run (Cert.KernelKnormIdeal.defs (F := Ideal)) (onTc (τ := Cert.KernelKnormIdeal.τ) (Cert.KernelKnormIdeal.main (F := Ideal))) ⟨m, fun _ => 0, g⟩ (fun r => ∀ c : Dev Cert.KernelKnormIdeal.nD,
          r.2.mem ((c.tc : Thread Cert.KernelKnormIdeal.nD Cert.KernelKnormIdeal.τ).loc Cert.KernelKnormIdeal.main_v1_0) = v0 c
          ∧ r.2.mem ((c.tc : Thread Cert.KernelKnormIdeal.nD Cert.KernelKnormIdeal.τ).loc Cert.KernelKnormIdeal.main_v1_1) = v1 c
          ∧ r.2.mem ((c.tc : Thread Cert.KernelKnormIdeal.nD Cert.KernelKnormIdeal.τ).loc Cert.KernelKnormIdeal.main_arg0) = m ((c.tc : Thread Cert.KernelKnormIdeal.nD Cert.KernelKnormIdeal.τ).loc Cert.KernelKnormIdeal.main_arg0)
          ∧ r.2.mem ((c.tc : Thread Cert.KernelKnormIdeal.nD Cert.KernelKnormIdeal.τ).loc Cert.KernelKnormIdeal.main_arg1) = m ((c.tc : Thread Cert.KernelKnormIdeal.nD Cert.KernelKnormIdeal.τ).loc Cert.KernelKnormIdeal.main_arg1)
          ∧ r.2.mem ((c.tc : Thread Cert.KernelKnormIdeal.nD Cert.KernelKnormIdeal.τ).loc Cert.KernelKnormIdeal.main_arg2) = m ((c.tc : Thread Cert.KernelKnormIdeal.nD Cert.KernelKnormIdeal.τ).loc Cert.KernelKnormIdeal.main_arg2)
          ∧ r.2.mem ((c.tc : Thread Cert.KernelKnormIdeal.nD Cert.KernelKnormIdeal.τ).loc Cert.KernelKnormIdeal.main_arg3) = m ((c.tc : Thread Cert.KernelKnormIdeal.nD Cert.KernelKnormIdeal.τ).loc Cert.KernelKnormIdeal.main_arg3))
      ∧ θ_run (Cert.ReferenceKnormIdeal.defs (F := Ideal)) (onTc (τ := Cert.ReferenceKnormIdeal.τ) (Cert.ReferenceKnormIdeal.main (F := Ideal))) ⟨m', fun _ => 0, g'⟩ (fun r => ∀ c : Dev Cert.ReferenceKnormIdeal.nD,
          r.2.mem ((c.tc : Thread Cert.ReferenceKnormIdeal.nD Cert.ReferenceKnormIdeal.τ).loc Cert.ReferenceKnormIdeal.main_v47) = v0 c
          ∧ r.2.mem ((c.tc : Thread Cert.ReferenceKnormIdeal.nD Cert.ReferenceKnormIdeal.τ).loc Cert.ReferenceKnormIdeal.main_v48) = v1 c
          ∧ r.2.mem ((c.tc : Thread Cert.ReferenceKnormIdeal.nD Cert.ReferenceKnormIdeal.τ).loc Cert.ReferenceKnormIdeal.main_arg0) = m' ((c.tc : Thread Cert.ReferenceKnormIdeal.nD Cert.ReferenceKnormIdeal.τ).loc Cert.ReferenceKnormIdeal.main_arg0)
          ∧ r.2.mem ((c.tc : Thread Cert.ReferenceKnormIdeal.nD Cert.ReferenceKnormIdeal.τ).loc Cert.ReferenceKnormIdeal.main_arg1) = m' ((c.tc : Thread Cert.ReferenceKnormIdeal.nD Cert.ReferenceKnormIdeal.τ).loc Cert.ReferenceKnormIdeal.main_arg1)
          ∧ r.2.mem ((c.tc : Thread Cert.ReferenceKnormIdeal.nD Cert.ReferenceKnormIdeal.τ).loc Cert.ReferenceKnormIdeal.main_arg2) = m' ((c.tc : Thread Cert.ReferenceKnormIdeal.nD Cert.ReferenceKnormIdeal.τ).loc Cert.ReferenceKnormIdeal.main_arg2)
          ∧ r.2.mem ((c.tc : Thread Cert.ReferenceKnormIdeal.nD Cert.ReferenceKnormIdeal.τ).loc Cert.ReferenceKnormIdeal.main_arg3) = m' ((c.tc : Thread Cert.ReferenceKnormIdeal.nD Cert.ReferenceKnormIdeal.τ).loc Cert.ReferenceKnormIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v3) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v8) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelMixfwd_KernelMixfwdIdeal : Prop :=
  True

def algebraic_KernelMixfwdIdeal_ReferenceMixfwdIdeal [hKernelMixfwdIdeal : Cert.KernelMixfwdIdeal.Facts] [hReferenceMixfwdIdeal : Cert.ReferenceMixfwdIdeal.Facts] : Prop :=
  ∀ (m : (ℓ : Loc Cert.KernelMixfwdIdeal.nD Cert.KernelMixfwdIdeal.τ Cert.KernelMixfwdIdeal.sig) → Buf (Elt Ideal) ℓ) (g : Dev Cert.KernelMixfwdIdeal.nD → PrngReg)
    (m' : (ℓ : Loc Cert.ReferenceMixfwdIdeal.nD Cert.ReferenceMixfwdIdeal.τ Cert.ReferenceMixfwdIdeal.sig) → Buf (Elt Ideal) ℓ) (g' : Dev Cert.ReferenceMixfwdIdeal.nD → PrngReg), Pre_KernelMixfwdIdeal m →
    (∀ c : Dev Cert.KernelMixfwdIdeal.nD,
      m' ((c.tc : Thread Cert.ReferenceMixfwdIdeal.nD Cert.ReferenceMixfwdIdeal.τ).loc Cert.ReferenceMixfwdIdeal.main_arg0) = m ((c.tc : Thread Cert.KernelMixfwdIdeal.nD Cert.KernelMixfwdIdeal.τ).loc Cert.KernelMixfwdIdeal.main_arg0)
      ∧ m' ((c.tc : Thread Cert.ReferenceMixfwdIdeal.nD Cert.ReferenceMixfwdIdeal.τ).loc Cert.ReferenceMixfwdIdeal.main_arg1) = m ((c.tc : Thread Cert.KernelMixfwdIdeal.nD Cert.KernelMixfwdIdeal.τ).loc Cert.KernelMixfwdIdeal.main_arg1)
      ∧ m' ((c.tc : Thread Cert.ReferenceMixfwdIdeal.nD Cert.ReferenceMixfwdIdeal.τ).loc Cert.ReferenceMixfwdIdeal.main_arg2) = m ((c.tc : Thread Cert.KernelMixfwdIdeal.nD Cert.KernelMixfwdIdeal.τ).loc Cert.KernelMixfwdIdeal.main_arg2)
      ∧ m' ((c.tc : Thread Cert.ReferenceMixfwdIdeal.nD Cert.ReferenceMixfwdIdeal.τ).loc Cert.ReferenceMixfwdIdeal.main_arg3) = m ((c.tc : Thread Cert.KernelMixfwdIdeal.nD Cert.KernelMixfwdIdeal.τ).loc Cert.KernelMixfwdIdeal.main_arg3)) →
    ∃ (v0 : (c : Dev Cert.KernelMixfwdIdeal.nD) → Buf (Elt Ideal) ((c.tc : Thread Cert.KernelMixfwdIdeal.nD Cert.KernelMixfwdIdeal.τ).loc Cert.KernelMixfwdIdeal.main_v2)),
      θ_run (Cert.KernelMixfwdIdeal.defs (F := Ideal)) (onTc (τ := Cert.KernelMixfwdIdeal.τ) (Cert.KernelMixfwdIdeal.main (F := Ideal))) ⟨m, fun _ => 0, g⟩ (fun r => ∀ c : Dev Cert.KernelMixfwdIdeal.nD,
          r.2.mem ((c.tc : Thread Cert.KernelMixfwdIdeal.nD Cert.KernelMixfwdIdeal.τ).loc Cert.KernelMixfwdIdeal.main_v2) = v0 c
          ∧ r.2.mem ((c.tc : Thread Cert.KernelMixfwdIdeal.nD Cert.KernelMixfwdIdeal.τ).loc Cert.KernelMixfwdIdeal.main_arg0) = m ((c.tc : Thread Cert.KernelMixfwdIdeal.nD Cert.KernelMixfwdIdeal.τ).loc Cert.KernelMixfwdIdeal.main_arg0)
          ∧ r.2.mem ((c.tc : Thread Cert.KernelMixfwdIdeal.nD Cert.KernelMixfwdIdeal.τ).loc Cert.KernelMixfwdIdeal.main_arg1) = m ((c.tc : Thread Cert.KernelMixfwdIdeal.nD Cert.KernelMixfwdIdeal.τ).loc Cert.KernelMixfwdIdeal.main_arg1)
          ∧ r.2.mem ((c.tc : Thread Cert.KernelMixfwdIdeal.nD Cert.KernelMixfwdIdeal.τ).loc Cert.KernelMixfwdIdeal.main_arg2) = m ((c.tc : Thread Cert.KernelMixfwdIdeal.nD Cert.KernelMixfwdIdeal.τ).loc Cert.KernelMixfwdIdeal.main_arg2)
          ∧ r.2.mem ((c.tc : Thread Cert.KernelMixfwdIdeal.nD Cert.KernelMixfwdIdeal.τ).loc Cert.KernelMixfwdIdeal.main_arg3) = m ((c.tc : Thread Cert.KernelMixfwdIdeal.nD Cert.KernelMixfwdIdeal.τ).loc Cert.KernelMixfwdIdeal.main_arg3))
      ∧ θ_run (Cert.ReferenceMixfwdIdeal.defs (F := Ideal)) (onTc (τ := Cert.ReferenceMixfwdIdeal.τ) (Cert.ReferenceMixfwdIdeal.main (F := Ideal))) ⟨m', fun _ => 0, g'⟩ (fun r => ∀ c : Dev Cert.ReferenceMixfwdIdeal.nD,
          r.2.mem ((c.tc : Thread Cert.ReferenceMixfwdIdeal.nD Cert.ReferenceMixfwdIdeal.τ).loc Cert.ReferenceMixfwdIdeal.main_v22) = v0 c
          ∧ r.2.mem ((c.tc : Thread Cert.ReferenceMixfwdIdeal.nD Cert.ReferenceMixfwdIdeal.τ).loc Cert.ReferenceMixfwdIdeal.main_arg0) = m' ((c.tc : Thread Cert.ReferenceMixfwdIdeal.nD Cert.ReferenceMixfwdIdeal.τ).loc Cert.ReferenceMixfwdIdeal.main_arg0)
          ∧ r.2.mem ((c.tc : Thread Cert.ReferenceMixfwdIdeal.nD Cert.ReferenceMixfwdIdeal.τ).loc Cert.ReferenceMixfwdIdeal.main_arg1) = m' ((c.tc : Thread Cert.ReferenceMixfwdIdeal.nD Cert.ReferenceMixfwdIdeal.τ).loc Cert.ReferenceMixfwdIdeal.main_arg1)
          ∧ r.2.mem ((c.tc : Thread Cert.ReferenceMixfwdIdeal.nD Cert.ReferenceMixfwdIdeal.τ).loc Cert.ReferenceMixfwdIdeal.main_arg2) = m' ((c.tc : Thread Cert.ReferenceMixfwdIdeal.nD Cert.ReferenceMixfwdIdeal.τ).loc Cert.ReferenceMixfwdIdeal.main_arg2)
          ∧ r.2.mem ((c.tc : Thread Cert.ReferenceMixfwdIdeal.nD Cert.ReferenceMixfwdIdeal.τ).loc Cert.ReferenceMixfwdIdeal.main_arg3) = m' ((c.tc : Thread Cert.ReferenceMixfwdIdeal.nD Cert.ReferenceMixfwdIdeal.τ).loc Cert.ReferenceMixfwdIdeal.main_arg3))

def preserves_KernelModnormfwd_KernelModnormfwdIdeal : Prop :=
  True

def algebraic_KernelModnormfwdIdeal_ReferenceModnormfwdIdeal [hKernelModnormfwdIdeal : Cert.KernelModnormfwdIdeal.Facts] [hReferenceModnormfwdIdeal : Cert.ReferenceModnormfwdIdeal.Facts] : Prop :=
  ∀ (m : (ℓ : Loc Cert.KernelModnormfwdIdeal.nD Cert.KernelModnormfwdIdeal.τ Cert.KernelModnormfwdIdeal.sig) → Buf (Elt Ideal) ℓ) (g : Dev Cert.KernelModnormfwdIdeal.nD → PrngReg)
    (m' : (ℓ : Loc Cert.ReferenceModnormfwdIdeal.nD Cert.ReferenceModnormfwdIdeal.τ Cert.ReferenceModnormfwdIdeal.sig) → Buf (Elt Ideal) ℓ) (g' : Dev Cert.ReferenceModnormfwdIdeal.nD → PrngReg), Pre_KernelModnormfwdIdeal m →
    (∀ c : Dev Cert.KernelModnormfwdIdeal.nD,
      m' ((c.tc : Thread Cert.ReferenceModnormfwdIdeal.nD Cert.ReferenceModnormfwdIdeal.τ).loc Cert.ReferenceModnormfwdIdeal.main_arg0) = m ((c.tc : Thread Cert.KernelModnormfwdIdeal.nD Cert.KernelModnormfwdIdeal.τ).loc Cert.KernelModnormfwdIdeal.main_arg0)
      ∧ m' ((c.tc : Thread Cert.ReferenceModnormfwdIdeal.nD Cert.ReferenceModnormfwdIdeal.τ).loc Cert.ReferenceModnormfwdIdeal.main_arg1) = m ((c.tc : Thread Cert.KernelModnormfwdIdeal.nD Cert.KernelModnormfwdIdeal.τ).loc Cert.KernelModnormfwdIdeal.main_arg1)
      ∧ m' ((c.tc : Thread Cert.ReferenceModnormfwdIdeal.nD Cert.ReferenceModnormfwdIdeal.τ).loc Cert.ReferenceModnormfwdIdeal.main_arg2) = m ((c.tc : Thread Cert.KernelModnormfwdIdeal.nD Cert.KernelModnormfwdIdeal.τ).loc Cert.KernelModnormfwdIdeal.main_arg2)
      ∧ m' ((c.tc : Thread Cert.ReferenceModnormfwdIdeal.nD Cert.ReferenceModnormfwdIdeal.τ).loc Cert.ReferenceModnormfwdIdeal.main_arg3) = m ((c.tc : Thread Cert.KernelModnormfwdIdeal.nD Cert.KernelModnormfwdIdeal.τ).loc Cert.KernelModnormfwdIdeal.main_arg3)) →
    ∃ (v0 : (c : Dev Cert.KernelModnormfwdIdeal.nD) → Buf (Elt Ideal) ((c.tc : Thread Cert.KernelModnormfwdIdeal.nD Cert.KernelModnormfwdIdeal.τ).loc Cert.KernelModnormfwdIdeal.main_v1)),
      θ_run (Cert.KernelModnormfwdIdeal.defs (F := Ideal)) (onTc (τ := Cert.KernelModnormfwdIdeal.τ) (Cert.KernelModnormfwdIdeal.main (F := Ideal))) ⟨m, fun _ => 0, g⟩ (fun r => ∀ c : Dev Cert.KernelModnormfwdIdeal.nD,
          r.2.mem ((c.tc : Thread Cert.KernelModnormfwdIdeal.nD Cert.KernelModnormfwdIdeal.τ).loc Cert.KernelModnormfwdIdeal.main_v1) = v0 c
          ∧ r.2.mem ((c.tc : Thread Cert.KernelModnormfwdIdeal.nD Cert.KernelModnormfwdIdeal.τ).loc Cert.KernelModnormfwdIdeal.main_arg0) = m ((c.tc : Thread Cert.KernelModnormfwdIdeal.nD Cert.KernelModnormfwdIdeal.τ).loc Cert.KernelModnormfwdIdeal.main_arg0)
          ∧ r.2.mem ((c.tc : Thread Cert.KernelModnormfwdIdeal.nD Cert.KernelModnormfwdIdeal.τ).loc Cert.KernelModnormfwdIdeal.main_arg1) = m ((c.tc : Thread Cert.KernelModnormfwdIdeal.nD Cert.KernelModnormfwdIdeal.τ).loc Cert.KernelModnormfwdIdeal.main_arg1)
          ∧ r.2.mem ((c.tc : Thread Cert.KernelModnormfwdIdeal.nD Cert.KernelModnormfwdIdeal.τ).loc Cert.KernelModnormfwdIdeal.main_arg2) = m ((c.tc : Thread Cert.KernelModnormfwdIdeal.nD Cert.KernelModnormfwdIdeal.τ).loc Cert.KernelModnormfwdIdeal.main_arg2)
          ∧ r.2.mem ((c.tc : Thread Cert.KernelModnormfwdIdeal.nD Cert.KernelModnormfwdIdeal.τ).loc Cert.KernelModnormfwdIdeal.main_arg3) = m ((c.tc : Thread Cert.KernelModnormfwdIdeal.nD Cert.KernelModnormfwdIdeal.τ).loc Cert.KernelModnormfwdIdeal.main_arg3))
      ∧ θ_run (Cert.ReferenceModnormfwdIdeal.defs (F := Ideal)) (onTc (τ := Cert.ReferenceModnormfwdIdeal.τ) (Cert.ReferenceModnormfwdIdeal.main (F := Ideal))) ⟨m', fun _ => 0, g'⟩ (fun r => ∀ c : Dev Cert.ReferenceModnormfwdIdeal.nD,
          r.2.mem ((c.tc : Thread Cert.ReferenceModnormfwdIdeal.nD Cert.ReferenceModnormfwdIdeal.τ).loc Cert.ReferenceModnormfwdIdeal.main_v19) = v0 c
          ∧ r.2.mem ((c.tc : Thread Cert.ReferenceModnormfwdIdeal.nD Cert.ReferenceModnormfwdIdeal.τ).loc Cert.ReferenceModnormfwdIdeal.main_arg0) = m' ((c.tc : Thread Cert.ReferenceModnormfwdIdeal.nD Cert.ReferenceModnormfwdIdeal.τ).loc Cert.ReferenceModnormfwdIdeal.main_arg0)
          ∧ r.2.mem ((c.tc : Thread Cert.ReferenceModnormfwdIdeal.nD Cert.ReferenceModnormfwdIdeal.τ).loc Cert.ReferenceModnormfwdIdeal.main_arg1) = m' ((c.tc : Thread Cert.ReferenceModnormfwdIdeal.nD Cert.ReferenceModnormfwdIdeal.τ).loc Cert.ReferenceModnormfwdIdeal.main_arg1)
          ∧ r.2.mem ((c.tc : Thread Cert.ReferenceModnormfwdIdeal.nD Cert.ReferenceModnormfwdIdeal.τ).loc Cert.ReferenceModnormfwdIdeal.main_arg2) = m' ((c.tc : Thread Cert.ReferenceModnormfwdIdeal.nD Cert.ReferenceModnormfwdIdeal.τ).loc Cert.ReferenceModnormfwdIdeal.main_arg2)
          ∧ r.2.mem ((c.tc : Thread Cert.ReferenceModnormfwdIdeal.nD Cert.ReferenceModnormfwdIdeal.τ).loc Cert.ReferenceModnormfwdIdeal.main_arg3) = m' ((c.tc : Thread Cert.ReferenceModnormfwdIdeal.nD Cert.ReferenceModnormfwdIdeal.τ).loc Cert.ReferenceModnormfwdIdeal.main_arg3))

def preserves_KernelLnfwd_KernelLnfwdIdeal : Prop :=
  True

def algebraic_KernelLnfwdIdeal_ReferenceLnfwdIdeal [hKernelLnfwdIdeal : Cert.KernelLnfwdIdeal.Facts] [hReferenceLnfwdIdeal : Cert.ReferenceLnfwdIdeal.Facts] : Prop :=
  ∀ (m : (ℓ : Loc Cert.KernelLnfwdIdeal.nD Cert.KernelLnfwdIdeal.τ Cert.KernelLnfwdIdeal.sig) → Buf (Elt Ideal) ℓ) (g : Dev Cert.KernelLnfwdIdeal.nD → PrngReg)
    (m' : (ℓ : Loc Cert.ReferenceLnfwdIdeal.nD Cert.ReferenceLnfwdIdeal.τ Cert.ReferenceLnfwdIdeal.sig) → Buf (Elt Ideal) ℓ) (g' : Dev Cert.ReferenceLnfwdIdeal.nD → PrngReg), Pre_KernelLnfwdIdeal m →
    (∀ c : Dev Cert.KernelLnfwdIdeal.nD,
      m' ((c.tc : Thread Cert.ReferenceLnfwdIdeal.nD Cert.ReferenceLnfwdIdeal.τ).loc Cert.ReferenceLnfwdIdeal.main_arg0) = m ((c.tc : Thread Cert.KernelLnfwdIdeal.nD Cert.KernelLnfwdIdeal.τ).loc Cert.KernelLnfwdIdeal.main_arg0)
      ∧ m' ((c.tc : Thread Cert.ReferenceLnfwdIdeal.nD Cert.ReferenceLnfwdIdeal.τ).loc Cert.ReferenceLnfwdIdeal.main_arg1) = m ((c.tc : Thread Cert.KernelLnfwdIdeal.nD Cert.KernelLnfwdIdeal.τ).loc Cert.KernelLnfwdIdeal.main_arg1)
      ∧ m' ((c.tc : Thread Cert.ReferenceLnfwdIdeal.nD Cert.ReferenceLnfwdIdeal.τ).loc Cert.ReferenceLnfwdIdeal.main_arg2) = m ((c.tc : Thread Cert.KernelLnfwdIdeal.nD Cert.KernelLnfwdIdeal.τ).loc Cert.KernelLnfwdIdeal.main_arg2)) →
    ∃ (v0 : (c : Dev Cert.KernelLnfwdIdeal.nD) → Buf (Elt Ideal) ((c.tc : Thread Cert.KernelLnfwdIdeal.nD Cert.KernelLnfwdIdeal.τ).loc Cert.KernelLnfwdIdeal.main_v2)),
      θ_run (Cert.KernelLnfwdIdeal.defs (F := Ideal)) (onTc (τ := Cert.KernelLnfwdIdeal.τ) (Cert.KernelLnfwdIdeal.main (F := Ideal))) ⟨m, fun _ => 0, g⟩ (fun r => ∀ c : Dev Cert.KernelLnfwdIdeal.nD,
          r.2.mem ((c.tc : Thread Cert.KernelLnfwdIdeal.nD Cert.KernelLnfwdIdeal.τ).loc Cert.KernelLnfwdIdeal.main_v2) = v0 c
          ∧ r.2.mem ((c.tc : Thread Cert.KernelLnfwdIdeal.nD Cert.KernelLnfwdIdeal.τ).loc Cert.KernelLnfwdIdeal.main_arg0) = m ((c.tc : Thread Cert.KernelLnfwdIdeal.nD Cert.KernelLnfwdIdeal.τ).loc Cert.KernelLnfwdIdeal.main_arg0)
          ∧ r.2.mem ((c.tc : Thread Cert.KernelLnfwdIdeal.nD Cert.KernelLnfwdIdeal.τ).loc Cert.KernelLnfwdIdeal.main_arg1) = m ((c.tc : Thread Cert.KernelLnfwdIdeal.nD Cert.KernelLnfwdIdeal.τ).loc Cert.KernelLnfwdIdeal.main_arg1)
          ∧ r.2.mem ((c.tc : Thread Cert.KernelLnfwdIdeal.nD Cert.KernelLnfwdIdeal.τ).loc Cert.KernelLnfwdIdeal.main_arg2) = m ((c.tc : Thread Cert.KernelLnfwdIdeal.nD Cert.KernelLnfwdIdeal.τ).loc Cert.KernelLnfwdIdeal.main_arg2))
      ∧ θ_run (Cert.ReferenceLnfwdIdeal.defs (F := Ideal)) (onTc (τ := Cert.ReferenceLnfwdIdeal.τ) (Cert.ReferenceLnfwdIdeal.main (F := Ideal))) ⟨m', fun _ => 0, g'⟩ (fun r => ∀ c : Dev Cert.ReferenceLnfwdIdeal.nD,
          r.2.mem ((c.tc : Thread Cert.ReferenceLnfwdIdeal.nD Cert.ReferenceLnfwdIdeal.τ).loc Cert.ReferenceLnfwdIdeal.main_v27) = v0 c
          ∧ r.2.mem ((c.tc : Thread Cert.ReferenceLnfwdIdeal.nD Cert.ReferenceLnfwdIdeal.τ).loc Cert.ReferenceLnfwdIdeal.main_arg0) = m' ((c.tc : Thread Cert.ReferenceLnfwdIdeal.nD Cert.ReferenceLnfwdIdeal.τ).loc Cert.ReferenceLnfwdIdeal.main_arg0)
          ∧ r.2.mem ((c.tc : Thread Cert.ReferenceLnfwdIdeal.nD Cert.ReferenceLnfwdIdeal.τ).loc Cert.ReferenceLnfwdIdeal.main_arg1) = m' ((c.tc : Thread Cert.ReferenceLnfwdIdeal.nD Cert.ReferenceLnfwdIdeal.τ).loc Cert.ReferenceLnfwdIdeal.main_arg1)
          ∧ r.2.mem ((c.tc : Thread Cert.ReferenceLnfwdIdeal.nD Cert.ReferenceLnfwdIdeal.τ).loc Cert.ReferenceLnfwdIdeal.main_arg2) = m' ((c.tc : Thread Cert.ReferenceLnfwdIdeal.nD Cert.ReferenceLnfwdIdeal.τ).loc Cert.ReferenceLnfwdIdeal.main_arg2))

def preserves_KernelGatesfwd_KernelGatesfwdIdeal : Prop :=
  True

def algebraic_KernelGatesfwdIdeal_ReferenceGatesfwdIdeal [hKernelGatesfwdIdeal : Cert.KernelGatesfwdIdeal.Facts] [hReferenceGatesfwdIdeal : Cert.ReferenceGatesfwdIdeal.Facts] : Prop :=
  ∀ (m : (ℓ : Loc Cert.KernelGatesfwdIdeal.nD Cert.KernelGatesfwdIdeal.τ Cert.KernelGatesfwdIdeal.sig) → Buf (Elt Ideal) ℓ) (g : Dev Cert.KernelGatesfwdIdeal.nD → PrngReg)
    (m' : (ℓ : Loc Cert.ReferenceGatesfwdIdeal.nD Cert.ReferenceGatesfwdIdeal.τ Cert.ReferenceGatesfwdIdeal.sig) → Buf (Elt Ideal) ℓ) (g' : Dev Cert.ReferenceGatesfwdIdeal.nD → PrngReg), Pre_KernelGatesfwdIdeal m →
    (∀ c : Dev Cert.KernelGatesfwdIdeal.nD,
      m' ((c.tc : Thread Cert.ReferenceGatesfwdIdeal.nD Cert.ReferenceGatesfwdIdeal.τ).loc Cert.ReferenceGatesfwdIdeal.main_arg0) = m ((c.tc : Thread Cert.KernelGatesfwdIdeal.nD Cert.KernelGatesfwdIdeal.τ).loc Cert.KernelGatesfwdIdeal.main_arg0)
      ∧ m' ((c.tc : Thread Cert.ReferenceGatesfwdIdeal.nD Cert.ReferenceGatesfwdIdeal.τ).loc Cert.ReferenceGatesfwdIdeal.main_arg1) = m ((c.tc : Thread Cert.KernelGatesfwdIdeal.nD Cert.KernelGatesfwdIdeal.τ).loc Cert.KernelGatesfwdIdeal.main_arg1)
      ∧ m' ((c.tc : Thread Cert.ReferenceGatesfwdIdeal.nD Cert.ReferenceGatesfwdIdeal.τ).loc Cert.ReferenceGatesfwdIdeal.main_arg2) = m ((c.tc : Thread Cert.KernelGatesfwdIdeal.nD Cert.KernelGatesfwdIdeal.τ).loc Cert.KernelGatesfwdIdeal.main_arg2)) →
    ∃ (v0 : (c : Dev Cert.KernelGatesfwdIdeal.nD) → Buf (Elt Ideal) ((c.tc : Thread Cert.KernelGatesfwdIdeal.nD Cert.KernelGatesfwdIdeal.τ).loc Cert.KernelGatesfwdIdeal.main_v3_0)) (v1 : (c : Dev Cert.KernelGatesfwdIdeal.nD) → Buf (Elt Ideal) ((c.tc : Thread Cert.KernelGatesfwdIdeal.nD Cert.KernelGatesfwdIdeal.τ).loc Cert.KernelGatesfwdIdeal.main_v3_1)),
      θ_run (Cert.KernelGatesfwdIdeal.defs (F := Ideal)) (onTc (τ := Cert.KernelGatesfwdIdeal.τ) (Cert.KernelGatesfwdIdeal.main (F := Ideal))) ⟨m, fun _ => 0, g⟩ (fun r => ∀ c : Dev Cert.KernelGatesfwdIdeal.nD,
          r.2.mem ((c.tc : Thread Cert.KernelGatesfwdIdeal.nD Cert.KernelGatesfwdIdeal.τ).loc Cert.KernelGatesfwdIdeal.main_v3_0) = v0 c
          ∧ r.2.mem ((c.tc : Thread Cert.KernelGatesfwdIdeal.nD Cert.KernelGatesfwdIdeal.τ).loc Cert.KernelGatesfwdIdeal.main_v3_1) = v1 c
          ∧ r.2.mem ((c.tc : Thread Cert.KernelGatesfwdIdeal.nD Cert.KernelGatesfwdIdeal.τ).loc Cert.KernelGatesfwdIdeal.main_arg0) = m ((c.tc : Thread Cert.KernelGatesfwdIdeal.nD Cert.KernelGatesfwdIdeal.τ).loc Cert.KernelGatesfwdIdeal.main_arg0)
          ∧ r.2.mem ((c.tc : Thread Cert.KernelGatesfwdIdeal.nD Cert.KernelGatesfwdIdeal.τ).loc Cert.KernelGatesfwdIdeal.main_arg1) = m ((c.tc : Thread Cert.KernelGatesfwdIdeal.nD Cert.KernelGatesfwdIdeal.τ).loc Cert.KernelGatesfwdIdeal.main_arg1)
          ∧ r.2.mem ((c.tc : Thread Cert.KernelGatesfwdIdeal.nD Cert.KernelGatesfwdIdeal.τ).loc Cert.KernelGatesfwdIdeal.main_arg2) = m ((c.tc : Thread Cert.KernelGatesfwdIdeal.nD Cert.KernelGatesfwdIdeal.τ).loc Cert.KernelGatesfwdIdeal.main_arg2))
      ∧ θ_run (Cert.ReferenceGatesfwdIdeal.defs (F := Ideal)) (onTc (τ := Cert.ReferenceGatesfwdIdeal.τ) (Cert.ReferenceGatesfwdIdeal.main (F := Ideal))) ⟨m', fun _ => 0, g'⟩ (fun r => ∀ c : Dev Cert.ReferenceGatesfwdIdeal.nD,
          r.2.mem ((c.tc : Thread Cert.ReferenceGatesfwdIdeal.nD Cert.ReferenceGatesfwdIdeal.τ).loc Cert.ReferenceGatesfwdIdeal.main_v5) = v0 c
          ∧ r.2.mem ((c.tc : Thread Cert.ReferenceGatesfwdIdeal.nD Cert.ReferenceGatesfwdIdeal.τ).loc Cert.ReferenceGatesfwdIdeal.main_v6) = v1 c
          ∧ r.2.mem ((c.tc : Thread Cert.ReferenceGatesfwdIdeal.nD Cert.ReferenceGatesfwdIdeal.τ).loc Cert.ReferenceGatesfwdIdeal.main_arg0) = m' ((c.tc : Thread Cert.ReferenceGatesfwdIdeal.nD Cert.ReferenceGatesfwdIdeal.τ).loc Cert.ReferenceGatesfwdIdeal.main_arg0)
          ∧ r.2.mem ((c.tc : Thread Cert.ReferenceGatesfwdIdeal.nD Cert.ReferenceGatesfwdIdeal.τ).loc Cert.ReferenceGatesfwdIdeal.main_arg1) = m' ((c.tc : Thread Cert.ReferenceGatesfwdIdeal.nD Cert.ReferenceGatesfwdIdeal.τ).loc Cert.ReferenceGatesfwdIdeal.main_arg1)
          ∧ r.2.mem ((c.tc : Thread Cert.ReferenceGatesfwdIdeal.nD Cert.ReferenceGatesfwdIdeal.τ).loc Cert.ReferenceGatesfwdIdeal.main_arg2) = m' ((c.tc : Thread Cert.ReferenceGatesfwdIdeal.nD Cert.ReferenceGatesfwdIdeal.τ).loc Cert.ReferenceGatesfwdIdeal.main_arg2))

def preserves_KernelGeluup_KernelGeluupIdeal : Prop :=
  IdealRules.named_const.Statement Cert.KernelGeluupIdeal.κ "inv_sqrt_2" .f32 0x3F3504F3#32 (((Real.sqrt 2)⁻¹ : ℝ) : EReal)

def algebraic_KernelGeluupIdeal_ReferenceGeluupIdeal [hKernelGeluupIdeal : Cert.KernelGeluupIdeal.Facts] [hReferenceGeluupIdeal : Cert.ReferenceGeluupIdeal.Facts] : Prop :=
  ∀ (m : (ℓ : Loc Cert.KernelGeluupIdeal.nD Cert.KernelGeluupIdeal.τ Cert.KernelGeluupIdeal.sig) → Buf (Elt Ideal) ℓ) (g : Dev Cert.KernelGeluupIdeal.nD → PrngReg)
    (m' : (ℓ : Loc Cert.ReferenceGeluupIdeal.nD Cert.ReferenceGeluupIdeal.τ Cert.ReferenceGeluupIdeal.sig) → Buf (Elt Ideal) ℓ) (g' : Dev Cert.ReferenceGeluupIdeal.nD → PrngReg), Pre_KernelGeluupIdeal m →
    (∀ c : Dev Cert.KernelGeluupIdeal.nD,
      m' ((c.tc : Thread Cert.ReferenceGeluupIdeal.nD Cert.ReferenceGeluupIdeal.τ).loc Cert.ReferenceGeluupIdeal.main_arg0) = m ((c.tc : Thread Cert.KernelGeluupIdeal.nD Cert.KernelGeluupIdeal.τ).loc Cert.KernelGeluupIdeal.main_arg0)
      ∧ m' ((c.tc : Thread Cert.ReferenceGeluupIdeal.nD Cert.ReferenceGeluupIdeal.τ).loc Cert.ReferenceGeluupIdeal.main_arg1) = m ((c.tc : Thread Cert.KernelGeluupIdeal.nD Cert.KernelGeluupIdeal.τ).loc Cert.KernelGeluupIdeal.main_arg1)) →
    ∃ (v0 : (c : Dev Cert.KernelGeluupIdeal.nD) → Buf (Elt Ideal) ((c.tc : Thread Cert.KernelGeluupIdeal.nD Cert.KernelGeluupIdeal.τ).loc Cert.KernelGeluupIdeal.main_v2_0)) (v1 : (c : Dev Cert.KernelGeluupIdeal.nD) → Buf (Elt Ideal) ((c.tc : Thread Cert.KernelGeluupIdeal.nD Cert.KernelGeluupIdeal.τ).loc Cert.KernelGeluupIdeal.main_v2_1)),
      θ_run (Cert.KernelGeluupIdeal.defs (F := Ideal)) (onTc (τ := Cert.KernelGeluupIdeal.τ) (Cert.KernelGeluupIdeal.main (F := Ideal))) ⟨m, fun _ => 0, g⟩ (fun r => ∀ c : Dev Cert.KernelGeluupIdeal.nD,
          r.2.mem ((c.tc : Thread Cert.KernelGeluupIdeal.nD Cert.KernelGeluupIdeal.τ).loc Cert.KernelGeluupIdeal.main_v2_0) = v0 c
          ∧ r.2.mem ((c.tc : Thread Cert.KernelGeluupIdeal.nD Cert.KernelGeluupIdeal.τ).loc Cert.KernelGeluupIdeal.main_v2_1) = v1 c
          ∧ r.2.mem ((c.tc : Thread Cert.KernelGeluupIdeal.nD Cert.KernelGeluupIdeal.τ).loc Cert.KernelGeluupIdeal.main_arg0) = m ((c.tc : Thread Cert.KernelGeluupIdeal.nD Cert.KernelGeluupIdeal.τ).loc Cert.KernelGeluupIdeal.main_arg0)
          ∧ r.2.mem ((c.tc : Thread Cert.KernelGeluupIdeal.nD Cert.KernelGeluupIdeal.τ).loc Cert.KernelGeluupIdeal.main_arg1) = m ((c.tc : Thread Cert.KernelGeluupIdeal.nD Cert.KernelGeluupIdeal.τ).loc Cert.KernelGeluupIdeal.main_arg1))
      ∧ θ_run (Cert.ReferenceGeluupIdeal.defs (F := Ideal)) (onTc (τ := Cert.ReferenceGeluupIdeal.τ) (Cert.ReferenceGeluupIdeal.main (F := Ideal))) ⟨m', fun _ => 0, g'⟩ (fun r => ∀ c : Dev Cert.ReferenceGeluupIdeal.nD,
          r.2.mem ((c.tc : Thread Cert.ReferenceGeluupIdeal.nD Cert.ReferenceGeluupIdeal.τ).loc Cert.ReferenceGeluupIdeal.main_v3) = v0 c
          ∧ r.2.mem ((c.tc : Thread Cert.ReferenceGeluupIdeal.nD Cert.ReferenceGeluupIdeal.τ).loc Cert.ReferenceGeluupIdeal.main_v12) = v1 c
          ∧ r.2.mem ((c.tc : Thread Cert.ReferenceGeluupIdeal.nD Cert.ReferenceGeluupIdeal.τ).loc Cert.ReferenceGeluupIdeal.main_arg0) = m' ((c.tc : Thread Cert.ReferenceGeluupIdeal.nD Cert.ReferenceGeluupIdeal.τ).loc Cert.ReferenceGeluupIdeal.main_arg0)
          ∧ r.2.mem ((c.tc : Thread Cert.ReferenceGeluupIdeal.nD Cert.ReferenceGeluupIdeal.τ).loc Cert.ReferenceGeluupIdeal.main_arg1) = m' ((c.tc : Thread Cert.ReferenceGeluupIdeal.nD Cert.ReferenceGeluupIdeal.τ).loc Cert.ReferenceGeluupIdeal.main_arg1))

def preserves_KernelUpfwd_KernelUpfwdIdeal : Prop :=
  True

def algebraic_KernelUpfwdIdeal_ReferenceUpfwdIdeal [hKernelUpfwdIdeal : Cert.KernelUpfwdIdeal.Facts] [hReferenceUpfwdIdeal : Cert.ReferenceUpfwdIdeal.Facts] : Prop :=
  ∀ (m : (ℓ : Loc Cert.KernelUpfwdIdeal.nD Cert.KernelUpfwdIdeal.τ Cert.KernelUpfwdIdeal.sig) → Buf (Elt Ideal) ℓ) (g : Dev Cert.KernelUpfwdIdeal.nD → PrngReg)
    (m' : (ℓ : Loc Cert.ReferenceUpfwdIdeal.nD Cert.ReferenceUpfwdIdeal.τ Cert.ReferenceUpfwdIdeal.sig) → Buf (Elt Ideal) ℓ) (g' : Dev Cert.ReferenceUpfwdIdeal.nD → PrngReg), Pre_KernelUpfwdIdeal m →
    (∀ c : Dev Cert.KernelUpfwdIdeal.nD,
      m' ((c.tc : Thread Cert.ReferenceUpfwdIdeal.nD Cert.ReferenceUpfwdIdeal.τ).loc Cert.ReferenceUpfwdIdeal.main_arg0) = m ((c.tc : Thread Cert.KernelUpfwdIdeal.nD Cert.KernelUpfwdIdeal.τ).loc Cert.KernelUpfwdIdeal.main_arg0)
      ∧ m' ((c.tc : Thread Cert.ReferenceUpfwdIdeal.nD Cert.ReferenceUpfwdIdeal.τ).loc Cert.ReferenceUpfwdIdeal.main_arg1) = m ((c.tc : Thread Cert.KernelUpfwdIdeal.nD Cert.KernelUpfwdIdeal.τ).loc Cert.KernelUpfwdIdeal.main_arg1)) →
    ∃ (v0 : (c : Dev Cert.KernelUpfwdIdeal.nD) → Buf (Elt Ideal) ((c.tc : Thread Cert.KernelUpfwdIdeal.nD Cert.KernelUpfwdIdeal.τ).loc Cert.KernelUpfwdIdeal.main_v2_0)) (v1 : (c : Dev Cert.KernelUpfwdIdeal.nD) → Buf (Elt Ideal) ((c.tc : Thread Cert.KernelUpfwdIdeal.nD Cert.KernelUpfwdIdeal.τ).loc Cert.KernelUpfwdIdeal.main_v2_1)),
      θ_run (Cert.KernelUpfwdIdeal.defs (F := Ideal)) (onTc (τ := Cert.KernelUpfwdIdeal.τ) (Cert.KernelUpfwdIdeal.main (F := Ideal))) ⟨m, fun _ => 0, g⟩ (fun r => ∀ c : Dev Cert.KernelUpfwdIdeal.nD,
          r.2.mem ((c.tc : Thread Cert.KernelUpfwdIdeal.nD Cert.KernelUpfwdIdeal.τ).loc Cert.KernelUpfwdIdeal.main_v2_0) = v0 c
          ∧ r.2.mem ((c.tc : Thread Cert.KernelUpfwdIdeal.nD Cert.KernelUpfwdIdeal.τ).loc Cert.KernelUpfwdIdeal.main_v2_1) = v1 c
          ∧ r.2.mem ((c.tc : Thread Cert.KernelUpfwdIdeal.nD Cert.KernelUpfwdIdeal.τ).loc Cert.KernelUpfwdIdeal.main_arg0) = m ((c.tc : Thread Cert.KernelUpfwdIdeal.nD Cert.KernelUpfwdIdeal.τ).loc Cert.KernelUpfwdIdeal.main_arg0)
          ∧ r.2.mem ((c.tc : Thread Cert.KernelUpfwdIdeal.nD Cert.KernelUpfwdIdeal.τ).loc Cert.KernelUpfwdIdeal.main_arg1) = m ((c.tc : Thread Cert.KernelUpfwdIdeal.nD Cert.KernelUpfwdIdeal.τ).loc Cert.KernelUpfwdIdeal.main_arg1))
      ∧ θ_run (Cert.ReferenceUpfwdIdeal.defs (F := Ideal)) (onTc (τ := Cert.ReferenceUpfwdIdeal.τ) (Cert.ReferenceUpfwdIdeal.main (F := Ideal))) ⟨m', fun _ => 0, g'⟩ (fun r => ∀ c : Dev Cert.ReferenceUpfwdIdeal.nD,
          r.2.mem ((c.tc : Thread Cert.ReferenceUpfwdIdeal.nD Cert.ReferenceUpfwdIdeal.τ).loc Cert.ReferenceUpfwdIdeal.main_v3) = v0 c
          ∧ r.2.mem ((c.tc : Thread Cert.ReferenceUpfwdIdeal.nD Cert.ReferenceUpfwdIdeal.τ).loc Cert.ReferenceUpfwdIdeal.main_v6) = v1 c
          ∧ r.2.mem ((c.tc : Thread Cert.ReferenceUpfwdIdeal.nD Cert.ReferenceUpfwdIdeal.τ).loc Cert.ReferenceUpfwdIdeal.main_arg0) = m' ((c.tc : Thread Cert.ReferenceUpfwdIdeal.nD Cert.ReferenceUpfwdIdeal.τ).loc Cert.ReferenceUpfwdIdeal.main_arg0)
          ∧ r.2.mem ((c.tc : Thread Cert.ReferenceUpfwdIdeal.nD Cert.ReferenceUpfwdIdeal.τ).loc Cert.ReferenceUpfwdIdeal.main_arg1) = m' ((c.tc : Thread Cert.ReferenceUpfwdIdeal.nD Cert.ReferenceUpfwdIdeal.τ).loc Cert.ReferenceUpfwdIdeal.main_arg1))

def preserves_KernelQfwd_KernelQfwdIdeal : Prop :=
  True

def algebraic_KernelQfwdIdeal_ReferenceQfwdIdeal [hKernelQfwdIdeal : Cert.KernelQfwdIdeal.Facts] [hReferenceQfwdIdeal : Cert.ReferenceQfwdIdeal.Facts] : Prop :=
  ∀ (m : (ℓ : Loc Cert.KernelQfwdIdeal.nD Cert.KernelQfwdIdeal.τ Cert.KernelQfwdIdeal.sig) → Buf (Elt Ideal) ℓ) (g : Dev Cert.KernelQfwdIdeal.nD → PrngReg)
    (m' : (ℓ : Loc Cert.ReferenceQfwdIdeal.nD Cert.ReferenceQfwdIdeal.τ Cert.ReferenceQfwdIdeal.sig) → Buf (Elt Ideal) ℓ) (g' : Dev Cert.ReferenceQfwdIdeal.nD → PrngReg), Pre_KernelQfwdIdeal m →
    (∀ c : Dev Cert.KernelQfwdIdeal.nD,
      m' ((c.tc : Thread Cert.ReferenceQfwdIdeal.nD Cert.ReferenceQfwdIdeal.τ).loc Cert.ReferenceQfwdIdeal.main_arg0) = m ((c.tc : Thread Cert.KernelQfwdIdeal.nD Cert.KernelQfwdIdeal.τ).loc Cert.KernelQfwdIdeal.main_arg0)
      ∧ m' ((c.tc : Thread Cert.ReferenceQfwdIdeal.nD Cert.ReferenceQfwdIdeal.τ).loc Cert.ReferenceQfwdIdeal.main_arg1) = m ((c.tc : Thread Cert.KernelQfwdIdeal.nD Cert.KernelQfwdIdeal.τ).loc Cert.KernelQfwdIdeal.main_arg1)
      ∧ m' ((c.tc : Thread Cert.ReferenceQfwdIdeal.nD Cert.ReferenceQfwdIdeal.τ).loc Cert.ReferenceQfwdIdeal.main_arg2) = m ((c.tc : Thread Cert.KernelQfwdIdeal.nD Cert.KernelQfwdIdeal.τ).loc Cert.KernelQfwdIdeal.main_arg2)) →
    ∃ (v0 : (c : Dev Cert.KernelQfwdIdeal.nD) → Buf (Elt Ideal) ((c.tc : Thread Cert.KernelQfwdIdeal.nD Cert.KernelQfwdIdeal.τ).loc Cert.KernelQfwdIdeal.main_v1_0)) (v1 : (c : Dev Cert.KernelQfwdIdeal.nD) → Buf (Elt Ideal) ((c.tc : Thread Cert.KernelQfwdIdeal.nD Cert.KernelQfwdIdeal.τ).loc Cert.KernelQfwdIdeal.main_v1_1)),
      θ_run (Cert.KernelQfwdIdeal.defs (F := Ideal)) (onTc (τ := Cert.KernelQfwdIdeal.τ) (Cert.KernelQfwdIdeal.main (F := Ideal))) ⟨m, fun _ => 0, g⟩ (fun r => ∀ c : Dev Cert.KernelQfwdIdeal.nD,
          r.2.mem ((c.tc : Thread Cert.KernelQfwdIdeal.nD Cert.KernelQfwdIdeal.τ).loc Cert.KernelQfwdIdeal.main_v1_0) = v0 c
          ∧ r.2.mem ((c.tc : Thread Cert.KernelQfwdIdeal.nD Cert.KernelQfwdIdeal.τ).loc Cert.KernelQfwdIdeal.main_v1_1) = v1 c
          ∧ r.2.mem ((c.tc : Thread Cert.KernelQfwdIdeal.nD Cert.KernelQfwdIdeal.τ).loc Cert.KernelQfwdIdeal.main_arg0) = m ((c.tc : Thread Cert.KernelQfwdIdeal.nD Cert.KernelQfwdIdeal.τ).loc Cert.KernelQfwdIdeal.main_arg0)
          ∧ r.2.mem ((c.tc : Thread Cert.KernelQfwdIdeal.nD Cert.KernelQfwdIdeal.τ).loc Cert.KernelQfwdIdeal.main_arg1) = m ((c.tc : Thread Cert.KernelQfwdIdeal.nD Cert.KernelQfwdIdeal.τ).loc Cert.KernelQfwdIdeal.main_arg1)
          ∧ r.2.mem ((c.tc : Thread Cert.KernelQfwdIdeal.nD Cert.KernelQfwdIdeal.τ).loc Cert.KernelQfwdIdeal.main_arg2) = m ((c.tc : Thread Cert.KernelQfwdIdeal.nD Cert.KernelQfwdIdeal.τ).loc Cert.KernelQfwdIdeal.main_arg2))
      ∧ θ_run (Cert.ReferenceQfwdIdeal.defs (F := Ideal)) (onTc (τ := Cert.ReferenceQfwdIdeal.τ) (Cert.ReferenceQfwdIdeal.main (F := Ideal))) ⟨m', fun _ => 0, g'⟩ (fun r => ∀ c : Dev Cert.ReferenceQfwdIdeal.nD,
          r.2.mem ((c.tc : Thread Cert.ReferenceQfwdIdeal.nD Cert.ReferenceQfwdIdeal.τ).loc Cert.ReferenceQfwdIdeal.main_v20) = v0 c
          ∧ r.2.mem ((c.tc : Thread Cert.ReferenceQfwdIdeal.nD Cert.ReferenceQfwdIdeal.τ).loc Cert.ReferenceQfwdIdeal.main_v21) = v1 c
          ∧ r.2.mem ((c.tc : Thread Cert.ReferenceQfwdIdeal.nD Cert.ReferenceQfwdIdeal.τ).loc Cert.ReferenceQfwdIdeal.main_arg0) = m' ((c.tc : Thread Cert.ReferenceQfwdIdeal.nD Cert.ReferenceQfwdIdeal.τ).loc Cert.ReferenceQfwdIdeal.main_arg0)
          ∧ r.2.mem ((c.tc : Thread Cert.ReferenceQfwdIdeal.nD Cert.ReferenceQfwdIdeal.τ).loc Cert.ReferenceQfwdIdeal.main_arg1) = m' ((c.tc : Thread Cert.ReferenceQfwdIdeal.nD Cert.ReferenceQfwdIdeal.τ).loc Cert.ReferenceQfwdIdeal.main_arg1)
          ∧ r.2.mem ((c.tc : Thread Cert.ReferenceQfwdIdeal.nD Cert.ReferenceQfwdIdeal.τ).loc Cert.ReferenceQfwdIdeal.main_arg2) = m' ((c.tc : Thread Cert.ReferenceQfwdIdeal.nD Cert.ReferenceQfwdIdeal.τ).loc Cert.ReferenceQfwdIdeal.main_arg2))

def preserves_KernelKfwd_KernelKfwdIdeal : Prop :=
  True

def algebraic_KernelKfwdIdeal_ReferenceKfwdIdeal [hKernelKfwdIdeal : Cert.KernelKfwdIdeal.Facts] [hReferenceKfwdIdeal : Cert.ReferenceKfwdIdeal.Facts] : Prop :=
  ∀ (m : (ℓ : Loc Cert.KernelKfwdIdeal.nD Cert.KernelKfwdIdeal.τ Cert.KernelKfwdIdeal.sig) → Buf (Elt Ideal) ℓ) (g : Dev Cert.KernelKfwdIdeal.nD → PrngReg)
    (m' : (ℓ : Loc Cert.ReferenceKfwdIdeal.nD Cert.ReferenceKfwdIdeal.τ Cert.ReferenceKfwdIdeal.sig) → Buf (Elt Ideal) ℓ) (g' : Dev Cert.ReferenceKfwdIdeal.nD → PrngReg), Pre_KernelKfwdIdeal m →
    (∀ c : Dev Cert.KernelKfwdIdeal.nD,
      m' ((c.tc : Thread Cert.ReferenceKfwdIdeal.nD Cert.ReferenceKfwdIdeal.τ).loc Cert.ReferenceKfwdIdeal.main_arg0) = m ((c.tc : Thread Cert.KernelKfwdIdeal.nD Cert.KernelKfwdIdeal.τ).loc Cert.KernelKfwdIdeal.main_arg0)
      ∧ m' ((c.tc : Thread Cert.ReferenceKfwdIdeal.nD Cert.ReferenceKfwdIdeal.τ).loc Cert.ReferenceKfwdIdeal.main_arg1) = m ((c.tc : Thread Cert.KernelKfwdIdeal.nD Cert.KernelKfwdIdeal.τ).loc Cert.KernelKfwdIdeal.main_arg1)
      ∧ m' ((c.tc : Thread Cert.ReferenceKfwdIdeal.nD Cert.ReferenceKfwdIdeal.τ).loc Cert.ReferenceKfwdIdeal.main_arg2) = m ((c.tc : Thread Cert.KernelKfwdIdeal.nD Cert.KernelKfwdIdeal.τ).loc Cert.KernelKfwdIdeal.main_arg2)) →
    ∃ (v0 : (c : Dev Cert.KernelKfwdIdeal.nD) → Buf (Elt Ideal) ((c.tc : Thread Cert.KernelKfwdIdeal.nD Cert.KernelKfwdIdeal.τ).loc Cert.KernelKfwdIdeal.main_v3_0)) (v1 : (c : Dev Cert.KernelKfwdIdeal.nD) → Buf (Elt Ideal) ((c.tc : Thread Cert.KernelKfwdIdeal.nD Cert.KernelKfwdIdeal.τ).loc Cert.KernelKfwdIdeal.main_v3_1)),
      θ_run (Cert.KernelKfwdIdeal.defs (F := Ideal)) (onTc (τ := Cert.KernelKfwdIdeal.τ) (Cert.KernelKfwdIdeal.main (F := Ideal))) ⟨m, fun _ => 0, g⟩ (fun r => ∀ c : Dev Cert.KernelKfwdIdeal.nD,
          r.2.mem ((c.tc : Thread Cert.KernelKfwdIdeal.nD Cert.KernelKfwdIdeal.τ).loc Cert.KernelKfwdIdeal.main_v3_0) = v0 c
          ∧ r.2.mem ((c.tc : Thread Cert.KernelKfwdIdeal.nD Cert.KernelKfwdIdeal.τ).loc Cert.KernelKfwdIdeal.main_v3_1) = v1 c
          ∧ r.2.mem ((c.tc : Thread Cert.KernelKfwdIdeal.nD Cert.KernelKfwdIdeal.τ).loc Cert.KernelKfwdIdeal.main_arg0) = m ((c.tc : Thread Cert.KernelKfwdIdeal.nD Cert.KernelKfwdIdeal.τ).loc Cert.KernelKfwdIdeal.main_arg0)
          ∧ r.2.mem ((c.tc : Thread Cert.KernelKfwdIdeal.nD Cert.KernelKfwdIdeal.τ).loc Cert.KernelKfwdIdeal.main_arg1) = m ((c.tc : Thread Cert.KernelKfwdIdeal.nD Cert.KernelKfwdIdeal.τ).loc Cert.KernelKfwdIdeal.main_arg1)
          ∧ r.2.mem ((c.tc : Thread Cert.KernelKfwdIdeal.nD Cert.KernelKfwdIdeal.τ).loc Cert.KernelKfwdIdeal.main_arg2) = m ((c.tc : Thread Cert.KernelKfwdIdeal.nD Cert.KernelKfwdIdeal.τ).loc Cert.KernelKfwdIdeal.main_arg2))
      ∧ θ_run (Cert.ReferenceKfwdIdeal.defs (F := Ideal)) (onTc (τ := Cert.ReferenceKfwdIdeal.τ) (Cert.ReferenceKfwdIdeal.main (F := Ideal))) ⟨m', fun _ => 0, g'⟩ (fun r => ∀ c : Dev Cert.ReferenceKfwdIdeal.nD,
          r.2.mem ((c.tc : Thread Cert.ReferenceKfwdIdeal.nD Cert.ReferenceKfwdIdeal.τ).loc Cert.ReferenceKfwdIdeal.main_v3) = v0 c
          ∧ r.2.mem ((c.tc : Thread Cert.ReferenceKfwdIdeal.nD Cert.ReferenceKfwdIdeal.τ).loc Cert.ReferenceKfwdIdeal.main_v19) = v1 c
          ∧ r.2.mem ((c.tc : Thread Cert.ReferenceKfwdIdeal.nD Cert.ReferenceKfwdIdeal.τ).loc Cert.ReferenceKfwdIdeal.main_arg0) = m' ((c.tc : Thread Cert.ReferenceKfwdIdeal.nD Cert.ReferenceKfwdIdeal.τ).loc Cert.ReferenceKfwdIdeal.main_arg0)
          ∧ r.2.mem ((c.tc : Thread Cert.ReferenceKfwdIdeal.nD Cert.ReferenceKfwdIdeal.τ).loc Cert.ReferenceKfwdIdeal.main_arg1) = m' ((c.tc : Thread Cert.ReferenceKfwdIdeal.nD Cert.ReferenceKfwdIdeal.τ).loc Cert.ReferenceKfwdIdeal.main_arg1)
          ∧ r.2.mem ((c.tc : Thread Cert.ReferenceKfwdIdeal.nD Cert.ReferenceKfwdIdeal.τ).loc Cert.ReferenceKfwdIdeal.main_arg2) = m' ((c.tc : Thread Cert.ReferenceKfwdIdeal.nD Cert.ReferenceKfwdIdeal.τ).loc Cert.ReferenceKfwdIdeal.main_arg2))

def preserves_KernelDownfwd_KernelDownfwdIdeal : Prop :=
  True

def algebraic_KernelDownfwdIdeal_ReferenceDownfwdIdeal [hKernelDownfwdIdeal : Cert.KernelDownfwdIdeal.Facts] [hReferenceDownfwdIdeal : Cert.ReferenceDownfwdIdeal.Facts] : Prop :=
  ∀ (m : (ℓ : Loc Cert.KernelDownfwdIdeal.nD Cert.KernelDownfwdIdeal.τ Cert.KernelDownfwdIdeal.sig) → Buf (Elt Ideal) ℓ) (g : Dev Cert.KernelDownfwdIdeal.nD → PrngReg)
    (m' : (ℓ : Loc Cert.ReferenceDownfwdIdeal.nD Cert.ReferenceDownfwdIdeal.τ Cert.ReferenceDownfwdIdeal.sig) → Buf (Elt Ideal) ℓ) (g' : Dev Cert.ReferenceDownfwdIdeal.nD → PrngReg), Pre_KernelDownfwdIdeal m →
    (∀ c : Dev Cert.KernelDownfwdIdeal.nD,
      m' ((c.tc : Thread Cert.ReferenceDownfwdIdeal.nD Cert.ReferenceDownfwdIdeal.τ).loc Cert.ReferenceDownfwdIdeal.main_arg0) = m ((c.tc : Thread Cert.KernelDownfwdIdeal.nD Cert.KernelDownfwdIdeal.τ).loc Cert.KernelDownfwdIdeal.main_arg0)
      ∧ m' ((c.tc : Thread Cert.ReferenceDownfwdIdeal.nD Cert.ReferenceDownfwdIdeal.τ).loc Cert.ReferenceDownfwdIdeal.main_arg1) = m ((c.tc : Thread Cert.KernelDownfwdIdeal.nD Cert.KernelDownfwdIdeal.τ).loc Cert.KernelDownfwdIdeal.main_arg1)
      ∧ m' ((c.tc : Thread Cert.ReferenceDownfwdIdeal.nD Cert.ReferenceDownfwdIdeal.τ).loc Cert.ReferenceDownfwdIdeal.main_arg2) = m ((c.tc : Thread Cert.KernelDownfwdIdeal.nD Cert.KernelDownfwdIdeal.τ).loc Cert.KernelDownfwdIdeal.main_arg2)
      ∧ m' ((c.tc : Thread Cert.ReferenceDownfwdIdeal.nD Cert.ReferenceDownfwdIdeal.τ).loc Cert.ReferenceDownfwdIdeal.main_arg3) = m ((c.tc : Thread Cert.KernelDownfwdIdeal.nD Cert.KernelDownfwdIdeal.τ).loc Cert.KernelDownfwdIdeal.main_arg3)) →
    ∃ (v0 : (c : Dev Cert.KernelDownfwdIdeal.nD) → Buf (Elt Ideal) ((c.tc : Thread Cert.KernelDownfwdIdeal.nD Cert.KernelDownfwdIdeal.τ).loc Cert.KernelDownfwdIdeal.main_v0_0)) (v1 : (c : Dev Cert.KernelDownfwdIdeal.nD) → Buf (Elt Ideal) ((c.tc : Thread Cert.KernelDownfwdIdeal.nD Cert.KernelDownfwdIdeal.τ).loc Cert.KernelDownfwdIdeal.main_v0_1)),
      θ_run (Cert.KernelDownfwdIdeal.defs (F := Ideal)) (onTc (τ := Cert.KernelDownfwdIdeal.τ) (Cert.KernelDownfwdIdeal.main (F := Ideal))) ⟨m, fun _ => 0, g⟩ (fun r => ∀ c : Dev Cert.KernelDownfwdIdeal.nD,
          r.2.mem ((c.tc : Thread Cert.KernelDownfwdIdeal.nD Cert.KernelDownfwdIdeal.τ).loc Cert.KernelDownfwdIdeal.main_v0_0) = v0 c
          ∧ r.2.mem ((c.tc : Thread Cert.KernelDownfwdIdeal.nD Cert.KernelDownfwdIdeal.τ).loc Cert.KernelDownfwdIdeal.main_v0_1) = v1 c
          ∧ r.2.mem ((c.tc : Thread Cert.KernelDownfwdIdeal.nD Cert.KernelDownfwdIdeal.τ).loc Cert.KernelDownfwdIdeal.main_arg0) = m ((c.tc : Thread Cert.KernelDownfwdIdeal.nD Cert.KernelDownfwdIdeal.τ).loc Cert.KernelDownfwdIdeal.main_arg0)
          ∧ r.2.mem ((c.tc : Thread Cert.KernelDownfwdIdeal.nD Cert.KernelDownfwdIdeal.τ).loc Cert.KernelDownfwdIdeal.main_arg1) = m ((c.tc : Thread Cert.KernelDownfwdIdeal.nD Cert.KernelDownfwdIdeal.τ).loc Cert.KernelDownfwdIdeal.main_arg1)
          ∧ r.2.mem ((c.tc : Thread Cert.KernelDownfwdIdeal.nD Cert.KernelDownfwdIdeal.τ).loc Cert.KernelDownfwdIdeal.main_arg2) = m ((c.tc : Thread Cert.KernelDownfwdIdeal.nD Cert.KernelDownfwdIdeal.τ).loc Cert.KernelDownfwdIdeal.main_arg2)
          ∧ r.2.mem ((c.tc : Thread Cert.KernelDownfwdIdeal.nD Cert.KernelDownfwdIdeal.τ).loc Cert.KernelDownfwdIdeal.main_arg3) = m ((c.tc : Thread Cert.KernelDownfwdIdeal.nD Cert.KernelDownfwdIdeal.τ).loc Cert.KernelDownfwdIdeal.main_arg3))
      ∧ θ_run (Cert.ReferenceDownfwdIdeal.defs (F := Ideal)) (onTc (τ := Cert.ReferenceDownfwdIdeal.τ) (Cert.ReferenceDownfwdIdeal.main (F := Ideal))) ⟨m', fun _ => 0, g'⟩ (fun r => ∀ c : Dev Cert.ReferenceDownfwdIdeal.nD,
          r.2.mem ((c.tc : Thread Cert.ReferenceDownfwdIdeal.nD Cert.ReferenceDownfwdIdeal.τ).loc Cert.ReferenceDownfwdIdeal.main_v5) = v0 c
          ∧ r.2.mem ((c.tc : Thread Cert.ReferenceDownfwdIdeal.nD Cert.ReferenceDownfwdIdeal.τ).loc Cert.ReferenceDownfwdIdeal.main_v6) = v1 c
          ∧ r.2.mem ((c.tc : Thread Cert.ReferenceDownfwdIdeal.nD Cert.ReferenceDownfwdIdeal.τ).loc Cert.ReferenceDownfwdIdeal.main_arg0) = m' ((c.tc : Thread Cert.ReferenceDownfwdIdeal.nD Cert.ReferenceDownfwdIdeal.τ).loc Cert.ReferenceDownfwdIdeal.main_arg0)
          ∧ r.2.mem ((c.tc : Thread Cert.ReferenceDownfwdIdeal.nD Cert.ReferenceDownfwdIdeal.τ).loc Cert.ReferenceDownfwdIdeal.main_arg1) = m' ((c.tc : Thread Cert.ReferenceDownfwdIdeal.nD Cert.ReferenceDownfwdIdeal.τ).loc Cert.ReferenceDownfwdIdeal.main_arg1)
          ∧ r.2.mem ((c.tc : Thread Cert.ReferenceDownfwdIdeal.nD Cert.ReferenceDownfwdIdeal.τ).loc Cert.ReferenceDownfwdIdeal.main_arg2) = m' ((c.tc : Thread Cert.ReferenceDownfwdIdeal.nD Cert.ReferenceDownfwdIdeal.τ).loc Cert.ReferenceDownfwdIdeal.main_arg2)
          ∧ r.2.mem ((c.tc : Thread Cert.ReferenceDownfwdIdeal.nD Cert.ReferenceDownfwdIdeal.τ).loc Cert.ReferenceDownfwdIdeal.main_arg3) = m' ((c.tc : Thread Cert.ReferenceDownfwdIdeal.nD Cert.ReferenceDownfwdIdeal.τ).loc Cert.ReferenceDownfwdIdeal.main_arg3))

def preserves_KernelAttnofwd_KernelAttnofwdIdeal : Prop :=
  True

def algebraic_KernelAttnofwdIdeal_ReferenceAttnofwdIdeal [hKernelAttnofwdIdeal : Cert.KernelAttnofwdIdeal.Facts] [hReferenceAttnofwdIdeal : Cert.ReferenceAttnofwdIdeal.Facts] : Prop :=
  ∀ (m : (ℓ : Loc Cert.KernelAttnofwdIdeal.nD Cert.KernelAttnofwdIdeal.τ Cert.KernelAttnofwdIdeal.sig) → Buf (Elt Ideal) ℓ) (g : Dev Cert.KernelAttnofwdIdeal.nD → PrngReg)
    (m' : (ℓ : Loc Cert.ReferenceAttnofwdIdeal.nD Cert.ReferenceAttnofwdIdeal.τ Cert.ReferenceAttnofwdIdeal.sig) → Buf (Elt Ideal) ℓ) (g' : Dev Cert.ReferenceAttnofwdIdeal.nD → PrngReg), Pre_KernelAttnofwdIdeal m →
    (∀ c : Dev Cert.KernelAttnofwdIdeal.nD,
      m' ((c.tc : Thread Cert.ReferenceAttnofwdIdeal.nD Cert.ReferenceAttnofwdIdeal.τ).loc Cert.ReferenceAttnofwdIdeal.main_arg0) = m ((c.tc : Thread Cert.KernelAttnofwdIdeal.nD Cert.KernelAttnofwdIdeal.τ).loc Cert.KernelAttnofwdIdeal.main_arg0)
      ∧ m' ((c.tc : Thread Cert.ReferenceAttnofwdIdeal.nD Cert.ReferenceAttnofwdIdeal.τ).loc Cert.ReferenceAttnofwdIdeal.main_arg1) = m ((c.tc : Thread Cert.KernelAttnofwdIdeal.nD Cert.KernelAttnofwdIdeal.τ).loc Cert.KernelAttnofwdIdeal.main_arg1)
      ∧ m' ((c.tc : Thread Cert.ReferenceAttnofwdIdeal.nD Cert.ReferenceAttnofwdIdeal.τ).loc Cert.ReferenceAttnofwdIdeal.main_arg2) = m ((c.tc : Thread Cert.KernelAttnofwdIdeal.nD Cert.KernelAttnofwdIdeal.τ).loc Cert.KernelAttnofwdIdeal.main_arg2)
      ∧ m' ((c.tc : Thread Cert.ReferenceAttnofwdIdeal.nD Cert.ReferenceAttnofwdIdeal.τ).loc Cert.ReferenceAttnofwdIdeal.main_arg3) = m ((c.tc : Thread Cert.KernelAttnofwdIdeal.nD Cert.KernelAttnofwdIdeal.τ).loc Cert.KernelAttnofwdIdeal.main_arg3)) →
    ∃ (v0 : (c : Dev Cert.KernelAttnofwdIdeal.nD) → Buf (Elt Ideal) ((c.tc : Thread Cert.KernelAttnofwdIdeal.nD Cert.KernelAttnofwdIdeal.τ).loc Cert.KernelAttnofwdIdeal.main_v0_0)) (v1 : (c : Dev Cert.KernelAttnofwdIdeal.nD) → Buf (Elt Ideal) ((c.tc : Thread Cert.KernelAttnofwdIdeal.nD Cert.KernelAttnofwdIdeal.τ).loc Cert.KernelAttnofwdIdeal.main_v0_1)),
      θ_run (Cert.KernelAttnofwdIdeal.defs (F := Ideal)) (onTc (τ := Cert.KernelAttnofwdIdeal.τ) (Cert.KernelAttnofwdIdeal.main (F := Ideal))) ⟨m, fun _ => 0, g⟩ (fun r => ∀ c : Dev Cert.KernelAttnofwdIdeal.nD,
          r.2.mem ((c.tc : Thread Cert.KernelAttnofwdIdeal.nD Cert.KernelAttnofwdIdeal.τ).loc Cert.KernelAttnofwdIdeal.main_v0_0) = v0 c
          ∧ r.2.mem ((c.tc : Thread Cert.KernelAttnofwdIdeal.nD Cert.KernelAttnofwdIdeal.τ).loc Cert.KernelAttnofwdIdeal.main_v0_1) = v1 c
          ∧ r.2.mem ((c.tc : Thread Cert.KernelAttnofwdIdeal.nD Cert.KernelAttnofwdIdeal.τ).loc Cert.KernelAttnofwdIdeal.main_arg0) = m ((c.tc : Thread Cert.KernelAttnofwdIdeal.nD Cert.KernelAttnofwdIdeal.τ).loc Cert.KernelAttnofwdIdeal.main_arg0)
          ∧ r.2.mem ((c.tc : Thread Cert.KernelAttnofwdIdeal.nD Cert.KernelAttnofwdIdeal.τ).loc Cert.KernelAttnofwdIdeal.main_arg1) = m ((c.tc : Thread Cert.KernelAttnofwdIdeal.nD Cert.KernelAttnofwdIdeal.τ).loc Cert.KernelAttnofwdIdeal.main_arg1)
          ∧ r.2.mem ((c.tc : Thread Cert.KernelAttnofwdIdeal.nD Cert.KernelAttnofwdIdeal.τ).loc Cert.KernelAttnofwdIdeal.main_arg2) = m ((c.tc : Thread Cert.KernelAttnofwdIdeal.nD Cert.KernelAttnofwdIdeal.τ).loc Cert.KernelAttnofwdIdeal.main_arg2)
          ∧ r.2.mem ((c.tc : Thread Cert.KernelAttnofwdIdeal.nD Cert.KernelAttnofwdIdeal.τ).loc Cert.KernelAttnofwdIdeal.main_arg3) = m ((c.tc : Thread Cert.KernelAttnofwdIdeal.nD Cert.KernelAttnofwdIdeal.τ).loc Cert.KernelAttnofwdIdeal.main_arg3))
      ∧ θ_run (Cert.ReferenceAttnofwdIdeal.defs (F := Ideal)) (onTc (τ := Cert.ReferenceAttnofwdIdeal.τ) (Cert.ReferenceAttnofwdIdeal.main (F := Ideal))) ⟨m', fun _ => 0, g'⟩ (fun r => ∀ c : Dev Cert.ReferenceAttnofwdIdeal.nD,
          r.2.mem ((c.tc : Thread Cert.ReferenceAttnofwdIdeal.nD Cert.ReferenceAttnofwdIdeal.τ).loc Cert.ReferenceAttnofwdIdeal.main_v5) = v0 c
          ∧ r.2.mem ((c.tc : Thread Cert.ReferenceAttnofwdIdeal.nD Cert.ReferenceAttnofwdIdeal.τ).loc Cert.ReferenceAttnofwdIdeal.main_v6) = v1 c
          ∧ r.2.mem ((c.tc : Thread Cert.ReferenceAttnofwdIdeal.nD Cert.ReferenceAttnofwdIdeal.τ).loc Cert.ReferenceAttnofwdIdeal.main_arg0) = m' ((c.tc : Thread Cert.ReferenceAttnofwdIdeal.nD Cert.ReferenceAttnofwdIdeal.τ).loc Cert.ReferenceAttnofwdIdeal.main_arg0)
          ∧ r.2.mem ((c.tc : Thread Cert.ReferenceAttnofwdIdeal.nD Cert.ReferenceAttnofwdIdeal.τ).loc Cert.ReferenceAttnofwdIdeal.main_arg1) = m' ((c.tc : Thread Cert.ReferenceAttnofwdIdeal.nD Cert.ReferenceAttnofwdIdeal.τ).loc Cert.ReferenceAttnofwdIdeal.main_arg1)
          ∧ r.2.mem ((c.tc : Thread Cert.ReferenceAttnofwdIdeal.nD Cert.ReferenceAttnofwdIdeal.τ).loc Cert.ReferenceAttnofwdIdeal.main_arg2) = m' ((c.tc : Thread Cert.ReferenceAttnofwdIdeal.nD Cert.ReferenceAttnofwdIdeal.τ).loc Cert.ReferenceAttnofwdIdeal.main_arg2)
          ∧ r.2.mem ((c.tc : Thread Cert.ReferenceAttnofwdIdeal.nD Cert.ReferenceAttnofwdIdeal.τ).loc Cert.ReferenceAttnofwdIdeal.main_arg3) = m' ((c.tc : Thread Cert.ReferenceAttnofwdIdeal.nD Cert.ReferenceAttnofwdIdeal.τ).loc Cert.ReferenceAttnofwdIdeal.main_arg3))

def preserves_KernelGmlpoutfwd_KernelGmlpoutfwdIdeal : Prop :=
  True

def algebraic_KernelGmlpoutfwdIdeal_ReferenceGmlpoutfwdIdeal [hKernelGmlpoutfwdIdeal : Cert.KernelGmlpoutfwdIdeal.Facts] [hReferenceGmlpoutfwdIdeal : Cert.ReferenceGmlpoutfwdIdeal.Facts] : Prop :=
  ∀ (m : (ℓ : Loc Cert.KernelGmlpoutfwdIdeal.nD Cert.KernelGmlpoutfwdIdeal.τ Cert.KernelGmlpoutfwdIdeal.sig) → Buf (Elt Ideal) ℓ) (g : Dev Cert.KernelGmlpoutfwdIdeal.nD → PrngReg)
    (m' : (ℓ : Loc Cert.ReferenceGmlpoutfwdIdeal.nD Cert.ReferenceGmlpoutfwdIdeal.τ Cert.ReferenceGmlpoutfwdIdeal.sig) → Buf (Elt Ideal) ℓ) (g' : Dev Cert.ReferenceGmlpoutfwdIdeal.nD → PrngReg), Pre_KernelGmlpoutfwdIdeal m →
    (∀ c : Dev Cert.KernelGmlpoutfwdIdeal.nD,
      m' ((c.tc : Thread Cert.ReferenceGmlpoutfwdIdeal.nD Cert.ReferenceGmlpoutfwdIdeal.τ).loc Cert.ReferenceGmlpoutfwdIdeal.main_arg0) = m ((c.tc : Thread Cert.KernelGmlpoutfwdIdeal.nD Cert.KernelGmlpoutfwdIdeal.τ).loc Cert.KernelGmlpoutfwdIdeal.main_arg0)
      ∧ m' ((c.tc : Thread Cert.ReferenceGmlpoutfwdIdeal.nD Cert.ReferenceGmlpoutfwdIdeal.τ).loc Cert.ReferenceGmlpoutfwdIdeal.main_arg1) = m ((c.tc : Thread Cert.KernelGmlpoutfwdIdeal.nD Cert.KernelGmlpoutfwdIdeal.τ).loc Cert.KernelGmlpoutfwdIdeal.main_arg1)
      ∧ m' ((c.tc : Thread Cert.ReferenceGmlpoutfwdIdeal.nD Cert.ReferenceGmlpoutfwdIdeal.τ).loc Cert.ReferenceGmlpoutfwdIdeal.main_arg2) = m ((c.tc : Thread Cert.KernelGmlpoutfwdIdeal.nD Cert.KernelGmlpoutfwdIdeal.τ).loc Cert.KernelGmlpoutfwdIdeal.main_arg2)
      ∧ m' ((c.tc : Thread Cert.ReferenceGmlpoutfwdIdeal.nD Cert.ReferenceGmlpoutfwdIdeal.τ).loc Cert.ReferenceGmlpoutfwdIdeal.main_arg3) = m ((c.tc : Thread Cert.KernelGmlpoutfwdIdeal.nD Cert.KernelGmlpoutfwdIdeal.τ).loc Cert.KernelGmlpoutfwdIdeal.main_arg3)) →
    ∃ (v0 : (c : Dev Cert.KernelGmlpoutfwdIdeal.nD) → Buf (Elt Ideal) ((c.tc : Thread Cert.KernelGmlpoutfwdIdeal.nD Cert.KernelGmlpoutfwdIdeal.τ).loc Cert.KernelGmlpoutfwdIdeal.main_v0_0)) (v1 : (c : Dev Cert.KernelGmlpoutfwdIdeal.nD) → Buf (Elt Ideal) ((c.tc : Thread Cert.KernelGmlpoutfwdIdeal.nD Cert.KernelGmlpoutfwdIdeal.τ).loc Cert.KernelGmlpoutfwdIdeal.main_v0_1)),
      θ_run (Cert.KernelGmlpoutfwdIdeal.defs (F := Ideal)) (onTc (τ := Cert.KernelGmlpoutfwdIdeal.τ) (Cert.KernelGmlpoutfwdIdeal.main (F := Ideal))) ⟨m, fun _ => 0, g⟩ (fun r => ∀ c : Dev Cert.KernelGmlpoutfwdIdeal.nD,
          r.2.mem ((c.tc : Thread Cert.KernelGmlpoutfwdIdeal.nD Cert.KernelGmlpoutfwdIdeal.τ).loc Cert.KernelGmlpoutfwdIdeal.main_v0_0) = v0 c
          ∧ r.2.mem ((c.tc : Thread Cert.KernelGmlpoutfwdIdeal.nD Cert.KernelGmlpoutfwdIdeal.τ).loc Cert.KernelGmlpoutfwdIdeal.main_v0_1) = v1 c
          ∧ r.2.mem ((c.tc : Thread Cert.KernelGmlpoutfwdIdeal.nD Cert.KernelGmlpoutfwdIdeal.τ).loc Cert.KernelGmlpoutfwdIdeal.main_arg0) = m ((c.tc : Thread Cert.KernelGmlpoutfwdIdeal.nD Cert.KernelGmlpoutfwdIdeal.τ).loc Cert.KernelGmlpoutfwdIdeal.main_arg0)
          ∧ r.2.mem ((c.tc : Thread Cert.KernelGmlpoutfwdIdeal.nD Cert.KernelGmlpoutfwdIdeal.τ).loc Cert.KernelGmlpoutfwdIdeal.main_arg1) = m ((c.tc : Thread Cert.KernelGmlpoutfwdIdeal.nD Cert.KernelGmlpoutfwdIdeal.τ).loc Cert.KernelGmlpoutfwdIdeal.main_arg1)
          ∧ r.2.mem ((c.tc : Thread Cert.KernelGmlpoutfwdIdeal.nD Cert.KernelGmlpoutfwdIdeal.τ).loc Cert.KernelGmlpoutfwdIdeal.main_arg2) = m ((c.tc : Thread Cert.KernelGmlpoutfwdIdeal.nD Cert.KernelGmlpoutfwdIdeal.τ).loc Cert.KernelGmlpoutfwdIdeal.main_arg2)
          ∧ r.2.mem ((c.tc : Thread Cert.KernelGmlpoutfwdIdeal.nD Cert.KernelGmlpoutfwdIdeal.τ).loc Cert.KernelGmlpoutfwdIdeal.main_arg3) = m ((c.tc : Thread Cert.KernelGmlpoutfwdIdeal.nD Cert.KernelGmlpoutfwdIdeal.τ).loc Cert.KernelGmlpoutfwdIdeal.main_arg3))
      ∧ θ_run (Cert.ReferenceGmlpoutfwdIdeal.defs (F := Ideal)) (onTc (τ := Cert.ReferenceGmlpoutfwdIdeal.τ) (Cert.ReferenceGmlpoutfwdIdeal.main (F := Ideal))) ⟨m', fun _ => 0, g'⟩ (fun r => ∀ c : Dev Cert.ReferenceGmlpoutfwdIdeal.nD,
          r.2.mem ((c.tc : Thread Cert.ReferenceGmlpoutfwdIdeal.nD Cert.ReferenceGmlpoutfwdIdeal.τ).loc Cert.ReferenceGmlpoutfwdIdeal.main_v5) = v0 c
          ∧ r.2.mem ((c.tc : Thread Cert.ReferenceGmlpoutfwdIdeal.nD Cert.ReferenceGmlpoutfwdIdeal.τ).loc Cert.ReferenceGmlpoutfwdIdeal.main_v6) = v1 c
          ∧ r.2.mem ((c.tc : Thread Cert.ReferenceGmlpoutfwdIdeal.nD Cert.ReferenceGmlpoutfwdIdeal.τ).loc Cert.ReferenceGmlpoutfwdIdeal.main_arg0) = m' ((c.tc : Thread Cert.ReferenceGmlpoutfwdIdeal.nD Cert.ReferenceGmlpoutfwdIdeal.τ).loc Cert.ReferenceGmlpoutfwdIdeal.main_arg0)
          ∧ r.2.mem ((c.tc : Thread Cert.ReferenceGmlpoutfwdIdeal.nD Cert.ReferenceGmlpoutfwdIdeal.τ).loc Cert.ReferenceGmlpoutfwdIdeal.main_arg1) = m' ((c.tc : Thread Cert.ReferenceGmlpoutfwdIdeal.nD Cert.ReferenceGmlpoutfwdIdeal.τ).loc Cert.ReferenceGmlpoutfwdIdeal.main_arg1)
          ∧ r.2.mem ((c.tc : Thread Cert.ReferenceGmlpoutfwdIdeal.nD Cert.ReferenceGmlpoutfwdIdeal.τ).loc Cert.ReferenceGmlpoutfwdIdeal.main_arg2) = m' ((c.tc : Thread Cert.ReferenceGmlpoutfwdIdeal.nD Cert.ReferenceGmlpoutfwdIdeal.τ).loc Cert.ReferenceGmlpoutfwdIdeal.main_arg2)
          ∧ r.2.mem ((c.tc : Thread Cert.ReferenceGmlpoutfwdIdeal.nD Cert.ReferenceGmlpoutfwdIdeal.τ).loc Cert.ReferenceGmlpoutfwdIdeal.main_arg3) = m' ((c.tc : Thread Cert.ReferenceGmlpoutfwdIdeal.nD Cert.ReferenceGmlpoutfwdIdeal.τ).loc Cert.ReferenceGmlpoutfwdIdeal.main_arg3))

def preserves_KernelSilufwd_KernelSilufwdIdeal : Prop :=
  True

def algebraic_KernelSilufwdIdeal_ReferenceSilufwdIdeal [hKernelSilufwdIdeal : Cert.KernelSilufwdIdeal.Facts] [hReferenceSilufwdIdeal : Cert.ReferenceSilufwdIdeal.Facts] : Prop :=
  ∀ (m : (ℓ : Loc Cert.KernelSilufwdIdeal.nD Cert.KernelSilufwdIdeal.τ Cert.KernelSilufwdIdeal.sig) → Buf (Elt Ideal) ℓ) (g : Dev Cert.KernelSilufwdIdeal.nD → PrngReg)
    (m' : (ℓ : Loc Cert.ReferenceSilufwdIdeal.nD Cert.ReferenceSilufwdIdeal.τ Cert.ReferenceSilufwdIdeal.sig) → Buf (Elt Ideal) ℓ) (g' : Dev Cert.ReferenceSilufwdIdeal.nD → PrngReg), Pre_KernelSilufwdIdeal m →
    (∀ c : Dev Cert.KernelSilufwdIdeal.nD,
      m' ((c.tc : Thread Cert.ReferenceSilufwdIdeal.nD Cert.ReferenceSilufwdIdeal.τ).loc Cert.ReferenceSilufwdIdeal.main_arg0) = m ((c.tc : Thread Cert.KernelSilufwdIdeal.nD Cert.KernelSilufwdIdeal.τ).loc Cert.KernelSilufwdIdeal.main_arg0)) →
    ∃ (v0 : (c : Dev Cert.KernelSilufwdIdeal.nD) → Buf (Elt Ideal) ((c.tc : Thread Cert.KernelSilufwdIdeal.nD Cert.KernelSilufwdIdeal.τ).loc Cert.KernelSilufwdIdeal.main_v0)),
      θ_run (Cert.KernelSilufwdIdeal.defs (F := Ideal)) (onTc (τ := Cert.KernelSilufwdIdeal.τ) (Cert.KernelSilufwdIdeal.main (F := Ideal))) ⟨m, fun _ => 0, g⟩ (fun r => ∀ c : Dev Cert.KernelSilufwdIdeal.nD,
          r.2.mem ((c.tc : Thread Cert.KernelSilufwdIdeal.nD Cert.KernelSilufwdIdeal.τ).loc Cert.KernelSilufwdIdeal.main_v0) = v0 c
          ∧ r.2.mem ((c.tc : Thread Cert.KernelSilufwdIdeal.nD Cert.KernelSilufwdIdeal.τ).loc Cert.KernelSilufwdIdeal.main_arg0) = m ((c.tc : Thread Cert.KernelSilufwdIdeal.nD Cert.KernelSilufwdIdeal.τ).loc Cert.KernelSilufwdIdeal.main_arg0))
      ∧ θ_run (Cert.ReferenceSilufwdIdeal.defs (F := Ideal)) (onTc (τ := Cert.ReferenceSilufwdIdeal.τ) (Cert.ReferenceSilufwdIdeal.main (F := Ideal))) ⟨m', fun _ => 0, g'⟩ (fun r => ∀ c : Dev Cert.ReferenceSilufwdIdeal.nD,
          r.2.mem ((c.tc : Thread Cert.ReferenceSilufwdIdeal.nD Cert.ReferenceSilufwdIdeal.τ).loc Cert.ReferenceSilufwdIdeal.main_v0) = v0 c
          ∧ r.2.mem ((c.tc : Thread Cert.ReferenceSilufwdIdeal.nD Cert.ReferenceSilufwdIdeal.τ).loc Cert.ReferenceSilufwdIdeal.main_arg0) = m' ((c.tc : Thread Cert.ReferenceSilufwdIdeal.nD Cert.ReferenceSilufwdIdeal.τ).loc Cert.ReferenceSilufwdIdeal.main_arg0))

def preserves_KernelAdafwd_KernelAdafwdIdeal : Prop :=
  True

def algebraic_KernelAdafwdIdeal_ReferenceAdafwdIdeal [hKernelAdafwdIdeal : Cert.KernelAdafwdIdeal.Facts] [hReferenceAdafwdIdeal : Cert.ReferenceAdafwdIdeal.Facts] : Prop :=
  ∀ (m : (ℓ : Loc Cert.KernelAdafwdIdeal.nD Cert.KernelAdafwdIdeal.τ Cert.KernelAdafwdIdeal.sig) → Buf (Elt Ideal) ℓ) (g : Dev Cert.KernelAdafwdIdeal.nD → PrngReg)
    (m' : (ℓ : Loc Cert.ReferenceAdafwdIdeal.nD Cert.ReferenceAdafwdIdeal.τ Cert.ReferenceAdafwdIdeal.sig) → Buf (Elt Ideal) ℓ) (g' : Dev Cert.ReferenceAdafwdIdeal.nD → PrngReg), Pre_KernelAdafwdIdeal m →
    (∀ c : Dev Cert.KernelAdafwdIdeal.nD,
      m' ((c.tc : Thread Cert.ReferenceAdafwdIdeal.nD Cert.ReferenceAdafwdIdeal.τ).loc Cert.ReferenceAdafwdIdeal.main_arg0) = m ((c.tc : Thread Cert.KernelAdafwdIdeal.nD Cert.KernelAdafwdIdeal.τ).loc Cert.KernelAdafwdIdeal.main_arg0)
      ∧ m' ((c.tc : Thread Cert.ReferenceAdafwdIdeal.nD Cert.ReferenceAdafwdIdeal.τ).loc Cert.ReferenceAdafwdIdeal.main_arg1) = m ((c.tc : Thread Cert.KernelAdafwdIdeal.nD Cert.KernelAdafwdIdeal.τ).loc Cert.KernelAdafwdIdeal.main_arg1)
      ∧ m' ((c.tc : Thread Cert.ReferenceAdafwdIdeal.nD Cert.ReferenceAdafwdIdeal.τ).loc Cert.ReferenceAdafwdIdeal.main_arg2) = m ((c.tc : Thread Cert.KernelAdafwdIdeal.nD Cert.KernelAdafwdIdeal.τ).loc Cert.KernelAdafwdIdeal.main_arg2)) →
    ∃ (v0 : (c : Dev Cert.KernelAdafwdIdeal.nD) → Buf (Elt Ideal) ((c.tc : Thread Cert.KernelAdafwdIdeal.nD Cert.KernelAdafwdIdeal.τ).loc Cert.KernelAdafwdIdeal.main_v1)),
      θ_run (Cert.KernelAdafwdIdeal.defs (F := Ideal)) (onTc (τ := Cert.KernelAdafwdIdeal.τ) (Cert.KernelAdafwdIdeal.main (F := Ideal))) ⟨m, fun _ => 0, g⟩ (fun r => ∀ c : Dev Cert.KernelAdafwdIdeal.nD,
          r.2.mem ((c.tc : Thread Cert.KernelAdafwdIdeal.nD Cert.KernelAdafwdIdeal.τ).loc Cert.KernelAdafwdIdeal.main_v1) = v0 c
          ∧ r.2.mem ((c.tc : Thread Cert.KernelAdafwdIdeal.nD Cert.KernelAdafwdIdeal.τ).loc Cert.KernelAdafwdIdeal.main_arg0) = m ((c.tc : Thread Cert.KernelAdafwdIdeal.nD Cert.KernelAdafwdIdeal.τ).loc Cert.KernelAdafwdIdeal.main_arg0)
          ∧ r.2.mem ((c.tc : Thread Cert.KernelAdafwdIdeal.nD Cert.KernelAdafwdIdeal.τ).loc Cert.KernelAdafwdIdeal.main_arg1) = m ((c.tc : Thread Cert.KernelAdafwdIdeal.nD Cert.KernelAdafwdIdeal.τ).loc Cert.KernelAdafwdIdeal.main_arg1)
          ∧ r.2.mem ((c.tc : Thread Cert.KernelAdafwdIdeal.nD Cert.KernelAdafwdIdeal.τ).loc Cert.KernelAdafwdIdeal.main_arg2) = m ((c.tc : Thread Cert.KernelAdafwdIdeal.nD Cert.KernelAdafwdIdeal.τ).loc Cert.KernelAdafwdIdeal.main_arg2))
      ∧ θ_run (Cert.ReferenceAdafwdIdeal.defs (F := Ideal)) (onTc (τ := Cert.ReferenceAdafwdIdeal.τ) (Cert.ReferenceAdafwdIdeal.main (F := Ideal))) ⟨m', fun _ => 0, g'⟩ (fun r => ∀ c : Dev Cert.ReferenceAdafwdIdeal.nD,
          r.2.mem ((c.tc : Thread Cert.ReferenceAdafwdIdeal.nD Cert.ReferenceAdafwdIdeal.τ).loc Cert.ReferenceAdafwdIdeal.main_v4) = v0 c
          ∧ r.2.mem ((c.tc : Thread Cert.ReferenceAdafwdIdeal.nD Cert.ReferenceAdafwdIdeal.τ).loc Cert.ReferenceAdafwdIdeal.main_arg0) = m' ((c.tc : Thread Cert.ReferenceAdafwdIdeal.nD Cert.ReferenceAdafwdIdeal.τ).loc Cert.ReferenceAdafwdIdeal.main_arg0)
          ∧ r.2.mem ((c.tc : Thread Cert.ReferenceAdafwdIdeal.nD Cert.ReferenceAdafwdIdeal.τ).loc Cert.ReferenceAdafwdIdeal.main_arg1) = m' ((c.tc : Thread Cert.ReferenceAdafwdIdeal.nD Cert.ReferenceAdafwdIdeal.τ).loc Cert.ReferenceAdafwdIdeal.main_arg1)
          ∧ r.2.mem ((c.tc : Thread Cert.ReferenceAdafwdIdeal.nD Cert.ReferenceAdafwdIdeal.τ).loc Cert.ReferenceAdafwdIdeal.main_arg2) = m' ((c.tc : Thread Cert.ReferenceAdafwdIdeal.nD Cert.ReferenceAdafwdIdeal.τ).loc Cert.ReferenceAdafwdIdeal.main_arg2))

def preserves_KernelFcumfwd_KernelFcumfwdIdeal : Prop :=
  True

def algebraic_KernelFcumfwdIdeal_ReferenceFcumfwdIdeal [hKernelFcumfwdIdeal : Cert.KernelFcumfwdIdeal.Facts] [hReferenceFcumfwdIdeal : Cert.ReferenceFcumfwdIdeal.Facts] : Prop :=
  ∀ (m : (ℓ : Loc Cert.KernelFcumfwdIdeal.nD Cert.KernelFcumfwdIdeal.τ Cert.KernelFcumfwdIdeal.sig) → Buf (Elt Ideal) ℓ) (g : Dev Cert.KernelFcumfwdIdeal.nD → PrngReg)
    (m' : (ℓ : Loc Cert.ReferenceFcumfwdIdeal.nD Cert.ReferenceFcumfwdIdeal.τ Cert.ReferenceFcumfwdIdeal.sig) → Buf (Elt Ideal) ℓ) (g' : Dev Cert.ReferenceFcumfwdIdeal.nD → PrngReg), Pre_KernelFcumfwdIdeal m →
    (∀ c : Dev Cert.KernelFcumfwdIdeal.nD,
      m' ((c.tc : Thread Cert.ReferenceFcumfwdIdeal.nD Cert.ReferenceFcumfwdIdeal.τ).loc Cert.ReferenceFcumfwdIdeal.main_arg0) = m ((c.tc : Thread Cert.KernelFcumfwdIdeal.nD Cert.KernelFcumfwdIdeal.τ).loc Cert.KernelFcumfwdIdeal.main_arg0)) →
    ∃ (v0 : (c : Dev Cert.KernelFcumfwdIdeal.nD) → Buf (Elt Ideal) ((c.tc : Thread Cert.KernelFcumfwdIdeal.nD Cert.KernelFcumfwdIdeal.τ).loc Cert.KernelFcumfwdIdeal.main_v1_0)) (v1 : (c : Dev Cert.KernelFcumfwdIdeal.nD) → Buf (Elt Ideal) ((c.tc : Thread Cert.KernelFcumfwdIdeal.nD Cert.KernelFcumfwdIdeal.τ).loc Cert.KernelFcumfwdIdeal.main_v1_1)),
      θ_run (Cert.KernelFcumfwdIdeal.defs (F := Ideal)) (onTc (τ := Cert.KernelFcumfwdIdeal.τ) (Cert.KernelFcumfwdIdeal.main (F := Ideal))) ⟨m, fun _ => 0, g⟩ (fun r => ∀ c : Dev Cert.KernelFcumfwdIdeal.nD,
          r.2.mem ((c.tc : Thread Cert.KernelFcumfwdIdeal.nD Cert.KernelFcumfwdIdeal.τ).loc Cert.KernelFcumfwdIdeal.main_v1_0) = v0 c
          ∧ r.2.mem ((c.tc : Thread Cert.KernelFcumfwdIdeal.nD Cert.KernelFcumfwdIdeal.τ).loc Cert.KernelFcumfwdIdeal.main_v1_1) = v1 c
          ∧ r.2.mem ((c.tc : Thread Cert.KernelFcumfwdIdeal.nD Cert.KernelFcumfwdIdeal.τ).loc Cert.KernelFcumfwdIdeal.main_arg0) = m ((c.tc : Thread Cert.KernelFcumfwdIdeal.nD Cert.KernelFcumfwdIdeal.τ).loc Cert.KernelFcumfwdIdeal.main_arg0))
      ∧ θ_run (Cert.ReferenceFcumfwdIdeal.defs (F := Ideal)) (onTc (τ := Cert.ReferenceFcumfwdIdeal.τ) (Cert.ReferenceFcumfwdIdeal.main (F := Ideal))) ⟨m', fun _ => 0, g'⟩ (fun r => ∀ c : Dev Cert.ReferenceFcumfwdIdeal.nD,
          r.2.mem ((c.tc : Thread Cert.ReferenceFcumfwdIdeal.nD Cert.ReferenceFcumfwdIdeal.τ).loc Cert.ReferenceFcumfwdIdeal.main_v1) = v0 c
          ∧ r.2.mem ((c.tc : Thread Cert.ReferenceFcumfwdIdeal.nD Cert.ReferenceFcumfwdIdeal.τ).loc Cert.ReferenceFcumfwdIdeal.main_v3) = v1 c
          ∧ r.2.mem ((c.tc : Thread Cert.ReferenceFcumfwdIdeal.nD Cert.ReferenceFcumfwdIdeal.τ).loc Cert.ReferenceFcumfwdIdeal.main_arg0) = m' ((c.tc : Thread Cert.ReferenceFcumfwdIdeal.nD Cert.ReferenceFcumfwdIdeal.τ).loc Cert.ReferenceFcumfwdIdeal.main_arg0))

def preserves_KernelWgrad_KernelWgradIdeal : Prop :=
  True

def algebraic_KernelWgradIdeal_ReferenceWgradIdeal [hKernelWgradIdeal : Cert.KernelWgradIdeal.Facts] [hReferenceWgradIdeal : Cert.ReferenceWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg)
    (m' : (ℓ : Loc Cert.ReferenceWgradIdeal.nD Cert.ReferenceWgradIdeal.τ Cert.ReferenceWgradIdeal.sig) → Buf (Elt Ideal) ℓ) (g' : Dev Cert.ReferenceWgradIdeal.nD → PrngReg), Pre_KernelWgradIdeal m →
    (∀ c : Dev Cert.KernelWgradIdeal.nD,
      m' ((c.tc : Thread Cert.ReferenceWgradIdeal.nD Cert.ReferenceWgradIdeal.τ).loc Cert.ReferenceWgradIdeal.main_arg0) = m ((c.tc : Thread Cert.KernelWgradIdeal.nD Cert.KernelWgradIdeal.τ).loc Cert.KernelWgradIdeal.main_arg0)
      ∧ m' ((c.tc : Thread Cert.ReferenceWgradIdeal.nD Cert.ReferenceWgradIdeal.τ).loc Cert.ReferenceWgradIdeal.main_arg1) = m ((c.tc : Thread Cert.KernelWgradIdeal.nD Cert.KernelWgradIdeal.τ).loc Cert.KernelWgradIdeal.main_arg1)) →
    ∃ (v0 : (c : Dev Cert.KernelWgradIdeal.nD) → Buf (Elt Ideal) ((c.tc : Thread Cert.KernelWgradIdeal.nD Cert.KernelWgradIdeal.τ).loc Cert.KernelWgradIdeal.main_v0)),
      θ_run (Cert.KernelWgradIdeal.defs (F := Ideal)) (onTc (τ := Cert.KernelWgradIdeal.τ) (Cert.KernelWgradIdeal.main (F := Ideal))) ⟨m, fun _ => 0, g⟩ (fun r => ∀ c : Dev Cert.KernelWgradIdeal.nD,
          r.2.mem ((c.tc : Thread Cert.KernelWgradIdeal.nD Cert.KernelWgradIdeal.τ).loc Cert.KernelWgradIdeal.main_v0) = v0 c
          ∧ r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
          ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ θ_run (Cert.ReferenceWgradIdeal.defs (F := Ideal)) (onTc (τ := Cert.ReferenceWgradIdeal.τ) (Cert.ReferenceWgradIdeal.main (F := Ideal))) ⟨m', fun _ => 0, g'⟩ (fun r => ∀ c : Dev Cert.ReferenceWgradIdeal.nD,
          r.2.mem ((c.tc : Thread Cert.ReferenceWgradIdeal.nD Cert.ReferenceWgradIdeal.τ).loc Cert.ReferenceWgradIdeal.main_v4) = v0 c
          ∧ r.2.mem ((c.tc : Thread Cert.ReferenceWgradIdeal.nD Cert.ReferenceWgradIdeal.τ).loc Cert.ReferenceWgradIdeal.main_arg0) = m' ((c.tc : Thread Cert.ReferenceWgradIdeal.nD Cert.ReferenceWgradIdeal.τ).loc Cert.ReferenceWgradIdeal.main_arg0)
          ∧ r.2.mem ((c.tc : Thread Cert.ReferenceWgradIdeal.nD Cert.ReferenceWgradIdeal.τ).loc Cert.ReferenceWgradIdeal.main_arg1) = m' ((c.tc : Thread Cert.ReferenceWgradIdeal.nD Cert.ReferenceWgradIdeal.τ).loc Cert.ReferenceWgradIdeal.main_arg1))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v0_0)) (v1 : (c : Dev Cert.KernelAdamwIdeal.nD) → Buf (Elt Ideal) ((c.tc : Thread Cert.KernelAdamwIdeal.nD Cert.KernelAdamwIdeal.τ).loc Cert.KernelAdamwIdeal.main_v0_1)) (v2 : (c : Dev Cert.KernelAdamwIdeal.nD) → Buf (Elt Ideal) ((c.tc : Thread Cert.KernelAdamwIdeal.nD Cert.KernelAdamwIdeal.τ).loc Cert.KernelAdamwIdeal.main_v0_2)) (v3 : (c : Dev Cert.KernelAdamwIdeal.nD) → Buf (Elt Ideal) ((c.tc : Thread Cert.KernelAdamwIdeal.nD Cert.KernelAdamwIdeal.τ).loc Cert.KernelAdamwIdeal.main_v0_3)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v0_0) = v0 c
          ∧ r.2.mem ((c.tc : Thread Cert.KernelAdamwIdeal.nD Cert.KernelAdamwIdeal.τ).loc Cert.KernelAdamwIdeal.main_v0_1) = v1 c
          ∧ r.2.mem ((c.tc : Thread Cert.KernelAdamwIdeal.nD Cert.KernelAdamwIdeal.τ).loc Cert.KernelAdamwIdeal.main_v0_2) = v2 c
          ∧ r.2.mem ((c.tc : Thread Cert.KernelAdamwIdeal.nD Cert.KernelAdamwIdeal.τ).loc Cert.KernelAdamwIdeal.main_v0_3) = v3 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v23) = v0 c
          ∧ r.2.mem ((c.tc : Thread Cert.ReferenceAdamwIdeal.nD Cert.ReferenceAdamwIdeal.τ).loc Cert.ReferenceAdamwIdeal.main_v4) = v1 c
          ∧ r.2.mem ((c.tc : Thread Cert.ReferenceAdamwIdeal.nD Cert.ReferenceAdamwIdeal.τ).loc Cert.ReferenceAdamwIdeal.main_v10) = v2 c
          ∧ r.2.mem ((c.tc : Thread Cert.ReferenceAdamwIdeal.nD Cert.ReferenceAdamwIdeal.τ).loc Cert.ReferenceAdamwIdeal.main_arg1) = v3 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelSumdev_KernelSumdevIdeal : Prop :=
  True

def algebraic_KernelSumdevIdeal_ReferenceSumdevIdeal [hKernelSumdevIdeal : Cert.KernelSumdevIdeal.Facts] [hReferenceSumdevIdeal : Cert.ReferenceSumdevIdeal.Facts] : Prop :=
  ∀ (m : (ℓ : Loc Cert.KernelSumdevIdeal.nD Cert.KernelSumdevIdeal.τ Cert.KernelSumdevIdeal.sig) → Buf (Elt Ideal) ℓ) (g : Dev Cert.KernelSumdevIdeal.nD → PrngReg)
    (m' : (ℓ : Loc Cert.ReferenceSumdevIdeal.nD Cert.ReferenceSumdevIdeal.τ Cert.ReferenceSumdevIdeal.sig) → Buf (Elt Ideal) ℓ) (g' : Dev Cert.ReferenceSumdevIdeal.nD → PrngReg), Pre_KernelSumdevIdeal m →
    (∀ c : Dev Cert.KernelSumdevIdeal.nD,
      m' ((c.tc : Thread Cert.ReferenceSumdevIdeal.nD Cert.ReferenceSumdevIdeal.τ).loc Cert.ReferenceSumdevIdeal.main_arg0) = m ((c.tc : Thread Cert.KernelSumdevIdeal.nD Cert.KernelSumdevIdeal.τ).loc Cert.KernelSumdevIdeal.main_arg0)) →
    ∃ (v0 : (c : Dev Cert.KernelSumdevIdeal.nD) → Buf (Elt Ideal) ((c.tc : Thread Cert.KernelSumdevIdeal.nD Cert.KernelSumdevIdeal.τ).loc Cert.KernelSumdevIdeal.main_v0)),
      θ_run (Cert.KernelSumdevIdeal.defs (F := Ideal)) (onTc (τ := Cert.KernelSumdevIdeal.τ) (Cert.KernelSumdevIdeal.main (F := Ideal))) ⟨m, fun _ => 0, g⟩ (fun r => ∀ c : Dev Cert.KernelSumdevIdeal.nD,
          r.2.mem ((c.tc : Thread Cert.KernelSumdevIdeal.nD Cert.KernelSumdevIdeal.τ).loc Cert.KernelSumdevIdeal.main_v0) = v0 c
          ∧ r.2.mem ((c.tc : Thread Cert.KernelSumdevIdeal.nD Cert.KernelSumdevIdeal.τ).loc Cert.KernelSumdevIdeal.main_arg0) = m ((c.tc : Thread Cert.KernelSumdevIdeal.nD Cert.KernelSumdevIdeal.τ).loc Cert.KernelSumdevIdeal.main_arg0))
      ∧ θ_run (Cert.ReferenceSumdevIdeal.defs (F := Ideal)) (onTc (τ := Cert.ReferenceSumdevIdeal.τ) (Cert.ReferenceSumdevIdeal.main (F := Ideal))) ⟨m', fun _ => 0, g'⟩ (fun r => ∀ c : Dev Cert.ReferenceSumdevIdeal.nD,
          r.2.mem ((c.tc : Thread Cert.ReferenceSumdevIdeal.nD Cert.ReferenceSumdevIdeal.τ).loc Cert.ReferenceSumdevIdeal.main_v0) = v0 c
          ∧ r.2.mem ((c.tc : Thread Cert.ReferenceSumdevIdeal.nD Cert.ReferenceSumdevIdeal.τ).loc Cert.ReferenceSumdevIdeal.main_arg0) = m' ((c.tc : Thread Cert.ReferenceSumdevIdeal.nD Cert.ReferenceSumdevIdeal.τ).loc Cert.ReferenceSumdevIdeal.main_arg0))

def preserves_KernelExch_KernelExchIdeal : Prop :=
  True

def algebraic_KernelExchIdeal_ReferenceExchIdeal [hKernelExchIdeal : Cert.KernelExchIdeal.Facts] [hReferenceExchIdeal : Cert.ReferenceExchIdeal.Facts] : Prop :=
  ∀ (m : (ℓ : Loc Cert.KernelExchIdeal.nD Cert.KernelExchIdeal.τ Cert.KernelExchIdeal.sig) → Buf (Elt Ideal) ℓ) (g : Dev Cert.KernelExchIdeal.nD → PrngReg)
    (m' : (ℓ : Loc Cert.ReferenceExchIdeal.nD Cert.ReferenceExchIdeal.τ Cert.ReferenceExchIdeal.sig) → Buf (Elt Ideal) ℓ) (g' : Dev Cert.ReferenceExchIdeal.nD → PrngReg), Pre_KernelExchIdeal m →
    (∀ c : Dev Cert.KernelExchIdeal.nD,
      m ((c.tc : Thread Cert.KernelExchIdeal.nD Cert.KernelExchIdeal.τ).loc Cert.KernelExchIdeal.main_arg0) = Layout.blockN ⟨3, ![4, 2048, 2048]⟩ ⟨3, ![8, 2048, 2048]⟩ (Layout.meshBlock [1, 1, 2] ![[2], [], []] c) (m' (((0 : Dev Cert.ReferenceExchIdeal.nD).tc : Thread Cert.ReferenceExchIdeal.nD Cert.ReferenceExchIdeal.τ).loc Cert.ReferenceExchIdeal.main_arg0))
      ∧ m ((c.tc : Thread Cert.KernelExchIdeal.nD Cert.KernelExchIdeal.τ).loc Cert.KernelExchIdeal.main_arg1) = Layout.blockN ⟨3, ![4, 2048, 2048]⟩ ⟨3, ![8, 2048, 2048]⟩ (Layout.meshBlock [1, 1, 2] ![[2], [], []] c) (m' (((0 : Dev Cert.ReferenceExchIdeal.nD).tc : Thread Cert.ReferenceExchIdeal.nD Cert.ReferenceExchIdeal.τ).loc Cert.ReferenceExchIdeal.main_arg1))) →
    ∃ (v0 : Buf (Elt Ideal) (((0 : Dev Cert.ReferenceExchIdeal.nD).tc : Thread Cert.ReferenceExchIdeal.nD Cert.ReferenceExchIdeal.τ).loc Cert.ReferenceExchIdeal.main_v2)) (v1 : Buf (Elt Ideal) (((0 : Dev Cert.ReferenceExchIdeal.nD).tc : Thread Cert.ReferenceExchIdeal.nD Cert.ReferenceExchIdeal.τ).loc Cert.ReferenceExchIdeal.main_v5)),
      θ_run (Cert.KernelExchIdeal.defs (F := Ideal)) (onTc (τ := Cert.KernelExchIdeal.τ) (Cert.KernelExchIdeal.main (F := Ideal))) ⟨m, fun _ => 0, g⟩ (fun r => ∀ c : Dev Cert.KernelExchIdeal.nD,
          r.2.mem ((c.tc : Thread Cert.KernelExchIdeal.nD Cert.KernelExchIdeal.τ).loc Cert.KernelExchIdeal.main_v1_0) = Layout.blockN ⟨3, ![4, 1024, 2048]⟩ ⟨3, ![8, 1024, 2048]⟩ (Layout.meshBlock [1, 1, 2] ![[2], [], []] c) v0
          ∧ r.2.mem ((c.tc : Thread Cert.KernelExchIdeal.nD Cert.KernelExchIdeal.τ).loc Cert.KernelExchIdeal.main_v1_1) = Layout.blockN ⟨3, ![4, 1024, 2048]⟩ ⟨3, ![8, 1024, 2048]⟩ (Layout.meshBlock [1, 1, 2] ![[2], [], []] c) v1
          ∧ r.2.mem ((c.tc : Thread Cert.KernelExchIdeal.nD Cert.KernelExchIdeal.τ).loc Cert.KernelExchIdeal.main_arg0) = m ((c.tc : Thread Cert.KernelExchIdeal.nD Cert.KernelExchIdeal.τ).loc Cert.KernelExchIdeal.main_arg0)
          ∧ r.2.mem ((c.tc : Thread Cert.KernelExchIdeal.nD Cert.KernelExchIdeal.τ).loc Cert.KernelExchIdeal.main_arg1) = m ((c.tc : Thread Cert.KernelExchIdeal.nD Cert.KernelExchIdeal.τ).loc Cert.KernelExchIdeal.main_arg1))
      ∧ θ_run (Cert.ReferenceExchIdeal.defs (F := Ideal)) (onTc (τ := Cert.ReferenceExchIdeal.τ) (Cert.ReferenceExchIdeal.main (F := Ideal))) ⟨m', fun _ => 0, g'⟩ (fun r =>
          r.2.mem (((0 : Dev Cert.ReferenceExchIdeal.nD).tc : Thread Cert.ReferenceExchIdeal.nD Cert.ReferenceExchIdeal.τ).loc Cert.ReferenceExchIdeal.main_v2) = v0
          ∧ r.2.mem (((0 : Dev Cert.ReferenceExchIdeal.nD).tc : Thread Cert.ReferenceExchIdeal.nD Cert.ReferenceExchIdeal.τ).loc Cert.ReferenceExchIdeal.main_v5) = v1
          ∧ r.2.mem (((0 : Dev Cert.ReferenceExchIdeal.nD).tc : Thread Cert.ReferenceExchIdeal.nD Cert.ReferenceExchIdeal.τ).loc Cert.ReferenceExchIdeal.main_arg0) = m' (((0 : Dev Cert.ReferenceExchIdeal.nD).tc : Thread Cert.ReferenceExchIdeal.nD Cert.ReferenceExchIdeal.τ).loc Cert.ReferenceExchIdeal.main_arg0)
          ∧ r.2.mem (((0 : Dev Cert.ReferenceExchIdeal.nD).tc : Thread Cert.ReferenceExchIdeal.nD Cert.ReferenceExchIdeal.τ).loc Cert.ReferenceExchIdeal.main_arg1) = m' (((0 : Dev Cert.ReferenceExchIdeal.nD).tc : Thread Cert.ReferenceExchIdeal.nD Cert.ReferenceExchIdeal.τ).loc Cert.ReferenceExchIdeal.main_arg1))

def Claim : Prop :=
  ∃ (hKernelGate : Cert.KernelGate.Facts) (hKernelGateIdeal : Cert.KernelGateIdeal.Facts) (hReferenceGateIdeal : Cert.ReferenceGateIdeal.Facts) (hKernelFox : Cert.KernelFox.Facts) (hKernelFoxIdeal : Cert.KernelFoxIdeal.Facts) (hReferenceFoxIdeal : Cert.ReferenceFoxIdeal.Facts) (hKernelMlp : Cert.KernelMlp.Facts) (hKernelMlpIdeal : Cert.KernelMlpIdeal.Facts) (hReferenceMlpIdeal : Cert.ReferenceMlpIdeal.Facts) (hKernelMix : Cert.KernelMix.Facts) (hKernelMixIdeal : Cert.KernelMixIdeal.Facts) (hReferenceMixIdeal : Cert.ReferenceMixIdeal.Facts) (hKernelAct : Cert.KernelAct.Facts) (hKernelActIdeal : Cert.KernelActIdeal.Facts) (hReferenceActIdeal : Cert.ReferenceActIdeal.Facts) (hKernelFcum : Cert.KernelFcum.Facts) (hKernelFcumIdeal : Cert.KernelFcumIdeal.Facts) (hReferenceFcumIdeal : Cert.ReferenceFcumIdeal.Facts) (hKernelModnorm : Cert.KernelModnorm.Facts) (hKernelModnormIdeal : Cert.KernelModnormIdeal.Facts) (hReferenceModnormIdeal : Cert.ReferenceModnormIdeal.Facts) (hKernelQnorm : Cert.KernelQnorm.Facts) (hKernelQnormIdeal : Cert.KernelQnormIdeal.Facts) (hReferenceQnormIdeal : Cert.ReferenceQnormIdeal.Facts) (hKernelKnorm : Cert.KernelKnorm.Facts) (hKernelKnormIdeal : Cert.KernelKnormIdeal.Facts) (hReferenceKnormIdeal : Cert.ReferenceKnormIdeal.Facts) (hKernelLoss : Cert.KernelLoss.Facts) (hKernelLossIdeal : Cert.KernelLossIdeal.Facts) (hReferenceLossIdeal : Cert.ReferenceLossIdeal.Facts) (hKernelMixfwd : Cert.KernelMixfwd.Facts) (hKernelMixfwdIdeal : Cert.KernelMixfwdIdeal.Facts) (hReferenceMixfwdIdeal : Cert.ReferenceMixfwdIdeal.Facts) (hKernelModnormfwd : Cert.KernelModnormfwd.Facts) (hKernelModnormfwdIdeal : Cert.KernelModnormfwdIdeal.Facts) (hReferenceModnormfwdIdeal : Cert.ReferenceModnormfwdIdeal.Facts) (hKernelLnfwd : Cert.KernelLnfwd.Facts) (hKernelLnfwdIdeal : Cert.KernelLnfwdIdeal.Facts) (hReferenceLnfwdIdeal : Cert.ReferenceLnfwdIdeal.Facts) (hKernelGatesfwd : Cert.KernelGatesfwd.Facts) (hKernelGatesfwdIdeal : Cert.KernelGatesfwdIdeal.Facts) (hReferenceGatesfwdIdeal : Cert.ReferenceGatesfwdIdeal.Facts) (hKernelGeluup : Cert.KernelGeluup.Facts) (hKernelGeluupIdeal : Cert.KernelGeluupIdeal.Facts) (hReferenceGeluupIdeal : Cert.ReferenceGeluupIdeal.Facts) (hKernelUpfwd : Cert.KernelUpfwd.Facts) (hKernelUpfwdIdeal : Cert.KernelUpfwdIdeal.Facts) (hReferenceUpfwdIdeal : Cert.ReferenceUpfwdIdeal.Facts) (hKernelQfwd : Cert.KernelQfwd.Facts) (hKernelQfwdIdeal : Cert.KernelQfwdIdeal.Facts) (hReferenceQfwdIdeal : Cert.ReferenceQfwdIdeal.Facts) (hKernelKfwd : Cert.KernelKfwd.Facts) (hKernelKfwdIdeal : Cert.KernelKfwdIdeal.Facts) (hReferenceKfwdIdeal : Cert.ReferenceKfwdIdeal.Facts) (hKernelDownfwd : Cert.KernelDownfwd.Facts) (hKernelDownfwdIdeal : Cert.KernelDownfwdIdeal.Facts) (hReferenceDownfwdIdeal : Cert.ReferenceDownfwdIdeal.Facts) (hKernelAttnofwd : Cert.KernelAttnofwd.Facts) (hKernelAttnofwdIdeal : Cert.KernelAttnofwdIdeal.Facts) (hReferenceAttnofwdIdeal : Cert.ReferenceAttnofwdIdeal.Facts) (hKernelGmlpoutfwd : Cert.KernelGmlpoutfwd.Facts) (hKernelGmlpoutfwdIdeal : Cert.KernelGmlpoutfwdIdeal.Facts) (hReferenceGmlpoutfwdIdeal : Cert.ReferenceGmlpoutfwdIdeal.Facts) (hKernelSilufwd : Cert.KernelSilufwd.Facts) (hKernelSilufwdIdeal : Cert.KernelSilufwdIdeal.Facts) (hReferenceSilufwdIdeal : Cert.ReferenceSilufwdIdeal.Facts) (hKernelAdafwd : Cert.KernelAdafwd.Facts) (hKernelAdafwdIdeal : Cert.KernelAdafwdIdeal.Facts) (hReferenceAdafwdIdeal : Cert.ReferenceAdafwdIdeal.Facts) (hKernelFcumfwd : Cert.KernelFcumfwd.Facts) (hKernelFcumfwdIdeal : Cert.KernelFcumfwdIdeal.Facts) (hReferenceFcumfwdIdeal : Cert.ReferenceFcumfwdIdeal.Facts) (hKernelWgrad : Cert.KernelWgrad.Facts) (hKernelWgradIdeal : Cert.KernelWgradIdeal.Facts) (hReferenceWgradIdeal : Cert.ReferenceWgradIdeal.Facts) (hKernelAdamw : Cert.KernelAdamw.Facts) (hKernelAdamwIdeal : Cert.KernelAdamwIdeal.Facts) (hReferenceAdamwIdeal : Cert.ReferenceAdamwIdeal.Facts) (hKernelSumdev : Cert.KernelSumdev.Facts) (hKernelSumdevIdeal : Cert.KernelSumdevIdeal.Facts) (hReferenceSumdevIdeal : Cert.ReferenceSumdevIdeal.Facts) (hKernelExch : Cert.KernelExch.Facts) (hKernelExchIdeal : Cert.KernelExchIdeal.Facts) (hReferenceExchIdeal : Cert.ReferenceExchIdeal.Facts) (hPre_finite_fox : Cert.Pre_finite_fox.Facts) (hPre_finite_act : Cert.Pre_finite_act.Facts) (hPre_finite_modnorm : Cert.Pre_finite_modnorm.Facts),
    quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelFox (hKernelFox := hKernelFox)
    ∧ quiescent_KernelFoxIdeal (hKernelFoxIdeal := hKernelFoxIdeal)
    ∧ quiescent_KernelFoxIdeal_pre_finite_fox (hKernelFoxIdeal := hKernelFoxIdeal) (hPre_finite_fox := hPre_finite_fox)
    ∧ quiescent_ReferenceFoxIdeal (hReferenceFoxIdeal := hReferenceFoxIdeal)
    ∧ quiescent_ReferenceFoxIdeal_pre_finite_fox (hReferenceFoxIdeal := hReferenceFoxIdeal) (hPre_finite_fox := hPre_finite_fox)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelFcum (hKernelFcum := hKernelFcum)
    ∧ quiescent_KernelFcumIdeal (hKernelFcumIdeal := hKernelFcumIdeal)
    ∧ quiescent_ReferenceFcumIdeal (hReferenceFcumIdeal := hReferenceFcumIdeal)
    ∧ quiescent_KernelModnorm (hKernelModnorm := hKernelModnorm)
    ∧ quiescent_KernelModnormIdeal (hKernelModnormIdeal := hKernelModnormIdeal)
    ∧ quiescent_KernelModnormIdeal_pre_finite_modnorm (hKernelModnormIdeal := hKernelModnormIdeal) (hPre_finite_modnorm := hPre_finite_modnorm)
    ∧ quiescent_ReferenceModnormIdeal (hReferenceModnormIdeal := hReferenceModnormIdeal)
    ∧ quiescent_ReferenceModnormIdeal_pre_finite_modnorm (hReferenceModnormIdeal := hReferenceModnormIdeal) (hPre_finite_modnorm := hPre_finite_modnorm)
    ∧ quiescent_KernelQnorm (hKernelQnorm := hKernelQnorm)
    ∧ quiescent_KernelQnormIdeal (hKernelQnormIdeal := hKernelQnormIdeal)
    ∧ quiescent_ReferenceQnormIdeal (hReferenceQnormIdeal := hReferenceQnormIdeal)
    ∧ quiescent_KernelKnorm (hKernelKnorm := hKernelKnorm)
    ∧ quiescent_KernelKnormIdeal (hKernelKnormIdeal := hKernelKnormIdeal)
    ∧ quiescent_ReferenceKnormIdeal (hReferenceKnormIdeal := hReferenceKnormIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelMixfwd (hKernelMixfwd := hKernelMixfwd)
    ∧ quiescent_KernelMixfwdIdeal (hKernelMixfwdIdeal := hKernelMixfwdIdeal)
    ∧ quiescent_ReferenceMixfwdIdeal (hReferenceMixfwdIdeal := hReferenceMixfwdIdeal)
    ∧ quiescent_KernelModnormfwd (hKernelModnormfwd := hKernelModnormfwd)
    ∧ quiescent_KernelModnormfwdIdeal (hKernelModnormfwdIdeal := hKernelModnormfwdIdeal)
    ∧ quiescent_ReferenceModnormfwdIdeal (hReferenceModnormfwdIdeal := hReferenceModnormfwdIdeal)
    ∧ quiescent_KernelLnfwd (hKernelLnfwd := hKernelLnfwd)
    ∧ quiescent_KernelLnfwdIdeal (hKernelLnfwdIdeal := hKernelLnfwdIdeal)
    ∧ quiescent_ReferenceLnfwdIdeal (hReferenceLnfwdIdeal := hReferenceLnfwdIdeal)
    ∧ quiescent_KernelGatesfwd (hKernelGatesfwd := hKernelGatesfwd)
    ∧ quiescent_KernelGatesfwdIdeal (hKernelGatesfwdIdeal := hKernelGatesfwdIdeal)
    ∧ quiescent_ReferenceGatesfwdIdeal (hReferenceGatesfwdIdeal := hReferenceGatesfwdIdeal)
    ∧ quiescent_KernelGeluup (hKernelGeluup := hKernelGeluup)
    ∧ quiescent_KernelGeluupIdeal (hKernelGeluupIdeal := hKernelGeluupIdeal)
    ∧ quiescent_ReferenceGeluupIdeal (hReferenceGeluupIdeal := hReferenceGeluupIdeal)
    ∧ quiescent_KernelUpfwd (hKernelUpfwd := hKernelUpfwd)
    ∧ quiescent_KernelUpfwdIdeal (hKernelUpfwdIdeal := hKernelUpfwdIdeal)
    ∧ quiescent_ReferenceUpfwdIdeal (hReferenceUpfwdIdeal := hReferenceUpfwdIdeal)
    ∧ quiescent_KernelQfwd (hKernelQfwd := hKernelQfwd)
    ∧ quiescent_KernelQfwdIdeal (hKernelQfwdIdeal := hKernelQfwdIdeal)
    ∧ quiescent_ReferenceQfwdIdeal (hReferenceQfwdIdeal := hReferenceQfwdIdeal)
    ∧ quiescent_KernelKfwd (hKernelKfwd := hKernelKfwd)
    ∧ quiescent_KernelKfwdIdeal (hKernelKfwdIdeal := hKernelKfwdIdeal)
    ∧ quiescent_ReferenceKfwdIdeal (hReferenceKfwdIdeal := hReferenceKfwdIdeal)
    ∧ quiescent_KernelDownfwd (hKernelDownfwd := hKernelDownfwd)
    ∧ quiescent_KernelDownfwdIdeal (hKernelDownfwdIdeal := hKernelDownfwdIdeal)
    ∧ quiescent_ReferenceDownfwdIdeal (hReferenceDownfwdIdeal := hReferenceDownfwdIdeal)
    ∧ quiescent_KernelAttnofwd (hKernelAttnofwd := hKernelAttnofwd)
    ∧ quiescent_KernelAttnofwdIdeal (hKernelAttnofwdIdeal := hKernelAttnofwdIdeal)
    ∧ quiescent_ReferenceAttnofwdIdeal (hReferenceAttnofwdIdeal := hReferenceAttnofwdIdeal)
    ∧ quiescent_KernelGmlpoutfwd (hKernelGmlpoutfwd := hKernelGmlpoutfwd)
    ∧ quiescent_KernelGmlpoutfwdIdeal (hKernelGmlpoutfwdIdeal := hKernelGmlpoutfwdIdeal)
    ∧ quiescent_ReferenceGmlpoutfwdIdeal (hReferenceGmlpoutfwdIdeal := hReferenceGmlpoutfwdIdeal)
    ∧ quiescent_KernelSilufwd (hKernelSilufwd := hKernelSilufwd)
    ∧ quiescent_KernelSilufwdIdeal (hKernelSilufwdIdeal := hKernelSilufwdIdeal)
    ∧ quiescent_ReferenceSilufwdIdeal (hReferenceSilufwdIdeal := hReferenceSilufwdIdeal)
    ∧ quiescent_KernelAdafwd (hKernelAdafwd := hKernelAdafwd)
    ∧ quiescent_KernelAdafwdIdeal (hKernelAdafwdIdeal := hKernelAdafwdIdeal)
    ∧ quiescent_ReferenceAdafwdIdeal (hReferenceAdafwdIdeal := hReferenceAdafwdIdeal)
    ∧ quiescent_KernelFcumfwd (hKernelFcumfwd := hKernelFcumfwd)
    ∧ quiescent_KernelFcumfwdIdeal (hKernelFcumfwdIdeal := hKernelFcumfwdIdeal)
    ∧ quiescent_ReferenceFcumfwdIdeal (hReferenceFcumfwdIdeal := hReferenceFcumfwdIdeal)
    ∧ quiescent_KernelWgrad (hKernelWgrad := hKernelWgrad)
    ∧ quiescent_KernelWgradIdeal (hKernelWgradIdeal := hKernelWgradIdeal)
    ∧ quiescent_ReferenceWgradIdeal (hReferenceWgradIdeal := hReferenceWgradIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelSumdev (hKernelSumdev := hKernelSumdev)
    ∧ quiescent_KernelSumdevIdeal (hKernelSumdevIdeal := hKernelSumdevIdeal)
    ∧ quiescent_ReferenceSumdevIdeal (hReferenceSumdevIdeal := hReferenceSumdevIdeal)
    ∧ quiescent_KernelExch (hKernelExch := hKernelExch)
    ∧ quiescent_KernelExchIdeal (hKernelExchIdeal := hKernelExchIdeal)
    ∧ quiescent_ReferenceExchIdeal (hReferenceExchIdeal := hReferenceExchIdeal)
    ∧ preserves_KernelGate_KernelGateIdeal
    ∧ algebraic_KernelGateIdeal_ReferenceGateIdeal (hKernelGateIdeal := hKernelGateIdeal) (hReferenceGateIdeal := hReferenceGateIdeal)
    ∧ preserves_KernelFox_KernelFoxIdeal
    ∧ algebraic_KernelFoxIdeal_ReferenceFoxIdeal_pre_finite_fox (hKernelFoxIdeal := hKernelFoxIdeal) (hReferenceFoxIdeal := hReferenceFoxIdeal) (hPre_finite_fox := hPre_finite_fox)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelMix_KernelMixIdeal
    ∧ algebraic_KernelMixIdeal_ReferenceMixIdeal (hKernelMixIdeal := hKernelMixIdeal) (hReferenceMixIdeal := hReferenceMixIdeal)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelFcum_KernelFcumIdeal
    ∧ algebraic_KernelFcumIdeal_ReferenceFcumIdeal (hKernelFcumIdeal := hKernelFcumIdeal) (hReferenceFcumIdeal := hReferenceFcumIdeal)
    ∧ preserves_KernelModnorm_KernelModnormIdeal
    ∧ algebraic_KernelModnormIdeal_ReferenceModnormIdeal_pre_finite_modnorm (hKernelModnormIdeal := hKernelModnormIdeal) (hReferenceModnormIdeal := hReferenceModnormIdeal) (hPre_finite_modnorm := hPre_finite_modnorm)
    ∧ preserves_KernelQnorm_KernelQnormIdeal
    ∧ algebraic_KernelQnormIdeal_ReferenceQnormIdeal (hKernelQnormIdeal := hKernelQnormIdeal) (hReferenceQnormIdeal := hReferenceQnormIdeal)
    ∧ preserves_KernelKnorm_KernelKnormIdeal
    ∧ algebraic_KernelKnormIdeal_ReferenceKnormIdeal (hKernelKnormIdeal := hKernelKnormIdeal) (hReferenceKnormIdeal := hReferenceKnormIdeal)
    ∧ preserves_KernelLoss_KernelLossIdeal
    ∧ algebraic_KernelLossIdeal_ReferenceLossIdeal (hKernelLossIdeal := hKernelLossIdeal) (hReferenceLossIdeal := hReferenceLossIdeal)
    ∧ preserves_KernelMixfwd_KernelMixfwdIdeal
    ∧ algebraic_KernelMixfwdIdeal_ReferenceMixfwdIdeal (hKernelMixfwdIdeal := hKernelMixfwdIdeal) (hReferenceMixfwdIdeal := hReferenceMixfwdIdeal)
    ∧ preserves_KernelModnormfwd_KernelModnormfwdIdeal
    ∧ algebraic_KernelModnormfwdIdeal_ReferenceModnormfwdIdeal (hKernelModnormfwdIdeal := hKernelModnormfwdIdeal) (hReferenceModnormfwdIdeal := hReferenceModnormfwdIdeal)
    ∧ preserves_KernelLnfwd_KernelLnfwdIdeal
    ∧ algebraic_KernelLnfwdIdeal_ReferenceLnfwdIdeal (hKernelLnfwdIdeal := hKernelLnfwdIdeal) (hReferenceLnfwdIdeal := hReferenceLnfwdIdeal)
    ∧ preserves_KernelGatesfwd_KernelGatesfwdIdeal
    ∧ algebraic_KernelGatesfwdIdeal_ReferenceGatesfwdIdeal (hKernelGatesfwdIdeal := hKernelGatesfwdIdeal) (hReferenceGatesfwdIdeal := hReferenceGatesfwdIdeal)
    ∧ preserves_KernelGeluup_KernelGeluupIdeal
    ∧ algebraic_KernelGeluupIdeal_ReferenceGeluupIdeal (hKernelGeluupIdeal := hKernelGeluupIdeal) (hReferenceGeluupIdeal := hReferenceGeluupIdeal)
    ∧ preserves_KernelUpfwd_KernelUpfwdIdeal
    ∧ algebraic_KernelUpfwdIdeal_ReferenceUpfwdIdeal (hKernelUpfwdIdeal := hKernelUpfwdIdeal) (hReferenceUpfwdIdeal := hReferenceUpfwdIdeal)
    ∧ preserves_KernelQfwd_KernelQfwdIdeal
    ∧ algebraic_KernelQfwdIdeal_ReferenceQfwdIdeal (hKernelQfwdIdeal := hKernelQfwdIdeal) (hReferenceQfwdIdeal := hReferenceQfwdIdeal)
    ∧ preserves_KernelKfwd_KernelKfwdIdeal
    ∧ algebraic_KernelKfwdIdeal_ReferenceKfwdIdeal (hKernelKfwdIdeal := hKernelKfwdIdeal) (hReferenceKfwdIdeal := hReferenceKfwdIdeal)
    ∧ preserves_KernelDownfwd_KernelDownfwdIdeal
    ∧ algebraic_KernelDownfwdIdeal_ReferenceDownfwdIdeal (hKernelDownfwdIdeal := hKernelDownfwdIdeal) (hReferenceDownfwdIdeal := hReferenceDownfwdIdeal)
    ∧ preserves_KernelAttnofwd_KernelAttnofwdIdeal
    ∧ algebraic_KernelAttnofwdIdeal_ReferenceAttnofwdIdeal (hKernelAttnofwdIdeal := hKernelAttnofwdIdeal) (hReferenceAttnofwdIdeal := hReferenceAttnofwdIdeal)
    ∧ preserves_KernelGmlpoutfwd_KernelGmlpoutfwdIdeal
    ∧ algebraic_KernelGmlpoutfwdIdeal_ReferenceGmlpoutfwdIdeal (hKernelGmlpoutfwdIdeal := hKernelGmlpoutfwdIdeal) (hReferenceGmlpoutfwdIdeal := hReferenceGmlpoutfwdIdeal)
    ∧ preserves_KernelSilufwd_KernelSilufwdIdeal
    ∧ algebraic_KernelSilufwdIdeal_ReferenceSilufwdIdeal (hKernelSilufwdIdeal := hKernelSilufwdIdeal) (hReferenceSilufwdIdeal := hReferenceSilufwdIdeal)
    ∧ preserves_KernelAdafwd_KernelAdafwdIdeal
    ∧ algebraic_KernelAdafwdIdeal_ReferenceAdafwdIdeal (hKernelAdafwdIdeal := hKernelAdafwdIdeal) (hReferenceAdafwdIdeal := hReferenceAdafwdIdeal)
    ∧ preserves_KernelFcumfwd_KernelFcumfwdIdeal
    ∧ algebraic_KernelFcumfwdIdeal_ReferenceFcumfwdIdeal (hKernelFcumfwdIdeal := hKernelFcumfwdIdeal) (hReferenceFcumfwdIdeal := hReferenceFcumfwdIdeal)
    ∧ preserves_KernelWgrad_KernelWgradIdeal
    ∧ algebraic_KernelWgradIdeal_ReferenceWgradIdeal (hKernelWgradIdeal := hKernelWgradIdeal) (hReferenceWgradIdeal := hReferenceWgradIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelSumdev_KernelSumdevIdeal
    ∧ algebraic_KernelSumdevIdeal_ReferenceSumdevIdeal (hKernelSumdevIdeal := hKernelSumdevIdeal) (hReferenceSumdevIdeal := hReferenceSumdevIdeal)
    ∧ preserves_KernelExch_KernelExchIdeal
    ∧ algebraic_KernelExchIdeal_ReferenceExchIdeal (hKernelExchIdeal := hKernelExchIdeal) (hReferenceExchIdeal := hReferenceExchIdeal)
-- ==== Pre_finite_act.lean ====
abbrev S4096x12288 : Shape := ⟨2, ![4096, 12288]⟩
abbrev S4096x6144 : Shape := ⟨2, ![4096, 6144]⟩
abbrev S6144 : Shape := ⟨1, ![6144]⟩
abbrev S_ : Shape := ⟨0, ![]⟩

class Facts : Prop where
  bcast_S_S4096x6144 : S_.BroadcastsInDim S4096x6144 (![] : Fin 0 → Fin S4096x6144.rank)
  bcast_S_S6144 : S_.BroadcastsInDim S6144 (![] : Fin 0 → Fin S6144.rank)

variable [Facts]

def fn {F : FTy → Type} [FloatOps F] (main_arg0 : FVec F S4096x12288 .bf16) (main_arg1 : FVec F S4096x6144 .bf16) (main_arg2 : FVec F S4096x6144 .bf16) (main_arg3 : FVec F S6144 .f32) : IVec S4096x6144 1 × IVec S4096x6144 1 × IVec S6144 1 :=
  let main_v0 : FVec F S4096x6144 .bf16 := Host.absf main_arg1
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S4096x6144 .bf16 := Host.absf main_arg2
  let main_cst_0 : FVec F S_ .bf16 := constant S_ .bf16 0x7F80#16
  let main_v4 : FVec F S4096x6144 .bf16 := broadcastInDim S4096x6144 ![] bcast_S_S4096x6144 main_cst_0
  let main_v5 : IVec S4096x6144 1 := cmpf .olt main_v3 main_v4
  let main_v6 : FVec F S6144 .f32 := Host.absf main_arg3
  let main_cst_1 : FVec F S_ .f32 := constant S_ .f32 0x7F800000#32
  let main_v7 : FVec F S6144 .f32 := broadcastInDim S6144 ![] bcast_S_S6144 main_cst_1
  let main_v8 : IVec S6144 1 := cmpf .olt main_v6 main_v7
  (main_v2, main_v5, main_v8)
-- ==== Pre_finite_fox.lean ====
abbrev S4096x2048 : Shape := ⟨2, ![4096, 2048]⟩
abbrev S16x4096 : Shape := ⟨2, ![16, 4096]⟩
abbrev S_ : Shape := ⟨0, ![]⟩

class Facts : Prop where
  bcast_S_S4096x2048 : S_.BroadcastsInDim S4096x2048 (![] : Fin 0 → Fin S4096x2048.rank)
  bcast_S_S16x4096 : S_.BroadcastsInDim S16x4096 (![] : Fin 0 → Fin S16x4096.rank)

variable [Facts]

def fn {F : FTy → Type} [FloatOps F] (main_arg0 : FVec F S4096x2048 .f32) (main_arg1 : FVec F S4096x2048 .f32) (main_arg2 : FVec F S4096x2048 .f32) (main_arg3 : FVec F S16x4096 .f32) (main_arg4 : FVec F S4096x2048 .f32) : IVec S4096x2048 1 × IVec S4096x2048 1 × IVec S4096x2048 1 × IVec S16x4096 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_finite_modnorm.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .bf16) (main_arg2 : FVec F S4096x2048 .f32) (main_arg3 : FVec F S2048 .f32) (main_arg4 : FVec F S1x2048 .f32) : IVec S4096x2048 1 × IVec S2048 1 × IVec S1x2048 1 :=
  let main_v0 : FVec F S4096x2048 .bf16 := Host.absf main_arg1
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S2048 .f32 := Host.absf main_arg3
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x2048 .f32 := Host.absf main_arg4
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== KernelGate.lean ====
abbrev S4096x2048 : Shape := ⟨2, ![4096, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceGateIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelFox.lean ====
abbrev S4096x2048 : Shape := ⟨2, ![4096, 2048]⟩
abbrev S16x4096 : Shape := ⟨2, ![16, 4096]⟩
abbrev S_ : Shape := ⟨0, ![]⟩
abbrev S128x4096 : Shape := ⟨2, ![128, 4096]⟩
abbrev S128x4x1024 : Shape := ⟨3, ![128, 4, 1024]⟩
abbrev S4x128x1024 : Shape := ⟨3, ![4, 128, 1024]⟩
abbrev S16x4096x128 : Shape := ⟨3, ![16, 4096, 128]⟩
abbrev S1024x128 : Shape := ⟨2, ![1024, 128]⟩
abbrev S4096x128 : Shape := ⟨2, ![4096, 128]⟩
abbrev S4x8x1024 : Shape := ⟨3, ![4, 8, 1024]⟩
abbrev S1x1024x128 : Shape := ⟨3, ![1, 1024, 128]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x1024x1 : Shape := ⟨3, ![1, 1024, 1]⟩
abbrev S16x4x8x1024 : Shape := ⟨4, ![16, 4, 8, 1024]⟩
abbrev S1x4096x128 : Shape := ⟨3, ![1, 4096, 128]⟩
abbrev S1x8x1024 : Shape := ⟨3, ![1, 8, 1024]⟩
abbrev S1x1x8x1024 : Shape := ⟨4, ![1, 1, 8, 1024]⟩
abbrev S8x1024 : Shape := ⟨2, ![8, 1024]⟩

abbrev nBuf : Space → Nat
  | .hbm => 24
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S_, .i32⟩
  | .hbm, ⟨13, _⟩ => ⟨S_, .f32⟩
  | .hbm, ⟨14, _⟩ => ⟨S128x4096, .f32⟩
  | .hbm, ⟨15, _⟩ => ⟨S128x4x1024, .f32⟩
  | .hbm, ⟨16, _⟩ => ⟨S4x128x1024, .f32⟩
  | .hbm, ⟨17, _⟩ => ⟨S4096x2048, .bf16⟩
  | .hbm, ⟨18, _⟩ => ⟨S16x4096x128, .f32⟩
  | .hbm, ⟨19, _⟩ => ⟨S4096x2048, .bf16⟩
  | .hbm, ⟨20, _⟩ => ⟨S16x4096x128, .f32⟩
  | .hbm, ⟨21, _⟩ => ⟨S4096x2048, .bf16⟩
  | .hbm, ⟨22, _⟩ => ⟨S4096x2048, .bf16⟩
  | .hbm, ⟨23, _⟩ => ⟨S16x4x8x1024, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x8x1024, .f32⟩
  | .local _ .vmem, ⟨7, _⟩ => ⟨S4x8x1024, .f32⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1024x128, .bf16⟩
  | .local _ .vmem, ⟨13, _⟩ => ⟨S1024x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S1024x128, .bf16⟩
  | .local _ .vmem, ⟨19, _⟩ => ⟨S1024x128, .bf16⟩
  | .local _ .vmem, ⟨20, _⟩ => ⟨S1x1024x128, .f32⟩
  | .local _ .vmem, ⟨21, _⟩ => ⟨S1x1024x128, .f32⟩
  | .local _ .vmem, ⟨22, _⟩ => ⟨S4x8x1024, .f32⟩
  | .local _ .vmem, ⟨23, _⟩ => ⟨S4x8x1024, .f32⟩
  | .local _ .vmem, ⟨24, _⟩ => ⟨S1024x128, .bf16⟩
  | .local _ .vmem, ⟨25, _⟩ => ⟨S1024x128, .bf16⟩
  | .local _ .vmem, ⟨26, _⟩ => ⟨S1x1024x128, .f32⟩
  | .local _ .vmem, ⟨27, _⟩ => ⟨S1x1024x128, .f32⟩
  | .local _ .vmem, ⟨28, _⟩ => ⟨S4096x128, .bf16⟩
  | .local _ .vmem, ⟨29, _⟩ => ⟨S4096x128, .bf16⟩
  | .local _ .vmem, ⟨30, _⟩ => ⟨S1024x128, .bf16⟩
  | .local _ .vmem, ⟨31, _⟩ => ⟨S1024x128, .bf16⟩
  | .local _ .vmem, ⟨32, _⟩ => ⟨S1024x128, .bf16⟩
  | .local _ .vmem, ⟨33, _⟩ => ⟨S1024x128, .bf16⟩
  | .local _ .vmem, ⟨34, _⟩ => ⟨S4096x128, .bf16⟩
  | .local _ .vmem, ⟨35, _⟩ => ⟨S4096x128, .bf16⟩
  | .local _ .vmem, ⟨36, _⟩ => ⟨S1x4096x128, .f32⟩
  | .local _ .vmem, ⟨37, _⟩ => ⟨S1x4096x128, .f32⟩
  | .local _ .vmem, ⟨38, _⟩ => ⟨S1x4096x128, .f32⟩
  | .local _ .vmem, ⟨39, _⟩ => ⟨S1x4096x128, .f32⟩
  | .local _ .vmem, ⟨40, _⟩ => ⟨S1x8x1024, .f32⟩
  | .local _ .vmem, ⟨41, _⟩ => ⟨S1x8x1024, .f32⟩
  | .local _ .vmem, ⟨42, _⟩ => ⟨S1024x128, .bf16⟩
  | .local _ .vmem, ⟨43, _⟩ => ⟨S1024x128, .bf16⟩
  | .local _ .vmem, ⟨44, _⟩ => ⟨S1024x128, .bf16⟩
  | .local _ .vmem, ⟨45, _⟩ => ⟨S1024x128, .bf16⟩
  | .local _ .vmem, ⟨46, _⟩ => ⟨S1x1x8x1024, .f32⟩
  | .local _ .vmem, ⟨47, _⟩ => ⟨S1x1x8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10_0 : Ref sig .tc := ⟨.hbm, 19, rfl⟩
abbrev main_v10_1 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_8 : BitVec 32 := 1#32
  ⟨c0_i32_6, v19, c1_i32_8⟩
def k0_mult1 (i : grid0.Coords) (k0_t1 : Fin (k0_t1_loop i).trips) : BitVec 32 :=
  let c0_i32_6 : BitVec 32 := 0#32
  let c1_i32_8 : BitVec 32 := 1#32
  let arg8 : BitVec 32 := Scf.iv c0_i32_6 c1_i32_8 k0_t1
  let c1024_i32_23 : BitVec 32 := 1024#32
  let v70 : BitVec 32 := Scalar.muli arg8 c1024_i32_23
  v70
def k0_off1 (i : grid0.Coords) (k0_t1 : Fin (k0_t1_loop i).trips) : Fin 2 → Nat :=
  let c0_i32_6 : BitVec 32 := 0#32
  let c1_i32_8 : BitVec 32 := 1#32
  let arg8 : BitVec 32 := Scf.iv c0_i32_6 c1_i32_8 k0_t1
  let c1024_i32_23 : BitVec 32 := 1024#32
  let v70 : BitVec 32 := Scalar.muli arg8 c1024_i32_23
  let v71 : BitVec 32 := v70
  let v72 : Index := Scalar.indexCast v71
  let c0_24 : Index := 0#32
  ![v72.toNat, 0]
def k0_off2 (i : grid0.Coords) (k0_t1 : Fin (k0_t1_loop i).trips) : Fin 3 → Nat :=
  let c0_i32_6 : BitVec 32 := 0#32
  let c1_i32_8 : BitVec 32 := 1#32
  let arg8 : BitVec 32 := Scf.iv c0_i32_6 c1_i32_8 k0_t1
  let v79 : Index := Scalar.indexCast arg8
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v80 : Index := Scalar.indexCast v11
  let c0_27 : Index := 0#32
  ![v79.toNat, v80.toNat, 0]
@[reducible] def k0_t2_loop (i : grid0.Coords) : Scf.Loop 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let v16 : BitVec 32 := Scalar.addi c0_i32_6 v15
  let c1_i32_9 : BitVec 32 := 1#32
  ⟨v19, v16, c1_i32_9⟩
def k0_mult2 (i : grid0.Coords) (k0_t2 : Fin (k0_t2_loop i).trips) : BitVec 32 :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let c1024_i32_23 : BitVec 32 := 1024#32
  let v70 : BitVec 32 := Scalar.muli arg8 c1024_i32_23
  v70
def k0_off3 (i : grid0.Coords) (k0_t2 : Fin (k0_t2_loop i).trips) : Fin 2 → Nat :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let c1024_i32_23 : BitVec 32 := 1024#32
  let v70 : BitVec 32 := Scalar.muli arg8 c1024_i32_23
  let v71 : BitVec 32 := v70
  let v72 : Index := Scalar.indexCast v71
  let c0_24 : Index := 0#32
  ![v72.toNat, 0]
def k0_off4 (i : grid0.Coords) (k0_t2 : Fin (k0_t2_loop i).trips) : Fin 3 → Nat :=
  let c0_i32_6 : BitVec 32 := 0#32
  let arg1 : BitVec 32 := BitVec.ofNat 32 (i 1).val
  let v15 : BitVec 32 := Scalar.subi arg1 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg8 : BitVec 32 := Scf.iv v19 c1_i32_9 k0_t2
  let v79 : Index := Scalar.indexCast arg8
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v80 : Index := Scalar.indexCast v11
  let c0_27 : Index := 0#32
  ![v79.toNat, v80.toNat, 0]
def k0_mult3 (i : grid0.Coords) : BitVec 32 :=
  let arg1 : BitVec 32 := BitVec.ofNat 32 (i 1).val
  let c1024_i32 : BitVec 32 := 1024#32
  let v22 : BitVec 32 := Scalar.muli arg1 c1024_i32
  v22
def k0_off5 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let v24 : Index := Scalar.indexCast v23
  let c0_10 : Index := 0#32
  ![v24.toNat, 0]
def k0_off6 (i : grid0.Coords) : Fin 3 → Nat :=
  let arg1 : BitVec 32 := BitVec.ofNat 32 (i 1).val
  let v31 : Index := Scalar.indexCast arg1
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v32 : Index := Scalar.indexCast v11
  let c0_13 : Index := 0#32
  ![v31.toNat, v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 4], ![false, false]⟩

@[reducible] def k1_t1_loop (i : grid1.Coords) : Scf.Loop 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_11 : BitVec 32 := 1#32
  ⟨c0_i32_9, v21, c1_i32_11⟩
def k1_mult1 (i : grid1.Coords) (k1_t1 : Fin (k1_t1_loop i).trips) : BitVec 32 :=
  let c0_i32_9 : BitVec 32 := 0#32
  let c1_i32_11 : BitVec 32 := 1#32
  let arg10 : BitVec 32 := Scf.iv c0_i32_9 c1_i32_11 k1_t1
  let c1024_i32_40 : BitVec 32 := 1024#32
  let v103 : BitVec 32 := Scalar.muli arg10 c1024_i32_40
  v103
def k1_off1 (i : grid1.Coords) (k1_t1 : Fin (k1_t1_loop i).trips) : Fin 2 → Nat :=
  let c0_i32_9 : BitVec 32 := 0#32
  let c1_i32_11 : BitVec 32 := 1#32
  let arg10 : BitVec 32 := Scf.iv c0_i32_9 c1_i32_11 k1_t1
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off2 (i : grid1.Coords) (k1_t1 : Fin (k1_t1_loop i).trips) : Fin 3 → Nat :=
  let c0_i32_9 : BitVec 32 := 0#32
  let c1_i32_11 : BitVec 32 := 1#32
  let arg10 : BitVec 32 := Scf.iv c0_i32_9 c1_i32_11 k1_t1
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
@[reducible] def k1_t2_loop (i : grid1.Coords) : Scf.Loop 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let v18 : BitVec 32 := Scalar.addi c0_i32_9 v17
  let c1_i32_12 : BitVec 32 := 1#32
  ⟨v21, v18, c1_i32_12⟩
def k1_mult2 (i : grid1.Coords) (k1_t2 : Fin (k1_t2_loop i).trips) : BitVec 32 :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let c1024_i32_40 : BitVec 32 := 1024#32
  let v103 : BitVec 32 := Scalar.muli arg10 c1024_i32_40
  v103
def k1_off3 (i : grid1.Coords) (k1_t2 : Fin (k1_t2_loop i).trips) : Fin 2 → Nat :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off4 (i : grid1.Coords) (k1_t2 : Fin (k1_t2_loop i).trips) : Fin 3 → Nat :=
  let c0_i32_9 : BitVec 32 := 0#32
  let arg1 : BitVec 32 := BitVec.ofNat 32 (i 1).val
  let v17 : BitVec 32 := Scalar.subi arg1 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg10 : BitVec 32 := Scf.iv v21 c1_i32_12 k1_t2
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
def k1_mult3 (i : grid1.Coords) : BitVec 32 :=
  let arg1 : BitVec 32 := BitVec.ofNat 32 (i 1).val
  let c1024_i32 : BitVec 32 := 1024#32
  let v24 : BitVec 32 := Scalar.muli arg1 c1024_i32
  v24
def k1_off5 (i : grid1.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  let c0_13 : Index := 0#32
  ![v26.toNat, 0]
def k1_off6 (i : grid1.Coords) : Fin 3 → Nat :=
  let arg1 : BitVec 32 := BitVec.ofNat 32 (i 1).val
  let v33 : Index := Scalar.indexCast arg1
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v34 : Index := Scalar.indexCast v15
  let c0_16 : Index := 0#32
  ![v33.toNat, v34.toNat, 0]
@[reducible] def k1_t3_loop (i : grid1.Coords) : Scf.Loop 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_24 : BitVec 32 := 1#32
  ⟨c0_i32_22, v61, c1_i32_24⟩
def k1_mult4 (i : grid1.Coords) (k1_t3 : Fin (k1_t3_loop i).trips) : BitVec 32 :=
  let c0_i32_22 : BitVec 32 := 0#32
  let c1_i32_24 : BitVec 32 := 1#32
  let arg10 : BitVec 32 := Scf.iv c0_i32_22 c1_i32_24 k1_t3
  let c1024_i32_40 : BitVec 32 := 1024#32
  let v103 : BitVec 32 := Scalar.muli arg10 c1024_i32_40
  v103
def k1_off7 (i : grid1.Coords) (k1_t3 : Fin (k1_t3_loop i).trips) : Fin 2 → Nat :=
  let c0_i32_22 : BitVec 32 := 0#32
  let c1_i32_24 : BitVec 32 := 1#32
  let arg10 : BitVec 32 := Scf.iv c0_i32_22 c1_i32_24 k1_t3
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off8 (i : grid1.Coords) (k1_t3 : Fin (k1_t3_loop i).trips) : Fin 3 → Nat :=
  let c0_i32_22 : BitVec 32 := 0#32
  let c1_i32_24 : BitVec 32 := 1#32
  let arg10 : BitVec 32 := Scf.iv c0_i32_22 c1_i32_24 k1_t3
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
@[reducible] def k1_t4_loop (i : grid1.Coords) : Scf.Loop 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let v58 : BitVec 32 := Scalar.addi c0_i32_22 v57
  let c1_i32_25 : BitVec 32 := 1#32
  ⟨v61, v58, c1_i32_25⟩
def k1_mult5 (i : grid1.Coords) (k1_t4 : Fin (k1_t4_loop i).trips) : BitVec 32 :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let c1024_i32_40 : BitVec 32 := 1024#32
  let v103 : BitVec 32 := Scalar.muli arg10 c1024_i32_40
  v103
def k1_off9 (i : grid1.Coords) (k1_t4 : Fin (k1_t4_loop i).trips) : Fin 2 → Nat :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let c1024_i32_40 : BitVec 32 := 1024#32
  let v103 : BitVec 32 := Scalar.muli arg10 c1024_i32_40
  let v104 : BitVec 32 := v103
  let v105 : Index := Scalar.indexCast v104
  let c0_41 : Index := 0#32
  ![v105.toNat, 0]
def k1_off10 (i : grid1.Coords) (k1_t4 : Fin (k1_t4_loop i).trips) : Fin 3 → Nat :=
  let c0_i32_22 : BitVec 32 := 0#32
  let arg1 : BitVec 32 := BitVec.ofNat 32 (i 1).val
  let v57 : BitVec 32 := Scalar.subi arg1 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k1_t4
  let v112 : Index := Scalar.indexCast arg10
  let arg0 : BitVec 32 := BitVec.ofNat 32 (i 0).val
  let c8_i32 : BitVec 32 := 8#32
  let c0_i32 : BitVec 32 := 0#32
  let v6 : BitVec 1 := Scalar.cmpi .eq c8_i32 c0_i32
  let c1_i32 : BitVec 32 := 1#32
  let v7 : BitVec 32 := Scalar.select v6 c1_i32 c8_i32
  let v8 : BitVec 32 := Scalar.remsi arg0 v7
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let c0_i32_6 : BitVec 32 := 0#32
  let v9 : BitVec 1 := Scalar.cmpi .ne v8 c0_i32_6
  let v13 : BitVec 1 := Scalar.andi v12 v9
  let v14 : BitVec 32 := Scalar.addi v8 v7
  let v15 : BitVec 32 := Scalar.select v13 v14 v8
  let v113 : Index := Scalar.indexCast v15
  let c0_44 : Index := 0#32
  ![v112.toNat, v113.toNat, 0]
def k1_mult6 (i : grid1.Coords) : BitVec 32 :=
  let arg1 : BitVec 32 := BitVec.ofNat 32 (i 1).val
  let c1024_i32_26 : BitVec 32 := 1024#32
  let v64 : BitVec 32 := Scalar.muli arg1 c1024_i32_26
  v64
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 4], ![false, false]⟩

def k2_off1 (i : grid2.Coords) : Fin 3 → Nat :=
  let c0_6 : Index := 0#32
  let arg0 : BitVec 32 := BitVec.ofNat 32 (i 0).val
  let c8_i32 : BitVec 32 := 8#32
  let c0_i32 : BitVec 32 := 0#32
  let v4 : BitVec 1 := Scalar.cmpi .eq c8_i32 c0_i32
  let c1_i32 : BitVec 32 := 1#32
  let v5 : BitVec 32 := Scalar.select v4 c1_i32 c8_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v14 : Index := Scalar.indexCast v13
  let c0_7 : Index := 0#32
  ![0, v14.toNat, 0]
def k2_mult1 (i : grid2.Coords) : BitVec 32 :=
  let arg1 : BitVec 32 := BitVec.ofNat 32 (i 1).val
  let c1024_i32 : BitVec 32 := 1024#32
  let v20 : BitVec 32 := Scalar.muli arg1 c1024_i32
  v20
def k2_off2 (i : grid2.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_10 : Index := 0#32
  ![v22.toNat, 0]
def k2_off3 (i : grid2.Coords) : Fin 3 → Nat :=
  let c0_12 : Index := 0#32
  let arg1 : BitVec 32 := BitVec.ofNat 32 (i 1).val
  let c1024_i32 : BitVec 32 := 1024#32
  let v20 : BitVec 32 := Scalar.muli arg1 c1024_i32
  let v21 : BitVec 32 := v20
  let v28 : Index := Scalar.indexCast v21
  let c0_13 : Index := 0#32
  ![0, v28.toNat, 0]
@[reducible] def k2_t1_loop (i : grid2.Coords) : Scf.Loop 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_24 : BitVec 32 := 1#32
  ⟨v58, v63, c1_i32_24⟩
def k2_mult2 (i : grid2.Coords) (k2_t1 : Fin (k2_t1_loop i).trips) : BitVec 32 :=
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  v75
def k2_off4 (i : grid2.Coords) (k2_t1 : Fin (k2_t1_loop i).trips) : Fin 2 → Nat :=
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  let v76 : BitVec 32 := v75
  let v77 : Index := Scalar.indexCast v76
  let c0_35 : Index := 0#32
  ![v77.toNat, 0]
def k2_off5 (i : grid2.Coords) (k2_t1 : Fin (k2_t1_loop i).trips) : Fin 3 → Nat :=
  let c0_37 : Index := 0#32
  let arg1 : BitVec 32 := BitVec.ofNat 32 (i 1).val
  let c1_i32_22 : BitVec 32 := 1#32
  let v58 : BitVec 32 := Scalar.addi arg1 c1_i32_22
  let c1_i32_24 : BitVec 32 := 1#32
  let arg12 : BitVec 32 := Scf.iv v58 c1_i32_24 k2_t1
  let c1024_i32_34 : BitVec 32 := 1024#32
  let v75 : BitVec 32 := Scalar.muli arg12 c1024_i32_34
  let v76 : BitVec 32 := v75
  let v83 : Index := Scalar.indexCast v76
  let c0_38 : Index := 0#32
  ![0, v83.toNat, 0]
@[reducible] def k2_t2_loop (i : grid2.Coords) : Scf.Loop 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let v60 : BitVec 32 := Scalar.addi v58 v59
  let c1_i32_25 : BitVec 32 := 1#32
  ⟨v63, v60, c1_i32_25⟩
def k2_mult3 (i : grid2.Coords) (k2_t2 : Fin (k2_t2_loop i).trips) : BitVec 32 :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  v75
def k2_off6 (i : grid2.Coords) (k2_t2 : Fin (k2_t2_loop i).trips) : Fin 2 → Nat :=
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  let v76 : BitVec 32 := v75
  let v77 : Index := Scalar.indexCast v76
  let c0_35 : Index := 0#32
  ![v77.toNat, 0]
def k2_off7 (i : grid2.Coords) (k2_t2 : Fin (k2_t2_loop i).trips) : Fin 3 → Nat :=
  let c0_37 : Index := 0#32
  let arg1 : BitVec 32 := BitVec.ofNat 32 (i 1).val
  let c1_i32_22 : BitVec 32 := 1#32
  let v58 : BitVec 32 := Scalar.addi arg1 c1_i32_22
  let c4_i32 : BitVec 32 := 4#32
  let v59 : BitVec 32 := Scalar.subi c4_i32 v58
  let c1_i32_23 : BitVec 32 := 1#32
  let v61 : BitVec 32 := Scalar.divsi v59 c1_i32_23
  let v62 : BitVec 32 := Scalar.muli v61 c1_i32_23
  let v63 : BitVec 32 := Scalar.addi v58 v62
  let c1_i32_25 : BitVec 32 := 1#32
  let arg12 : BitVec 32 := Scf.iv v63 c1_i32_25 k2_t2
  let c1024_i32_34 : BitVec 32 := 1024#32
  let v75 : BitVec 32 := Scalar.muli arg12 c1024_i32_34
  let v76 : BitVec 32 := v75
  let v83 : Index := Scalar.indexCast v76
  let c0_38 : Index := 0#32
  ![0, v83.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, v16.toNat, c0_i32_4.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x8x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]
-- ==== KernelFoxIdeal.lean ====
variable {F : FTy → Type} [FloatOps F] [Named F]
def κ : String → Option EReal := fun
  | "mask" => some ⊥
  | _ => none
-- ==== ReferenceFoxIdeal.lean ====
abbrev S4096x2048 : Shape := ⟨2, ![4096, 2048]⟩
abbrev S16x4096 : Shape := ⟨2, ![16, 4096]⟩
abbrev S4096x16x128 : Shape := ⟨3, ![4096, 16, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩
abbrev S16x4x1x1024 : Shape := ⟨4, ![16, 4, 1, 1024]⟩
abbrev S16x4x8x1024 : Shape := ⟨4, ![16, 4, 8, 1024]⟩

abbrev nBuf : Space → Nat
  | .hbm => 129
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S16x4096, .f32⟩
  | 4 => ⟨S4096x2048, .f32⟩
  | 5 => ⟨S4096x16x128, .f32⟩
  | 6 => ⟨S4096x16x128, .f32⟩
  | 7 => ⟨S4096x16x128, .f32⟩
  | 8 => ⟨S16x4096x4096, .f32⟩
  | 9 => ⟨S_, .f32⟩
  | 10 => ⟨S16x4096x4096, .f32⟩
  | 11 => ⟨S16x4096x4096, .f32⟩
  | 12 => ⟨S16x4096x1, .f32⟩
  | 13 => ⟨S16x1x4096, .f32⟩
  | 14 => ⟨S16x4096x4096, .f32⟩
  | 15 => ⟨S16x4096x4096, .f32⟩
  | 16 => ⟨S16x4096x4096, .f32⟩
  | 17 => ⟨S16x4096x4096, .f32⟩
  | 18 => ⟨S4096, .i32⟩
  | 19 => ⟨S1x4096, .i32⟩
  | 20 => ⟨S4096x1, .i32⟩
  | 21 => ⟨S4096x4096, .i32⟩
  | 22 => ⟨S4096x4096, .i32⟩
  | 23 => ⟨S4096x4096, .i1⟩
  | 24 => ⟨S_, .f32⟩
  | 25 => ⟨S_, .f32⟩
  | 26 => ⟨S16x4096x4096, .i1⟩
  | 27 => ⟨S16x4096x4096, .f32⟩
  | 28 => ⟨S16x4096x4096, .f32⟩
  | 29 => ⟨S_, .f32⟩
  | 30 => ⟨S16x4096x4096, .f32⟩
  | 31 => ⟨S_, .f32⟩
  | 32 => ⟨S16x4096, .f32⟩
  | 33 => ⟨S16x4096x1, .f32⟩
  | 34 => ⟨S16x4096x4096, .f32⟩
  | 35 => ⟨S16x4096x4096, .i1⟩
  | 36 => ⟨S16x4096x4096, .f32⟩
  | 37 => ⟨S_, .f32⟩
  | 38 => ⟨S16x4096, .f32⟩
  | 39 => ⟨S_, .f32⟩
  | 40 => ⟨S16x4096, .f32⟩
  | 41 => ⟨S16x4096, .f32⟩
  | 42 => ⟨S_, .f32⟩
  | 43 => ⟨S16x4096, .f32⟩
  | 44 => ⟨S16x4096, .i1⟩
  | 45 => ⟨S_, .f32⟩
  | 46 => ⟨S16x4096, .f32⟩
  | 47 => ⟨S16x4096, .i1⟩
  | 48 => ⟨S_, .f32⟩
  | 49 => ⟨S16x4096, .f32⟩
  | 50 => ⟨S_, .f32⟩
  | 51 => ⟨S16x4096, .f32⟩
  | 52 => ⟨S_, .f32⟩
  | 53 => ⟨S16x4096, .f32⟩
  | 54 => ⟨S16x4096, .f32⟩
  | 55 => ⟨S16x4096, .f32⟩
  | 56 => ⟨S16x4096x1, .f32⟩
  | 57 => ⟨S16x4096x4096, .f32⟩
  | 58 => ⟨S16x4096x4096, .f32⟩
  | 59 => ⟨S16x4096x4096, .f32⟩
  | 60 => ⟨S_, .f32⟩
  | 61 => ⟨S16x4096, .f32⟩
  | 62 => ⟨S16x4096x1, .f32⟩
  | 63 => ⟨S16x4096x4096, .f32⟩
  | 64 => ⟨S16x4096x4096, .f32⟩
  | 65 => ⟨S16x4096x1, .f32⟩
  | 66 => ⟨S_, .f32⟩
  | 67 => ⟨S16x4096x1, .f32⟩
  | 68 => ⟨S16x4096x1, .f32⟩
  | 69 => ⟨S16x128x4096, .f32⟩
  | 70 => ⟨S4096x16x128, .f32⟩
  | 71 => ⟨S4096x2048, .f32⟩
  | 72 => ⟨S16x4096x4096, .f32⟩
  | 73 => ⟨S_, .f32⟩
  | 74 => ⟨S16x4096, .f32⟩
  | 75 => ⟨S16x4096, .f32⟩
  | 76 => ⟨S16x4096, .f32⟩
  | 77 => ⟨S16x4096x1, .f32⟩
  | 78 => ⟨S16x4096x128, .f32⟩
  | 79 => ⟨S4096x16x128, .f32⟩
  | 80 => ⟨S16x128x4096, .f32⟩
  | 81 => ⟨S16x4096x4096, .f32⟩
  | 82 => ⟨S16x128x4096, .f32⟩
  | 83 => ⟨S4096x16x128, .f32⟩
  | 84 => ⟨S16x4096x4096, .f32⟩
  | 85 => ⟨S16x4096x4096, .f32⟩
  | 86 => ⟨S16x4096x4096, .f32⟩
  | 87 => ⟨S_, .f32⟩
  | 88 => ⟨S16x4096, .f32⟩
  | 89 => ⟨S16x4096x1, .f32⟩
  | 90 => ⟨S16x4096x1, .f32⟩
  | 91 => ⟨S16x4096x4096, .f32⟩
  | 92 => ⟨S16x4096x4096, .f32⟩
  | 93 => ⟨S_, .f32⟩
  | 94 => ⟨S16x4096, .f32⟩
  | 95 => ⟨S16x4096x4096, .f32⟩
  | 96 => ⟨S16x4096x4096, .f32⟩
  | 97 => ⟨S16x4096x4096, .f32⟩
  | 98 => ⟨S_, .f32⟩
  | 99 => ⟨S16x4096x4096, .f32⟩
  | 100 => ⟨S16x4096x4096, .f32⟩
  | 101 => ⟨S_, .f32⟩
  | 102 => ⟨S16x4096, .f32⟩
  | 103 => ⟨S16x4096x1, .f32⟩
  | 104 => ⟨S16x4096x4096, .f32⟩
  | 105 => ⟨S_, .f32⟩
  | 106 => ⟨S16x4096, .f32⟩
  | 107 => ⟨S16x1x4096, .f32⟩
  | 108 => ⟨S_, .f32⟩
  | 109 => ⟨S16x4096, .f32⟩
  | 110 => ⟨S_, .f32⟩
  | 111 => ⟨S16x4096, .f32⟩
  | 112 => ⟨S16x4096, .f32⟩
  | 113 => ⟨S_, .f32⟩
  | 114 => ⟨S16x4096x4096, .f32⟩
  | 115 => ⟨S16x4096x4096, .f32⟩
  | 116 => ⟨S16x4096x128, .f32⟩
  | 117 => ⟨S4096x16x128, .f32⟩
  | 118 => ⟨S16x4096x128, .f32⟩
  | 119 => ⟨S4096x16x128, .f32⟩
  | 120 => ⟨S4096x2048, .f32⟩
  | 121 => ⟨S4096x2048, .f32⟩
  | 122 => ⟨S4096x2048, .f32⟩
  | 123 => ⟨S16x4x1x1024, .f32⟩
  | 124 => ⟨S16x4x8x1024, .f32⟩
  | 125 => ⟨S4096x2048, .bf16⟩
  | 126 => ⟨S4096x2048, .bf16⟩
  | 127 => ⟨S4096x2048, .bf16⟩
  | _ => ⟨S4096x2048, .f32⟩

abbrev hbmTy0_1 (i : Nat) : BufTy := match i % 128 with
  | 0 => ⟨S4096x2048, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call1_cst : Ref sig .tc := ⟨.hbm, 98, rfl⟩
abbrev main_call1_v0 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]
-- ==== KernelMlp.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMlpIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelMix.lean ====
abbrev S4096x6144 : Shape := ⟨2, ![4096, 6144]⟩
abbrev S4096x12288 : Shape := ⟨2, ![4096, 12288]⟩
abbrev S8x128x128 : Shape := ⟨3, ![8, 128, 128]⟩
abbrev S8x128 : Shape := ⟨2, ![8, 128]⟩
abbrev S8x128x1 : Shape := ⟨3, ![8, 128, 1]⟩
abbrev S512x768 : Shape := ⟨2, ![512, 768]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x768 : Shape := ⟨2, ![128, 768]⟩
abbrev S128 : Shape := ⟨1, ![128]⟩

abbrev nBuf : Space → Nat
  | .hbm => 11
  | .vmem => 18
  | .smem => 0
  | _ => 0

abbrev bufTy : (tb : Table) → Fin (tcTables nBuf tb) → BufTy
  | .hbm, ⟨0, _⟩ => ⟨S4096x6144, .bf16⟩
  | .hbm, ⟨1, _⟩ => ⟨S4096x12288, .bf16⟩
  | .hbm, ⟨2, _⟩ => ⟨S4096x6144, .bf16⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S4096x6144, .bf16⟩
  | .hbm, ⟨8, _⟩ => ⟨S4096x6144, .bf16⟩
  | .hbm, ⟨9, _⟩ => ⟨S8x128x128, .f32⟩
  | .hbm, ⟨10, _⟩ => ⟨S8x128x128, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_72 : BitVec 32 := 0#32
  let v148 : BitVec 1 := Scalar.cmpi .eq arg1 c0_i32_72
  let v149 : BitVec 32 := Scalar.extui v148
  let c0_i32_73 : BitVec 32 := 0#32
  let v150 : BitVec 1 := Scalar.cmpi .ne v149 c0_i32_73
  v150

def k0_cond2 (i : grid0.Coords) : BitVec 1 :=
  let arg1 : BitVec 32 := BitVec.ofNat 32 (i 1).val
  let c0_i32_74 : BitVec 32 := 0#32
  let v151 : BitVec 1 := Scalar.cmpi .sgt arg1 c0_i32_74
  let v152 : BitVec 32 := Scalar.extui v151
  let c0_i32_75 : BitVec 32 := 0#32
  let v153 : BitVec 1 := Scalar.cmpi .ne v152 c0_i32_75
  v153

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceMixIdeal.lean ====
abbrev S4096x6144 : Shape := ⟨2, ![4096, 6144]⟩
abbrev S4096x12288 : Shape := ⟨2, ![4096, 12288]⟩
abbrev S8x128x128 : Shape := ⟨3, ![8, 128, 128]⟩
abbrev S8x128 : Shape := ⟨2, ![8, 128]⟩
abbrev S32x128x8x768 : Shape := ⟨4, ![32, 128, 8, 768]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x768x128 : Shape := ⟨4, ![8, 32, 768, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x12288, .bf16⟩
  | .hbm, ⟨2, _⟩ => ⟨S4096x6144, .bf16⟩
  | .hbm, ⟨3, _⟩ => ⟨S8x128x128, .f32⟩
  | .hbm, ⟨4, _⟩ => ⟨S8x128, .f32⟩
  | .hbm, ⟨5, _⟩ => ⟨S4096x6144, .bf16⟩
  | .hbm, ⟨6, _⟩ => ⟨S4096x6144, .f32⟩
  | .hbm, ⟨7, _⟩ => ⟨S4096x6144, .f32⟩
  | .hbm, ⟨8, _⟩ => ⟨S32x128x8x768, .f32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S1x128, .i32⟩
  | .hbm, ⟨29, _⟩ => ⟨S128x1, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S1x128x128, .i1⟩
  | .hbm, ⟨34, _⟩ => ⟨S_, .f32⟩
  | .hbm, ⟨35, _⟩ => ⟨S_, .f32⟩
  | .hbm, ⟨36, _⟩ => ⟨S8x128x128, .i1⟩
  | .hbm, ⟨37, _⟩ => ⟨S8x128x128, .f32⟩
  | .hbm, ⟨38, _⟩ => ⟨S8x128x128, .f32⟩
  | .hbm, ⟨39, _⟩ => ⟨S_, .f32⟩
  | .hbm, ⟨40, _⟩ => ⟨S8x128x128, .f32⟩
  | .hbm, ⟨41, _⟩ => ⟨S8x32x768x128, .f32⟩
  | .hbm, ⟨42, _⟩ => ⟨S32x128x8x768, .f32⟩
  | .hbm, ⟨43, _⟩ => ⟨S128x8, .f32⟩
  | .hbm, ⟨44, _⟩ => ⟨S128x8x1, .f32⟩
  | .hbm, ⟨45, _⟩ => ⟨S1x128x8x1, .f32⟩
  | .hbm, ⟨46, _⟩ => ⟨S32x128x8x768, .f32⟩
  | .hbm, ⟨47, _⟩ => ⟨S32x128x8x768, .f32⟩
  | .hbm, ⟨48, _⟩ => ⟨S4096x6144, .f32⟩
  | .hbm, ⟨49, _⟩ => ⟨S4096x6144, .f32⟩
  | .hbm, ⟨50, _⟩ => ⟨S4096x6144, .f32⟩
  | .hbm, ⟨51, _⟩ => ⟨S4096x6144, .f32⟩
  | .hbm, ⟨52, _⟩ => ⟨S4096x6144, .f32⟩
  | .hbm, ⟨53, _⟩ => ⟨S32x128x8x768, .f32⟩
  | .hbm, ⟨54, _⟩ => ⟨S_, .f32⟩
  | .hbm, ⟨55, _⟩ => ⟨S128x8, .f32⟩
  | .hbm, ⟨56, _⟩ => ⟨S1x128x8x1, .f32⟩
  | .hbm, ⟨57, _⟩ => ⟨S_, .f32⟩
  | .hbm, ⟨58, _⟩ => ⟨S128x8, .f32⟩
  | .hbm, ⟨59, _⟩ => ⟨S128x8x1, .f32⟩
  | .hbm, ⟨60, _⟩ => ⟨S_, .f32⟩
  | .hbm, ⟨61, _⟩ => ⟨S128x8, .f32⟩
  | .hbm, ⟨62, _⟩ => ⟨S8x128, .f32⟩
  | .hbm, ⟨63, _⟩ => ⟨S8x32x768x128, .f32⟩
  | .hbm, ⟨64, _⟩ => ⟨S8x128x128, .f32⟩
  | .hbm, ⟨65, _⟩ => ⟨S8x32x768x128, .f32⟩
  | .hbm, ⟨66, _⟩ => ⟨S32x128x8x768, .f32⟩
  | .hbm, ⟨67, _⟩ => ⟨S_, .f32⟩
  | .hbm, ⟨68, _⟩ => ⟨S8x128x128, .f32⟩
  | .hbm, ⟨69, _⟩ => ⟨S8x128x128, .f32⟩
  | .hbm, ⟨70, _⟩ => ⟨S4096x6144, .f32⟩
  | .hbm, ⟨71, _⟩ => ⟨S4096x6144, .bf16⟩
  | .hbm, ⟨72, _⟩ => ⟨S4096x6144, .bf16⟩
  | .hbm, ⟨73, _⟩ => ⟨S8x128x1, .f32⟩
  | .hbm, ⟨74, _⟩ => ⟨S8x128x128, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_call1_v0 : Ref sig .tc := ⟨.hbm, 35, rfl⟩
abbrev main_v12_1 : Ref sig .tc := ⟨.hbm, 36, rfl⟩
abbrev main_call1_v2 : Ref sig .tc := ⟨.hbm, 37, rfl⟩
abbrev main_v12_0 : Ref sig .tc := ⟨.hbm, 38, rfl⟩
abbrev main_call1_cst : Ref sig .tc := ⟨.hbm, 39, rfl⟩
abbrev main_v12_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_0 : Ref sig .tc := ⟨.hbm, 54, rfl⟩
abbrev main_v26 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call2_cst : Ref sig .tc := ⟨.hbm, 67, rfl⟩
abbrev main_call2_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩

abbrev nD : Nat := 1
abbrev τ : Topo := Topo.v7x

variable {F : FTy → Type} [FloatOps F]
-- ==== KernelAct.lean ====
abbrev S4096x12288 : Shape := ⟨2, ![4096, 12288]⟩
abbrev S4096x6144 : Shape := ⟨2, ![4096, 6144]⟩
abbrev S6144 : Shape := ⟨1, ![6144]⟩
abbrev S1x6144 : Shape := ⟨2, ![1, 6144]⟩
abbrev S128x12288 : Shape := ⟨2, ![128, 12288]⟩
abbrev S128x6144 : Shape := ⟨2, ![128, 6144]⟩
abbrev S128 : Shape := ⟨1, ![128]⟩
abbrev S128x1 : Shape := ⟨2, ![128, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x12288, .bf16⟩
  | .hbm, ⟨1, _⟩ => ⟨S4096x6144, .bf16⟩
  | .hbm, ⟨2, _⟩ => ⟨S4096x6144, .bf16⟩
  | .hbm, ⟨3, _⟩ => ⟨S6144, .f32⟩
  | .hbm, ⟨4, _⟩ => ⟨S1x6144, .f32⟩
  | .hbm, ⟨5, _⟩ => ⟨S4096x12288, .bf16⟩
  | .hbm, ⟨6, _⟩ => ⟨S1x6144, .f32⟩
  | .hbm, ⟨7, _⟩ => ⟨S1x6144, .f32⟩
  | .local _ .vmem, ⟨0, _⟩ => ⟨S128x12288, .bf16⟩
  | .local _ .vmem, ⟨1, _⟩ => ⟨S128x12288, .bf16⟩
  | .local _ .vmem, ⟨2, _⟩ => ⟨S128x6144, .bf16⟩
  | .local _ .vmem, ⟨3, _⟩ => ⟨S128x6144, .bf16⟩
  | .local _ .vmem, ⟨4, _⟩ => ⟨S128x6144, .bf16⟩
  | .local _ .vmem, ⟨5, _⟩ => ⟨S128x6144, .bf16⟩
  | .local _ .vmem, ⟨6, _⟩ => ⟨S1x6144, .f32⟩
  | .local _ .vmem, ⟨7, _⟩ => ⟨S128x12288, .bf16⟩
  | .local _ .vmem, ⟨8, _⟩ => ⟨S128x12288, .bf16⟩
  | .local _ .vmem, ⟨9, _⟩ => ⟨S1x6144, .f32⟩
  | .local _ .vmem, ⟨10, _⟩ => ⟨S1x6144, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelActIdeal.lean ====
variable {F : FTy → Type} [FloatOps F] [Named F]
def κ : String → Option EReal := fun
  | "inv_sqrt_2" => some (((Real.sqrt 2)⁻¹ : ℝ) : EReal)
  | "inv_sqrt_2pi" => some ((9465531 * (16777216 * (Real.sqrt 2))⁻¹ : ℝ) : EReal)
  | _ => none
-- ==== ReferenceActIdeal.lean ====
abbrev S4096x12288 : Shape := ⟨2, ![4096, 12288]⟩
abbrev S4096x6144 : Shape := ⟨2, ![4096, 6144]⟩
abbrev S6144 : Shape := ⟨1, ![6144]⟩
abbrev S_ : Shape := ⟨0, ![]⟩
abbrev S4096 : Shape := ⟨1, ![4096]⟩
abbrev S4096x1 : Shape := ⟨2, ![4096, 1]⟩
abbrev S1x6144 : Shape := ⟨2, ![1, 6144]⟩

abbrev nBuf : Space → Nat
  | .hbm => 121
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x6144, .bf16⟩
  | .hbm, ⟨2, _⟩ => ⟨S4096x6144, .bf16⟩
  | .hbm, ⟨3, _⟩ => ⟨S6144, .f32⟩
  | .hbm, ⟨4, _⟩ => ⟨S4096x6144, .f32⟩
  | .hbm, ⟨5, _⟩ => ⟨S4096x6144, .f32⟩
  | .hbm, ⟨6, _⟩ => ⟨S4096x12288, .f32⟩
  | .hbm, ⟨7, _⟩ => ⟨S_, .f32⟩
  | .hbm, ⟨8, _⟩ => ⟨S6144, .f32⟩
  | .hbm, ⟨9, _⟩ => ⟨S_, .f32⟩
  | .hbm, ⟨10, _⟩ => ⟨S4096x12288, .f32⟩
  | .hbm, ⟨11, _⟩ => ⟨S4096x12288, .f32⟩
  | .hbm, ⟨12, _⟩ => ⟨S4096x12288, .f32⟩
  | .hbm, ⟨13, _⟩ => ⟨S_, .f32⟩
  | .hbm, ⟨14, _⟩ => ⟨S_, .f32⟩
  | .hbm, ⟨15, _⟩ => ⟨S4096x12288, .f32⟩
  | .hbm, ⟨16, _⟩ => ⟨S4096x12288, .f32⟩
  | .hbm, ⟨17, _⟩ => ⟨S4096x12288, .f32⟩
  | .hbm, ⟨18, _⟩ => ⟨S4096x12288, .f32⟩
  | .hbm, ⟨19, _⟩ => ⟨S4096x12288, .f32⟩
  | .hbm, ⟨20, _⟩ => ⟨S4096x12288, .f32⟩
  | .hbm, ⟨21, _⟩ => ⟨S4096x12288, .f32⟩
  | .hbm, ⟨22, _⟩ => ⟨S4096x6144, .f32⟩
  | .hbm, ⟨23, _⟩ => ⟨S4096x6144, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x6144, .f32⟩
  | .hbm, ⟨31, _⟩ => ⟨S4096x6144, .f32⟩
  | .hbm, ⟨32, _⟩ => ⟨S4096x6144, .f32⟩
  | .hbm, ⟨33, _⟩ => ⟨S_, .f32⟩
  | .hbm, ⟨34, _⟩ => ⟨S4096x6144, .f32⟩
  | .hbm, ⟨35, _⟩ => ⟨S4096x6144, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x6144, .f32⟩
  | .hbm, ⟨43, _⟩ => ⟨S4096x6144, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x6144, .f32⟩
  | .hbm, ⟨53, _⟩ => ⟨S4096x6144, .f32⟩
  | .hbm, ⟨54, _⟩ => ⟨S1x6144, .f32⟩
  | .hbm, ⟨55, _⟩ => ⟨S4096x6144, .f32⟩
  | .hbm, ⟨56, _⟩ => ⟨S4096x6144, .f32⟩
  | .hbm, ⟨57, _⟩ => ⟨S1x6144, .f32⟩
  | .hbm, ⟨58, _⟩ => ⟨S4096x6144, .f32⟩
  | .hbm, ⟨59, _⟩ => ⟨S4096x6144, .f32⟩
  | .hbm, ⟨60, _⟩ => ⟨S_, .f32⟩
  | .hbm, ⟨61, _⟩ => ⟨S6144, .f32⟩
  | .hbm, ⟨62, _⟩ => ⟨S1x6144, .f32⟩
  | .hbm, ⟨63, _⟩ => ⟨S_, .f32⟩
  | .hbm, ⟨64, _⟩ => ⟨S6144, .f32⟩
  | .hbm, ⟨65, _⟩ => ⟨S4096x6144, .f32⟩
  | .hbm, ⟨66, _⟩ => ⟨S_, .f32⟩
  | .hbm, ⟨67, _⟩ => ⟨S6144, .f32⟩
  | .hbm, ⟨68, _⟩ => ⟨S1x6144, .f32⟩
  | .hbm, ⟨69, _⟩ => ⟨S4096x6144, .f32⟩
  | .hbm, ⟨70, _⟩ => ⟨S4096x6144, .f32⟩
  | .hbm, ⟨71, _⟩ => ⟨S_, .f32⟩
  | .hbm, ⟨72, _⟩ => ⟨S6144, .f32⟩
  | .hbm, ⟨73, _⟩ => ⟨S4096x6144, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x6144, .f32⟩
  | .hbm, ⟨78, _⟩ => ⟨S4096x6144, .f32⟩
  | .hbm, ⟨79, _⟩ => ⟨S4096x1, .f32⟩
  | .hbm, ⟨80, _⟩ => ⟨S4096x6144, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x6144, .f32⟩
  | .hbm, ⟨90, _⟩ => ⟨S4096x6144, .f32⟩
  | .hbm, ⟨91, _⟩ => ⟨S4096x6144, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x6144, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x6144, .f32⟩
  | .hbm, ⟨103, _⟩ => ⟨S4096x6144, .f32⟩
  | .hbm, ⟨104, _⟩ => ⟨S4096x12288, .f32⟩
  | .hbm, ⟨105, _⟩ => ⟨S4096x12288, .f32⟩
  | .hbm, ⟨106, _⟩ => ⟨S4096x12288, .f32⟩
  | .hbm, ⟨107, _⟩ => ⟨S_, .f32⟩
  | .hbm, ⟨108, _⟩ => ⟨S4096x12288, .f32⟩
  | .hbm, ⟨109, _⟩ => ⟨S4096x12288, .f32⟩
  | .hbm, ⟨110, _⟩ => ⟨S4096x12288, .f32⟩
  | .hbm, ⟨111, _⟩ => ⟨S4096x12288, .f32⟩
  | .hbm, ⟨112, _⟩ => ⟨S4096x12288, .f32⟩
  | .hbm, ⟨113, _⟩ => ⟨S4096x12288, .f32⟩
  | .hbm, ⟨114, _⟩ => ⟨S_, .f32⟩
  | .hbm, ⟨115, _⟩ => ⟨S4096x12288, .f32⟩
  | .hbm, ⟨116, _⟩ => ⟨S4096x12288, .f32⟩
  | .hbm, ⟨117, _⟩ => ⟨S4096x12288, .f32⟩
  | .hbm, ⟨118, _⟩ => ⟨S4096x12288, .bf16⟩
  | .hbm, ⟨119, _⟩ => ⟨S1x6144, .f32⟩
  | .hbm, ⟨120, _⟩ => ⟨S1x6144, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_18 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== KernelFcum.lean ====
abbrev S16x4096 : Shape := ⟨2, ![16, 4096]⟩
abbrev S4096x16 : Shape := ⟨2, ![4096, 16]⟩
abbrev S16 : Shape := ⟨1, ![16]⟩
abbrev S1x16 : Shape := ⟨2, ![1, 16]⟩
abbrev S_ : Shape := ⟨0, ![]⟩
abbrev S4096x128 : Shape := ⟨2, ![4096, 128]⟩
abbrev S128x4096 : Shape := ⟨2, ![128, 4096]⟩
abbrev S1x128 : Shape := ⟨2, ![1, 128]⟩
abbrev S128x128 : Shape := ⟨2, ![128, 128]⟩
abbrev S128 : Shape := ⟨1, ![128]⟩

abbrev nBuf : Space → Nat
  | .hbm => 18
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S4096x16, .f32⟩
  | .hbm, ⟨3, _⟩ => ⟨S16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S128x4096, .f32⟩
  | .hbm, ⟨13, _⟩ => ⟨S_, .i32⟩
  | .hbm, ⟨14, _⟩ => ⟨S_, .f32⟩
  | .hbm, ⟨15, _⟩ => ⟨S128x4096, .f32⟩
  | .hbm, ⟨16, _⟩ => ⟨S4096x128, .bf16⟩
  | .hbm, ⟨17, _⟩ => ⟨S1x128, .f32⟩
  | .local _ .vmem, ⟨0, _⟩ => ⟨S128x4096, .f32⟩
  | .local _ .vmem, ⟨1, _⟩ => ⟨S128x4096, .f32⟩
  | .local _ .vmem, ⟨2, _⟩ => ⟨S4096x128, .f32⟩
  | .local _ .vmem, ⟨3, _⟩ => ⟨S4096x128, .bf16⟩
  | .local _ .vmem, ⟨4, _⟩ => ⟨S1x128, .f32⟩
  | .local _ .vmem, ⟨5, _⟩ => ⟨S4096x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_mult1 (k0_t1 : Fin k0_t1_loop.trips) : BitVec 32 :=
  let c31_i32 : BitVec 32 := 31#32
  let c0_i32 : BitVec 32 := 0#32
  let c1_i32 : BitVec 32 := 1#32
  let arg6 : BitVec 32 := Scf.iv c0_i32 c1_i32 k0_t1
  let v22 : BitVec 32 := Scalar.subi c31_i32 arg6
  let c128_i32 : BitVec 32 := 128#32
  let v23 : BitVec 32 := Scalar.muli v22 c128_i32
  v23
def k0_off1 (k0_t1 : Fin k0_t1_loop.trips) : Fin 2 → Nat :=
  let c31_i32 : BitVec 32 := 31#32
  let c0_i32 : BitVec 32 := 0#32
  let c1_i32 : BitVec 32 := 1#32
  let arg6 : BitVec 32 := Scf.iv c0_i32 c1_i32 k0_t1
  let v22 : BitVec 32 := Scalar.subi c31_i32 arg6
  let c128_i32 : BitVec 32 := 128#32
  let v23 : BitVec 32 := Scalar.muli v22 c128_i32
  let v24 : BitVec 32 := v23
  let v25 : Index := Scalar.indexCast v24
  let c0_9 : Index := 0#32
  ![v25.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceFcumIdeal.lean ====
abbrev S16x4096 : Shape := ⟨2, ![16, 4096]⟩
abbrev S4096x16 : Shape := ⟨2, ![4096, 16]⟩
abbrev S16 : Shape := ⟨1, ![16]⟩
abbrev S1x16 : Shape := ⟨2, ![1, 16]⟩
abbrev S_ : Shape := ⟨0, ![]⟩
abbrev S4096x128 : Shape := ⟨2, ![4096, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S4096x16, .f32⟩
  | .hbm, ⟨3, _⟩ => ⟨S16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .i1⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S_, .f32⟩
  | .hbm, ⟨23, _⟩ => ⟨S4096x16, .f32⟩
  | .hbm, ⟨24, _⟩ => ⟨S4096x16, .i1⟩
  | .hbm, ⟨25, _⟩ => ⟨S_, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x16, .f32⟩
  | .hbm, ⟨30, _⟩ => ⟨S4096x16, .i1⟩
  | .hbm, ⟨31, _⟩ => ⟨S_, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x16, .f32⟩
  | .hbm, ⟨44, _⟩ => ⟨S4096x16, .i1⟩
  | .hbm, ⟨45, _⟩ => ⟨S_, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S_, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S_, .f32⟩
  | .hbm, ⟨56, _⟩ => ⟨S_, .f32⟩
  | .hbm, ⟨57, _⟩ => ⟨S4096x16, .f32⟩
  | .hbm, ⟨58, _⟩ => ⟨S16x4096, .f32⟩
  | .hbm, ⟨59, _⟩ => ⟨S16x4096, .f32⟩
  | .hbm, ⟨60, _⟩ => ⟨S4096x16, .f32⟩
  | .hbm, ⟨61, _⟩ => ⟨S_, .f32⟩
  | .hbm, ⟨62, _⟩ => ⟨S_, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S_, .f32⟩
  | .hbm, ⟨68, _⟩ => ⟨S16, .f32⟩
  | .hbm, ⟨69, _⟩ => ⟨S1x16, .f32⟩
  | .hbm, ⟨70, _⟩ => ⟨S_, .f32⟩
  | .hbm, ⟨71, _⟩ => ⟨S16, .f32⟩
  | .hbm, ⟨72, _⟩ => ⟨S_, .i32⟩
  | .hbm, ⟨73, _⟩ => ⟨S_, .f32⟩
  | .hbm, ⟨74, _⟩ => ⟨S4096x128, .f32⟩
  | .hbm, ⟨75, _⟩ => ⟨S4096x128, .bf16⟩
  | .hbm, ⟨76, _⟩ => ⟨S1x16, .f32⟩
  | .hbm, ⟨77, _⟩ => ⟨S_, .i32⟩
  | .hbm, ⟨78, _⟩ => ⟨S_, .f32⟩
  | .hbm, ⟨79, _⟩ => ⟨S1x128, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_c : Ref sig .tc := ⟨.hbm, 72, rfl⟩
abbrev main_call4_v0 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_c_1 : Ref sig .tc := ⟨.hbm, 77, rfl⟩
abbrev main_call5_v0 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== KernelModnorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceModnormIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== KernelQnorm.lean ====
abbrev S4096x2048 : Shape := ⟨2, ![4096, 2048]⟩
abbrev S128 : Shape := ⟨1, ![128]⟩
abbrev S1x128 : Shape := ⟨2, ![1, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S128, .f32⟩
  | .hbm, ⟨3, _⟩ => ⟨S1x128, .f32⟩
  | .hbm, ⟨4, _⟩ => ⟨S4096x2048, .bf16⟩
  | .hbm, ⟨5, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S1x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceQnormIdeal.lean ====
abbrev S4096x2048 : Shape := ⟨2, ![4096, 2048]⟩
abbrev S128 : Shape := ⟨1, ![128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S128, .f32⟩
  | .hbm, ⟨3, _⟩ => ⟨S4096x2048, .f32⟩
  | .hbm, ⟨4, _⟩ => ⟨S4096x16x128, .f32⟩
  | .hbm, ⟨5, _⟩ => ⟨S4096x16x128, .f32⟩
  | .hbm, ⟨6, _⟩ => ⟨S_, .f32⟩
  | .hbm, ⟨7, _⟩ => ⟨S4096x16, .f32⟩
  | .hbm, ⟨8, _⟩ => ⟨S4096x16x1, .f32⟩
  | .hbm, ⟨9, _⟩ => ⟨S_, .f32⟩
  | .hbm, ⟨10, _⟩ => ⟨S4096x16x1, .f32⟩
  | .hbm, ⟨11, _⟩ => ⟨S4096x16x1, .f32⟩
  | .hbm, ⟨12, _⟩ => ⟨S_, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S4096x16x1, .f32⟩
  | .hbm, ⟨17, _⟩ => ⟨S_, .f32⟩
  | .hbm, ⟨18, _⟩ => ⟨S4096x16x1, .f32⟩
  | .hbm, ⟨19, _⟩ => ⟨S4096x16x1, .f32⟩
  | .hbm, ⟨20, _⟩ => ⟨S4096x16x128, .f32⟩
  | .hbm, ⟨21, _⟩ => ⟨S4096x16x128, .f32⟩
  | .hbm, ⟨22, _⟩ => ⟨S1x1x128, .f32⟩
  | .hbm, ⟨23, _⟩ => ⟨S4096x16x128, .f32⟩
  | .hbm, ⟨24, _⟩ => ⟨S4096x16x128, .f32⟩
  | .hbm, ⟨25, _⟩ => ⟨S4096x2048, .f32⟩
  | .hbm, ⟨26, _⟩ => ⟨S4096x16x128, .f32⟩
  | .hbm, ⟨27, _⟩ => ⟨S4096x16x128, .f32⟩
  | .hbm, ⟨28, _⟩ => ⟨S_, .f32⟩
  | .hbm, ⟨29, _⟩ => ⟨S128, .f32⟩
  | .hbm, ⟨30, _⟩ => ⟨S1x1x128, .f32⟩
  | .hbm, ⟨31, _⟩ => ⟨S4096x16x128, .f32⟩
  | .hbm, ⟨32, _⟩ => ⟨S4096x16x128, .f32⟩
  | .hbm, ⟨33, _⟩ => ⟨S_, .f32⟩
  | .hbm, ⟨34, _⟩ => ⟨S128, .f32⟩
  | .hbm, ⟨35, _⟩ => ⟨S4096x16x128, .f32⟩
  | .hbm, ⟨36, _⟩ => ⟨S_, .f32⟩
  | .hbm, ⟨37, _⟩ => ⟨S4096x16, .f32⟩
  | .hbm, ⟨38, _⟩ => ⟨S4096x16x1, .f32⟩
  | .hbm, ⟨39, _⟩ => ⟨S4096x16x128, .f32⟩
  | .hbm, ⟨40, _⟩ => ⟨S4096x16x128, .f32⟩
  | .hbm, ⟨41, _⟩ => ⟨S4096x16x1, .f32⟩
  | .hbm, ⟨42, _⟩ => ⟨S_, .f32⟩
  | .hbm, ⟨43, _⟩ => ⟨S4096x16x1, .f32⟩
  | .hbm, ⟨44, _⟩ => ⟨S4096x16x1, .f32⟩
  | .hbm, ⟨45, _⟩ => ⟨S_, .f32⟩
  | .hbm, ⟨46, _⟩ => ⟨S4096x16, .f32⟩
  | .hbm, ⟨47, _⟩ => ⟨S4096x16x128, .f32⟩
  | .hbm, ⟨48, _⟩ => ⟨S4096x16x128, .f32⟩
  | .hbm, ⟨49, _⟩ => ⟨S4096x16x128, .f32⟩
  | .hbm, ⟨50, _⟩ => ⟨S4096x16x128, .f32⟩
  | .hbm, ⟨51, _⟩ => ⟨S4096x16x128, .f32⟩
  | .hbm, ⟨52, _⟩ => ⟨S4096x2048, .f32⟩
  | .hbm, ⟨53, _⟩ => ⟨S4096x2048, .bf16⟩
  | .hbm, ⟨54, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== KernelKnorm.lean ====
abbrev S4096x2048 : Shape := ⟨2, ![4096, 2048]⟩
abbrev S128 : Shape := ⟨1, ![128]⟩
abbrev S1x128 : Shape := ⟨2, ![1, 128]⟩
abbrev S4096x4096 : Shape := ⟨2, ![4096, 4096]⟩
abbrev S512x2048 : Shape := ⟨2, ![512, 2048]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S128, .f32⟩
  | .hbm, ⟨4, _⟩ => ⟨S1x128, .f32⟩
  | .hbm, ⟨5, _⟩ => ⟨S4096x4096, .bf16⟩
  | .hbm, ⟨6, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x128, .f32⟩
  | .local _ .vmem, ⟨7, _⟩ => ⟨S512x4096, .bf16⟩
  | .local _ .vmem, ⟨8, _⟩ => ⟨S512x4096, .bf16⟩
  | .local _ .vmem, ⟨9, _⟩ => ⟨S1x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceKnormIdeal.lean ====
abbrev S4096x2048 : Shape := ⟨2, ![4096, 2048]⟩
abbrev S128 : Shape := ⟨1, ![128]⟩
abbrev S_ : Shape := ⟨0, ![]⟩
abbrev S4096x4096 : Shape := ⟨2, ![4096, 4096]⟩
abbrev S4096x16x128 : Shape := ⟨3, ![4096, 16, 128]⟩
abbrev S4096x16 : Shape := ⟨2, ![4096, 16]⟩
abbrev S4096x16x1 : Shape := ⟨3, ![4096, 16, 1]⟩
abbrev S1x1x128 : Shape := ⟨3, ![1, 1, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S128, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x16x128, .f32⟩
  | .hbm, ⟨11, _⟩ => ⟨S4096x16x128, .f32⟩
  | .hbm, ⟨12, _⟩ => ⟨S_, .f32⟩
  | .hbm, ⟨13, _⟩ => ⟨S4096x16, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S_, .f32⟩
  | .hbm, ⟨19, _⟩ => ⟨S4096x16x1, .f32⟩
  | .hbm, ⟨20, _⟩ => ⟨S4096x16x1, .f32⟩
  | .hbm, ⟨21, _⟩ => ⟨S4096x16x1, .f32⟩
  | .hbm, ⟨22, _⟩ => ⟨S4096x16x1, .f32⟩
  | .hbm, ⟨23, _⟩ => ⟨S_, .f32⟩
  | .hbm, ⟨24, _⟩ => ⟨S4096x16x1, .f32⟩
  | .hbm, ⟨25, _⟩ => ⟨S4096x16x1, .f32⟩
  | .hbm, ⟨26, _⟩ => ⟨S4096x16x128, .f32⟩
  | .hbm, ⟨27, _⟩ => ⟨S4096x16x128, .f32⟩
  | .hbm, ⟨28, _⟩ => ⟨S1x1x128, .f32⟩
  | .hbm, ⟨29, _⟩ => ⟨S4096x16x128, .f32⟩
  | .hbm, ⟨30, _⟩ => ⟨S4096x16x128, .f32⟩
  | .hbm, ⟨31, _⟩ => ⟨S4096x2048, .f32⟩
  | .hbm, ⟨32, _⟩ => ⟨S4096x16x128, .f32⟩
  | .hbm, ⟨33, _⟩ => ⟨S4096x2048, .f32⟩
  | .hbm, ⟨34, _⟩ => ⟨S4096x16x128, .f32⟩
  | .hbm, ⟨35, _⟩ => ⟨S_, .f32⟩
  | .hbm, ⟨36, _⟩ => ⟨S128, .f32⟩
  | .hbm, ⟨37, _⟩ => ⟨S1x1x128, .f32⟩
  | .hbm, ⟨38, _⟩ => ⟨S4096x16x128, .f32⟩
  | .hbm, ⟨39, _⟩ => ⟨S4096x16x128, .f32⟩
  | .hbm, ⟨40, _⟩ => ⟨S_, .f32⟩
  | .hbm, ⟨41, _⟩ => ⟨S128, .f32⟩
  | .hbm, ⟨42, _⟩ => ⟨S4096x16x128, .f32⟩
  | .hbm, ⟨43, _⟩ => ⟨S_, .f32⟩
  | .hbm, ⟨44, _⟩ => ⟨S4096x16, .f32⟩
  | .hbm, ⟨45, _⟩ => ⟨S4096x16x1, .f32⟩
  | .hbm, ⟨46, _⟩ => ⟨S4096x16x128, .f32⟩
  | .hbm, ⟨47, _⟩ => ⟨S4096x16x128, .f32⟩
  | .hbm, ⟨48, _⟩ => ⟨S4096x16x1, .f32⟩
  | .hbm, ⟨49, _⟩ => ⟨S_, .f32⟩
  | .hbm, ⟨50, _⟩ => ⟨S4096x16x1, .f32⟩
  | .hbm, ⟨51, _⟩ => ⟨S4096x16x1, .f32⟩
  | .hbm, ⟨52, _⟩ => ⟨S_, .f32⟩
  | .hbm, ⟨53, _⟩ => ⟨S4096x16, .f32⟩
  | .hbm, ⟨54, _⟩ => ⟨S4096x16x128, .f32⟩
  | .hbm, ⟨55, _⟩ => ⟨S4096x16x128, .f32⟩
  | .hbm, ⟨56, _⟩ => ⟨S4096x16x128, .f32⟩
  | .hbm, ⟨57, _⟩ => ⟨S4096x16x128, .f32⟩
  | .hbm, ⟨58, _⟩ => ⟨S4096x16x128, .f32⟩
  | .hbm, ⟨59, _⟩ => ⟨S4096x2048, .f32⟩
  | .hbm, ⟨60, _⟩ => ⟨S4096x4096, .f32⟩
  | .hbm, ⟨61, _⟩ => ⟨S4096x4096, .bf16⟩
  | .hbm, ⟨62, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== KernelLoss.lean ====
abbrev S4096x2048 : Shape := ⟨2, ![4096, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S4096x2048 : Shape := ⟨2, ![4096, 2048]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== KernelMixfwd.lean ====
abbrev S4096x12288 : Shape := ⟨2, ![4096, 12288]⟩
abbrev S4096x6144 : Shape := ⟨2, ![4096, 6144]⟩
abbrev S8x128x128 : Shape := ⟨3, ![8, 128, 128]⟩
abbrev S8x128 : Shape := ⟨2, ![8, 128]⟩
abbrev S8x128x1 : Shape := ⟨3, ![8, 128, 1]⟩
abbrev S512x768 : Shape := ⟨2, ![512, 768]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x768 : Shape := ⟨2, ![128, 768]⟩

abbrev nBuf : Space → Nat
  | .hbm => 7
  | .vmem => 10
  | .smem => 0
  | _ => 0

abbrev bufTy : (tb : Table) → Fin (tcTables nBuf tb) → BufTy
  | .hbm, ⟨0, _⟩ => ⟨S4096x12288, .bf16⟩
  | .hbm, ⟨1, _⟩ => ⟨S4096x6144, .bf16⟩
  | .hbm, ⟨2, _⟩ => ⟨S8x128x128, .f32⟩
  | .hbm, ⟨3, _⟩ => ⟨S8x128, .f32⟩
  | .hbm, ⟨4, _⟩ => ⟨S8x128x1, .f32⟩
  | .hbm, ⟨5, _⟩ => ⟨S8x128x128, .f32⟩
  | .hbm, ⟨6, _⟩ => ⟨S4096x6144, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S512x768, .bf16⟩
  | .local _ .vmem, ⟨9, _⟩ => ⟨S512x768, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMixfwdIdeal.lean ====
abbrev S4096x12288 : Shape := ⟨2, ![4096, 12288]⟩
abbrev S4096x6144 : Shape := ⟨2, ![4096, 6144]⟩
abbrev S8x128x128 : Shape := ⟨3, ![8, 128, 128]⟩
abbrev S8x128 : Shape := ⟨2, ![8, 128]⟩
abbrev S32x128x8x768 : Shape := ⟨4, ![32, 128, 8, 768]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x768x128 : Shape := ⟨4, ![8, 32, 768, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x6144, .bf16⟩
  | .hbm, ⟨2, _⟩ => ⟨S8x128x128, .f32⟩
  | .hbm, ⟨3, _⟩ => ⟨S8x128, .f32⟩
  | .hbm, ⟨4, _⟩ => ⟨S4096x6144, .bf16⟩
  | .hbm, ⟨5, _⟩ => ⟨S4096x6144, .f32⟩
  | .hbm, ⟨6, _⟩ => ⟨S4096x6144, .f32⟩
  | .hbm, ⟨7, _⟩ => ⟨S32x128x8x768, .f32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S1x128, .i32⟩
  | .hbm, ⟨28, _⟩ => ⟨S128x1, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S1x128x128, .i1⟩
  | .hbm, ⟨33, _⟩ => ⟨S_, .f32⟩
  | .hbm, ⟨34, _⟩ => ⟨S_, .f32⟩
  | .hbm, ⟨35, _⟩ => ⟨S8x128x128, .i1⟩
  | .hbm, ⟨36, _⟩ => ⟨S8x128x128, .f32⟩
  | .hbm, ⟨37, _⟩ => ⟨S8x128x128, .f32⟩
  | .hbm, ⟨38, _⟩ => ⟨S8x32x768x128, .f32⟩
  | .hbm, ⟨39, _⟩ => ⟨S32x128x8x768, .f32⟩
  | .hbm, ⟨40, _⟩ => ⟨S128x8, .f32⟩
  | .hbm, ⟨41, _⟩ => ⟨S128x8x1, .f32⟩
  | .hbm, ⟨42, _⟩ => ⟨S1x128x8x1, .f32⟩
  | .hbm, ⟨43, _⟩ => ⟨S32x128x8x768, .f32⟩
  | .hbm, ⟨44, _⟩ => ⟨S32x128x8x768, .f32⟩
  | .hbm, ⟨45, _⟩ => ⟨S4096x6144, .f32⟩
  | .hbm, ⟨46, _⟩ => ⟨S4096x6144, .f32⟩
  | .hbm, ⟨47, _⟩ => ⟨S4096x6144, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩

abbrev nD : Nat := 1
abbrev τ : Topo := Topo.v7x

variable {F : FTy → Type} [FloatOps F]
-- ==== KernelModnormfwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceModnormfwdIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelLnfwd.lean ====
abbrev S4096x12288 : Shape := ⟨2, ![4096, 12288]⟩
abbrev S6144 : Shape := ⟨1, ![6144]⟩
abbrev S1x6144 : Shape := ⟨2, ![1, 6144]⟩
abbrev S4096x6144 : Shape := ⟨2, ![4096, 6144]⟩
abbrev S256x6144 : Shape := ⟨2, ![256, 6144]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x12288, .bf16⟩
  | .hbm, ⟨1, _⟩ => ⟨S6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S4096x6144, .bf16⟩
  | .local _ .vmem, ⟨0, _⟩ => ⟨S256x6144, .bf16⟩
  | .local _ .vmem, ⟨1, _⟩ => ⟨S256x6144, .bf16⟩
  | .local _ .vmem, ⟨2, _⟩ => ⟨S1x6144, .f32⟩
  | .local _ .vmem, ⟨3, _⟩ => ⟨S1x6144, .f32⟩
  | .local _ .vmem, ⟨4, _⟩ => ⟨S256x6144, .bf16⟩
  | .local _ .vmem, ⟨5, _⟩ => ⟨S256x6144, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnfwdIdeal.lean ====
abbrev S4096x12288 : Shape := ⟨2, ![4096, 12288]⟩
abbrev S6144 : Shape := ⟨1, ![6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x6144 : Shape := ⟨2, ![1, 6144]⟩

abbrev nBuf : Space → Nat
  | .hbm => 36
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S6144, .f32⟩
  | .hbm, ⟨2, _⟩ => ⟨S6144, .f32⟩
  | .hbm, ⟨3, _⟩ => ⟨S4096x12288, .f32⟩
  | .hbm, ⟨4, _⟩ => ⟨S4096x6144, .f32⟩
  | .hbm, ⟨5, _⟩ => ⟨S4096x6144, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x6144, .f32⟩
  | .hbm, ⟨22, _⟩ => ⟨S4096x6144, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x6144, .f32⟩
  | .hbm, ⟨28, _⟩ => ⟨S4096x6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x6144, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== KernelGatesfwd.lean ====
abbrev S4096x2048 : Shape := ⟨2, ![4096, 2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S1x16 : Shape := ⟨2, ![1, 16]⟩
abbrev S1x128 : Shape := ⟨2, ![1, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x128, .f32⟩
  | .hbm, ⟨11, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceGatesfwdIdeal.lean ====
abbrev S4096x2048 : Shape := ⟨2, ![4096, 2048]⟩
abbrev S2048x16 : Shape := ⟨2, ![2048, 16]⟩
abbrev S16 : Shape := ⟨1, ![16]⟩
abbrev S4096x16 : Shape := ⟨2, ![4096, 16]⟩
abbrev S1x16 : Shape := ⟨2, ![1, 16]⟩
abbrev S_ : Shape := ⟨0, ![]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x16, .f32⟩
  | .hbm, ⟨2, _⟩ => ⟨S16, .f32⟩
  | .hbm, ⟨3, _⟩ => ⟨S4096x2048, .f32⟩
  | .hbm, ⟨4, _⟩ => ⟨S4096x16, .f32⟩
  | .hbm, ⟨5, _⟩ => ⟨S1x16, .f32⟩
  | .hbm, ⟨6, _⟩ => ⟨S4096x16, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S_, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .i1⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_call1_v0 : Ref sig .tc := ⟨.hbm, 11, rfl⟩
abbrev main_call1_call0_cst : Ref sig .tc := ⟨.hbm, 12, rfl⟩
abbrev main_call1_call0_v0 : Ref sig .tc := ⟨.hbm, 13, rfl⟩
abbrev main_call1_call0_v1 : Ref sig .tc := ⟨.hbm, 14, rfl⟩
abbrev main_call1_call0_v2 : Ref sig .tc := ⟨.hbm, 15, rfl⟩
abbrev main_call1_call0_v3 : Ref sig .tc := ⟨.hbm, 16, rfl⟩
abbrev main_call1_call0_v4 : Ref sig .tc := ⟨.hbm, 17, rfl⟩
abbrev main_call1_call0_v5 : Ref sig .tc := ⟨.hbm, 18, rfl⟩
abbrev main_call1_call0_v6 : Ref sig .tc := ⟨.hbm, 19, rfl⟩
abbrev main_call1_call0_v7 : Ref sig .tc := ⟨.hbm, 20, rfl⟩
abbrev main_call1_call0_v8 : Ref sig .tc := ⟨.hbm, 21, rfl⟩
abbrev main_call1_call0_v9 : Ref sig .tc := ⟨.hbm, 22, rfl⟩
abbrev main_call1_call0_v10 : Ref sig .tc := ⟨.hbm, 23, rfl⟩
abbrev main_call1_call0_v11 : Ref sig .tc := ⟨.hbm, 24, rfl⟩
abbrev main_call1_v1 : Ref sig .tc := ⟨.hbm, 25, rfl⟩
abbrev main_v6 : Ref sig .tc := ⟨.hbm, 26, rfl⟩

abbrev nD : Nat := 1
abbrev τ : Topo := Topo.v7x

variable {F : FTy → Type} [FloatOps F]
-- ==== KernelGeluup.lean ====
abbrev S4096x2048 : Shape := ⟨2, ![4096, 2048]⟩
abbrev S2048x12288 : Shape := ⟨2, ![2048, 12288]⟩
abbrev S2048x4x3072 : Shape := ⟨3, ![2048, 4, 3072]⟩
abbrev S4x2048x3072 : Shape := ⟨3, ![4, 2048, 3072]⟩
abbrev S4096x12288 : Shape := ⟨2, ![4096, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S2048x4x3072, .bf16⟩
  | .hbm, ⟨3, _⟩ => ⟨S4x2048x3072, .bf16⟩
  | .hbm, ⟨4, _⟩ => ⟨S4096x12288, .bf16⟩
  | .hbm, ⟨5, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelGeluupIdeal.lean ====
variable {F : FTy → Type} [FloatOps F] [Named F]
def κ : String → Option EReal := fun
  | "inv_sqrt_2" => some (((Real.sqrt 2)⁻¹ : ℝ) : EReal)
  | "inv_sqrt_2pi" => some ((9465531 * (16777216 * (Real.sqrt 2))⁻¹ : ℝ) : EReal)
  | _ => none
-- ==== ReferenceGeluupIdeal.lean ====
abbrev S4096x2048 : Shape := ⟨2, ![4096, 2048]⟩
abbrev S2048x12288 : Shape := ⟨2, ![2048, 12288]⟩
abbrev S4096x12288 : Shape := ⟨2, ![4096, 12288]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x2048, .f32⟩
  | .hbm, ⟨3, _⟩ => ⟨S2048x12288, .f32⟩
  | .hbm, ⟨4, _⟩ => ⟨S4096x12288, .f32⟩
  | .hbm, ⟨5, _⟩ => ⟨S4096x12288, .bf16⟩
  | .hbm, ⟨6, _⟩ => ⟨S_, .f32⟩
  | .hbm, ⟨7, _⟩ => ⟨S4096x12288, .f32⟩
  | .hbm, ⟨8, _⟩ => ⟨S4096x12288, .f32⟩
  | .hbm, ⟨9, _⟩ => ⟨S4096x12288, .f32⟩
  | .hbm, ⟨10, _⟩ => ⟨S_, .f32⟩
  | .hbm, ⟨11, _⟩ => ⟨S_, .f32⟩
  | .hbm, ⟨12, _⟩ => ⟨S4096x12288, .f32⟩
  | .hbm, ⟨13, _⟩ => ⟨S4096x12288, .f32⟩
  | .hbm, ⟨14, _⟩ => ⟨S4096x12288, .f32⟩
  | .hbm, ⟨15, _⟩ => ⟨S4096x12288, .f32⟩
  | .hbm, ⟨16, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelUpfwd.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpfwdIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelQfwd.lean ====
abbrev S4096x2048 : Shape := ⟨2, ![4096, 2048]⟩
abbrev S2048x2048 : Shape := ⟨2, ![2048, 2048]⟩
abbrev S128 : Shape := ⟨1, ![128]⟩
abbrev S1x128 : Shape := ⟨2, ![1, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S128, .f32⟩
  | .hbm, ⟨3, _⟩ => ⟨S1x128, .f32⟩
  | .hbm, ⟨4, _⟩ => ⟨S4096x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceQfwdIdeal.lean ====
abbrev S4096x2048 : Shape := ⟨2, ![4096, 2048]⟩
abbrev S2048x2048 : Shape := ⟨2, ![2048, 2048]⟩
abbrev S128 : Shape := ⟨1, ![128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S128, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x16x128, .f32⟩
  | .hbm, ⟨7, _⟩ => ⟨S4096x16x128, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S4096x16x1, .f32⟩
  | .hbm, ⟨18, _⟩ => ⟨S4096x16x128, .f32⟩
  | .hbm, ⟨19, _⟩ => ⟨S4096x16x128, .f32⟩
  | .hbm, ⟨20, _⟩ => ⟨S1x1x128, .f32⟩
  | .hbm, ⟨21, _⟩ => ⟨S4096x16x128, .f32⟩
  | .hbm, ⟨22, _⟩ => ⟨S4096x16x128, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .bf16⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelKfwd.lean ====
abbrev S4096x2048 : Shape := ⟨2, ![4096, 2048]⟩
abbrev S2048x2048 : Shape := ⟨2, ![2048, 2048]⟩
abbrev S128 : Shape := ⟨1, ![128]⟩
abbrev S2048x2x1024 : Shape := ⟨3, ![2048, 2, 1024]⟩
abbrev S2x2048x1024 : Shape := ⟨3, ![2, 2048, 1024]⟩
abbrev S1x128 : Shape := ⟨2, ![1, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S128, .f32⟩
  | .hbm, ⟨3, _⟩ => ⟨S2048x2x1024, .bf16⟩
  | .hbm, ⟨4, _⟩ => ⟨S2x2048x1024, .bf16⟩
  | .hbm, ⟨5, _⟩ => ⟨S1x128, .f32⟩
  | .hbm, ⟨6, _⟩ => ⟨S4096x2048, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceKfwdIdeal.lean ====
abbrev S4096x2048 : Shape := ⟨2, ![4096, 2048]⟩
abbrev S2048x2048 : Shape := ⟨2, ![2048, 2048]⟩
abbrev S128 : Shape := ⟨1, ![128]⟩
abbrev S4096x16x128 : Shape := ⟨3, ![4096, 16, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S128, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | .hbm, ⟨7, _⟩ => ⟨S4096x16x128, .f32⟩
  | .hbm, ⟨8, _⟩ => ⟨S4096x16x128, .f32⟩
  | .hbm, ⟨9, _⟩ => ⟨S_, .f32⟩
  | .hbm, ⟨10, _⟩ => ⟨S4096x16, .f32⟩
  | .hbm, ⟨11, _⟩ => ⟨S4096x16x1, .f32⟩
  | .hbm, ⟨12, _⟩ => ⟨S_, .f32⟩
  | .hbm, ⟨13, _⟩ => ⟨S4096x16x1, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x1, .f32⟩
  | .hbm, ⟨19, _⟩ => ⟨S4096x16x128, .f32⟩
  | .hbm, ⟨20, _⟩ => ⟨S4096x16x128, .f32⟩
  | .hbm, ⟨21, _⟩ => ⟨S1x1x128, .f32⟩
  | .hbm, ⟨22, _⟩ => ⟨S4096x16x128, .f32⟩
  | .hbm, ⟨23, _⟩ => ⟨S4096x16x128, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelDownfwd.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceDownfwdIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelAttnofwd.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceAttnofwdIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelGmlpoutfwd.lean ====
abbrev S4096x6144 : Shape := ⟨2, ![4096, 6144]⟩
abbrev S6144x2048 : Shape := ⟨2, ![6144, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceGmlpoutfwdIdeal.lean ====
abbrev S4096x6144 : Shape := ⟨2, ![4096, 6144]⟩
abbrev S6144x2048 : Shape := ⟨2, ![6144, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S1x2048, .f32⟩
  | .hbm, ⟨4, _⟩ => ⟨S4096x6144, .f32⟩
  | .hbm, ⟨5, _⟩ => ⟨S6144x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelSilufwd.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSilufwdIdeal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== KernelAdafwd.lean ====
abbrev S8x2048 : Shape := ⟨2, ![8, 2048]⟩
abbrev S4x2048x3072 : Shape := ⟨3, ![4, 2048, 3072]⟩
abbrev S4x3072 : Shape := ⟨2, ![4, 3072]⟩
abbrev S1x12288 : Shape := ⟨2, ![1, 12288]⟩
abbrev S8x12288 : Shape := ⟨2, ![8, 12288]⟩
abbrev S1x2048x1024 : Shape := ⟨3, ![1, 2048, 1024]⟩
abbrev S1x1024 : Shape := ⟨2, ![1, 1024]⟩
abbrev S8x1024 : Shape := ⟨2, ![8, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S4x3072, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAdafwdIdeal.lean ====
abbrev S8x2048 : Shape := ⟨2, ![8, 2048]⟩
abbrev S4x2048x3072 : Shape := ⟨3, ![4, 2048, 3072]⟩
abbrev S4x3072 : Shape := ⟨2, ![4, 3072]⟩
abbrev S8x4x3072 : Shape := ⟨3, ![8, 4, 3072]⟩
abbrev S1x4x3072 : Shape := ⟨3, ![1, 4, 3072]⟩
abbrev S8x12288 : Shape := ⟨2, ![8, 12288]⟩

abbrev nBuf : Space → Nat
  | .hbm => 8
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S4x3072, .f32⟩
  | .hbm, ⟨3, _⟩ => ⟨S8x4x3072, .f32⟩
  | .hbm, ⟨4, _⟩ => ⟨S1x4x3072, .f32⟩
  | .hbm, ⟨5, _⟩ => ⟨S8x4x3072, .f32⟩
  | .hbm, ⟨6, _⟩ => ⟨S8x4x3072, .f32⟩
  | .hbm, ⟨7, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFcumfwd.lean ====
abbrev S4096x16 : Shape := ⟨2, ![4096, 16]⟩
abbrev S_ : Shape := ⟨0, ![]⟩
abbrev S4096x128 : Shape := ⟨2, ![4096, 128]⟩
abbrev S4x128x1024 : Shape := ⟨3, ![4, 128, 1024]⟩
abbrev S128x128 : Shape := ⟨2, ![128, 128]⟩
abbrev S1x128 : Shape := ⟨2, ![1, 128]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x16, .f32⟩
  | .hbm, ⟨1, _⟩ => ⟨S_, .i32⟩
  | .hbm, ⟨2, _⟩ => ⟨S_, .f32⟩
  | .hbm, ⟨3, _⟩ => ⟨S4096x128, .f32⟩
  | .hbm, ⟨4, _⟩ => ⟨S4096x128, .f32⟩
  | .hbm, ⟨5, _⟩ => ⟨S4x128x1024, .f32⟩
  | .local _ .vmem, ⟨0, _⟩ => ⟨S4096x128, .f32⟩
  | .local _ .vmem, ⟨1, _⟩ => ⟨S4096x128, .f32⟩
  | .local _ .vmem, ⟨2, _⟩ => ⟨S4x128x1024, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v32 : BitVec 32 := Scalar.muli arg3 c128_i32
  v32
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v32 : BitVec 32 := Scalar.muli arg3 c128_i32
  let v33 : BitVec 32 := v32
  let v34 : Index := Scalar.indexCast v33
  let c0_14 : Index := 0#32
  ![v34.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceFcumfwdIdeal.lean ====
abbrev S4096x16 : Shape := ⟨2, ![4096, 16]⟩
abbrev S_ : Shape := ⟨0, ![]⟩
abbrev S4096x128 : Shape := ⟨2, ![4096, 128]⟩
abbrev S4x1024x128 : Shape := ⟨3, ![4, 1024, 128]⟩
abbrev S4x128x1024 : Shape := ⟨3, ![4, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S_, .f32⟩
  | .hbm, ⟨2, _⟩ => ⟨S_, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S4x1024x128, .f32⟩
  | .hbm, ⟨8, _⟩ => ⟨S4x128x1024, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_c : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== KernelWgrad.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWgradIdeal.lean ====
abbrev S4096x8192 : Shape := ⟨2, ![4096, 8192]⟩
abbrev S4096x2048 : Shape := ⟨2, ![4096, 2048]⟩
abbrev S8192x4096 : Shape := ⟨2, ![8192, 4096]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelAdamw.lean ====
abbrev S2048x1024 : Shape := ⟨2, ![2048, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSumdev.lean ====
abbrev S8x392x1024 : Shape := ⟨3, ![8, 392, 1024]⟩
abbrev S392x1024 : Shape := ⟨2, ![392, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x392x1024, .f32⟩
  | .hbm, ⟨1, _⟩ => ⟨S392x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x392x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumdevIdeal.lean ====
abbrev S8x392x1024 : Shape := ⟨3, ![8, 392, 1024]⟩
abbrev S_ : Shape := ⟨0, ![]⟩
abbrev S392x1024 : Shape := ⟨2, ![392, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x392x1024, .f32⟩
  | .hbm, ⟨1, _⟩ => ⟨S_, .f32⟩
  | .hbm, ⟨2, _⟩ => ⟨S392x1024, .f32⟩
  | _, _ => ⟨S8x392x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelExch.lean ====
abbrev S4x2048x2048 : Shape := ⟨3, ![4, 2048, 2048]⟩
abbrev S4x1024x2048 : Shape := ⟨3, ![4, 1024, 2048]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x1024x2048, .bf16⟩
  | .hbm, ⟨3, _⟩ => ⟨S4x1024x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 2
abbrev τ : Topo := Topo.v7x

variable {F : FTy → Type} [FloatOps F]

abbrev grid0 : Pipeline.Grid := .none

def k0_off1 (d0 : Dev nD) : Fin 3 → Nat :=
  let c0_i32_14 : BitVec 32 := 0#32
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c1024_i32 : BitVec 32 := 1024#32
  let v10 : BitVec 32 := Scalar.muli v9 c1024_i32
  let c0_i32_15 : BitVec 32 := 0#32
  ![0, v10.toNat, 0]
def k0_dev1 (d0 : Dev nD) : Nat :=
  let c0_i32_11 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_10 : BitVec 32 := 2#32
  let v15 : BitVec 32 := Scalar.muli v2 c2_i32_10
  let v16 : BitVec 32 := Scalar.addi c0_i32_11 v15
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_12 : BitVec 32 := 2#32
  let v17 : BitVec 32 := Scalar.muli v5 c2_i32_12
  let v18 : BitVec 32 := Scalar.addi v16 v17
  let c1_i32_5 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v11 : BitVec 32 := Scalar.subi c1_i32_5 v8
  let c1_i32_13 : BitVec 32 := 1#32
  let v19 : BitVec 32 := Scalar.muli v11 c1_i32_13
  let v20 : BitVec 32 := Scalar.addi v18 v19
  v20.toNat
def k0_dev2 (d0 : Dev nD) : Nat :=
  let c0_i32_19 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_18 : BitVec 32 := 2#32
  let v26 : BitVec 32 := Scalar.muli v2 c2_i32_18
  let v27 : BitVec 32 := Scalar.addi c0_i32_19 v26
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_20 : BitVec 32 := 2#32
  let v28 : BitVec 32 := Scalar.muli v5 c2_i32_20
  let v29 : BitVec 32 := Scalar.addi v27 v28
  let c1_i32_8 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v14 : BitVec 32 := Scalar.subi c1_i32_8 v8
  let c1_i32_21 : BitVec 32 := 1#32
  let v30 : BitVec 32 := Scalar.muli v14 c1_i32_21
  let v31 : BitVec 32 := Scalar.addi v29 v30
  v31.toNat
-- ==== ReferenceExchIdeal.lean ====
abbrev S8x2048x2048 : Shape := ⟨3, ![8, 2048, 2048]⟩
abbrev S4x1024x2048 : Shape := ⟨3, ![4, 1024, 2048]⟩
abbrev S8x1024x2048 : Shape := ⟨3, ![8, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S4x1024x2048, .bf16⟩
  | .hbm, ⟨3, _⟩ => ⟨S4x1024x2048, .bf16⟩
  | .hbm, ⟨4, _⟩ => ⟨S8x1024x2048, .bf16⟩
  | .hbm, ⟨5, _⟩ => ⟨S4x1024x2048, .bf16⟩
  | .hbm, ⟨6, _⟩ => ⟨S4x1024x2048, .bf16⟩
  | .hbm, ⟨7, _⟩ => ⟨S8x1024x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.GateBlocks.lean ====
/- What one grid point of the gate's backward call leaves in its two output blocks. -/
module

public import proofs.«01_k».proof.Proof.Gen.KernelGateIdeal.Value
public import Idealize.ShloMosaic.Lib.Pointwise
public import Idealize.ShloMosaic.Lib.Tactic

@[expose] public section

noncomputable section

namespace Cert.KernelGateIdeal.Value

open Gen Idealize.ShloMosaic TcCoe Idealize.SL.Sem
open Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- At any point the block of dy is the gate times the block of dx. -/
theorem dy_block (c : Dev nD) (t : Fin cfg0.N) :
    (outsAt0 m c t.val t.isLt).1 = k0_pay1 (iblk m c 0 t) (iblk m c 2 t) := by
  by_cases h0 : t.val % 8 = 0
  · rw [outsAt0_A m c t h0]
    dsimp only
    unfold out0_A_3
    rw [View.read_writes_eq_canon _ _ _ (fun y => cover0_A_3 (y := y) ..)]
    unfold kernelRun0_A
    dsimp only
    rw [View.canon_unit_zero hz]
    simp only [View.readAt_eq_ld, (hs0_0 t).read_unread, (hs0_2 t).read_unread, View.ld_unit_zero (S := S512x2048) hz, View.ld_unit_zero (S := S1x2048) hz]
  · rw [outsAt0_B m c t h0]
    dsimp only
    unfold out0_B_3
    rw [View.read_writes_eq_canon _ _ _ (fun y => cover0_B_3 (y := y) ..)]
    unfold kernelRun0_B
    dsimp only
    rw [View.canon_unit_zero hz]
    simp only [View.readAt_eq_ld, (hs0_0 t).read_unread, (hs0_2 t).read_unread, View.ld_unit_zero (S := S512x2048) hz, View.ld_unit_zero (S := S1x2048) hz]

/-- The first point leaves its own column sums, over zeros. -/
theorem dgate_first (c : Dev nD) (t : Fin cfg0.N) (h0 : t.val % 8 = 0) :
    (outsAt0 m c t.val t.isLt).2 = k0_pay3 (iblk m c 0 t) (iblk m c 1 t) k0_pay2 := by
  rw [outsAt0_A m c t h0]
  dsimp only
  unfold out0_A_4
  rw [View.read_writes_eq_canon _ _ _ (fun y => cover0_A_4 (y := y) ..)]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, View.ld_unit_zero (S := S512x2048) hz]

/-- A later point adds its column sums to what the point before left. -/
theorem dgate_next (c : Dev nD) (t : Fin cfg0.N) (h0 : ¬t.val % 8 = 0) :
    (outsAt0 m c t.val t.isLt).2 = k0_pay3 (iblk m c 0 t) (iblk m c 1 t)
      (outsAt0 m c (t.val - 1) (Nat.lt_of_le_of_lt (Nat.sub_le _ _) t.isLt)).2 := by
  rw [outsAt0_B m c t h0]
  dsimp only
  unfold out0_B_4
  rw [View.read_writes_eq_canon _ _ _ (fun y => cover0_B_4 (y := y) ..)]
  unfold kernelRun0_B
  dsimp only
  rw [View.canon_unit_zero hz]
  simp only [View.readAt_eq_ld, (hs0_0 t).read_unread, (hs0_1 t).read_unread, (hs0_4 t).read_unread, View.ld_unit_zero (S := S512x2048) hz, View.ld_unit_zero (S := S1x2048) hz]

end Cert.KernelGateIdeal.Value

end
-- ==== Proof.RowSums.lean ====
/- Rows of an array cut into blocks of equal height: naming a row by its block and its place in it, and summing over rows block by block. -/
module

public import Idealize.ShloMosaic.Lib.Pointwise
public import Idealize.ShloMosaic.Lib.Tactic

@[expose] public section

noncomputable section

namespace Cert

open Idealize.ShloMosaic in
/-- An index of two axes is a pair. -/
theorem exists_ix2 {a b : ℕ} (j : (⟨2, ![a, b]⟩ : Shape).Idx) : ∃ (i : Fin a) (l : Fin b), j = ix2 i l := ⟨_, _, eq_ix2 j⟩

open Idealize.ShloMosaic in
/-- … and it is one by its two coordinates. -/
theorem ix2_ext {a b : ℕ} {j : (⟨2, ![a, b]⟩ : Shape).Idx} {i : Fin a} {l : Fin b} (h0 : (j 0).val = i.val) (h1 : (j 1).val = l.val) : j = ix2 i l :=
  funext fun | ⟨0, _⟩ => Fin.ext h0 | ⟨1, _⟩ => Fin.ext h1

/-- The coordinate of an entry of a block: of the block numbered t, and of the only block. -/
theorem in_block {w t k r : ℕ} (h : w = t) : w * k + 1 * r = t * k + r := by rw [h, Nat.one_mul]
theorem in_only {w k r : ℕ} (h : w = 0) : w * k + 1 * r = r := by rw [h, Nat.zero_mul, Nat.one_mul, Nat.zero_add]

theorem hz : (![0, 0] : Fin 2 → Nat) = fun _ => 0 := funext fun a => by fin_cases a <;> rfl
theorem hz3 : (![0, 0, 0] : Fin 3 → Nat) = fun _ => 0 := funext fun a => by fin_cases a <;> rfl

/-- Row r of block t, of n blocks of k rows. -/
def rowOf (n k : ℕ) {N : ℕ} (t : Fin n) (r : Fin k) (h : n * k = N := by rfl) : Fin N :=
  ⟨t.val * k + r.val, by
    have h1 : (t.val + 1) * k ≤ n * k := Nat.mul_le_mul_right k t.isLt
    have h2 := r.isLt
    rw [Nat.add_mul] at h1
    omega⟩

/-- Every row is one of these. -/
theorem exists_rowOf {n k N : ℕ} (i : Fin N) (h : n * k = N := by rfl) : ∃ (t : Fin n) (r : Fin k), i = rowOf n k t r h := by
  have hi := i.isLt
  have hk : 0 < k := Nat.pos_of_ne_zero fun h0 => by subst h0; omega
  exact ⟨⟨i.val / k, Nat.div_lt_of_lt_mul (by rw [Nat.mul_comm]; omega)⟩, ⟨i.val % k, Nat.mod_lt _ hk⟩,
    Fin.ext (show i.val = i.val / k * k + i.val % k by rw [Nat.mul_comm]; exact (Nat.div_add_mod _ _).symm)⟩

/-- A sum over all rows, block by block. -/
theorem sum_rowOf {M : Type*} [AddCommMonoid M] {n k N : ℕ} (f : Fin N → M) (h : n * k = N := by rfl) :
    ∑ i, f i = ∑ t : Fin n, ∑ r : Fin k, f (rowOf n k t r h) := by
  subst h
  rw [← Fintype.sum_prod_type' (f := fun (t : Fin n) (r : Fin k) => f (rowOf n k t r))]
  refine (Fintype.sum_equiv finProdFinEquiv _ _ fun p => ?_).symm
  congr 1
  apply Fin.ext
  show p.1.val * k + p.2.val = p.2.val + k * p.1.val
  rw [Nat.mul_comm, Nat.add_comm]

/-- What starts at the first block's term and adds each later block's holds, after block j, the terms up to block j. -/
theorem sum_of_steps {M : Type*} [AddCommMonoid M] {n : ℕ} (a : (j : ℕ) → j < n → M) (f : Fin n → M)
    (h0 : ∀ h, a 0 h = f ⟨0, h⟩)
    (hs : ∀ j (h : j + 1 < n), a (j + 1) h = a j (Nat.lt_of_succ_lt h) + f ⟨j + 1, h⟩) :
    ∀ j (h : j < n), a j h = ∑ t : Fin (j + 1), f ⟨t.val, Nat.lt_of_le_of_lt (Nat.le_of_lt_succ t.isLt) h⟩
  | 0, h => by rw [h0, Fin.sum_univ_one]; rfl
  | j + 1, h => by
    rw [hs, sum_of_steps a f h0 hs j, Fin.sum_univ_castSucc (n := j + 1)]
    rfl

/-- … and after the last block all of them. -/
theorem sum_of_steps_last {M : Type*} [AddCommMonoid M] {n : ℕ} (a : (j : ℕ) → j < n + 1 → M) (f : Fin (n + 1) → M)
    (h0 : ∀ h, a 0 h = f ⟨0, h⟩)
    (hs : ∀ j (h : j + 1 < n + 1), a (j + 1) h = a j (Nat.lt_of_succ_lt h) + f ⟨j + 1, h⟩) :
    a n (Nat.lt_succ_self n) = ∑ t, f t :=
  sum_of_steps a f h0 hs n (Nat.lt_succ_self n)

end Cert

end
-- ==== Proof.GateArrays.lean ====
/- The two result arrays of the gate's backward call, entry by entry, in terms of its arguments. -/
module

public import proofs.«01_k».proof.Proof.GateBlocks
public import proofs.«01_k».proof.Proof.RowSums

@[expose] public section

noncomputable section

namespace Cert.KernelGateIdeal.Value

open Gen Idealize.ShloMosaic TcCoe Idealize.SL.Sem
open Pipeline (Dat)

variable (m : (ℓ : Loc nD τ sig) → Buf (Elt Ideal) ℓ)

/-- The arguments, entry by entry: dx, y and the gate. -/
abbrev dxv (c : Dev nD) (i : Fin 4096) (l : Fin 2048) : EReal := m (c.tc.loc main_arg0) (ix2 i l)
abbrev yv (c : Dev nD) (i : Fin 4096) (l : Fin 2048) : EReal := m (c.tc.loc main_arg1) (ix2 i l)
abbrev gatev (c : Dev nD) (l : Fin 2048) : EReal := m (c.tc.loc main_arg2) (ix2 0 l)

theorem index_eq : ∀ t : Fin cfg0.N,  win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = 0 ∧ win0_4.index t 1 = 0 := by decide +kernel

theorem lt_N (t : Fin cfg0.N) : t.val < 8 := by have := t.isLt; have : cfg0.N = 8 := N_0; omega

theorem dx_at (c : Dev nD) (t : Fin cfg0.N) (r : Fin 512) (l : Fin 2048) :
    iblk m c 0 t (ix2 r l) = m (c.tc.loc main_arg0) (ix2 (rowOf 8 512 ⟨t.val, lt_N t⟩ r) l) := by
  unfold iblk
  rw [View.read_apply]
  show m (c.tc.loc main_arg0) _ = _
  congr 1
  obtain ⟨h0, h1, -⟩ := index_eq t
  exact ix2_ext (in_block h0) (in_only h1)

theorem y_at (c : Dev nD) (t : Fin cfg0.N) (r : Fin 512) (l : Fin 2048) :
    iblk m c 1 t (ix2 r l) = m (c.tc.loc main_arg1) (ix2 (rowOf 8 512 ⟨t.val, lt_N t⟩ r) l) := by
  unfold iblk
  rw [View.read_apply]
  show m (c.tc.loc main_arg1) _ = _
  congr 1
  obtain ⟨-, -, h0, h1, -⟩ := index_eq t
  exact ix2_ext (in_block h0) (in_only h1)

theorem gate_at (c : Dev nD) (t : Fin cfg0.N) (r : Fin 1) (l : Fin 2048) :
    iblk m c 2 t (ix2 r l) = m (c.tc.loc main_arg2) (ix2 r l) := by
  unfold iblk
  rw [View.read_apply]
  show m (c.tc.loc main_arg2) _ = _
  congr 1
  obtain ⟨-, -, -, -, h0, h1, -⟩ := index_eq t
  exact ix2_ext (in_only h0) (in_only h1)

/-- dy at row i, lane l is the gate of lane l times dx there. -/
theorem dy_at (c : Dev nD) (i : Fin 4096) (l : Fin 2048) :
    (dats m 0 c).arrAt 3 cfg0.N (ix2 i l) = gatev m c l * dxv m c i l := by
  obtain ⟨t, r, rfl⟩ := exists_rowOf (n := 8) (k := 512) i
  have hN : cfg0.N = 8 := N_0
  let t' : Fin cfg0.N := ⟨t.val, by have := t.isLt; omega⟩
  have h := (dats m 0 c).arrAt_emb_eq_flushed 3 disjoint3 t' (flush0_3 t') (ix2 r l)
  have he : ((cfg0.win 3).blk t').view.emb (ix2 r l) = ix2 (rowOf 8 512 t r) l := by
    obtain ⟨-, -, -, -, -, -, h0, h1, -⟩ := index_eq t'
    exact ix2_ext (in_block h0) (in_only h1)
  rw [he, flushed3, dy_block] at h
  refine h.trans ?_
  show k0_pay1 (iblk m c 0 t') (iblk m c 2 t') (ix2 r l) = _
  unfold k0_pay1
  pointwise
  rw [dx_at, gate_at]

/-- The column sums the point t adds. -/
theorem colsum_at (c : Dev nD) (t : Fin cfg0.N) (old : FVec Ideal S1x2048 .f32) (l : Fin 2048) :
    k0_pay3 (iblk m c 0 t) (iblk m c 1 t) old (ix2 0 l) = (show EReal from old (ix2 0 l)) + ∑ r : Fin 512,
      dxv m c (rowOf 8 512 ⟨t.val, lt_N t⟩ r) l * yv m c (rowOf 8 512 ⟨t.val, lt_N t⟩ r) l := by
  unfold k0_pay3
  pointwise
  simp only [dx_at, y_at]
  rfl

/-- dgate of lane l is the sum over all rows of dx times y. -/
theorem dgate_at (c : Dev nD) (l : Fin 2048) :
    (dats m 0 c).arrAt 4 cfg0.N (ix2 0 l) = ∑ i : Fin 4096,
      dxv m c i l * yv m c i l := by
  have hN : cfg0.N = 8 := N_0
  have h := (dats m 0 c).arrAt_emb_eq_flushed 4 (fun t t' ht ht' hne => absurd (Fin.ext (by
    have := (flush0_4 t).mp ht; have := (flush0_4 t').mp ht'; have := lt_N t; have := lt_N t'; omega)) hne) t0_7 ((flush0_4 t0_7).mpr rfl) (ix2 0 l)
  have he : ((cfg0.win 4).blk t0_7).view.emb (ix2 0 l) = ix2 (0 : Fin 1) l := by
    obtain ⟨-, -, -, -, -, -, -, -, h0, h1⟩ := index_eq t0_7
    exact ix2_ext (in_only h0) (in_only h1)
  rw [he, flushed4] at h
  refine h.trans ?_
  show (outsAt0 m c t0_7.val t0_7.isLt).2 (ix2 0 l) = _
  rw [sum_rowOf (n := 8) (k := 512)]
  rw [show t0_7 = (⟨7, by omega⟩ : Fin cfg0.N) from rfl]
  refine sum_of_steps_last (n := 7) (fun j hj => ((outsAt0 m c j (by omega)).2 (ix2 0 l) : EReal))
    (fun t => ∑ r : Fin 512, dxv m c (rowOf 8 512 t r) l * yv m c (rowOf 8 512 t r) l) (fun h0 => ?_) (fun j hj => ?_)
  · have e := congrFun (dgate_first m c (⟨0, by omega⟩ : Fin cfg0.N) rfl) (ix2 0 l)
    rw [colsum_at] at e
    refine e.trans ?_
    unfold k0_pay2
    pointwise
  · have e := congrFun (dgate_next m c (⟨j + 1, by omega⟩ : Fin cfg0.N) (by dsimp only; omega)) (ix2 0 l)
    rw [colsum_at] at e
    exact e

end Cert.KernelGateIdeal.Value

end
-- ==== Proof.GateClaims.lean ====
/- The gate's backward call against the vector-Jacobian product of gate · y: the five claims. -/
module

public import proofs.«01_k».proof.Defs
public import proofs.«01_k».proof.Proof.Gen.KernelGate.Frame
public import proofs.«01_k».proof.Proof.Gen.ReferenceGateIdeal.Run
public import proofs.«01_k».proof.Proof.GateArrays

@[expose] public section

noncomputable section

namespace Cert.Proof.Gate

open Idealize.ShloMosaic TcCoe Idealize.SL.Sem KernelGateIdeal.Value

theorem frame : quiescent_KernelGate := fun m ρ _ => KernelGate.Gen.frame m ρ
theorem frame_ideal : quiescent_KernelGateIdeal := fun m ρ _ => KernelGateIdeal.Gen.frame m ρ
theorem frame_reference : quiescent_ReferenceGateIdeal := fun m ρ _ =>
  (θ_run _ _ _).mono (fun r h => ⟨fun c => (h c).2.2, sem_eq_zero_of_no_sems (by decide) r.2⟩) (ReferenceGateIdeal.Value.run m ρ)

theorem preserves : preserves_KernelGate_KernelGateIdeal := trivial

/-- Both programs leave dy = gate · dx and dgate = the column sums of dx · y. -/
theorem algebraic : algebraic_KernelGateIdeal_ReferenceGateIdeal := by
  intro m ρ m' ρ' _ hm
  refine ⟨fun c => (KernelGateIdeal.Gen.dats m 0 c).arrAt 3 KernelGateIdeal.cfg0.N,
    fun c => (KernelGateIdeal.Gen.dats m 0 c).arrAt 4 KernelGateIdeal.cfg0.N, run_blocks m ρ, ?_⟩
  refine (θ_run _ _ _).mono (fun r h c => ?_) (ReferenceGateIdeal.Value.run m' ρ')
  obtain ⟨h8, h7, hargs⟩ := h c
  obtain ⟨e0, e1, e2⟩ := hm c
  refine ⟨h8.trans ?_, h7.trans ?_, hargs⟩
  · rw [e0, e2]
    funext j
    obtain ⟨i, l, rfl⟩ := exists_ix2 j
    refine Eq.trans ?_ (dy_at m c i l).symm
    pointwise
  · rw [e0, e1]
    funext j
    obtain ⟨i, l, rfl⟩ := exists_ix2 j
    obtain rfl : i = 0 := Subsingleton.elim _ _
    refine Eq.trans ?_ (dgate_at m c l).symm
    pointwise

end Cert.Proof.Gate

end
-- ==== Proof.FoxMath.lean ====
/- The forgetting attention of one head over the real numbers, and the sums over blocks of columns that a kernel takes. -/
module

public import Idealize.ShloMosaic.Lib.Pointwise
public import Mathlib.Analysis.SpecialFunctions.Log.Basic

@[expose] public section

noncomputable section

namespace Cert.Fox

open Idealize.ShloMosaic

/-- Entry `n` of block `j` among 4096 positions in blocks of 1024. -/
def pos (j : ℕ) (n : Fin 1024) : Fin 4096 := ⟨(1024 * j + n.val) % 4096, Nat.mod_lt _ (by decide)⟩

theorem pos_val {j : ℕ} (hj : j < 4) (n : Fin 1024) : (pos j n).val = 1024 * j + n.val := by
  have := n.isLt
  exact Nat.mod_eq_of_lt (by omega)

theorem exists_pos (c : Fin 4096) : ∃ j < 4, ∃ n, c = pos j n := by
  have := c.isLt
  refine ⟨c.val / 1024, by omega, ⟨c.val % 1024, by omega⟩, Fin.ext ?_⟩
  rw [pos_val (by omega)]
  show c.val = 1024 * (c.val / 1024) + c.val % 1024
  omega

/-- A sum over the 4096 positions is the sum over the four blocks. -/
theorem sum_pos {M : Type*} [AddCommMonoid M] (g : Fin 4096 → M) :
    ∑ c, g c = ∑ j ∈ Finset.range 4, ∑ n, g (pos j n) := by
  rw [← Finset.sum_product']
  symm
  refine Finset.sum_bij (fun p _ => pos p.1 p.2) (fun _ _ => Finset.mem_univ _) ?_ ?_ (fun _ _ => rfl)
  · rintro ⟨j, n⟩ h ⟨j', n'⟩ h' e
    simp only [Finset.mem_product, Finset.mem_range, Finset.mem_univ, and_true] at h h'
    have e := congrArg Fin.val e
    simp only at e
    rw [pos_val h, pos_val h'] at e
    have := n.isLt
    have := n'.isLt
    have : j = j' := by omega
    subst this
    have : n = n' := Fin.ext (by omega)
    subst this
    rfl
  · intro c _
    obtain ⟨j, hj, n, rfl⟩ := exists_pos c
    exact ⟨(j, n), by simpa using hj, rfl⟩

/-- When nothing lies past block `i`, the sum is over the blocks before `i` and block `i`. -/
theorem sum_upto {M : Type*} [AddCommMonoid M] (g : Fin 4096 → M) {i : ℕ} (hi : i < 4)
    (h0 : ∀ j < 4, i < j → ∀ n, g (pos j n) = 0) :
    ∑ c, g c = (∑ j ∈ Finset.range i, ∑ n, g (pos j n)) + ∑ n, g (pos i n) := by
  rw [sum_pos, ← Finset.sum_range_succ]
  symm
  refine Finset.sum_subset (fun j hj => ?_) (fun j hj hj' => ?_)
  · simp only [Finset.mem_range] at hj ⊢; omega
  · simp only [Finset.mem_range, not_lt] at hj hj'
    exact Finset.sum_eq_zero fun n _ => h0 j hj (by omega) n

/-- When nothing lies before block `i`, the sum is over block `i` and the `3 - i` blocks after it. -/
theorem sum_from {M : Type*} [AddCommMonoid M] (g : Fin 4096 → M) {i : ℕ} (hi : i < 4)
    (h0 : ∀ j < i, ∀ n, g (pos j n) = 0) :
    ∑ c, g c = (∑ n, g (pos i n)) + ∑ j ∈ Finset.range (3 - i), ∑ n, g (pos (i + 1 + j) n) := by
  rw [sum_pos, show 4 = i + (1 + (3 - i)) by omega, Finset.sum_range_add, Finset.sum_range_add]
  rw [Finset.sum_eq_zero fun j hj => Finset.sum_eq_zero fun n _ => h0 j (Finset.mem_range.1 hj) n, zero_add]
  simp [add_assoc]

section Head

variable (q k v g : Fin 4096 → Fin 128 → ℝ) (f : Fin 4096 → ℝ)

/-- The score of key `c` for query `r`, up to a term of the row: the queries come scaled. -/
def score (r c : Fin 4096) : ℝ := (∑ d, q r d * k c d) - f c

/-- The sum of the exponentials over the keys a query sees. -/
def Z (r : Fin 4096) : ℝ := ∑ c : Fin 4096, if c ≤ r then Real.exp (score q k f r c) else 0

/-- The logarithm of that sum. -/
def lse (r : Fin 4096) : ℝ := Real.log (Z q k f r)

/-- The softmax weight. -/
def P (r c : Fin 4096) : ℝ := if c ≤ r then Real.exp (score q k f r c - lse q k f r) else 0

/-- The derivative towards a weight. -/
def DP (r c : Fin 4096) : ℝ := ∑ d, g r d * v c d

/-- The row's term. -/
def D (r : Fin 4096) : ℝ := ∑ c, P q k f r c * DP v g r c

/-- The derivative towards a score. -/
def DS (r c : Fin 4096) : ℝ := P q k f r c * (DP v g r c - D q k v g f r)

theorem Z_pos (r : Fin 4096) : 0 < Z q k f r := by
  refine Finset.sum_pos' (fun c _ => ?_) ⟨r, Finset.mem_univ _, ?_⟩
  · split_ifs
    · exact (Real.exp_pos _).le
    · exact le_rfl
  · rw [if_pos le_rfl]; exact Real.exp_pos _

theorem P_eq (r c : Fin 4096) :
    P q k f r c = if c ≤ r then Real.exp (score q k f r c) / Z q k f r else 0 := by
  unfold P lse
  rw [Real.exp_sub, Real.exp_log (Z_pos q k f r)]

theorem sum_P (r : Fin 4096) : ∑ c, P q k f r c = 1 := by
  have h : ∀ c, P q k f r c = (if c ≤ r then Real.exp (score q k f r c) else 0) / Z q k f r := fun c => by
    rw [P_eq]; split_ifs
    · rfl
    · rw [zero_div]
  rw [Finset.sum_congr rfl fun c _ => h c, ← Finset.sum_div]
  exact div_self (Z_pos q k f r).ne'

theorem P_of_lt {r c : Fin 4096} (h : r < c) : P q k f r c = 0 := if_neg (not_le.2 h)

theorem P_of_le {r c : Fin 4096} (h : c ≤ r) : P q k f r c = Real.exp (score q k f r c - lse q k f r) := if_pos h

theorem sum_DS (r : Fin 4096) : ∑ c, DS q k v g f r c = 0 := by
  unfold DS
  rw [Finset.sum_congr rfl fun c _ => mul_sub _ _ _, Finset.sum_sub_distrib, ← Finset.sum_mul, sum_P, one_mul]
  exact sub_self _

end Head

section Blocks

variable (q k v g : Fin 4096 → Fin 128 → ℝ) (f : Fin 4096 → ℝ)

/-- A block of keys before the query's own is seen whole. -/
theorem P_before {i j : ℕ} (hi : i < 4) (hj : j < i) (r n : Fin 1024) :
    P q k f (pos i r) (pos j n) = Real.exp (score q k f (pos i r) (pos j n) - lse q k f (pos i r)) := by
  refine P_of_le q k f ?_
  have := n.isLt
  rw [Fin.le_def, pos_val (by omega), pos_val hi]; omega

/-- Of the query's own block the keys up to the query are seen. -/
theorem P_diag {i : ℕ} (hi : i < 4) (r n : Fin 1024) :
    P q k f (pos i r) (pos i n)
      = if n ≤ r then Real.exp (score q k f (pos i r) (pos i n) - lse q k f (pos i r)) else 0 := by
  unfold P
  simp only [Fin.le_def, pos_val hi, add_le_add_iff_left]

/-- Of a block after the query's own nothing is seen. -/
theorem P_after {i j : ℕ} (hj : j < 4) (hi : i < j) (r n : Fin 1024) : P q k f (pos i r) (pos j n) = 0 := by
  refine P_of_lt q k f ?_
  have := r.isLt
  rw [Fin.lt_def, pos_val (by omega), pos_val hj]; omega

theorem DS_after {i j : ℕ} (hj : j < 4) (hi : i < j) (r n : Fin 1024) : DS q k v g f (pos i r) (pos j n) = 0 := by
  unfold DS
  rw [P_after q k f hj hi, zero_mul]

end Blocks

/-! ## The running sum of exponentials -/

/-- What a row's running maximum `m` and running sum `l` hold after `k` blocks: before the first block nothing; after it
    the sum of the exponentials less some real number, which `m` is. -/
def Running (s : ℕ → Fin 1024 → ℝ) (k : ℕ) (m l : EReal) : Prop :=
  (k = 0 ∧ m = ⊥ ∧ l = 0) ∨
    ∃ M : ℝ, m = M ∧ l = ((∑ j ∈ Finset.range k, ∑ n, Real.exp (s j n - M) : ℝ) : EReal)

/-- A sum of real numbers, read among the extended reals. -/
theorem coe_sum {ι : Type*} (t : Finset ι) (g : ι → ℝ) : ((∑ i ∈ t, g i : ℝ) : EReal) = ∑ i ∈ t, (g i : EReal) :=
  map_sum (⟨⟨Real.toEReal, rfl⟩, fun _ _ => rfl⟩ : ℝ →+ EReal) g t

/-- Moving the subtracted number from `m` to `M'` multiplies the running sum by one exponential. -/
theorem Running.rescale {s : ℕ → Fin 1024 → ℝ} {k : ℕ} {m l : EReal} (h : Running s k m l) (M' : ℝ) :
    Ideal.exp (m - (M' : EReal)) * l = ((∑ j ∈ Finset.range k, ∑ n, Real.exp (s j n - M') : ℝ) : EReal) := by
  rcases h with ⟨rfl, rfl, rfl⟩ | ⟨M, rfl, rfl⟩
  · simp
  · rw [← EReal.coe_sub, Ideal.exp_coe, ← EReal.coe_mul]
    congr 1
    rw [Finset.mul_sum]
    refine Finset.sum_congr rfl fun j _ => ?_
    rw [Finset.mul_sum]
    refine Finset.sum_congr rfl fun n _ => ?_
    rw [← Real.exp_add]; congr 1; ring

/-- One block more. -/
theorem Running.step {s : ℕ → Fin 1024 → ℝ} {k : ℕ} {m l : EReal} (h : Running s k m l) {m' : EReal} {M' : ℝ}
    (hm : m' = M') :
    Running s (k + 1) m' (Ideal.exp (m - m') * l + ∑ n, Ideal.exp ((s k n : EReal) - m')) := by
  subst hm
  refine Or.inr ⟨M', rfl, ?_⟩
  rw [h.rescale, Finset.sum_range_succ, EReal.coe_add, coe_sum Finset.univ]
  rfl

/-- The larger of a running maximum and the entries of a block, some of which are real, is real. -/
theorem exists_max {s : ℕ → Fin 1024 → ℝ} {k : ℕ} {m l : EReal} (h : Running s k m l) (x : Fin 1024 → EReal)
    (hx : ∀ n, x n ≠ ⊤) (n₀ : Fin 1024) (h₀ : x n₀ ≠ ⊥) :
    ∃ M' : ℝ, max m (Finset.fold max ⊥ x Finset.univ) = M' := by
  have hm : m ≠ ⊤ := by
    rcases h with ⟨-, rfl, -⟩ | ⟨M, rfl, -⟩
    · exact bot_ne_top
    · exact EReal.coe_ne_top _
  have hf : Finset.fold max ⊥ x Finset.univ < ⊤ :=
    (Finset.fold_max_lt _).2 ⟨bot_lt_top, fun n _ => lt_top_iff_ne_top.2 (hx n)⟩
  have hb : ⊥ < Finset.fold max ⊥ x Finset.univ :=
    (Finset.lt_fold_max _).2 (Or.inr ⟨n₀, Finset.mem_univ _, bot_lt_iff_ne_bot.2 h₀⟩)
  refine ⟨(max m (Finset.fold max ⊥ x Finset.univ)).toReal, (EReal.coe_toReal ?_ ?_).symm⟩
  · exact (max_lt (lt_top_iff_ne_top.2 hm) hf).ne
  · exact (lt_max_of_lt_right hb).ne'

/-- The last block, of which a row sees some entries (the others at `⊥`): what is left is the logarithm of the sum of the
    exponentials of everything the row sees. -/
theorem Running.log {s : ℕ → Fin 1024 → ℝ} {k : ℕ} {m l : EReal} (h : Running s k m l) (p : Fin 1024 → Prop)
    [DecidablePred p] (n₀ : Fin 1024) (h₀ : p n₀) (x : Fin 1024 → EReal)
    (hx : ∀ n, x n = if p n then (s k n : EReal) else ⊥) {m' : EReal} (hm : m' = max m (Finset.fold max ⊥ x Finset.univ)) :
    m' + Ideal.log (Ideal.exp (m - m') * l + ∑ n, Ideal.exp (x n - m'))
      = ((Real.log ((∑ j ∈ Finset.range k, ∑ n, Real.exp (s j n))
          + ∑ n, if p n then Real.exp (s k n) else 0) : ℝ) : EReal) := by
  obtain ⟨M, hM⟩ := exists_max h x (fun n => by rw [hx]; split_ifs <;> simp) n₀ (by rw [hx, if_pos h₀]; simp)
  rw [hm, hM, h.rescale]
  have e : ∀ n, Ideal.exp (x n - (M : EReal)) = (((if p n then Real.exp (s k n) else 0) * Real.exp (-M) : ℝ) : EReal) := by
    intro n
    rw [hx]
    split_ifs
    · rw [← EReal.coe_sub, Ideal.exp_coe, ← Real.exp_add]; rfl
    · simp
  rw [Finset.sum_congr rfl fun n _ => e n, ← coe_sum, ← EReal.coe_add]
  have e' : (∑ j ∈ Finset.range k, ∑ n, Real.exp (s j n - M))
      = (∑ j ∈ Finset.range k, ∑ n, Real.exp (s j n)) * Real.exp (-M) := by
    rw [Finset.sum_mul]
    refine Finset.sum_congr rfl fun j _ => ?_
    rw [Finset.sum_mul]
    exact Finset.sum_congr rfl fun n _ => by rw [← Real.exp_add]; rfl
  rw [e', ← Finset.sum_mul, ← add_mul]
  set T := (∑ j ∈ Finset.range k, ∑ n, Real.exp (s j n)) + ∑ n, if p n then Real.exp (s k n) else 0 with hT
  have hpos : 0 < T := by
    refine add_pos_of_nonneg_of_pos (Finset.sum_nonneg fun j _ => Finset.sum_nonneg fun n _ => (Real.exp_pos _).le) ?_
    refine Finset.sum_pos' (fun n _ => ?_) ⟨n₀, Finset.mem_univ _, ?_⟩
    · split_ifs
      · exact (Real.exp_pos _).le
      · exact le_rfl
    · rw [if_pos h₀]; exact Real.exp_pos _
  rw [Ideal.log_coe, if_neg (not_le.2 (mul_pos hpos (Real.exp_pos _))), ← EReal.coe_add,
    Real.log_mul hpos.ne' (Real.exp_pos _).ne', Real.log_exp]
  congr 1; ring

/-- The sum of the exponentials a row of block `i` sees, taken block by block. -/
theorem Z_blocks (q k : Fin 4096 → Fin 128 → ℝ) (f : Fin 4096 → ℝ) {i : ℕ} (hi : i < 4) (r : Fin 1024) :
    Z q k f (pos i r) = (∑ j ∈ Finset.range i, ∑ n, Real.exp (score q k f (pos i r) (pos j n)))
      + ∑ n : Fin 1024, if n ≤ r then Real.exp (score q k f (pos i r) (pos i n)) else 0 := by
  have hr := r.isLt
  unfold Z
  rw [sum_upto _ hi]
  · congr 1
    · refine Finset.sum_congr rfl fun j hj => Finset.sum_congr rfl fun n _ => if_pos ?_
      have hj := Finset.mem_range.1 hj
      have := n.isLt
      rw [Fin.le_def, pos_val (by omega), pos_val hi]; omega
    · refine Finset.sum_congr rfl fun n _ => ?_
      simp only [Fin.le_def, pos_val hi, add_le_add_iff_left]
  · intro j hj hij n
    refine if_neg ?_
    rw [Fin.le_def, pos_val hj, pos_val hi]; omega

end Cert.Fox
-- ==== Proof.FoxForward.lean ====
/- The forgetting attention's forward region: what one grid point leaves as its rows' logarithms of sums. -/
module

public import proofs.«01_k».proof.Proof.Gen.KernelFoxIdeal.Frame
public import proofs.«01_k».proof.Proof.FoxMath
public import Idealize.ShloMosaic.Lib.Pointwise
public import Idealize.ShloMosaic.Lib.Tactic
public import Idealize.ShloMosaic.Lib.WordCmp

@[expose] public section

set_option maxRecDepth 16384

noncomputable section

namespace Cert.KernelFoxIdeal.Value

open Gen Idealize.ShloMosaic TcCoe Idealize.SL.Sem
open Cert.Fox

/-! ## Loads of a block at a run-time place -/

/-- Block `j` of 1024 rows out of 4096. -/
theorem ld_rows (x : Vec Ideal S4096x128 .bf16) {off : Fin 2 → ℕ} (h : ∀ a, off a + ![1024, 128] a ≤ S4096x128.size a)
    {j : ℕ} (hj : j < 4) (ho : off = ![1024 * j, 0]) (n : Fin 1024) (d : Fin 128) :
    View.ld x (Rect.unit (s := S4096x128) off ![1024, 128] h) (ix2 n d) = x (ix2 (pos j n) d) := by
  subst ho
  show x _ = x _
  congr 1
  funext a
  apply Fin.ext
  match a with
  | ⟨0, _⟩ => show 1024 * j + 1 * n.val = (pos j n).val; rw [pos_val hj]; omega
  | ⟨1, _⟩ => show 0 + 1 * d.val = d.val; omega

/-- Row `z` of block `j` of the cumulated gates. -/
theorem ld_gates (x : Vec Ideal S4x8x1024 .f32) {off : Fin 3 → ℕ} (h : ∀ a, off a + ![1, 1, 1024] a ≤ S4x8x1024.size a)
    {j z : ℕ} (hj : j < 4) (hz : z < 8) (ho : off = ![j, z, 0]) (n : Fin 1024) :
    View.ld x (Rect.unit (s := S4x8x1024) off ![1, 1, 1024] h) (ix3 0 0 n) = x (ix3 ⟨j, hj⟩ ⟨z, hz⟩ n) := by
  subst ho
  show x _ = x _
  congr 1
  funext a
  apply Fin.ext
  match a with
  | ⟨0, _⟩ => show j + 1 * 0 = j; omega
  | ⟨1, _⟩ => show z + 1 * 0 = z; omega
  | ⟨2, _⟩ => show 0 + 1 * n.val = n.val; omega

/-- The test `key ≤ query` of the diagonal block, on the words of the two positions. -/
theorem causal (c r : Fin 1024) (a b : EReal) :
    Scalar.select (α := EReal) (IntOp.cmpi CmpIPredicate.sle (BitVec.ofNat 32 ↑c) (BitVec.ofNat 32 ↑r)) a b
      = if c ≤ r then a else b := by
  have hc := c.isLt
  have hr := r.isLt
  rw [WordCmp.cmpi_sle_ofNat (by omega) (by omega), WordCmp.select_ofBool]
  simp only [decide_eq_true_eq, Fin.le_def]

theorem mask_bot : (Named.named κ "mask" 0xF149F2CA#32 : Ideal .f32) = (⊥ : EReal) := rfl

theorem ofBits_bot : Ideal.ofBits .f32 0xFF800000#32 = (⊥ : EReal) := by simp [Ideal.ofBits, Ideal.ieee]

/-! ## The steps -/

section Steps

variable {q k : Fin 4096 → Fin 128 → ℝ} {f : Fin 4096 → ℝ} {i j : ℕ}
variable {v0 v73 : Vec Ideal S1024x128 .bf16} {v81 : Vec Ideal S1x1x1024 .f32}

/-- The scores of one block. -/
theorem scores_at (h0 : ∀ r d, v0 (ix2 r d) = (q (pos i r) d : EReal)) (h1 : ∀ n d, v73 (ix2 n d) = (k (pos j n) d : EReal))
    (h2 : ∀ n, v81 (ix3 0 0 n) = (f (pos j n) : EReal)) (r n : Fin 1024) :
    (∑ x, v0 (ix2 r x) * v73 (ix2 n x)) - v81 (ix3 0 0 n) = (score q k f (pos i r) (pos j n) : EReal) := by
  unfold score
  rw [EReal.coe_sub, coe_sum, h2]
  congr 1
  exact Finset.sum_congr rfl fun d _ => by rw [h0, h1, EReal.coe_mul]

/-- One step of the loop keeps what the running maximum and sum say. -/
theorem step_running (h0 : ∀ r d, v0 (ix2 r d) = (q (pos i r) d : EReal)) (h1 : ∀ n d, v73 (ix2 n d) = (k (pos j n) d : EReal))
    (h2 : ∀ n, v81 (ix3 0 0 n) = (f (pos j n) : EReal)) (m l : FVec Ideal S1024x1 .f32) (r : Fin 1024)
    (hr : Running (fun j n => score q k f (pos i r) (pos j n)) j (m (ix2 r 0)) (l (ix2 r 0))) :
    Running (fun j n => score q k f (pos i r) (pos j n)) (j + 1) (k0_pay13 v0 m v73 v81 (ix2 r 0))
      (k0_pay16 v0 m l v73 v81 (ix2 r 0)) := by
  have e13 : k0_pay13 v0 m v73 v81 (ix2 r 0) = max (m (ix2 r 0)) (Finset.fold max ⊥
      (fun n => (score q k f (pos i r) (pos j n) : EReal)) Finset.univ) := by
    unfold k0_pay13 k0_pay12 k0_pay8
    pointwise
    rw [ofBits_bot]
    congr 1
    refine Finset.fold_congr fun n _ => scores_at h0 h1 h2 r n
  obtain ⟨M', hM⟩ := exists_max hr (fun n => (score q k f (pos i r) (pos j n) : EReal)) (fun _ => EReal.coe_ne_top _) 0
    (EReal.coe_ne_bot _)
  have e12 : ∀ n, k0_pay12 v0 v73 v81 (ix2 r n) = (score q k f (pos i r) (pos j n) : EReal) := fun n => by
    unfold k0_pay12 k0_pay8
    pointwise
    exact scores_at h0 h1 h2 r n
  have e16 : k0_pay16 v0 m l v73 v81 (ix2 r 0) = Ideal.exp (m (ix2 r 0) - k0_pay13 v0 m v73 v81 (ix2 r 0)) * l (ix2 r 0)
      + ∑ n, Ideal.exp ((score q k f (pos i r) (pos j n) : EReal) - k0_pay13 v0 m v73 v81 (ix2 r 0)) := by
    unfold k0_pay16 k0_pay15 k0_pay14
    pointwise
    congr 1
    exact Finset.sum_congr rfl fun n _ => by rw [e12]
  rw [e16]
  exact hr.step (e13.trans hM)

/-- The diagonal block and the logarithm. -/
theorem last_lse (hi : i < 4) (h0 : ∀ r d, v0 (ix2 r d) = (q (pos i r) d : EReal))
    (h1 : ∀ n d, v73 (ix2 n d) = (k (pos i n) d : EReal)) (h2 : ∀ n, v81 (ix3 0 0 n) = (f (pos i n) : EReal))
    (m l : FVec Ideal S1024x1 .f32) (z : Fin 1) (r : Fin 1024) (x : Fin 128)
    (hr : Running (fun j n => score q k f (pos i r) (pos j n)) i (m (ix2 r 0)) (l (ix2 r 0))) :
    k0_pay7 m l (k0_pay25 v0 v73 v81) (iota .tc S1024x1024 32 [1] iota_S1024x1024_d1_w32) (ix3 z r x)
      = (lse q k f (pos i r) : EReal) := by
  have e1 : ∀ n, k0_pay1 (k0_pay25 v0 v73 v81) (iota .tc S1024x1024 32 [1] iota_S1024x1024_d1_w32) (ix2 r n)
      = if n ≤ r then (score q k f (pos i r) (pos i n) : EReal) else ⊥ := fun n => by
    unfold k0_pay1 k0_pay25 k0_pay8
    pointwise
    rw [causal, mask_bot, scores_at h0 h1 h2 r n]
  have h := hr.log (fun n => n ≤ r) r le_rfl _ e1 rfl
  unfold k0_pay7 k0_pay5 k0_pay4 k0_pay3 k0_pay2
  pointwise
  rw [ofBits_bot]
  refine h.trans ?_
  rw [lse, Z_blocks _ _ _ hi]

end Steps

/-! ## The point -/

theorem trips0_1 : ∀ t : Fin cfg0.N, (k0_t1_loop (grid0.coords t)).trips = t.val % 4 := by decide +kernel
theorem trips0_2 : ∀ t : Fin cfg0.N, (k0_t2_loop (grid0.coords t)).trips = 0 := by decide +kernel
theorem off0_1 : ∀ t : Fin cfg0.N, ∀ k : Fin (k0_t1_loop (grid0.coords t)).trips,
    k0_off1 (grid0.coords t) k = ![1024 * k.val, 0] := by decide +kernel
theorem off0_2 : ∀ t : Fin cfg0.N, ∀ k : Fin (k0_t1_loop (grid0.coords t)).trips,
    k0_off2 (grid0.coords t) k = ![k.val, t.val / 4 % 8, 0] := by decide +kernel
theorem off0_5 : ∀ t : Fin cfg0.N, k0_off5 (grid0.coords t) = ![1024 * (t.val % 4), 0] := by decide +kernel
theorem off0_6 : ∀ t : Fin cfg0.N, k0_off6 (grid0.coords t) = ![t.val % 4, t.val / 4 % 8, 0] := by decide +kernel

variable (V : (c : Dev nD) → (b : Ref sig .tc) → Buf (Elt Ideal) ((c : Thread nD τ).loc b))

/-- The loop's running maximum, sum and weighted sum before step `n` of grid point `t`. -/
def run0 (c : Dev nD) (t : Fin cfg0.N) (n : ℕ) : FVec Ideal S1024x1 .f32 × FVec Ideal S1024x1 .f32 × FVec Ideal S1024x128 .f32 :=
  st_k0_t1 (F := Ideal) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (iblk0 V c 0 t) ((hs0_1 t).unread (iblk0 V c 1 t))
    ((hs0_2 t).unread (iblk0 V c 2 t)) ((hs0_3 t).unread (iblk0 V c 3 t)) (k0_pay9, k0_pay10, k0_pay11) n

theorem hz2 : (![0, 0] : Fin 2 → Nat) = fun _ => 0 := funext fun a => by fin_cases a <;> rfl
theorem hz3 : (![0, 0, 0] : Fin 3 → Nat) = fun _ => 0 := funext fun a => by fin_cases a <;> rfl

/-- What the point leaves in the block of logarithms. -/
theorem lse_point (c : Dev nD) (t : Fin cfg0.N) :
    (outsAt0 V c t).2 = k0_pay7 (run0 V c t (k0_t1_loop (grid0.coords t)).trips).1
      (run0 V c t (k0_t1_loop (grid0.coords t)).trips).2.1
      (k0_pay25 (iblk0 V c 0 t)
        (View.ld (iblk0 V c 1 t) (Rect.unit (s := S4096x128) (k0_off5 (grid0.coords t)) ![1024, 128] (k0_off5_inb (grid0.coords t))))
        (View.ld (iblk0 V c 3 t) (Rect.unit (s := S4x8x1024) (k0_off6 (grid0.coords t)) ![1, 1, 1024] (k0_off6_inb (grid0.coords t)))))
      (iota .tc S1024x1024 32 [1] iota_S1024x1024_d1_w32) := by
  unfold outsAt0
  dsimp only
  unfold out0_A_5
  rw [View.read_writes_eq_canon _ _ _ (fun y => cover0_A_5 (y := y) ..)]
  unfold kernelRun0_A
  dsimp only
  rw [View.canon_unit_zero (S := S1x1024x128) hz3]
  unfold kernelRun0_A.sl.r kernelRun0_A.sl.r_1 kernelRun0_A.sl.r_4 kernelRun0_A.sl.v37
  simp only [View.readAt_eq_ld, (hs0_0 t).read_unread, (hs0_1 t).read_unread, (hs0_2 t).read_unread, (hs0_3 t).read_unread,
    View.ld_unit_zero (S := S1024x128) hz2]
  have e2 := trips0_2 t
  dsimp only [k0_t2_loop, Scf.Loop.trips] at e2
  rw [e2, st_k0_t2_zero]
  rfl

section Point

variable {V} {c : Dev nD} {t : Fin cfg0.N} {q k : Fin 4096 → Fin 128 → ℝ} {f : Fin 4096 → ℝ}

/-- The loop's invariant. -/
theorem run0_running (hq : ∀ r d, iblk0 V c 0 t (ix2 r d) = (q (pos (t.val % 4) r) d : EReal))
    (hk : ∀ n d, iblk0 V c 1 t (ix2 n d) = (k n d : EReal))
    (hf : ∀ (j : Fin 4) n, iblk0 V c 3 t (ix3 j ⟨t.val / 4 % 8, Nat.mod_lt _ (by decide)⟩ n) = (f (pos j.val n) : EReal))
    (r : Fin 1024) (n : ℕ) (hn : n ≤ (k0_t1_loop (grid0.coords t)).trips) :
    Running (fun j n => score q k f (pos (t.val % 4) r) (pos j n)) n ((run0 V c t n).1 (ix2 r 0)) ((run0 V c t n).2.1 (ix2 r 0)) := by
  induction n with
  | zero =>
    refine Or.inl ⟨rfl, ?_, ?_⟩
    · unfold run0; rw [st_k0_t1_zero]; exact mask_bot
    · unfold run0; rw [st_k0_t1_zero]; dsimp only; unfold k0_pay10; pointwise
  | succ n ih =>
    have hlt : n < (k0_t1_loop (grid0.coords t)).trips := hn
    have h4 : n < 4 := by rw [trips0_1] at hlt; omega
    have e : run0 V c t (n + 1) = _ := st_k0_t1_succ (F := Ideal) Variants.none c none (grid0.coords t) (ms0_0 t) (hs0_0 t)
      (ms0_1 t) (hs0_1 t) (ms0_2 t) (hs0_2 t) (ms0_3 t) (hs0_3 t) (ms0_4 t) (hs0_4 t) (ms0_5 t) (hs0_5 t) (iblk0 V c 0 t)
      ((hs0_1 t).unread (iblk0 V c 1 t)) ((hs0_2 t).unread (iblk0 V c 2 t)) ((hs0_3 t).unread (iblk0 V c 3 t))
      (k0_pay9, k0_pay10, k0_pay11) ⟨n, hlt⟩
    rw [e]
    unfold tripR_k0_t1 trip_k0_t1
    dsimp only
    simp only [View.readAt_eq_ld, (hs0_1 t).read_unread, (hs0_3 t).read_unread]
    refine step_running hq (fun a d => ?_) (fun a => ?_) _ _ r (ih hlt.le)
    · rw [ld_rows _ _ h4 (off0_1 t ⟨n, hlt⟩), hk]
    · rw [ld_gates _ _ h4 (Nat.mod_lt _ (by decide)) (off0_2 t ⟨n, hlt⟩)]
      exact hf ⟨n, h4⟩ a

/-- The point's logarithms. -/
theorem lse_value (hq : ∀ r d, iblk0 V c 0 t (ix2 r d) = (q (pos (t.val % 4) r) d : EReal))
    (hk : ∀ n d, iblk0 V c 1 t (ix2 n d) = (k n d : EReal))
    (hf : ∀ (j : Fin 4) n, iblk0 V c 3 t (ix3 j ⟨t.val / 4 % 8, Nat.mod_lt _ (by decide)⟩ n) = (f (pos j.val n) : EReal))
    (z : Fin 1) (r : Fin 1024) (x : Fin 128) :
    (outsAt0 V c t).2 (ix3 z r x) = (lse q k f (pos (t.val % 4) r) : EReal) := by
  have h4 : t.val % 4 < 4 := Nat.mod_lt _ (by decide)
  rw [lse_point]
  have hr := run0_running hq hk hf r _ le_rfl
  rw [trips0_1] at hr ⊢
  refine last_lse h4 hq (fun a d => ?_) (fun a => ?_) _ _ z r x hr
  · rw [ld_rows _ _ h4 (off0_5 t), hk]
  · rw [ld_gates _ _ h4 (Nat.mod_lt _ (by decide)) (off0_6 t)]
    exact hf ⟨_, h4⟩ a

end Point

end Cert.KernelFoxIdeal.Value
-- ==== Proof.FoxRows.lean ====
/- The forgetting attention's query region: what one grid point leaves as its rows' terms and gradients of the queries. -/
module

public import proofs.«01_k».proof.Proof.FoxForward

@[expose] public section

set_option maxRecDepth 16384

noncomputable section

namespace Cert.KernelFoxIdeal.Value

open Gen Idealize.ShloMosaic TcCoe Idealize.SL.Sem
open Cert.Fox

/-! ## Loads -/

/-- The first lane of a block of row numbers. -/
theorem ld_lane (x : Vec Ideal S1x1024x128 .f32) (h : ∀ a, ![0, 0, 0] a + ![1, 1024, 1] a ≤ S1x1024x128.size a) (r : Fin 1024) :
    View.ld x (Rect.unit (s := S1x1024x128) ![0, 0, 0] ![1, 1024, 1] h) (ix3 0 r 0) = x (ix3 0 r 0) := by
  show x _ = x _
  congr 1
  funext a
  apply Fin.ext
  match a with
  | ⟨0, _⟩ => rfl
  | ⟨1, _⟩ => show 0 + 1 * r.val = r.val; omega
  | ⟨2, _⟩ => rfl

/-- The scale of the scores, one over the square root of the head's width as printed. -/
def scale : ℝ := (Ideal.ofBits .f32 0x3DB504F3#32).toReal

theorem scale_eq : Ideal.ofBits .f32 0x3DB504F3#32 = (scale : EReal) := by
  unfold scale
  simp [Ideal.ofBits, Ideal.ieee, -EReal.coe_mul]

/-! ## The steps -/

section Steps

variable {q k v g : Fin 4096 → Fin 128 → ℝ} {f : Fin 4096 → ℝ} {i j : ℕ}
variable {v0 v2 v106 v109 : Vec Ideal S1024x128 .bf16} {v4 : Vec Ideal S1x1024x1 .f32} {v114 : Vec Ideal S1x1x1024 .f32}

/-- The derivatives towards one block's weights. -/
theorem dweights_at (h2 : ∀ r d, v2 (ix2 r d) = (g (pos i r) d : EReal)) (hv : ∀ n d, v109 (ix2 n d) = (v (pos j n) d : EReal))
    (r n : Fin 1024) : ∑ x, v2 (ix2 r x) * v109 (ix2 n x) = (DP v g (pos i r) (pos j n) : EReal) := by
  unfold DP
  rw [coe_sum]
  exact Finset.sum_congr rfl fun d _ => by rw [h2, hv, EReal.coe_mul]

/-- The weights of a block before the query's own. -/
theorem weights_at (hi : i < 4) (hj : j < i) (h0 : ∀ r d, v0 (ix2 r d) = (q (pos i r) d : EReal))
    (h4 : ∀ r, v4 (ix3 0 r 0) = (lse q k f (pos i r) : EReal)) (hk : ∀ n d, v106 (ix2 n d) = (k (pos j n) d : EReal))
    (hf : ∀ n, v114 (ix3 0 0 n) = (f (pos j n) : EReal)) (r n : Fin 1024) :
    Ideal.exp ((∑ x, v0 (ix2 r x) * v106 (ix2 n x)) - v114 (ix3 0 0 n) - v4 (ix3 0 r 0))
      = (P q k f (pos i r) (pos j n) : EReal) := by
  rw [scores_at h0 hk hf, h4, ← EReal.coe_sub, Ideal.exp_coe, P_before q k f hi hj]

/-- The weights of the query's own block. -/
theorem weights_diag (hi : i < 4) (h0 : ∀ r d, v0 (ix2 r d) = (q (pos i r) d : EReal))
    (h4 : ∀ r, v4 (ix3 0 r 0) = (lse q k f (pos i r) : EReal)) (hk : ∀ n d, v106 (ix2 n d) = (k (pos i n) d : EReal))
    (hf : ∀ n, v114 (ix3 0 0 n) = (f (pos i n) : EReal)) (r n : Fin 1024) :
    Ideal.exp (Scalar.select (α := EReal) (IntOp.cmpi CmpIPredicate.sle (BitVec.ofNat 32 ↑n) (BitVec.ofNat 32 ↑r))
        ((∑ x, v0 (ix2 r x) * v106 (ix2 n x)) - v114 (ix3 0 0 n)) (Named.named κ "mask" 0xF149F2CA#32 : Ideal .f32)
        - v4 (ix3 0 r 0))
      = (P q k f (pos i r) (pos i n) : EReal) := by
  rw [causal, mask_bot, scores_at h0 hk hf, h4, P_diag q k f hi]
  split_ifs
  · rw [← EReal.coe_sub, Ideal.exp_coe]
  · simp

theorem pay8_at (hi : i < 4) (hj : j < i) (h0 : ∀ r d, v0 (ix2 r d) = (q (pos i r) d : EReal))
    (h2 : ∀ r d, v2 (ix2 r d) = (g (pos i r) d : EReal))
    (h4 : ∀ r, v4 (ix3 0 r 0) = (lse q k f (pos i r) : EReal)) (hk : ∀ n d, v106 (ix2 n d) = (k (pos j n) d : EReal))
    (hv : ∀ n d, v109 (ix2 n d) = (v (pos j n) d : EReal)) (hf : ∀ n, v114 (ix3 0 0 n) = (f (pos j n) : EReal))
    (a : FVec Ideal S1024x1 .f32) (r : Fin 1024) :
    k1_pay8 v0 v2 v4 a v106 v109 v114 (ix2 r 0)
      = a (ix2 r 0) + ((∑ n, P q k f (pos i r) (pos j n) * DP v g (pos i r) (pos j n) : ℝ) : EReal) := by
  unfold k1_pay8 k1_pay7 k1_pay5 k1_pay4 k1_pay3
  pointwise
  rw [coe_sum]
  congr 1
  exact Finset.sum_congr rfl fun n _ => by rw [weights_at hi hj h0 h4 hk hf, dweights_at h2 hv, EReal.coe_mul]

theorem pay9_at (hi : i < 4) (hj : j < i) (h0 : ∀ r d, v0 (ix2 r d) = (q (pos i r) d : EReal))
    (h4 : ∀ r, v4 (ix3 0 r 0) = (lse q k f (pos i r) : EReal)) (hk : ∀ n d, v106 (ix2 n d) = (k (pos j n) d : EReal))
    (hf : ∀ n, v114 (ix3 0 0 n) = (f (pos j n) : EReal)) (a : FVec Ideal S1024x1 .f32) (r : Fin 1024) :
    k1_pay9 v0 v4 a v106 v114 (ix2 r 0) = a (ix2 r 0) + ((∑ n, P q k f (pos i r) (pos j n) : ℝ) : EReal) := by
  unfold k1_pay9 k1_pay7 k1_pay5 k1_pay3
  pointwise
  rw [coe_sum]
  congr 1
  exact Finset.sum_congr rfl fun n _ => weights_at hi hj h0 h4 hk hf r n

/-- The row's term. -/
theorem pay15_at (hi : i < 4) (h0 : ∀ r d, v0 (ix2 r d) = (q (pos i r) d : EReal))
    (h2 : ∀ r d, v2 (ix2 r d) = (g (pos i r) d : EReal))
    (h4 : ∀ r, v4 (ix3 0 r 0) = (lse q k f (pos i r) : EReal)) (hk : ∀ n d, v106 (ix2 n d) = (k (pos i n) d : EReal))
    (hv : ∀ n d, v109 (ix2 n d) = (v (pos i n) d : EReal)) (hf : ∀ n, v114 (ix3 0 0 n) = (f (pos i n) : EReal))
    (a b : FVec Ideal S1024x1 .f32) (r : Fin 1024)
    (ha : a (ix2 r 0) = ((∑ j ∈ Finset.range i, ∑ n, P q k f (pos i r) (pos j n) * DP v g (pos i r) (pos j n) : ℝ) : EReal))
    (hb : b (ix2 r 0) = ((∑ j ∈ Finset.range i, ∑ n, P q k f (pos i r) (pos j n) : ℝ) : EReal)) :
    k1_pay15 (k1_pay4 v2) (k1_pay5 v4) a b (k1_pay13 v109) (k1_pay14 v0 v106) v114 (ix2 r 0)
      = (D q k v g f (pos i r) : EReal) := by
  unfold k1_pay15 k1_pay14 k1_pay13 k1_pay5 k1_pay4 k1_pay3
  pointwise
  have hn : ∀ n : Fin 1024, Ideal.exp (Scalar.select (α := EReal) (IntOp.cmpi CmpIPredicate.sle (BitVec.ofNat 32 ↑n) (BitVec.ofNat 32 ↑r))
        ((∑ x, v0 (ix2 r x) * v106 (ix2 n x)) - v114 (ix3 0 0 n)) (Named.named κ "mask" 0xF149F2CA#32 : Ideal .f32)
        - v4 (ix3 0 r 0)) * (∑ x, v2 (ix2 r x) * v109 (ix2 n x))
      = ((P q k f (pos i r) (pos i n) * DP v g (pos i r) (pos i n) : ℝ) : EReal) := fun n => by
    rw [weights_diag hi h0 h4 hk hf, dweights_at h2 hv, EReal.coe_mul]
  rw [Finset.sum_congr rfl fun n _ => hn n, Finset.sum_congr rfl fun n _ => weights_diag hi h0 h4 hk hf r n, ha, hb,
    ← coe_sum, ← coe_sum, ← EReal.coe_add, ← EReal.coe_add]
  rw [← sum_upto (fun c => P q k f (pos i r) c * DP v g (pos i r) c) hi
      (fun j hj hij n => by rw [P_after q k f hj hij, zero_mul]),
    ← sum_upto (fun c => P q k f (pos i r) c) hi (fun j hj hij n => P_after q k f hj hij r n), sum_P]
  rw [Ideal.div_coe one_ne_zero, div_one, EReal.coe_one, mul_one]
  rfl

/-- One block's part of a query's gradient. -/
theorem pay17_at (hi : i < 4) (hj : j < i) (h0 : ∀ r d, v0 (ix2 r d) = (q (pos i r) d : EReal))
    (h2 : ∀ r d, v2 (ix2 r d) = (g (pos i r) d : EReal))
    (h4 : ∀ r, v4 (ix3 0 r 0) = (lse q k f (pos i r) : EReal)) (hk : ∀ n d, v106 (ix2 n d) = (k (pos j n) d : EReal))
    (hv : ∀ n d, v109 (ix2 n d) = (v (pos j n) d : EReal)) (hf : ∀ n, v114 (ix3 0 0 n) = (f (pos j n) : EReal))
    {x0 x1 x2 x3 x4} (hD : ∀ r, k1_pay15 (F := Ideal) (k1_pay4 v2) (k1_pay5 v4) x0 x1 x2 x3 x4 (ix2 r 0) = (D q k v g f (pos i r) : EReal))
    (a : FVec Ideal S1024x128 .f32) (r : Fin 1024) (d : Fin 128) :
    k1_pay17 (k1_pay3 v0) (k1_pay4 v2) (k1_pay5 v4) x0 x1 x2 x3 x4 a v106 v109 v114 (ix2 r d)
      = a (ix2 r d) + ((∑ n, DS q k v g f (pos i r) (pos j n) * k (pos j n) d : ℝ) : EReal) := by
  unfold k1_pay17
  pointwise
  rw [hD, coe_sum]
  congr 1
  refine Finset.sum_congr rfl fun n _ => ?_
  unfold k1_pay5 k1_pay4 k1_pay3
  pointwise
  rw [weights_at hi hj h0 h4 hk hf, dweights_at h2 hv, hk, ← EReal.coe_sub, ← EReal.coe_mul, ← EReal.coe_mul]
  rfl

/-- The query's gradient, its own block added. -/
theorem pay1_at (hi : i < 4) (h0 : ∀ r d, v0 (ix2 r d) = (q (pos i r) d : EReal))
    (h2 : ∀ r d, v2 (ix2 r d) = (g (pos i r) d : EReal))
    (h4 : ∀ r, v4 (ix3 0 r 0) = (lse q k f (pos i r) : EReal)) (hk : ∀ n d, v106 (ix2 n d) = (k (pos i n) d : EReal))
    (hv : ∀ n d, v109 (ix2 n d) = (v (pos i n) d : EReal)) (hf : ∀ n, v114 (ix3 0 0 n) = (f (pos i n) : EReal))
    (w : FVec Ideal S1024x1 .f32) (hD : ∀ r, w (ix2 r 0) = (D q k v g f (pos i r) : EReal))
    (a : FVec Ideal S1024x128 .f32) (r : Fin 1024) (d : Fin 128)
    (ha : a (ix2 r d) = ((∑ j ∈ Finset.range i, ∑ n, DS q k v g f (pos i r) (pos j n) * k (pos j n) d : ℝ) : EReal)) :
    k1_pay1 (k1_pay4 v2) (k1_pay5 v4) w a (k1_pay19 v106) (k1_pay20 v109) (k1_pay21 (k1_pay3 v0) v106 v114)
        (iota .tc S1024x1024 32 [1] iota_S1024x1024_d1_w32) (iota .tc S1024x1024 32 [0] iota_S1024x1024_d0_w32) (ix2 r d)
      = (((∑ c, DS q k v g f (pos i r) c * k c d) * scale : ℝ) : EReal) := by
  unfold k1_pay1 k1_pay21 k1_pay20 k1_pay19 k1_pay5 k1_pay4 k1_pay3
  pointwise
  have hn : ∀ n : Fin 1024, Ideal.exp (Scalar.select (α := EReal) (IntOp.cmpi CmpIPredicate.sle (BitVec.ofNat 32 ↑n) (BitVec.ofNat 32 ↑r))
        ((∑ x, v0 (ix2 r x) * v106 (ix2 n x)) - v114 (ix3 0 0 n)) (Named.named κ "mask" 0xF149F2CA#32 : Ideal .f32)
        - v4 (ix3 0 r 0)) * ((∑ x, v2 (ix2 r x) * v109 (ix2 n x)) - w (ix2 r 0)) * v106 (ix2 n d)
      = ((DS q k v g f (pos i r) (pos i n) * k (pos i n) d : ℝ) : EReal) := fun n => by
    rw [weights_diag hi h0 h4 hk hf, dweights_at h2 hv, hD, hk, ← EReal.coe_sub, ← EReal.coe_mul, ← EReal.coe_mul]
    rfl
  rw [Finset.sum_congr rfl fun n _ => hn n, ha, ← coe_sum, ← EReal.coe_add, scale_eq, ← EReal.coe_mul]
  rw [← sum_upto (fun c => DS q k v g f (pos i r) c * k c d) hi
      (fun j hj hij n => by rw [DS_after q k v g f hj hij, zero_mul])]

end Steps

/-! ## The point -/

theorem trips1_1 : ∀ t : Fin cfg1.N, (k1_t1_loop (grid1.coords t)).trips = t.val % 4 := by decide +kernel
theorem trips1_2 : ∀ t : Fin cfg1.N, (k1_t2_loop (grid1.coords t)).trips = 0 := by decide +kernel
theorem trips1_3 : ∀ t : Fin cfg1.N, (k1_t3_loop (grid1.coords t)).trips = t.val % 4 := by decide +kernel
theorem off1_1 : ∀ t : Fin cfg1.N, ∀ k : Fin (k1_t1_loop (grid1.coords t)).trips,
    k1_off1 (grid1.coords t) k = ![1024 * k.val, 0] := by decide +kernel
theorem off1_2 : ∀ t : Fin cfg1.N, ∀ k : Fin (k1_t1_loop (grid1.coords t)).trips,
    k1_off2 (grid1.coords t) k = ![k.val, t.val / 4 % 8, 0] := by decide +kernel
theorem off1_7 : ∀ t : Fin cfg1.N, ∀ k : Fin (k1_t3_loop (grid1.coords t)).trips,
    k1_off7 (grid1.coords t) k = ![1024 * k.val, 0] := by decide +kernel
theorem off1_8 : ∀ t : Fin cfg1.N, ∀ k : Fin (k1_t3_loop (grid1.coords t)).trips,
    k1_off8 (grid1.coords t) k = ![k.val, t.val / 4 % 8, 0] := by decide +kernel
theorem off1_5 : ∀ t : Fin cfg1.N, k1_off5 (grid1.coords t) = ![1024 * (t.val % 4), 0] := by decide +kernel
theorem off1_6 : ∀ t : Fin cfg1.N, k1_off6 (grid1.coords t) = ![t.val % 4, t.val / 4 % 8, 0] := by decide +kernel

variable (V : (c : Dev nD) → (b : Ref sig .tc) → Buf (Elt Ideal) ((c : Thread nD τ).loc b))

/-- The block's column of logarithms. -/
abbrev lcol (c : Dev nD) (t : Fin cfg1.N) : Vec Ideal S1x1024x1 .f32 :=
  View.ld (iblk1 V c 4 t) (Rect.unit (s := S1x1024x128) ![0, 0, 0] S1x1024x1.size inb_S1x1024x128_S1x1024x1_0_0_0)
/-- The keys of the point's own block. -/
abbrev kown (c : Dev nD) (t : Fin cfg1.N) : Vec Ideal S1024x128 .bf16 :=
  View.ld (iblk1 V c 1 t) (Rect.unit (s := S4096x128) (k1_off5 (grid1.coords t)) S1024x128.size (k1_off5_inb (grid1.coords t)))
/-- The values of the point's own block. -/
abbrev vown (c : Dev nD) (t : Fin cfg1.N) : Vec Ideal S1024x128 .bf16 :=
  View.ld (iblk1 V c 2 t) (Rect.unit (s := S4096x128) (k1_off5 (grid1.coords t)) S1024x128.size (k1_off5_inb (grid1.coords t)))
/-- The cumulated gates of the point's own block. -/
abbrev fown (c : Dev nD) (t : Fin cfg1.N) : Vec Ideal S1x1x1024 .f32 :=
  View.ld (iblk1 V c 5 t) (Rect.unit (s := S4x8x1024) (k1_off6 (grid1.coords t)) S1x1x1024.size (k1_off6_inb (grid1.coords t)))

/-- The first loop's two running sums before step `n` of grid point `t`. -/
def run1 (c : Dev nD) (t : Fin cfg1.N) (n : ℕ) : FVec Ideal S1024x1 .f32 × FVec Ideal S1024x1 .f32 :=
  st_k1_t1 (F := Ideal) Variants.none c none (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (ms1_7 t) (hs1_7 t)
    (iblk1 V c 0 t) (iblk1 V c 3 t) (lcol V c t) ((hs1_1 t).unread (iblk1 V c 1 t))
    ((hs1_2 t).unread (iblk1 V c 2 t)) ((hs1_5 t).unread (iblk1 V c 5 t)) (k1_pay6, k1_pay6) n

/-- The row terms. -/
def rows1 (c : Dev nD) (t : Fin cfg1.N) : FVec Ideal S1024x1 .f32 :=
  k1_pay15 (k1_pay4 (iblk1 V c 3 t)) (k1_pay5 (lcol V c t)) (run1 V c t (k1_t1_loop (grid1.coords t)).trips).1
    (run1 V c t (k1_t1_loop (grid1.coords t)).trips).2 (k1_pay13 (vown V c t)) (k1_pay14 (iblk1 V c 0 t) (kown V c t)) (fown V c t)

/-- The second loop's running sum. -/
def acc1 (c : Dev nD) (t : Fin cfg1.N) (n : ℕ) : FVec Ideal S1024x128 .f32 :=
  st_k1_t3 (F := Ideal) Variants.none c none (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (ms1_7 t) (hs1_7 t)
    (BitVec.ofNat 32 (grid1.coords t 1).val) (k1_pay3 (iblk1 V c 0 t)) (k1_pay4 (iblk1 V c 3 t)) (k1_pay5 (lcol V c t))
    (kernelRun1_A.sl.v15 (grid1.coords t)) (run1 V c t (k1_t1_loop (grid1.coords t)).trips).1
    (run1 V c t (k1_t1_loop (grid1.coords t)).trips).2 (k1_pay13 (vown V c t)) (k1_pay14 (iblk1 V c 0 t) (kown V c t)) (fown V c t)
    ((hs1_1 t).unread (iblk1 V c 1 t)) ((hs1_2 t).unread (iblk1 V c 2 t)) ((hs1_5 t).unread (iblk1 V c 5 t)) k1_pay16 n

/-- What the point leaves in the block of row terms. -/
theorem row_point (c : Dev nD) (t : Fin cfg1.N) : (outsAt1 V c t).2 = k1_pay2 (rows1 V c t) := by
  unfold outsAt1
  dsimp only
  unfold out1_A_7
  rw [View.read_writes_eq_canon _ _ _ (fun y => cover1_A_7 (y := y) ..)]
  unfold kernelRun1_A
  dsimp only
  rw [View.canon_unit_zero (S := S1x1024x128) hz3]
  unfold kernelRun1_A.sl.r_7 kernelRun1_A.sl.r_1 kernelRun1_A.sl.r_2 kernelRun1_A.sl.r_3 kernelRun1_A.sl.r_4
    kernelRun1_A.sl.r_5 kernelRun1_A.sl.r_6
  simp only [View.readAt_eq_ld, (hs1_0 t).read_unread, (hs1_1 t).read_unread, (hs1_2 t).read_unread, (hs1_3 t).read_unread,
    (hs1_4 t).read_unread, (hs1_5 t).read_unread, View.ld_unit_zero (S := S1024x128) hz2]
  have e2 := trips1_2 t
  dsimp only [k1_t2_loop, Scf.Loop.trips] at e2
  rw [e2, st_k1_t2_zero]
  rfl

/-- What the point leaves in the block of the queries' gradients. -/
theorem dq_point (c : Dev nD) (t : Fin cfg1.N) :
    (outsAt1 V c t).1 = k1_pay1 (k1_pay4 (iblk1 V c 3 t)) (k1_pay5 (lcol V c t)) (rows1 V c t)
      (acc1 V c t (k1_t3_loop (grid1.coords t)).trips) (k1_pay19 (kown V c t)) (k1_pay20 (vown V c t))
      (k1_pay21 (k1_pay3 (iblk1 V c 0 t)) (kown V c t) (fown V c t))
      (iota .tc S1024x1024 32 [1] iota_S1024x1024_d1_w32) (iota .tc S1024x1024 32 [0] iota_S1024x1024_d0_w32) := by
  unfold outsAt1
  dsimp only
  unfold out1_A_6
  rw [View.read_writes_eq_canon _ _ _ (fun y => cover1_A_6 (y := y) ..)]
  unfold kernelRun1_A
  dsimp only
  rw [View.canon_unit_zero (S := S1024x128) hz2]
  unfold kernelRun1_A.sl.r_8 kernelRun1_A.sl.r_9 kernelRun1_A.sl.r_10 kernelRun1_A.sl.r_11
  unfold kernelRun1_A.sl.r_7 kernelRun1_A.sl.r kernelRun1_A.sl.r_1 kernelRun1_A.sl.r_2 kernelRun1_A.sl.r_3 kernelRun1_A.sl.r_4
    kernelRun1_A.sl.r_5 kernelRun1_A.sl.r_6 kernelRun1_A.sl.v79 kernelRun1_A.sl.v80
  simp only [View.readAt_eq_ld, (hs1_0 t).read_unread, (hs1_1 t).read_unread, (hs1_2 t).read_unread, (hs1_3 t).read_unread,
    (hs1_4 t).read_unread, (hs1_5 t).read_unread, View.ld_unit_zero (S := S1024x128) hz2]
  have e2 := trips1_2 t
  dsimp only [k1_t2_loop, Scf.Loop.trips] at e2
  rw [e2, st_k1_t2_zero, st_k1_t4_zero]
  rfl

/-- What the blocks of a point hold: the point's queries and gradients, all keys and values, its logarithms, the gates. -/
structure Point1 (c : Dev nD) (t : Fin cfg1.N) (q k v g : Fin 4096 → Fin 128 → ℝ) (f : Fin 4096 → ℝ) : Prop where
  hq : ∀ r d, iblk1 V c 0 t (ix2 r d) = (q (pos (t.val % 4) r) d : EReal)
  hk : ∀ n d, iblk1 V c 1 t (ix2 n d) = (k n d : EReal)
  hv : ∀ n d, iblk1 V c 2 t (ix2 n d) = (v n d : EReal)
  hg : ∀ r d, iblk1 V c 3 t (ix2 r d) = (g (pos (t.val % 4) r) d : EReal)
  hl : ∀ r, iblk1 V c 4 t (ix3 0 r 0) = (lse q k f (pos (t.val % 4) r) : EReal)
  hf : ∀ (j : Fin 4) n, iblk1 V c 5 t (ix3 j ⟨t.val / 4 % 8, Nat.mod_lt _ (by decide)⟩ n) = (f (pos j.val n) : EReal)

namespace Point1

variable {V} {c : Dev nD} {t : Fin cfg1.N} {q k v g : Fin 4096 → Fin 128 → ℝ} {f : Fin 4096 → ℝ}
variable (h : Point1 V c t q k v g f)
include h

theorem lcol_at (r : Fin 1024) : lcol V c t (ix3 0 r 0) = (lse q k f (pos (t.val % 4) r) : EReal) :=
  (ld_lane _ _ r).trans (h.hl r)

theorem kown_at (n : Fin 1024) (d : Fin 128) : kown V c t (ix2 n d) = (k (pos (t.val % 4) n) d : EReal) :=
  (ld_rows _ _ (Nat.mod_lt _ (by decide)) (off1_5 t) n d).trans (h.hk _ d)

theorem vown_at (n : Fin 1024) (d : Fin 128) : vown V c t (ix2 n d) = (v (pos (t.val % 4) n) d : EReal) :=
  (ld_rows _ _ (Nat.mod_lt _ (by decide)) (off1_5 t) n d).trans (h.hv _ d)

theorem fown_at (n : Fin 1024) : fown V c t (ix3 0 0 n) = (f (pos (t.val % 4) n) : EReal) :=
  (ld_gates _ _ (Nat.mod_lt _ (by decide)) (Nat.mod_lt _ (by decide)) (off1_6 t) n).trans (h.hf ⟨_, Nat.mod_lt _ (by decide)⟩ n)

/-- The first loop's invariant. -/
theorem run1_at (r : Fin 1024) (n : ℕ) (hn : n ≤ (k1_t1_loop (grid1.coords t)).trips) :
    (run1 V c t n).1 (ix2 r 0) = ((∑ j ∈ Finset.range n, ∑ a, P q k f (pos (t.val % 4) r) (pos j a)
        * DP v g (pos (t.val % 4) r) (pos j a) : ℝ) : EReal)
      ∧ (run1 V c t n).2 (ix2 r 0) = ((∑ j ∈ Finset.range n, ∑ a, P q k f (pos (t.val % 4) r) (pos j a) : ℝ) : EReal) := by
  induction n with
  | zero =>
    unfold run1
    rw [st_k1_t1_zero]
    unfold k1_pay6
    constructor <;> (pointwise; simp)
  | succ n ih =>
    have hlt : n < (k1_t1_loop (grid1.coords t)).trips := hn
    have hi : n < t.val % 4 := by rwa [trips1_1] at hlt
    have h4 : t.val % 4 < 4 := Nat.mod_lt _ (by decide)
    have e : run1 V c t (n + 1) = _ := st_k1_t1_succ (F := Ideal) Variants.none c none (grid1.coords t) (ms1_0 t) (hs1_0 t)
      (ms1_1 t) (hs1_1 t) (ms1_2 t) (hs1_2 t) (ms1_3 t) (hs1_3 t) (ms1_4 t) (hs1_4 t) (ms1_5 t) (hs1_5 t) (ms1_6 t) (hs1_6 t)
      (ms1_7 t) (hs1_7 t) (iblk1 V c 0 t) (iblk1 V c 3 t) (lcol V c t) ((hs1_1 t).unread (iblk1 V c 1 t))
      ((hs1_2 t).unread (iblk1 V c 2 t)) ((hs1_5 t).unread (iblk1 V c 5 t)) (k1_pay6, k1_pay6) ⟨n, hlt⟩
    rw [e]
    unfold tripR_k1_t1 trip_k1_t1
    dsimp only
    simp only [View.readAt_eq_ld, (hs1_1 t).read_unread, (hs1_2 t).read_unread, (hs1_5 t).read_unread]
    obtain ⟨iha, ihb⟩ := ih hlt.le
    have hk : ∀ a d, View.ld (iblk1 V c 1 t) (Rect.unit (s := S4096x128) (k1_off1 (grid1.coords t) ⟨n, hlt⟩) S1024x128.size
        (k1_off1_inb (grid1.coords t) ⟨n, hlt⟩)) (ix2 a d) = (k (pos n a) d : EReal) := fun a d =>
      (ld_rows _ _ (hi.trans h4) (off1_1 t ⟨n, hlt⟩) a d).trans (h.hk _ d)
    have hv : ∀ a d, View.ld (iblk1 V c 2 t) (Rect.unit (s := S4096x128) (k1_off1 (grid1.coords t) ⟨n, hlt⟩) S1024x128.size
        (k1_off1_inb (grid1.coords t) ⟨n, hlt⟩)) (ix2 a d) = (v (pos n a) d : EReal) := fun a d =>
      (ld_rows _ _ (hi.trans h4) (off1_1 t ⟨n, hlt⟩) a d).trans (h.hv _ d)
    have hf : ∀ a, View.ld (iblk1 V c 5 t) (Rect.unit (s := S4x8x1024) (k1_off2 (grid1.coords t) ⟨n, hlt⟩) S1x1x1024.size
        (k1_off2_inb (grid1.coords t) ⟨n, hlt⟩)) (ix3 0 0 a) = (f (pos n a) : EReal) := fun a =>
      (ld_gates _ _ (hi.trans h4) (Nat.mod_lt _ (by decide)) (off1_2 t ⟨n, hlt⟩) a).trans (h.hf ⟨n, hi.trans h4⟩ a)
    constructor
    · refine (pay8_at h4 hi h.hq h.hg h.lcol_at hk hv hf _ r).trans ?_
      rw [Finset.sum_range_succ, EReal.coe_add]
      exact congrArg (· + _) iha
    · refine (pay9_at h4 hi h.hq h.lcol_at hk hf _ r).trans ?_
      rw [Finset.sum_range_succ, EReal.coe_add]
      exact congrArg (· + _) ihb

/-- The row terms. -/
theorem rows1_at (r : Fin 1024) : rows1 V c t (ix2 r 0) = (D q k v g f (pos (t.val % 4) r) : EReal) := by
  obtain ⟨ha, hb⟩ := h.run1_at r _ le_rfl
  rw [trips1_1] at ha hb
  unfold rows1
  rw [trips1_1]
  exact pay15_at (Nat.mod_lt _ (by decide)) h.hq h.hg h.lcol_at h.kown_at h.vown_at h.fown_at _ _ r ha hb

/-- The second loop's invariant. -/
theorem acc1_at (r : Fin 1024) (d : Fin 128) (n : ℕ) (hn : n ≤ (k1_t3_loop (grid1.coords t)).trips) :
    acc1 V c t n (ix2 r d) = ((∑ j ∈ Finset.range n, ∑ a, DS q k v g f (pos (t.val % 4) r) (pos j a)
        * k (pos j a) d : ℝ) : EReal) := by
  induction n with
  | zero =>
    unfold acc1
    rw [st_k1_t3_zero]
    unfold k1_pay16
    pointwise
    simp
  | succ n ih =>
    have hlt : n < (k1_t3_loop (grid1.coords t)).trips := hn
    have hi : n < t.val % 4 := by rwa [trips1_3] at hlt
    have h4 : t.val % 4 < 4 := Nat.mod_lt _ (by decide)
    have e : acc1 V c t (n + 1) = _ := st_k1_t3_succ (F := Ideal) Variants.none c none (grid1.coords t) (ms1_0 t) (hs1_0 t)
      (ms1_1 t) (hs1_1 t) (ms1_2 t) (hs1_2 t) (ms1_3 t) (hs1_3 t) (ms1_4 t) (hs1_4 t) (ms1_5 t) (hs1_5 t) (ms1_6 t) (hs1_6 t)
      (ms1_7 t) (hs1_7 t) (BitVec.ofNat 32 (grid1.coords t 1).val) (k1_pay3 (iblk1 V c 0 t)) (k1_pay4 (iblk1 V c 3 t))
      (k1_pay5 (lcol V c t)) (kernelRun1_A.sl.v15 (grid1.coords t)) (run1 V c t (k1_t1_loop (grid1.coords t)).trips).1
      (run1 V c t (k1_t1_loop (grid1.coords t)).trips).2 (k1_pay13 (vown V c t)) (k1_pay14 (iblk1 V c 0 t) (kown V c t))
      (fown V c t) ((hs1_1 t).unread (iblk1 V c 1 t)) ((hs1_2 t).unread (iblk1 V c 2 t)) ((hs1_5 t).unread (iblk1 V c 5 t))
      k1_pay16 ⟨n, hlt⟩
    rw [e]
    unfold tripR_k1_t3 trip_k1_t3
    dsimp only
    simp only [View.readAt_eq_ld, (hs1_1 t).read_unread, (hs1_2 t).read_unread, (hs1_5 t).read_unread]
    have hk : ∀ a d, View.ld (iblk1 V c 1 t) (Rect.unit (s := S4096x128) (k1_off7 (grid1.coords t) ⟨n, hlt⟩) S1024x128.size
        (k1_off7_inb (grid1.coords t) ⟨n, hlt⟩)) (ix2 a d) = (k (pos n a) d : EReal) := fun a d =>
      (ld_rows _ _ (hi.trans h4) (off1_7 t ⟨n, hlt⟩) a d).trans (h.hk _ d)
    have hv : ∀ a d, View.ld (iblk1 V c 2 t) (Rect.unit (s := S4096x128) (k1_off7 (grid1.coords t) ⟨n, hlt⟩) S1024x128.size
        (k1_off7_inb (grid1.coords t) ⟨n, hlt⟩)) (ix2 a d) = (v (pos n a) d : EReal) := fun a d =>
      (ld_rows _ _ (hi.trans h4) (off1_7 t ⟨n, hlt⟩) a d).trans (h.hv _ d)
    have hf : ∀ a, View.ld (iblk1 V c 5 t) (Rect.unit (s := S4x8x1024) (k1_off8 (grid1.coords t) ⟨n, hlt⟩) S1x1x1024.size
        (k1_off8_inb (grid1.coords t) ⟨n, hlt⟩)) (ix3 0 0 a) = (f (pos n a) : EReal) := fun a =>
      (ld_gates _ _ (hi.trans h4) (Nat.mod_lt _ (by decide)) (off1_8 t ⟨n, hlt⟩) a).trans (h.hf ⟨n, hi.trans h4⟩ a)
    refine (pay17_at h4 hi h.hq h.hg h.lcol_at hk hv hf h.rows1_at _ r d).trans ?_
    rw [Finset.sum_range_succ, EReal.coe_add]
    exact congrArg (· + _) (ih hlt.le)

/-- The point's row terms, as the block holds them. -/
theorem row_value (z : Fin 1) (r : Fin 1024) (x : Fin 128) :
    (outsAt1 V c t).2 (ix3 z r x) = (D q k v g f (pos (t.val % 4) r) : EReal) := by
  rw [row_point]
  refine Eq.trans ?_ (h.rows1_at r)
  unfold k1_pay2
  pointwise

/-- The point's gradients of the queries. -/
theorem dq_value (r : Fin 1024) (d : Fin 128) :
    (outsAt1 V c t).1 (ix2 r d) = (((∑ n, DS q k v g f (pos (t.val % 4) r) n * k n d) * scale : ℝ) : EReal) := by
  rw [dq_point]
  have ha := h.acc1_at r d _ le_rfl
  rw [trips1_3] at ha ⊢
  exact pay1_at (Nat.mod_lt _ (by decide)) h.hq h.hg h.lcol_at h.kown_at h.vown_at h.fown_at _ h.rows1_at _ r d ha

end Point1

end Cert.KernelFoxIdeal.Value
-- ==== Proof.FoxKeys.lean ====
/- The forgetting attention's key region: what one grid point leaves as its columns' gradients of the keys, the values and the gates. -/
module

public import proofs.«01_k».proof.Proof.FoxRows

@[expose] public section

set_option maxRecDepth 16384

noncomputable section

namespace Cert.KernelFoxIdeal.Value

open Gen Idealize.ShloMosaic TcCoe Idealize.SL.Sem
open Cert.Fox

/-! ## Loads -/

/-- A block of row numbers, its first lane. -/
theorem ld_col {off : Fin 3 → ℕ} (x : Vec Ideal S1x4096x128 .f32) (h : ∀ a, off a + ![1, 1024, 1] a ≤ S1x4096x128.size a)
    {j : ℕ} (hj : j < 4) (ho : off = ![0, 1024 * j, 0]) (n : Fin 1024) :
    View.ld x (Rect.unit (s := S1x4096x128) off ![1, 1024, 1] h) (ix3 0 n 0) = x (ix3 0 (pos j n) 0) := by
  subst ho
  show x _ = x _
  congr 1
  funext a
  apply Fin.ext
  match a with
  | ⟨0, _⟩ => rfl
  | ⟨1, _⟩ => show 1024 * j + 1 * n.val = (pos j n).val; rw [pos_val hj]; omega
  | ⟨2, _⟩ => rfl

/-- One head's gates of a block. -/
theorem ld_gate {off : Fin 3 → ℕ} (x : Vec Ideal S1x8x1024 .f32) (h : ∀ a, off a + ![1, 1, 1024] a ≤ S1x8x1024.size a)
    {z : ℕ} (hz : z < 8) (ho : off = ![0, z, 0]) (n : Fin 1024) :
    View.ld x (Rect.unit (s := S1x8x1024) off ![1, 1, 1024] h) (ix3 0 0 n) = x (ix3 0 ⟨z, hz⟩ n) := by
  subst ho
  show x _ = x _
  congr 1
  funext a
  apply Fin.ext
  match a with
  | ⟨0, _⟩ => rfl
  | ⟨1, _⟩ => show z + 1 * 0 = z; omega
  | ⟨2, _⟩ => show 0 + 1 * n.val = n.val; omega

/-! ## The steps -/

section Steps

variable {q k v g : Fin 4096 → Fin 128 → ℝ} {f : Fin 4096 → ℝ} {i j : ℕ}
variable {qb kb vb gb : Vec Ideal S1024x128 .bf16} {db lb : Vec Ideal S1x1024x1 .f32} {fb : Vec Ideal S1x1x1024 .f32}

/-- The masked weights of the diagonal block. -/
theorem pay12_at (hi : i < 4) (hq : ∀ r d, qb (ix2 r d) = (q (pos i r) d : EReal))
    (hl : ∀ r, lb (ix3 0 r 0) = (lse q k f (pos i r) : EReal)) (hk : ∀ n d, kb (ix2 n d) = (k (pos i n) d : EReal))
    (hf : ∀ n, fb (ix3 0 0 n) = (f (pos i n) : EReal)) (r n : Fin 1024) :
    k2_pay12 (k2_pay3 fb) (k2_pay10 lb) (k2_pay11 kb qb) (ix2 r n) = (P q k f (pos i r) (pos i n) : EReal) := by
  unfold k2_pay12 k2_pay11 k2_pay10 k2_pay7 k2_pay3 k2_pay1
  pointwise
  exact weights_diag hi hq hl hk hf r n

/-- The weights of a block after the diagonal one. -/
theorem pay19_at (hi : i < 4) (hj : j < i) (hq : ∀ r d, qb (ix2 r d) = (q (pos i r) d : EReal))
    (hl : ∀ r, lb (ix3 0 r 0) = (lse q k f (pos i r) : EReal)) (hk : ∀ n d, kb (ix2 n d) = (k (pos j n) d : EReal))
    (hf : ∀ n, fb (ix3 0 0 n) = (f (pos j n) : EReal)) (r n : Fin 1024) :
    k2_pay19 (k2_pay1 kb) (k2_pay3 fb) qb lb (ix2 r n) = (P q k f (pos i r) (pos j n) : EReal) := by
  unfold k2_pay19 k2_pay17 k2_pay3 k2_pay1
  pointwise
  exact weights_at hi hj hq hl hk hf r n

/-- The scores' gradients of the diagonal block. -/
theorem pay14_at (hi : i < 4) (hq : ∀ r d, qb (ix2 r d) = (q (pos i r) d : EReal))
    (hg : ∀ r d, gb (ix2 r d) = (g (pos i r) d : EReal)) (hd : ∀ r, db (ix3 0 r 0) = (D q k v g f (pos i r) : EReal))
    (hl : ∀ r, lb (ix3 0 r 0) = (lse q k f (pos i r) : EReal)) (hk : ∀ n d, kb (ix2 n d) = (k (pos i n) d : EReal))
    (hv : ∀ n d, vb (ix2 n d) = (v (pos i n) d : EReal)) (hf : ∀ n, fb (ix3 0 0 n) = (f (pos i n) : EReal)) (r n : Fin 1024) :
    k2_pay14 (k2_pay2 vb) (k2_pay3 fb) (k2_pay8 gb) (k2_pay9 db) (k2_pay10 lb) (k2_pay11 kb qb) (ix2 r n)
      = (DS q k v g f (pos i r) (pos i n) : EReal) := by
  unfold k2_pay14 k2_pay9 k2_pay8 k2_pay2
  pointwise
  rw [pay12_at hi hq hl hk hf, dweights_at hg hv, hd, ← EReal.coe_sub, ← EReal.coe_mul]
  rfl

/-- The scores' gradients of a block after the diagonal one. -/
theorem pay21_at (hi : i < 4) (hj : j < i) (hq : ∀ r d, qb (ix2 r d) = (q (pos i r) d : EReal))
    (hg : ∀ r d, gb (ix2 r d) = (g (pos i r) d : EReal)) (hd : ∀ r, db (ix3 0 r 0) = (D q k v g f (pos i r) : EReal))
    (hl : ∀ r, lb (ix3 0 r 0) = (lse q k f (pos i r) : EReal)) (hk : ∀ n d, kb (ix2 n d) = (k (pos j n) d : EReal))
    (hv : ∀ n d, vb (ix2 n d) = (v (pos j n) d : EReal)) (hf : ∀ n, fb (ix3 0 0 n) = (f (pos j n) : EReal)) (r n : Fin 1024) :
    k2_pay21 (k2_pay1 kb) (k2_pay2 vb) (k2_pay3 fb) qb gb db lb (ix2 r n) = (DS q k v g f (pos i r) (pos j n) : EReal) := by
  unfold k2_pay21 k2_pay18 k2_pay2
  pointwise
  rw [pay19_at hi hj hq hl hk hf, dweights_at hg hv, hd, ← EReal.coe_sub, ← EReal.coe_mul]
  rfl

/-- The loop's first values: the diagonal block's terms. -/
theorem first_at (hi : i < 4) (hq : ∀ r d, qb (ix2 r d) = (q (pos i r) d : EReal))
    (hg : ∀ r d, gb (ix2 r d) = (g (pos i r) d : EReal)) (hd : ∀ r, db (ix3 0 r 0) = (D q k v g f (pos i r) : EReal))
    (hl : ∀ r, lb (ix3 0 r 0) = (lse q k f (pos i r) : EReal)) (hk : ∀ n d, kb (ix2 n d) = (k (pos i n) d : EReal))
    (hv : ∀ n d, vb (ix2 n d) = (v (pos i n) d : EReal)) (hf : ∀ n, fb (ix3 0 0 n) = (f (pos i n) : EReal)) (n : Fin 1024) :
    (∀ d, k2_pay15 (k2_pay2 vb) (k2_pay3 fb) k2_pay4 (k2_pay7 qb) (k2_pay8 gb) (k2_pay9 db) (k2_pay10 lb) (k2_pay11 kb qb) (ix2 n d)
        = ((∑ r, DS q k v g f (pos i r) (pos i n) * q (pos i r) d : ℝ) : EReal))
    ∧ (∀ d, k2_pay13 (k2_pay3 fb) k2_pay5 (k2_pay8 gb) (k2_pay10 lb) (k2_pay11 kb qb) (ix2 n d)
        = ((∑ r, P q k f (pos i r) (pos i n) * g (pos i r) d : ℝ) : EReal))
    ∧ k2_pay16 (k2_pay2 vb) (k2_pay3 fb) k2_pay6 (k2_pay8 gb) (k2_pay9 db) (k2_pay10 lb) (k2_pay11 kb qb) (ix2 0 n)
        = ((-∑ r, DS q k v g f (pos i r) (pos i n) : ℝ) : EReal) := by
  refine ⟨fun d => ?_, fun d => ?_, ?_⟩
  · unfold k2_pay15 k2_pay7 k2_pay4
    pointwise
    rw [coe_sum]
    exact Finset.sum_congr rfl fun r _ => by rw [pay14_at hi hq hg hd hl hk hv hf, hq, EReal.coe_mul]
  · unfold k2_pay13 k2_pay8 k2_pay5
    pointwise
    rw [coe_sum]
    exact Finset.sum_congr rfl fun r _ => by rw [pay12_at hi hq hl hk hf, hg, EReal.coe_mul]
  · unfold k2_pay16 k2_pay6
    pointwise
    rw [Finset.sum_congr rfl fun r _ => pay14_at hi hq hg hd hl hk hv hf r n, ← coe_sum]
    simp

/-- One step: the terms of a block after the diagonal one. -/
theorem step_at (hi : i < 4) (hj : j < i) (hq : ∀ r d, qb (ix2 r d) = (q (pos i r) d : EReal))
    (hg : ∀ r d, gb (ix2 r d) = (g (pos i r) d : EReal)) (hd : ∀ r, db (ix3 0 r 0) = (D q k v g f (pos i r) : EReal))
    (hl : ∀ r, lb (ix3 0 r 0) = (lse q k f (pos i r) : EReal)) (hk : ∀ n d, kb (ix2 n d) = (k (pos j n) d : EReal))
    (hv : ∀ n d, vb (ix2 n d) = (v (pos j n) d : EReal)) (hf : ∀ n, fb (ix3 0 0 n) = (f (pos j n) : EReal))
    (a b : FVec Ideal S1024x128 .f32) (e : FVec Ideal S1x1024 .f32) (n : Fin 1024) :
    (∀ d, k2_pay22 (k2_pay1 kb) (k2_pay2 vb) (k2_pay3 fb) a qb gb db lb (ix2 n d)
        = a (ix2 n d) + ((∑ r, DS q k v g f (pos i r) (pos j n) * q (pos i r) d : ℝ) : EReal))
    ∧ (∀ d, k2_pay20 (k2_pay1 kb) (k2_pay3 fb) b qb gb lb (ix2 n d)
        = b (ix2 n d) + ((∑ r, P q k f (pos i r) (pos j n) * g (pos i r) d : ℝ) : EReal))
    ∧ k2_pay23 (k2_pay1 kb) (k2_pay2 vb) (k2_pay3 fb) e qb gb db lb (ix2 0 n)
        = e (ix2 0 n) - ((∑ r, DS q k v g f (pos i r) (pos j n) : ℝ) : EReal) := by
  refine ⟨fun d => ?_, fun d => ?_, ?_⟩
  · unfold k2_pay22 k2_pay17
    pointwise
    rw [coe_sum]
    congr 1
    exact Finset.sum_congr rfl fun r _ => by rw [pay21_at hi hj hq hg hd hl hk hv hf, hq, EReal.coe_mul]
  · unfold k2_pay20 k2_pay18
    pointwise
    rw [coe_sum]
    congr 1
    exact Finset.sum_congr rfl fun r _ => by rw [pay19_at hi hj hq hl hk hf, hg, EReal.coe_mul]
  · unfold k2_pay23
    pointwise
    rw [Finset.sum_congr rfl fun r _ => pay21_at hi hj hq hg hd hl hk hv hf r n, ← coe_sum]

end Steps

/-! ## A grid point -/

theorem trips2_1 : ∀ t : Fin cfg2.N, (k2_t1_loop (grid2.coords t)).trips = 3 - t.val % 4 := by decide +kernel
theorem trips2_2 : ∀ t : Fin cfg2.N, (k2_t2_loop (grid2.coords t)).trips = 0 := by decide +kernel
theorem off2_1 : ∀ t : Fin cfg2.N, k2_off1 (grid2.coords t) = ![0, t.val / 4 % 8, 0] := by decide +kernel
theorem off2_2 : ∀ t : Fin cfg2.N, k2_off2 (grid2.coords t) = ![1024 * (t.val % 4), 0] := by decide +kernel
theorem off2_3 : ∀ t : Fin cfg2.N, k2_off3 (grid2.coords t) = ![0, 1024 * (t.val % 4), 0] := by decide +kernel
theorem off2_4 : ∀ t : Fin cfg2.N, ∀ k : Fin (k2_t1_loop (grid2.coords t)).trips,
    k2_off4 (grid2.coords t) k = ![1024 * (t.val % 4 + 1 + k.val), 0] := by decide +kernel
theorem off2_5 : ∀ t : Fin cfg2.N, ∀ k : Fin (k2_t1_loop (grid2.coords t)).trips,
    k2_off5 (grid2.coords t) k = ![0, 1024 * (t.val % 4 + 1 + k.val), 0] := by decide +kernel

variable (V : (c : Dev nD) → (b : Ref sig .tc) → Buf (Elt Ideal) ((c : Thread nD τ).loc b))

/-- The queries of the diagonal block. -/
abbrev q2 (c : Dev nD) (t : Fin cfg2.N) : Vec Ideal S1024x128 .bf16 :=
  View.ld (iblk2 V c 0 t) (Rect.unit (s := S4096x128) (k2_off2 (grid2.coords t)) S1024x128.size (k2_off2_inb (grid2.coords t)))
/-- The output's gradients of the diagonal block. -/
abbrev g2 (c : Dev nD) (t : Fin cfg2.N) : Vec Ideal S1024x128 .bf16 :=
  View.ld (iblk2 V c 3 t) (Rect.unit (s := S4096x128) (k2_off2 (grid2.coords t)) S1024x128.size (k2_off2_inb (grid2.coords t)))
/-- The row terms of the diagonal block. -/
abbrev d2 (c : Dev nD) (t : Fin cfg2.N) : Vec Ideal S1x1024x1 .f32 :=
  View.ld (iblk2 V c 4 t) (Rect.unit (s := S1x4096x128) (k2_off3 (grid2.coords t)) S1x1024x1.size (k2_off3_inb (grid2.coords t)))
/-- The logarithms of the diagonal block. -/
abbrev l2 (c : Dev nD) (t : Fin cfg2.N) : Vec Ideal S1x1024x1 .f32 :=
  View.ld (iblk2 V c 5 t) (Rect.unit (s := S1x4096x128) (k2_off3 (grid2.coords t)) S1x1024x1.size (k2_off3_inb (grid2.coords t)))
/-- The point's gates. -/
abbrev f2 (c : Dev nD) (t : Fin cfg2.N) : Vec Ideal S1x1x1024 .f32 :=
  View.ld (iblk2 V c 6 t) (Rect.unit (s := S1x8x1024) (k2_off1 (grid2.coords t)) S1x1x1024.size (k2_off1_inb (grid2.coords t)))

/-- The loop's three running sums before step `n` of grid point `t`. -/
def run2 (c : Dev nD) (t : Fin cfg2.N) (n : ℕ) : FVec Ideal S1024x128 .f32 × FVec Ideal S1024x128 .f32 × FVec Ideal S1x1024 .f32 :=
  st_k2_t1 (F := Ideal) Variants.none c none (grid2.coords t) (ms2_0 t) (hs2_0 t) (ms2_1 t) (hs2_1 t) (ms2_2 t) (hs2_2 t)
    (ms2_3 t) (hs2_3 t) (ms2_4 t) (hs2_4 t) (ms2_5 t) (hs2_5 t) (ms2_6 t) (hs2_6 t) (ms2_7 t) (hs2_7 t) (ms2_8 t) (hs2_8 t)
    (ms2_9 t) (hs2_9 t) (BitVec.ofNat 32 (grid2.coords t 1).val) (k2_pay1 (iblk2 V c 1 t)) (k2_pay2 (iblk2 V c 2 t))
    (k2_pay3 (f2 V c t)) k2_pay4 k2_pay5 k2_pay6 (k2_pay7 (q2 V c t)) (k2_pay8 (g2 V c t)) (k2_pay9 (d2 V c t))
    (k2_pay10 (l2 V c t)) (k2_pay11 (iblk2 V c 1 t) (q2 V c t)) ((hs2_0 t).unread (iblk2 V c 0 t))
    ((hs2_3 t).unread (iblk2 V c 3 t)) ((hs2_4 t).unread (iblk2 V c 4 t)) ((hs2_5 t).unread (iblk2 V c 5 t))
    (k2_pay15 (k2_pay2 (iblk2 V c 2 t)) (k2_pay3 (f2 V c t)) k2_pay4 (k2_pay7 (q2 V c t)) (k2_pay8 (g2 V c t)) (k2_pay9 (d2 V c t))
        (k2_pay10 (l2 V c t)) (k2_pay11 (iblk2 V c 1 t) (q2 V c t)),
      k2_pay13 (k2_pay3 (f2 V c t)) k2_pay5 (k2_pay8 (g2 V c t)) (k2_pay10 (l2 V c t)) (k2_pay11 (iblk2 V c 1 t) (q2 V c t)),
      k2_pay16 (k2_pay2 (iblk2 V c 2 t)) (k2_pay3 (f2 V c t)) k2_pay6 (k2_pay8 (g2 V c t)) (k2_pay9 (d2 V c t))
        (k2_pay10 (l2 V c t)) (k2_pay11 (iblk2 V c 1 t) (q2 V c t))) n

theorem hz4 : (![0, 0, 0, 0] : Fin 4 → ℕ) = fun _ => 0 := by decide

/-- What the point leaves in the block of the keys' gradients. -/
theorem dk_point (c : Dev nD) (t : Fin cfg2.N) :
    (outsAt2 V c t).1 = k2_pay31 (run2 V c t (k2_t1_loop (grid2.coords t)).trips).1 := by
  unfold outsAt2
  dsimp only
  unfold out2_A_7
  rw [View.read_writes_eq_canon _ _ _ (fun y => cover2_A_7 (y := y) ..)]
  unfold kernelRun2_A
  dsimp only
  rw [View.canon_unit_zero (S := S1024x128) hz2]
  unfold kernelRun2_A.sl.r kernelRun2_A.sl.r_1 kernelRun2_A.sl.r_2 kernelRun2_A.sl.r_3 kernelRun2_A.sl.r_4
    kernelRun2_A.sl.r_5 kernelRun2_A.sl.r_6 kernelRun2_A.sl.r_7
  simp only [View.readAt_eq_ld, (hs2_0 t).read_unread, (hs2_1 t).read_unread, (hs2_2 t).read_unread, (hs2_3 t).read_unread,
    (hs2_4 t).read_unread, (hs2_5 t).read_unread, (hs2_6 t).read_unread, View.ld_unit_zero (S := S1024x128) hz2]
  have e2 := trips2_2 t
  dsimp only [k2_t2_loop, Scf.Loop.trips] at e2
  rw [e2, st_k2_t2_zero]
  rfl

/-- What the point leaves in the block of the values' gradients. -/
theorem dv_point (c : Dev nD) (t : Fin cfg2.N) :
    (outsAt2 V c t).2.1 = k2_pay32 (run2 V c t (k2_t1_loop (grid2.coords t)).trips).2.1 := by
  unfold outsAt2
  dsimp only
  unfold out2_A_8
  rw [View.read_writes_eq_canon _ _ _ (fun y => cover2_A_8 (y := y) ..)]
  unfold kernelRun2_A
  dsimp only
  rw [View.canon_unit_zero (S := S1024x128) hz2]
  unfold kernelRun2_A.sl.r kernelRun2_A.sl.r_1 kernelRun2_A.sl.r_2 kernelRun2_A.sl.r_3 kernelRun2_A.sl.r_4
    kernelRun2_A.sl.r_5 kernelRun2_A.sl.r_6 kernelRun2_A.sl.r_7
  simp only [View.readAt_eq_ld, (hs2_0 t).read_unread, (hs2_1 t).read_unread, (hs2_2 t).read_unread, (hs2_3 t).read_unread,
    (hs2_4 t).read_unread, (hs2_5 t).read_unread, (hs2_6 t).read_unread, View.ld_unit_zero (S := S1024x128) hz2]
  have e2 := trips2_2 t
  dsimp only [k2_t2_loop, Scf.Loop.trips] at e2
  rw [e2, st_k2_t2_zero]
  rfl

/-- What the point leaves in the block of the gates' gradients. -/
theorem dfk_point (c : Dev nD) (t : Fin cfg2.N) :
    (outsAt2 V c t).2.2 = k2_pay33 (run2 V c t (k2_t1_loop (grid2.coords t)).trips).2.2 := by
  unfold outsAt2
  dsimp only
  unfold out2_A_9
  rw [View.read_writes_eq_canon _ _ _ (fun y => cover2_A_9 (y := y) ..)]
  unfold kernelRun2_A
  dsimp only
  rw [View.canon_unit_zero (S := S1x1x8x1024) hz4]
  unfold kernelRun2_A.sl.r_8 kernelRun2_A.sl.r kernelRun2_A.sl.r_1 kernelRun2_A.sl.r_2 kernelRun2_A.sl.r_3 kernelRun2_A.sl.r_4
    kernelRun2_A.sl.r_5 kernelRun2_A.sl.r_6 kernelRun2_A.sl.r_7
  simp only [View.readAt_eq_ld, (hs2_0 t).read_unread, (hs2_1 t).read_unread, (hs2_2 t).read_unread, (hs2_3 t).read_unread,
    (hs2_4 t).read_unread, (hs2_5 t).read_unread, (hs2_6 t).read_unread, View.ld_unit_zero (S := S1024x128) hz2]
  have e2 := trips2_2 t
  dsimp only [k2_t2_loop, Scf.Loop.trips] at e2
  rw [e2, st_k2_t2_zero]
  rfl

/-- What the blocks of a point hold: all queries, gradients, row terms and logarithms, the point's keys, values and gates. -/
structure Point2 (c : Dev nD) (t : Fin cfg2.N) (q k v g : Fin 4096 → Fin 128 → ℝ) (f : Fin 4096 → ℝ) : Prop where
  hq : ∀ r d, iblk2 V c 0 t (ix2 r d) = (q r d : EReal)
  hk : ∀ n d, iblk2 V c 1 t (ix2 n d) = (k (pos (t.val % 4) n) d : EReal)
  hv : ∀ n d, iblk2 V c 2 t (ix2 n d) = (v (pos (t.val % 4) n) d : EReal)
  hg : ∀ r d, iblk2 V c 3 t (ix2 r d) = (g r d : EReal)
  hd : ∀ r, iblk2 V c 4 t (ix3 0 r 0) = (D q k v g f r : EReal)
  hl : ∀ r, iblk2 V c 5 t (ix3 0 r 0) = (lse q k f r : EReal)
  hf : ∀ n, iblk2 V c 6 t (ix3 0 ⟨t.val / 4 % 8, Nat.mod_lt _ (by decide)⟩ n) = (f (pos (t.val % 4) n) : EReal)

namespace Point2

variable {V} {c : Dev nD} {t : Fin cfg2.N} {q k v g : Fin 4096 → Fin 128 → ℝ} {f : Fin 4096 → ℝ}
variable (h : Point2 V c t q k v g f)
include h

theorem f2_at (n : Fin 1024) : f2 V c t (ix3 0 0 n) = (f (pos (t.val % 4) n) : EReal) :=
  (ld_gate _ _ (Nat.mod_lt _ (by decide)) (off2_1 t) n).trans (h.hf n)

/-- The loop's invariant. -/
theorem run2_at (x : Fin 1024) (n : ℕ) (hn : n ≤ (k2_t1_loop (grid2.coords t)).trips) :
    (∀ d, (run2 V c t n).1 (ix2 x d) = ((∑ r, DS q k v g f (pos (t.val % 4) r) (pos (t.val % 4) x) * q (pos (t.val % 4) r) d
        + ∑ j ∈ Finset.range n, ∑ r, DS q k v g f (pos (t.val % 4 + 1 + j) r) (pos (t.val % 4) x)
          * q (pos (t.val % 4 + 1 + j) r) d : ℝ) : EReal))
    ∧ (∀ d, (run2 V c t n).2.1 (ix2 x d) = ((∑ r, P q k f (pos (t.val % 4) r) (pos (t.val % 4) x) * g (pos (t.val % 4) r) d
        + ∑ j ∈ Finset.range n, ∑ r, P q k f (pos (t.val % 4 + 1 + j) r) (pos (t.val % 4) x)
          * g (pos (t.val % 4 + 1 + j) r) d : ℝ) : EReal))
    ∧ (run2 V c t n).2.2 (ix2 0 x) = ((-(∑ r, DS q k v g f (pos (t.val % 4) r) (pos (t.val % 4) x)
        + ∑ j ∈ Finset.range n, ∑ r, DS q k v g f (pos (t.val % 4 + 1 + j) r) (pos (t.val % 4) x)) : ℝ) : EReal) := by
  have h4 : t.val % 4 < 4 := Nat.mod_lt _ (by decide)
  induction n with
  | zero =>
    unfold run2
    rw [st_k2_t1_zero]
    simp only [Finset.range_zero, Finset.sum_empty, add_zero]
    exact first_at h4 (fun r d => (ld_rows _ _ h4 (off2_2 t) r d).trans (h.hq _ d))
      (fun r d => (ld_rows _ _ h4 (off2_2 t) r d).trans (h.hg _ d)) (fun r => (ld_col _ _ h4 (off2_3 t) r).trans (h.hd _))
      (fun r => (ld_col _ _ h4 (off2_3 t) r).trans (h.hl _)) h.hk h.hv h.f2_at x
  | succ n ih =>
    have hlt : n < (k2_t1_loop (grid2.coords t)).trips := hn
    have hi : t.val % 4 + 1 + n < 4 := by rw [trips2_1] at hlt; omega
    have hj : t.val % 4 < t.val % 4 + 1 + n := by omega
    obtain ⟨iha, ihb, ihe⟩ := ih hlt.le
    have e : run2 V c t (n + 1) = _ := st_k2_t1_succ (F := Ideal) Variants.none c none (grid2.coords t) (ms2_0 t) (hs2_0 t)
      (ms2_1 t) (hs2_1 t) (ms2_2 t) (hs2_2 t) (ms2_3 t) (hs2_3 t) (ms2_4 t) (hs2_4 t) (ms2_5 t) (hs2_5 t) (ms2_6 t) (hs2_6 t)
      (ms2_7 t) (hs2_7 t) (ms2_8 t) (hs2_8 t) (ms2_9 t) (hs2_9 t) (BitVec.ofNat 32 (grid2.coords t 1).val)
      (k2_pay1 (iblk2 V c 1 t)) (k2_pay2 (iblk2 V c 2 t)) (k2_pay3 (f2 V c t)) k2_pay4 k2_pay5 k2_pay6 (k2_pay7 (q2 V c t))
      (k2_pay8 (g2 V c t)) (k2_pay9 (d2 V c t)) (k2_pay10 (l2 V c t)) (k2_pay11 (iblk2 V c 1 t) (q2 V c t))
      ((hs2_0 t).unread (iblk2 V c 0 t)) ((hs2_3 t).unread (iblk2 V c 3 t)) ((hs2_4 t).unread (iblk2 V c 4 t))
      ((hs2_5 t).unread (iblk2 V c 5 t)) _ ⟨n, hlt⟩
    rw [e]
    unfold tripR_k2_t1 trip_k2_t1
    dsimp only
    simp only [View.readAt_eq_ld, (hs2_0 t).read_unread, (hs2_3 t).read_unread, (hs2_4 t).read_unread, (hs2_5 t).read_unread]
    obtain ⟨sa, sb, se⟩ := step_at (a := (run2 V c t n).1) (b := (run2 V c t n).2.1) (e := (run2 V c t n).2.2) hi hj
      (fun r d => (ld_rows _ (k2_off4_inb (grid2.coords t) ⟨n, hlt⟩) hi (off2_4 t ⟨n, hlt⟩) r d).trans (h.hq _ d))
      (fun r d => (ld_rows _ (k2_off4_inb (grid2.coords t) ⟨n, hlt⟩) hi (off2_4 t ⟨n, hlt⟩) r d).trans (h.hg _ d))
      (fun r => (ld_col _ (k2_off5_inb (grid2.coords t) ⟨n, hlt⟩) hi (off2_5 t ⟨n, hlt⟩) r).trans (h.hd _))
      (fun r => (ld_col _ (k2_off5_inb (grid2.coords t) ⟨n, hlt⟩) hi (off2_5 t ⟨n, hlt⟩) r).trans (h.hl _)) h.hk h.hv h.f2_at x
    refine ⟨fun d => (sa d).trans ?_, fun d => (sb d).trans ?_, se.trans ?_⟩
    · rw [iha, ← EReal.coe_add, Finset.sum_range_succ, add_assoc]
    · rw [ihb, ← EReal.coe_add, Finset.sum_range_succ, add_assoc]
    · rw [ihe, ← EReal.coe_sub, Finset.sum_range_succ]
      congr 1
      ring

/-- The point's gradients of the keys. -/
theorem dk_value (x : Fin 1024) (d : Fin 128) :
    (outsAt2 V c t).1 (ix2 x d) = ((∑ r, DS q k v g f r (pos (t.val % 4) x) * q r d : ℝ) : EReal) := by
  have h4 : t.val % 4 < 4 := Nat.mod_lt _ (by decide)
  rw [dk_point]
  refine Eq.trans ?_ ((h.run2_at x _ le_rfl).1 d |>.trans ?_)
  · unfold k2_pay31
    pointwise
  · rw [trips2_1, ← sum_from (fun r => DS q k v g f r (pos (t.val % 4) x) * q r d) h4]
    exact fun j hj r => by rw [DS_after q k v g f h4 hj, zero_mul]

/-- The point's gradients of the values. -/
theorem dv_value (x : Fin 1024) (d : Fin 128) :
    (outsAt2 V c t).2.1 (ix2 x d) = ((∑ r, P q k f r (pos (t.val % 4) x) * g r d : ℝ) : EReal) := by
  have h4 : t.val % 4 < 4 := Nat.mod_lt _ (by decide)
  rw [dv_point]
  refine Eq.trans ?_ ((h.run2_at x _ le_rfl).2.1 d |>.trans ?_)
  · unfold k2_pay32
    pointwise
  · rw [trips2_1, ← sum_from (fun r => P q k f r (pos (t.val % 4) x) * g r d) h4]
    exact fun j hj r => by rw [P_after q k f h4 hj, zero_mul]

/-- The point's gradients of the gates. -/
theorem dfk_value (y z : Fin 1) (u : Fin 8) (x : Fin 1024) :
    (outsAt2 V c t).2.2 (ix4 y z u x) = ((-∑ r, DS q k v g f r (pos (t.val % 4) x) : ℝ) : EReal) := by
  have h4 : t.val % 4 < 4 := Nat.mod_lt _ (by decide)
  rw [dfk_point]
  refine Eq.trans ?_ ((h.run2_at x _ le_rfl).2.2.trans ?_)
  · unfold k2_pay33
    pointwise
  · rw [trips2_1, ← sum_from (fun r => DS q k v g f r (pos (t.val % 4) x)) h4]
    exact fun j hj r => DS_after q k v g f h4 hj _ _

end Point2

end Cert.KernelFoxIdeal.Value
-- ==== Proof.FoxHost.lean ====
/- What the forgetting attention's regions find in their operands' arrays: the casts, the scaled queries and the regrouped gates. -/
module

public import proofs.«01_k».proof.Proof.FoxKeys
public import Idealize.ShloMosaic.Lib.KernelVsHost

@[expose] public section

noncomputable section

namespace Cert.KernelFoxIdeal.Value

open Gen Idealize.ShloMosaic TcCoe Idealize.SL.Sem
open Cert.Fox

variable (m : (ℓ : Loc nD τ sig) → Buf (Elt Ideal) ℓ) (ρ : Dev nD → PrngReg)

theorem v2_eq (c : Dev nD) : W3 m ρ c (Proc.devRef .tc main_v2) = truncf .bf16 (mulf (m (c.tc.loc main_arg0))
    (broadcastInDim S4096x2048 ![] bcast_S_S4096x2048 (constant (F := Ideal) S_ .f32 0x3DB504F3#32))) bitsLt_bf16_f32 := by
  rw [W3_of m ρ c main_v2 (by decide), W2_of m ρ c main_v2 (by decide)]
  after_results

theorem v3_eq (c : Dev nD) : W3 m ρ c (Proc.devRef .tc main_v3) = truncf (F := Ideal) .bf16 (m (c.tc.loc main_arg1)) bitsLt_bf16_f32 := by
  rw [W3_of m ρ c main_v3 (by decide), W2_of m ρ c main_v3 (by decide)]
  after_results

theorem v4_eq (c : Dev nD) : W3 m ρ c (Proc.devRef .tc main_v4) = truncf (F := Ideal) .bf16 (m (c.tc.loc main_arg2)) bitsLt_bf16_f32 := by
  rw [W3_of m ρ c main_v4 (by decide), W2_of m ρ c main_v4 (by decide)]
  after_results

theorem v5_eq (c : Dev nD) : W3 m ρ c (Proc.devRef .tc main_v5) = truncf (F := Ideal) .bf16 (m (c.tc.loc main_arg4)) bitsLt_bf16_f32 := by
  rw [W3_of m ρ c main_v5 (by decide), W2_of m ρ c main_v5 (by decide)]
  after_results

/-- The gates of head `h` at position `pos j n` are row `h` of block `j`. -/
theorem v8_at (c : Dev nD) (j : Fin 4) (h : Fin 16) (n : Fin 1024) :
    W3 m ρ c (Proc.devRef .tc main_v8) (ix3 j ⟨h.val, by omega⟩ n) = m (c.tc.loc main_arg3) (ix2 h (pos j.val n)) := by
  after_results
  pointwise
  refine pad_apply_of_inside (s := S16x4096) (t := S128x4096) ![0, 0] ![112, 0] ![0, 0] (m (c.tc.loc main_arg3)) _
    pads_S16x4096_S128x4096_01120_000 h_S_ _ (ix2 h (pos j.val n)) fun a => ?_
  match a with
  | ⟨0, _⟩ => show h.val = 0 + h.val * 1; omega
  | ⟨1, _⟩ => show j.val * 1024 + n.val = 0 + (pos j.val n).val * 1; rw [pos_val j.isLt]; omega

/-- A whole argument's entries that are real numbers. -/
structure Reals (c : Dev nD) (Q K V G : Fin 4096 → Fin 2048 → ℝ) (A : Fin 16 → Fin 4096 → ℝ) : Prop where
  hQ : ∀ i l, m (c.tc.loc main_arg0) (ix2 i l) = (Q i l : EReal)
  hK : ∀ i l, m (c.tc.loc main_arg1) (ix2 i l) = (K i l : EReal)
  hV : ∀ i l, m (c.tc.loc main_arg2) (ix2 i l) = (V i l : EReal)
  hA : ∀ h i, m (c.tc.loc main_arg3) (ix2 h i) = (A h i : EReal)
  hG : ∀ i l, m (c.tc.loc main_arg4) (ix2 i l) = (G i l : EReal)

namespace Reals

variable {m} {c : Dev nD} {Q K V G : Fin 4096 → Fin 2048 → ℝ} {A : Fin 16 → Fin 4096 → ℝ}
variable (h : Reals m c Q K V G A)
include h

theorem q_at (i : Fin 4096) (l : Fin 2048) : W3 m ρ c (Proc.devRef .tc main_v2) (ix2 i l) = ((Q i l * scale : ℝ) : EReal) := by
  rw [v2_eq, EReal.coe_mul, ← h.hQ, ← scale_eq]
  pointwise

theorem k_at (i : Fin 4096) (l : Fin 2048) : W3 m ρ c (Proc.devRef .tc main_v3) (ix2 i l) = (K i l : EReal) := by
  rw [v3_eq, ← h.hK]
  pointwise

theorem v_at (i : Fin 4096) (l : Fin 2048) : W3 m ρ c (Proc.devRef .tc main_v4) (ix2 i l) = (V i l : EReal) := by
  rw [v4_eq, ← h.hV]
  pointwise

theorem g_at (i : Fin 4096) (l : Fin 2048) : W3 m ρ c (Proc.devRef .tc main_v5) (ix2 i l) = (G i l : EReal) := by
  rw [v5_eq, ← h.hG]
  pointwise

theorem f_at (j : Fin 4) (z : Fin 16) (n : Fin 1024) :
    W3 m ρ c (Proc.devRef .tc main_v8) (ix3 j ⟨z.val, by omega⟩ n) = (A z (pos j.val n) : EReal) :=
  (v8_at m ρ c j z n).trans (h.hA _ _)

end Reals

end Cert.KernelFoxIdeal.Value
-- ==== Proof.FoxArrays.lean ====
/- The forgetting attention's arrays, region by region: the logarithms of the row sums, the row terms, the gradients. -/
module

public import proofs.«01_k».proof.Proof.FoxHost

@[expose] public section

noncomputable section

namespace Cert.KernelFoxIdeal.Value

open Gen Idealize.ShloMosaic TcCoe Idealize.SL.Sem
open Pipeline (Dat)
open Cert.Fox

/-! ## Grid points and blocks -/

/-- Lane `d` of head `h`. -/
def lane (h : Fin 16) (d : Fin 128) : Fin 2048 := ⟨h.val * 128 + d.val, by omega⟩

theorem exists_lane (l : Fin 2048) : ∃ h d, l = lane h d :=
  ⟨⟨l.val / 128, by omega⟩, ⟨l.val % 128, by omega⟩, Fin.ext (show l.val = l.val / 128 * 128 + l.val % 128 by omega)⟩

theorem ix2_of {a b : ℕ} (j : (⟨2, ![a, b]⟩ : Shape).Idx) (x : Fin a) (y : Fin b) (h0 : (j 0).val = x.val) (h1 : (j 1).val = y.val) :
    j = ix2 x y := by
  rw [eq_ix2 j]
  congr 1
  · exact Fin.ext h0
  · exact Fin.ext h1

theorem ix3_of {a b c : ℕ} (j : (⟨3, ![a, b, c]⟩ : Shape).Idx) (x : Fin a) (y : Fin b) (z : Fin c) (h0 : (j 0).val = x.val)
    (h1 : (j 1).val = y.val) (h2 : (j 2).val = z.val) : j = ix3 x y z := by
  rw [eq_ix3 j]
  congr 1
  · exact Fin.ext h0
  · exact Fin.ext h1
  · exact Fin.ext h2

theorem ix4_of {a b c d : ℕ} (j : (⟨4, ![a, b, c, d]⟩ : Shape).Idx) (x : Fin a) (y : Fin b) (z : Fin c) (u : Fin d) (h0 : (j 0).val = x.val)
    (h1 : (j 1).val = y.val) (h2 : (j 2).val = z.val) (h3 : (j 3).val = u.val) : j = ix4 x y z u := by
  rw [eq_ix4 j]
  congr 1
  · exact Fin.ext h0
  · exact Fin.ext h1
  · exact Fin.ext h2
  · exact Fin.ext h3

/-- The head of a grid point. -/
def hd (t : Fin 64) : Fin 16 := ⟨t.val / 4, by omega⟩

variable (V : (c : Dev nD) → (b : Ref sig .tc) → Buf (Elt Ideal) ((c : Thread nD τ).loc b))

/-! ## The forward region's blocks -/

theorem index0_0 : ∀ t : Fin cfg0.N, win0_0.index t 0 = t.val % 4 ∧ win0_0.index t 1 = t.val / 4 := by decide +kernel

theorem blk0_0 (c : Dev nD) (t : Fin cfg0.N) (r : Fin 1024) (d : Fin 128) :
    iblk0 V c 0 t (ix2 r d) = V c main_v2 (ix2 (pos (t.val % 4) r) (lane (hd t) d)) := by
  obtain ⟨h0, h1⟩ := index0_0 t
  exact congrArg (V c main_v2) (ix2_of _ _ _
    (show win0_0.index t 0 * 1024 + 1 * r.val = (pos (t.val % 4) r).val by rw [h0, pos_val (Nat.mod_lt _ (by decide))]; omega)
    (show win0_0.index t 1 * 128 + 1 * d.val = t.val / 4 * 128 + d.val by rw [h1]; omega))

theorem index0_1 : ∀ t : Fin cfg0.N, win0_1.index t 0 = 0 ∧ win0_1.index t 1 = t.val / 4 := by decide +kernel

theorem blk0_1 (c : Dev nD) (t : Fin cfg0.N) (n : Fin 4096) (d : Fin 128) :
    iblk0 V c 1 t (ix2 n d) = V c main_v3 (ix2 n (lane (hd t) d)) := by
  obtain ⟨h0, h1⟩ := index0_1 t
  exact congrArg (V c main_v3) (ix2_of _ _ _
    (show win0_1.index t 0 * 4096 + 1 * n.val = n.val by rw [h0]; omega)
    (show win0_1.index t 1 * 128 + 1 * d.val = t.val / 4 * 128 + d.val by rw [h1]; omega))

theorem index0_2 : ∀ t : Fin cfg0.N, win0_2.index t 0 = 0 ∧ win0_2.index t 1 = t.val / 4 := by decide +kernel

theorem blk0_2 (c : Dev nD) (t : Fin cfg0.N) (n : Fin 4096) (d : Fin 128) :
    iblk0 V c 2 t (ix2 n d) = V c main_v4 (ix2 n (lane (hd t) d)) := by
  obtain ⟨h0, h1⟩ := index0_2 t
  exact congrArg (V c main_v4) (ix2_of _ _ _
    (show win0_2.index t 0 * 4096 + 1 * n.val = n.val by rw [h0]; omega)
    (show win0_2.index t 1 * 128 + 1 * d.val = t.val / 4 * 128 + d.val by rw [h1]; omega))

theorem index0_3 : ∀ t : Fin cfg0.N, win0_3.index t 0 = 0 ∧ win0_3.index t 1 = t.val / 32 ∧ win0_3.index t 2 = 0 := by decide +kernel

theorem blk0_3 (c : Dev nD) (t : Fin cfg0.N) (j : Fin 4) (n : Fin 1024) :
    iblk0 V c 3 t (ix3 j ⟨t.val / 4 % 8, Nat.mod_lt _ (by decide)⟩ n) = V c main_v8 (ix3 j ⟨(hd t).val, by omega⟩ n) := by
  obtain ⟨h0, h1, h2⟩ := index0_3 t
  exact congrArg (V c main_v8) (ix3_of _ _ _ _
    (show win0_3.index t 0 * 4 + 1 * j.val = j.val by rw [h0]; omega)
    (show win0_3.index t 1 * 8 + 1 * (t.val / 4 % 8) = t.val / 4 by rw [h1]; omega)
    (show win0_3.index t 2 * 1024 + 1 * n.val = n.val by rw [h2]; omega))

theorem index0_4 : ∀ t : Fin cfg0.N, win0_4.index t 0 = t.val % 4 ∧ win0_4.index t 1 = t.val / 4 := by decide +kernel

theorem inj0_4 : ∀ t t' : Fin cfg0.N, win0_4.index t = win0_4.index t' → t = t' := by decide +kernel

theorem arr0_4 (c : Dev nD) (t : Fin cfg0.N) (r : Fin 1024) (d : Fin 128) :
    (dat0 V c).arrAt 4 cfg0.N (ix2 (pos (t.val % 4) r) (lane (hd t) d)) = (dat0 V c).after 4 t (ix2 r d) := by
  have h := (dat0 V c).arrAt_emb_eq_flushed 4 (fun t t' _ _ hne => (cfg0.win 4).disjoint_blk fun h => hne (inj0_4 t t' h)) t
    (flush0_4 t) (ix2 r d)
  obtain ⟨h0, h1⟩ := index0_4 t
  rwa [show ((cfg0.win 4).blk t).view.emb (ix2 r d) = ix2 (pos (t.val % 4) r) (lane (hd t) d) from ix2_of _ _ _
    (show win0_4.index t 0 * 1024 + 1 * r.val = (pos (t.val % 4) r).val by rw [h0, pos_val (Nat.mod_lt _ (by decide))]; omega)
    (show win0_4.index t 1 * 128 + 1 * d.val = t.val / 4 * 128 + d.val by rw [h1]; omega)] at h

theorem index0_5 : ∀ t : Fin cfg0.N, win0_5.index t 0 = t.val / 4 ∧ win0_5.index t 1 = t.val % 4 ∧ win0_5.index t 2 = 0 := by decide +kernel

theorem inj0_5 : ∀ t t' : Fin cfg0.N, win0_5.index t = win0_5.index t' → t = t' := by decide +kernel

theorem arr0_5 (c : Dev nD) (t : Fin cfg0.N) (r : Fin 1024) (x : Fin 128) :
    (dat0 V c).arrAt 5 cfg0.N (ix3 (hd t) (pos (t.val % 4) r) x) = (dat0 V c).after 5 t (ix3 0 r x) := by
  have h := (dat0 V c).arrAt_emb_eq_flushed 5 (fun t t' _ _ hne => (cfg0.win 5).disjoint_blk fun h => hne (inj0_5 t t' h)) t
    (flush0_5 t) (ix3 0 r x)
  obtain ⟨h0, h1, h2⟩ := index0_5 t
  rwa [show ((cfg0.win 5).blk t).view.emb (ix3 0 r x) = ix3 (hd t) (pos (t.val % 4) r) x from ix3_of _ _ _ _
    (show win0_5.index t 0 * 1 + 1 * 0 = t.val / 4 by rw [h0]; omega)
    (show win0_5.index t 1 * 1024 + 1 * r.val = (pos (t.val % 4) r).val by rw [h1, pos_val (Nat.mod_lt _ (by decide))]; omega)
    (show win0_5.index t 2 * 128 + 1 * x.val = x.val by rw [h2]; omega)] at h

/-! ## The query region's blocks -/

theorem index1_0 : ∀ t : Fin cfg1.N, win1_0.index t 0 = t.val % 4 ∧ win1_0.index t 1 = t.val / 4 := by decide +kernel

theorem blk1_0 (c : Dev nD) (t : Fin cfg1.N) (r : Fin 1024) (d : Fin 128) :
    iblk1 V c 0 t (ix2 r d) = V c main_v2 (ix2 (pos (t.val % 4) r) (lane (hd t) d)) := by
  obtain ⟨h0, h1⟩ := index1_0 t
  exact congrArg (V c main_v2) (ix2_of _ _ _
    (show win1_0.index t 0 * 1024 + 1 * r.val = (pos (t.val % 4) r).val by rw [h0, pos_val (Nat.mod_lt _ (by decide))]; omega)
    (show win1_0.index t 1 * 128 + 1 * d.val = t.val / 4 * 128 + d.val by rw [h1]; omega))

theorem index1_1 : ∀ t : Fin cfg1.N, win1_1.index t 0 = 0 ∧ win1_1.index t 1 = t.val / 4 := by decide +kernel

theorem blk1_1 (c : Dev nD) (t : Fin cfg1.N) (n : Fin 4096) (d : Fin 128) :
    iblk1 V c 1 t (ix2 n d) = V c main_v3 (ix2 n (lane (hd t) d)) := by
  obtain ⟨h0, h1⟩ := index1_1 t
  exact congrArg (V c main_v3) (ix2_of _ _ _
    (show win1_1.index t 0 * 4096 + 1 * n.val = n.val by rw [h0]; omega)
    (show win1_1.index t 1 * 128 + 1 * d.val = t.val / 4 * 128 + d.val by rw [h1]; omega))

theorem index1_2 : ∀ t : Fin cfg1.N, win1_2.index t 0 = 0 ∧ win1_2.index t 1 = t.val / 4 := by decide +kernel

theorem blk1_2 (c : Dev nD) (t : Fin cfg1.N) (n : Fin 4096) (d : Fin 128) :
    iblk1 V c 2 t (ix2 n d) = V c main_v4 (ix2 n (lane (hd t) d)) := by
  obtain ⟨h0, h1⟩ := index1_2 t
  exact congrArg (V c main_v4) (ix2_of _ _ _
    (show win1_2.index t 0 * 4096 + 1 * n.val = n.val by rw [h0]; omega)
    (show win1_2.index t 1 * 128 + 1 * d.val = t.val / 4 * 128 + d.val by rw [h1]; omega))

theorem index1_3 : ∀ t : Fin cfg1.N, win1_3.index t 0 = t.val % 4 ∧ win1_3.index t 1 = t.val / 4 := by decide +kernel

theorem blk1_3 (c : Dev nD) (t : Fin cfg1.N) (r : Fin 1024) (d : Fin 128) :
    iblk1 V c 3 t (ix2 r d) = V c main_v5 (ix2 (pos (t.val % 4) r) (lane (hd t) d)) := by
  obtain ⟨h0, h1⟩ := index1_3 t
  exact congrArg (V c main_v5) (ix2_of _ _ _
    (show win1_3.index t 0 * 1024 + 1 * r.val = (pos (t.val % 4) r).val by rw [h0, pos_val (Nat.mod_lt _ (by decide))]; omega)
    (show win1_3.index t 1 * 128 + 1 * d.val = t.val / 4 * 128 + d.val by rw [h1]; omega))

theorem index1_4 : ∀ t : Fin cfg1.N, win1_4.index t 0 = t.val / 4 ∧ win1_4.index t 1 = t.val % 4 ∧ win1_4.index t 2 = 0 := by decide +kernel

theorem blk1_4 (c : Dev nD) (t : Fin cfg1.N) (r : Fin 1024) (x : Fin 128) :
    iblk1 V c 4 t (ix3 0 r x) = V c main_v9_1 (ix3 (hd t) (pos (t.val % 4) r) x) := by
  obtain ⟨h0, h1, h2⟩ := index1_4 t
  exact congrArg (V c main_v9_1) (ix3_of _ _ _ _
    (show win1_4.index t 0 * 1 + 1 * 0 = t.val / 4 by rw [h0]; omega)
    (show win1_4.index t 1 * 1024 + 1 * r.val = (pos (t.val % 4) r).val by rw [h1, pos_val (Nat.mod_lt _ (by decide))]; omega)
    (show win1_4.index t 2 * 128 + 1 * x.val = x.val by rw [h2]; omega))

theorem index1_5 : ∀ t : Fin cfg1.N, win1_5.index t 0 = 0 ∧ win1_5.index t 1 = t.val / 32 ∧ win1_5.index t 2 = 0 := by decide +kernel

theorem blk1_5 (c : Dev nD) (t : Fin cfg1.N) (j : Fin 4) (n : Fin 1024) :
    iblk1 V c 5 t (ix3 j ⟨t.val / 4 % 8, Nat.mod_lt _ (by decide)⟩ n) = V c main_v8 (ix3 j ⟨(hd t).val, by omega⟩ n) := by
  obtain ⟨h0, h1, h2⟩ := index1_5 t
  exact congrArg (V c main_v8) (ix3_of _ _ _ _
    (show win1_5.index t 0 * 4 + 1 * j.val = j.val by rw [h0]; omega)
    (show win1_5.index t 1 * 8 + 1 * (t.val / 4 % 8) = t.val / 4 by rw [h1]; omega)
    (show win1_5.index t 2 * 1024 + 1 * n.val = n.val by rw [h2]; omega))

theorem index1_6 : ∀ t : Fin cfg1.N, win1_6.index t 0 = t.val % 4 ∧ win1_6.index t 1 = t.val / 4 := by decide +kernel

theorem inj1_6 : ∀ t t' : Fin cfg1.N, win1_6.index t = win1_6.index t' → t = t' := by decide +kernel

theorem arr1_6 (c : Dev nD) (t : Fin cfg1.N) (r : Fin 1024) (d : Fin 128) :
    (dat1 V c).arrAt 6 cfg1.N (ix2 (pos (t.val % 4) r) (lane (hd t) d)) = (dat1 V c).after 6 t (ix2 r d) := by
  have h := (dat1 V c).arrAt_emb_eq_flushed 6 (fun t t' _ _ hne => (cfg1.win 6).disjoint_blk fun h => hne (inj1_6 t t' h)) t
    (flush1_6 t) (ix2 r d)
  obtain ⟨h0, h1⟩ := index1_6 t
  rwa [show ((cfg1.win 6).blk t).view.emb (ix2 r d) = ix2 (pos (t.val % 4) r) (lane (hd t) d) from ix2_of _ _ _
    (show win1_6.index t 0 * 1024 + 1 * r.val = (pos (t.val % 4) r).val by rw [h0, pos_val (Nat.mod_lt _ (by decide))]; omega)
    (show win1_6.index t 1 * 128 + 1 * d.val = t.val / 4 * 128 + d.val by rw [h1]; omega)] at h

theorem index1_7 : ∀ t : Fin cfg1.N, win1_7.index t 0 = t.val / 4 ∧ win1_7.index t 1 = t.val % 4 ∧ win1_7.index t 2 = 0 := by decide +kernel

theorem inj1_7 : ∀ t t' : Fin cfg1.N, win1_7.index t = win1_7.index t' → t = t' := by decide +kernel

theorem arr1_7 (c : Dev nD) (t : Fin cfg1.N) (r : Fin 1024) (x : Fin 128) :
    (dat1 V c).arrAt 7 cfg1.N (ix3 (hd t) (pos (t.val % 4) r) x) = (dat1 V c).after 7 t (ix3 0 r x) := by
  have h := (dat1 V c).arrAt_emb_eq_flushed 7 (fun t t' _ _ hne => (cfg1.win 7).disjoint_blk fun h => hne (inj1_7 t t' h)) t
    (flush1_7 t) (ix3 0 r x)
  obtain ⟨h0, h1, h2⟩ := index1_7 t
  rwa [show ((cfg1.win 7).blk t).view.emb (ix3 0 r x) = ix3 (hd t) (pos (t.val % 4) r) x from ix3_of _ _ _ _
    (show win1_7.index t 0 * 1 + 1 * 0 = t.val / 4 by rw [h0]; omega)
    (show win1_7.index t 1 * 1024 + 1 * r.val = (pos (t.val % 4) r).val by rw [h1, pos_val (Nat.mod_lt _ (by decide))]; omega)
    (show win1_7.index t 2 * 128 + 1 * x.val = x.val by rw [h2]; omega)] at h

/-! ## The key region's blocks -/

theorem index2_0 : ∀ t : Fin cfg2.N, win2_0.index t 0 = 0 ∧ win2_0.index t 1 = t.val / 4 := by decide +kernel

theorem blk2_0 (c : Dev nD) (t : Fin cfg2.N) (n : Fin 4096) (d : Fin 128) :
    iblk2 V c 0 t (ix2 n d) = V c main_v2 (ix2 n (lane (hd t) d)) := by
  obtain ⟨h0, h1⟩ := index2_0 t
  exact congrArg (V c main_v2) (ix2_of _ _ _
    (show win2_0.index t 0 * 4096 + 1 * n.val = n.val by rw [h0]; omega)
    (show win2_0.index t 1 * 128 + 1 * d.val = t.val / 4 * 128 + d.val by rw [h1]; omega))

theorem index2_1 : ∀ t : Fin cfg2.N, win2_1.index t 0 = t.val % 4 ∧ win2_1.index t 1 = t.val / 4 := by decide +kernel

theorem blk2_1 (c : Dev nD) (t : Fin cfg2.N) (r : Fin 1024) (d : Fin 128) :
    iblk2 V c 1 t (ix2 r d) = V c main_v3 (ix2 (pos (t.val % 4) r) (lane (hd t) d)) := by
  obtain ⟨h0, h1⟩ := index2_1 t
  exact congrArg (V c main_v3) (ix2_of _ _ _
    (show win2_1.index t 0 * 1024 + 1 * r.val = (pos (t.val % 4) r).val by rw [h0, pos_val (Nat.mod_lt _ (by decide))]; omega)
    (show win2_1.index t 1 * 128 + 1 * d.val = t.val / 4 * 128 + d.val by rw [h1]; omega))

theorem index2_2 : ∀ t : Fin cfg2.N, win2_2.index t 0 = t.val % 4 ∧ win2_2.index t 1 = t.val / 4 := by decide +kernel

theorem blk2_2 (c : Dev nD) (t : Fin cfg2.N) (r : Fin 1024) (d : Fin 128) :
    iblk2 V c 2 t (ix2 r d) = V c main_v4 (ix2 (pos (t.val % 4) r) (lane (hd t) d)) := by
  obtain ⟨h0, h1⟩ := index2_2 t
  exact congrArg (V c main_v4) (ix2_of _ _ _
    (show win2_2.index t 0 * 1024 + 1 * r.val = (pos (t.val % 4) r).val by rw [h0, pos_val (Nat.mod_lt _ (by decide))]; omega)
    (show win2_2.index t 1 * 128 + 1 * d.val = t.val / 4 * 128 + d.val by rw [h1]; omega))

theorem index2_3 : ∀ t : Fin cfg2.N, win2_3.index t 0 = 0 ∧ win2_3.index t 1 = t.val / 4 := by decide +kernel

theorem blk2_3 (c : Dev nD) (t : Fin cfg2.N) (n : Fin 4096) (d : Fin 128) :
    iblk2 V c 3 t (ix2 n d) = V c main_v5 (ix2 n (lane (hd t) d)) := by
  obtain ⟨h0, h1⟩ := index2_3 t
  exact congrArg (V c main_v5) (ix2_of _ _ _
    (show win2_3.index t 0 * 4096 + 1 * n.val = n.val by rw [h0]; omega)
    (show win2_3.index t 1 * 128 + 1 * d.val = t.val / 4 * 128 + d.val by rw [h1]; omega))

theorem index2_4 : ∀ t : Fin cfg2.N, win2_4.index t 0 = t.val / 4 ∧ win2_4.index t 1 = 0 ∧ win2_4.index t 2 = 0 := by decide +kernel

theorem blk2_4 (c : Dev nD) (t : Fin cfg2.N) (r : Fin 4096) (x : Fin 128) :
    iblk2 V c 4 t (ix3 0 r x) = V c main_v10_1 (ix3 (hd t) r x) := by
  obtain ⟨h0, h1, h2⟩ := index2_4 t
  exact congrArg (V c main_v10_1) (ix3_of _ _ _ _
    (show win2_4.index t 0 * 1 + 1 * 0 = t.val / 4 by rw [h0]; omega)
    (show win2_4.index t 1 * 4096 + 1 * r.val = r.val by rw [h1]; omega)
    (show win2_4.index t 2 * 128 + 1 * x.val = x.val by rw [h2]; omega))

theorem index2_5 : ∀ t : Fin cfg2.N, win2_5.index t 0 = t.val / 4 ∧ win2_5.index t 1 = 0 ∧ win2_5.index t 2 = 0 := by decide +kernel

theorem blk2_5 (c : Dev nD) (t : Fin cfg2.N) (r : Fin 4096) (x : Fin 128) :
    iblk2 V c 5 t (ix3 0 r x) = V c main_v9_1 (ix3 (hd t) r x) := by
  obtain ⟨h0, h1, h2⟩ := index2_5 t
  exact congrArg (V c main_v9_1) (ix3_of _ _ _ _
    (show win2_5.index t 0 * 1 + 1 * 0 = t.val / 4 by rw [h0]; omega)
    (show win2_5.index t 1 * 4096 + 1 * r.val = r.val by rw [h1]; omega)
    (show win2_5.index t 2 * 128 + 1 * x.val = x.val by rw [h2]; omega))

theorem index2_6 : ∀ t : Fin cfg2.N, win2_6.index t 0 = t.val % 4 ∧ win2_6.index t 1 = t.val / 32 ∧ win2_6.index t 2 = 0 := by decide +kernel

theorem blk2_6 (c : Dev nD) (t : Fin cfg2.N) (n : Fin 1024) :
    iblk2 V c 6 t (ix3 0 ⟨t.val / 4 % 8, Nat.mod_lt _ (by decide)⟩ n)
      = V c main_v8 (ix3 ⟨t.val % 4, Nat.mod_lt _ (by decide)⟩ ⟨(hd t).val, by omega⟩ n) := by
  obtain ⟨h0, h1, h2⟩ := index2_6 t
  exact congrArg (V c main_v8) (ix3_of _ _ _ _
    (show win2_6.index t 0 * 1 + 1 * 0 = t.val % 4 by rw [h0]; omega)
    (show win2_6.index t 1 * 8 + 1 * (t.val / 4 % 8) = t.val / 4 by rw [h1]; omega)
    (show win2_6.index t 2 * 1024 + 1 * n.val = n.val by rw [h2]; omega))

theorem index2_7 : ∀ t : Fin cfg2.N, win2_7.index t 0 = t.val % 4 ∧ win2_7.index t 1 = t.val / 4 := by decide +kernel

theorem inj2_7 : ∀ t t' : Fin cfg2.N, win2_7.index t = win2_7.index t' → t = t' := by decide +kernel

theorem arr2_7 (c : Dev nD) (t : Fin cfg2.N) (r : Fin 1024) (d : Fin 128) :
    (dat2 V c).arrAt 7 cfg2.N (ix2 (pos (t.val % 4) r) (lane (hd t) d)) = (dat2 V c).after 7 t (ix2 r d) := by
  have h := (dat2 V c).arrAt_emb_eq_flushed 7 (fun t t' _ _ hne => (cfg2.win 7).disjoint_blk fun h => hne (inj2_7 t t' h)) t
    (flush2_7 t) (ix2 r d)
  obtain ⟨h0, h1⟩ := index2_7 t
  rwa [show ((cfg2.win 7).blk t).view.emb (ix2 r d) = ix2 (pos (t.val % 4) r) (lane (hd t) d) from ix2_of _ _ _
    (show win2_7.index t 0 * 1024 + 1 * r.val = (pos (t.val % 4) r).val by rw [h0, pos_val (Nat.mod_lt _ (by decide))]; omega)
    (show win2_7.index t 1 * 128 + 1 * d.val = t.val / 4 * 128 + d.val by rw [h1]; omega)] at h

theorem index2_8 : ∀ t : Fin cfg2.N, win2_8.index t 0 = t.val % 4 ∧ win2_8.index t 1 = t.val / 4 := by decide +kernel

theorem inj2_8 : ∀ t t' : Fin cfg2.N, win2_8.index t = win2_8.index t' → t = t' := by decide +kernel

theorem arr2_8 (c : Dev nD) (t : Fin cfg2.N) (r : Fin 1024) (d : Fin 128) :
    (dat2 V c).arrAt 8 cfg2.N (ix2 (pos (t.val % 4) r) (lane (hd t) d)) = (dat2 V c).after 8 t (ix2 r d) := by
  have h := (dat2 V c).arrAt_emb_eq_flushed 8 (fun t t' _ _ hne => (cfg2.win 8).disjoint_blk fun h => hne (inj2_8 t t' h)) t
    (flush2_8 t) (ix2 r d)
  obtain ⟨h0, h1⟩ := index2_8 t
  rwa [show ((cfg2.win 8).blk t).view.emb (ix2 r d) = ix2 (pos (t.val % 4) r) (lane (hd t) d) from ix2_of _ _ _
    (show win2_8.index t 0 * 1024 + 1 * r.val = (pos (t.val % 4) r).val by rw [h0, pos_val (Nat.mod_lt _ (by decide))]; omega)
    (show win2_8.index t 1 * 128 + 1 * d.val = t.val / 4 * 128 + d.val by rw [h1]; omega)] at h

theorem index2_9 : ∀ t : Fin cfg2.N, win2_9.index t 0 = t.val / 4 ∧ win2_9.index t 1 = t.val % 4 ∧ win2_9.index t 2 = 0 ∧ win2_9.index t 3 = 0 := by decide +kernel

theorem inj2_9 : ∀ t t' : Fin cfg2.N, win2_9.index t = win2_9.index t' → t = t' := by decide +kernel

theorem arr2_9 (c : Dev nD) (t : Fin cfg2.N) (u : Fin 8) (n : Fin 1024) :
    (dat2 V c).arrAt 9 cfg2.N (ix4 (hd t) ⟨t.val % 4, Nat.mod_lt _ (by decide)⟩ u n) = (dat2 V c).after 9 t (ix4 0 0 u n) := by
  have h := (dat2 V c).arrAt_emb_eq_flushed 9 (fun t t' _ _ hne => (cfg2.win 9).disjoint_blk fun h => hne (inj2_9 t t' h)) t
    (flush2_9 t) (ix4 0 0 u n)
  obtain ⟨h0, h1, h2, h3⟩ := index2_9 t
  rwa [show ((cfg2.win 9).blk t).view.emb (ix4 0 0 u n) = ix4 (hd t) ⟨t.val % 4, Nat.mod_lt _ (by decide)⟩ u n from ix4_of _ _ _ _ _
    (show win2_9.index t 0 * 1 + 1 * 0 = t.val / 4 by rw [h0]; omega)
    (show win2_9.index t 1 * 1 + 1 * 0 = t.val % 4 by rw [h1]; omega)
    (show win2_9.index t 2 * 8 + 1 * u.val = u.val by rw [h2]; omega)
    (show win2_9.index t 3 * 1024 + 1 * n.val = n.val by rw [h3]; omega)] at h

end Cert.KernelFoxIdeal.Value
-- ==== Proof.FoxAverage.lean ====
/- The average of the values under the softmax weights, as the forward region forms it block by block. -/
module

public import proofs.«01_k».proof.Proof.FoxMath

@[expose] public section

noncomputable section

namespace Cert.Fox

open Idealize.ShloMosaic

/-- What a row's running maximum `m` and running weighted sum `a` hold after `k` blocks. -/
def Weighted (s w : ℕ → Fin 1024 → ℝ) (k : ℕ) (m a : EReal) : Prop :=
  (k = 0 ∧ m = ⊥ ∧ a = 0) ∨
    ∃ M : ℝ, m = M ∧ a = ((∑ j ∈ Finset.range k, ∑ n, Real.exp (s j n - M) * w j n : ℝ) : EReal)

variable {s w : ℕ → Fin 1024 → ℝ} {k : ℕ} {m l a : EReal}

/-- The running sum is the one with all weights one. -/
theorem Running.weighted (h : Running s k m l) : Weighted s (fun _ _ => 1) k m l := by
  simp only [Weighted, mul_one]
  exact h

theorem Weighted.rescale (h : Weighted s w k m a) (M' : ℝ) :
    Ideal.exp (m - (M' : EReal)) * a = ((∑ j ∈ Finset.range k, ∑ n, Real.exp (s j n - M') * w j n : ℝ) : EReal) := by
  rcases h with ⟨rfl, rfl, rfl⟩ | ⟨M, rfl, rfl⟩
  · simp
  · rw [← EReal.coe_sub, Ideal.exp_coe, ← EReal.coe_mul]
    refine congrArg Real.toEReal ?_
    rw [Finset.mul_sum]
    refine Finset.sum_congr rfl fun j _ => ?_
    rw [Finset.mul_sum]
    refine Finset.sum_congr rfl fun n _ => ?_
    rw [← mul_assoc, ← Real.exp_add]
    refine congrArg (fun y => Real.exp y * w j n) ?_
    ring

/-- One block more. -/
theorem Weighted.step (h : Weighted s w k m a) {m' : EReal} {M' : ℝ} (hm : m' = M') :
    Weighted s w (k + 1) m' (Ideal.exp (m - m') * a + ∑ n, Ideal.exp ((s k n : EReal) - m') * (w k n : EReal)) := by
  subst hm
  refine Or.inr ⟨M', rfl, ?_⟩
  rw [h.rescale, Finset.sum_range_succ, EReal.coe_add, coe_sum Finset.univ]
  refine congrArg (fun y : EReal => _ + y) (Finset.sum_congr rfl fun n _ => ?_)
  rw [← EReal.coe_sub, Ideal.exp_coe, EReal.coe_mul]

/-- The last block, of which a row sees some entries: everything is the seen sum times one exponential. -/
theorem Weighted.total (h : Weighted s w k m a) (p : Fin 1024 → Prop) [DecidablePred p] (x : Fin 1024 → EReal)
    (hx : ∀ n, x n = if p n then (s k n : EReal) else ⊥) (M : ℝ) :
    Ideal.exp (m - (M : EReal)) * a + ∑ n, Ideal.exp (x n - (M : EReal)) * (w k n : EReal)
      = ((((∑ j ∈ Finset.range k, ∑ n, Real.exp (s j n) * w j n)
          + ∑ n, if p n then Real.exp (s k n) * w k n else 0) * Real.exp (-M) : ℝ) : EReal) := by
  rw [h.rescale]
  have e : ∀ n, Ideal.exp (x n - (M : EReal)) * (w k n : EReal) = (((if p n then Real.exp (s k n) * w k n else 0) * Real.exp (-M) : ℝ) : EReal) := by
    intro n
    rw [hx]
    split_ifs
    · rw [← EReal.coe_sub, Ideal.exp_coe, ← EReal.coe_mul, sub_eq_add_neg, Real.exp_add]
      refine congrArg Real.toEReal ?_
      ring
    · simp
  rw [Finset.sum_congr rfl fun n _ => e n, ← coe_sum, ← EReal.coe_add, ← Finset.sum_mul, add_mul]
  refine congrArg (fun y : ℝ => ((y + _ : ℝ) : EReal)) ?_
  rw [Finset.sum_mul]
  refine Finset.sum_congr rfl fun j _ => ?_
  rw [Finset.sum_mul]
  refine Finset.sum_congr rfl fun n _ => ?_
  rw [sub_eq_add_neg, Real.exp_add]
  ring

/-- What a query takes of the values. -/
def O (q k v : Fin 4096 → Fin 128 → ℝ) (f : Fin 4096 → ℝ) (r : Fin 4096) (d : Fin 128) : ℝ := ∑ c, P q k f r c * v c d

/-- … block by block. -/
theorem O_blocks (q k v : Fin 4096 → Fin 128 → ℝ) (f : Fin 4096 → ℝ) {i : ℕ} (hi : i < 4) (r : Fin 1024) (d : Fin 128) :
    O q k v f (pos i r) d = ((∑ j ∈ Finset.range i, ∑ n, Real.exp (score q k f (pos i r) (pos j n)) * v (pos j n) d)
      + ∑ n : Fin 1024, if n ≤ r then Real.exp (score q k f (pos i r) (pos i n)) * v (pos i n) d else 0) / Z q k f (pos i r) := by
  have hZ := Z_pos q k f (pos i r)
  unfold O
  rw [sum_upto _ hi, add_div, Finset.sum_div]
  · congr 1
    · refine Finset.sum_congr rfl fun j hj => ?_
      rw [Finset.sum_div]
      refine Finset.sum_congr rfl fun n _ => ?_
      rw [P_before _ _ _ hi (Finset.mem_range.1 hj), Real.exp_sub, lse, Real.exp_log hZ]
      ring
    · rw [Finset.sum_div]
      refine Finset.sum_congr rfl fun n _ => ?_
      rw [P_diag _ _ _ hi]
      split_ifs
      · rw [Real.exp_sub, lse, Real.exp_log hZ]
        ring
      · simp
  · intro j hj hij n
    rw [P_after _ _ _ hj hij, zero_mul]

/-- The quotient of the weighted sum and the sum is the average. -/
theorem average (hl : Running s k m l) (ha : Weighted s w k m a) (p : Fin 1024 → Prop) [DecidablePred p] (n₀ : Fin 1024) (h₀ : p n₀)
    (x : Fin 1024 → EReal) (hx : ∀ n, x n = if p n then (s k n : EReal) else ⊥) {m' : EReal}
    (hm : m' = max m (Finset.fold max ⊥ x Finset.univ)) :
    Ideal.div (Ideal.exp (m - m') * a + ∑ n, Ideal.exp (x n - m') * (w k n : EReal)) (Ideal.exp (m - m') * l + ∑ n, Ideal.exp (x n - m'))
      = ((((∑ j ∈ Finset.range k, ∑ n, Real.exp (s j n) * w j n) + ∑ n, if p n then Real.exp (s k n) * w k n else 0)
        / ((∑ j ∈ Finset.range k, ∑ n, Real.exp (s j n)) + ∑ n, if p n then Real.exp (s k n) else 0) : ℝ) : EReal) := by
  obtain ⟨M, hM⟩ := exists_max hl x (fun n => by rw [hx]; split_ifs <;> simp) n₀ (by rw [hx, if_pos h₀]; simp)
  have e := hl.weighted.total p x hx M
  simp only [mul_one, EReal.coe_one] at e
  rw [hm, hM, ha.total p x hx, e]
  set T := (∑ j ∈ Finset.range k, ∑ n, Real.exp (s j n)) + ∑ n, if p n then Real.exp (s k n) else 0 with hT
  have hpos : 0 < T := by
    refine add_pos_of_nonneg_of_pos (Finset.sum_nonneg fun j _ => Finset.sum_nonneg fun n _ => (Real.exp_pos _).le) ?_
    refine Finset.sum_pos' (fun n _ => ?_) ⟨n₀, Finset.mem_univ _, ?_⟩
    · split_ifs
      · exact (Real.exp_pos _).le
      · exact le_rfl
    · rw [if_pos h₀]; exact Real.exp_pos _
  have hE := Real.exp_pos (-M)
  rw [Ideal.div_coe (mul_pos hpos hE).ne', ← EReal.coe_mul]
  refine congrArg Real.toEReal ?_
  field_simp

end Cert.Fox

end
-- ==== Proof.FoxOutput.lean ====
/- The forgetting attention's forward region: what one grid point leaves of its queries' averages of the values. -/
module

public import proofs.«01_k».proof.Proof.FoxAverage
public import proofs.«01_k».proof.Proof.FoxForward

@[expose] public section

set_option maxRecDepth 16384

noncomputable section

namespace Cert.KernelFoxIdeal.Value

open Gen Idealize.ShloMosaic TcCoe Idealize.SL.Sem
open Cert.Fox

section Steps

variable {q k v : Fin 4096 → Fin 128 → ℝ} {f : Fin 4096 → ℝ} {i j : ℕ}
variable {v0 v73 v76 : Vec Ideal S1024x128 .bf16} {v81 : Vec Ideal S1x1x1024 .f32}

/-- One step of the loop keeps what the running weighted sum says. -/
theorem step_weighted (h0 : ∀ r d, v0 (ix2 r d) = (q (pos i r) d : EReal)) (h1 : ∀ n d, v73 (ix2 n d) = (k (pos j n) d : EReal))
    (hv : ∀ n d, v76 (ix2 n d) = (v (pos j n) d : EReal))
    (h2 : ∀ n, v81 (ix3 0 0 n) = (f (pos j n) : EReal)) (m l : FVec Ideal S1024x1 .f32) (a : FVec Ideal S1024x128 .f32) (r : Fin 1024) (d : Fin 128)
    (hr : Running (fun j n => score q k f (pos i r) (pos j n)) j (m (ix2 r 0)) (l (ix2 r 0)))
    (hw : Weighted (fun j n => score q k f (pos i r) (pos j n)) (fun j n => v (pos j n) d) j (m (ix2 r 0)) (a (ix2 r d))) :
    Weighted (fun j n => score q k f (pos i r) (pos j n)) (fun j n => v (pos j n) d) (j + 1) (k0_pay13 v0 m v73 v81 (ix2 r 0))
      (k0_pay17 v0 m a v73 v76 v81 (ix2 r d)) := by
  have e12 : ∀ n, k0_pay12 v0 v73 v81 (ix2 r n) = (score q k f (pos i r) (pos j n) : EReal) := fun n => by
    unfold k0_pay12 k0_pay8
    pointwise
    exact scores_at h0 h1 h2 r n
  have e13 : k0_pay13 v0 m v73 v81 (ix2 r 0) = max (m (ix2 r 0)) (Finset.fold max ⊥
      (fun n => (score q k f (pos i r) (pos j n) : EReal)) Finset.univ) := by
    unfold k0_pay13
    pointwise
    rw [ofBits_bot]
    congr 1
    exact Finset.fold_congr fun n _ => e12 n
  obtain ⟨M', hM⟩ := exists_max hr (fun n => (score q k f (pos i r) (pos j n) : EReal)) (fun _ => EReal.coe_ne_top _) 0
    (EReal.coe_ne_bot _)
  have e17 : k0_pay17 v0 m a v73 v76 v81 (ix2 r d) = Ideal.exp (m (ix2 r 0) - k0_pay13 v0 m v73 v81 (ix2 r 0)) * a (ix2 r d)
      + ∑ n, Ideal.exp ((score q k f (pos i r) (pos j n) : EReal) - k0_pay13 v0 m v73 v81 (ix2 r 0)) * (v (pos j n) d : EReal) := by
    unfold k0_pay17 k0_pay15 k0_pay14
    pointwise
    congr 1
    exact Finset.sum_congr rfl fun n _ => by rw [e12, hv]
  rw [e17]
  exact hw.step (e13.trans hM)

/-- The diagonal block and the quotient. -/
theorem last_average (hi : i < 4) (h0 : ∀ r d, v0 (ix2 r d) = (q (pos i r) d : EReal))
    (h1 : ∀ n d, v73 (ix2 n d) = (k (pos i n) d : EReal)) (hv : ∀ n d, v76 (ix2 n d) = (v (pos i n) d : EReal))
    (h2 : ∀ n, v81 (ix3 0 0 n) = (f (pos i n) : EReal))
    (m l : FVec Ideal S1024x1 .f32) (a : FVec Ideal S1024x128 .f32) (r : Fin 1024) (d : Fin 128)
    (hr : Running (fun j n => score q k f (pos i r) (pos j n)) i (m (ix2 r 0)) (l (ix2 r 0)))
    (hw : Weighted (fun j n => score q k f (pos i r) (pos j n)) (fun j n => v (pos j n) d) i (m (ix2 r 0)) (a (ix2 r d))) :
    k0_pay6 m l a v76 (k0_pay25 v0 v73 v81) (iota .tc S1024x1024 32 [1] iota_S1024x1024_d1_w32) (ix2 r d)
      = (O q k v f (pos i r) d : EReal) := by
  have e1 : ∀ n, k0_pay1 (k0_pay25 v0 v73 v81) (iota .tc S1024x1024 32 [1] iota_S1024x1024_d1_w32) (ix2 r n)
      = if n ≤ r then (score q k f (pos i r) (pos i n) : EReal) else ⊥ := fun n => by
    unfold k0_pay1 k0_pay25 k0_pay8
    pointwise
    rw [causal, mask_bot, scores_at h0 h1 h2 r n]
  have h := average hr hw (fun n => n ≤ r) r le_rfl _ e1 rfl
  rw [O_blocks _ _ _ _ hi, Z_blocks _ _ _ hi]
  refine Eq.trans ?_ h
  unfold k0_pay6 k0_pay5 k0_pay4 k0_pay3 k0_pay2
  pointwise
  rw [ofBits_bot]
  simp only [hv]

end Steps

variable (V : (c : Dev nD) → (b : Ref sig .tc) → Buf (Elt Ideal) ((c : Thread nD τ).loc b))

/-- What the point leaves in the block of averages. -/
theorem average_point (c : Dev nD) (t : Fin cfg0.N) :
    (outsAt0 V c t).1 = k0_pay6 (run0 V c t (k0_t1_loop (grid0.coords t)).trips).1
      (run0 V c t (k0_t1_loop (grid0.coords t)).trips).2.1 (run0 V c t (k0_t1_loop (grid0.coords t)).trips).2.2
      (shapeCast S1024x128 (View.ld (iblk0 V c 2 t) (Rect.unit (s := S4096x128) (k0_off5 (grid0.coords t)) ![1024, 128] (k0_off5_inb (grid0.coords t)))) shapeCasts_S1024x128_S1024x128)
      (k0_pay25 (iblk0 V c 0 t)
        (View.ld (iblk0 V c 1 t) (Rect.unit (s := S4096x128) (k0_off5 (grid0.coords t)) ![1024, 128] (k0_off5_inb (grid0.coords t))))
        (View.ld (iblk0 V c 3 t) (Rect.unit (s := S4x8x1024) (k0_off6 (grid0.coords t)) ![1, 1, 1024] (k0_off6_inb (grid0.coords t)))))
      (iota .tc S1024x1024 32 [1] iota_S1024x1024_d1_w32) := by
  unfold outsAt0
  dsimp only
  unfold out0_A_4
  rw [View.read_writes_eq_canon _ _ _ (fun y => cover0_A_4 (y := y) ..)]
  unfold kernelRun0_A
  dsimp only
  rw [View.canon_unit_zero (S := S1024x128) hz2]
  unfold kernelRun0_A.sl.r kernelRun0_A.sl.r_1 kernelRun0_A.sl.r_2 kernelRun0_A.sl.r_3 kernelRun0_A.sl.r_4 kernelRun0_A.sl.v37
  simp only [View.readAt_eq_ld, (hs0_0 t).read_unread, (hs0_1 t).read_unread, (hs0_2 t).read_unread, (hs0_3 t).read_unread,
    View.ld_unit_zero (S := S1024x128) hz2]
  have e2 := trips0_2 t
  dsimp only [k0_t2_loop, Scf.Loop.trips] at e2
  rw [e2, st_k0_t2_zero]
  rfl

section Point

variable {V} {c : Dev nD} {t : Fin cfg0.N} {q k v : Fin 4096 → Fin 128 → ℝ} {f : Fin 4096 → ℝ}

/-- The loop's invariant. -/
theorem run0_weighted (hq : ∀ r d, iblk0 V c 0 t (ix2 r d) = (q (pos (t.val % 4) r) d : EReal))
    (hk : ∀ n d, iblk0 V c 1 t (ix2 n d) = (k n d : EReal)) (hv : ∀ n d, iblk0 V c 2 t (ix2 n d) = (v n d : EReal))
    (hf : ∀ (j : Fin 4) n, iblk0 V c 3 t (ix3 j ⟨t.val / 4 % 8, Nat.mod_lt _ (by decide)⟩ n) = (f (pos j.val n) : EReal))
    (r : Fin 1024) (d : Fin 128) (n : ℕ) (hn : n ≤ (k0_t1_loop (grid0.coords t)).trips) :
    Weighted (fun j n => score q k f (pos (t.val % 4) r) (pos j n)) (fun j n => v (pos j n) d) n ((run0 V c t n).1 (ix2 r 0))
      ((run0 V c t n).2.2 (ix2 r d)) := by
  induction n with
  | zero =>
    refine Or.inl ⟨rfl, ?_, ?_⟩
    · unfold run0; rw [st_k0_t1_zero]; exact mask_bot
    · unfold run0; rw [st_k0_t1_zero]; dsimp only; unfold k0_pay11; pointwise
  | succ n ih =>
    have hlt : n < (k0_t1_loop (grid0.coords t)).trips := hn
    have h4 : n < 4 := by rw [trips0_1] at hlt; omega
    have e : run0 V c t (n + 1) = _ := st_k0_t1_succ (F := Ideal) Variants.none c none (grid0.coords t) (ms0_0 t) (hs0_0 t)
      (ms0_1 t) (hs0_1 t) (ms0_2 t) (hs0_2 t) (ms0_3 t) (hs0_3 t) (ms0_4 t) (hs0_4 t) (ms0_5 t) (hs0_5 t) (iblk0 V c 0 t)
      ((hs0_1 t).unread (iblk0 V c 1 t)) ((hs0_2 t).unread (iblk0 V c 2 t)) ((hs0_3 t).unread (iblk0 V c 3 t))
      (k0_pay9, k0_pay10, k0_pay11) ⟨n, hlt⟩
    have hrun := run0_running hq hk hf r n hlt.le
    rw [e]
    unfold tripR_k0_t1 trip_k0_t1
    dsimp only
    simp only [View.readAt_eq_ld, (hs0_1 t).read_unread, (hs0_2 t).read_unread, (hs0_3 t).read_unread]
    refine step_weighted hq (fun a d => ?_) (fun a d => ?_) (fun a => ?_) _ _ _ r d hrun (ih hlt.le)
    · rw [ld_rows _ _ h4 (off0_1 t ⟨n, hlt⟩), hk]
    · rw [ld_rows _ _ h4 (off0_1 t ⟨n, hlt⟩), hv]
    · rw [ld_gates _ _ h4 (Nat.mod_lt _ (by decide)) (off0_2 t ⟨n, hlt⟩)]
      exact hf ⟨n, h4⟩ a

/-- A cast to the same shape. -/
theorem cast_rows (x : Vec Ideal S1024x128 .bf16) (n : Fin 1024) (d : Fin 128) :
    shapeCast S1024x128 x shapeCasts_S1024x128_S1024x128 (ix2 n d) = x (ix2 n d) := by pointwise

/-- The point's averages. -/
theorem average_value (hq : ∀ r d, iblk0 V c 0 t (ix2 r d) = (q (pos (t.val % 4) r) d : EReal))
    (hk : ∀ n d, iblk0 V c 1 t (ix2 n d) = (k n d : EReal)) (hv : ∀ n d, iblk0 V c 2 t (ix2 n d) = (v n d : EReal))
    (hf : ∀ (j : Fin 4) n, iblk0 V c 3 t (ix3 j ⟨t.val / 4 % 8, Nat.mod_lt _ (by decide)⟩ n) = (f (pos j.val n) : EReal))
    (r : Fin 1024) (d : Fin 128) :
    (outsAt0 V c t).1 (ix2 r d) = (O q k v f (pos (t.val % 4) r) d : EReal) := by
  have h4 : t.val % 4 < 4 := Nat.mod_lt _ (by decide)
  rw [average_point]
  have hr := run0_running hq hk hf r _ le_rfl
  have hw := run0_weighted hq hk hv hf r d _ le_rfl
  rw [trips0_1] at hr hw ⊢
  refine last_average h4 hq (fun a d => ?_) (fun a d => ?_) (fun a => ?_) _ _ _ r d hr hw
  · rw [ld_rows _ _ h4 (off0_5 t), hk]
  · rw [cast_rows, ld_rows _ _ h4 (off0_5 t), hv]
  · rw [ld_gates _ _ h4 (Nat.mod_lt _ (by decide)) (off0_6 t)]
    exact hf ⟨_, h4⟩ a

end Point

end Cert.KernelFoxIdeal.Value
-- ==== Proof.FoxRun.lean ====
/- The forgetting attention's run: what every execution leaves in the six result arrays. -/
module

public import proofs.«01_k».proof.Proof.FoxArrays
public import proofs.«01_k».proof.Proof.FoxOutput

@[expose] public section

noncomputable section

namespace Cert.KernelFoxIdeal.Value

open Gen Idealize.ShloMosaic TcCoe Idealize.SL.Sem Idealize.SL.BI
open Pipeline (Dat)
open Cert.Fox

/-- Head `h` of an array of rows, its lanes. -/
abbrev head (X : Fin 4096 → Fin 2048 → ℝ) (h : Fin 16) : Fin 4096 → Fin 128 → ℝ := fun i d => X i (lane h d)
/-- Head `h` of the scaled queries. -/
abbrev qhead (Q : Fin 4096 → Fin 2048 → ℝ) (h : Fin 16) : Fin 4096 → Fin 128 → ℝ := fun i d => Q i (lane h d) * scale

theorem exists_point (h : Fin 16) (i : Fin 4096) : ∃ (t : Fin 64) (r : Fin 1024), h = hd t ∧ i = pos (t.val % 4) r := by
  obtain ⟨j, hj, r, rfl⟩ := exists_pos i
  refine ⟨⟨4 * h.val + j, by omega⟩, r, Fin.ext (show h.val = (4 * h.val + j) / 4 by omega), ?_⟩
  show pos j r = pos ((4 * h.val + j) % 4) r
  rw [show (4 * h.val + j) % 4 = j by omega]

variable (m : (ℓ : Loc nD τ sig) → Buf (Elt Ideal) ℓ) (ρ : Dev nD → PrngReg)

namespace Reals

variable {m} {c : Dev nD} {Q K V G : Fin 4096 → Fin 2048 → ℝ} {A : Fin 16 → Fin 4096 → ℝ}
variable (h : Reals m c Q K V G A)
include h

/-- The array of the rows' logarithms. -/
theorem lse_arr (z : Fin 16) (i : Fin 4096) (x : Fin 128) :
    W4 m ρ c (Proc.devRef .tc main_v9_1) (ix3 z i x) = (lse (qhead Q z) (head K z) (A z) i : EReal) := by
  obtain ⟨t, r, rfl, rfl⟩ := exists_point z i
  refine (congrFun (W4_arr m ρ c 5) _).trans ((arr0_5 (V3 m ρ) c t r x).trans ?_)
  exact (congrFun (after0_5 (V3 m ρ) c t) _).trans (lse_value (fun r d => (blk0_0 (V3 m ρ) c t r d).trans (h.q_at ρ _ _))
    (fun n d => (blk0_1 (V3 m ρ) c t n d).trans (h.k_at ρ _ _)) (fun j n => (blk0_3 (V3 m ρ) c t j n).trans (h.f_at ρ j (hd t) n)) 0 r x)

/-- What the query region's blocks hold. -/
theorem point1 (t : Fin 64) :
    Point1 (V4 m ρ) c t (qhead Q (hd t)) (head K (hd t)) (head V (hd t)) (head G (hd t)) (A (hd t)) where
  hq r d := (blk1_0 (V4 m ρ) c t r d).trans ((congrFun (W4_of m ρ c main_v2 (by decide)) _).trans (h.q_at ρ _ _))
  hk n d := (blk1_1 (V4 m ρ) c t n d).trans ((congrFun (W4_of m ρ c main_v3 (by decide)) _).trans (h.k_at ρ _ _))
  hv n d := (blk1_2 (V4 m ρ) c t n d).trans ((congrFun (W4_of m ρ c main_v4 (by decide)) _).trans (h.v_at ρ _ _))
  hg r d := (blk1_3 (V4 m ρ) c t r d).trans ((congrFun (W4_of m ρ c main_v5 (by decide)) _).trans (h.g_at ρ _ _))
  hl r := (blk1_4 (V4 m ρ) c t r 0).trans (h.lse_arr ρ _ _ _)
  hf j n := (blk1_5 (V4 m ρ) c t j n).trans ((congrFun (W4_of m ρ c main_v8 (by decide)) _).trans (h.f_at ρ j (hd t) n))

/-- The array of the row terms. -/
theorem row_arr (z : Fin 16) (i : Fin 4096) (x : Fin 128) :
    W5 m ρ c (Proc.devRef .tc main_v10_1) (ix3 z i x) = (D (qhead Q z) (head K z) (head V z) (head G z) (A z) i : EReal) := by
  obtain ⟨t, r, rfl, rfl⟩ := exists_point z i
  refine (congrFun (W5_arr m ρ c 7) _).trans ((arr1_7 (V4 m ρ) c t r x).trans ?_)
  exact (congrFun (after1_7 (V4 m ρ) c t) _).trans ((h.point1 ρ t).row_value 0 r x)

/-- The gradients of the queries. -/
theorem dq_arr (z : Fin 16) (i : Fin 4096) (d : Fin 128) :
    W5 m ρ c (Proc.devRef .tc main_v10_0) (ix2 i (lane z d))
      = (((∑ n, DS (qhead Q z) (head K z) (head V z) (head G z) (A z) i n * head K z n d) * scale : ℝ) : EReal) := by
  obtain ⟨t, r, rfl, rfl⟩ := exists_point z i
  refine (congrFun (W5_arr m ρ c 6) _).trans ((arr1_6 (V4 m ρ) c t r d).trans ?_)
  exact (congrFun (after1_6 (V4 m ρ) c t) _).trans ((h.point1 ρ t).dq_value r d)

/-- What the key region's blocks hold. -/
theorem point2 (t : Fin 64) :
    Point2 (V5 m ρ) c t (qhead Q (hd t)) (head K (hd t)) (head V (hd t)) (head G (hd t)) (A (hd t)) where
  hq r d := (blk2_0 (V5 m ρ) c t r d).trans ((congrFun ((W5_of m ρ c main_v2 (by decide)).trans (W4_of m ρ c main_v2 (by decide))) _).trans
    (h.q_at ρ _ _))
  hk n d := (blk2_1 (V5 m ρ) c t n d).trans ((congrFun ((W5_of m ρ c main_v3 (by decide)).trans (W4_of m ρ c main_v3 (by decide))) _).trans
    (h.k_at ρ _ _))
  hv n d := (blk2_2 (V5 m ρ) c t n d).trans ((congrFun ((W5_of m ρ c main_v4 (by decide)).trans (W4_of m ρ c main_v4 (by decide))) _).trans
    (h.v_at ρ _ _))
  hg r d := (blk2_3 (V5 m ρ) c t r d).trans ((congrFun ((W5_of m ρ c main_v5 (by decide)).trans (W4_of m ρ c main_v5 (by decide))) _).trans
    (h.g_at ρ _ _))
  hd r := (blk2_4 (V5 m ρ) c t r 0).trans (h.row_arr ρ _ _ _)
  hl r := (blk2_5 (V5 m ρ) c t r 0).trans ((congrFun (W5_of m ρ c main_v9_1 (by decide)) _).trans (h.lse_arr ρ _ _ _))
  hf n := (blk2_6 (V5 m ρ) c t n).trans ((congrFun ((W5_of m ρ c main_v8 (by decide)).trans (W4_of m ρ c main_v8 (by decide))) _).trans
    (h.f_at ρ _ (hd t) n))

/-- The attention's outputs, at the end. -/
theorem o_end (z : Fin 16) (i : Fin 4096) (d : Fin 128) :
    W6 m ρ c (Proc.devRef .tc main_v9_0) (ix2 i (lane z d)) = (O (qhead Q z) (head K z) (head V z) (A z) i d : EReal) := by
  refine (congrFun ((W6_of m ρ c main_v9_0 (by decide)).trans (W5_of m ρ c main_v9_0 (by decide))) _).trans ?_
  obtain ⟨t, r, rfl, rfl⟩ := exists_point z i
  refine (congrFun (W4_arr m ρ c 4) _).trans ((arr0_4 (V3 m ρ) c t r d).trans ?_)
  exact (congrFun (after0_4 (V3 m ρ) c t) _).trans (average_value (fun r d => (blk0_0 (V3 m ρ) c t r d).trans (h.q_at ρ _ _))
    (fun n d => (blk0_1 (V3 m ρ) c t n d).trans (h.k_at ρ _ _)) (fun n d => (blk0_2 (V3 m ρ) c t n d).trans (h.v_at ρ _ _))
    (fun j n => (blk0_3 (V3 m ρ) c t j n).trans (h.f_at ρ j (hd t) n)) r d)

/-- The rows' logarithms, at the end. -/
theorem lse_end (z : Fin 16) (i : Fin 4096) (x : Fin 128) :
    W6 m ρ c (Proc.devRef .tc main_v9_1) (ix3 z i x) = (lse (qhead Q z) (head K z) (A z) i : EReal) :=
  (congrFun ((W6_of m ρ c main_v9_1 (by decide)).trans (W5_of m ρ c main_v9_1 (by decide))) _).trans (h.lse_arr ρ z i x)

/-- The gradients of the queries, at the end. -/
theorem dq_end (z : Fin 16) (i : Fin 4096) (d : Fin 128) :
    W6 m ρ c (Proc.devRef .tc main_v10_0) (ix2 i (lane z d))
      = (((∑ n, DS (qhead Q z) (head K z) (head V z) (head G z) (A z) i n * head K z n d) * scale : ℝ) : EReal) :=
  (congrFun (W6_of m ρ c main_v10_0 (by decide)) _).trans (h.dq_arr ρ z i d)

/-- The gradients of the keys. -/
theorem dk_end (z : Fin 16) (i : Fin 4096) (d : Fin 128) :
    W6 m ρ c (Proc.devRef .tc main_v11_0) (ix2 i (lane z d))
      = ((∑ r, DS (qhead Q z) (head K z) (head V z) (head G z) (A z) r i * qhead Q z r d : ℝ) : EReal) := by
  obtain ⟨t, r, rfl, rfl⟩ := exists_point z i
  refine (congrFun (W6_arr m ρ c 7) _).trans ((arr2_7 (V5 m ρ) c t r d).trans ?_)
  exact (congrFun (after2_7 (V5 m ρ) c t) _).trans ((h.point2 ρ t).dk_value r d)

/-- The gradients of the values. -/
theorem dv_end (z : Fin 16) (i : Fin 4096) (d : Fin 128) :
    W6 m ρ c (Proc.devRef .tc main_v11_1) (ix2 i (lane z d))
      = ((∑ r, P (qhead Q z) (head K z) (A z) r i * head G z r d : ℝ) : EReal) := by
  obtain ⟨t, r, rfl, rfl⟩ := exists_point z i
  refine (congrFun (W6_arr m ρ c 8) _).trans ((arr2_8 (V5 m ρ) c t r d).trans ?_)
  exact (congrFun (after2_8 (V5 m ρ) c t) _).trans ((h.point2 ρ t).dv_value r d)

/-- The gradients of the gates. -/
theorem dfk_end (z : Fin 16) (j : Fin 4) (u : Fin 8) (n : Fin 1024) :
    W6 m ρ c (Proc.devRef .tc main_v11_2) (ix4 z j u n)
      = ((-∑ r, DS (qhead Q z) (head K z) (head V z) (head G z) (A z) r (pos j.val n) : ℝ) : EReal) := by
  obtain ⟨t, rfl, rfl⟩ : ∃ t : Fin 64, z = hd t ∧ j = ⟨t.val % 4, Nat.mod_lt _ (by decide)⟩ :=
    ⟨⟨4 * z.val + j.val, by omega⟩, Fin.ext (show z.val = (4 * z.val + j.val) / 4 by omega), Fin.ext (show j.val = (4 * z.val + j.val) % 4 by omega)⟩
  refine (congrFun (W6_arr m ρ c 9) _).trans ((arr2_9 (V5 m ρ) c t u n).trans ?_)
  exact (congrFun (after2_9 (V5 m ρ) c t) _).trans ((h.point2 ρ t).dfk_value 0 0 u n)

end Reals

/-! ## The run -/

section Launch

open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the launch. -/
abbrev Res : Type _ := MT nD τ sig Unit (Elt Ideal) ℕ (UR sig nD τ) ℕ

-- the launch's implicit arguments are found by unifying its conclusion, which unfolds definitions in a metavariable's type
set_option backward.isDefEq.respectTransparency.types false in
/-- Every execution ends with the six results at the last region's contents and the arguments as launched. -/
theorem run_results : θ_run defs (onTc (τ := τ) (main (F := Ideal))) ⟨m, fun _ => 0, ρ⟩ (fun r => ∀ c : Dev nD,
      r.2.mem ((c.tc : Thread nD τ).loc main_v9_0) = W6 m ρ c (Proc.devRef .tc main_v9_0)
      ∧ r.2.mem ((c.tc : Thread nD τ).loc main_v9_1) = W6 m ρ c (Proc.devRef .tc main_v9_1)
      ∧ r.2.mem ((c.tc : Thread nD τ).loc main_v10_0) = W6 m ρ c (Proc.devRef .tc main_v10_0)
      ∧ r.2.mem ((c.tc : Thread nD τ).loc main_v11_0) = W6 m ρ c (Proc.devRef .tc main_v11_0)
      ∧ r.2.mem ((c.tc : Thread nD τ).loc main_v11_1) = W6 m ρ c (Proc.devRef .tc main_v11_1)
      ∧ r.2.mem ((c.tc : Thread nD τ).loc main_v11_2) = W6 m ρ c (Proc.devRef .tc main_v11_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v9_0 (by decide)), h c _ (mem_uc main_v9_1 (by decide)), h c _ (mem_uc main_v10_0 (by decide)), h c _ (mem_uc main_v11_0 (by decide)), h c _ (mem_uc main_v11_1 (by decide)),
       h c _ (mem_uc main_v11_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Launch

end Cert.KernelFoxIdeal.Value
-- ==== Proof.FoxReference.lean ====
/- The forgetting attention's reference: its stages and results, entry by entry, at real arguments. -/
module

public import proofs.«01_k».proof.Proof.Gen.ReferenceFoxIdeal.Read
public import proofs.«01_k».proof.Proof.FoxRun

@[expose] public section

noncomputable section

namespace Cert.ReferenceFoxIdeal.Read

open Idealize.ShloMosaic TcCoe Idealize.SL.Sem
open Cert.Fox KernelFoxIdeal.Value

/-- The reference's arguments are real numbers. -/
structure Real5 (x0 x1 x2 : (⟨S4096x2048, .f32⟩ : BufTy).Contents (Elt Ideal)) (x3 : (⟨S16x4096, .f32⟩ : BufTy).Contents (Elt Ideal))
    (x4 : (⟨S4096x2048, .f32⟩ : BufTy).Contents (Elt Ideal)) (Q K V G : Fin 4096 → Fin 2048 → ℝ) (A : Fin 16 → Fin 4096 → ℝ) : Prop where
  hQ : ∀ i l, x0 (ix2 i l) = (Q i l : EReal)
  hK : ∀ i l, x1 (ix2 i l) = (K i l : EReal)
  hV : ∀ i l, x2 (ix2 i l) = (V i l : EReal)
  hA : ∀ h i, x3 (ix2 h i) = (A h i : EReal)
  hG : ∀ i l, x4 (ix2 i l) = (G i l : EReal)

/-- A maximum over finitely many entries, none of them `⊤` and one of them a number, is a number. -/
theorem exists_fold_max {n : ℕ} (x : Fin n → EReal) (hx : ∀ i, x i ≠ ⊤) (i₀ : Fin n) (h₀ : x i₀ ≠ ⊥) :
    ∃ M : ℝ, Finset.fold max ⊥ x Finset.univ = M :=
  ⟨_, (EReal.coe_toReal ((Finset.fold_max_lt _).2 ⟨bot_lt_top, fun i _ => lt_top_iff_ne_top.2 (hx i)⟩).ne
    ((Finset.lt_fold_max _).2 (Or.inr ⟨i₀, Finset.mem_univ _, bot_lt_iff_ne_bot.2 h₀⟩)).ne').symm⟩

/-- The comparison of two positions, as a choice. -/
theorem causal_pos (c r : Fin 4096) (a b : EReal) :
    Scalar.select (α := EReal) (IntOp.cmpi CmpIPredicate.sle (BitVec.ofNat 32 ↑c) (BitVec.ofNat 32 ↑r)) a b
      = if c ≤ r then a else b := by
  have hc := c.isLt
  have hr := r.isLt
  rw [WordCmp.cmpi_sle_ofNat (by omega) (by omega), WordCmp.select_ofBool]
  simp only [decide_eq_true_eq, Fin.le_def]

theorem ofBits_zero : Ideal.ofBits .f32 0x00000000#32 = (0 : EReal) := by simp [Ideal.ofBits, Ideal.ieee]
theorem ofBits_one : Ideal.ofBits .f32 0x3F800000#32 = ((1 : ℝ) : EReal) := by
  simp [Ideal.ofBits, Ideal.ieee, -EReal.coe_mul]
  norm_num

section Stages

variable (x0 x1 : (⟨S4096x2048, .f32⟩ : BufTy).Contents (Elt Ideal)) (x3 : (⟨S16x4096, .f32⟩ : BufTy).Contents (Elt Ideal))
  (z : Fin 16) (r : Fin 4096)

theorem fold_stage : val_main_v19 (F := Ideal) x0 x1 x3 (ix2 z r) = Finset.fold max (Ideal.ofBits .f32 0xFF800000#32)
    (fun c => val_main_v18_0 (F := Ideal) x0 x1 x3 (ix3 z r c)) Finset.univ := by
  unfold val_main_v19 val_main_cst_1
  generalize val_main_v18_0 (F := Ideal) x0 x1 x3 = y
  pointwise

theorem max_stage : val_main_v26 (F := Ideal) x0 x1 x3 (ix2 z r)
    = max (Ideal.ofBits .f32 0xFF800000#32) (val_main_v19 (F := Ideal) x0 x1 x3 (ix2 z r)) := by
  rw [val_main_v26_apply, Ideal.maximumf_eq_max, val_main_v25_apply, val_main_cst_3_apply, Ideal.ofBits_def]

theorem exp_stage (c : Fin 4096) : val_main_v39 (F := Ideal) x0 x1 x3 (ix3 z r c)
    = Ideal.exp (val_main_v18_0 (F := Ideal) x0 x1 x3 (ix3 z r c) - val_main_v26 (F := Ideal) x0 x1 x3 (ix2 z r)) := by
  unfold val_main_v39 val_main_v38 val_main_v37 val_main_v36
  pointwise

theorem total_stage : val_main_v40 (F := Ideal) x0 x1 x3 (ix2 z r) = ∑ c, val_main_v39 (F := Ideal) x0 x1 x3 (ix3 z r c) := by
  unfold val_main_v40 val_main_cst_9
  pointwise

end Stages

theorem lane_head (z : Fin 16) (d : Fin 128) (hp : (lane z d).val / 128 < 16) : (⟨(lane z d).val / 128, hp⟩ : Fin 16) = z :=
  Fin.ext (show (z.val * 128 + d.val) / 128 = z.val by have := d.isLt; omega)

theorem pos_mk (j : Fin 4) (n : Fin 1024) (hp : j.val * 1024 + n.val < 4096) : (⟨j.val * 1024 + n.val, hp⟩ : Fin 4096) = pos j.val n :=
  Fin.ext (show j.val * 1024 + n.val = (pos j.val n).val by rw [pos_val j.isLt, mul_comm])

namespace Real5

variable {x0 x1 x2 : (⟨S4096x2048, .f32⟩ : BufTy).Contents (Elt Ideal)} {x3 : (⟨S16x4096, .f32⟩ : BufTy).Contents (Elt Ideal)}
  {x4 : (⟨S4096x2048, .f32⟩ : BufTy).Contents (Elt Ideal)} {Q K V G : Fin 4096 → Fin 2048 → ℝ} {A : Fin 16 → Fin 4096 → ℝ}
  (h : Real5 x0 x1 x2 x3 x4 Q K V G A) (z : Fin 16)

include h

/-- The logits: the scores and a number that depends on the query alone. -/
theorem logits (r c : Fin 4096) : val_main_v11 (F := Ideal) x0 x1 x3 (ix3 z r c)
    = ((score (qhead Q z) (head K z) (A z) r c + A z r : ℝ) : EReal) := by
  refine (show _ = (∑ x, x0 (ix2 r (lane z x)) * x1 (ix2 c (lane z x))) * Ideal.ofBits .f32 0x3DB504F3#32
    + (x3 (ix2 z r) - x3 (ix2 z c)) from ?_).trans ?_
  · unfold val_main_v11 val_main_v10 val_main_v9 val_main_v8 val_main_v7 val_main_v6 val_main_v5 val_main_v4 val_main_v3
      val_main_v1 val_main_v0 val_main_cst
    pointwise
    rfl
  · rw [h.hA, h.hA, scale_eq, Finset.sum_congr rfl fun x _ => by rw [h.hQ, h.hK, ← EReal.coe_mul], ← coe_sum,
      ← EReal.coe_mul, ← EReal.coe_sub, ← EReal.coe_add]
    congr 1
    unfold score qhead head
    rw [Finset.sum_mul, Finset.sum_congr rfl fun x _ => mul_right_comm _ _ _]
    ring

/-- The logits a query sees; the others are at `⊥`. -/
theorem masked (r c : Fin 4096) : val_main_v18_0 (F := Ideal) x0 x1 x3 (ix3 z r c)
    = if c ≤ r then ((score (qhead Q z) (head K z) (A z) r c + A z r : ℝ) : EReal) else ⊥ := by
  rw [← h.logits z r c, ← ofBits_bot, ← causal_pos]
  unfold val_main_v18_0 val_main_v18_1 val_main_call0_v2 val_main_call0_v0 val_main_cst_0 val_main_v17 val_main_v16 val_main_v15
    val_main_v14 val_main_v13 val_main_v12
  pointwise
  rfl

/-- The row's maximum is a number. -/
theorem rowmax (r : Fin 4096) : ∃ M : ℝ, val_main_v26 (F := Ideal) x0 x1 x3 (ix2 z r) = (M : EReal) := by
  rw [max_stage, fold_stage, ofBits_bot, max_eq_right bot_le]
  refine exists_fold_max _ (fun c => ?_) r ?_
  · rw [h.masked]; split_ifs; exacts [EReal.coe_ne_top _, bot_ne_top]
  · rw [h.masked, if_pos le_rfl]; exact EReal.coe_ne_bot _

/-- The row's exponentials are the weights times the row's sum, and that sum is not zero. -/
theorem exps (r : Fin 4096) : ∃ T : ℝ, T ≠ 0 ∧ val_main_v40 (F := Ideal) x0 x1 x3 (ix2 z r) = (T : EReal)
    ∧ ∀ c, val_main_v39 (F := Ideal) x0 x1 x3 (ix3 z r c) = ((P (qhead Q z) (head K z) (A z) r c * T : ℝ) : EReal) := by
  obtain ⟨M, hM⟩ := h.rowmax z r
  have hZ := Z_pos (qhead Q z) (head K z) (A z) r
  have he : ∀ c, val_main_v39 (F := Ideal) x0 x1 x3 (ix3 z r c)
      = ((P (qhead Q z) (head K z) (A z) r c * (Z (qhead Q z) (head K z) (A z) r * Real.exp (A z r - M)) : ℝ) : EReal) := fun c => by
    rw [exp_stage, h.masked, hM, P_eq]
    by_cases hc : c ≤ r
    · rw [if_pos hc, if_pos hc, ← EReal.coe_sub, Ideal.exp_coe, ← mul_assoc, div_mul_cancel₀ _ hZ.ne', ← Real.exp_add]
      refine congrArg (fun y => ((Real.exp y : ℝ) : EReal)) ?_
      ring
    · rw [if_neg hc, if_neg hc, zero_mul, EReal.bot_sub, Ideal.exp_bot, EReal.coe_zero]
  refine ⟨_, mul_ne_zero hZ.ne' (Real.exp_pos _).ne', ?_, he⟩
  rw [total_stage, Finset.sum_congr rfl fun c _ => he c, ← coe_sum, ← Finset.sum_mul, sum_P, one_mul]

/-- The softmax weights. -/
theorem weights (r c : Fin 4096) : val_main_v43 (F := Ideal) x0 x1 x3 (ix3 z r c)
    = ((P (qhead Q z) (head K z) (A z) r c : ℝ) : EReal) := by
  obtain ⟨T, hT, h40, h39⟩ := h.exps z r
  refine (show _ = Ideal.div (val_main_v39 (F := Ideal) x0 x1 x3 (ix3 z r c)) (val_main_v40 (F := Ideal) x0 x1 x3 (ix2 z r)) from ?_).trans ?_
  · unfold val_main_v43 val_main_v42 val_main_v41
    pointwise
  · rw [h40, h39, Ideal.div_coe hT, ← EReal.coe_mul]
    congr 1
    field_simp

/-- The attention's outputs. -/
theorem o_at (i : Fin 4096) (d : Fin 128) : val_main_v93 (F := Ideal) x0 x1 x2 x3 (ix2 i (lane z d))
    = (O (qhead Q z) (head K z) (head V z) (A z) i d : EReal) := by
  refine (show _ = ∑ n, x2 (ix2 n (lane z d)) * val_main_v43 (F := Ideal) x0 x1 x3 (ix3 z i n) from ?_).trans ?_
  · unfold val_main_v93 val_main_v49 val_main_v48 val_main_v47 val_main_v2
    pointwise
    rw [lane_head]
  · rw [Finset.sum_congr rfl fun n _ => by rw [h.weights, h.hV, ← EReal.coe_mul, mul_comm], ← coe_sum]
    rfl

/-- The logarithms of the row sums, less the query's own gate. -/
theorem lse_at (i : Fin 4096) (x : Fin 128) : val_main_v55 (F := Ideal) x0 x1 x3 (ix3 z i x)
    = (lse (qhead Q z) (head K z) (A z) i : EReal) := by
  refine (show _ = Ideal.log (Ideal.ofBits .f32 0x00000000#32 + ∑ c, Ideal.exp (val_main_v18_0 (F := Ideal) x0 x1 x3 (ix3 z i c)))
    - x3 (ix2 z i) from ?_).trans ?_
  · unfold val_main_v55 val_main_v54 val_main_v53 val_main_v52 val_main_v51 val_main_v50 val_main_cst_11
    pointwise
  · have he : ∀ c, Ideal.exp (val_main_v18_0 (F := Ideal) x0 x1 x3 (ix3 z i c))
        = ((P (qhead Q z) (head K z) (A z) i c * (Z (qhead Q z) (head K z) (A z) i * Real.exp (A z i)) : ℝ) : EReal) := fun c => by
      rw [h.masked, P_eq]
      by_cases hc : c ≤ i
      · rw [if_pos hc, if_pos hc, Ideal.exp_coe, ← mul_assoc, div_mul_cancel₀ _ (Z_pos _ _ _ _).ne', ← Real.exp_add]
      · rw [if_neg hc, if_neg hc, zero_mul, Ideal.exp_bot, EReal.coe_zero]
    have hZ := Z_pos (qhead Q z) (head K z) (A z) i
    rw [ofBits_zero, zero_add, Finset.sum_congr rfl fun c _ => he c, ← coe_sum, ← Finset.sum_mul, sum_P, one_mul, h.hA, Ideal.log_coe,
      if_neg (not_le.2 (mul_pos hZ (Real.exp_pos _))), Real.log_mul hZ.ne' (Real.exp_pos _).ne', Real.log_exp, ← EReal.coe_sub, add_sub_cancel_right]
    rfl

/-- The derivatives towards the weights. -/
theorem dweights (r c : Fin 4096) : val_main_v58 (F := Ideal) x2 x4 (ix3 z r c)
    = ((DP (head V z) (head G z) r c : ℝ) : EReal) := by
  refine (show _ = ∑ x, x4 (ix2 r (lane z x)) * x2 (ix2 c (lane z x)) from ?_).trans ?_
  · unfold val_main_v58 val_main_v57 val_main_v56 val_main_v2
    pointwise
    rfl
  · rw [Finset.sum_congr rfl fun x _ => by rw [h.hG, h.hV, ← EReal.coe_mul], ← coe_sum]
    rfl

/-- The derivatives towards the scores. -/
theorem dscores (r c : Fin 4096) : val_main_v73 (F := Ideal) x0 x1 x2 x3 x4 (ix3 z r c)
    = ((DS (qhead Q z) (head K z) (head V z) (head G z) (A z) r c : ℝ) : EReal) := by
  obtain ⟨T, hT, h40, h39⟩ := h.exps z r
  have h57 : ∀ c, val_main_v63 (F := Ideal) x0 x1 x2 x3 x4 (ix3 z r c)
      = ((P (qhead Q z) (head K z) (A z) r c * DP (head V z) (head G z) r c * (1 / T) : ℝ) : EReal) := fun c => by
    refine (show _ = val_main_v58 (F := Ideal) x2 x4 (ix3 z r c)
      * Ideal.div (Ideal.ofBits .f32 0x3F800000#32) (val_main_v40 (F := Ideal) x0 x1 x3 (ix2 z r) * val_main_v40 (F := Ideal) x0 x1 x3 (ix2 z r))
      * val_main_v39 (F := Ideal) x0 x1 x3 (ix3 z r c) from ?_).trans ?_
    · unfold val_main_v63 val_main_v62 val_main_v61 val_main_v46 val_main_v45 val_main_v44 val_main_v41 val_main_cst_10
      pointwise
    · rw [h40, h39, h.dweights, ofBits_one, ← EReal.coe_mul, Ideal.div_coe (mul_ne_zero hT hT), ← EReal.coe_mul, ← EReal.coe_mul,
        ← EReal.coe_mul]
      congr 1
      field_simp
  have h60 : val_main_v66 (F := Ideal) x0 x1 x2 x3 x4 (ix3 z r 0)
      = ((-(D (qhead Q z) (head K z) (head V z) (head G z) (A z) r * (1 / T)) : ℝ) : EReal) := by
    refine (show _ = -(Ideal.ofBits .f32 0x00000000#32 + ∑ c, val_main_v63 (F := Ideal) x0 x1 x2 x3 x4 (ix3 z r c)) from ?_).trans ?_
    · unfold val_main_v66 val_main_v65 val_main_v64 val_main_cst_12
      pointwise
    · rw [ofBits_zero, zero_add, Finset.sum_congr rfl fun c _ => h57 c, ← coe_sum, ← Finset.sum_mul, EReal.coe_neg]
      rfl
  refine (show _ = if c ≤ r then (Ideal.div (val_main_v58 (F := Ideal) x2 x4 (ix3 z r c)) (val_main_v40 (F := Ideal) x0 x1 x3 (ix2 z r))
    + (Ideal.ofBits .f32 0x00000000#32 + val_main_v66 (F := Ideal) x0 x1 x2 x3 x4 (ix3 z r 0)))
      * val_main_v39 (F := Ideal) x0 x1 x3 (ix3 z r c) else Ideal.ofBits .f32 0x00000000#32 from ?_).trans ?_
  · rw [← causal_pos]
    unfold val_main_v73 val_main_v72 val_main_v71 val_main_v70 val_main_v69 val_main_v68 val_main_v67 val_main_v41 val_main_cst_13
      val_main_v18_1 val_main_call1_v0 val_main_call1_cst val_main_v17 val_main_v16 val_main_v15 val_main_v14 val_main_v13 val_main_v12
    pointwise
    rw [Fin.sum_univ_one]
  · rw [ofBits_zero]
    split_ifs with hc
    · rw [h.dweights, h40, h60, h39, Ideal.div_coe hT, zero_add, ← EReal.coe_mul, ← EReal.coe_add, ← EReal.coe_mul]
      congr 1
      unfold DS
      field_simp
      ring
    · unfold DS
      rw [P_of_lt _ _ _ (not_le.1 hc), zero_mul, EReal.coe_zero]

/-- The gradient of the queries. -/
theorem dq_at (i : Fin 4096) (d : Fin 128) : val_main_v94 (F := Ideal) x0 x1 x2 x3 x4 (ix2 i (lane z d))
    = (((∑ n, DS (qhead Q z) (head K z) (head V z) (head G z) (A z) i n * head K z n d) * scale : ℝ) : EReal) := by
  refine (show _ = ∑ n, val_main_v73 (F := Ideal) x0 x1 x2 x3 x4 (ix3 z i n) * Ideal.ofBits .f32 0x3DB504F3#32 * x1 (ix2 n (lane z d))
    from ?_).trans ?_
  · unfold val_main_v94 val_main_v90 val_main_v87 val_main_v86 val_main_v83 val_main_v82 val_main_cst_18 val_main_v1
    pointwise
    rw [lane_head]
  · rw [Finset.sum_congr rfl fun n _ => by rw [h.dscores, scale_eq, h.hK, ← EReal.coe_mul, ← EReal.coe_mul], ← coe_sum]
    congr 1
    rw [Finset.sum_mul, Finset.sum_congr rfl fun x _ => mul_right_comm _ _ _]

/-- The gradient of the keys. -/
theorem dk_at (i : Fin 4096) (d : Fin 128) : val_main_v95 (F := Ideal) x0 x1 x2 x3 x4 (ix2 i (lane z d))
    = ((∑ r, DS (qhead Q z) (head K z) (head V z) (head G z) (A z) r i * qhead Q z r d : ℝ) : EReal) := by
  refine (show _ = ∑ r, val_main_v73 (F := Ideal) x0 x1 x2 x3 x4 (ix3 z r i) * Ideal.ofBits .f32 0x3DB504F3#32 * x0 (ix2 r (lane z d))
    from ?_).trans ?_
  · unfold val_main_v95 val_main_v89 val_main_v85 val_main_v84 val_main_v83 val_main_v82 val_main_cst_18 val_main_v0
    pointwise
    rw [lane_head]
  · rw [Finset.sum_congr rfl fun n _ => by rw [h.dscores, scale_eq, h.hQ, ← EReal.coe_mul, ← EReal.coe_mul], ← coe_sum]
    congr 1
    refine Finset.sum_congr rfl fun x _ => ?_
    unfold qhead
    ring

/-- The gradient of the values. -/
theorem dv_at (i : Fin 4096) (d : Fin 128) : val_main_v96 (F := Ideal) x0 x1 x3 x4 (ix2 i (lane z d))
    = ((∑ r, P (qhead Q z) (head K z) (A z) r i * head G z r d : ℝ) : EReal) := by
  refine (show _ = ∑ r, x4 (ix2 r (lane z d)) * val_main_v43 (F := Ideal) x0 x1 x3 (ix3 z r i) from ?_).trans ?_
  · unfold val_main_v96 val_main_v88 val_main_v60 val_main_v59 val_main_v57 val_main_v56
    pointwise
    rw [lane_head]
  · rw [Finset.sum_congr rfl fun n _ => by rw [h.weights, h.hG, ← EReal.coe_mul, mul_comm], ← coe_sum]

/-- The gradient of the logarithm of the accumulated forget gates, written eight times. -/
theorem df_at (j : Fin 4) (u : Fin 8) (n : Fin 1024) : val_main_v92 (F := Ideal) x0 x1 x2 x3 x4 (ix4 z j u n)
    = ((-∑ r, DS (qhead Q z) (head K z) (head V z) (head G z) (A z) r (pos j.val n) : ℝ) : EReal) := by
  refine (show _ = (Ideal.ofBits .f32 0x00000000#32 + (Ideal.ofBits .f32 0x00000000#32 + ∑ r, -val_main_v73 (F := Ideal) x0 x1 x2 x3 x4 (ix3 z r (pos j.val n))))
    + (Ideal.ofBits .f32 0x00000000#32 + (Ideal.ofBits .f32 0x00000000#32 + ∑ c, val_main_v73 (F := Ideal) x0 x1 x2 x3 x4 (ix3 z (pos j.val n) c)))
    from ?_).trans ?_
  · unfold val_main_v92 val_main_v91 val_main_v81 val_main_v80 val_main_v79 val_main_v78 val_main_v77 val_main_v76 val_main_v75 val_main_v74
      val_main_cst_14 val_main_cst_15 val_main_cst_16 val_main_cst_17
    pointwise
    rw [Fin.sum_univ_one, Fin.sum_univ_one, pos_mk]
  · have h1 : ∑ r, -val_main_v73 (F := Ideal) x0 x1 x2 x3 x4 (ix3 z r (pos j.val n))
        = ((∑ r, -DS (qhead Q z) (head K z) (head V z) (head G z) (A z) r (pos j.val n) : ℝ) : EReal) := by
      rw [coe_sum]
      exact Finset.sum_congr rfl fun r _ => by rw [h.dscores, EReal.coe_neg]
    have h2 : ∑ c, val_main_v73 (F := Ideal) x0 x1 x2 x3 x4 (ix3 z (pos j.val n) c) = 0 := by
      rw [Finset.sum_congr rfl fun c _ => h.dscores z _ c, ← coe_sum, sum_DS, EReal.coe_zero]
    rw [ofBits_zero, zero_add, zero_add, zero_add, zero_add, h1, h2, add_zero, Finset.sum_neg_distrib]

end Real5

end Cert.ReferenceFoxIdeal.Read

end
-- ==== Proof.Finite.lean ====
/- What a finiteness test of an array gives: every entry is a real number. -/
module

public import Idealize.ShloMosaic.Lib.StableHlo
public import Idealize.ShloMosaic.PureOps
public import Idealize.ShloMosaic.Lib.Pointwise
public import Idealize.ShloMosaic.Lib.WordCmp

@[expose] public section

noncomputable section

namespace Cert.Proof

open Idealize.ShloMosaic

theorem ofBits_top : Ideal.ofBits .f32 0x7F800000#32 = (⊤ : EReal) := by simp [Ideal.ofBits, Ideal.ieee]

/-- An entry whose absolute value is below infinity is a real number. -/
theorem real_of_abs_lt {x : EReal} (h : max x (-x) < ⊤) : x = (x.toReal : EReal) := by
  refine (EReal.coe_toReal (fun e => ?_) fun e => ?_).symm <;> subst e <;> simp at h

/-- An array that passes the test holds real numbers. -/
theorem real_of_test {s u : Shape} (x : FVec Ideal s .f32) (d : Fin u.rank → Fin s.rank) (hb : u.BroadcastsInDim s d)
    (h : cmpf .olt (Host.absf x) (broadcastInDim s d hb (constant u .f32 0x7F800000#32)) = fun _ => 1#1) (i : s.Idx) :
    (x i : EReal) = ((x i : EReal).toReal : EReal) := by
  refine real_of_abs_lt ?_
  have e := congrFun h i
  simp only [pointwise] at e
  by_contra hc
  rw [decide_eq_false (fun h' => hc (by rw [ofBits_top] at h'; exact h'))] at e
  exact absurd e (by decide)

theorem ofBits_top_half : Ideal.ofBits .bf16 0x7F80#16 = (⊤ : EReal) := by simp [Ideal.ofBits, Ideal.ieee]

/-- … and so does one of the shorter format. -/
theorem real_of_test_half {s u : Shape} (x : FVec Ideal s .bf16) (d : Fin u.rank → Fin s.rank) (hb : u.BroadcastsInDim s d)
    (h : cmpf .olt (Host.absf x) (broadcastInDim s d hb (constant u .bf16 0x7F80#16)) = fun _ => 1#1) (i : s.Idx) :
    (x i : EReal) = ((x i : EReal).toReal : EReal) := by
  refine real_of_abs_lt ?_
  have e := congrFun h i
  simp only [pointwise] at e
  by_contra hc
  rw [decide_eq_false (fun h' => hc (by rw [ofBits_top_half] at h'; exact h'))] at e
  exact absurd e (by decide)

end Cert.Proof

end
-- ==== Proof.FoxClaims.lean ====
/- The forgetting attention's backward call against the vector-Jacobian product of the attention: the claims. -/
module

public import proofs.«01_k».proof.Defs
public import proofs.«01_k».proof.Proof.Gen.KernelFox.Frame
public import proofs.«01_k».proof.Proof.FoxReference
public import proofs.«01_k».proof.Proof.Finite

@[expose] public section

noncomputable section

namespace Cert.Proof.Fox

open Idealize.ShloMosaic TcCoe Idealize.SL.Sem KernelFoxIdeal.Value KernelFoxIdeal.Gen Cert.Fox

theorem frame : quiescent_KernelFox := fun m ρ _ => KernelFox.Gen.frame m ρ
theorem frame_ideal : quiescent_KernelFoxIdeal := fun m ρ _ => KernelFoxIdeal.Gen.frame m ρ
theorem frame_reference : quiescent_ReferenceFoxIdeal := fun m ρ _ =>
  (θ_run _ _ _).mono (fun r h => ⟨fun c => (h c).2.2.2.2.2.2, sem_eq_zero_of_no_sems (by decide) r.2⟩) (ReferenceFoxIdeal.Value.run m ρ)

theorem facts_finite : Cert.Pre_finite_fox.Facts := ⟨by decide, by decide⟩

theorem frame_ideal_pre : quiescent_KernelFoxIdeal_pre_finite_fox (hPre_finite_fox := facts_finite) :=
  fun m ρ _ => frame_ideal m ρ trivial
theorem frame_reference_pre : quiescent_ReferenceFoxIdeal_pre_finite_fox (hPre_finite_fox := facts_finite) :=
  fun m ρ _ => frame_reference m ρ trivial

theorem preserves : preserves_KernelFox_KernelFoxIdeal := IdealRules.named_const.statement _ _ _ _ _ rfl

/-- Arguments that pass the finiteness test are real numbers. -/
theorem reals_of_finite {m : (ℓ : Loc KernelFoxIdeal.nD KernelFoxIdeal.τ KernelFoxIdeal.sig) → Buf (Elt Ideal) ℓ}
    (h : Cert.Pre_KernelFoxIdeal_finite_fox (hPre_finite_fox := facts_finite) m) (c : Dev KernelFoxIdeal.nD) :
    ∃ Q K V G A, KernelFoxIdeal.Value.Reals m c Q K V G A := by
  obtain ⟨h0, h1, h2, h3, h4⟩ := h c
  exact ⟨_, _, _, _, _, fun i l => real_of_test _ _ _ h0 (ix2 i l), fun i l => real_of_test _ _ _ h1 (ix2 i l),
    fun i l => real_of_test _ _ _ h2 (ix2 i l), fun i l => real_of_test _ _ _ h3 (ix2 i l), fun i l => real_of_test _ _ _ h4 (ix2 i l)⟩

/-- Both programs leave the attention's outputs, the logarithms of its row sums, the gradients of the queries, of the keys, of the values and of the accumulated forget gates. -/
theorem algebraic : algebraic_KernelFoxIdeal_ReferenceFoxIdeal_pre_finite_fox (hPre_finite_fox := facts_finite) := by
  intro m ρ m' ρ' hpre hm
  refine ⟨fun c => W6 m ρ c (Proc.devRef .tc KernelFoxIdeal.main_v9_0), fun c => W6 m ρ c (Proc.devRef .tc KernelFoxIdeal.main_v9_1),
    fun c => W6 m ρ c (Proc.devRef .tc KernelFoxIdeal.main_v10_0), fun c => W6 m ρ c (Proc.devRef .tc KernelFoxIdeal.main_v11_0),
    fun c => W6 m ρ c (Proc.devRef .tc KernelFoxIdeal.main_v11_1), fun c => W6 m ρ c (Proc.devRef .tc KernelFoxIdeal.main_v11_2),
    run_results m ρ, ?_⟩
  refine (θ_run _ _ _).mono (fun r h c => ?_) (ReferenceFoxIdeal.Value.run m' ρ')
  obtain ⟨h93, h55, h87, h88, h89, h86, hargs⟩ := h c
  obtain ⟨e0, e1, e2, e3, e4⟩ := hm c
  obtain ⟨Q, K, V, G, A, hr⟩ := reals_of_finite hpre c
  have hR : ReferenceFoxIdeal.Read.Real5 (m (c.tc.loc KernelFoxIdeal.main_arg0)) (m (c.tc.loc KernelFoxIdeal.main_arg1))
    (m (c.tc.loc KernelFoxIdeal.main_arg2)) (m (c.tc.loc KernelFoxIdeal.main_arg3)) (m (c.tc.loc KernelFoxIdeal.main_arg4))
    Q K V G A := ⟨hr.hQ, hr.hK, hr.hV, hr.hA, hr.hG⟩
  refine ⟨h93.trans ?_, h55.trans ?_, h87.trans ?_, h88.trans ?_, h89.trans ?_, h86.trans ?_, hargs⟩
  · rw [ReferenceFoxIdeal.Read.val_main_v93_eq, e0, e1, e2, e3]
    funext j
    obtain ⟨i, l, rfl⟩ : ∃ (i : Fin 4096) (l : Fin 2048), j = ix2 i l := ⟨_, _, eq_ix2 j⟩
    obtain ⟨z, d, rfl⟩ := exists_lane l
    exact (hR.o_at z i d).trans (hr.o_end ρ z i d).symm
  · rw [ReferenceFoxIdeal.Read.val_main_v55_eq, e0, e1, e3]
    funext j
    obtain ⟨z, i, x, rfl⟩ : ∃ (z : Fin 16) (i : Fin 4096) (x : Fin 128), j = ix3 z i x := ⟨_, _, _, eq_ix3 j⟩
    exact (hR.lse_at z i x).trans (hr.lse_end ρ z i x).symm
  · rw [ReferenceFoxIdeal.Read.val_main_v94_eq, e0, e1, e2, e3, e4]
    funext j
    obtain ⟨i, l, rfl⟩ : ∃ (i : Fin 4096) (l : Fin 2048), j = ix2 i l := ⟨_, _, eq_ix2 j⟩
    obtain ⟨z, d, rfl⟩ := exists_lane l
    exact (hR.dq_at z i d).trans (hr.dq_end ρ z i d).symm
  · rw [ReferenceFoxIdeal.Read.val_main_v95_eq, e0, e1, e2, e3, e4]
    funext j
    obtain ⟨i, l, rfl⟩ : ∃ (i : Fin 4096) (l : Fin 2048), j = ix2 i l := ⟨_, _, eq_ix2 j⟩
    obtain ⟨z, d, rfl⟩ := exists_lane l
    exact (hR.dk_at z i d).trans (hr.dk_end ρ z i d).symm
  · rw [ReferenceFoxIdeal.Read.val_main_v96_eq, e0, e1, e3, e4]
    funext j
    obtain ⟨i, l, rfl⟩ : ∃ (i : Fin 4096) (l : Fin 2048), j = ix2 i l := ⟨_, _, eq_ix2 j⟩
    obtain ⟨z, d, rfl⟩ := exists_lane l
    exact (hR.dv_at z i d).trans (hr.dv_end ρ z i d).symm
  · rw [ReferenceFoxIdeal.Read.val_main_v92_eq, e0, e1, e2, e3, e4]
    funext j
    obtain ⟨z, j', u, n, rfl⟩ : ∃ (z : Fin 16) (j' : Fin 4) (u : Fin 8) (n : Fin 1024), j = ix4 z j' u n := ⟨_, _, _, _, eq_ix4 j⟩
    exact (hR.df_at z j' u n).trans (hr.dfk_end ρ z j' u n).symm

end Cert.Proof.Fox

end
-- ==== Proof.MlpArrays.lean ====
/- The result array of the down-projection's backward call, entry by entry, in terms of its arguments. -/
module

public import proofs.«01_k».proof.Proof.Gen.KernelMlpIdeal.Value
public import proofs.«01_k».proof.Proof.RowSums

@[expose] public section

noncomputable section

namespace Cert.KernelMlpIdeal.Value

open Gen Idealize.ShloMosaic TcCoe Idealize.SL.Sem
open Pipeline (Dat)

variable (m : (ℓ : Loc nD τ sig) → Buf (Elt Ideal) ℓ)

/-- The arguments, entry by entry: the cotangent dy, the weight w2 and the pre-activation a. -/
abbrev dyv (c : Dev nD) (i : Fin 4096) (k : Fin 2048) : EReal := m (c.tc.loc main_arg0) (ix2 i k)
abbrev wv (c : Dev nD) (l : Fin 8192) (k : Fin 2048) : EReal := m (c.tc.loc main_arg1) (ix2 l k)
abbrev av (c : Dev nD) (i : Fin 4096) (l : Fin 8192) : EReal := m (c.tc.loc main_arg2) (ix2 i l)

theorem index_eq : ∀ t : Fin cfg0.N,  win0_0.index t 0 = t.val / 8 ∧ win0_0.index t 1 = 0 ∧ win0_1.index t 0 = t.val % 8 ∧ win0_1.index t 1 = 0
    ∧ win0_2.index t 0 = t.val / 8 ∧ win0_2.index t 1 = t.val % 8 ∧ win0_3.index t 0 = t.val / 8 ∧ win0_3.index t 1 = t.val % 8 := by decide +kernel

/-- The grid point of block row t and block column u. -/
abbrev pt (t : Fin 4) (u : Fin 8) : Fin cfg0.N := ⟨t.val * 8 + u.val, by have : cfg0.N = 32 := N_0; omega⟩

theorem pt_div (t : Fin 4) (u : Fin 8) : (pt t u).val / 8 = t.val ∧ (pt t u).val % 8 = u.val := by
  dsimp only; omega

theorem dy_at (c : Dev nD) (t : Fin 4) (u : Fin 8) (r : Fin 1024) (k : Fin 2048) :
    iblk m c 0 (pt t u) (ix2 r k) = dyv m c (rowOf 4 1024 t r) k := by
  unfold iblk
  rw [View.read_apply]
  show m (c.tc.loc main_arg0) _ = _
  congr 1
  funext a
  apply Fin.ext
  obtain ⟨h0, h1, -⟩ := index_eq (pt t u)
  match a with
  | ⟨0, _⟩ => show win0_0.index (pt t u) 0 * 1024 + 1 * r.val = t.val * 1024 + r.val; rw [h0, (pt_div t u).1]; omega
  | ⟨1, _⟩ => show win0_0.index (pt t u) 1 * 2048 + 1 * k.val = k.val; rw [h1]; omega

theorem w_at (c : Dev nD) (t : Fin 4) (u : Fin 8) (l : Fin 1024) (k : Fin 2048) :
    iblk m c 1 (pt t u) (ix2 l k) = wv m c (rowOf 8 1024 u l) k := by
  unfold iblk
  rw [View.read_apply]
  show m (c.tc.loc main_arg1) _ = _
  congr 1
  funext a
  apply Fin.ext
  obtain ⟨-, -, h0, h1, -⟩ := index_eq (pt t u)
  match a with
  | ⟨0, _⟩ => show win0_1.index (pt t u) 0 * 1024 + 1 * l.val = u.val * 1024 + l.val; rw [h0, (pt_div t u).2]; omega
  | ⟨1, _⟩ => show win0_1.index (pt t u) 1 * 2048 + 1 * k.val = k.val; rw [h1]; omega

theorem a_at (c : Dev nD) (t : Fin 4) (u : Fin 8) (r : Fin 1024) (l : Fin 1024) :
    iblk m c 2 (pt t u) (ix2 r l) = av m c (rowOf 4 1024 t r) (rowOf 8 1024 u l) := by
  unfold iblk
  rw [View.read_apply]
  show m (c.tc.loc main_arg2) _ = _
  congr 1
  funext a
  apply Fin.ext
  obtain ⟨-, -, -, -, h0, h1, -⟩ := index_eq (pt t u)
  match a with
  | ⟨0, _⟩ => show win0_2.index (pt t u) 0 * 1024 + 1 * r.val = t.val * 1024 + r.val; rw [h0, (pt_div t u).1]; omega
  | ⟨1, _⟩ => show win0_2.index (pt t u) 1 * 1024 + 1 * l.val = u.val * 1024 + l.val; rw [h1, (pt_div t u).2]; omega

/-- What a point writes back. -/
theorem flushed_at (c : Dev nD) (p : Fin cfg0.N) (r s : Fin 1024) :
    (dats m 0 c).flushed 3 p (ix2 r s) = k0_pay1 (iblk m c 0 p) (iblk m c 1 p) (iblk m c 2 p) (ix2 r s) := by
  rw [flushed3]
  unfold out0_3
  rw [View.canon_unit_zero hz]
  simp only [View.ld_unit_zero (S := S1024x2048) hz, View.ld_unit_zero (S := S1024x1024) hz]
  rfl

/-- The result at row i, lane l: the inner product of dy's row with w2's row, times 2 · max(a, 0). -/
theorem da_at (c : Dev nD) (i : Fin 4096) (l : Fin 8192) :
    (dats m 0 c).arrAt 3 cfg0.N (ix2 i l) = (∑ k : Fin 2048, dyv m c i k * wv m c l k)
      * (Ideal.ofBits .f32 0x40000000#32 * max (av m c i l) 0) := by
  obtain ⟨t, r, rfl⟩ := exists_rowOf (n := 4) (k := 1024) i
  obtain ⟨u, s, rfl⟩ := exists_rowOf (n := 8) (k := 1024) l
  have h := (dats m 0 c).arrAt_emb_eq_flushed 3 disjoint3 (pt t u) (flush0_3 (pt t u)) (ix2 r s)
  have he : ((cfg0.win 3).blk (pt t u)).view.emb (ix2 r s) = ix2 (rowOf 4 1024 t r) (rowOf 8 1024 u s) := by
    funext a
    apply Fin.ext
    obtain ⟨-, -, -, -, -, -, h0, h1⟩ := index_eq (pt t u)
    match a with
    | ⟨0, _⟩ => show win0_3.index (pt t u) 0 * 1024 + 1 * r.val = t.val * 1024 + r.val; rw [h0, (pt_div t u).1]; omega
    | ⟨1, _⟩ => show win0_3.index (pt t u) 1 * 1024 + 1 * s.val = u.val * 1024 + s.val; rw [h1, (pt_div t u).2]; omega
  rw [he] at h
  refine h.trans ?_
  rw [flushed_at]
  unfold k0_pay1
  pointwise
  simp only [dy_at, w_at, a_at]
  rfl

end Cert.KernelMlpIdeal.Value

end
-- ==== Proof.MlpClaims.lean ====
/- The down-projection's backward call through the squared ReLU against the vector-Jacobian product of relu(a)² · w2: the five claims. -/
module

public import proofs.«01_k».proof.Defs
public import proofs.«01_k».proof.Proof.Gen.KernelMlp.Frame
public import proofs.«01_k».proof.Proof.Gen.ReferenceMlpIdeal.Read
public import proofs.«01_k».proof.Proof.MlpArrays

@[expose] public section

noncomputable section

namespace Cert.Proof.Mlp

open Idealize.ShloMosaic TcCoe Idealize.SL.Sem KernelMlpIdeal.Value

theorem frame : quiescent_KernelMlp := fun m ρ _ => KernelMlp.Gen.frame m ρ
theorem frame_ideal : quiescent_KernelMlpIdeal := fun m ρ _ => KernelMlpIdeal.Gen.frame m ρ
theorem frame_reference : quiescent_ReferenceMlpIdeal := fun m ρ _ =>
  (θ_run _ _ _).mono (fun r h => ⟨fun c => (h c).2, sem_eq_zero_of_no_sems (by decide) r.2⟩) (ReferenceMlpIdeal.Value.run m ρ)

theorem preserves : preserves_KernelMlp_KernelMlpIdeal := trivial

/-- Where a is not positive the rule for the ReLU's derivative gives zero, and so does the factor max(a, 0). -/
theorem select_pos (a y k : EReal) : (if 0 < a then y * (k * max a 0) else 0) = y * (k * max a 0) := by
  split
  · rfl
  · rename_i h
    rw [max_eq_right (not_lt.mp h), mul_zero, mul_zero]

/-- Both programs leave (dy · w2ᵀ) · 2 · max(a, 0). -/
theorem algebraic : algebraic_KernelMlpIdeal_ReferenceMlpIdeal := by
  intro m ρ m' ρ' _ hm
  refine ⟨fun c => (KernelMlpIdeal.Gen.dats m 0 c).arrAt 3 KernelMlpIdeal.cfg0.N, run_blocks m ρ, ?_⟩
  refine (θ_run _ _ _).mono (fun r h c => ?_) (ReferenceMlpIdeal.Value.run m' ρ')
  obtain ⟨hr, hargs⟩ := h c
  obtain ⟨e0, e1, e2⟩ := hm c
  refine ⟨hr.trans ?_, hargs⟩
  rw [e0, e1, e2]
  funext j
  obtain ⟨i, l, rfl⟩ := exists_ix2 j
  refine Eq.trans ?_ (da_at m c i l).symm
  pointwise
  exact select_pos _ _ _

end Cert.Proof.Mlp

end
-- ==== Proof.MixBlocks.lean ====
/- What one grid point of the gMLP mixing's backward call leaves in its four result blocks: one group's columns of four blocks of 128 rows. -/
module

public import proofs.«01_k».proof.Proof.Gen.KernelMixIdeal.Value
public import proofs.«01_k».proof.Proof.RowSums

@[expose] public section

noncomputable section

namespace Cert.KernelMixIdeal.Value

open Gen Idealize.ShloMosaic TcCoe Idealize.SL.Sem
open Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl
theorem inb (r : Fin 4) : ∀ a, (![r.val * 128, 0] : Fin 2 → Nat) a + S128x768.size a ≤ S512x768.size a := by revert r; decide

/-- The r-th 128 rows of a block. -/
def part (r : Fin 4) (x : FVec F S512x768 .bf16) : FVec F S128x768 .bf16 := View.ld (Val := Elt F) (e' := .bf16) x (Rect.unit (s := S512x768) ![r.val * 128, 0] S128x768.size (inb r))

/-- Which columns of a row take part: those of the row's own chunk and of earlier chunks. -/
def keep : IVec S128x128 1 := k0_pay10 k0_pay5 k0_pay6 k0_pay7 k0_pay8 k0_pay9

def zeros : FVec F S128x128 .f32 := broadcast S128x128 (Scalar.ofBits .f32 0x00000000#32)

def weights (w : FVec F S1x128x128 .f32) : FVec F S128x128 .bf16 :=
  truncf .bf16 (select keep (shapeCast S128x128 w shapeCasts_S1x128x128_S128x128) zeros) bitsLt_bf16_f32

def bias (b : FVec F S1x128x128 .f32) : FVec F S128x1 .f32 :=
  shapeCast S128x1 (View.ld (Val := Elt F) (e' := .f32) b (Rect.unit (s := S1x128x128) ![0, 0, 0] S1x128x1.size inb_S1x128x128_S1x128x1_0_0_0)) shapeCasts_S1x128x1_S128x1

def duPart (dp v : FVec F S512x768 .bf16) (w b : FVec F S1x128x128 .f32) (r : Fin 4) : FVec F S128x768 .bf16 :=
  truncf .bf16 (mulf (extf .f32 (part r dp) bitsLt_bf16_f32) (addf
    (matmul dot_S128x128_S128x768_S128x768_1_0_0_1_n_n none (weights w) (part r v) (constant S128x768 .f32 0x00000000#32))
    (broadcastTo S128x768 (bias b) broadcasts_S128x1_S128x768))) bitsLt_bf16_f32

def ds (dp u : FVec F S512x768 .bf16) (r : Fin 4) : FVec F S128x768 .f32 :=
  mulf (extf .f32 (part r dp) bitsLt_bf16_f32) (extf .f32 (part r u) bitsLt_bf16_f32)

def dvPart (dp u : FVec F S512x768 .bf16) (w : FVec F S1x128x128 .f32) (r : Fin 4) : FVec F S128x768 .bf16 :=
  truncf .bf16 (matmul dot_S128x128_S128x768_S128x768_0_0_1_1_n_n none (weights w) (truncf .bf16 (ds dp u r) bitsLt_bf16_f32)
    (constant S128x768 .f32 0x00000000#32)) bitsLt_bf16_f32

def dwPart (dp u v : FVec F S512x768 .bf16) (r : Fin 4) : FVec F S128x128 .f32 :=
  matmul dot_S128x768_S128x768_S128x128_1_1_0_0_n_n none (truncf .bf16 (ds dp u r) bitsLt_bf16_f32) (part r v) (constant S128x128 .f32 0x00000000#32)

def dbPart (dp u : FVec F S512x768 .bf16) (r : Fin 4) : FVec F S128x1 .f32 :=
  shapeCast S128x1 (multiReduction .add [1] S128 (ds dp u r) 0x00000000#32 reduces_S128x768_S128 (.inl rfl) rfl) shapeCasts_S128_S128x1

/-- A point's own gradient of the weights, and of the bias along every lane. -/
def dw (dp u v : FVec F S512x768 .bf16) : FVec F S128x128 .f32 :=
  select keep (addf (addf (addf (addf zeros (dwPart dp u v 0)) (dwPart dp u v 1)) (dwPart dp u v 2)) (dwPart dp u v 3)) zeros

def db (dp u : FVec F S512x768 .bf16) : FVec F S128x128 .f32 :=
  broadcastTo S128x128 (shapeCast S128x1 (addf (addf (addf (addf (broadcast S128x1 (Scalar.ofBits .f32 0x00000000#32)) (dbPart dp u 0)) (dbPart dp u 1)) (dbPart dp u 2))
    (dbPart dp u 3)) shapeCasts_S128x1_S128x1) broadcasts_S128x1_S128x128

/-- Added to what the block held. -/
def onto (old : FVec F S1x128x128 .f32) (x : FVec F S128x128 .f32) : FVec F S1x128x128 .f32 :=
  shapeCast S1x128x128 (addf (shapeCast S128x128 old shapeCasts_S1x128x128_S128x128) x) shapeCasts_S128x128_S1x128x128

abbrev place (r : Fin 4) : Rect S512x768 := Rect.unit (s := S512x768) ![r.val * 128, 0] S128x768.size (inb r)

theorem place_emb (r : Fin 4) (y : Fin 128) (l : Fin 768) : (place r).emb (ix2 y l) = ix2 (rowOf 4 128 r y) l := by
  funext a
  apply Fin.ext
  match a with
  | ⟨0, _⟩ => show r.val * 128 + 1 * y.val = r.val * 128 + y.val; omega
  | ⟨1, _⟩ => show 0 + 1 * l.val = l.val; omega

theorem store_hit [∀ e, Nonempty (Elt F e)] (r : Fin 4) (y : Fin 128) (l : Fin 768) (P : FVec F S128x768 .bf16) (L : List (View.Piece (Elt F) S512x768 .bf16)) :
    View.canon (⟨place r, P⟩ :: L) (ix2 (rowOf 4 128 r y) l) = P (ix2 y l) := by
  rw [← place_emb]
  exact View.canon_cons_emb (place r) P L (ix2 y l)

theorem store_skip [∀ e, Nonempty (Elt F e)] (k r : Fin 4) (hk : k ≠ r) (y : Fin 128) (l : Fin 768) (P : FVec F S128x768 .bf16)
    (L : List (View.Piece (Elt F) S512x768 .bf16)) :
    View.canon (⟨place k, P⟩ :: L) (ix2 (rowOf 4 128 r y) l) = View.canon L (ix2 (rowOf 4 128 r y) l) := by
  refine View.canon_cons_of_not_mem (⟨place k, P⟩ : View.Piece (Elt F) S512x768 .bf16) L fun h => hk (Fin.ext ?_)
  obtain ⟨h1, h2⟩ := (Rect.mem_set_unit (inb := inb k)).mp h 0
  have h1 : k.val * 128 ≤ r.val * 128 + y.val := h1
  have h2 : r.val * 128 + y.val < k.val * 128 + 128 := h2
  omega

/-- Four stores, one per 128 rows, read back at a row of the r-th. -/
theorem rows_read [∀ e, Nonempty (Elt F e)] (P : Fin 4 → FVec F S128x768 .bf16) (r : Fin 4) (y : Fin 128) (l : Fin 768) :
    View.canon (Val := Elt F) (s := S512x768) (e := .bf16) [⟨place 3, P 3⟩, ⟨place 2, P 2⟩, ⟨place 1, P 1⟩, ⟨place 0, P 0⟩] (ix2 (rowOf 4 128 r y) l)
      = P r (ix2 y l) := by
  match r with
  | 3 => exact store_hit 3 y l _ _
  | 2 => exact (store_skip 3 2 (by decide) y l _ _).trans (store_hit 2 y l _ _)
  | 1 => exact (store_skip 3 1 (by decide) y l _ _).trans ((store_skip 2 1 (by decide) y l _ _).trans (store_hit 1 y l _ _))
  | 0 => exact (store_skip 3 0 (by decide) y l _ _).trans ((store_skip 2 0 (by decide) y l _ _).trans
      ((store_skip 1 0 (by decide) y l _ _).trans (store_hit 0 y l _ _)))

theorem outs_first (c : Dev nD) (t : Fin cfg0.N) (h0 : t.val % 8 = 0) :
    (outsAt0 m c t.val t.isLt).2.2 = (shapeCast S1x128x128 (dw (iblk m c 0 t) (iblk m c 1 t) (iblk m c 2 t)) shapeCasts_S128x128_S1x128x128,
      shapeCast S1x128x128 (db (iblk m c 0 t) (iblk m c 1 t)) shapeCasts_S128x128_S1x128x128) := by
  rw [outsAt0_A m c t h0 (by omega)]
  refine Prod.ext ?_ ?_ <;> dsimp only
  · unfold out0_A_7
    rw [View.read_writes_eq_canon _ _ _ (fun y => cover0_A_7 (y := y) ..)]
    unfold kernelRun0_A
    dsimp only
    sl_unfold_words
    rw [View.canon_unit_zero hz3]
    simp only [View.readAt_eq_ld, (hs0_0 t).read_unread, (hs0_1 t).read_unread, (hs0_2 t).read_unread]
    rfl
  · unfold out0_A_8
    rw [View.read_writes_eq_canon _ _ _ (fun y => cover0_A_8 (y := y) ..)]
    unfold kernelRun0_A
    dsimp only
    sl_unfold_words
    rw [View.canon_unit_zero hz3]
    simp only [View.readAt_eq_ld, (hs0_0 t).read_unread, (hs0_1 t).read_unread]
    rfl

theorem outs_next (c : Dev nD) (t : Fin cfg0.N) (h0 : ¬t.val % 8 = 0) :
    (outsAt0 m c t.val t.isLt).2.2 = (onto (outsAt0 m c (t.val - 1) (Nat.lt_of_le_of_lt (Nat.sub_le _ _) t.isLt)).2.2.1 (dw (iblk m c 0 t) (iblk m c 1 t) (iblk m c 2 t)),
      onto (outsAt0 m c (t.val - 1) (Nat.lt_of_le_of_lt (Nat.sub_le _ _) t.isLt)).2.2.2 (db (iblk m c 0 t) (iblk m c 1 t))) := by
  rw [outsAt0_B m c t h0 (by omega)]
  refine Prod.ext ?_ ?_ <;> dsimp only
  · unfold out0_B_7
    rw [View.read_writes_eq_canon _ _ _ (fun y => cover0_B_7 (y := y) ..)]
    unfold kernelRun0_B
    dsimp only
    sl_unfold_words
    rw [View.canon_unit_zero hz3]
    simp only [View.readAt_eq_ld, (hs0_0 t).read_unread, (hs0_1 t).read_unread, (hs0_2 t).read_unread, (hs0_7 t).read_unread,
      View.ld_unit_zero (S := S1x128x128) hz3]
    rfl
  · unfold out0_B_8
    rw [View.read_writes_eq_canon _ _ _ (fun y => cover0_B_8 (y := y) ..)]
    unfold kernelRun0_B
    dsimp only
    sl_unfold_words
    rw [View.canon_unit_zero hz3]
    simp only [View.readAt_eq_ld, (hs0_0 t).read_unread, (hs0_1 t).read_unread, (hs0_8 t).read_unread, View.ld_unit_zero (S := S1x128x128) hz3]
    rfl

theorem du_first (c : Dev nD) (t : Fin cfg0.N) (h0 : t.val % 8 = 0) (r : Fin 4) (y : Fin 128) (l : Fin 768) :
    (outsAt0 m c t.val t.isLt).1 (ix2 (rowOf 4 128 r y) l) = duPart (iblk m c 0 t) (iblk m c 2 t) (iblk m c 3 t) (iblk m c 4 t) r (ix2 y l) := by
  rw [outsAt0_A m c t h0 (by omega)]
  dsimp only
  unfold out0_A_5
  rw [View.read_writes_eq_canon _ _ _ (fun y => cover0_A_5 (y := y) ..)]
  unfold kernelRun0_A
  dsimp only
  sl_unfold_words
  simp only [View.readAt_eq_ld, (hs0_0 t).read_unread, (hs0_2 t).read_unread, (hs0_3 t).read_unread, (hs0_4 t).read_unread,
    View.ld_unit_zero (S := S1x128x128) hz3]
  exact rows_read (duPart (iblk m c 0 t) (iblk m c 2 t) (iblk m c 3 t) (iblk m c 4 t)) r y l

theorem dv_first (c : Dev nD) (t : Fin cfg0.N) (h0 : t.val % 8 = 0) (r : Fin 4) (y : Fin 128) (l : Fin 768) :
    (outsAt0 m c t.val t.isLt).2.1 (ix2 (rowOf 4 128 r y) l) = dvPart (iblk m c 0 t) (iblk m c 1 t) (iblk m c 3 t) r (ix2 y l) := by
  rw [outsAt0_A m c t h0 (by omega)]
  dsimp only
  unfold out0_A_6
  rw [View.read_writes_eq_canon _ _ _ (fun y => cover0_A_6 (y := y) ..)]
  unfold kernelRun0_A
  dsimp only
  sl_unfold_words
  simp only [View.readAt_eq_ld, (hs0_0 t).read_unread, (hs0_1 t).read_unread, (hs0_3 t).read_unread,
    View.ld_unit_zero (S := S1x128x128) hz3]
  exact rows_read (dvPart (iblk m c 0 t) (iblk m c 1 t) (iblk m c 3 t)) r y l

theorem du_next (c : Dev nD) (t : Fin cfg0.N) (h0 : ¬t.val % 8 = 0) (r : Fin 4) (y : Fin 128) (l : Fin 768) :
    (outsAt0 m c t.val t.isLt).1 (ix2 (rowOf 4 128 r y) l) = duPart (iblk m c 0 t) (iblk m c 2 t) (iblk m c 3 t) (iblk m c 4 t) r (ix2 y l) := by
  rw [outsAt0_B m c t h0 (by omega)]
  dsimp only
  unfold out0_B_5
  rw [View.read_writes_eq_canon _ _ _ (fun y => cover0_B_5 (y := y) ..)]
  unfold kernelRun0_B
  dsimp only
  sl_unfold_words
  simp only [View.readAt_eq_ld, (hs0_0 t).read_unread, (hs0_2 t).read_unread, (hs0_3 t).read_unread, (hs0_4 t).read_unread,
    View.ld_unit_zero (S := S1x128x128) hz3]
  exact rows_read (duPart (iblk m c 0 t) (iblk m c 2 t) (iblk m c 3 t) (iblk m c 4 t)) r y l

theorem dv_next (c : Dev nD) (t : Fin cfg0.N) (h0 : ¬t.val % 8 = 0) (r : Fin 4) (y : Fin 128) (l : Fin 768) :
    (outsAt0 m c t.val t.isLt).2.1 (ix2 (rowOf 4 128 r y) l) = dvPart (iblk m c 0 t) (iblk m c 1 t) (iblk m c 3 t) r (ix2 y l) := by
  rw [outsAt0_B m c t h0 (by omega)]
  dsimp only
  unfold out0_B_6
  rw [View.read_writes_eq_canon _ _ _ (fun y => cover0_B_6 (y := y) ..)]
  unfold kernelRun0_B
  dsimp only
  sl_unfold_words
  simp only [View.readAt_eq_ld, (hs0_0 t).read_unread, (hs0_1 t).read_unread, (hs0_3 t).read_unread,
    View.ld_unit_zero (S := S1x128x128) hz3]
  exact rows_read (dvPart (iblk m c 0 t) (iblk m c 1 t) (iblk m c 3 t)) r y l

end Cert.KernelMixIdeal.Value

end
-- ==== Proof.MixArrays.lean ====
/- The four result arrays of the gMLP mixing's backward call, entry by entry, in terms of its arguments. -/
module

public import proofs.«01_k».proof.Proof.MixBlocks

@[expose] public section

noncomputable section

namespace Cert.KernelMixIdeal.Value

open Gen Idealize.ShloMosaic TcCoe Idealize.SL.Sem
open Pipeline (Dat)

/-- A row takes part of its own chunk of 64 and of the earlier ones. -/
abbrev Kept (i j : Fin 128) : Prop := j.val / 64 ≤ i.val / 64

theorem row_chunk : ∀ i : Fin 128, k0_pay5 (ix2 i 0) = BitVec.ofNat 32 (i.val / 64) := by decide +kernel

theorem col_chunk : ∀ j : Fin 128, select (andi k0_pay7 (cmpi .ne k0_pay8 k0_pay9)) (subi k0_pay6 (broadcast S128x128 1#32)) k0_pay6 (ix2 0 j)
    = BitVec.ofNat 32 (j.val / 64) := by decide +kernel

theorem chunk_le : ∀ a b : Fin 2, Scalar.cmpi .sle (BitVec.ofNat 32 b.val) (BitVec.ofNat 32 a.val) = if b.val ≤ a.val then 1#1 else 0#1 := by decide

theorem keep_at (i j : Fin 128) : keep (ix2 i j) = if Kept i j then 1#1 else 0#1 := by
  have e : keep (ix2 i j) = Scalar.cmpi .sle (select (andi k0_pay7 (cmpi .ne k0_pay8 k0_pay9)) (subi k0_pay6 (broadcast S128x128 1#32)) k0_pay6 (ix2 0 j))
    (k0_pay5 (ix2 i 0)) := rfl
  rw [e, row_chunk, col_chunk]
  exact chunk_le ⟨i.val / 64, by omega⟩ ⟨j.val / 64, by omega⟩

section

variable (dp u v : FVec Ideal S512x768 .bf16) (w b : FVec Ideal S1x128x128 .f32)

theorem part_at (x : FVec Ideal S512x768 .bf16) (r : Fin 4) (y : Fin 128) (l : Fin 768) : part r x (ix2 y l) = x (ix2 (rowOf 4 128 r y) l) := by
  unfold part
  exact congrArg x (place_emb r y l)

theorem weights_at (i j : Fin 128) : (weights w (ix2 i j) : EReal) = if Kept i j then (w (ix3 0 i j) : EReal) else 0 := by
  unfold weights zeros
  pointwise
  rw [keep_at]
  split <;> rfl

theorem bias_at (i : Fin 128) : bias b (ix2 i 0) = b (ix3 0 i 0) := by
  unfold bias
  pointwise

theorem duPart_at (r : Fin 4) (y : Fin 128) (l : Fin 768) : (duPart dp v w b r (ix2 y l) : EReal)
    = (dp (ix2 (rowOf 4 128 r y) l) : EReal) * (∑ k, (if Kept y k then (w (ix3 0 y k) : EReal) else 0) * (v (ix2 (rowOf 4 128 r k) l) : EReal) + b (ix3 0 y 0)) := by
  unfold duPart
  pointwise
  simp only [part_at, weights_at, bias_at]

theorem ds_at (r : Fin 4) (y : Fin 128) (l : Fin 768) : (ds dp u r (ix2 y l) : EReal)
    = (dp (ix2 (rowOf 4 128 r y) l) : EReal) * (u (ix2 (rowOf 4 128 r y) l) : EReal) := by
  unfold ds
  pointwise
  simp only [part_at]

theorem dvPart_at (r : Fin 4) (y : Fin 128) (l : Fin 768) : (dvPart dp u w r (ix2 y l) : EReal)
    = ∑ k, (if Kept k y then (w (ix3 0 k y) : EReal) else 0) * ((dp (ix2 (rowOf 4 128 r k) l) : EReal) * (u (ix2 (rowOf 4 128 r k) l) : EReal)) := by
  unfold dvPart
  pointwise
  simp only [weights_at, ds_at]

theorem dwPart_at (r : Fin 4) (i j : Fin 128) : (dwPart dp u v r (ix2 i j) : EReal)
    = ∑ l, (dp (ix2 (rowOf 4 128 r i) l) : EReal) * (u (ix2 (rowOf 4 128 r i) l) : EReal) * (v (ix2 (rowOf 4 128 r j) l) : EReal) := by
  unfold dwPart
  pointwise
  simp only [part_at, ds_at]

theorem dbPart_at (r : Fin 4) (i : Fin 128) (z : Fin 1) : (dbPart dp u r (ix2 i z) : EReal)
    = ∑ l, (dp (ix2 (rowOf 4 128 r i) l) : EReal) * (u (ix2 (rowOf 4 128 r i) l) : EReal) := by
  unfold dbPart
  pointwise
  simp only [ds_at]

theorem dw_at (i j : Fin 128) : (dw dp u v (ix2 i j) : EReal)
    = if Kept i j then ∑ r : Fin 4, ∑ l, (dp (ix2 (rowOf 4 128 r i) l) : EReal) * (u (ix2 (rowOf 4 128 r i) l) : EReal) * (v (ix2 (rowOf 4 128 r j) l) : EReal) else 0 := by
  unfold dw zeros
  pointwise
  rw [keep_at]
  simp only [dwPart_at, Fin.sum_univ_four]
  split <;> rfl

theorem db_at (i j : Fin 128) : (db dp u (ix2 i j) : EReal)
    = ∑ r : Fin 4, ∑ l, (dp (ix2 (rowOf 4 128 r i) l) : EReal) * (u (ix2 (rowOf 4 128 r i) l) : EReal) := by
  unfold db
  pointwise
  simp only [dbPart_at, Fin.sum_univ_four]

theorem onto_at (old : FVec Ideal S1x128x128 .f32) (x : FVec Ideal S128x128 .f32) (i j : Fin 128) :
    (onto old x (ix3 0 i j) : EReal) = (old (ix3 0 i j) : EReal) + x (ix2 i j) := by
  unfold onto
  pointwise

end

variable (m : (ℓ : Loc nD τ sig) → Buf (Elt Ideal) ℓ)

/-- Row y of the B-th 128 rows, and column l of group g. -/
abbrev row (B : Fin 32) (y : Fin 128) : Fin 4096 := rowOf 32 128 B y
abbrev col (g : Fin 8) (l : Fin 768) : Fin 6144 := rowOf 8 768 g l

/-- The arguments, entry by entry: the product's cotangent, its other factor, the normed values, the kept weights, the bias. -/
abbrev dpv (c : Dev nD) (B : Fin 32) (y : Fin 128) (g : Fin 8) (l : Fin 768) : EReal := m (c.tc.loc main_arg0) (ix2 (row B y) (col g l))
abbrev uv (c : Dev nD) (B : Fin 32) (y : Fin 128) (g : Fin 8) (l : Fin 768) : EReal := m (c.tc.loc main_arg1) (ix2 (row B y) ⟨(col g l).val, by have := (col g l).isLt; omega⟩)
abbrev vv (c : Dev nD) (B : Fin 32) (y : Fin 128) (g : Fin 8) (l : Fin 768) : EReal := m (c.tc.loc main_arg2) (ix2 (row B y) (col g l))
abbrev wv (c : Dev nD) (g : Fin 8) (i j : Fin 128) : EReal := if Kept i j then (m (c.tc.loc main_arg3) (ix3 g i j) : EReal) else 0
abbrev bv (c : Dev nD) (g : Fin 8) (i : Fin 128) : EReal := m (c.tc.loc main_arg4) (ix2 g i)

theorem rows_eq (t : Fin cfg0.N) : (win0_0.index t 0 = t.val % 8 ∧ win0_0.index t 1 = t.val / 8) ∧ (win0_1.index t 0 = t.val % 8 ∧ win0_1.index t 1 = t.val / 8) ∧ (win0_2.index t 0 = t.val % 8 ∧ win0_2.index t 1 = t.val / 8) ∧ (win0_5.index t 0 = t.val % 8 ∧ win0_5.index t 1 = t.val / 8) ∧ (win0_6.index t 0 = t.val % 8 ∧ win0_6.index t 1 = t.val / 8) :=
  (by decide +kernel : ∀ t : Fin grid0.N, (win0_0.index t 0 = t.val % 8 ∧ win0_0.index t 1 = t.val / 8) ∧ (win0_1.index t 0 = t.val % 8 ∧ win0_1.index t 1 = t.val / 8) ∧ (win0_2.index t 0 = t.val % 8 ∧ win0_2.index t 1 = t.val / 8) ∧ (win0_5.index t 0 = t.val % 8 ∧ win0_5.index t 1 = t.val / 8) ∧ (win0_6.index t 0 = t.val % 8 ∧ win0_6.index t 1 = t.val / 8)) t

theorem groups_eq (t : Fin cfg0.N) : (win0_3.index t 0 = t.val / 8 ∧ win0_3.index t 1 = 0 ∧ win0_3.index t 2 = 0) ∧ (win0_4.index t 0 = t.val / 8 ∧ win0_4.index t 1 = 0 ∧ win0_4.index t 2 = 0) ∧ (win0_7.index t 0 = t.val / 8 ∧ win0_7.index t 1 = 0 ∧ win0_7.index t 2 = 0) ∧ (win0_8.index t 0 = t.val / 8 ∧ win0_8.index t 1 = 0 ∧ win0_8.index t 2 = 0) :=
  (by decide +kernel : ∀ t : Fin grid0.N, (win0_3.index t 0 = t.val / 8 ∧ win0_3.index t 1 = 0 ∧ win0_3.index t 2 = 0) ∧ (win0_4.index t 0 = t.val / 8 ∧ win0_4.index t 1 = 0 ∧ win0_4.index t 2 = 0) ∧ (win0_7.index t 0 = t.val / 8 ∧ win0_7.index t 1 = 0 ∧ win0_7.index t 2 = 0) ∧ (win0_8.index t 0 = t.val / 8 ∧ win0_8.index t 1 = 0 ∧ win0_8.index t 2 = 0)) t

theorem lt_N (t : Fin cfg0.N) : t.val < 64 := by have := t.isLt; have : cfg0.N = 64 := N_0; omega

/-- The group a point works on, and the r-th 128 rows of its block. -/
abbrev grp (t : Fin cfg0.N) : Fin 8 := ⟨t.val / 8, by have := lt_N t; omega⟩
abbrev blk (t : Fin cfg0.N) (r : Fin 4) : Fin 32 := rowOf 8 4 ⟨t.val % 8, by omega⟩ r

theorem dp_at (c : Dev nD) (t : Fin cfg0.N) (r : Fin 4) (y : Fin 128) (l : Fin 768) :
    iblk m c 0 t (ix2 (rowOf 4 128 r y) l) = dpv m c (blk t r) y (grp t) l := by
  unfold iblk
  rw [View.read_apply]
  show m (c.tc.loc main_arg0) _ = _
  congr 1
  funext a
  apply Fin.ext
  obtain ⟨⟨h0, h1⟩, -⟩ := rows_eq t
  match a with
  | ⟨0, _⟩ => show win0_0.index t 0 * 512 + 1 * (r.val * 128 + y.val) = (t.val % 8 * 4 + r.val) * 128 + y.val; rw [h0]; omega
  | ⟨1, _⟩ => show win0_0.index t 1 * 768 + 1 * l.val = t.val / 8 * 768 + l.val; rw [h1]; omega

theorem u_at (c : Dev nD) (t : Fin cfg0.N) (r : Fin 4) (y : Fin 128) (l : Fin 768) :
    iblk m c 1 t (ix2 (rowOf 4 128 r y) l) = uv m c (blk t r) y (grp t) l := by
  unfold iblk
  rw [View.read_apply]
  show m (c.tc.loc main_arg1) _ = _
  congr 1
  funext a
  apply Fin.ext
  obtain ⟨-, ⟨h0, h1⟩, -⟩ := rows_eq t
  match a with
  | ⟨0, _⟩ => show win0_1.index t 0 * 512 + 1 * (r.val * 128 + y.val) = (t.val % 8 * 4 + r.val) * 128 + y.val; rw [h0]; omega
  | ⟨1, _⟩ => show win0_1.index t 1 * 768 + 1 * l.val = t.val / 8 * 768 + l.val; rw [h1]; omega

theorem v_at (c : Dev nD) (t : Fin cfg0.N) (r : Fin 4) (y : Fin 128) (l : Fin 768) :
    iblk m c 2 t (ix2 (rowOf 4 128 r y) l) = vv m c (blk t r) y (grp t) l := by
  unfold iblk
  rw [View.read_apply]
  show m (c.tc.loc main_arg2) _ = _
  congr 1
  funext a
  apply Fin.ext
  obtain ⟨-, -, ⟨h0, h1⟩, -⟩ := rows_eq t
  match a with
  | ⟨0, _⟩ => show win0_2.index t 0 * 512 + 1 * (r.val * 128 + y.val) = (t.val % 8 * 4 + r.val) * 128 + y.val; rw [h0]; omega
  | ⟨1, _⟩ => show win0_2.index t 1 * 768 + 1 * l.val = t.val / 8 * 768 + l.val; rw [h1]; omega

theorem w_at (c : Dev nD) (t : Fin cfg0.N) (i j : Fin 128) : iblk m c 3 t (ix3 0 i j) = m (c.tc.loc main_arg3) (ix3 (grp t) i j) := by
  unfold iblk
  rw [View.read_apply]
  show m (c.tc.loc main_arg3) _ = _
  congr 1
  funext a
  apply Fin.ext
  obtain ⟨⟨h0, h1, h2⟩, -⟩ := groups_eq t
  match a with
  | ⟨0, _⟩ => show win0_3.index t 0 * 1 + 1 * 0 = t.val / 8; rw [h0]; omega
  | ⟨1, _⟩ => show win0_3.index t 1 * 128 + 1 * i.val = i.val; rw [h1]; omega
  | ⟨2, _⟩ => show win0_3.index t 2 * 128 + 1 * j.val = j.val; rw [h2]; omega

/-- The host repeats the bias along the lanes. -/
theorem b_rows (c : Dev nD) (g : Fin 8) (i j : Fin 128) : V m c main_v1 (ix3 g i j) = bv m c g i := by
  have e : V m c main_v1 = broadcastInDim S8x128x128 ![0, 1, 2] bcast_S8x128x1_S8x128x128_0_1_2 (broadcastInDim S8x128x1 ![0, 1] bcast_S8x128_S8x128x1_0_1 (m (c.tc.loc main_arg4))) := by
    unfold V
    after_results
  rw [e]
  pointwise

theorem b_at (c : Dev nD) (t : Fin cfg0.N) (i j : Fin 128) : iblk m c 4 t (ix3 0 i j) = bv m c (grp t) i := by
  unfold iblk
  rw [View.read_apply]
  show V m c main_v1 _ = _
  have he : ((cfg0.win 4).blk t).view.emb (ix3 0 i j) = ix3 (grp t) i j := by
    funext a
    apply Fin.ext
    obtain ⟨-, ⟨h0, h1, h2⟩, -⟩ := groups_eq t
    match a with
    | ⟨0, _⟩ => show win0_4.index t 0 * 1 + 1 * 0 = t.val / 8; rw [h0]; omega
    | ⟨1, _⟩ => show win0_4.index t 1 * 128 + 1 * i.val = i.val; rw [h1]; omega
    | ⟨2, _⟩ => show win0_4.index t 2 * 128 + 1 * j.val = j.val; rw [h2]; omega
  exact (congrArg (V m c main_v1) he).trans (b_rows m c _ i j)

/-- What a point writes into the two blocks of gradients by rows. -/
theorem du_point (c : Dev nD) (t : Fin cfg0.N) (r : Fin 4) (y : Fin 128) (l : Fin 768) :
    ((outsAt0 m c t.val t.isLt).1 (ix2 (rowOf 4 128 r y) l) : EReal)
      = dpv m c (blk t r) y (grp t) l * (∑ k, wv m c (grp t) y k * vv m c (blk t r) k (grp t) l + bv m c (grp t) y) := by
  have e : (outsAt0 m c t.val t.isLt).1 (ix2 (rowOf 4 128 r y) l) = duPart (F := Ideal) (iblk m c 0 t) (iblk m c 2 t) (iblk m c 3 t) (iblk m c 4 t) r (ix2 y l) := by
    by_cases h0 : t.val % 8 = 0
    · exact du_first m c t h0 r y l
    · exact du_next m c t h0 r y l
  rw [e, duPart_at]
  simp only [dp_at, v_at, w_at, b_at]

theorem dv_point (c : Dev nD) (t : Fin cfg0.N) (r : Fin 4) (y : Fin 128) (l : Fin 768) :
    ((outsAt0 m c t.val t.isLt).2.1 (ix2 (rowOf 4 128 r y) l) : EReal)
      = ∑ k, wv m c (grp t) k y * (dpv m c (blk t r) k (grp t) l * uv m c (blk t r) k (grp t) l) := by
  have e : (outsAt0 m c t.val t.isLt).2.1 (ix2 (rowOf 4 128 r y) l) = dvPart (F := Ideal) (iblk m c 0 t) (iblk m c 1 t) (iblk m c 3 t) r (ix2 y l) := by
    by_cases h0 : t.val % 8 = 0
    · exact dv_first m c t h0 r y l
    · exact dv_next m c t h0 r y l
  rw [e, dvPart_at]
  simp only [dp_at, u_at, w_at]

/-- The point of the n-th block of rows and group g. -/
abbrev pt (g n : Fin 8) : Fin cfg0.N := ⟨g.val * 8 + n.val, by have := g.isLt; have := n.isLt; have : cfg0.N = 64 := N_0; omega⟩

theorem grp_pt (g n : Fin 8) : grp (pt g n) = g := Fin.ext (show (g.val * 8 + n.val) / 8 = g.val by omega)
theorem blk_pt (g n : Fin 8) (r : Fin 4) : blk (pt g n) r = rowOf 8 4 n r := Fin.ext (show (g.val * 8 + n.val) % 8 * 4 + r.val = n.val * 4 + r.val by omega)

theorem du_final (c : Dev nD) (B : Fin 32) (y : Fin 128) (g : Fin 8) (l : Fin 768) :
    (dats m 0 c).arrAt 5 cfg0.N (ix2 (row B y) (col g l)) = dpv m c B y g l * (∑ k, wv m c g y k * vv m c B k g l + bv m c g y) := by
  obtain ⟨n, r, rfl⟩ := exists_rowOf (n := 8) (k := 4) B
  have hf := (dats m 0 c).arrAt_emb_eq_flushed 5 disjoint5 (pt g n) (flush0_5 (pt g n)) (ix2 (rowOf 4 128 r y) l)
  have he : ((cfg0.win 5).blk (pt g n)).view.emb (ix2 (rowOf 4 128 r y) l) = ix2 (row (rowOf 8 4 n r) y) (col g l) := by
    funext a
    apply Fin.ext
    obtain ⟨-, -, -, ⟨h0, h1⟩, -⟩ := rows_eq (pt g n)
    match a with
    | ⟨0, _⟩ => show win0_5.index (pt g n) 0 * 512 + 1 * (r.val * 128 + y.val) = (n.val * 4 + r.val) * 128 + y.val; rw [h0]; show (g.val * 8 + n.val) % 8 * 512 + _ = _; omega
    | ⟨1, _⟩ => show win0_5.index (pt g n) 1 * 768 + 1 * l.val = g.val * 768 + l.val; rw [h1]; show (g.val * 8 + n.val) / 8 * 768 + _ = _; omega
  rw [he, flushed5] at hf
  refine hf.trans ?_
  refine (du_point m c (pt g n) r y l).trans ?_
  rw [grp_pt, blk_pt]

theorem dv_final (c : Dev nD) (B : Fin 32) (y : Fin 128) (g : Fin 8) (l : Fin 768) :
    (dats m 0 c).arrAt 6 cfg0.N (ix2 (row B y) (col g l)) = ∑ k, wv m c g k y * (dpv m c B k g l * uv m c B k g l) := by
  obtain ⟨n, r, rfl⟩ := exists_rowOf (n := 8) (k := 4) B
  have hf := (dats m 0 c).arrAt_emb_eq_flushed 6 disjoint6 (pt g n) (flush0_6 (pt g n)) (ix2 (rowOf 4 128 r y) l)
  have he : ((cfg0.win 6).blk (pt g n)).view.emb (ix2 (rowOf 4 128 r y) l) = ix2 (row (rowOf 8 4 n r) y) (col g l) := by
    funext a
    apply Fin.ext
    obtain ⟨-, -, -, -, ⟨h0, h1⟩⟩ := rows_eq (pt g n)
    match a with
    | ⟨0, _⟩ => show win0_6.index (pt g n) 0 * 512 + 1 * (r.val * 128 + y.val) = (n.val * 4 + r.val) * 128 + y.val; rw [h0]; show (g.val * 8 + n.val) % 8 * 512 + _ = _; omega
    | ⟨1, _⟩ => show win0_6.index (pt g n) 1 * 768 + 1 * l.val = g.val * 768 + l.val; rw [h1]; show (g.val * 8 + n.val) / 8 * 768 + _ = _; omega
  rw [he, flushed6] at hf
  refine hf.trans ?_
  refine (dv_point m c (pt g n) r y l).trans ?_
  rw [grp_pt, blk_pt]

/-- What a block that starts with the group's first point and has each later point's added holds after the group's last. -/
theorem sums_all (c : Dev nD) (g : Fin 8) (old : Vec Ideal S1x128x128 .f32 × Vec Ideal S1x128x128 .f32 → EReal) (f : Fin cfg0.N → EReal)
    (h0 : ∀ t : Fin cfg0.N, t.val % 8 = 0 → old (outsAt0 m c t.val t.isLt).2.2 = f t)
    (hs : ∀ t : Fin cfg0.N, ¬t.val % 8 = 0 → old (outsAt0 m c t.val t.isLt).2.2
      = old (outsAt0 m c (t.val - 1) (Nat.lt_of_le_of_lt (Nat.sub_le _ _) t.isLt)).2.2 + f t) :
    old (outsAt0 m c (pt g 7).val (pt g 7).isLt).2.2 = ∑ n, f (pt g n) := by
  have hN : cfg0.N = 64 := N_0
  exact sum_of_steps_last (n := 7) (fun j hj => old (outsAt0 m c (g.val * 8 + j) (by have := g.isLt; omega)).2.2) (fun n => f (pt g n))
    (fun h => h0 (pt g 0) (show (g.val * 8 + 0) % 8 = 0 by omega))
    (fun j hj => hs (pt g ⟨j + 1, hj⟩) (show ¬(g.val * 8 + (j + 1)) % 8 = 0 by omega))

theorem dw_sums (c : Dev nD) (g : Fin 8) (i j : Fin 128) : ((outsAt0 m c (pt g 7).val (pt g 7).isLt).2.2.1 (ix3 0 i j) : EReal)
    = if Kept i j then ∑ B : Fin 32, ∑ l, dpv m c B i g l * uv m c B i g l * vv m c B j g l else 0 := by
  refine (sums_all m c g (fun o => o.1 (ix3 0 i j)) (fun t => dw (F := Ideal) (iblk m c 0 t) (iblk m c 1 t) (iblk m c 2 t) (ix2 i j)) (fun t h0 => ?_) (fun t h0 => ?_)).trans ?_
  · rw [outs_first m c t h0]
    pointwise
  · rw [outs_next m c t h0]
    exact onto_at _ _ i j
  · simp only [dw_at, dp_at, u_at, v_at, grp_pt, blk_pt]
    split
    · exact (sum_rowOf (n := 8) (k := 4) fun B : Fin 32 => ∑ l, dpv m c B i g l * uv m c B i g l * vv m c B j g l).symm
    · exact Finset.sum_const_zero

theorem db_sums (c : Dev nD) (g : Fin 8) (i j : Fin 128) : ((outsAt0 m c (pt g 7).val (pt g 7).isLt).2.2.2 (ix3 0 i j) : EReal)
    = ∑ B : Fin 32, ∑ l, dpv m c B i g l * uv m c B i g l := by
  refine (sums_all m c g (fun o => o.2 (ix3 0 i j)) (fun t => db (F := Ideal) (iblk m c 0 t) (iblk m c 1 t) (ix2 i j)) (fun t h0 => ?_) (fun t h0 => ?_)).trans ?_
  · rw [outs_first m c t h0]
    pointwise
  · rw [outs_next m c t h0]
    exact onto_at _ _ i j
  · simp only [db_at, dp_at, u_at, grp_pt, blk_pt]
    exact (sum_rowOf (n := 8) (k := 4) fun B : Fin 32 => ∑ l, dpv m c B i g l * uv m c B i g l).symm

theorem apart7 (t t' : Fin cfg0.N) (ht : (cfg0.win 7).flush t = true) (ht' : (cfg0.win 7).flush t' = true) (hne : t ≠ t') :
    Disjoint ((cfg0.win 7).blk t).view.set ((cfg0.win 7).blk t').view.set :=
  (cfg0.win 7).disjoint_blk fun h => hne (Fin.ext (by
    have h1 := (flush0_7 t).mp ht
    have h2 := (flush0_7 t').mp ht'
    have h3 : win0_7.index t 0 = win0_7.index t' 0 := congrFun h 0
    obtain ⟨-, -, ⟨h0, -⟩, -⟩ := groups_eq t
    obtain ⟨-, -, ⟨h0q, -⟩, -⟩ := groups_eq t'
    omega))

theorem apart8 (t t' : Fin cfg0.N) (ht : (cfg0.win 8).flush t = true) (ht' : (cfg0.win 8).flush t' = true) (hne : t ≠ t') :
    Disjoint ((cfg0.win 8).blk t).view.set ((cfg0.win 8).blk t').view.set :=
  (cfg0.win 8).disjoint_blk fun h => hne (Fin.ext (by
    have h1 := (flush0_8 t).mp ht
    have h2 := (flush0_8 t').mp ht'
    have h3 : win0_8.index t 0 = win0_8.index t' 0 := congrFun h 0
    obtain ⟨-, -, -, ⟨h0, -⟩⟩ := groups_eq t
    obtain ⟨-, -, -, ⟨h0q, -⟩⟩ := groups_eq t'
    omega))

theorem dw_final (c : Dev nD) (g : Fin 8) (i j : Fin 128) : (dats m 0 c).arrAt 7 cfg0.N (ix3 g i j)
    = if Kept i j then ∑ B : Fin 32, ∑ l, dpv m c B i g l * uv m c B i g l * vv m c B j g l else 0 := by
  have hf := (dats m 0 c).arrAt_emb_eq_flushed 7 apart7 (pt g 7) ((flush0_7 (pt g 7)).mpr (show (g.val * 8 + 7) % 8 = 7 by omega)) (ix3 0 i j)
  have he : ((cfg0.win 7).blk (pt g 7)).view.emb (ix3 0 i j) = ix3 g i j := by
    funext a
    apply Fin.ext
    obtain ⟨-, -, ⟨h0, h1, h2⟩, -⟩ := groups_eq (pt g 7)
    match a with
    | ⟨0, _⟩ => show win0_7.index (pt g 7) 0 * 1 + 1 * 0 = g.val; rw [h0]; show (g.val * 8 + 7) / 8 * 1 + _ = _; omega
    | ⟨1, _⟩ => show win0_7.index (pt g 7) 1 * 128 + 1 * i.val = i.val; rw [h1]; omega
    | ⟨2, _⟩ => show win0_7.index (pt g 7) 2 * 128 + 1 * j.val = j.val; rw [h2]; omega
  rw [he, flushed7] at hf
  exact hf.trans (dw_sums m c g i j)

theorem db_final (c : Dev nD) (g : Fin 8) (i j : Fin 128) : (dats m 0 c).arrAt 8 cfg0.N (ix3 g i j)
    = ∑ B : Fin 32, ∑ l, dpv m c B i g l * uv m c B i g l := by
  have hf := (dats m 0 c).arrAt_emb_eq_flushed 8 apart8 (pt g 7) ((flush0_8 (pt g 7)).mpr (show (g.val * 8 + 7) % 8 = 7 by omega)) (ix3 0 i j)
  have he : ((cfg0.win 8).blk (pt g 7)).view.emb (ix3 0 i j) = ix3 g i j := by
    funext a
    apply Fin.ext
    obtain ⟨-, -, -, ⟨h0, h1, h2⟩⟩ := groups_eq (pt g 7)
    match a with
    | ⟨0, _⟩ => show win0_8.index (pt g 7) 0 * 1 + 1 * 0 = g.val; rw [h0]; show (g.val * 8 + 7) / 8 * 1 + _ = _; omega
    | ⟨1, _⟩ => show win0_8.index (pt g 7) 1 * 128 + 1 * i.val = i.val; rw [h1]; omega
    | ⟨2, _⟩ => show win0_8.index (pt g 7) 2 * 128 + 1 * j.val = j.val; rw [h2]; omega
  rw [he, flushed8] at hf
  exact hf.trans (db_sums m c g i j)

end Cert.KernelMixIdeal.Value

end
-- ==== Proof.MixClaims.lean ====
/- The gMLP mixing's backward call against the vector-Jacobian product of the masked mixing: the five claims. -/
module

public import proofs.«01_k».proof.Defs
public import proofs.«01_k».proof.Proof.Gen.KernelMix.Frame
public import proofs.«01_k».proof.Proof.Gen.ReferenceMixIdeal.Read
public import proofs.«01_k».proof.Proof.MixArrays

@[expose] public section

noncomputable section

namespace Cert.Mix

open Idealize.ShloMosaic

/-- A reduction over the outer two of four axes is the double sum. -/
theorem hostReduceAdd_outer {a b n k : ℕ} (h : (⟨4, ![a, b, n, k]⟩ : Shape).ReducesTo [0, 3] ⟨2, ![b, n]⟩) (v : (⟨4, ![a, b, n, k]⟩ : Shape).Idx → EReal)
    (z : EReal) (i : Fin b) (g : Fin n) : Ideal.hostReduceAdd h v z (ix2 i g) = z + ∑ B : Fin a, ∑ l : Fin k, v (ix4 B i g l) := by
  refine congrArg (z + ·) ((Finset.sum_filter_eq_sum_of_fiber _ (fun p : Fin a × Fin k => ix4 p.1 i g p.2)
    (fun _ _ e => Prod.ext (congrFun e 0) (congrFun e 3)) (fun j => ⟨fun e => ⟨(j 0, j 3), ?_⟩, ?_⟩) v).trans ?_)
  · funext d
    apply Fin.ext
    match d with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext d
    match d with
    | ⟨0, _⟩ => rfl
    | ⟨1, _⟩ => rfl
  · simp only [Fintype.sum_prod_type]

end Cert.Mix

namespace Cert.ReferenceMixIdeal.Read

open Gen Idealize.ShloMosaic TcCoe Idealize.SL.Sem
open KernelMixIdeal.Value (Kept row col)

theorem chunk : ∀ j : Fin 128, val_main_v5 (F := Ideal) (ix1 j) = BitVec.ofNat 32 (j.val / 64) := by decide +kernel

theorem kept_at (g : Fin 8) (i j : Fin 128) : val_main_v12_1 (F := Ideal) (ix3 g i j) = if Kept i j then 1#1 else 0#1 := by
  have e : val_main_v12_1 (F := Ideal) (ix3 g i j) = Scalar.cmpi .sle (val_main_v5 (F := Ideal) (ix1 j)) (val_main_v5 (F := Ideal) (ix1 i)) := rfl
  rw [e, chunk, chunk]
  exact KernelMixIdeal.Value.chunk_le ⟨i.val / 64, by omega⟩ ⟨j.val / 64, by omega⟩

variable (x0 : (⟨S4096x6144, .bf16⟩ : BufTy).Contents (Elt Ideal)) (x1 : (⟨S4096x12288, .bf16⟩ : BufTy).Contents (Elt Ideal))
  (x2 : (⟨S4096x6144, .bf16⟩ : BufTy).Contents (Elt Ideal)) (x3 : (⟨S8x128x128, .f32⟩ : BufTy).Contents (Elt Ideal)) (x4 : (⟨S8x128, .f32⟩ : BufTy).Contents (Elt Ideal))

theorem v3_at (B : Fin 32) (y : Fin 128) (g : Fin 8) (l : Fin 768) : val_main_v3 (F := Ideal) x2 (ix4 B y g l) = x2 (ix2 (row B y) (col g l)) := by
  unfold val_main_v3 val_main_v2
  pointwise
  rfl

theorem zero_const : (id (constant (F := Ideal) S_ .f32 0x00000000#32) ix0 : EReal) = 0 := by
  rw [id]
  pointwise

theorem v12_at (g : Fin 8) (i j : Fin 128) : (val_main_v12_0 (F := Ideal) x3 (ix3 g i j) : EReal) = if Kept i j then (x3 (ix3 g i j) : EReal) else 0 := by
  unfold val_main_v12_0 val_main_call1_v2 val_main_call1_v0 val_main_cst
  pointwise
  rw [kept_at]
  split
  · rfl
  · exact zero_const

theorem v19_at (B : Fin 32) (y : Fin 128) (g : Fin 8) (l : Fin 768) : (val_main_v19 (F := Ideal) x2 x3 x4 (ix4 B y g l) : EReal)
    = ∑ k, (x2 (ix2 (row B k) (col g l)) : EReal) * (if Kept y k then (x3 (ix3 g y k) : EReal) else 0) + x4 (ix2 g y) := by
  unfold val_main_v19 val_main_v18 val_main_v17 val_main_v16 val_main_v15 val_main_v14 val_main_v13
  pointwise
  simp only [v3_at, v12_at]

theorem v25_at (B : Fin 32) (y : Fin 128) (g : Fin 8) (l : Fin 768) : (val_main_v25 (F := Ideal) x0 x1 (ix4 B y g l) : EReal)
    = (x1 (ix2 (row B y) ⟨(col g l).val, by have := (col g l).isLt; omega⟩) : EReal) * (x0 (ix2 (row B y) (col g l)) : EReal) := by
  unfold val_main_v25 val_main_v23 val_main_v22 val_main_v1 val_main_v0
  pointwise
  rfl

theorem v33_at (g : Fin 8) (i j : Fin 128) : (val_main_v33 (F := Ideal) x0 x1 x2 (ix3 g i j) : EReal)
    = ∑ B, ∑ l, val_main_v25 (F := Ideal) x0 x1 (ix4 B i g l) * val_main_v3 (F := Ideal) x2 (ix4 B j g l) := by
  unfold val_main_v33 val_main_v32
  pointwise

theorem v35_at (B : Fin 32) (y : Fin 128) (g : Fin 8) (l : Fin 768) : (val_main_v35 (F := Ideal) x0 x1 x3 (ix4 B y g l) : EReal)
    = ∑ k, val_main_v25 (F := Ideal) x0 x1 (ix4 B k g l) * (if Kept k y then (x3 (ix3 g k y) : EReal) else 0) := by
  unfold val_main_v35 val_main_v34 val_main_v32
  pointwise
  simp only [v12_at]

theorem v41_at (g : Fin 8) (i j : Fin 128) : (val_main_v41 (F := Ideal) x0 x1 (ix3 g i j) : EReal)
    = ∑ B, ∑ l, val_main_v25 (F := Ideal) x0 x1 (ix4 B i g l) := by
  unfold val_main_v41 val_main_v40 val_main_v31 val_main_v30 val_main_v29 val_main_v28 val_main_v27 val_main_v26 val_main_cst_0 val_main_cst_1 val_main_cst_2
  pointwise [Cert.Mix.hostReduceAdd_outer]
  simp only [Fin.sum_univ_one]

/-- An entry of the folded array is read back at its block, row, group and column. -/
theorem at_block (f : (⟨4, ![32, 128, 8, 768]⟩ : Shape).Idx → EReal) (B : Fin 32) (y : Fin 128) (g : Fin 8) (l : Fin 768) :
    f (ix4 ⟨(row B y).val / 128, by have := (row B y).isLt; omega⟩ ⟨(row B y).val % 128, by omega⟩
      ⟨(col g l).val / 768, by have := (col g l).isLt; omega⟩ ⟨(col g l).val % 768, by omega⟩) = f (ix4 B y g l) := by
  have close : ∀ a b c d, a = B → b = y → c = g → d = l → f (ix4 a b c d) = f (ix4 B y g l) := by
    rintro _ _ _ _ rfl rfl rfl rfl
    rfl
  refine close _ _ _ _ (Fin.ext ?_) (Fin.ext ?_) (Fin.ext ?_) (Fin.ext ?_)
  · show (B.val * 128 + y.val) / 128 = B.val
    omega
  · show (B.val * 128 + y.val) % 128 = y.val
    omega
  · show (g.val * 768 + l.val) / 768 = g.val
    omega
  · show (g.val * 768 + l.val) % 768 = l.val
    omega

theorem v36_at (g : Fin 8) (i j : Fin 128) : (val_main_v36 (F := Ideal) x0 x1 x2 (ix3 g i j) : EReal)
    = if Kept i j then (val_main_v33 (F := Ideal) x0 x1 x2 (ix3 g i j) : EReal) else 0 := by
  unfold val_main_v36 val_main_call2_v0 val_main_call2_cst
  pointwise
  rw [kept_at]
  split <;> rfl

theorem v38_at (B : Fin 32) (y : Fin 128) (g : Fin 8) (l : Fin 768) : (val_main_v38 (F := Ideal) x0 x2 x3 x4 (ix2 (row B y) (col g l)) : EReal)
    = (x0 (ix2 (row B y) (col g l)) : EReal) * val_main_v19 (F := Ideal) x2 x3 x4 (ix4 B y g l) := by
  unfold val_main_v38 val_main_v24 val_main_v22 val_main_v20
  pointwise
  exact congrArg (fun s : EReal => _ * s) (at_block (val_main_v19 (F := Ideal) x2 x3 x4) B y g l)

theorem v39_at (B : Fin 32) (y : Fin 128) (g : Fin 8) (l : Fin 768) : (val_main_v39 (F := Ideal) x0 x1 x3 (ix2 (row B y) (col g l)) : EReal)
    = val_main_v35 (F := Ideal) x0 x1 x3 (ix4 B y g l) := by
  unfold val_main_v39 val_main_v37
  pointwise
  exact at_block (val_main_v35 (F := Ideal) x0 x1 x3) B y g l

end Cert.ReferenceMixIdeal.Read

namespace Cert.Proof.Mix

open Idealize.ShloMosaic TcCoe Idealize.SL.Sem KernelMixIdeal.Value

theorem frame : quiescent_KernelMix := fun m ρ _ => KernelMix.Gen.frame m ρ
theorem frame_ideal : quiescent_KernelMixIdeal := fun m ρ _ => KernelMixIdeal.Gen.frame m ρ
theorem frame_reference : quiescent_ReferenceMixIdeal := fun m ρ _ =>
  (θ_run _ _ _).mono (fun r h => ⟨fun c => (h c).2.2.2.2, sem_eq_zero_of_no_sems (by decide) r.2⟩) (ReferenceMixIdeal.Value.run m ρ)

theorem preserves : preserves_KernelMix_KernelMixIdeal := trivial

/-- Both programs leave the gradients of the product's two factors, of the weights and of the bias. -/
theorem algebraic : algebraic_KernelMixIdeal_ReferenceMixIdeal := by
  intro m ρ m' ρ' _ hm
  refine ⟨fun c => (KernelMixIdeal.Gen.dats m 0 c).arrAt 5 KernelMixIdeal.cfg0.N,
    fun c => (KernelMixIdeal.Gen.dats m 0 c).arrAt 6 KernelMixIdeal.cfg0.N,
    fun c => (KernelMixIdeal.Gen.dats m 0 c).arrAt 7 KernelMixIdeal.cfg0.N,
    fun c => (KernelMixIdeal.Gen.dats m 0 c).arrAt 8 KernelMixIdeal.cfg0.N, run_blocks m ρ, ?_⟩
  refine (θ_run _ _ _).mono (fun r h c => ?_) (ReferenceMixIdeal.Value.run m' ρ')
  obtain ⟨h0, h1, h2, h3, hargs⟩ := h c
  obtain ⟨e0, e1, e2, e3, e4⟩ := hm c
  refine ⟨h0.trans ?_, h1.trans ?_, h2.trans ?_, h3.trans ?_, hargs⟩
  · refine (ReferenceMixIdeal.Read.val_main_v38_eq _ _ _ _).trans ?_
    rw [e0, e2, e3, e4]
    funext j
    obtain ⟨i, k, rfl⟩ := exists_ix2 j
    obtain ⟨B, y, rfl⟩ := exists_rowOf (n := 32) (k := 128) i
    obtain ⟨g, l, rfl⟩ := exists_rowOf (n := 8) (k := 768) k
    refine (ReferenceMixIdeal.Read.v38_at _ _ _ _ B y g l).trans (Eq.trans ?_ (du_final m c B y g l).symm)
    rw [ReferenceMixIdeal.Read.v19_at]
    exact congrArg (fun s : EReal => _ * s) (congrArg (fun s : EReal => s + _) (Finset.sum_congr rfl fun k _ => mul_comm _ _))
  · refine (ReferenceMixIdeal.Read.val_main_v39_eq _ _ _).trans ?_
    rw [e0, e1, e3]
    funext j
    obtain ⟨i, k, rfl⟩ := exists_ix2 j
    obtain ⟨B, y, rfl⟩ := exists_rowOf (n := 32) (k := 128) i
    obtain ⟨g, l, rfl⟩ := exists_rowOf (n := 8) (k := 768) k
    refine (ReferenceMixIdeal.Read.v39_at _ _ _ B y g l).trans ((ReferenceMixIdeal.Read.v35_at _ _ _ B y g l).trans
      (Eq.trans (Finset.sum_congr rfl fun k _ => ?_) (dv_final m c B y g l).symm))
    rw [ReferenceMixIdeal.Read.v25_at, mul_comm]
    exact congrArg (fun s : EReal => _ * s) (mul_comm _ _)
  · refine (ReferenceMixIdeal.Read.val_main_v36_eq _ _ _).trans ?_
    rw [e0, e1, e2]
    funext x
    obtain ⟨g, i, j, rfl⟩ : ∃ (g : Fin 8) (i j : Fin 128), x = ix3 g i j := ⟨_, _, _, eq_ix3 x⟩
    refine (ReferenceMixIdeal.Read.v36_at _ _ _ g i j).trans (Eq.trans ?_ (dw_final m c g i j).symm)
    split
    · refine (ReferenceMixIdeal.Read.v33_at _ _ _ g i j).trans (Finset.sum_congr rfl fun B _ => Finset.sum_congr rfl fun l _ => ?_)
      rw [ReferenceMixIdeal.Read.v25_at, ReferenceMixIdeal.Read.v3_at]
      exact congrArg (fun s : EReal => s * _) (mul_comm _ _)
    · rfl
  · refine (ReferenceMixIdeal.Read.val_main_v41_eq _ _).trans ?_
    rw [e0, e1]
    funext x
    obtain ⟨g, i, j, rfl⟩ : ∃ (g : Fin 8) (i j : Fin 128), x = ix3 g i j := ⟨_, _, _, eq_ix3 x⟩
    refine (ReferenceMixIdeal.Read.v41_at _ _ g i j).trans (Eq.trans ?_ (db_final m c g i j).symm)
    refine Finset.sum_congr rfl fun B _ => Finset.sum_congr rfl fun l _ => ?_
    rw [ReferenceMixIdeal.Read.v25_at]
    exact mul_comm _ _

end Cert.Proof.Mix

end
-- ==== Proof.ActBlocks.lean ====
/- What one grid point of the gMLP activation's backward call leaves in its output block and in its two rows of sums. -/
module

public import proofs.«01_k».proof.Proof.Gen.KernelActIdeal.Value
public import Idealize.ShloMosaic.Lib.Pointwise
public import Idealize.ShloMosaic.Lib.Tactic

@[expose] public section

noncomputable section

namespace Cert.KernelActIdeal.Value

open Gen Idealize.ShloMosaic TcCoe Idealize.SL.Sem
open Pipeline (Dat)

variable {F : FTy → Type} [FloatOps F] [Named F]
variable (m : (ℓ : Loc nD τ sig) → Buf (Elt F) ℓ)

theorem hz : (![0, 0] : Fin 2 → Nat) = fun _ => 0 := funext fun a => by fin_cases a <;> rfl

/-- The block of gradients a point leaves. -/
abbrev block (c : Dev nD) (t : Fin cfg0.N) : FVec F S128x12288 .bf16 :=
  k0_pay18 (iblk m c 2 t) (k0_pay5 (iblk m c 3 t)) (k0_pay8 (iblk m c 0 t) (iblk m c 1 t)) (k0_pay10 (iblk m c 0 t)) (k0_pay11 (iblk m c 0 t))

/-- The first point leaves its block of gradients, and its own column sums over zeros. -/
theorem outs_first (c : Dev nD) (t : Fin cfg0.N) (h0 : t.val % 32 = 0) :
    outsAt0 m c t.val t.isLt = (block m c t, k0_pay3 (k0_pay16 (iblk m c 2 t) (k0_pay10 (iblk m c 0 t))) k0_pay1, k0_pay4 (k0_pay17 (iblk m c 2 t)) k0_pay2) := by
  rw [outsAt0_A m c t h0]
  refine Prod.ext ?_ (Prod.ext ?_ ?_) <;> dsimp only
  · unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S128x12288) hz, View.ld_unit_zero (S := S128x6144) hz, View.ld_unit_zero (S := S1x6144) hz]
  · unfold out0_A_5
    rw [View.read_writes_eq_canon _ _ _ (fun y => cover0_A_5 (y := y) ..)]
    unfold kernelRun0_A
    dsimp only
    sl_unfold_words
    rw [View.canon_cons_unit_zero (S := S1x6144) hz, View.readCov_unit_zero (S := S1x6144) _ hz]
    simp only [View.readAt_eq_ld, (hs0_0 t).read_unread, (hs0_2 t).read_unread, View.ld_unit_zero (S := S128x12288) hz, View.ld_unit_zero (S := S128x6144) hz, View.ld_unit_zero (S := S1x6144) hz]
  · unfold out0_A_6
    rw [View.read_writes_eq_canon _ _ _ (fun y => cover0_A_6 (y := y) ..)]
    unfold kernelRun0_A
    dsimp only
    sl_unfold_words
    rw [View.canon_cons_unit_zero (S := S1x6144) hz, View.readCov_unit_zero (S := S1x6144) _ hz]
    simp only [View.readAt_eq_ld, (hs0_2 t).read_unread, View.ld_unit_zero (S := S128x12288) hz, View.ld_unit_zero (S := S128x6144) hz, View.ld_unit_zero (S := S1x6144) hz]

/-- A later point leaves its block of gradients, and adds its column sums to what the point before left. -/
theorem outs_next (c : Dev nD) (t : Fin cfg0.N) (h0 : ¬t.val % 32 = 0) :
    outsAt0 m c t.val t.isLt = (block m c t,
      k0_pay3 (k0_pay16 (iblk m c 2 t) (k0_pay10 (iblk m c 0 t))) (outsAt0 m c (t.val - 1) (Nat.lt_of_le_of_lt (Nat.sub_le _ _) t.isLt)).2.1,
      k0_pay4 (k0_pay17 (iblk m c 2 t)) (outsAt0 m c (t.val - 1) (Nat.lt_of_le_of_lt (Nat.sub_le _ _) t.isLt)).2.2) := by
  rw [outsAt0_B m c t h0]
  refine Prod.ext ?_ (Prod.ext ?_ ?_) <;> dsimp only
  · unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S128x12288) hz, View.ld_unit_zero (S := S128x6144) hz, View.ld_unit_zero (S := S1x6144) hz]
  · unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_2 t).read_unread, (hs0_5 t).read_unread, View.ld_unit_zero (S := S128x12288) hz, View.ld_unit_zero (S := S128x6144) hz, View.ld_unit_zero (S := S1x6144) hz]
  · unfold out0_B_6
    rw [View.read_writes_eq_canon _ _ _ (fun y => cover0_B_6 (y := y) ..)]
    unfold kernelRun0_B
    dsimp only
    sl_unfold_words
    rw [View.canon_unit_zero hz]
    simp only [View.readAt_eq_ld, (hs0_2 t).read_unread, (hs0_6 t).read_unread, View.ld_unit_zero (S := S128x12288) hz, View.ld_unit_zero (S := S128x6144) hz, View.ld_unit_zero (S := S1x6144) hz]

end Cert.KernelActIdeal.Value

end
-- ==== Proof.NormMath.lean ====
/- The vector-Jacobian product of a row's root-mean-square normalisation, in the kernel's grouping and in the grouping of the differentiated
   forward line. The extended reals: no entry need be finite. A row holding an infinite entry has the reciprocal root zero, so both sides vanish. -/
module

public import Idealize.ShloMosaic.Lib.Pointwise
public import Idealize.ShloMosaic.Lib.Tactic
public import proofs.«01_k».proof.Proof.RowSums

@[expose] public section

noncomputable section

namespace Cert.Norm

open Idealize.ShloMosaic

theorem ofBits_neg_half : Ideal.ofBits .f32 0xBF000000#32 = ((-(1 / 2) : ℝ) : EReal) := by
  simp [Ideal.ofBits, Ideal.ieee, -EReal.coe_mul]
  norm_num

theorem ofBits_one : Ideal.ofBits .f32 0x3F800000#32 = 1 := by
  simp [Ideal.ofBits, Ideal.ieee, -EReal.coe_mul]
  norm_num

theorem ofBits_128 : Ideal.ofBits .f32 0x43000000#32 = ((128 : ℝ) : EReal) := by
  simp [Ideal.ofBits, Ideal.ieee, -EReal.coe_mul]
  norm_num

theorem ofBits_2048 : Ideal.ofBits .f32 0x45000000#32 = ((2048 : ℝ) : EReal) := by
  simp [Ideal.ofBits, Ideal.ieee, -EReal.coe_mul]
  norm_num

/-- What is added to a mean square: the float nearest to 10⁻⁶. -/
def eps : ℝ := 8796093 / 2 ^ 43

theorem eps_pos : 0 < eps := by unfold eps; norm_num

theorem ofBits_eps : Ideal.ofBits .f32 0x358637BD#32 = (eps : EReal) := by
  unfold eps
  simp [Ideal.ofBits, Ideal.ieee, -EReal.coe_mul]
  norm_num

/-- A nonnegative real factor goes through a sum. -/
theorem sum_mul_coe {ι : Type*} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A finite sum of reals is a real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem mul_self_nonneg (x : EReal) : 0 ≤ x * x := by
  induction x using EReal.rec with
  | bot => rw [EReal.bot_mul_bot]; exact le_top
  | top => rw [EReal.top_mul_top]; exact le_top
  | coe x => rw [← EReal.coe_mul]; exact EReal.coe_nonneg.mpr (_root_.mul_self_nonneg x)

/-- Minus a half, twice. -/
theorem half_twice (z : EReal) : z * ((-(1 / 2) : ℝ) : EReal) + z * ((-(1 / 2) : ℝ) : EReal) = -z := by
  induction z using EReal.rec with
  | bot => rw [EReal.bot_mul_coe_of_neg (by norm_num)]; rfl
  | top => rw [EReal.top_mul_coe_of_neg (by norm_num)]; rfl
  | coe z => rw [← EReal.coe_mul, ← EReal.coe_add, ← EReal.coe_neg]; congr 1; ring

section
variable {ι : Type*} [Fintype ι] (x : ι → EReal) (k e : ℝ)

/-- The mean square of a row, with a little added. -/
abbrev ms : EReal := Ideal.div (∑ i, x i * x i) (k : EReal) + (e : EReal)

/-- The reciprocal root is a positive real of a row of reals, and zero of a row with an infinite entry. -/
theorem ms_cases (hk : 0 < k) (he : 0 < e) :
    (∃ r : ℝ, 0 < r ∧ Ideal.rsqrt (ms x k e) = (r : EReal) ∧ Ideal.div (Ideal.rsqrt (ms x k e)) (ms x k e) = ((r * r * r : ℝ) : EReal)
      ∧ ∀ i, x i = ((x i).toReal : EReal))
    ∨ (Ideal.rsqrt (ms x k e) = 0 ∧ Ideal.div (Ideal.rsqrt (ms x k e)) (ms x k e) = 0) := by
  by_cases h : ∀ i, x i = ((x i).toReal : EReal)
  · left
    obtain ⟨y, hy⟩ : ∃ y : ι → ℝ, ∀ i, x i = (y i : EReal) := ⟨_, h⟩
    have hm : ms x k e = (((∑ i, y i * y i) * (1 / k) + e : ℝ) : EReal) := by
      unfold ms
      rw [Ideal.div_coe hk.ne', Finset.sum_congr rfl fun i _ => by rw [hy i, ← EReal.coe_mul], coe_sum, ← EReal.coe_mul, ← EReal.coe_add]
    have hp : 0 < (∑ i, y i * y i) * (1 / k) + e :=
      add_pos_of_nonneg_of_pos (mul_nonneg (Finset.sum_nonneg fun i _ => _root_.mul_self_nonneg _) (by positivity)) he
    generalize (∑ i, y i * y i) * (1 / k) + e = a at hm hp
    have hr : Ideal.rsqrt (ms x k e) = (((Real.sqrt a)⁻¹ : ℝ) : EReal) := by
      rw [hm, Ideal.rsqrt_coe, if_neg (not_lt.mpr hp.le), if_neg hp.ne']
    have hs : 0 < Real.sqrt a := Real.sqrt_pos.mpr hp
    refine ⟨(Real.sqrt a)⁻¹, inv_pos.mpr hs, hr, ?_, h⟩
    rw [hr, hm, Ideal.div_coe hp.ne', ← EReal.coe_mul]
    congr 1
    rw [one_div, show a⁻¹ = (Real.sqrt a)⁻¹ * (Real.sqrt a)⁻¹ by rw [← mul_inv, Real.mul_self_sqrt hp.le]]
    ring
  · right
    push Not at h
    obtain ⟨i, hi⟩ := h
    have hsq : x i * x i = ⊤ := by
      revert hi
      generalize x i = z
      induction z using EReal.rec with
      | bot => intro _; exact EReal.bot_mul_bot
      | top => intro _; exact EReal.top_mul_top
      | coe z => intro hz; exact absurd rfl hz
    have hsum : ∑ i, x i * x i = ⊤ := by
      refine top_le_iff.mp ?_
      rw [← hsq]
      exact Finset.single_le_sum (f := fun i => x i * x i) (fun j _ => mul_self_nonneg (x j)) (Finset.mem_univ i)
    have hm : ms x k e = ⊤ := by
      unfold ms
      rw [hsum, Ideal.div_coe hk.ne', EReal.top_mul_coe_of_pos (by positivity), EReal.top_add_coe]
    rw [hm]
    refine ⟨rfl, ?_⟩
    rw [Ideal.rsqrt_top]
    unfold Ideal.div
    rw [if_neg (by decide), zero_mul]

/-- A normalised entry is a real. -/
theorem xhat_real (hk : 0 < k) (he : 0 < e) (l : ι) : ∃ v : ℝ, x l * Ideal.rsqrt (ms x k e) = (v : EReal) := by
  rcases ms_cases x k e hk he with ⟨r, -, hr, -, hx⟩ | ⟨hr, -⟩
  · exact ⟨(x l).toReal * r, by rw [hr, hx l, EReal.toReal_coe, EReal.coe_mul]⟩
  · exact ⟨0, by rw [hr, mul_zero, EReal.coe_zero]⟩

/-- The kernel's row of gradients is the differentiated forward line's. -/
theorem row_eq (w : ι → EReal) (hk : 0 < k) (he : 0 < e) (l : ι) :
    Ideal.rsqrt (ms x k e) * (w l - x l * Ideal.rsqrt (ms x k e) * Ideal.div (∑ i, w i * (x i * Ideal.rsqrt (ms x k e))) (k : EReal))
      = w l * Ideal.rsqrt (ms x k e)
        + (x l * Ideal.div ((∑ i, x i * w i) * (((-(1 / 2) : ℝ) : EReal) * Ideal.div (Ideal.rsqrt (ms x k e)) (ms x k e))) (k : EReal)
          + Ideal.div ((∑ i, x i * w i) * (((-(1 / 2) : ℝ) : EReal) * Ideal.div (Ideal.rsqrt (ms x k e)) (ms x k e))) (k : EReal) * x l) := by
  rcases ms_cases x k e hk he with ⟨r, hpos, hr, hd, hx⟩ | ⟨hr, hd⟩
  · rw [hd, hr]
    obtain ⟨y, hy⟩ : ∃ y : ℝ, x l = (y : EReal) := ⟨_, hx l⟩
    have hS : ∑ i, w i * (x i * (r : EReal)) = (∑ i, x i * w i) * (r : EReal) := by
      rw [← sum_mul_coe _ _ r hpos.le]
      exact Finset.sum_congr rfl fun i _ => by rw [← mul_assoc, mul_comm (w i)]
    rw [hS, hy]
    generalize ∑ i, x i * w i = S
    generalize w l = u
    rw [sub_eq_add_neg, EReal.left_distrib_of_nonneg_of_ne_top (EReal.coe_nonneg.mpr hpos.le) (EReal.coe_ne_top r), mul_neg, mul_comm (r : EReal) u]
    congr 1
    rw [Ideal.div_coe hk.ne', Ideal.div_coe hk.ne',
      show (r : EReal) * ((y : EReal) * (r : EReal) * (S * (r : EReal) * ((1 / k : ℝ) : EReal))) = S * ((y * (r * r * r) * (1 / k) : ℝ) : EReal) by
        simp only [EReal.coe_mul]; ac_rfl,
      ← half_twice]
    congr 1 <;> (simp only [EReal.coe_mul]; ac_rfl)
  · rw [hd, hr]
    simp only [Ideal.div_coe hk.ne', zero_mul, mul_zero, add_zero]

end

theorem one_add_real {x : EReal} (h : ∃ v : ℝ, x = (v : EReal)) : ∃ v : ℝ, 1 + x = (v : EReal) := by
  obtain ⟨v, rfl⟩ := h
  exact ⟨1 + v, by rw [EReal.coe_add, EReal.coe_one]⟩

/-- Sums of products of reals block by block, each block's times the same real, against one sum with the factor inside. -/
theorem blocks_mul {n k N : ℕ} (d h : Fin N → EReal) (c : EReal) (hd : ∀ i, ∃ v : ℝ, d i = (v : EReal)) (hh : ∀ i, ∃ v : ℝ, h i = (v : EReal))
    (hc : ∃ v : ℝ, c = (v : EReal)) (hN : n * k = N) :
    ∑ t : Fin n, (∑ r : Fin k, d (rowOf n k t r hN) * h (rowOf n k t r hN)) * c = ∑ i, h i * (d i * c) := by
  choose d' hd using hd
  choose h' hh using hh
  obtain ⟨c', rfl⟩ := hc
  simp only [hd, hh, ← EReal.coe_mul, coe_sum]
  refine congrArg Real.toEReal ?_
  rw [sum_rowOf (n := n) (k := k) _ hN]
  refine Finset.sum_congr rfl fun t _ => ?_
  rw [Finset.sum_mul]
  exact Finset.sum_congr rfl fun r _ => by ring

end Cert.Norm

end
-- ==== Proof.ActMath.lean ====
/- The exact GELU and its slope, and the vector-Jacobian product of a row's layer norm, in the kernel's grouping and in the grouping of the
   differentiated forward lines. The extended reals: an entry before the activation may be infinite. A row holding plus infinity after it has the
   reciprocal root zero, so both sides vanish. -/
module

public import proofs.«01_k».proof.Proof.NormMath

@[expose] public section

noncomputable section

namespace Cert.Act

open Idealize.ShloMosaic Norm

theorem ofBits_half : Ideal.ofBits .f32 0x3F000000#32 = ((1 / 2 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_6144 : Ideal.ofBits .f32 0x45C00000#32 = ((6144 : ℝ) : EReal) := by
  simp [Ideal.ofBits, Ideal.ieee, -EReal.coe_mul]
  norm_num

/-- Two over the root of π, as the error function's derivative has it. -/
def kap : ℝ := 9465531 / 8388608

theorem ofBits_kap : Ideal.ofBits .f32 0xBF906EBB#32 = ((-kap : ℝ) : EReal) := by
  unfold kap
  simp [Ideal.ofBits, Ideal.ieee, -EReal.coe_mul]
  norm_num

/-- The root of a half. -/
def rt : ℝ := (Real.sqrt 2)⁻¹

theorem rt_pos : 0 < rt := inv_pos.mpr (Real.sqrt_pos.mpr (by norm_num))
theorem rt_mul : rt * rt = 1 / 2 := by
  unfold rt
  rw [← mul_inv, Real.mul_self_sqrt (by norm_num), one_div]

theorem rsqrt_two : Ideal.rsqrt ((2 : ℝ) : EReal) = (rt : EReal) := by
  rw [Ideal.rsqrt_coe, if_neg (by norm_num), if_neg (by norm_num)]
  rfl

/-- The normal distribution, the activation and its slope. -/
def cdf (t : EReal) : EReal := ((1 / 2 : ℝ) : EReal) * (1 + Ideal.erf (t * (rt : EReal)))
def gelu (t : EReal) : EReal := t * cdf t
def slope (t : EReal) : EReal := cdf t + t * Ideal.exp (((-(1 / 2) : ℝ) : EReal) * t * t) * ((9465531 * (16777216 * Real.sqrt 2)⁻¹ : ℝ) : EReal)

theorem cdf_top : cdf ⊤ = 1 := by
  unfold cdf
  rw [EReal.top_mul_coe_of_pos rt_pos, Ideal.erf_top, ← EReal.coe_one, ← EReal.coe_add, ← EReal.coe_mul]
  norm_num

theorem cdf_bot : cdf ⊥ = 0 := by
  unfold cdf
  rw [EReal.bot_mul_coe_of_pos rt_pos, Ideal.erf_bot, ← EReal.coe_one, ← EReal.coe_neg, ← EReal.coe_add, ← EReal.coe_mul]
  norm_num

theorem cdf_coe (r : ℝ) : ∃ e : ℝ, Ideal.erf ((r : EReal) * (rt : EReal)) = (e : EReal) ∧ cdf r = ((1 / 2 * (1 + e) : ℝ) : EReal) := by
  refine ⟨_, by rw [← EReal.coe_mul, Ideal.erf_coe], ?_⟩
  unfold cdf
  rw [← EReal.coe_mul, Ideal.erf_coe, ← EReal.coe_one, ← EReal.coe_add, ← EReal.coe_mul]

/-- No entry is minus infinity after the activation. -/
theorem gelu_ne_bot (t : EReal) : gelu t ≠ ⊥ := by
  unfold gelu
  induction t with
  | bot => rw [cdf_bot, mul_zero]; exact EReal.zero_ne_bot
  | top => rw [cdf_top, mul_one]; exact bot_ne_top.symm
  | coe r =>
    obtain ⟨e, -, h⟩ := cdf_coe r
    rw [h, ← EReal.coe_mul]
    exact EReal.coe_ne_bot _

theorem gelu_erfc (t : EReal) : ((1 / 2 : ℝ) : EReal) * t * Ideal.erfc (-t * (rt : EReal)) = gelu t := by
  rw [neg_mul, Ideal.erfc_neg]
  unfold gelu cdf
  rw [mul_comm ((1 / 2 : ℝ) : EReal) t, mul_assoc]

/-- The slope times a real cotangent, as the differentiated complementary error function writes it. -/
theorem slope_erfc (t : EReal) (d : ℝ) : -(((-kap : ℝ) : EReal) * (((1 / 2 : ℝ) : EReal) * t * (d : EReal)) * Ideal.exp (-(-t * (rt : EReal) * (-t * (rt : EReal)))) * (rt : EReal))
    + ((1 / 2 : ℝ) : EReal) * ((d : EReal) * Ideal.erfc (-t * (rt : EReal))) = (d : EReal) * slope t := by
  have hs : ((9465531 * (16777216 * Real.sqrt 2)⁻¹ : ℝ)) = kap / 2 * rt := by
    unfold kap rt
    rw [mul_inv]
    ring
  rw [neg_mul t, Ideal.erfc_neg]
  unfold slope
  rw [hs]
  induction t with
  | bot =>
    rw [cdf_bot, EReal.bot_mul_coe_of_pos rt_pos, EReal.neg_bot, EReal.top_mul_top, EReal.neg_top, Ideal.exp_bot, Ideal.erf_bot,
      EReal.coe_mul_bot_of_neg (by norm_num : (-(1 / 2) : ℝ) < 0), EReal.top_mul_bot, Ideal.exp_bot]
    simp only [mul_zero, zero_mul, neg_zero, zero_add, add_zero]
    rw [show (1 : EReal) + -1 = 0 by rw [← EReal.coe_one, ← EReal.coe_neg, ← EReal.coe_add]; norm_num, mul_zero, mul_zero]
  | top =>
    rw [cdf_top, EReal.top_mul_coe_of_pos rt_pos, EReal.neg_top, EReal.bot_mul_bot, EReal.neg_top, Ideal.exp_bot, Ideal.erf_top,
      EReal.coe_mul_top_of_neg (by norm_num : (-(1 / 2) : ℝ) < 0), EReal.bot_mul_top, Ideal.exp_bot]
    simp only [mul_zero, zero_mul, neg_zero, zero_add, add_zero, mul_one]
    rw [← EReal.coe_one, ← EReal.coe_add, ← EReal.coe_mul, ← EReal.coe_mul]
    congr 1
    ring
  | coe r =>
    obtain ⟨e, he, hc⟩ := cdf_coe r
    rw [hc, he]
    simp only [← EReal.coe_one, ← EReal.coe_mul, ← EReal.coe_neg, ← EReal.coe_add, Ideal.exp_coe]
    refine congrArg Real.toEReal ?_
    rw [show -(-(r * rt) * -(r * rt)) = -(1 / 2) * r * r by rw [neg_mul_neg, show r * rt * (r * rt) = r * r * (rt * rt) by ring, rt_mul]; ring]
    ring

/-! ## The layer norm -/

theorem sum_ne_bot {ι : Type*} (s : Finset ι) (v : ι → EReal) (hv : ∀ i, v i ≠ ⊥) : ∑ i ∈ s, v i ≠ ⊥ := by
  classical
  induction s using Finset.induction_on with
  | empty => simp
  | insert a s ha ih =>
    rw [Finset.sum_insert ha]
    exact fun e => (EReal.add_eq_bot_iff.mp e).elim (hv a) ih

section
variable {ι : Type*} [Fintype ι] (v h : ι → EReal) (k e : ℝ)

/-- A row less its mean. -/
abbrev dev (i : ι) : EReal := v i - Ideal.div (∑ j, v j) (k : EReal)

/-- What the row's cotangent leaves of the differentiated mean square. -/
abbrev pull : EReal := Ideal.div ((∑ i, dev v k i * h i) * (((-(1 / 2) : ℝ) : EReal) * Ideal.div (Ideal.rsqrt (ms (dev v k) k e)) (ms (dev v k) k e))) (k : EReal)

theorem dev_sum (hk : k = Fintype.card ι) (hv : ∀ i, v i ≠ ⊥) (hw : ∀ i, dev v k i = ((dev v k i).toReal : EReal)) (hp : 0 < k) : ∑ i, (dev v k i).toReal = 0 := by
  have hr : ∀ i, v i = ((v i).toReal : EReal) := by
    intro i
    refine (EReal.coe_toReal (fun ht => ?_) (hv i)).symm
    classical
    have hs : ∑ j, v j = ⊤ := by
      rw [← Finset.add_sum_erase _ _ (Finset.mem_univ i), ht]
      exact EReal.top_add_of_ne_bot (sum_ne_bot _ _ hv)
    have hb : dev v k i = ⊥ := by
      unfold dev
      rw [hs, ht, Ideal.div_coe hp.ne', EReal.top_mul_coe_of_pos (by positivity)]
      rfl
    exact EReal.coe_ne_bot _ ((hw i).symm.trans hb)
  obtain ⟨a, ha⟩ : ∃ a : ι → ℝ, ∀ i, v i = (a i : EReal) := ⟨_, hr⟩
  have hd : ∀ i, dev v k i = ((a i - (∑ j, a j) * (1 / k) : ℝ) : EReal) := fun i => by
    unfold dev
    rw [Finset.sum_congr rfl fun j _ => ha j, coe_sum, Ideal.div_coe hp.ne', ← EReal.coe_mul, ha, ← EReal.coe_sub]
  simp only [hd, EReal.toReal_coe]
  rw [Finset.sum_sub_distrib, Finset.sum_const, Finset.card_univ, nsmul_eq_mul, ← hk]
  field_simp
  ring

/-- Both groupings of the row's gradient are one real. -/
theorem row_both (hk : k = Fintype.card ι) (hv : ∀ i, v i ≠ ⊥) (hp : 0 < k) (he : 0 < e) (hh : ∀ i, ∃ x : ℝ, h i = (x : EReal)) (l : ι) : ∃ d : ℝ,
    Ideal.rsqrt (ms (dev v k) k e) * (h l - Ideal.div (∑ i, h i) (k : EReal)
      - dev v k l * Ideal.rsqrt (ms (dev v k) k e) * Ideal.div (∑ i, h i * (dev v k i * Ideal.rsqrt (ms (dev v k) k e))) (k : EReal)) = (d : EReal)
    ∧ h l * Ideal.rsqrt (ms (dev v k) k e) + pull v h k e * (((2 : ℝ) : EReal) * dev v k l)
      + Ideal.div (∑ i, -(h i * Ideal.rsqrt (ms (dev v k) k e)) + ∑ i, -(pull v h k e * (((2 : ℝ) : EReal) * dev v k i))) (k : EReal) = (d : EReal) := by
  choose g hg using hh
  rcases ms_cases (dev v k) k e hp he with ⟨r, -, hr, hd, hw⟩ | ⟨hr, hd⟩
  · have h0 := dev_sum v k hk hv hw hp
    obtain ⟨w, hw'⟩ : ∃ w : ι → ℝ, ∀ i, dev v k i = (w i : EReal) := ⟨_, hw⟩
    have h0 : ∑ i, w i = 0 := by simpa only [hw', EReal.toReal_coe] using h0
    have hP : pull v h k e = (((∑ i, w i * g i) * (-(1 / 2) * (r * r * r)) * (1 / k) : ℝ) : EReal) := by
      unfold pull
      rw [hd, Ideal.div_coe hp.ne']
      simp only [hw', hg, ← EReal.coe_mul, coe_sum]
    rw [hP, hr]
    simp only [hw', hg, ← EReal.coe_mul, ← EReal.coe_neg, coe_sum, Ideal.div_coe hp.ne', ← EReal.coe_add, ← EReal.coe_sub]
    refine ⟨_, rfl, congrArg Real.toEReal ?_⟩
    have h1 : ∑ i, -((∑ i, w i * g i) * (-(1 / 2) * (r * r * r)) * (1 / k) * (2 * w i)) = 0 := by
      rw [Finset.sum_congr rfl fun i _ => show -((∑ i, w i * g i) * (-(1 / 2) * (r * r * r)) * (1 / k) * (2 * w i)) = -((∑ i, w i * g i) * (-(1 / 2) * (r * r * r)) * (1 / k) * 2) * w i by ring,
        ← Finset.mul_sum, h0, mul_zero]
    have h2 : ∑ i, -(g i * r) = -(∑ i, g i) * r := by
      rw [Finset.sum_neg_distrib, neg_mul, ← Finset.sum_mul]
    have h3 : ∑ i, g i * (w i * r) = (∑ i, w i * g i) * r := by
      rw [Finset.sum_mul]
      exact Finset.sum_congr rfl fun i _ => by ring
    rw [h1, h2, h3]
    ring
  · have hP : pull v h k e = 0 := by
      unfold pull
      rw [hd, mul_zero, mul_zero, Ideal.div_coe hp.ne', zero_mul]
    refine ⟨0, ?_, ?_⟩
    · rw [hr, zero_mul, EReal.coe_zero]
    · rw [hP, hr]
      simp only [mul_zero, zero_mul, neg_zero, Finset.sum_const_zero, add_zero, Ideal.div_coe hp.ne', EReal.coe_zero]

end

end Cert.Act

end
-- ==== Proof.ActArrays.lean ====
/- The three result arrays of the gMLP activation's backward call, entry by entry, in terms of its arguments. -/
module

public import proofs.«01_k».proof.Proof.ActBlocks
public import proofs.«01_k».proof.Proof.ActMath
public import proofs.«01_k».proof.Proof.RowSums

@[expose] public section

set_option maxRecDepth 65536

noncomputable section

namespace Cert.KernelActIdeal.Value

open Gen Idealize.ShloMosaic TcCoe Idealize.SL.Sem Norm Cert.Act
open Pipeline (Dat)

variable (m : (ℓ : Loc nD τ sig) → Buf (Elt Ideal) ℓ)

/-- The columns of the two halves. -/
abbrev left (l : Fin 6144) : Fin 12288 := ⟨l.val, by omega⟩
abbrev right (l : Fin 6144) : Fin 12288 := ⟨6144 + l.val, by omega⟩

/-- The arguments, entry by entry: the two halves before the activation, the two cotangents and the layer norm's gain. -/
abbrev uv (c : Dev nD) (i : Fin 4096) (l : Fin 6144) : EReal := m (c.tc.loc main_arg0) (ix2 i (left l))
abbrev vv (c : Dev nD) (i : Fin 4096) (l : Fin 6144) : EReal := m (c.tc.loc main_arg0) (ix2 i (right l))
abbrev duv (c : Dev nD) (i : Fin 4096) (l : Fin 6144) : EReal := m (c.tc.loc main_arg1) (ix2 i l)
abbrev dvv (c : Dev nD) (i : Fin 4096) (l : Fin 6144) : EReal := m (c.tc.loc main_arg2) (ix2 i l)
abbrev gv (c : Dev nD) (l : Fin 6144) : EReal := m (c.tc.loc main_arg3) (ix1 l)

/-- Row i after the activation, less its mean; its reciprocal root; its cotangent before the gain. -/
abbrev wv (c : Dev nD) (i : Fin 4096) (l : Fin 6144) : EReal := dev (fun k => gelu (vv m c i k)) 6144 l
abbrev rstd (c : Dev nD) (i : Fin 4096) : EReal := Ideal.rsqrt (ms (dev (fun k => gelu (vv m c i k)) 6144) 6144 eps)
abbrev hv (c : Dev nD) (i : Fin 4096) (l : Fin 6144) : EReal := dvv m c i l * gv m c l

theorem index_eq : ∀ t : Fin cfg0.N,  (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) := by decide +kernel

theorem lt_N (t : Fin cfg0.N) : t.val < 32 := by have := t.isLt; have : cfg0.N = 32 := N_0; omega

/-- The last point. -/
abbrev tlast : Fin cfg0.N := ⟨31, by rw [show cfg0.N = 32 from N_0]; decide⟩

/-- Row r of point t's block. -/
abbrev row (t : Fin cfg0.N) (r : Fin 128) : Fin 4096 := rowOf 32 128 ⟨t.val, lt_N t⟩ r

theorem t_at (c : Dev nD) (t : Fin cfg0.N) (r : Fin 128) (l : Fin 12288) : iblk m c 0 t (ix2 r l) = m (c.tc.loc main_arg0) (ix2 (row t r) l) := by
  unfold iblk
  rw [View.read_apply]
  show m (c.tc.loc main_arg0) _ = _
  congr 1
  obtain ⟨⟨h0, h1⟩, -⟩ := index_eq t
  exact ix2_ext (in_block h0) (in_only h1)

theorem du_at (c : Dev nD) (t : Fin cfg0.N) (r : Fin 128) (l : Fin 6144) : iblk m c 1 t (ix2 r l) = duv m c (row t r) l := by
  unfold iblk
  rw [View.read_apply]
  show m (c.tc.loc main_arg1) _ = _
  congr 1
  obtain ⟨-, ⟨h0, h1⟩, -⟩ := index_eq t
  exact ix2_ext (in_block h0) (in_only h1)

theorem dv_at (c : Dev nD) (t : Fin cfg0.N) (r : Fin 128) (l : Fin 6144) : iblk m c 2 t (ix2 r l) = dvv m c (row t r) l := by
  unfold iblk
  rw [View.read_apply]
  show m (c.tc.loc main_arg2) _ = _
  congr 1
  obtain ⟨-, -, ⟨h0, h1⟩, -⟩ := index_eq t
  exact ix2_ext (in_block h0) (in_only h1)

/-- The host lays the gain out as one row. -/
theorem g_row (c : Dev nD) : V m c main_v0 = shapeCast S1x6144 (m (c.tc.loc main_arg3)) shapeCasts_S6144_S1x6144 := by
  unfold V
  after_results
  rfl

theorem g_at (c : Dev nD) (t : Fin cfg0.N) (r : Fin 1) (l : Fin 6144) : iblk m c 3 t (ix2 r l) = gv m c l := by
  unfold iblk
  rw [View.read_apply]
  show V m c main_v0 _ = _
  have he : ((cfg0.win 3).blk t).view.emb (ix2 r l) = ix2 (0 : Fin 1) l := by
    funext a
    apply Fin.ext
    obtain ⟨-, -, -, ⟨h0, h1⟩, -⟩ := index_eq t
    match a with
    | ⟨0, _⟩ => show win0_3.index t 0 * 1 + 1 * r.val = 0; rw [h0]; omega
    | ⟨1, _⟩ => show win0_3.index t 1 * 6144 + 1 * l.val = l.val; rw [h1]; omega
  refine (congrArg (V m c main_v0) he).trans ?_
  rw [g_row]
  pointwise

theorem root : (Named.named κ "inv_sqrt_2" 0x3F3504F3#32 : Ideal .f32) = ((rt : ℝ) : EReal) := rfl
theorem density : (Named.named κ "inv_sqrt_2pi" 0x3ECC422A#32 : Ideal .f32) = ((9465531 * (16777216 * Real.sqrt 2)⁻¹ : ℝ) : EReal) := rfl

/-- The activation's halves at one entry. -/
theorem half_at (x : Vec Ideal S128x12288 .bf16) (r : Fin 128) (l : Fin 6144) : k0_pay7 x (ix2 r l) = x (ix2 r (right l)) := by
  unfold k0_pay7 k0_pay6
  pointwise

theorem cdf_at (x : Vec Ideal S128x12288 .bf16) (r : Fin 128) (l : Fin 6144) : k0_pay9 x (ix2 r l) = cdf (x (ix2 r (right l))) := by
  unfold k0_pay9
  pointwise
  rw [half_at, ofBits_half, root]
  rfl

theorem gelu_at (x : Vec Ideal S128x12288 .bf16) (r : Fin 128) (l : Fin 6144) : k0_pay10 x (ix2 r l) = gelu (x (ix2 r (right l))) := by
  unfold k0_pay10
  pointwise
  rw [half_at, cdf_at]
  rfl

theorem slope_at (x : Vec Ideal S128x12288 .bf16) (r : Fin 128) (l : Fin 6144) : k0_pay11 x (ix2 r l) = slope (x (ix2 r (right l))) := by
  unfold k0_pay11
  pointwise
  rw [half_at, cdf_at, ofBits_neg_half, density]
  rfl

theorem du_part (x : Vec Ideal S128x12288 .bf16) (d : Vec Ideal S128x6144 .bf16) (r : Fin 128) (l : Fin 6144) :
    k0_pay8 x d (ix2 r l) = (show EReal from d (ix2 r l)) * slope (x (ix2 r (left l))) := by
  unfold k0_pay8 k0_pay6
  pointwise
  rw [ofBits_half, root, density, ofBits_neg_half]
  rfl

/-- A row less its mean, its reciprocal root and a normalised entry. -/
theorem w_at (c : Dev nD) (t : Fin cfg0.N) (r : Fin 128) (l : Fin 6144) : k0_pay12 (k0_pay10 (iblk m c 0 t)) (ix2 r l) = wv m c (row t r) l := by
  unfold k0_pay12
  pointwise
  simp only [gelu_at, t_at, ofBits_6144]

theorem rstd_at (c : Dev nD) (t : Fin cfg0.N) (r : Fin 128) (l : Fin 1) : k0_pay13 (k0_pay10 (iblk m c 0 t)) (ix2 r l) = rstd m c (row t r) := by
  unfold k0_pay13
  pointwise
  simp only [w_at, ofBits_6144, ofBits_eps]

theorem xhat_at (c : Dev nD) (t : Fin cfg0.N) (r : Fin 128) (l : Fin 6144) :
    k0_pay14 (k0_pay10 (iblk m c 0 t)) (ix2 r l) = wv m c (row t r) l * rstd m c (row t r) := by
  unfold k0_pay14
  pointwise
  rw [w_at, rstd_at]

/-- The two halves of the block of gradients. -/
theorem block_left (c : Dev nD) (t : Fin cfg0.N) (r : Fin 128) (l : Fin 6144) :
    block m c t (ix2 r (left l)) = duv m c (row t r) l * slope (uv m c (row t r) l) := by
  unfold block k0_pay18
  refine (concatenate_pair_apply_left (t := S128x12288) (s₁ := S128x6144) (s₂ := S128x6144) 1 _ _ concatenates_S128x6144_S128x6144_S128x12288_d1 _ rfl (ix2 r l) fun b => ?_).trans ?_
  · match b with
    | ⟨0, _⟩ => rfl
    | ⟨1, _⟩ => rfl
  · rw [du_part, du_at, t_at]

/-- The gradient of a row after the activation. -/
abbrev dvrow (c : Dev nD) (i : Fin 4096) (l : Fin 6144) : EReal :=
  rstd m c i * (hv m c i l - Ideal.div (∑ k, hv m c i k) ((6144 : ℝ) : EReal)
    - wv m c i l * rstd m c i * Ideal.div (∑ k, hv m c i k * (wv m c i k * rstd m c i)) ((6144 : ℝ) : EReal))

theorem block_right (c : Dev nD) (t : Fin cfg0.N) (r : Fin 128) (l : Fin 6144) :
    block m c t (ix2 r (right l)) = dvrow m c (row t r) l * slope (vv m c (row t r) l) := by
  unfold block k0_pay18
  refine (concatenate_pair_apply_right (t := S128x12288) (s₁ := S128x6144) (s₂ := S128x6144) 1 _ _ concatenates_S128x6144_S128x6144_S128x12288_d1 _ rfl rfl (ix2 r l) (fun b hb => ?_) (Nat.add_comm _ _)).trans ?_
  · match b with
    | ⟨0, _⟩ => rfl
    | ⟨1, _⟩ => exact absurd rfl hb
  · unfold k0_pay15 k0_pay5
    pointwise
    simp only [slope_at, t_at, dv_at, g_at, rstd_at, xhat_at, ofBits_6144]

/-- The column sums a point adds to each of its two rows of sums. -/
theorem dg_at (c : Dev nD) (t : Fin cfg0.N) (old : FVec Ideal S1x6144 .f32) (l : Fin 6144) :
    k0_pay3 (k0_pay16 (iblk m c 2 t) (k0_pay10 (iblk m c 0 t))) old (ix2 0 l) = (show EReal from old (ix2 0 l))
      + ∑ r : Fin 128, dvv m c (row t r) l * (wv m c (row t r) l * rstd m c (row t r)) := by
  unfold k0_pay3 k0_pay16 k0_pay15
  pointwise
  simp only [dv_at, xhat_at]

theorem db_at (c : Dev nD) (t : Fin cfg0.N) (old : FVec Ideal S1x6144 .f32) (l : Fin 6144) :
    k0_pay4 (k0_pay17 (iblk m c 2 t)) old (ix2 0 l) = (show EReal from old (ix2 0 l)) + ∑ r : Fin 128, dvv m c (row t r) l := by
  unfold k0_pay4 k0_pay17 k0_pay15
  pointwise
  simp only [dv_at]

/-- The gradient before the activation, as the point of its row leaves it. -/
theorem dt_final (c : Dev nD) (t : Fin 32) (r : Fin 128) (l : Fin 12288) :
    (dats m 0 c).arrAt 4 cfg0.N (ix2 (rowOf 32 128 t r) l) = block m c ⟨t.val, by have := t.isLt; have : cfg0.N = 32 := N_0; omega⟩ (ix2 r l) := by
  have hN : cfg0.N = 32 := N_0
  let t' : Fin cfg0.N := ⟨t.val, by have := t.isLt; omega⟩
  have h := (dats m 0 c).arrAt_emb_eq_flushed 4 disjoint4 t' (flush0_4 t') (ix2 r l)
  have he : ((cfg0.win 4).blk t').view.emb (ix2 r l) = ix2 (rowOf 32 128 t r) l := by
    obtain ⟨-, -, -, -, ⟨h0, h1⟩, -⟩ := index_eq t'
    exact ix2_ext (in_block h0) (in_only h1)
  rw [he, flushed4] at h
  refine h.trans ?_
  show (outsAt0 m c t'.val t'.isLt).1 (ix2 r l) = _
  by_cases h0 : t'.val % 32 = 0
  · rw [outs_first m c t' h0]
  · rw [outs_next m c t' h0]

theorem du_final (c : Dev nD) (i : Fin 4096) (l : Fin 6144) : (dats m 0 c).arrAt 4 cfg0.N (ix2 i (left l)) = duv m c i l * slope (uv m c i l) := by
  obtain ⟨t, r, rfl⟩ := exists_rowOf (n := 32) (k := 128) i
  exact (dt_final m c t r (left l)).trans (block_left m c _ r l)

theorem dv_final (c : Dev nD) (i : Fin 4096) (l : Fin 6144) : (dats m 0 c).arrAt 4 cfg0.N (ix2 i (right l)) = dvrow m c i l * slope (vv m c i l) := by
  obtain ⟨t, r, rfl⟩ := exists_rowOf (n := 32) (k := 128) i
  exact (dt_final m c t r (right l)).trans (block_right m c _ r l)

/-- A row of sums that starts with the first point's and has each later point's added holds, after the last, the sum over all rows. -/
theorem sums_all (c : Dev nD) (old : Vec Ideal S1x6144 .f32 × Vec Ideal S1x6144 .f32 → EReal)
    (f : Fin 32 → EReal)
    (h0 : ∀ t : Fin cfg0.N, t.val % 32 = 0 → old (outsAt0 m c t.val t.isLt).2 = f ⟨t.val, lt_N t⟩)
    (hs : ∀ t : Fin cfg0.N, ¬t.val % 32 = 0 → old (outsAt0 m c t.val t.isLt).2
      = old (outsAt0 m c (t.val - 1) (Nat.lt_of_le_of_lt (Nat.sub_le _ _) t.isLt)).2 + f ⟨t.val, lt_N t⟩) :
    old (outsAt0 m c tlast.val tlast.isLt).2 = ∑ t, f t := by
  have hN : cfg0.N = 32 := N_0
  exact sum_of_steps_last (n := 31) (fun j hj => old (outsAt0 m c j (by omega)).2) f
    (fun h => h0 (⟨0, by omega⟩ : Fin cfg0.N) rfl) (fun j hj => hs (⟨j + 1, by omega⟩ : Fin cfg0.N) (by dsimp only; omega))

/-- The gradient of the layer norm's gain. -/
theorem dg_final (c : Dev nD) (l : Fin 6144) : (dats m 0 c).arrAt 5 cfg0.N (ix2 0 l) = ∑ i : Fin 4096, dvv m c i l * (wv m c i l * rstd m c i) := by
  have hN : cfg0.N = 32 := N_0
  have h := (dats m 0 c).arrAt_emb_eq_flushed 5 (fun t t' ht ht' hne => absurd (Fin.ext (by
    have := (flush0_5 t).mp ht; have := (flush0_5 t').mp ht'; have := lt_N t; have := lt_N t'; omega)) hne) tlast ((flush0_5 tlast).mpr rfl) (ix2 0 l)
  have he : ((cfg0.win 5).blk tlast).view.emb (ix2 0 l) = ix2 (0 : Fin 1) l := by
    obtain ⟨-, -, -, -, -, ⟨h0, h1⟩, -⟩ := index_eq tlast
    exact ix2_ext (in_only h0) (in_only h1)
  rw [he, flushed5] at h
  refine h.trans ?_
  show (outsAt0 m c tlast.val tlast.isLt).2.1 (ix2 0 l) = _
  rw [sum_rowOf (n := 32) (k := 128)]
  refine sums_all m c (fun o => o.1 (ix2 0 l)) _ (fun t h0 => ?_) (fun t h0 => ?_)
  · rw [outs_first m c t h0]
    refine (dg_at m c t _ l).trans ?_
    unfold k0_pay1
    pointwise
    rfl
  · rw [outs_next m c t h0]
    exact dg_at m c t _ l

/-- The gradient of the layer norm's bias: the column sums of its cotangent. -/
theorem db_final (c : Dev nD) (l : Fin 6144) : (dats m 0 c).arrAt 6 cfg0.N (ix2 0 l) = ∑ i : Fin 4096, dvv m c i l := by
  have hN : cfg0.N = 32 := N_0
  have h := (dats m 0 c).arrAt_emb_eq_flushed 6 (fun t t' ht ht' hne => absurd (Fin.ext (by
    have := (flush0_6 t).mp ht; have := (flush0_6 t').mp ht'; have := lt_N t; have := lt_N t'; omega)) hne) tlast ((flush0_6 tlast).mpr rfl) (ix2 0 l)
  have he : ((cfg0.win 6).blk tlast).view.emb (ix2 0 l) = ix2 (0 : Fin 1) l := by
    obtain ⟨-, -, -, -, -, -, ⟨h0, h1⟩⟩ := index_eq tlast
    exact ix2_ext (in_only h0) (in_only h1)
  rw [he, flushed6] at h
  refine h.trans ?_
  show (outsAt0 m c tlast.val tlast.isLt).2.2 (ix2 0 l) = _
  rw [sum_rowOf (n := 32) (k := 128)]
  refine sums_all m c (fun o => o.2 (ix2 0 l)) _ (fun t h0 => ?_) (fun t h0 => ?_)
  · rw [outs_first m c t h0]
    refine (db_at m c t _ l).trans ?_
    unfold k0_pay2
    pointwise
    rfl
  · rw [outs_next m c t h0]
    exact db_at m c t _ l

end Cert.KernelActIdeal.Value

end
-- ==== Proof.ActClaims.lean ====
/- The gMLP activation's backward call against the vector-Jacobian product of the Gaussian error unit and the layer norm: the five claims. -/
module

public import proofs.«01_k».proof.Defs
public import proofs.«01_k».proof.Proof.Gen.KernelAct.Frame
public import proofs.«01_k».proof.Proof.Gen.ReferenceActIdeal.Read
public import proofs.«01_k».proof.Proof.ActArrays
public import proofs.«01_k».proof.Proof.Finite

@[expose] public section

set_option maxRecDepth 65536

noncomputable section

namespace Cert.ReferenceActIdeal.Read

open Gen Idealize.ShloMosaic TcCoe Idealize.SL.Sem Norm Cert.Act
open KernelActIdeal.Value (left right)

variable (x0 : (⟨S4096x12288, .bf16⟩ : BufTy).Contents (Elt Ideal)) (x1 : (⟨S4096x6144, .bf16⟩ : BufTy).Contents (Elt Ideal))
  (x2 : (⟨S4096x6144, .bf16⟩ : BufTy).Contents (Elt Ideal)) (x3 : (⟨S6144, .f32⟩ : BufTy).Contents (Elt Ideal))

/-- The rounding-free reading of the activation's argument and its parts. -/
theorem v5_at (i : Fin 4096) (l : Fin 12288) : val_main_v5 (F := Ideal) x0 (ix2 i l) = ((1 / 2 : ℝ) : EReal) * (x0 (ix2 i l) : EReal) := by
  unfold val_main_v5 val_main_v4 val_main_cst_0 val_main_v2
  pointwise
  rw [ofBits_half]

theorem v7_at : val_main_v7 (F := Ideal) = fun _ => ((rt : ℝ) : EReal) := by
  funext j
  unfold val_main_v7 val_main_cst_1
  pointwise
  rw [ofBits_two, rsqrt_two]

theorem v9_at (i : Fin 4096) (l : Fin 12288) : val_main_v9 (F := Ideal) x0 (ix2 i l) = -(x0 (ix2 i l) : EReal) * ((rt : ℝ) : EReal) := by
  unfold val_main_v9 val_main_v8 val_main_v6 val_main_v2
  rw [v7_at]
  pointwise

theorem v10_at (i : Fin 4096) (l : Fin 12288) : val_main_v10 (F := Ideal) x0 (ix2 i l) = Ideal.erfc (-(x0 (ix2 i l) : EReal) * ((rt : ℝ) : EReal)) := by
  unfold val_main_v10
  pointwise
  rw [v9_at]

theorem v13_at (i : Fin 4096) (l : Fin 12288) : val_main_v13 (F := Ideal) x0 (ix2 i l)
    = Ideal.exp (-(-(x0 (ix2 i l) : EReal) * ((rt : ℝ) : EReal) * (-(x0 (ix2 i l) : EReal) * ((rt : ℝ) : EReal)))) := by
  unfold val_main_v13 val_main_v12 val_main_v11
  pointwise
  rw [v9_at]

theorem v16_at (i : Fin 4096) (l : Fin 6144) : val_main_v16 (F := Ideal) x0 (ix2 i l) = gelu (x0 (ix2 i (right l))) := by
  unfold val_main_v16 val_main_v14
  pointwise
  rw [v5_at, v10_at]
  exact gelu_erfc _

/-- Row i of the second half after the activation, less its mean; the mean square with the norm's constant. -/
abbrev act (i : Fin 4096) (k : Fin 6144) : EReal := gelu (x0 (ix2 i (right k)))
abbrev var (i : Fin 4096) : EReal := ms (dev (act x0 i) 6144) 6144 eps
abbrev hr (i : Fin 4096) (l : Fin 6144) : EReal := (x2 (ix2 i l) : EReal) * (x3 (ix1 l) : EReal)

theorem v20_at (i : Fin 4096) (u : Fin 1) : val_main_v20 (F := Ideal) x0 (ix2 i u) = Ideal.div (∑ k, act x0 i k) ((6144 : ℝ) : EReal) := by
  unfold val_main_v20 val_main_v19 val_main_cst_3 val_main_v18 val_main_v17 val_main_cst_2
  pointwise
  simp only [v16_at, ofBits_6144]

theorem v22_at (i : Fin 4096) (l : Fin 6144) : val_main_v22 (F := Ideal) x0 (ix2 i l) = dev (act x0 i) 6144 l := by
  unfold val_main_v22 val_main_v21
  pointwise
  rw [v16_at, v20_at]

theorem v31_at (i : Fin 4096) (l : Fin 6144) : val_main_v31 (F := Ideal) x0 (ix2 i l) = dev (act x0 i) 6144 l := by
  unfold val_main_v31 val_main_v30
  pointwise
  rw [v16_at, v20_at]

theorem v33_at (i : Fin 4096) (u : Fin 1) : val_main_v33 (F := Ideal) x0 (ix2 i u) = var x0 i := by
  unfold val_main_v33 val_main_v32 val_main_cst_7 val_main_v29 val_main_v28 val_main_cst_6 val_main_v27 val_main_v26 val_main_cst_5 val_main_v23
  pointwise
  simp only [v22_at, ofBits_6144, ofBits_eps]

theorem v34_at (i : Fin 4096) (u : Fin 1) : val_main_v34 (F := Ideal) x0 (ix2 i u) = Ideal.rsqrt (var x0 i) := by
  unfold val_main_v34
  pointwise
  rw [v33_at]

theorem v37_at (i : Fin 4096) (u : Fin 1) : val_main_v37 (F := Ideal) x0 (ix2 i u)
    = ((-(1 / 2) : ℝ) : EReal) * Ideal.div (Ideal.rsqrt (var x0 i)) (var x0 i) := by
  unfold val_main_v37 val_main_v36 val_main_cst_8 val_main_v35
  pointwise
  rw [v33_at, v34_at, ofBits_neg_half]

theorem v39_at (i : Fin 4096) (l : Fin 6144) : val_main_v39 (F := Ideal) x0 (ix2 i l) = dev (act x0 i) 6144 l * Ideal.rsqrt (var x0 i) := by
  unfold val_main_v39 val_main_v38
  pointwise
  rw [v31_at, v34_at]

theorem v53_at (i : Fin 4096) (l : Fin 6144) : val_main_v53 (F := Ideal) x2 x3 (ix2 i l) = hr x2 x3 i l := by
  unfold val_main_v53 val_main_v52 val_main_v40 val_main_v1
  pointwise

theorem v59_at (i : Fin 4096) (l : Fin 6144) : val_main_v59 (F := Ideal) x0 x2 x3 (ix2 i l) = hr x2 x3 i l * Ideal.rsqrt (var x0 i) := by
  unfold val_main_v59 val_main_v58
  pointwise
  rw [v53_at, v34_at]

/-- What the mean square's gradient adds, per row. -/
theorem v66_at (i : Fin 4096) : val_main_v66 (F := Ideal) x0 x2 x3 (ix1 i) = pull (act x0 i) (hr x2 x3 i) 6144 eps := by
  unfold val_main_v66 val_main_cst_16 val_main_v65 val_main_v64 val_main_cst_15 val_main_v60 val_main_v57 val_main_v56 val_main_cst_13 val_main_v55
  pointwise
  simp only [v31_at, v53_at, v37_at, ofBits_6144]
  exact Fin.sum_univ_one _

theorem v68_at (i : Fin 4096) (l : Fin 6144) : val_main_v68 (F := Ideal) x0 x2 x3 (ix2 i l)
    = pull (act x0 i) (hr x2 x3 i) 6144 eps * (((2 : ℝ) : EReal) * dev (act x0 i) 6144 l) := by
  unfold val_main_v68 val_main_v67 val_main_v25 val_main_v24 val_main_cst_4
  pointwise
  rw [v66_at, v22_at, ofBits_two]

/-- … and per row through the mean. -/
theorem v76_at (i : Fin 4096) : val_main_v76 (F := Ideal) x0 x2 x3 (ix1 i)
    = Ideal.div (∑ l, -(hr x2 x3 i l * Ideal.rsqrt (var x0 i)) + ∑ l, -(pull (act x0 i) (hr x2 x3 i) 6144 eps * (((2 : ℝ) : EReal) * dev (act x0 i) 6144 l)))
      ((6144 : ℝ) : EReal) := by
  unfold val_main_v76 val_main_cst_19 val_main_v75 val_main_v74 val_main_cst_18 val_main_v73 val_main_v71 val_main_v70 val_main_cst_17 val_main_v69
    val_main_v63 val_main_v62 val_main_cst_14 val_main_v61
  pointwise
  simp only [v59_at, v68_at, ofBits_6144]
  exact Fin.sum_univ_one _

theorem v78_at (i : Fin 4096) (l : Fin 6144) : val_main_v78 (F := Ideal) x0 x2 x3 (ix2 i l)
    = hr x2 x3 i l * Ideal.rsqrt (var x0 i) + pull (act x0 i) (hr x2 x3 i) 6144 eps * (((2 : ℝ) : EReal) * dev (act x0 i) 6144 l)
      + Ideal.div (∑ l, -(hr x2 x3 i l * Ideal.rsqrt (var x0 i)) + ∑ l, -(pull (act x0 i) (hr x2 x3 i) 6144 eps * (((2 : ℝ) : EReal) * dev (act x0 i) 6144 l)))
        ((6144 : ℝ) : EReal) := by
  unfold val_main_v78 val_main_v77 val_main_v72
  pointwise
  rw [v59_at, v68_at, v76_at]

/-- The cotangent of the activation, half by half. -/
theorem v79_left (i : Fin 4096) (l : Fin 6144) : val_main_v79 (F := Ideal) x0 x1 x2 x3 (ix2 i (left l)) = x1 (ix2 i l) := by
  unfold val_main_v79 val_main_v0
  refine (concatenate_pair_apply_left (t := S4096x12288) (s₁ := S4096x6144) (s₂ := S4096x6144) 1 _ _ concatenates_S4096x6144_S4096x6144_S4096x12288_d1 _ rfl (ix2 i l) fun b => ?_).trans rfl
  match b with
  | ⟨0, _⟩ => rfl
  | ⟨1, _⟩ => rfl

theorem v79_right (i : Fin 4096) (l : Fin 6144) : val_main_v79 (F := Ideal) x0 x1 x2 x3 (ix2 i (right l)) = val_main_v78 (F := Ideal) x0 x2 x3 (ix2 i l) := by
  unfold val_main_v79
  refine (concatenate_pair_apply_right (t := S4096x12288) (s₁ := S4096x6144) (s₂ := S4096x6144) 1 _ _ concatenates_S4096x6144_S4096x6144_S4096x12288_d1 _ rfl rfl (ix2 i l) (fun b hb => ?_) (Nat.add_comm _ _)).trans rfl
  match b with
  | ⟨0, _⟩ => rfl
  | ⟨1, _⟩ => exact absurd rfl hb

/-- The activation's gradient, wherever its cotangent is a real number. -/
theorem v91_at (i : Fin 4096) (l : Fin 12288) (d : ℝ) (h : val_main_v79 (F := Ideal) x0 x1 x2 x3 (ix2 i l) = (d : EReal)) :
    val_main_v91 (F := Ideal) x0 x1 x2 x3 (ix2 i l) = (d : EReal) * slope (x0 (ix2 i l)) := by
  unfold val_main_v91 val_main_v90 val_main_v89 val_main_v88 val_main_cst_21 val_main_v87 val_main_v86 val_main_v85 val_main_v84 val_main_v83 val_main_v82
    val_main_cst_20 val_main_v81 val_main_v80
  rw [v7_at]
  pointwise
  rw [h, v5_at, v10_at, v13_at, ofBits_half, ofBits_kap]
  exact slope_erfc _ d

theorem v92_at (l : Fin 6144) : val_main_v92 (F := Ideal) x0 x2 (ix2 0 l)
    = ∑ i : Fin 4096, dev (act x0 i) 6144 l * Ideal.rsqrt (var x0 i) * (x2 (ix2 i l) : EReal) := by
  unfold val_main_v92 val_main_v54 val_main_cst_12 val_main_v51 val_main_v50 val_main_cst_11 val_main_v49 val_main_v1
  pointwise
  simp only [v39_at]
  exact Fin.sum_univ_one _

theorem v93_at (l : Fin 6144) : val_main_v93 (F := Ideal) x2 (ix2 0 l) = ∑ i : Fin 4096, (x2 (ix2 i l) : EReal) := by
  unfold val_main_v93 val_main_v48 val_main_cst_10 val_main_v47 val_main_v46 val_main_cst_9 val_main_v1
  pointwise
  exact Fin.sum_univ_one _

end Cert.ReferenceActIdeal.Read

namespace Cert.Proof.Act

open Idealize.ShloMosaic TcCoe Idealize.SL.Sem KernelActIdeal.Value Norm Cert.Act

theorem frame : quiescent_KernelAct := fun m ρ _ => KernelAct.Gen.frame m ρ
theorem frame_ideal : quiescent_KernelActIdeal := fun m ρ _ => KernelActIdeal.Gen.frame m ρ
theorem frame_reference : quiescent_ReferenceActIdeal := fun m ρ _ =>
  (θ_run _ _ _).mono (fun r h => ⟨fun c => (h c).2.2.2, sem_eq_zero_of_no_sems (by decide) r.2⟩) (ReferenceActIdeal.Value.run m ρ)

theorem facts_finite : Cert.Pre_finite_act.Facts := ⟨by decide, by decide⟩

theorem frame_ideal_pre : quiescent_KernelActIdeal_pre_finite_act (hPre_finite_act := facts_finite) :=
  fun m ρ _ => frame_ideal m ρ trivial
theorem frame_reference_pre : quiescent_ReferenceActIdeal_pre_finite_act (hPre_finite_act := facts_finite) :=
  fun m ρ _ => frame_reference m ρ trivial

theorem preserves : preserves_KernelAct_KernelActIdeal :=
  ⟨IdealRules.named_const.statement _ _ _ _ _ rfl, IdealRules.named_const.statement _ _ _ _ _ rfl⟩

/-- Both programs leave the gradient before the activation and those of the layer norm's gain and bias. -/
theorem algebraic : algebraic_KernelActIdeal_ReferenceActIdeal_pre_finite_act (hPre_finite_act := facts_finite) := by
  intro m ρ m' ρ' hpre hm
  refine ⟨fun c => (KernelActIdeal.Gen.dats m 0 c).arrAt 4 KernelActIdeal.cfg0.N,
    fun c => (KernelActIdeal.Gen.dats m 0 c).arrAt 5 KernelActIdeal.cfg0.N,
    fun c => (KernelActIdeal.Gen.dats m 0 c).arrAt 6 KernelActIdeal.cfg0.N, run_blocks m ρ, ?_⟩
  refine (θ_run _ _ _).mono (fun r h c => ?_) (ReferenceActIdeal.Value.run m' ρ')
  obtain ⟨ht, hg, hb, hargs⟩ := h c
  obtain ⟨e0, e1, e2, e3⟩ := hm c
  obtain ⟨p1, p2, p3⟩ := hpre c
  refine ⟨ht.trans ?_, hg.trans ?_, hb.trans ?_, hargs⟩
  · rw [ReferenceActIdeal.Read.val_main_v91_eq, e0, e1, e2, e3]
    funext j
    obtain ⟨i, l, rfl⟩ := exists_ix2 j
    by_cases hl : l.val < 6144
    · obtain ⟨k, rfl⟩ : ∃ k : Fin 6144, l = left k := ⟨⟨l.val, hl⟩, rfl⟩
      have hd : ∃ d : ℝ, duv m c i k = (d : EReal) := ⟨_, real_of_test_half _ _ _ p1 (ix2 i k)⟩
      obtain ⟨d, hd⟩ := hd
      refine (ReferenceActIdeal.Read.v91_at _ _ _ _ i (left k) d ((ReferenceActIdeal.Read.v79_left _ _ _ _ i k).trans hd)).trans
        (Eq.trans ?_ (du_final m c i k).symm)
      rw [hd]
    · obtain ⟨k, rfl⟩ : ∃ k : Fin 6144, l = right k := ⟨⟨l.val - 6144, by have := l.isLt; omega⟩, Fin.ext (by show l.val = 6144 + (l.val - 6144); omega)⟩
      have hh : ∀ l, ∃ x : ℝ, hv m c i l = (x : EReal) := fun l =>
        ⟨_, (congrArg₂ (fun a b : EReal => a * b) (real_of_test_half _ _ _ p2 (ix2 i l)) (real_of_test _ _ _ p3 (ix1 l))).trans (EReal.coe_mul _ _).symm⟩
      obtain ⟨d, h1, h2⟩ := row_both (fun k => gelu (vv m c i k)) (hv m c i) 6144 eps (by simp) (fun _ => gelu_ne_bot _) (by norm_num) eps_pos hh k
      refine (ReferenceActIdeal.Read.v91_at _ _ _ _ i (right k) d (((ReferenceActIdeal.Read.v79_right _ _ _ _ i k).trans
        (ReferenceActIdeal.Read.v78_at _ _ _ i k)).trans h2)).trans (Eq.trans ?_ (dv_final m c i k).symm)
      exact congrArg (fun a : EReal => a * slope (vv m c i k)) h1.symm
  · rw [ReferenceActIdeal.Read.val_main_v92_eq, e0, e2]
    funext j
    obtain ⟨i, l, rfl⟩ := exists_ix2 j
    obtain rfl : i = 0 := Subsingleton.elim _ _
    refine (ReferenceActIdeal.Read.v92_at _ _ l).trans (Eq.trans ?_ (dg_final m c l).symm)
    exact Finset.sum_congr rfl fun i _ => mul_comm _ _
  · rw [ReferenceActIdeal.Read.val_main_v93_eq, e2]
    funext j
    obtain ⟨i, l, rfl⟩ := exists_ix2 j
    obtain rfl : i = 0 := Subsingleton.elim _ _
    exact (ReferenceActIdeal.Read.v93_at _ l).trans (db_final m c l).symm

end Cert.Proof.Act

end
-- ==== Proof.FromEnd.lean ====
/- Sums from a row to the last one: block by block from the end, and as a window sum of the host. -/
module

public import proofs.«01_k».proof.Proof.RowSums
public import Idealize.ShloMosaic.PureOps.Ideal
public import Idealize.ShloMosaic.Lib.ValueIdx

@[expose] public section

noncomputable section

namespace Cert.FromEnd

open Idealize.ShloMosaic

/-- The sum over a row and all rows after it. -/
def fromRow (d : Fin 4096 → EReal) (i : Fin 4096) : EReal := ∑ k, if i ≤ k then d k else 0

/-- The sum over the last n blocks of 128 rows. -/
def lastBlocks (d : Fin 4096 → EReal) (n : ℕ) : EReal := ∑ t : Fin 32, if 32 ≤ t.val + n then ∑ y : Fin 128, d (rowOf 32 128 t y) else 0

theorem lastBlocks_zero (d : Fin 4096 → EReal) : lastBlocks d 0 = 0 :=
  Finset.sum_eq_zero fun t _ => if_neg (by have := t.isLt; omega)

theorem lastBlocks_succ (d : Fin 4096 → EReal) {n : ℕ} (h : n < 32) :
    lastBlocks d (n + 1) = lastBlocks d n + ∑ y : Fin 128, d (rowOf 32 128 ⟨31 - n, by omega⟩ y) := by
  have e : ∀ t : Fin 32, (if 32 ≤ t.val + (n + 1) then ∑ y : Fin 128, d (rowOf 32 128 t y) else 0)
      = (if 32 ≤ t.val + n then ∑ y : Fin 128, d (rowOf 32 128 t y) else 0)
        + (if t = ⟨31 - n, by omega⟩ then ∑ y : Fin 128, d (rowOf 32 128 t y) else 0) := by
    intro t
    by_cases h1 : 32 ≤ t.val + n
    · rw [if_pos (by omega), if_pos h1, if_neg (fun e => by have := congrArg Fin.val e; dsimp only at this; omega), add_zero]
    · by_cases h2 : t = ⟨31 - n, by omega⟩
      · rw [if_pos (by rw [h2]; dsimp only; omega), if_neg h1, if_pos h2, zero_add]
      · rw [if_neg (fun h3 => h2 (Fin.ext (by dsimp only; omega))), if_neg h1, if_neg h2, zero_add]
  rw [lastBlocks, Finset.sum_congr rfl fun t _ => e t, Finset.sum_add_distrib, Finset.sum_ite_eq' Finset.univ, if_pos (Finset.mem_univ _)]
  rfl

theorem lastBlocks_all (d : Fin 4096 → EReal) : lastBlocks d 32 = ∑ i, d i := by
  rw [sum_rowOf (n := 32) (k := 128)]
  exact Finset.sum_congr rfl fun t _ => if_pos (by omega)

/-- From row y of block B on: the rest of that block, and the blocks after it. -/
theorem fromRow_block (d : Fin 4096 → EReal) (B : Fin 32) (y : Fin 128) :
    fromRow d (rowOf 32 128 B y) = (∑ j : Fin 128, if y ≤ j then d (rowOf 32 128 B j) else 0) + lastBlocks d (31 - B.val) := by
  have e : ∀ t : Fin 32, (∑ j : Fin 128, if rowOf 32 128 B y ≤ rowOf (N := 4096) 32 128 t j then d (rowOf 32 128 t j) else 0)
      = (if t = B then ∑ j : Fin 128, if y ≤ j then d (rowOf 32 128 t j) else 0 else 0)
        + (if 32 ≤ t.val + (31 - B.val) then ∑ j : Fin 128, d (rowOf 32 128 t j) else 0) := by
    intro t
    have hB := B.isLt
    have hy := y.isLt
    have le : ∀ j : Fin 128, rowOf 32 128 B y ≤ rowOf (N := 4096) 32 128 t j ↔ B.val * 128 + y.val ≤ t.val * 128 + j.val := fun j => Iff.rfl
    rcases lt_trichotomy t.val B.val with h | h | h
    · rw [if_neg (fun e => by rw [e] at h; omega), if_neg (by omega), add_zero]
      exact Finset.sum_eq_zero fun j _ => if_neg (by rw [le]; omega)
    · obtain rfl : t = B := Fin.ext h
      rw [if_pos rfl, if_neg (by omega), add_zero]
      refine Finset.sum_congr rfl fun j _ => if_congr ?_ rfl rfl
      rw [le, Fin.le_def]
      omega
    · rw [if_neg (fun e => by rw [e] at h; omega), if_pos (by omega), zero_add]
      exact Finset.sum_congr rfl fun j _ => if_pos (by rw [le]; omega)
  rw [fromRow, sum_rowOf (n := 32) (k := 128), Finset.sum_congr rfl fun t _ => e t, Finset.sum_add_distrib, Finset.sum_ite_eq' Finset.univ,
    if_pos (Finset.mem_univ _)]
  rfl

theorem foldl_sum {α : Type} (f : α → EReal) : ∀ (l : List α) (z : EReal), l.foldl (fun r n => r + f n) z = z + (l.map f).sum
  | [], z => by simp
  | a :: l, z => by
    rw [List.foldl_cons, foldl_sum f l, List.map_cons, List.sum_cons, add_assoc]

/-- The host's window sum over a row and all after it. -/
theorem window_fromRow {C : ℕ} (h : (⟨2, ![4096, C]⟩ : Shape).ReduceWindows ![4096, 1] ![1, 1] ![0, 0] ![4095, 0] ⟨2, ![4096, C]⟩)
    (x : (⟨2, ![4096, C]⟩ : Shape).Idx → EReal) (i : Fin 4096) (c : Fin C) :
    Ideal.hostReduceWindowAdd ![4096, 1] ![1, 1] ![0, 0] ![4095, 0] h x 0 (ix2 i c) = fromRow (fun k => x (ix2 k c)) i := by
  unfold Ideal.hostReduceWindowAdd Host.reduceWindow
  dsimp only
  rw [foldl_sum, zero_add, ← List.ofFn_eq_map, List.sum_ofFn]
  let g : ℕ → EReal := fun n => if hn : n < 4096 then x (ix2 ⟨n, hn⟩ c) else 0
  let In : (⟨2, ![4096, 1]⟩ : Shape).Idx → Fin 2 → Prop := fun w a =>
    (![0, 0] : Fin 2 → ℕ) a ≤ ((ix2 i c : (⟨2, ![4096, C]⟩ : Shape).Idx) (a.cast h.1.symm)).val * (![1, 1] : Fin 2 → ℕ) a + (w a).val
      ∧ ((ix2 i c : (⟨2, ![4096, C]⟩ : Shape).Idx) (a.cast h.1.symm)).val * (![1, 1] : Fin 2 → ℕ) a + (w a).val - (![0, 0] : Fin 2 → ℕ) a
        < (⟨2, ![4096, C]⟩ : Shape).size a
  have key : ∀ (w : (⟨2, ![4096, 1]⟩ : Shape).Idx) (D : Decidable (∀ a, In w a)),
      (if hin : ∀ a, In w a then x (fun a => ⟨_, (hin a).2⟩) else 0) = g (i.val + (w 0).val) := by
    intro w D
    have hw : (w 1).val = 0 := by have : (w 1).val < 1 := (w 1).isLt; omega
    by_cases hn : i.val + (w 0).val < 4096
    · have hin : ∀ a, In w a := by
        intro a
        match a with
        | ⟨0, _⟩ => exact ⟨Nat.zero_le _, show i.val * 1 + (w 0).val - 0 < 4096 by omega⟩
        | ⟨1, _⟩ => exact ⟨Nat.zero_le _, show c.val * 1 + (w 1).val - 0 < C by have := c.isLt; omega⟩
      rw [dif_pos hin]
      dsimp only [g]
      rw [dif_pos hn]
      refine congrArg x (funext fun a => Fin.ext ?_)
      match a with
      | ⟨0, _⟩ => show i.val * 1 + (w 0).val - 0 = i.val + (w 0).val; omega
      | ⟨1, _⟩ => show c.val * 1 + (w 1).val - 0 = c.val; omega
    · rw [dif_neg (fun hin => hn (by have h0 : i.val * 1 + (w 0).val - 0 < 4096 := (hin 0).2; omega))]
      dsimp only [g]
      rw [dif_neg hn]
  refine (Finset.sum_congr rfl fun n _ => key _ _).trans ?_
  rw [(⟨2, ![4096, 1]⟩ : Shape).rowMajor.symm.sum_comp (fun w => g (i.val + (w 0).val)), ValueIdx.sum_idx2]
  simp only [Fin.sum_univ_one]
  show ∑ n : Fin 4096, g (i.val + n.val) = _
  rw [Fin.sum_univ_eq_sum_range (fun n => g (i.val + n)) 4096]
  have e : fromRow (fun k => x (ix2 k c)) i = ∑ k ∈ Finset.range 4096, if i.val ≤ k then g k else 0 := by
    rw [← Fin.sum_univ_eq_sum_range (fun k => if i.val ≤ k then g k else 0) 4096]
    refine Finset.sum_congr rfl fun k _ => if_congr Iff.rfl ?_ rfl
    show x (ix2 k c) = if hn : k.val < 4096 then x (ix2 ⟨k.val, hn⟩ c) else 0
    rw [dif_pos k.isLt]
  rw [e, ← Finset.sum_filter]
  have hi := i.isLt
  have s1 : ∑ n ∈ Finset.range 4096, g (i.val + n) = ∑ k ∈ Finset.Ico i.val (i.val + 4096), g k := by
    rw [Finset.sum_Ico_eq_sum_range, Nat.add_sub_cancel_left]
  rw [s1]
  symm
  refine Finset.sum_subset (fun k hk => ?_) (fun k hk hk' => ?_)
  · rw [Finset.mem_filter, Finset.mem_range] at hk
    rw [Finset.mem_Ico]
    omega
  · rw [Finset.mem_Ico] at hk
    rw [Finset.mem_filter, Finset.mem_range] at hk'
    exact dif_neg (by omega)

end Cert.FromEnd

end
-- ==== Proof.FcumBlocks.lean ====
/- What the forget gates' backward call leaves: a running total from the last row back, one block of 128 rows after the other, times the gate's slope. -/
module

public import proofs.«01_k».proof.Proof.Gen.KernelFcumIdeal.Value
public import proofs.«01_k».proof.Proof.FromEnd

@[expose] public section

noncomputable section

namespace Cert.KernelFcumIdeal.Value

open Gen Idealize.ShloMosaic TcCoe Idealize.SL.Sem
open Pipeline (Dat)

variable (m : (ℓ : Loc nD τ sig) → Buf (Elt Ideal) ℓ)

theorem hz2 : (![0, 0] : Fin 2 → Nat) = fun _ => 0 := funext fun a => by fin_cases a <;> rfl

theorem off : ∀ k : Fin k0_t1_loop.trips, k0_off1 k = ![(31 - k.val) * 128, 0] := by decide +kernel
theorem trips : k0_t1_loop.trips = 32 := by decide +kernel

theorem off_at (n : ℕ) (h : n < k0_t1_loop.trips) : k0_off1 ⟨n, h⟩ = ![(31 - n) * 128, 0] := off ⟨n, h⟩

section Place

variable {of : Fin 2 → ℕ} (h : ∀ a, of a + ![128, 128] a ≤ S4096x128.size a) {B : Fin 32} (ho : of = ![B.val * 128, 0]) (y l : Fin 128)
include ho

theorem place_emb : (Rect.unit (s := S4096x128) of ![128, 128] h).emb (ix2 y l) = ix2 (rowOf 32 128 B y) l := by
  subst ho
  funext a
  apply Fin.ext
  match a with
  | ⟨0, _⟩ => show B.val * 128 + 1 * y.val = B.val * 128 + y.val; omega
  | ⟨1, _⟩ => show 0 + 1 * l.val = l.val; omega

theorem ld_block (x : Vec Ideal S4096x128 .f32) : View.ld x (Rect.unit (s := S4096x128) of ![128, 128] h) (ix2 y l) = x (ix2 (rowOf 32 128 B y) l) :=
  congrArg x (place_emb h ho y l)

theorem store_hit (P : Vec Ideal S128x128 .bf16) (L : List (View.Piece (Elt Ideal) S4096x128 .bf16)) :
    View.canon (⟨Rect.unit (s := S4096x128) of ![128, 128] h, P⟩ :: L) (ix2 (rowOf 32 128 B y) l) = P (ix2 y l) := by
  rw [← place_emb h ho]
  exact View.canon_cons_emb (Rect.unit (s := S4096x128) of ![128, 128] h) P L (ix2 y l)

theorem store_skip {A : Fin 32} (hA : A ≠ B) (P : Vec Ideal S128x128 .bf16) (L : List (View.Piece (Elt Ideal) S4096x128 .bf16)) :
    View.canon (⟨Rect.unit (s := S4096x128) of ![128, 128] h, P⟩ :: L) (ix2 (rowOf 32 128 A y) l) = View.canon L (ix2 (rowOf 32 128 A y) l) := by
  subst ho
  refine View.canon_cons_of_not_mem (⟨Rect.unit (s := S4096x128) _ ![128, 128] h, P⟩ : View.Piece (Elt Ideal) S4096x128 .bf16) L fun e => hA (Fin.ext ?_)
  obtain ⟨h1, h2⟩ := (Rect.mem_set_unit (inb := h)).mp e 0
  have h1 : B.val * 128 ≤ A.val * 128 + y.val := h1
  have h2 : A.val * 128 + y.val < B.val * 128 + 128 := h2
  omega

end Place

/-- A row of a block against the rows from it to the block's end. -/
theorem tri_at (y j : Fin 128) : (FloatOps.sitofp (F := Ideal) FTy.f32 (BitVec.setWidth 32 (IntOp.cmpi CmpIPredicate.sle (BitVec.ofNat 32 y.val) (BitVec.ofNat 32 j.val))) : EReal)
    = if y ≤ j then 1 else 0 := by
  have hy := y.isLt
  have hj := j.isLt
  rw [WordCmp.cmpi_sle_ofNat (by omega) (by omega)]
  by_cases h : y.val ≤ j.val
  · rw [if_pos (Fin.le_def.mpr h), decide_eq_true h]
    show (((1 : ℤ) : ℝ) : EReal) = 1
    norm_num
  · rw [if_neg (fun e => h (Fin.le_def.mp e)), decide_eq_false h]
    show (((0 : ℤ) : ℝ) : EReal) = 0
    norm_num

theorem live_at (l : Fin 128) (a b : EReal) : Scalar.select (IntOp.cmpi CmpIPredicate.slt (BitVec.ofNat 32 l.val) 16#32) a b = if l.val < 16 then a else b := by
  have hl := l.isLt
  have e : IntOp.cmpi CmpIPredicate.slt (BitVec.ofNat 32 l.val) 16#32 = BitVec.ofBool (decide (l.val < 16)) := WordCmp.cmpi_slt_ofNat (by omega) (by omega)
  rw [e, WordCmp.select_ofBool]
  exact if_congr decide_eq_true_iff rfl rfl

section Trip

variable (s : FVec Ideal S1x128 .f32) (d z : Vec Ideal S128x128 .f32) (y l : Fin 128)

theorem pay4_at : (k0_pay4 s d z (ix2 y l) : EReal) = if l.val < 16 then
    ((∑ j : Fin 128, if y ≤ j then (d (ix2 j l) : EReal) else 0) + s (ix2 0 l)) * Ideal.logistic (0 - z (ix2 y l)) else 0 := by
  unfold k0_pay4
  pointwise
  rw [live_at]
  simp only [tri_at, ite_mul, one_mul, zero_mul]

theorem pay6_at : (k0_pay6 s d (ix2 0 l) : EReal) = s (ix2 0 l) + ∑ y : Fin 128, (d (ix2 y l) : EReal) := by
  unfold k0_pay6
  pointwise

theorem pay7_at (u : FVec Ideal S1x128 .f32) : (k0_pay7 s u d z (ix2 0 l) : EReal) = u (ix2 0 l) + ∑ y : Fin 128, (k0_pay4 s d z (ix2 y l) : EReal) := by
  unfold k0_pay7
  pointwise

end Trip

/-- The loop's sums before step n, and what it has stored. -/
def run (c : Dev nD) (t : Fin cfg0.N) (n : ℕ) : (FVec Ideal S1x128 .f32 × FVec Ideal S1x128 .f32) × List (View.Piece (Elt Ideal) S4096x128 .bf16) :=
  st_k0_t1 (F := Ideal) Variants.none c none (ms0_0 t) (hs0_0 t) (ms0_1 t) (hs0_1 t) (ms0_2 t) (hs0_2 t) (ms0_3 t) (hs0_3 t) (ms0_4 t) (hs0_4 t)
    scM0_0 (Memref.isWhole_whole _) ((hs0_2 t).unread (iblk m c 2 t))
    ((View.whole cc0_scratch0).writes (Elt Ideal) (View.whole cc0_scratch0).junk
      (kernelRun0_A.sl.HS0_1 c (ms0_0 t) (hs0_0 t) (ms0_1 t) (hs0_1 t) (iblk m c 0 t) (iblk m c 1 t)))
    (k0_pay2, k0_pay3) n

theorem rows_point (c : Dev nD) (t : Fin cfg0.N) : (outsAt0 m c t).1 = View.canon (run m c t 32).2 := by
  unfold outsAt0
  dsimp only
  unfold out0_A_3
  rw [View.read_writes_eq_canon _ _ _ (fun y => cover0_A_3 (y := y) ..)]
  unfold kernelRun0_A
  dsimp only
  have e := trips
  dsimp only [k0_t1_loop, Scf.Loop.trips] at e
  rw [e]
  rfl

theorem sums_point (c : Dev nD) (t : Fin cfg0.N) : (outsAt0 m c t).2 = (run m c t 32).1.2 := by
  unfold outsAt0
  dsimp only
  unfold out0_A_4
  rw [View.read_writes_eq_canon _ _ _ (fun y => cover0_A_4 (y := y) ..)]
  unfold kernelRun0_A
  dsimp only
  rw [View.canon_unit_zero (S := S1x128) hz2]
  have e := trips
  dsimp only [k0_t1_loop, Scf.Loop.trips] at e
  rw [e]
  rfl

theorem scratch (c : Dev nD) (t : Fin cfg0.N) : (View.whole cc0_scratch0).read (Elt Ideal) ((View.whole cc0_scratch0).writes (Elt Ideal) (View.whole cc0_scratch0).junk
      (kernelRun0_A.sl.HS0_1 c (ms0_0 t) (hs0_0 t) (ms0_1 t) (hs0_1 t) (iblk m c 0 t) (iblk m c 1 t))) = k0_pay1 (iblk m c 0 t) (iblk m c 1 t) := by
  unfold kernelRun0_A.sl.HS0_1
  rw [View.read_writes_eq_canon _ _ _ (fun y => ⟨_, List.mem_singleton.mpr rfl, View.mem_set_unit_zero hz2 inb_S4096x128_S4096x128_0_0 y⟩), View.canon_unit_zero (S := S4096x128) hz2]
  simp only [View.readAt_eq_ld, (hs0_0 t).read_unread, (hs0_1 t).read_unread, View.ld_unit_zero (S := S128x4096) hz2]

theorem run_succ (c : Dev nD) (t : Fin cfg0.N) (n : ℕ) (hn : n < k0_t1_loop.trips) : run m c t (n + 1) =
    let d : Vec Ideal S128x128 .f32 := View.ld (k0_pay1 (iblk m c 0 t) (iblk m c 1 t)) (Rect.unit (s := S4096x128) (k0_off1 ⟨n, hn⟩) ![128, 128] (k0_off1_inb ⟨n, hn⟩))
    let z : Vec Ideal S128x128 .f32 := View.ld (iblk m c 2 t) (Rect.unit (s := S4096x128) (k0_off1 ⟨n, hn⟩) ![128, 128] (k0_off1_inb ⟨n, hn⟩))
    ((k0_pay6 (run m c t n).1.1 d, k0_pay7 (run m c t n).1.1 (run m c t n).1.2 d z),
      ⟨Rect.unit (s := S4096x128) (k0_off1 ⟨n, hn⟩) ![128, 128] (k0_off1_inb ⟨n, hn⟩), k0_pay5 (run m c t n).1.1 d z⟩ :: (run m c t n).2) := by
  have e : run m c t (n + 1) = _ := st_k0_t1_succ (F := Ideal) Variants.none c none (ms0_0 t) (hs0_0 t) (ms0_1 t) (hs0_1 t) (ms0_2 t) (hs0_2 t) (ms0_3 t) (hs0_3 t)
    (ms0_4 t) (hs0_4 t) scM0_0 (Memref.isWhole_whole _) ((hs0_2 t).unread (iblk m c 2 t)) _ (k0_pay2, k0_pay3) ⟨n, hn⟩
  rw [e]
  unfold tripR_k0_t1 tripL_k0_t1 trip_k0_t1
  dsimp only
  simp only [View.readAt_eq_ld, (hs0_2 t).read_unread, scratch]
  rfl

open FromEnd

/-- The gates' cotangent, and its running total from the end times the slope of the gate. -/
def dv (c : Dev nD) (t : Fin cfg0.N) (l : Fin 128) (i : Fin 4096) : EReal := k0_pay1 (iblk m c 0 t) (iblk m c 1 t) (ix2 i l)
def gv (c : Dev nD) (t : Fin cfg0.N) (l : Fin 128) (i : Fin 4096) : EReal :=
  if l.val < 16 then fromRow (dv m c t l) i * Ideal.logistic (0 - (show EReal from iblk m c 2 t (ix2 i l))) else 0

theorem run_at (c : Dev nD) (t : Fin cfg0.N) (l : Fin 128) (n : ℕ) (hn : n ≤ k0_t1_loop.trips) :
    ((run m c t n).1.1 (ix2 0 l) : EReal) = lastBlocks (dv m c t l) n ∧ ((run m c t n).1.2 (ix2 0 l) : EReal) = lastBlocks (gv m c t l) n
      ∧ ∀ (B : Fin 32) (y : Fin 128), 32 ≤ B.val + n → (View.canon (run m c t n).2 (ix2 (rowOf 32 128 B y) l) : EReal) = gv m c t l (rowOf 32 128 B y) := by
  induction n with
  | zero =>
    refine ⟨?_, ?_, fun B y h => absurd h (by have := B.isLt; omega)⟩
    · rw [lastBlocks_zero]; unfold run; rw [st_k0_t1_zero]; dsimp only; unfold k0_pay2; pointwise
    · rw [lastBlocks_zero]; unfold run; rw [st_k0_t1_zero]; dsimp only; unfold k0_pay3; pointwise
  | succ n ih =>
    obtain ⟨i1, i2, i3⟩ := ih (Nat.le_of_succ_le hn)
    have h32 : n < 32 := by rw [trips] at hn; omega
    have ho : k0_off1 ⟨n, hn⟩ = ![(⟨31 - n, by omega⟩ : Fin 32).val * 128, 0] := off_at n hn
    have e4 : ∀ y : Fin 128, (k0_pay4 (run m c t n).1.1 (View.ld (k0_pay1 (iblk m c 0 t) (iblk m c 1 t)) (Rect.unit (s := S4096x128) (k0_off1 ⟨n, hn⟩) ![128, 128] (k0_off1_inb ⟨n, hn⟩)))
        (View.ld (iblk m c 2 t) (Rect.unit (s := S4096x128) (k0_off1 ⟨n, hn⟩) ![128, 128] (k0_off1_inb ⟨n, hn⟩))) (ix2 y l) : EReal)
        = gv m c t l (rowOf 32 128 ⟨31 - n, by omega⟩ y) := by
      intro y
      rw [pay4_at, i1, gv, fromRow_block]
      have en : n = 31 - (31 - n) := by omega
      dsimp only
      rw [← en]
      exact if_congr Iff.rfl (congrArg₂ (fun p q : EReal => p * q) (congrArg (fun p : EReal => p + _)
        (Finset.sum_congr rfl fun j _ => if_congr Iff.rfl (ld_block _ ho j l _) rfl)) (congrArg (fun p : EReal => Ideal.logistic (0 - p)) (ld_block _ ho y l _))) rfl
    rw [run_succ m c t n hn]
    dsimp only
    refine ⟨?_, ?_, fun B y h => ?_⟩
    · rw [pay6_at, i1, lastBlocks_succ _ h32]
      exact congrArg (fun x : EReal => _ + x) (Finset.sum_congr rfl fun y _ => ld_block _ ho y l _)
    · rw [pay7_at, i2, lastBlocks_succ _ h32]
      exact congrArg (fun x : EReal => _ + x) (Finset.sum_congr rfl fun y _ => e4 y)
    · by_cases hB : B = ⟨31 - n, by omega⟩
      · rw [hB, store_hit _ ho]
        exact e4 y
      · rw [store_skip _ ho _ _ hB]
        exact i3 B y (by
          have : B.val ≠ 31 - n := fun e => hB (Fin.ext e)
          omega)

/-- What the call leaves in its two blocks. -/
theorem rows_value (c : Dev nD) (t : Fin cfg0.N) (i : Fin 4096) (l : Fin 128) : ((outsAt0 m c t).1 (ix2 i l) : EReal) = gv m c t l i := by
  obtain ⟨B, y, rfl⟩ := exists_rowOf (n := 32) (k := 128) i
  rw [rows_point]
  exact (run_at m c t l 32 (by rw [trips])).2.2 B y (by omega)

theorem sums_value (c : Dev nD) (t : Fin cfg0.N) (l : Fin 128) : ((outsAt0 m c t).2 (ix2 0 l) : EReal) = ∑ i, gv m c t l i := by
  rw [sums_point, ← lastBlocks_all]
  exact (run_at m c t l 32 (by rw [trips])).2.1

end Cert.KernelFcumIdeal.Value

end
-- ==== Proof.FcumArrays.lean ====
/- What the forget gates' backward call's arguments and results hold, entry by entry. -/
module

public import proofs.«01_k».proof.Proof.FcumBlocks
public import Idealize.ShloMosaic.Lib.KernelVsHost

@[expose] public section

noncomputable section

namespace Cert.KernelFcumIdeal.Value

open Gen Idealize.ShloMosaic TcCoe Idealize.SL.Sem
open Pipeline (Dat)
open FromEnd

variable (m : (ℓ : Loc nD τ sig) → Buf (Elt Ideal) ℓ)

theorem whole : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0) := by
  decide +kernel

/-- The attention's two cotangents of the running total, and the gate's argument. -/
def av (c : Dev nD) (l : Fin 16) (i : Fin 4096) : EReal := m (c.tc.loc main_arg0) (ix2 l i)
def bv (c : Dev nD) (l : Fin 16) (i : Fin 4096) : EReal := m (c.tc.loc main_arg1) (ix2 l i)
def zv (c : Dev nD) (l : Fin 16) (i : Fin 4096) : EReal := (show EReal from m (c.tc.loc main_arg2) (ix2 i l)) + (show EReal from m (c.tc.loc main_arg3) (ix1 l))

abbrev lane (l : Fin 16) : Fin 128 := ⟨l.val, by omega⟩

theorem rows_a (c : Dev nD) (l : Fin 16) (i : Fin 4096) : V m c main_v4 (ix2 (lane l) i) = av m c l i := by
  have e : V m c main_v4 = pad S128x4096 ![0, 0] ![112, 0] ![0, 0] (m (c.tc.loc main_arg0)) (sitofp (F := Ideal) .f32 (constantI S_ 32 0#32)) pads_S16x4096_S128x4096_01120_000 h_S_ := by
    unfold V
    rfl
  rw [e]
  refine pad_apply_of_inside (s := S16x4096) (t := S128x4096) ![0, 0] ![112, 0] ![0, 0] (m (c.tc.loc main_arg0)) _
    pads_S16x4096_S128x4096_01120_000 h_S_ _ (ix2 l i) fun a => ?_
  match a with
  | ⟨0, _⟩ => show l.val = 0 + l.val * 1; omega
  | ⟨1, _⟩ => show i.val = 0 + i.val * 1; omega

theorem rows_b (c : Dev nD) (l : Fin 16) (i : Fin 4096) : V m c main_v5 (ix2 (lane l) i) = bv m c l i := by
  have e : V m c main_v5 = pad S128x4096 ![0, 0] ![112, 0] ![0, 0] (m (c.tc.loc main_arg1)) (sitofp (F := Ideal) .f32 (constantI S_ 32 0#32)) pads_S16x4096_S128x4096_01120_000 h_S_ := by
    unfold V
    rfl
  rw [e]
  refine pad_apply_of_inside (s := S16x4096) (t := S128x4096) ![0, 0] ![112, 0] ![0, 0] (m (c.tc.loc main_arg1)) _
    pads_S16x4096_S128x4096_01120_000 h_S_ _ (ix2 l i) fun a => ?_
  match a with
  | ⟨0, _⟩ => show l.val = 0 + l.val * 1; omega
  | ⟨1, _⟩ => show i.val = 0 + i.val * 1; omega

theorem rows_z (c : Dev nD) (l : Fin 16) (i : Fin 4096) : V m c main_v3 (ix2 i (lane l)) = zv m c l i := by
  have e : V m c main_v3 = pad S4096x128 ![0, 0] ![0, 112] ![0, 0] (addf (F := Ideal) (m (c.tc.loc main_arg2)) (broadcastInDim S4096x16 ![0, 1] bcast_S1x16_S4096x16_0_1
      (broadcastInDim S1x16 ![1] bcast_S16_S1x16_1 (m (c.tc.loc main_arg3))))) (sitofp (F := Ideal) .f32 (constantI S_ 32 0#32)) pads_S4096x16_S4096x128_000_01120 h_S_ := by
    unfold V
    after_results
    try rfl
  rw [e]
  refine (pad_apply_of_inside (s := S4096x16) (t := S4096x128) ![0, 0] ![0, 112] ![0, 0] _ _ _ h_S_ _ (ix2 i l) fun a => ?_).trans ?_
  · match a with
    | ⟨0, _⟩ => show i.val = 0 + i.val * 1; omega
    | ⟨1, _⟩ => show l.val = 0 + l.val * 1; omega
  · pointwise
    rfl

theorem blk_a (c : Dev nD) (t : Fin cfg0.N) (l : Fin 16) (i : Fin 4096) : iblk m c 0 t (ix2 (lane l) i) = av m c l i := by
  unfold iblk
  rw [View.read_apply]
  show V m c main_v4 _ = _
  have he : ((cfg0.win 0).blk t).view.emb (ix2 (lane l) i) = ix2 (lane l) i := by
    obtain ⟨⟨h0, h1⟩, -⟩ := whole t
    exact ix2_ext (in_only h0) (in_only h1)
  exact (congrArg (V m c main_v4) he).trans (rows_a m c l i)

theorem blk_b (c : Dev nD) (t : Fin cfg0.N) (l : Fin 16) (i : Fin 4096) : iblk m c 1 t (ix2 (lane l) i) = bv m c l i := by
  unfold iblk
  rw [View.read_apply]
  show V m c main_v5 _ = _
  have he : ((cfg0.win 1).blk t).view.emb (ix2 (lane l) i) = ix2 (lane l) i := by
    obtain ⟨-, ⟨h0, h1⟩, -⟩ := whole t
    exact ix2_ext (in_only h0) (in_only h1)
  exact (congrArg (V m c main_v5) he).trans (rows_b m c l i)

theorem blk_z (c : Dev nD) (t : Fin cfg0.N) (l : Fin 16) (i : Fin 4096) : iblk m c 2 t (ix2 i (lane l)) = zv m c l i := by
  unfold iblk
  rw [View.read_apply]
  show V m c main_v3 _ = _
  have he : ((cfg0.win 2).blk t).view.emb (ix2 i (lane l)) = ix2 i (lane l) := by
    obtain ⟨-, -, ⟨h0, h1⟩, -⟩ := whole t
    exact ix2_ext (in_only h0) (in_only h1)
  exact (congrArg (V m c main_v3) he).trans (rows_z m c l i)

/-- The gradient of the gate's argument: the running total from the end of the cotangents, times the slope of the log-sigmoid. -/
def grad (c : Dev nD) (l : Fin 16) (i : Fin 4096) : EReal := fromRow (fun k => av m c l k + bv m c l k) i * Ideal.logistic (0 - zv m c l i)

theorem gv_lane (c : Dev nD) (t : Fin cfg0.N) (l : Fin 16) (i : Fin 4096) : gv m c t (lane l) i = grad m c l i := by
  have e : dv m c t (lane l) = fun k => av m c l k + bv m c l k := by
    funext k
    unfold dv k0_pay1
    pointwise
    rw [blk_a, blk_b]
  unfold gv grad
  rw [if_pos l.isLt, e]
  exact congrArg (fun z : EReal => _ * Ideal.logistic (0 - z)) (blk_z m c t l i)

theorem gv_rest (c : Dev nD) (t : Fin cfg0.N) (l : Fin 128) (h : ¬l.val < 16) (i : Fin 4096) : gv m c t l i = 0 := if_neg h

abbrev only : Fin cfg0.N := ⟨0, by have : cfg0.N = 1 := N_0; omega⟩

theorem rows_final (c : Dev nD) (t : Fin cfg0.N) (i : Fin 4096) (l : Fin 128) : (dats m 0 c).arrAt 3 cfg0.N (ix2 i l) = gv m c t l i := by
  have hf := (dats m 0 c).arrAt_emb_eq_flushed 3 disjoint3 t (flush0_3 t) (ix2 i l)
  have he : ((cfg0.win 3).blk t).view.emb (ix2 i l) = ix2 i l := by
    obtain ⟨-, -, -, ⟨h0, h1⟩, -⟩ := whole t
    exact ix2_ext (in_only h0) (in_only h1)
  rw [he, flushed3] at hf
  exact hf.trans (rows_value m c t i l)

theorem sums_final (c : Dev nD) (t : Fin cfg0.N) (l : Fin 128) : (dats m 0 c).arrAt 4 cfg0.N (ix2 0 l) = ∑ i, gv m c t l i := by
  have hf := (dats m 0 c).arrAt_emb_eq_flushed 4 disjoint4 t (flush0_4 t) (ix2 0 l)
  have he : ((cfg0.win 4).blk t).view.emb (ix2 0 l) = ix2 0 l := by
    obtain ⟨-, -, -, -, ⟨h0, h1⟩⟩ := whole t
    exact ix2_ext (in_only h0) (in_only h1)
  rw [he, flushed4] at hf
  exact hf.trans (sums_value m c t l)

end Cert.KernelFcumIdeal.Value

end
-- ==== Proof.FcumClaims.lean ====
/- The forget gates' backward call against the vector-Jacobian product of the log-sigmoid's running total: the five claims. -/
module

public import proofs.«01_k».proof.Defs
public import proofs.«01_k».proof.Proof.Gen.KernelFcum.Frame
public import proofs.«01_k».proof.Proof.Gen.ReferenceFcumIdeal.Read
public import proofs.«01_k».proof.Proof.FcumArrays

@[expose] public section

noncomputable section

namespace Cert.ReferenceFcumIdeal.Read

open Gen Idealize.ShloMosaic TcCoe Idealize.SL.Sem
open FromEnd

variable (x0 x1 : (⟨S16x4096, .f32⟩ : BufTy).Contents (Elt Ideal)) (x2 : (⟨S4096x16, .f32⟩ : BufTy).Contents (Elt Ideal)) (x3 : (⟨S16, .f32⟩ : BufTy).Contents (Elt Ideal))

/-- The logarithm of `1 + e^n`, as it is computed without overflow. -/
def soft (n : EReal) : EReal := max n 0 + Ideal.log1p (Ideal.exp (-(max n (-n))))

theorem soft_coe (n : ℝ) : soft (n : EReal) = ((max n 0 + Real.log (1 + Real.exp (-(max n (-n)))) : ℝ) : EReal) := by
  have hp : ¬(1 + Real.exp (-(max n (-n))) ≤ 0) := not_le.mpr (by positivity)
  have e1 : max (n : EReal) (-(n : EReal)) = ((max n (-n) : ℝ) : EReal) := (EReal.coe_strictMono.monotone.map_max (a := n) (b := -n)).symm
  have e2 : max (n : EReal) 0 = ((max n 0 : ℝ) : EReal) := (EReal.coe_strictMono.monotone.map_max (a := n) (b := 0)).symm
  unfold soft Ideal.log1p
  rw [e1, e2, ← EReal.coe_neg, Ideal.exp_coe, ← EReal.coe_one, ← EReal.coe_add, Ideal.log_coe, if_neg hp, ← EReal.coe_add]

theorem zero_word : (FloatOps.sitofp (F := Ideal) FTy.f32 0#32 : EReal) = 0 := by
  show ((((0#32 : BitVec 32).toInt : ℤ) : ℝ) : EReal) = 0
  simp

theorem log_one : Ideal.log 1 = 0 := by
  rw [← EReal.coe_one, Ideal.log_coe]
  simp

theorem exp_zero : Ideal.exp 0 = 1 := by
  rw [← EReal.coe_zero, Ideal.exp_coe]
  simp

/-- The slope of the log-sigmoid, as the vector-Jacobian product of that logarithm writes it. -/
theorem slope_eq (z : EReal) : Ideal.exp ((if -z = ⊤ then 0 else -z) - (if soft (-z) = ⊤ then 0 else soft (-z))) = Ideal.logistic (0 - z) := by
  induction z with
  | bot =>
    have e : soft (-⊥) = ⊤ := by
      unfold soft Ideal.log1p
      simp [log_one]
    rw [e, if_pos rfl, if_pos EReal.neg_bot]
    simp [exp_zero]
  | top =>
    have e : soft (-⊤) = 0 := by
      unfold soft Ideal.log1p
      rw [EReal.neg_top, EReal.neg_bot, max_eq_right bot_le, max_eq_right bot_le, EReal.neg_top, Ideal.exp_bot, add_zero, ← EReal.coe_one, Ideal.log_coe]
      simp
    rw [e]
    simp
  | coe r =>
    rw [← EReal.coe_neg, soft_coe, if_neg (EReal.coe_ne_top _), if_neg (EReal.coe_ne_top _), ← EReal.coe_sub, Ideal.exp_coe, zero_sub, ← EReal.coe_neg, Ideal.logistic_coe]
    refine congrArg _ ?_
    rw [neg_neg]
    have hp : 0 < Real.exp r := Real.exp_pos r
    rcases le_total r 0 with h | h
    · rw [max_eq_left (by linarith : (0:ℝ) ≤ -r), max_eq_left (by linarith : r ≤ -r), neg_neg,
        show -r - (-r + Real.log (1 + Real.exp r)) = -Real.log (1 + Real.exp r) by ring, Real.exp_neg, Real.exp_log (by linarith)]
    · rw [max_eq_right (by linarith : -r ≤ (0:ℝ)), max_eq_right (by linarith : -r ≤ r), zero_add, Real.exp_sub, Real.exp_log (by positivity), Real.exp_neg]
      field_simp
      ring

theorem inf_bits : Ideal.ofBits FTy.f32 2139095040#32 = ⊤ := by decide +kernel

theorem slope_at (i : Fin 4096) (l : Fin 16) : val_main_v3_1 (F := Ideal) x2 x3 (ix2 i l)
    = Ideal.logistic (0 - (show EReal from (show EReal from x2 (ix2 i l)) + (show EReal from x3 (ix1 l)))) := by
  unfold val_main_v3_1 val_main_call0_call0_v21 val_main_call0_call0_v16 val_main_call0_call0_v14 val_main_call0_call0_v15 val_main_call0_call0_v20 val_main_call0_call0_v18 val_main_call0_call0_v19
    val_main_call0_v1_0 val_main_call0_call0_v4 val_main_call0_call0_v6 val_main_call0_call0_v11 val_main_call0_call0_v10 val_main_call0_call0_v9 val_main_call0_call0_v8 val_main_call0_call0_v7
    val_main_call0_call0_v3 val_main_call0_call0_v1 val_main_call0_call0_v0 val_main_call0_call0_v2 val_main_call0_call0_v5 val_main_call0_call0_v13 val_main_call0_call0_v17 val_main_call0_v0
    val_main_call0_call0_cst val_main_call0_call0_cst_0 val_main_call0_call0_cst_1 val_main_call0_call0_cst_2 val_main_call0_call0_cst_3
    val_main_v2 val_main_v1 val_main_v0
  pointwise
  rw [inf_bits]
  simp only [ne_eq, not_true_eq_false, if_false]
  exact slope_eq _

theorem total_at (i : Fin 4096) (l : Fin 16) : val_main_v8 (F := Ideal) x0 x1 (ix2 i l)
    = fromRow (fun k => (show EReal from x0 (ix2 l k)) + (show EReal from x1 (ix2 l k))) i := by
  have e : val_main_call2_call0_v0 (F := Ideal) (Shape.Idx.first h_S_) = (0 : EReal) := by
    unfold val_main_call2_call0_v0 val_main_call2_call0_cst
    pointwise
  unfold val_main_v8
  simp only [Host.reduceWindowAdd, Ideal.hostReduceWindowAdd_def, e]
  refine (window_fromRow _ _ i l).trans ?_
  refine congrArg (fun d => fromRow d i) (funext fun k => ?_)
  unfold val_main_v7 val_main_v6
  pointwise

theorem grad_at (i : Fin 4096) (l : Fin 16) : (val_main_v9 (F := Ideal) x0 x1 x2 x3 (ix2 i l) : EReal)
    = fromRow (fun k => (show EReal from x0 (ix2 l k)) + (show EReal from x1 (ix2 l k))) i
      * Ideal.logistic (0 - (show EReal from (show EReal from x2 (ix2 i l)) + (show EReal from x3 (ix1 l)))) := by
  unfold val_main_v9 val_main_call3_v1 val_main_call3_v0
  pointwise
  rw [total_at, slope_at, neg_mul, neg_neg]

theorem rows_lane (i : Fin 4096) (l : Fin 16) : val_main_v13 (F := Ideal) x0 x1 x2 x3 (ix2 i (KernelFcumIdeal.Value.lane l)) = val_main_v9 (F := Ideal) x0 x1 x2 x3 (ix2 i l) := by
  unfold val_main_v13
  refine pad_apply_of_inside (s := S4096x16) (t := S4096x128) ![0, 0] ![0, 112] ![0, 0] _ _ pads_S4096x16_S4096x128_000_01120 h_S_ _ (ix2 i l) fun a => ?_
  match a with
  | ⟨0, _⟩ => show i.val = 0 + i.val * 1; omega
  | ⟨1, _⟩ => show l.val = 0 + l.val * 1; omega

theorem rows_rest (i : Fin 4096) (l : Fin 128) (h : ¬l.val < 16) : val_main_v13 (F := Ideal) x0 x1 x2 x3 (ix2 i l) = (0 : EReal) := by
  unfold val_main_v13
  refine (pad_apply_of_not_inside (s := S4096x16) (t := S4096x128) ![0, 0] ![0, 112] ![0, 0] _ _ pads_S4096x16_S4096x128_000_01120 h_S_ _ 1 fun e => h ?_).trans ?_
  · obtain ⟨-, -, h3⟩ := e
    have h3 : (l.val - 0) / (0 + 1) < 16 := h3
    omega
  · unfold val_main_call4_v0 val_main_c
    pointwise
    exact zero_word

theorem cast_at (i : Fin 4096) (l : Fin 128) : val_main_v14 (F := Ideal) x0 x1 x2 x3 (ix2 i l) = val_main_v13 (F := Ideal) x0 x1 x2 x3 (ix2 i l) := by
  unfold val_main_v14
  pointwise

theorem sums_lane (l : Fin 16) : val_main_v16 (F := Ideal) x0 x1 x2 x3 (ix2 0 (KernelFcumIdeal.Value.lane l)) = ∑ i, (val_main_v9 (F := Ideal) x0 x1 x2 x3 (ix2 i l) : EReal) := by
  unfold val_main_v16
  refine (pad_apply_of_inside (s := S1x16) (t := S1x128) ![0, 0] ![0, 112] ![0, 0] _ _ _ h_S_ _ (ix2 0 l) fun a => ?_).trans ?_
  · match a with
    | ⟨0, _⟩ => rfl
    | ⟨1, _⟩ => show l.val = 0 + l.val * 1; omega
  · unfold val_main_v15 val_main_v12 val_main_v11 val_main_v10 val_main_cst val_main_cst_0
    pointwise
    exact Fin.sum_univ_one _

theorem sums_rest (l : Fin 128) (h : ¬l.val < 16) : val_main_v16 (F := Ideal) x0 x1 x2 x3 (ix2 0 l) = (0 : EReal) := by
  unfold val_main_v16
  refine (pad_apply_of_not_inside (s := S1x16) (t := S1x128) ![0, 0] ![0, 112] ![0, 0] _ _ _ h_S_ _ 1 fun e => h ?_).trans ?_
  · obtain ⟨-, -, h3⟩ := e
    have h3 : (l.val - 0) / (0 + 1) < 16 := h3
    omega
  · unfold val_main_call5_v0 val_main_c_1
    pointwise
    exact zero_word

end Cert.ReferenceFcumIdeal.Read

namespace Cert.Proof.Fcum

open Idealize.ShloMosaic TcCoe Idealize.SL.Sem KernelFcumIdeal.Value

theorem frame : quiescent_KernelFcum := fun m ρ _ => KernelFcum.Gen.frame m ρ
theorem frame_ideal : quiescent_KernelFcumIdeal := fun m ρ _ => KernelFcumIdeal.Gen.frame m ρ
theorem frame_reference : quiescent_ReferenceFcumIdeal := fun m ρ _ =>
  (θ_run _ _ _).mono (fun r h => ⟨fun c => (h c).2.2, sem_eq_zero_of_no_sems (by decide) r.2⟩) (ReferenceFcumIdeal.Value.run m ρ)

theorem preserves : preserves_KernelFcum_KernelFcumIdeal := trivial

/-- Both programs leave the gradient of the gate's argument, beside 112 columns of zeros, and its sums over the rows. -/
theorem algebraic : algebraic_KernelFcumIdeal_ReferenceFcumIdeal := by
  intro m ρ m' ρ' _ hm
  refine ⟨fun c => (KernelFcumIdeal.Gen.dats m 0 c).arrAt 3 KernelFcumIdeal.cfg0.N,
    fun c => (KernelFcumIdeal.Gen.dats m 0 c).arrAt 4 KernelFcumIdeal.cfg0.N, run_blocks m ρ, ?_⟩
  refine (θ_run _ _ _).mono (fun r h c => ?_) (ReferenceFcumIdeal.Value.run m' ρ')
  obtain ⟨h0, h1, hargs⟩ := h c
  obtain ⟨e0, e1, e2, e3⟩ := hm c
  refine ⟨h0.trans ?_, h1.trans ?_, hargs⟩
  · refine (ReferenceFcumIdeal.Read.val_main_v14_eq _ _).trans ?_
    rw [e0, e1, e2, e3]
    funext j
    obtain ⟨i, k, rfl⟩ := exists_ix2 j
    refine (ReferenceFcumIdeal.Read.cast_at _ _ _ _ i k).trans (Eq.trans ?_ (rows_final m c only i k).symm)
    by_cases h : k.val < 16
    · exact (ReferenceFcumIdeal.Read.rows_lane _ _ _ _ i ⟨k.val, h⟩).trans ((ReferenceFcumIdeal.Read.grad_at _ _ _ _ i ⟨k.val, h⟩).trans (gv_lane m c only ⟨k.val, h⟩ i).symm)
    · exact (ReferenceFcumIdeal.Read.rows_rest _ _ _ _ i k h).trans (gv_rest m c only k h i).symm
  · refine (ReferenceFcumIdeal.Read.val_main_v16_eq _ _).trans ?_
    rw [e0, e1, e2, e3]
    funext j
    obtain ⟨i, k, rfl⟩ := exists_ix2 j
    obtain rfl : i = 0 := Subsingleton.elim _ _
    refine Eq.trans ?_ (sums_final m c only k).symm
    by_cases h : k.val < 16
    · exact (ReferenceFcumIdeal.Read.sums_lane _ _ _ _ ⟨k.val, h⟩).trans (Finset.sum_congr rfl fun i _ =>
        (ReferenceFcumIdeal.Read.grad_at _ _ _ _ i ⟨k.val, h⟩).trans (gv_lane m c only ⟨k.val, h⟩ i).symm)
    · exact (ReferenceFcumIdeal.Read.sums_rest _ _ _ _ k h).trans (Finset.sum_eq_zero fun i _ => gv_rest m c only k h i).symm

end Cert.Proof.Fcum

end
-- ==== Proof.ModnormBlocks.lean ====
/- What one grid point of the modulated norm's backward call leaves in its output block and in its three rows of sums. -/
module

public import proofs.«01_k».proof.Proof.Gen.KernelModnormIdeal.Value
public import Idealize.ShloMosaic.Lib.Pointwise
public import Idealize.ShloMosaic.Lib.Tactic

@[expose] public section

noncomputable section

namespace Cert.KernelModnormIdeal.Value

open Gen Idealize.ShloMosaic TcCoe Idealize.SL.Sem
open Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- The first point leaves its block of gradients, and its own column sums over zeros. -/
theorem outs_first (c : Dev nD) (t : Fin cfg0.N) (h0 : t.val % 16 = 0) :
    outsAt0 m c t.val t.isLt = (k0_pay12 (iblk m c 0 t) (iblk m c 1 t) (iblk m c 2 t) (iblk m c 3 t) (iblk m c 4 t),
      k0_pay4 (k0_pay13 (iblk m c 1 t)) k0_pay1,
      k0_pay5 (k0_pay11 (iblk m c 0 t) (iblk m c 1 t)) (k0_pay14 (iblk m c 4 t)) k0_pay2,
      k0_pay6 (k0_pay7 (iblk m c 3 t)) (k0_pay11 (iblk m c 0 t) (iblk m c 1 t)) k0_pay3) := by
  rw [outsAt0_A m c t h0]
  refine Prod.ext ?_ (Prod.ext ?_ (Prod.ext ?_ ?_)) <;> dsimp only
  · unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S256x2048) hz, View.ld_unit_zero (S := S1x2048) hz]
  · unfold out0_A_6
    rw [View.read_writes_eq_canon _ _ _ (fun y => cover0_A_6 (y := y) ..)]
    unfold kernelRun0_A
    dsimp only
    sl_unfold_words
    rw [View.canon_cons_unit_zero (S := S1x2048) hz, View.readCov_unit_zero (S := S1x2048) _ hz]
    simp only [View.readAt_eq_ld, (hs0_1 t).read_unread, View.ld_unit_zero (S := S256x2048) hz]
  · unfold out0_A_7
    rw [View.read_writes_eq_canon _ _ _ (fun y => cover0_A_7 (y := y) ..)]
    unfold kernelRun0_A
    dsimp only
    sl_unfold_words
    rw [View.canon_cons_unit_zero (S := S1x2048) hz, View.readCov_unit_zero (S := S1x2048) _ hz]
    simp only [View.readAt_eq_ld, (hs0_0 t).read_unread, (hs0_1 t).read_unread, (hs0_4 t).read_unread,
      View.ld_unit_zero (S := S256x2048) hz, View.ld_unit_zero (S := S1x2048) hz]
  · unfold out0_A_8
    rw [View.read_writes_eq_canon _ _ _ (fun y => cover0_A_8 (y := y) ..)]
    unfold kernelRun0_A
    dsimp only
    sl_unfold_words
    rw [View.canon_cons_unit_zero (S := S1x2048) hz, View.readCov_unit_zero (S := S1x2048) _ hz]
    simp only [View.readAt_eq_ld, (hs0_0 t).read_unread, (hs0_1 t).read_unread, (hs0_3 t).read_unread,
      View.ld_unit_zero (S := S256x2048) hz, View.ld_unit_zero (S := S1x2048) hz]

/-- A later point leaves its block of gradients, and adds its column sums to what the point before left. -/
theorem outs_next (c : Dev nD) (t : Fin cfg0.N) (h0 : ¬t.val % 16 = 0) :
    outsAt0 m c t.val t.isLt = (k0_pay12 (iblk m c 0 t) (iblk m c 1 t) (iblk m c 2 t) (iblk m c 3 t) (iblk m c 4 t),
      k0_pay4 (k0_pay13 (iblk m c 1 t)) (outsAt0 m c (t.val - 1) (Nat.lt_of_le_of_lt (Nat.sub_le _ _) t.isLt)).2.1,
      k0_pay5 (k0_pay11 (iblk m c 0 t) (iblk m c 1 t)) (k0_pay14 (iblk m c 4 t)) (outsAt0 m c (t.val - 1) (Nat.lt_of_le_of_lt (Nat.sub_le _ _) t.isLt)).2.2.1,
      k0_pay6 (k0_pay7 (iblk m c 3 t)) (k0_pay11 (iblk m c 0 t) (iblk m c 1 t)) (outsAt0 m c (t.val - 1) (Nat.lt_of_le_of_lt (Nat.sub_le _ _) t.isLt)).2.2.2) := by
  rw [outsAt0_B m c t h0]
  refine Prod.ext ?_ (Prod.ext ?_ (Prod.ext ?_ ?_)) <;> dsimp only
  · unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      View.ld_unit_zero (S := S256x2048) hz, View.ld_unit_zero (S := S1x2048) hz]
  · unfold out0_B_6
    rw [View.read_writes_eq_canon _ _ _ (fun y => cover0_B_6 (y := y) ..)]
    unfold kernelRun0_B
    dsimp only
    sl_unfold_words
    rw [View.canon_unit_zero hz]
    simp only [View.readAt_eq_ld, (hs0_1 t).read_unread, (hs0_6 t).read_unread, View.ld_unit_zero (S := S256x2048) hz, View.ld_unit_zero (S := S1x2048) hz]
  · unfold out0_B_7
    rw [View.read_writes_eq_canon _ _ _ (fun y => cover0_B_7 (y := y) ..)]
    unfold kernelRun0_B
    dsimp only
    sl_unfold_words
    rw [View.canon_unit_zero hz]
    simp only [View.readAt_eq_ld, (hs0_0 t).read_unread, (hs0_1 t).read_unread, (hs0_4 t).read_unread, (hs0_7 t).read_unread,
      View.ld_unit_zero (S := S256x2048) hz, View.ld_unit_zero (S := S1x2048) hz]
  · unfold out0_B_8
    rw [View.read_writes_eq_canon _ _ _ (fun y => cover0_B_8 (y := y) ..)]
    unfold kernelRun0_B
    dsimp only
    sl_unfold_words
    rw [View.canon_unit_zero hz]
    simp only [View.readAt_eq_ld, (hs0_0 t).read_unread, (hs0_1 t).read_unread, (hs0_3 t).read_unread, (hs0_8 t).read_unread,
      View.ld_unit_zero (S := S256x2048) hz, View.ld_unit_zero (S := S1x2048) hz]

end Cert.KernelModnormIdeal.Value

end
-- ==== Proof.ModnormArrays.lean ====
/- The four result arrays of the modulated norm's backward call, entry by entry, in terms of its arguments. -/
module

public import proofs.«01_k».proof.Proof.ModnormBlocks
public import proofs.«01_k».proof.Proof.NormMath
public import proofs.«01_k».proof.Proof.RowSums

@[expose] public section

set_option maxRecDepth 16384

noncomputable section

namespace Cert.KernelModnormIdeal.Value

open Gen Idealize.ShloMosaic TcCoe Idealize.SL.Sem Norm
open Pipeline (Dat)

variable (m : (ℓ : Loc nD τ sig) → Buf (Elt Ideal) ℓ)

/-- The arguments, entry by entry: x, its cotangent from the norm and from the residual, the norm's gain and the modulation's scale. -/
abbrev xv (c : Dev nD) (i : Fin 4096) (l : Fin 2048) : EReal := m (c.tc.loc main_arg0) (ix2 i l)
abbrev dhv (c : Dev nD) (i : Fin 4096) (l : Fin 2048) : EReal := m (c.tc.loc main_arg1) (ix2 i l)
abbrev dresv (c : Dev nD) (i : Fin 4096) (l : Fin 2048) : EReal := m (c.tc.loc main_arg2) (ix2 i l)
abbrev gv (c : Dev nD) (l : Fin 2048) : EReal := m (c.tc.loc main_arg3) (ix1 l)
abbrev scv (c : Dev nD) (l : Fin 2048) : EReal := m (c.tc.loc main_arg4) (ix2 0 l)

/-- The reciprocal root of row i, and the row's cotangent before the norm. -/
abbrev rstd (c : Dev nD) (i : Fin 4096) : EReal := Ideal.rsqrt (ms (fun k => xv m c i k) 2048 eps)
abbrev wv (c : Dev nD) (i : Fin 4096) (l : Fin 2048) : EReal := dhv m c i l * (gv m c l * (1 + scv m c l))

theorem index_eq : ∀ t : Fin cfg0.N,  (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) := by decide +kernel

theorem lt_N (t : Fin cfg0.N) : t.val < 16 := by have := t.isLt; have : cfg0.N = 16 := N_0; omega

/-- Row r of point t's block. -/
abbrev row (t : Fin cfg0.N) (r : Fin 256) : Fin 4096 := rowOf 16 256 ⟨t.val, lt_N t⟩ r

theorem x_at (c : Dev nD) (t : Fin cfg0.N) (r : Fin 256) (l : Fin 2048) : iblk m c 0 t (ix2 r l) = xv m c (row t r) l := by
  unfold iblk
  rw [View.read_apply]
  show m (c.tc.loc main_arg0) _ = _
  congr 1
  obtain ⟨⟨h0, h1⟩, -⟩ := index_eq t
  exact ix2_ext (in_block h0) (in_only h1)

theorem dh_at (c : Dev nD) (t : Fin cfg0.N) (r : Fin 256) (l : Fin 2048) : iblk m c 1 t (ix2 r l) = dhv m c (row t r) l := by
  unfold iblk
  rw [View.read_apply]
  show m (c.tc.loc main_arg1) _ = _
  congr 1
  obtain ⟨-, ⟨h0, h1⟩, -⟩ := index_eq t
  exact ix2_ext (in_block h0) (in_only h1)

theorem dres_at (c : Dev nD) (t : Fin cfg0.N) (r : Fin 256) (l : Fin 2048) : iblk m c 2 t (ix2 r l) = dresv m c (row t r) l := by
  unfold iblk
  rw [View.read_apply]
  show m (c.tc.loc main_arg2) _ = _
  congr 1
  obtain ⟨-, -, ⟨h0, h1⟩, -⟩ := index_eq t
  exact ix2_ext (in_block h0) (in_only h1)

/-- The host lays the gain out as one row. -/
theorem g_row (c : Dev nD) : V m c main_v0 = shapeCast S1x2048 (m (c.tc.loc main_arg3)) shapeCasts_S2048_S1x2048 := by
  unfold V
  after_results
  rfl

theorem g_at (c : Dev nD) (t : Fin cfg0.N) (r : Fin 1) (l : Fin 2048) : iblk m c 3 t (ix2 r l) = gv m c l := by
  unfold iblk
  rw [View.read_apply]
  show V m c main_v0 _ = _
  have he : ((cfg0.win 3).blk t).view.emb (ix2 r l) = ix2 (0 : Fin 1) l := by
    funext a
    apply Fin.ext
    obtain ⟨-, -, -, ⟨h0, h1⟩, -⟩ := index_eq t
    match a with
    | ⟨0, _⟩ => show win0_3.index t 0 * 1 + 1 * r.val = 0; rw [h0]; omega
    | ⟨1, _⟩ => show win0_3.index t 1 * 2048 + 1 * l.val = l.val; rw [h1]; omega
  refine (congrArg (V m c main_v0) he).trans ?_
  rw [g_row]
  pointwise

theorem sc_at (c : Dev nD) (t : Fin cfg0.N) (r : Fin 1) (l : Fin 2048) : iblk m c 4 t (ix2 r l) = scv m c l := by
  unfold iblk
  rw [View.read_apply]
  show m (c.tc.loc main_arg4) _ = _
  congr 1
  funext a
  apply Fin.ext
  obtain ⟨-, -, -, -, ⟨h0, h1⟩, -⟩ := index_eq t
  match a with
  | ⟨0, _⟩ => show win0_4.index t 0 * 1 + 1 * r.val = 0; rw [h0]; omega
  | ⟨1, _⟩ => show win0_4.index t 1 * 2048 + 1 * l.val = l.val; rw [h1]; omega

/-- The reciprocal root a point computes for its row r. -/
theorem rstd_at (c : Dev nD) (t : Fin cfg0.N) (r : Fin 256) (l : Fin 1) : k0_pay9 (iblk m c 0 t) (ix2 r l) = rstd m c (row t r) := by
  unfold k0_pay9
  pointwise
  simp only [x_at, ofBits_2048, ofBits_eps]

/-- A normalised entry. -/
theorem xhat_at (c : Dev nD) (t : Fin cfg0.N) (r : Fin 256) (l : Fin 2048) :
    k0_pay10 (iblk m c 0 t) (ix2 r l) = xv m c (row t r) l * rstd m c (row t r) := by
  unfold k0_pay10
  pointwise
  rw [rstd_at, x_at]

/-- The block of gradients of x. -/
theorem dx_block (c : Dev nD) (t : Fin cfg0.N) (r : Fin 256) (l : Fin 2048) :
    k0_pay12 (iblk m c 0 t) (iblk m c 1 t) (iblk m c 2 t) (iblk m c 3 t) (iblk m c 4 t) (ix2 r l)
      = dresv m c (row t r) l + rstd m c (row t r) * (wv m c (row t r) l - xv m c (row t r) l * rstd m c (row t r)
        * Ideal.div (∑ k, wv m c (row t r) k * (xv m c (row t r) k * rstd m c (row t r))) ((2048 : ℝ) : EReal)) := by
  unfold k0_pay12 k0_pay8 k0_pay7
  pointwise
  simp only [x_at, dh_at, dres_at, g_at, sc_at, rstd_at, xhat_at, ofBits_2048, ofBits_one]

/-- The column sums a point adds to each of its three rows of sums. -/
theorem dshift_at (c : Dev nD) (t : Fin cfg0.N) (old : FVec Ideal S1x2048 .f32) (l : Fin 2048) :
    k0_pay4 (k0_pay13 (iblk m c 1 t)) old (ix2 0 l) = (show EReal from old (ix2 0 l)) + ∑ r : Fin 256, dhv m c (row t r) l := by
  unfold k0_pay4 k0_pay13 k0_pay8
  pointwise
  simp only [dh_at]

theorem dg_at (c : Dev nD) (t : Fin cfg0.N) (old : FVec Ideal S1x2048 .f32) (l : Fin 2048) :
    k0_pay5 (k0_pay11 (iblk m c 0 t) (iblk m c 1 t)) (k0_pay14 (iblk m c 4 t)) old (ix2 0 l) = (show EReal from old (ix2 0 l))
      + (∑ r : Fin 256, dhv m c (row t r) l * (xv m c (row t r) l * rstd m c (row t r))) * (1 + scv m c l) := by
  unfold k0_pay5 k0_pay11 k0_pay14 k0_pay8
  pointwise
  simp only [dh_at, xhat_at, sc_at, ofBits_one]

theorem dscale_at (c : Dev nD) (t : Fin cfg0.N) (old : FVec Ideal S1x2048 .f32) (l : Fin 2048) :
    k0_pay6 (k0_pay7 (iblk m c 3 t)) (k0_pay11 (iblk m c 0 t) (iblk m c 1 t)) old (ix2 0 l) = (show EReal from old (ix2 0 l))
      + (∑ r : Fin 256, dhv m c (row t r) l * (xv m c (row t r) l * rstd m c (row t r))) * gv m c l := by
  unfold k0_pay6 k0_pay7 k0_pay11 k0_pay8
  pointwise
  simp only [dh_at, xhat_at, g_at]

/-- The gradient of x at row i, lane l. -/
theorem dx_final (c : Dev nD) (i : Fin 4096) (l : Fin 2048) :
    (dats m 0 c).arrAt 5 cfg0.N (ix2 i l) = dresv m c i l + rstd m c i * (wv m c i l - xv m c i l * rstd m c i
      * Ideal.div (∑ k, wv m c i k * (xv m c i k * rstd m c i)) ((2048 : ℝ) : EReal)) := by
  obtain ⟨t, r, rfl⟩ := exists_rowOf (n := 16) (k := 256) i
  have hN : cfg0.N = 16 := N_0
  let t' : Fin cfg0.N := ⟨t.val, by have := t.isLt; omega⟩
  have h := (dats m 0 c).arrAt_emb_eq_flushed 5 disjoint5 t' (flush0_5 t') (ix2 r l)
  have he : ((cfg0.win 5).blk t').view.emb (ix2 r l) = ix2 (rowOf 16 256 t r) l := by
    obtain ⟨-, -, -, -, -, ⟨h0, h1⟩, -⟩ := index_eq t'
    exact ix2_ext (in_block h0) (in_only h1)
  rw [he, flushed5] at h
  refine h.trans ?_
  refine Eq.trans ?_ (dx_block m c t' r l)
  show (outsAt0 m c t'.val t'.isLt).1 (ix2 r l) = _
  by_cases h0 : t'.val % 16 = 0
  · rw [outs_first m c t' h0]
  · rw [outs_next m c t' h0]

/-- A row of sums that starts with the first point's and has each later point's added holds, after the last, the sum over all rows. -/
theorem sums_all (c : Dev nD) (old : Vec Ideal S256x2048 .f32 × Vec Ideal S1x2048 .f32 × Vec Ideal S1x2048 .f32 × Vec Ideal S1x2048 .f32 → EReal)
    (f : Fin 16 → EReal)
    (h0 : ∀ t : Fin cfg0.N, t.val % 16 = 0 → old (outsAt0 m c t.val t.isLt) = f ⟨t.val, lt_N t⟩)
    (hs : ∀ t : Fin cfg0.N, ¬t.val % 16 = 0 → old (outsAt0 m c t.val t.isLt)
      = old (outsAt0 m c (t.val - 1) (Nat.lt_of_le_of_lt (Nat.sub_le _ _) t.isLt)) + f ⟨t.val, lt_N t⟩) :
    old (outsAt0 m c t0_15.val t0_15.isLt) = ∑ t, f t := by
  have hN : cfg0.N = 16 := N_0
  exact sum_of_steps_last (n := 15) (fun j hj => old (outsAt0 m c j (by omega))) f
    (fun h => h0 (⟨0, by omega⟩ : Fin cfg0.N) rfl) (fun j hj => hs (⟨j + 1, by omega⟩ : Fin cfg0.N) (by dsimp only; omega))

/-- The gradient of the modulation's shift: the column sums of dh. -/
theorem dshift_final (c : Dev nD) (l : Fin 2048) : (dats m 0 c).arrAt 6 cfg0.N (ix2 0 l) = ∑ i : Fin 4096, dhv m c i l := by
  have hN : cfg0.N = 16 := N_0
  have h := (dats m 0 c).arrAt_emb_eq_flushed 6 (fun t t' ht ht' hne => absurd (Fin.ext (by
    have := (flush0_6 t).mp ht; have := (flush0_6 t').mp ht'; have := lt_N t; have := lt_N t'; omega)) hne) t0_15 ((flush0_6 t0_15).mpr rfl) (ix2 0 l)
  have he : ((cfg0.win 6).blk t0_15).view.emb (ix2 0 l) = ix2 (0 : Fin 1) l := by
    obtain ⟨-, -, -, -, -, -, ⟨h0, h1⟩, -⟩ := index_eq t0_15
    exact ix2_ext (in_only h0) (in_only h1)
  rw [he, flushed6] at h
  refine h.trans ?_
  show (outsAt0 m c t0_15.val t0_15.isLt).2.1 (ix2 0 l) = _
  rw [sum_rowOf (n := 16) (k := 256)]
  refine sums_all m c (fun o => o.2.1 (ix2 0 l)) _ (fun t h0 => ?_) (fun t h0 => ?_)
  · rw [outs_first m c t h0]
    refine (dshift_at m c t _ l).trans ?_
    unfold k0_pay1
    pointwise
    rfl
  · rw [outs_next m c t h0]
    exact dshift_at m c t _ l

/-- The gradient of the norm's gain, as the blocks are summed. -/
theorem dg_final (c : Dev nD) (l : Fin 2048) : (dats m 0 c).arrAt 7 cfg0.N (ix2 0 l) = ∑ t : Fin 16, (∑ r : Fin 256, dhv m c (rowOf 16 256 t r) l * (xv m c (rowOf 16 256 t r) l * rstd m c (rowOf 16 256 t r))) * (1 + scv m c l) := by
  have hN : cfg0.N = 16 := N_0
  have h := (dats m 0 c).arrAt_emb_eq_flushed 7 (fun t t' ht ht' hne => absurd (Fin.ext (by
    have := (flush0_7 t).mp ht; have := (flush0_7 t').mp ht'; have := lt_N t; have := lt_N t'; omega)) hne) t0_15 ((flush0_7 t0_15).mpr rfl) (ix2 0 l)
  have he : ((cfg0.win 7).blk t0_15).view.emb (ix2 0 l) = ix2 (0 : Fin 1) l := by
    obtain ⟨-, -, -, -, -, -, -, ⟨h0, h1⟩, -⟩ := index_eq t0_15
    exact ix2_ext (in_only h0) (in_only h1)
  rw [he, flushed7] at h
  refine h.trans ?_
  show (outsAt0 m c t0_15.val t0_15.isLt).2.2.1 (ix2 0 l) = _
  refine sums_all m c (fun o => o.2.2.1 (ix2 0 l)) _ (fun t h0 => ?_) (fun t h0 => ?_)
  · rw [outs_first m c t h0]
    refine (dg_at m c t _ l).trans ?_
    unfold k0_pay2
    pointwise
    rfl
  · rw [outs_next m c t h0]
    exact dg_at m c t _ l

/-- The gradient of the modulation's scale, as the blocks are summed. -/
theorem dscale_final (c : Dev nD) (l : Fin 2048) : (dats m 0 c).arrAt 8 cfg0.N (ix2 0 l) = ∑ t : Fin 16, (∑ r : Fin 256, dhv m c (rowOf 16 256 t r) l * (xv m c (rowOf 16 256 t r) l * rstd m c (rowOf 16 256 t r))) * gv m c l := by
  have hN : cfg0.N = 16 := N_0
  have h := (dats m 0 c).arrAt_emb_eq_flushed 8 (fun t t' ht ht' hne => absurd (Fin.ext (by
    have := (flush0_8 t).mp ht; have := (flush0_8 t').mp ht'; have := lt_N t; have := lt_N t'; omega)) hne) t0_15 ((flush0_8 t0_15).mpr rfl) (ix2 0 l)
  have he : ((cfg0.win 8).blk t0_15).view.emb (ix2 0 l) = ix2 (0 : Fin 1) l := by
    obtain ⟨-, -, -, -, -, -, -, -, ⟨h0, h1⟩⟩ := index_eq t0_15
    exact ix2_ext (in_only h0) (in_only h1)
  rw [he, flushed8] at h
  refine h.trans ?_
  show (outsAt0 m c t0_15.val t0_15.isLt).2.2.2 (ix2 0 l) = _
  refine sums_all m c (fun o => o.2.2.2 (ix2 0 l)) _ (fun t h0 => ?_) (fun t h0 => ?_)
  · rw [outs_first m c t h0]
    refine (dscale_at m c t _ l).trans ?_
    unfold k0_pay3
    pointwise
    rfl
  · rw [outs_next m c t h0]
    exact dscale_at m c t _ l

end Cert.KernelModnormIdeal.Value

end
-- ==== Proof.ModnormClaims.lean ====
/- The modulated norm's backward call against the vector-Jacobian product of the residual and the modulated root-mean-square norm: the five claims. -/
module

public import proofs.«01_k».proof.Defs
public import proofs.«01_k».proof.Proof.Gen.KernelModnorm.Frame
public import proofs.«01_k».proof.Proof.Gen.ReferenceModnormIdeal.Read
public import proofs.«01_k».proof.Proof.ModnormArrays
public import proofs.«01_k».proof.Proof.Finite

@[expose] public section

noncomputable section

namespace Cert.ReferenceModnormIdeal.Read

open Gen Idealize.ShloMosaic TcCoe Idealize.SL.Sem Norm

variable (x0 : (⟨S4096x2048, .f32⟩ : BufTy).Contents (Elt Ideal)) (x1 : (⟨S4096x2048, .bf16⟩ : BufTy).Contents (Elt Ideal))
  (x2 : (⟨S4096x2048, .f32⟩ : BufTy).Contents (Elt Ideal)) (x3 : (⟨S2048, .f32⟩ : BufTy).Contents (Elt Ideal)) (x4 : (⟨S1x2048, .f32⟩ : BufTy).Contents (Elt Ideal))

/-- The mean square of a row, its reciprocal root, and the root's derivative. -/
abbrev rms (i : Fin 4096) : EReal := ms (fun k => (x0 (ix2 i k) : EReal)) 2048 eps

theorem v7_at (i : Fin 4096) (u : Fin 1) : val_main_v7 (F := Ideal) x0 (ix2 i u) = rms x0 i := by
  unfold val_main_v7 val_main_v6 val_main_cst_2 val_main_v5 val_main_v4 val_main_cst_1 val_main_v3 val_main_v2 val_main_cst_0 val_main_v1
  pointwise
  simp only [ofBits_2048, ofBits_eps]

theorem v8_at (i : Fin 4096) (u : Fin 1) : val_main_v8 (F := Ideal) x0 (ix2 i u) = Ideal.rsqrt (rms x0 i) := by
  unfold val_main_v8
  pointwise
  rw [v7_at]

theorem v11_at (i : Fin 4096) (u : Fin 1) : val_main_v11 (F := Ideal) x0 (ix2 i u)
    = ((-(1 / 2) : ℝ) : EReal) * Ideal.div (Ideal.rsqrt (rms x0 i)) (rms x0 i) := by
  unfold val_main_v11 val_main_v10 val_main_cst_3 val_main_v9
  pointwise
  rw [v7_at, v8_at, ofBits_neg_half]

/-- The cotangent before the norm. -/
theorem v35_at (i : Fin 4096) (l : Fin 2048) : val_main_v35 (F := Ideal) x1 x3 x4 (ix2 i l)
    = (x1 (ix2 i l) : EReal) * (1 + (x4 (ix2 0 l) : EReal)) * (x3 (ix1 l) : EReal) := by
  unfold val_main_v35 val_main_v34 val_main_v30 val_main_v29 val_main_v23 val_main_v18 val_main_v17 val_main_cst_4 val_main_v14
  pointwise

/-- What the mean square's gradient adds, per row. -/
theorem v46_at (i : Fin 4096) : val_main_v46 (F := Ideal) x0 x1 x3 x4 (ix1 i)
    = Ideal.div ((∑ l, (x0 (ix2 i l) : EReal) * val_main_v35 (F := Ideal) x1 x3 x4 (ix2 i l))
      * (((-(1 / 2) : ℝ) : EReal) * Ideal.div (Ideal.rsqrt (rms x0 i)) (rms x0 i))) ((2048 : ℝ) : EReal) := by
  unfold val_main_v46 val_main_cst_11 val_main_v45 val_main_v44 val_main_cst_10 val_main_v43 val_main_v39 val_main_v38 val_main_cst_9 val_main_v37
  pointwise
  simp only [v11_at, ofBits_2048]
  exact Fin.sum_univ_one _

theorem v51_at (i : Fin 4096) (l : Fin 2048) : val_main_v51 (F := Ideal) x0 x1 x2 x3 x4 (ix2 i l)
    = (x2 (ix2 i l) : EReal) + val_main_v35 (F := Ideal) x1 x3 x4 (ix2 i l) * Ideal.rsqrt (rms x0 i)
      + (x0 (ix2 i l) : EReal) * val_main_v46 (F := Ideal) x0 x1 x3 x4 (ix1 i)
      + val_main_v46 (F := Ideal) x0 x1 x3 x4 (ix1 i) * (x0 (ix2 i l) : EReal) := by
  unfold val_main_v51 val_main_v50 val_main_v49 val_main_v48 val_main_v47 val_main_v42 val_main_v41 val_main_v40
  pointwise
  rw [v8_at]

theorem v25_at (l : Fin 2048) : val_main_v25 (F := Ideal) x1 (ix2 0 l) = ∑ i : Fin 4096, (x1 (ix2 i l) : EReal) := by
  unfold val_main_v25 val_main_v24 val_main_cst_5 val_main_v23
  pointwise

theorem v52_at (l : Fin 2048) : val_main_v52 (F := Ideal) x0 x1 x4 (ix2 0 l)
    = ∑ i : Fin 4096, (x0 (ix2 i l) : EReal) * Ideal.rsqrt (rms x0 i) * ((x1 (ix2 i l) : EReal) * (1 + (x4 (ix2 0 l) : EReal))) := by
  unfold val_main_v52 val_main_v36 val_main_cst_8 val_main_v33 val_main_v32 val_main_cst_7 val_main_v31 val_main_v30 val_main_v29 val_main_v23 val_main_v18
    val_main_v17 val_main_cst_4 val_main_v13 val_main_v12
  pointwise
  simp only [v8_at, ofBits_one]
  exact Fin.sum_univ_one _

theorem v28_at (l : Fin 2048) : val_main_v28 (F := Ideal) x0 x1 x3 (ix2 0 l)
    = ∑ i : Fin 4096, (x0 (ix2 i l) : EReal) * Ideal.rsqrt (rms x0 i) * (x3 (ix1 l) : EReal) * (x1 (ix2 i l) : EReal) := by
  unfold val_main_v28 val_main_v27 val_main_cst_6 val_main_v26 val_main_v23 val_main_v16 val_main_v15 val_main_v14 val_main_v13 val_main_v12
  pointwise
  simp only [v8_at]

end Cert.ReferenceModnormIdeal.Read

namespace Cert.Proof.Modnorm

open Idealize.ShloMosaic TcCoe Idealize.SL.Sem KernelModnormIdeal.Value Norm

theorem frame : quiescent_KernelModnorm := fun m ρ _ => KernelModnorm.Gen.frame m ρ
theorem frame_ideal : quiescent_KernelModnormIdeal := fun m ρ _ => KernelModnormIdeal.Gen.frame m ρ
theorem frame_reference : quiescent_ReferenceModnormIdeal := fun m ρ _ =>
  (θ_run _ _ _).mono (fun r h => ⟨fun c => (h c).2.2.2.2, sem_eq_zero_of_no_sems (by decide) r.2⟩) (ReferenceModnormIdeal.Value.run m ρ)

theorem facts_finite : Cert.Pre_finite_modnorm.Facts := ⟨by decide, by decide, by decide⟩

theorem frame_ideal_pre : quiescent_KernelModnormIdeal_pre_finite_modnorm (hPre_finite_modnorm := facts_finite) :=
  fun m ρ _ => frame_ideal m ρ trivial
theorem frame_reference_pre : quiescent_ReferenceModnormIdeal_pre_finite_modnorm (hPre_finite_modnorm := facts_finite) :=
  fun m ρ _ => frame_reference m ρ trivial

theorem preserves : preserves_KernelModnorm_KernelModnormIdeal := trivial

/-- Both programs leave the gradients of x, of the shift, of the gain and of the scale. -/
theorem algebraic : algebraic_KernelModnormIdeal_ReferenceModnormIdeal_pre_finite_modnorm (hPre_finite_modnorm := facts_finite) := by
  intro m ρ m' ρ' hpre hm
  refine ⟨fun c => (KernelModnormIdeal.Gen.dats m 0 c).arrAt 5 KernelModnormIdeal.cfg0.N,
    fun c => (KernelModnormIdeal.Gen.dats m 0 c).arrAt 6 KernelModnormIdeal.cfg0.N,
    fun c => (KernelModnormIdeal.Gen.dats m 0 c).arrAt 7 KernelModnormIdeal.cfg0.N,
    fun c => (KernelModnormIdeal.Gen.dats m 0 c).arrAt 8 KernelModnormIdeal.cfg0.N, run_blocks m ρ, ?_⟩
  refine (θ_run _ _ _).mono (fun r h c => ?_) (ReferenceModnormIdeal.Value.run m' ρ')
  obtain ⟨hx, hshift, hg, hscale, hargs⟩ := h c
  obtain ⟨e0, e1, e2, e3, e4⟩ := hm c
  obtain ⟨p1, p3, p4⟩ := hpre c
  have hd : ∀ (l : Fin 2048) (i : Fin 4096), ∃ v : ℝ, dhv m c i l = (v : EReal) := fun l i => ⟨_, real_of_test_half _ _ _ p1 (ix2 i l)⟩
  have hh : ∀ (l : Fin 2048) (i : Fin 4096), ∃ v : ℝ, xv m c i l * rstd m c i = (v : EReal) := fun l i =>
    xhat_real (fun k => xv m c i k) 2048 eps (by norm_num) eps_pos l
  have hs : ∀ l : Fin 2048, ∃ v : ℝ, scv m c l = (v : EReal) := fun l => ⟨_, real_of_test _ _ _ p4 (ix2 0 l)⟩
  refine ⟨hx.trans ?_, hshift.trans ((ReferenceModnormIdeal.Read.val_main_v25_eq _).trans ?_),
    hg.trans ((ReferenceModnormIdeal.Read.val_main_v52_eq _ _ _).trans ?_),
    hscale.trans ((ReferenceModnormIdeal.Read.val_main_v28_eq _ _ _).trans ?_), hargs⟩
  · rw [ReferenceModnormIdeal.Read.val_main_v51_eq, e0, e1, e2, e3, e4]
    funext j
    obtain ⟨i, l, rfl⟩ := exists_ix2 j
    refine Eq.trans ?_ (dx_final m c i l).symm
    have hw : ∀ k : Fin 2048, (dhv m c i k * (1 + scv m c k) * gv m c k : EReal) = wv m c i k := fun k => by
      rw [mul_assoc, mul_comm (1 + scv m c k)]
    rw [ReferenceModnormIdeal.Read.v51_at, ReferenceModnormIdeal.Read.v46_at]
    simp only [ReferenceModnormIdeal.Read.v35_at, hw]
    rw [row_eq (fun k => xv m c i k) 2048 eps (wv m c i) (by norm_num) eps_pos l, add_assoc, add_assoc]
  · rw [e1]
    funext j
    obtain ⟨i, l, rfl⟩ := exists_ix2 j
    obtain rfl : i = 0 := Subsingleton.elim _ _
    exact (ReferenceModnormIdeal.Read.v25_at _ l).trans (dshift_final m c l).symm
  · rw [e0, e1, e4]
    funext j
    obtain ⟨i, l, rfl⟩ := exists_ix2 j
    obtain rfl : i = 0 := Subsingleton.elim _ _
    refine (ReferenceModnormIdeal.Read.v52_at _ _ _ l).trans (Eq.trans ?_ (dg_final m c l).symm)
    exact (blocks_mul _ _ _ (hd l) (hh l) (one_add_real (hs l)) rfl).symm
  · rw [e0, e1, e3]
    funext j
    obtain ⟨i, l, rfl⟩ := exists_ix2 j
    obtain rfl : i = 0 := Subsingleton.elim _ _
    refine (ReferenceModnormIdeal.Read.v28_at _ _ _ l).trans (Eq.trans ?_ (dscale_final m c l).symm)
    refine Eq.trans ?_ (blocks_mul _ _ _ (hd l) (hh l) ⟨_, real_of_test _ _ _ p3 (ix1 l)⟩ rfl).symm
    exact Finset.sum_congr rfl fun i _ => by rw [mul_assoc, mul_comm (gv m c l)]

end Cert.Proof.Modnorm

end
-- ==== Proof.HeadNorm.lean ====
/- The norm of one head's columns and its gradients, over a block of 512 rows: the operations once for the sixteen heads, and what they are at an entry. -/
module

public import proofs.«01_k».proof.Proof.NormMath
public import Idealize.ShloMosaic.Lib.Pointwise
public import Idealize.ShloMosaic.Lib.Pipeline.Value
public import Idealize.ShloMosaic.Lib.Tactic

@[expose] public section

noncomputable section

namespace Cert.HeadNorm

open Idealize.ShloMosaic Idealize.SL.Sem Norm

abbrev Wide : Shape := ⟨2, ![512, 2048]⟩
abbrev Both : Shape := ⟨2, ![512, 4096]⟩
abbrev Head : Shape := ⟨2, ![512, 128]⟩
abbrev Col : Shape := ⟨2, ![512, 1]⟩
abbrev Row : Shape := ⟨2, ![1, 128]⟩
abbrev Rows : Shape := ⟨1, ![512]⟩
abbrev Lanes : Shape := ⟨1, ![128]⟩

section

variable {F : FTy → Type} [FloatOps F]

theorem slices (h : Fin 16) : Wide.Slices ![0, h.val * 128] Head := by revert h; decide

/-- The columns of one head. -/
def cut (h : Fin 16) (x : FVec F Wide .bf16) : FVec F Head .f32 :=
  extractStridedSlice Head ![0, h.val * 128] (extf .f32 x (by decide)) (slices h)

/-- The mean over a head's columns, as one column. -/
def mean (x : FVec F Head .f32) : FVec F Col .f32 :=
  divf (shapeCast Col (multiReduction .add [1] Rows x 0x00000000#32 (by decide) (.inl rfl) rfl) (by decide)) (broadcast Col (Scalar.ofBits .f32 0x43000000#32))

def root (x : FVec F Head .f32) : FVec F Col .f32 := rsqrt (addf (mean (mulf x x)) (broadcast Col (Scalar.ofBits .f32 0x358637BD#32)))

def along (v : FVec F Col .f32) : FVec F Head .f32 := broadcastTo Head v (by decide)

def normed (x : FVec F Head .f32) : FVec F Head .f32 := mulf x (along (root x))

def scaled (g : FVec F Row .f32) (dy : FVec F Head .f32) : FVec F Head .f32 := mulf dy (broadcastTo Head g (by decide))

/-- The gradient of the head's columns. -/
def grad (g : FVec F Row .f32) (x dy : FVec F Head .f32) : FVec F Head .f32 :=
  mulf (along (root x)) (subf (scaled g dy) (mulf (normed x) (along (mean (mulf (scaled g dy) (normed x))))))

/-- The head's share of the gain's gradient. -/
def sums (x dy : FVec F Head .f32) : FVec F Row .f32 :=
  shapeCast Row (multiReduction .add [0] Lanes (mulf dy (normed x)) 0x00000000#32 (by decide) (.inl rfl) rfl) (by decide)

/-- The sixteen shares, added one after the other. -/
def allSums (x dy : FVec F Wide .bf16) : FVec F Row .f32 :=
  (List.ofFn fun h : Fin 16 => sums (cut h x) (cut h dy)).foldl addf (broadcast Row (Scalar.ofBits .f32 0x00000000#32))

end

variable (g : FVec Ideal Row .f32) (x dy : FVec Ideal Head .f32)

/-- Column l of head h. -/
abbrev lane (h : Fin 16) (l : Fin 128) : Fin 2048 := rowOf 16 128 h l rfl

/-- The reciprocal root of row r of a head. -/
abbrev rstd (x : Fin 128 → EReal) : EReal := Ideal.rsqrt (ms x 128 eps)

theorem cut_at (h : Fin 16) (x : FVec Ideal Wide .bf16) (r : Fin 512) (l : Fin 128) : cut h x (ix2 r l) = (x (ix2 r (lane h l)) : EReal) := by
  unfold cut
  pointwise
  rfl

theorem mean_at (r : Fin 512) (u : Fin 1) : mean x (ix2 r u) = Ideal.div (∑ l : Fin 128, (x (ix2 r l) : EReal)) ((128 : ℝ) : EReal) := by
  unfold mean
  pointwise
  rw [ofBits_128]

theorem root_at (r : Fin 512) (u : Fin 1) : root x (ix2 r u) = rstd (fun l => (x (ix2 r l) : EReal)) := by
  unfold root
  pointwise
  rw [mean_at, ofBits_eps]
  rfl

theorem normed_at (r : Fin 512) (l : Fin 128) : normed x (ix2 r l) = (x (ix2 r l) : EReal) * rstd (fun l => (x (ix2 r l) : EReal)) := by
  unfold normed along
  pointwise
  rw [root_at]

theorem scaled_at (r : Fin 512) (l : Fin 128) : scaled g dy (ix2 r l) = (dy (ix2 r l) : EReal) * (g (ix2 0 l) : EReal) := by
  unfold scaled
  pointwise

theorem grad_at (r : Fin 512) (l : Fin 128) : grad g x dy (ix2 r l) = rstd (fun l => (x (ix2 r l) : EReal))
    * ((dy (ix2 r l) : EReal) * (g (ix2 0 l) : EReal) - (x (ix2 r l) : EReal) * rstd (fun l => (x (ix2 r l) : EReal))
      * Ideal.div (∑ k : Fin 128, (dy (ix2 r k) : EReal) * (g (ix2 0 k) : EReal) * ((x (ix2 r k) : EReal) * rstd (fun l => (x (ix2 r l) : EReal))))
        ((128 : ℝ) : EReal)) := by
  unfold grad along
  pointwise
  simp only [root_at, normed_at, scaled_at, mean_at]
  pointwise
  simp only [normed_at, scaled_at]

theorem sums_at (l : Fin 128) : sums x dy (ix2 0 l) = ∑ r : Fin 512, (dy (ix2 r l) : EReal) * ((x (ix2 r l) : EReal) * rstd (fun l => (x (ix2 r l) : EReal))) := by
  unfold sums
  pointwise
  simp only [normed_at]

theorem foldl_add_at (L : List (FVec Ideal Row .f32)) (z : FVec Ideal Row .f32) (j : Row.Idx) :
    (L.foldl addf z j : EReal) = (z j : EReal) + (L.map fun v => (v j : EReal)).sum := by
  induction L generalizing z with
  | nil => exact (add_zero (z j : EReal)).symm
  | cons v L ih =>
    rw [List.foldl_cons, ih, List.map_cons, List.sum_cons]
    exact add_assoc (z j : EReal) (v j : EReal) _

theorem allSums_at (x dy : FVec Ideal Wide .bf16) (l : Fin 128) : allSums x dy (ix2 0 l)
    = ∑ h : Fin 16, ∑ r : Fin 512, (dy (ix2 r (lane h l)) : EReal)
      * ((x (ix2 r (lane h l)) : EReal) * rstd (fun l => (x (ix2 r (lane h l)) : EReal))) := by
  unfold allSums
  rw [foldl_add_at, List.map_ofFn, List.sum_ofFn]
  pointwise
  refine Finset.sum_congr rfl fun h _ => ?_
  refine (sums_at _ _ l).trans ?_
  simp only [cut_at]

/-- The sixteen heads' columns side by side. -/
theorem stack_at (f : Fin 16 → FVec Ideal Head .f32)
    (hc : Shape.Concatenates ((List.ofFn fun h : Fin 16 => (⟨Head, f h⟩ : (s : Shape) × (s.Idx → Ideal .f32))).map (·.1)) Wide 1)
    (r : Fin 512) (h : Fin 16) (l : Fin 128) :
    concatenate Wide 1 (List.ofFn fun h : Fin 16 => (⟨Head, f h⟩ : (s : Shape) × (s.Idx → Ideal .f32))) hc (ix2 r (lane h l)) = f h (ix2 r l) :=
  concatenate_ofFn_apply (t := Wide) (s₁ := Head) 1 f hc rfl 128 rfl (ix2 r (lane h l)) h
    (show (h.val * 128 + l.val) / 128 = h.val by omega) (ix2 r l) (show l.val = (h.val * 128 + l.val) % 128 by omega)
    (fun b hb => by
      match b with
      | ⟨0, _⟩ => rfl
      | ⟨1, _⟩ => exact absurd rfl hb)

/-- The columns of two arrays of 2048 columns side by side. -/
abbrev left (k : Fin 2048) : Fin 4096 := ⟨k.val, by omega⟩
abbrev right (k : Fin 2048) : Fin 4096 := ⟨2048 + k.val, by omega⟩

theorem left_or_right (k : Fin 4096) : (∃ j, k = left j) ∨ ∃ j, k = right j := by
  by_cases h : k.val < 2048
  · exact .inl ⟨⟨k.val, h⟩, rfl⟩
  · exact .inr ⟨⟨k.val - 2048, by omega⟩, Fin.ext (show k.val = 2048 + (k.val - 2048) by omega)⟩

def withExtra {F : FTy → Type} [FloatOps F] (f : Fin 16 → FVec F Head .f32) (e : FVec F Wide .f32) : List ((s : Shape) × (s.Idx → F .f32)) :=
  (List.ofFn fun h : Fin 16 => ⟨Head, f h⟩) ++ [⟨Wide, e⟩]

theorem withExtra_shapes {F : FTy → Type} [FloatOps F] (f : Fin 16 → FVec F Head .f32) (e : FVec F Wide .f32) :
    (withExtra f e).map (·.1) = List.replicate 16 Head ++ [Wide] := by
  unfold withExtra
  rw [List.map_append, List.map_ofFn]
  rfl

theorem withExtra_length {F : FTy → Type} [FloatOps F] (f : Fin 16 → FVec F Head .f32) (e : FVec F Wide .f32) : (withExtra f e).length = 17 := by
  unfold withExtra
  rw [List.length_append, List.length_ofFn]
  rfl

theorem both_concatenates {F : FTy → Type} [FloatOps F] (f : Fin 16 → FVec F Head .f32) (e : FVec F Wide .f32) :
    Shape.Concatenates ((withExtra f e).map (·.1)) Both 1 := by
  rw [withExtra_shapes]
  decide

theorem extents (k : Fin 17) : (((List.replicate 16 Head ++ [Wide]).take k.val).map fun s =>
    if h : s.rank = Both.rank then s.size ((1 : Fin Both.rank).cast h.symm) else 0).sum = k.val * 128 := by
  revert k
  decide

/-- The sixteen heads side by side with a further array after them, at a head's column. -/
theorem stack_left_at (f : Fin 16 → FVec Ideal Head .f32) (e : FVec Ideal Wide .f32)
    (hc : Shape.Concatenates ((withExtra f e).map (·.1)) Both 1) (r : Fin 512) (h : Fin 16) (l : Fin 128) :
    concatenate Both 1 (withExtra f e) hc (ix2 r (left (lane h l))) = f h (ix2 r l) := by
  have hk : h.val < (withExtra f e).length := by rw [withExtra_length]; omega
  have hx : (withExtra f e)[h.val] = ⟨Head, f h⟩ :=
    (List.getElem_append_left («as» := List.ofFn fun h : Fin 16 => (⟨Head, f h⟩ : (s : Shape) × (s.Idx → Ideal .f32))) (bs := [⟨Wide, e⟩])
      (by rw [List.length_ofFn]; exact h.isLt)).trans (List.getElem_ofFn _)
  refine concatenate_apply_piece (t := Both) 1 (withExtra f e) hc (ix2 r (left (lane h l))) h.val hk Head (f h) hx rfl (h.val * 128) ?_
    (ix2 r l) (fun b hb => ?_) rfl
  · rw [List.map_take, withExtra_shapes]
    exact extents ⟨h.val, by omega⟩
  · match b with
    | ⟨0, _⟩ => rfl
    | ⟨1, _⟩ => exact absurd rfl hb

/-- The same at a column of the further array. -/
theorem stack_right_at (f : Fin 16 → FVec Ideal Head .f32) (e : FVec Ideal Wide .f32)
    (hc : Shape.Concatenates ((withExtra f e).map (·.1)) Both 1) (r : Fin 512) (k : Fin 2048) :
    concatenate Both 1 (withExtra f e) hc (ix2 r (right k)) = e (ix2 r k) := by
  have hk : 16 < (withExtra f e).length := by rw [withExtra_length]; omega
  have hx : (withExtra f e)[16] = ⟨Wide, e⟩ := by
    refine (List.getElem_append_right («as» := List.ofFn fun h : Fin 16 => (⟨Head, f h⟩ : (s : Shape) × (s.Idx → Ideal .f32))) (bs := [⟨Wide, e⟩])
      (by rw [List.length_ofFn])).trans ?_
    simp only [List.length_ofFn, Nat.sub_self, List.getElem_cons_zero]
  refine concatenate_apply_piece (t := Both) 1 (withExtra f e) hc (ix2 r (right k)) 16 hk Wide e hx rfl 2048 ?_
    (ix2 r k) (fun b hb => ?_) rfl
  · rw [List.map_take, withExtra_shapes]
    exact extents 16
  · match b with
    | ⟨0, _⟩ => rfl
    | ⟨1, _⟩ => exact absurd rfl hb

/-- A reduction over the first two of three axes is the double sum. -/
theorem hostReduceAdd_rows {a b n : ℕ} (h : (⟨3, ![a, b, n]⟩ : Shape).ReducesTo [0, 1] ⟨1, ![n]⟩) (v : (⟨3, ![a, b, n]⟩ : Shape).Idx → EReal)
    (z : EReal) (l : Fin n) : Ideal.hostReduceAdd h v z (ix1 l) = z + ∑ i : Fin a, ∑ k : Fin b, v (ix3 i k l) := by
  refine congrArg (z + ·) ((Finset.sum_filter_eq_sum_of_fiber _ (fun k : Fin a × Fin b => ix3 k.1 k.2 l)
    (fun _ _ e => Prod.ext (congrFun e 0) (congrFun e 1)) (fun i => ⟨fun e => ⟨(i 0, i 1), ?_⟩, ?_⟩) v).trans ?_)
  · funext d
    apply Fin.ext
    match d with
    | ⟨0, _⟩ => rfl
    | ⟨1, _⟩ => rfl
    | ⟨2, _⟩ => exact (congrArg Fin.val (congrFun e 0)).symm
  · rintro ⟨k, rfl⟩
    funext d
    match d with
    | ⟨0, _⟩ => rfl
  · simp only [Fintype.sum_prod_type]

end Cert.HeadNorm

end
-- ==== Proof.QnormBlocks.lean ====
/- What one grid point of the queries' norm's backward call leaves in its block and in the gain's row of sums. -/
module

public import proofs.«01_k».proof.Proof.Gen.KernelQnormIdeal.Value
public import proofs.«01_k».proof.Proof.HeadNorm

@[expose] public section

noncomputable section

namespace Cert.KernelQnormIdeal.Value

open Gen Idealize.ShloMosaic TcCoe Idealize.SL.Sem
open Pipeline (Dat)

variable {F : FTy → Type} [FloatOps F]
variable (m : (ℓ : Loc nD τ sig) → Buf (Elt F) ℓ)

def block (x dy : FVec F S512x2048 .bf16) (g : FVec F S1x128 .f32) : FVec F S512x2048 .bf16 :=
  truncf .bf16 (concatenate S512x2048 1 (List.ofFn fun h : Fin 16 => ⟨S512x128, HeadNorm.grad (shapeCast S1x128 g shapeCasts_S1x128_S1x128) (HeadNorm.cut h x) (HeadNorm.cut h dy)⟩)
    concatenates_S512x128_S512x128_S512x128_S512x128_S512x128_S512x128_S512x128_S512x128_S512x128_S512x128_S512x128_S512x128_S512x128_S512x128_S512x128_S512x128_S512x2048_d1) bitsLt_bf16_f32

def added (x dy : FVec F S512x2048 .bf16) (old : FVec F S1x128 .f32) : FVec F S1x128 .f32 :=
  addf (shapeCast S1x128 old shapeCasts_S1x128_S1x128) (HeadNorm.allSums x dy)

/-- The first point leaves its block of gradients, and its own sums over zeros. -/
theorem outs_first (c : Dev nD) (t : Fin cfg0.N) (h0 : t.val % 8 = 0) :
    outsAt0 m c t.val t.isLt = (block (iblk m c 0 t) (iblk m c 1 t) (iblk m c 2 t), added (iblk m c 0 t) (iblk m c 1 t) k0_pay3) := by
  rw [outsAt0_A m c t h0]
  refine Prod.ext ?_ ?_ <;> dsimp only
  · unfold out0_A_3
    rw [View.read_writes_eq_canon _ _ _ (fun y => cover0_A_3 (y := y) ..)]
    unfold kernelRun0_A
    dsimp only
    sl_unfold_words
    rw [View.canon_unit_zero hz]
    simp only [View.readAt_eq_ld, (hs0_0 t).read_unread, (hs0_1 t).read_unread, (hs0_2 t).read_unread,
      View.ld_unit_zero (S := S512x2048) hz, View.ld_unit_zero (S := S1x128) hz]
    rfl
  · unfold out0_A_4
    rw [View.read_writes_eq_canon _ _ _ (fun y => cover0_A_4 (y := y) ..)]
    unfold kernelRun0_A
    dsimp only
    sl_unfold_words
    rw [View.canon_cons_unit_zero (S := S1x128) hz, View.readCov_unit_zero (S := S1x128) _ hz]
    simp only [View.readAt_eq_ld, (hs0_0 t).read_unread, (hs0_1 t).read_unread, View.ld_unit_zero (S := S512x2048) hz]
    rfl

/-- A later point leaves its block of gradients, and adds its sums to what the point before left. -/
theorem outs_next (c : Dev nD) (t : Fin cfg0.N) (h0 : ¬t.val % 8 = 0) :
    outsAt0 m c t.val t.isLt = (block (iblk m c 0 t) (iblk m c 1 t) (iblk m c 2 t),
      added (iblk m c 0 t) (iblk m c 1 t) (outsAt0 m c (t.val - 1) (Nat.lt_of_le_of_lt (Nat.sub_le _ _) t.isLt)).2) := by
  rw [outsAt0_B m c t h0]
  refine Prod.ext ?_ ?_ <;> dsimp only
  · unfold out0_B_3
    rw [View.read_writes_eq_canon _ _ _ (fun y => cover0_B_3 (y := y) ..)]
    unfold kernelRun0_B
    dsimp only
    sl_unfold_words
    rw [View.canon_unit_zero hz]
    simp only [View.readAt_eq_ld, (hs0_0 t).read_unread, (hs0_1 t).read_unread, (hs0_2 t).read_unread,
      View.ld_unit_zero (S := S512x2048) hz, View.ld_unit_zero (S := S1x128) hz]
    rfl
  · unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_4 t).read_unread,
      View.ld_unit_zero (S := S512x2048) hz, View.ld_unit_zero (S := S1x128) hz]
    rfl

end Cert.KernelQnormIdeal.Value

end
-- ==== Proof.QnormArrays.lean ====
/- The two result arrays of the queries' norm's backward call, entry by entry, in terms of its arguments. -/
module

public import proofs.«01_k».proof.Proof.QnormBlocks
public import proofs.«01_k».proof.Proof.RowSums

@[expose] public section

noncomputable section

namespace Cert.KernelQnormIdeal.Value

open Gen Idealize.ShloMosaic TcCoe Idealize.SL.Sem Norm Cert.HeadNorm
open Pipeline (Dat)

variable (m : (ℓ : Loc nD τ sig) → Buf (Elt Ideal) ℓ)

/-- The arguments, entry by entry: the queries, their cotangent, the gain. -/
abbrev xv (c : Dev nD) (i : Fin 4096) (h : Fin 16) (l : Fin 128) : EReal := m (c.tc.loc main_arg0) (ix2 i (lane h l))
abbrev dyv (c : Dev nD) (i : Fin 4096) (h : Fin 16) (l : Fin 128) : EReal := m (c.tc.loc main_arg1) (ix2 i (lane h l))
abbrev gv (c : Dev nD) (l : Fin 128) : EReal := m (c.tc.loc main_arg2) (ix1 l)

theorem index_eq : ∀ t : Fin cfg0.N,  (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ (win0_4.index t 0 = 0 ∧ win0_4.index t 1 = 0) := by decide +kernel

theorem lt_N (t : Fin cfg0.N) : t.val < 8 := by have := t.isLt; have : cfg0.N = 8 := N_0; omega

/-- Row r of point t's block. -/
abbrev row (t : Fin cfg0.N) (r : Fin 512) : Fin 4096 := rowOf 8 512 ⟨t.val, lt_N t⟩ r

theorem x_at (c : Dev nD) (t : Fin cfg0.N) (r : Fin 512) (h : Fin 16) (l : Fin 128) : iblk m c 0 t (ix2 r (lane h l)) = xv m c (row t r) h l := by
  unfold iblk
  rw [View.read_apply]
  show m (c.tc.loc main_arg0) _ = _
  congr 1
  obtain ⟨⟨h0, h1⟩, -⟩ := index_eq t
  exact ix2_ext (in_block h0) (in_only h1)

theorem dy_at (c : Dev nD) (t : Fin cfg0.N) (r : Fin 512) (h : Fin 16) (l : Fin 128) : iblk m c 1 t (ix2 r (lane h l)) = dyv m c (row t r) h l := by
  unfold iblk
  rw [View.read_apply]
  show m (c.tc.loc main_arg1) _ = _
  congr 1
  obtain ⟨-, ⟨h0, h1⟩, -⟩ := index_eq t
  exact ix2_ext (in_block h0) (in_only h1)

/-- The host lays the gain out as one row. -/
theorem g_row (c : Dev nD) : V m c main_v0 = shapeCast S1x128 (m (c.tc.loc main_arg2)) shapeCasts_S128_S1x128 := by
  unfold V
  after_results
  rfl

theorem g_at (c : Dev nD) (t : Fin cfg0.N) (r : Fin 1) (l : Fin 128) : iblk m c 2 t (ix2 r l) = gv m c l := by
  unfold iblk
  rw [View.read_apply]
  show V m c main_v0 _ = _
  have he : ((cfg0.win 2).blk t).view.emb (ix2 r l) = ix2 (0 : Fin 1) l := by
    funext a
    apply Fin.ext
    obtain ⟨-, -, ⟨h0, h1⟩, -⟩ := index_eq t
    match a with
    | ⟨0, _⟩ => show win0_2.index t 0 * 1 + 1 * r.val = 0; rw [h0]; omega
    | ⟨1, _⟩ => show win0_2.index t 1 * 128 + 1 * l.val = l.val; rw [h1]; omega
  refine (congrArg (V m c main_v0) he).trans ?_
  rw [g_row]
  pointwise

/-- A block of gradients, at one head's column. -/
theorem block_at (c : Dev nD) (t : Fin cfg0.N) (r : Fin 512) (h : Fin 16) (l : Fin 128) :
    (block (F := Ideal) (iblk m c 0 t) (iblk m c 1 t) (iblk m c 2 t) (ix2 r (lane h l)) : EReal)
      = HeadNorm.rstd (xv m c (row t r) h) * (dyv m c (row t r) h l * gv m c l - xv m c (row t r) h l * HeadNorm.rstd (xv m c (row t r) h)
        * Ideal.div (∑ k, dyv m c (row t r) h k * gv m c k * (xv m c (row t r) h k * HeadNorm.rstd (xv m c (row t r) h))) ((128 : ℝ) : EReal)) := by
  unfold block
  refine (HeadNorm.stack_at (fun h : Fin 16 => HeadNorm.grad (shapeCast S1x128 (iblk m c 2 t) shapeCasts_S1x128_S1x128)
    (HeadNorm.cut h (iblk m c 0 t)) (HeadNorm.cut h (iblk m c 1 t)))
    concatenates_S512x128_S512x128_S512x128_S512x128_S512x128_S512x128_S512x128_S512x128_S512x128_S512x128_S512x128_S512x128_S512x128_S512x128_S512x128_S512x128_S512x2048_d1 r h l).trans ?_
  refine (HeadNorm.grad_at _ _ _ r l).trans ?_
  simp only [HeadNorm.cut_at, x_at, dy_at]
  pointwise
  simp only [g_at]

/-- What a point adds to the gain's gradient. -/
theorem added_at (c : Dev nD) (t : Fin cfg0.N) (old : FVec Ideal S1x128 .f32) (l : Fin 128) :
    added (iblk m c 0 t) (iblk m c 1 t) old (ix2 0 l) = (old (ix2 0 l) : EReal)
      + ∑ h : Fin 16, ∑ r : Fin 512, dyv m c (row t r) h l * (xv m c (row t r) h l * HeadNorm.rstd (xv m c (row t r) h)) := by
  unfold added
  pointwise
  refine congrArg (_ + ·) ((HeadNorm.allSums_at _ _ l).trans ?_)
  simp only [x_at, dy_at]

/-- The gradient of the queries. -/
theorem dx_final (c : Dev nD) (i : Fin 4096) (h : Fin 16) (l : Fin 128) :
    (dats m 0 c).arrAt 3 cfg0.N (ix2 i (lane h l)) = HeadNorm.rstd (xv m c i h) * (dyv m c i h l * gv m c l - xv m c i h l * HeadNorm.rstd (xv m c i h)
      * Ideal.div (∑ k, dyv m c i h k * gv m c k * (xv m c i h k * HeadNorm.rstd (xv m c i h))) ((128 : ℝ) : EReal)) := by
  obtain ⟨t, r, rfl⟩ := exists_rowOf (n := 8) (k := 512) i
  have hN : cfg0.N = 8 := N_0
  let t' : Fin cfg0.N := ⟨t.val, by have := t.isLt; omega⟩
  have hf := (dats m 0 c).arrAt_emb_eq_flushed 3 disjoint3 t' (flush0_3 t') (ix2 r (lane h l))
  have he : ((cfg0.win 3).blk t').view.emb (ix2 r (lane h l)) = ix2 (rowOf 8 512 t r) (lane h l) := by
    obtain ⟨-, -, -, ⟨h0, h1⟩, -⟩ := index_eq t'
    exact ix2_ext (in_block h0) (in_only h1)
  rw [he, flushed3] at hf
  refine hf.trans ?_
  refine Eq.trans ?_ (block_at m c t' r h l)
  show (outsAt0 m c t'.val t'.isLt).1 (ix2 r (lane h l)) = _
  by_cases h0 : t'.val % 8 = 0
  · rw [outs_first m c t' h0]
  · rw [outs_next m c t' h0]

/-- A row of sums that starts with the first point's and has each later point's added holds, after the last, the sum over all points. -/
theorem sums_all (c : Dev nD) (old : Vec Ideal S512x2048 .bf16 × Vec Ideal S1x128 .f32 → EReal) (f : Fin 8 → EReal)
    (h0 : ∀ t : Fin cfg0.N, t.val % 8 = 0 → old (outsAt0 m c t.val t.isLt) = f ⟨t.val, lt_N t⟩)
    (hs : ∀ t : Fin cfg0.N, ¬t.val % 8 = 0 → old (outsAt0 m c t.val t.isLt)
      = old (outsAt0 m c (t.val - 1) (Nat.lt_of_le_of_lt (Nat.sub_le _ _) t.isLt)) + f ⟨t.val, lt_N t⟩) :
    old (outsAt0 m c t0_7.val t0_7.isLt) = ∑ t, f t := by
  have hN : cfg0.N = 8 := N_0
  exact sum_of_steps_last (n := 7) (fun j hj => old (outsAt0 m c j (by omega))) f
    (fun h => h0 (⟨0, by omega⟩ : Fin cfg0.N) rfl) (fun j hj => hs (⟨j + 1, by omega⟩ : Fin cfg0.N) (by dsimp only; omega))

/-- The gradient of the gain, as the blocks and heads are summed. -/
theorem dg_final (c : Dev nD) (l : Fin 128) : (dats m 0 c).arrAt 4 cfg0.N (ix2 0 l)
    = ∑ t : Fin 8, ∑ h : Fin 16, ∑ r : Fin 512, dyv m c (rowOf 8 512 t r) h l
      * (xv m c (rowOf 8 512 t r) h l * HeadNorm.rstd (xv m c (rowOf 8 512 t r) h)) := by
  have hN : cfg0.N = 8 := N_0
  have hf := (dats m 0 c).arrAt_emb_eq_flushed 4 (fun t t' ht ht' hne => absurd (Fin.ext (by
    have := (flush0_4 t).mp ht; have := (flush0_4 t').mp ht'; have := lt_N t; have := lt_N t'; omega)) hne) t0_7 ((flush0_4 t0_7).mpr rfl) (ix2 0 l)
  have he : ((cfg0.win 4).blk t0_7).view.emb (ix2 0 l) = ix2 (0 : Fin 1) l := by
    obtain ⟨-, -, -, -, ⟨h0, h1⟩⟩ := index_eq t0_7
    exact ix2_ext (in_only h0) (in_only h1)
  rw [he, flushed4] at hf
  refine hf.trans ?_
  show (outsAt0 m c t0_7.val t0_7.isLt).2 (ix2 0 l) = _
  refine sums_all m c (fun o => o.2 (ix2 0 l)) _ (fun t h0 => ?_) (fun t h0 => ?_)
  · rw [outs_first m c t h0]
    refine (added_at m c t _ l).trans ?_
    unfold k0_pay3
    pointwise
    rfl
  · rw [outs_next m c t h0]
    exact added_at m c t _ l

end Cert.KernelQnormIdeal.Value

end
-- ==== Proof.QnormClaims.lean ====
/- The queries' norm's backward call against the vector-Jacobian product of the per-head root-mean-square norm: the five claims. -/
module

public import proofs.«01_k».proof.Defs
public import proofs.«01_k».proof.Proof.Gen.KernelQnorm.Frame
public import proofs.«01_k».proof.Proof.Gen.ReferenceQnormIdeal.Read
public import proofs.«01_k».proof.Proof.QnormArrays

@[expose] public section

noncomputable section

namespace Cert.ReferenceQnormIdeal.Read

open Gen Idealize.ShloMosaic TcCoe Idealize.SL.Sem Norm Cert.HeadNorm

variable (x0 x1 : (⟨S4096x2048, .bf16⟩ : BufTy).Contents (Elt Ideal)) (x2 : (⟨S128, .f32⟩ : BufTy).Contents (Elt Ideal))

/-- One head's queries in a row. -/
abbrev hx (i : Fin 4096) (h : Fin 16) (l : Fin 128) : EReal := x0 (ix2 i (lane h l))

theorem v1_at (i : Fin 4096) (h : Fin 16) (l : Fin 128) : val_main_v1 (F := Ideal) x0 (ix3 i h l) = hx x0 i h l := by
  unfold val_main_v1 val_main_v0
  pointwise
  rfl

theorem v8_at (i : Fin 4096) (h : Fin 16) (u : Fin 1) : val_main_v8 (F := Ideal) x0 (ix3 i h u) = ms (hx x0 i h) 128 eps := by
  unfold val_main_v8 val_main_v7 val_main_cst_1 val_main_v6 val_main_v5 val_main_cst_0 val_main_v4 val_main_v3 val_main_cst val_main_v2
  pointwise
  simp only [v1_at, ofBits_128, ofBits_eps]

theorem v9_at (i : Fin 4096) (h : Fin 16) (u : Fin 1) : val_main_v9 (F := Ideal) x0 (ix3 i h u) = rstd (hx x0 i h) := by
  unfold val_main_v9
  pointwise
  rw [v8_at]

theorem v12_at (i : Fin 4096) (h : Fin 16) (u : Fin 1) : val_main_v12 (F := Ideal) x0 (ix3 i h u)
    = ((-(1 / 2) : ℝ) : EReal) * Ideal.div (rstd (hx x0 i h)) (ms (hx x0 i h) 128 eps) := by
  unfold val_main_v12 val_main_v11 val_main_cst_2 val_main_v10
  pointwise
  rw [v8_at, v9_at, ofBits_neg_half]

theorem v24_at (i : Fin 4096) (h : Fin 16) (l : Fin 128) : val_main_v24 (F := Ideal) x1 x2 (ix3 i h l) = hx x1 i h l * (x2 (ix1 l) : EReal) := by
  unfold val_main_v24 val_main_v23 val_main_v15 val_main_v19 val_main_v18
  pointwise
  rfl

/-- What the mean square's gradient adds, per row and head. -/
theorem v34_at (i : Fin 4096) (h : Fin 16) : val_main_v34 (F := Ideal) x0 x1 x2 (ix2 i h)
    = Ideal.div ((∑ l, hx x0 i h l * (hx x1 i h l * (x2 (ix1 l) : EReal)))
      * (((-(1 / 2) : ℝ) : EReal) * Ideal.div (rstd (hx x0 i h)) (ms (hx x0 i h) 128 eps))) ((128 : ℝ) : EReal) := by
  unfold val_main_v34 val_main_cst_7 val_main_v33 val_main_v32 val_main_cst_6 val_main_v31 val_main_v28 val_main_v27 val_main_cst_5 val_main_v26
  pointwise
  simp only [v12_at, v1_at, v24_at, ofBits_128]
  exact Fin.sum_univ_one _

theorem v41_at (i : Fin 4096) (h : Fin 16) (l : Fin 128) : val_main_v41 (F := Ideal) x0 x1 x2 (ix2 i (lane h l))
    = hx x1 i h l * (x2 (ix1 l) : EReal) * rstd (hx x0 i h) + hx x0 i h l * val_main_v34 (F := Ideal) x0 x1 x2 (ix2 i h)
      + val_main_v34 (F := Ideal) x0 x1 x2 (ix2 i h) * hx x0 i h l := by
  have e : val_main_v41 (F := Ideal) x0 x1 x2 (ix2 i (lane h l)) = val_main_v39 (F := Ideal) x0 x1 x2 (ix3 i h l) := by
    unfold val_main_v41 val_main_v40
    pointwise
    exact congrArg (val_main_v39 (F := Ideal) x0 x1 x2) (congrArg₂ (ix3 i) (Fin.ext (show (h.val * 128 + l.val) / 128 = h.val by omega))
      (Fin.ext (show (h.val * 128 + l.val) % 128 = l.val by omega)))
  rw [e]
  unfold val_main_v39 val_main_v38 val_main_v37 val_main_v36 val_main_v35 val_main_v30 val_main_v29
  pointwise
  rw [v1_at, v9_at, v24_at]

theorem v42_at (l : Fin 128) : val_main_v42 (F := Ideal) x0 x1 (ix2 0 l)
    = ∑ i : Fin 4096, ∑ h : Fin 16, hx x0 i h l * rstd (hx x0 i h) * hx x1 i h l := by
  unfold val_main_v42 val_main_v25 val_main_cst_4 val_main_v22 val_main_v21 val_main_cst_3 val_main_v20 val_main_v19 val_main_v18 val_main_v14 val_main_v13
  pointwise [hostReduceAdd_rows]
  simp only [v9_at, v1_at]
  exact (Fin.sum_univ_one _).trans (Fin.sum_univ_one _)

end Cert.ReferenceQnormIdeal.Read

namespace Cert.Proof.Qnorm

open Idealize.ShloMosaic TcCoe Idealize.SL.Sem KernelQnormIdeal.Value Norm Cert.HeadNorm

theorem frame : quiescent_KernelQnorm := fun m ρ _ => KernelQnorm.Gen.frame m ρ
theorem frame_ideal : quiescent_KernelQnormIdeal := fun m ρ _ => KernelQnormIdeal.Gen.frame m ρ
theorem frame_reference : quiescent_ReferenceQnormIdeal := fun m ρ _ =>
  (θ_run _ _ _).mono (fun r h => ⟨fun c => (h c).2.2, sem_eq_zero_of_no_sems (by decide) r.2⟩) (ReferenceQnormIdeal.Value.run m ρ)

theorem preserves : preserves_KernelQnorm_KernelQnormIdeal := trivial

/-- Both programs leave the gradients of the queries and of the gain. -/
theorem algebraic : algebraic_KernelQnormIdeal_ReferenceQnormIdeal := by
  intro m ρ m' ρ' _ hm
  refine ⟨fun c => (KernelQnormIdeal.Gen.dats m 0 c).arrAt 3 KernelQnormIdeal.cfg0.N,
    fun c => (KernelQnormIdeal.Gen.dats m 0 c).arrAt 4 KernelQnormIdeal.cfg0.N, run_blocks m ρ, ?_⟩
  refine (θ_run _ _ _).mono (fun r h c => ?_) (ReferenceQnormIdeal.Value.run m' ρ')
  obtain ⟨hx, hg, hargs⟩ := h c
  obtain ⟨e0, e1, e2⟩ := hm c
  refine ⟨hx.trans ?_, hg.trans ?_, hargs⟩
  · rw [ReferenceQnormIdeal.Read.val_main_v41_eq, e0, e1, e2]
    funext j
    obtain ⟨i, k, rfl⟩ := exists_ix2 j
    obtain ⟨h, l, rfl⟩ := exists_rowOf (n := 16) (k := 128) k
    refine Eq.trans ?_ (dx_final m c i h l).symm
    refine (ReferenceQnormIdeal.Read.v41_at _ _ _ i h l).trans ?_
    rw [ReferenceQnormIdeal.Read.v34_at,
      row_eq (fun k => xv m c i h k) 128 eps (fun k => dyv m c i h k * gv m c k) (by norm_num) eps_pos l, add_assoc]
  · refine (ReferenceQnormIdeal.Read.val_main_v42_eq _ _).trans ?_
    rw [e0, e1]
    funext j
    obtain ⟨i, l, rfl⟩ := exists_ix2 j
    obtain rfl : i = 0 := Subsingleton.elim _ _
    refine (ReferenceQnormIdeal.Read.v42_at _ _ l).trans (Eq.trans ?_ (dg_final m c l).symm)
    rw [sum_rowOf (n := 8) (k := 512)]
    refine Finset.sum_congr rfl fun t _ => ?_
    rw [Finset.sum_comm]
    exact Finset.sum_congr rfl fun h _ => Finset.sum_congr rfl fun r _ => mul_comm _ _

end Cert.Proof.Qnorm

end
-- ==== Proof.KnormBlocks.lean ====
/- What one grid point of the keys' norm's backward call leaves in its block and in the gain's row of sums. -/
module

public import proofs.«01_k».proof.Proof.Gen.KernelKnormIdeal.Value
public import proofs.«01_k».proof.Proof.HeadNorm

@[expose] public section

noncomputable section

namespace Cert.KernelKnormIdeal.Value

open Gen Idealize.ShloMosaic TcCoe Idealize.SL.Sem
open Pipeline (Dat)

variable {F : FTy → Type} [FloatOps F]
variable (m : (ℓ : Loc nD τ sig) → Buf (Elt F) ℓ)

def heads (x dy : FVec F S512x2048 .bf16) (g : FVec F S1x128 .f32) (h : Fin 16) : FVec F S512x128 .f32 :=
  HeadNorm.grad (shapeCast S1x128 g shapeCasts_S1x128_S1x128) (HeadNorm.cut h x) (HeadNorm.cut h dy)

def block (x dy dv : FVec F S512x2048 .bf16) (g : FVec F S1x128 .f32) : FVec F S512x4096 .bf16 :=
  truncf .bf16 (concatenate S512x4096 1 (HeadNorm.withExtra (heads x dy g) (extf .f32 dv bitsLt_bf16_f32)) (HeadNorm.both_concatenates _ _)) bitsLt_bf16_f32

def added (x dy : FVec F S512x2048 .bf16) (old : FVec F S1x128 .f32) : FVec F S1x128 .f32 :=
  addf (shapeCast S1x128 old shapeCasts_S1x128_S1x128) (HeadNorm.allSums x dy)

/-- The first point leaves its block of gradients, and its own sums over zeros. -/
theorem outs_first (c : Dev nD) (t : Fin cfg0.N) (h0 : t.val % 8 = 0) :
    outsAt0 m c t.val t.isLt = (block (iblk m c 0 t) (iblk m c 1 t) (iblk m c 2 t) (iblk m c 3 t), added (iblk m c 0 t) (iblk m c 1 t) k0_pay5) := by
  rw [outsAt0_A m c t h0]
  refine Prod.ext ?_ ?_ <;> dsimp only
  · unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2048) hz, View.ld_unit_zero (S := S1x128) hz]
    rfl
  · unfold out0_A_5
    rw [View.read_writes_eq_canon _ _ _ (fun y => cover0_A_5 (y := y) ..)]
    unfold kernelRun0_A
    dsimp only
    sl_unfold_words
    rw [View.canon_cons_unit_zero (S := S1x128) hz, View.readCov_unit_zero (S := S1x128) _ hz]
    simp only [View.readAt_eq_ld, (hs0_0 t).read_unread, (hs0_1 t).read_unread, View.ld_unit_zero (S := S512x2048) hz]
    rfl

/-- A later point leaves its block of gradients, and adds its sums to what the point before left. -/
theorem outs_next (c : Dev nD) (t : Fin cfg0.N) (h0 : ¬t.val % 8 = 0) :
    outsAt0 m c t.val t.isLt = (block (iblk m c 0 t) (iblk m c 1 t) (iblk m c 2 t) (iblk m c 3 t),
      added (iblk m c 0 t) (iblk m c 1 t) (outsAt0 m c (t.val - 1) (Nat.lt_of_le_of_lt (Nat.sub_le _ _) t.isLt)).2) := by
  rw [outsAt0_B m c t h0]
  refine Prod.ext ?_ ?_ <;> dsimp only
  · unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      View.ld_unit_zero (S := S512x2048) hz, View.ld_unit_zero (S := S1x128) hz]
    rfl
  · unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_5 t).read_unread,
      View.ld_unit_zero (S := S512x2048) hz, View.ld_unit_zero (S := S1x128) hz]
    rfl

end Cert.KernelKnormIdeal.Value

end
-- ==== Proof.KnormArrays.lean ====
/- The two result arrays of the keys' norm's backward call, entry by entry, in terms of its arguments. -/
module

public import proofs.«01_k».proof.Proof.KnormBlocks
public import proofs.«01_k».proof.Proof.RowSums

@[expose] public section

noncomputable section

namespace Cert.KernelKnormIdeal.Value

open Gen Idealize.ShloMosaic TcCoe Idealize.SL.Sem Norm Cert.HeadNorm
open Pipeline (Dat)

variable (m : (ℓ : Loc nD τ sig) → Buf (Elt Ideal) ℓ)

/-- The arguments, entry by entry: the keys, their cotangent, the values' cotangent, the gain. -/
abbrev xv (c : Dev nD) (i : Fin 4096) (h : Fin 16) (l : Fin 128) : EReal := m (c.tc.loc main_arg0) (ix2 i (lane h l))
abbrev dyv (c : Dev nD) (i : Fin 4096) (h : Fin 16) (l : Fin 128) : EReal := m (c.tc.loc main_arg1) (ix2 i (lane h l))
abbrev dvv (c : Dev nD) (i : Fin 4096) (k : Fin 2048) : EReal := m (c.tc.loc main_arg2) (ix2 i k)
abbrev gv (c : Dev nD) (l : Fin 128) : EReal := m (c.tc.loc main_arg3) (ix1 l)

theorem index_eq : ∀ t : Fin cfg0.N,  (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) := by decide +kernel

theorem lt_N (t : Fin cfg0.N) : t.val < 8 := by have := t.isLt; have : cfg0.N = 8 := N_0; omega

/-- Row r of point t's block. -/
abbrev row (t : Fin cfg0.N) (r : Fin 512) : Fin 4096 := rowOf 8 512 ⟨t.val, lt_N t⟩ r

theorem x_at (c : Dev nD) (t : Fin cfg0.N) (r : Fin 512) (h : Fin 16) (l : Fin 128) : iblk m c 0 t (ix2 r (lane h l)) = xv m c (row t r) h l := by
  unfold iblk
  rw [View.read_apply]
  show m (c.tc.loc main_arg0) _ = _
  congr 1
  obtain ⟨⟨h0, h1⟩, -⟩ := index_eq t
  exact ix2_ext (in_block h0) (in_only h1)

theorem dy_at (c : Dev nD) (t : Fin cfg0.N) (r : Fin 512) (h : Fin 16) (l : Fin 128) : iblk m c 1 t (ix2 r (lane h l)) = dyv m c (row t r) h l := by
  unfold iblk
  rw [View.read_apply]
  show m (c.tc.loc main_arg1) _ = _
  congr 1
  obtain ⟨-, ⟨h0, h1⟩, -⟩ := index_eq t
  exact ix2_ext (in_block h0) (in_only h1)

theorem dv_at (c : Dev nD) (t : Fin cfg0.N) (r : Fin 512) (k : Fin 2048) : iblk m c 2 t (ix2 r k) = dvv m c (row t r) k := by
  unfold iblk
  rw [View.read_apply]
  show m (c.tc.loc main_arg2) _ = _
  congr 1
  obtain ⟨-, -, ⟨h0, h1⟩, -⟩ := index_eq t
  exact ix2_ext (in_block h0) (in_only h1)

/-- The host lays the gain out as one row. -/
theorem g_row (c : Dev nD) : V m c main_v0 = shapeCast S1x128 (m (c.tc.loc main_arg3)) shapeCasts_S128_S1x128 := by
  unfold V
  after_results
  rfl

theorem g_at (c : Dev nD) (t : Fin cfg0.N) (r : Fin 1) (l : Fin 128) : iblk m c 3 t (ix2 r l) = gv m c l := by
  unfold iblk
  rw [View.read_apply]
  show V m c main_v0 _ = _
  have he : ((cfg0.win 3).blk t).view.emb (ix2 r l) = ix2 (0 : Fin 1) l := by
    funext a
    apply Fin.ext
    obtain ⟨-, -, -, ⟨h0, h1⟩, -⟩ := index_eq t
    match a with
    | ⟨0, _⟩ => show win0_3.index t 0 * 1 + 1 * r.val = 0; rw [h0]; omega
    | ⟨1, _⟩ => show win0_3.index t 1 * 128 + 1 * l.val = l.val; rw [h1]; omega
  refine (congrArg (V m c main_v0) he).trans ?_
  rw [g_row]
  pointwise

/-- A block of gradients, at one head's column and at a column of the values. -/
theorem block_left_at (c : Dev nD) (t : Fin cfg0.N) (r : Fin 512) (h : Fin 16) (l : Fin 128) :
    (block (F := Ideal) (iblk m c 0 t) (iblk m c 1 t) (iblk m c 2 t) (iblk m c 3 t) (ix2 r (left (lane h l))) : EReal)
      = HeadNorm.rstd (xv m c (row t r) h) * (dyv m c (row t r) h l * gv m c l - xv m c (row t r) h l * HeadNorm.rstd (xv m c (row t r) h)
        * Ideal.div (∑ k, dyv m c (row t r) h k * gv m c k * (xv m c (row t r) h k * HeadNorm.rstd (xv m c (row t r) h))) ((128 : ℝ) : EReal)) := by
  unfold block
  refine (HeadNorm.stack_left_at _ _ (HeadNorm.both_concatenates _ _) r h l).trans ?_
  refine (HeadNorm.grad_at _ _ _ r l).trans ?_
  simp only [HeadNorm.cut_at, x_at, dy_at]
  pointwise
  simp only [g_at]

theorem block_right_at (c : Dev nD) (t : Fin cfg0.N) (r : Fin 512) (k : Fin 2048) :
    (block (F := Ideal) (iblk m c 0 t) (iblk m c 1 t) (iblk m c 2 t) (iblk m c 3 t) (ix2 r (right k)) : EReal) = dvv m c (row t r) k := by
  unfold block
  refine (HeadNorm.stack_right_at _ _ (HeadNorm.both_concatenates _ _) r k).trans ?_
  exact dv_at m c t r k

/-- What a point adds to the gain's gradient. -/
theorem added_at (c : Dev nD) (t : Fin cfg0.N) (old : FVec Ideal S1x128 .f32) (l : Fin 128) :
    added (iblk m c 0 t) (iblk m c 1 t) old (ix2 0 l) = (old (ix2 0 l) : EReal)
      + ∑ h : Fin 16, ∑ r : Fin 512, dyv m c (row t r) h l * (xv m c (row t r) h l * HeadNorm.rstd (xv m c (row t r) h)) := by
  unfold added
  pointwise
  refine congrArg (_ + ·) ((HeadNorm.allSums_at _ _ l).trans ?_)
  simp only [x_at, dy_at]

/-- The gradients of keys and values, read from the point that wrote the row. -/
theorem dx_final (c : Dev nD) (t : Fin cfg0.N) (r : Fin 512) (k : Fin 4096) : (dats m 0 c).arrAt 4 cfg0.N (ix2 (row t r) k)
    = (block (F := Ideal) (iblk m c 0 t) (iblk m c 1 t) (iblk m c 2 t) (iblk m c 3 t) (ix2 r k) : EReal) := by
  have hf := (dats m 0 c).arrAt_emb_eq_flushed 4 disjoint4 t (flush0_4 t) (ix2 r k)
  have he : ((cfg0.win 4).blk t).view.emb (ix2 r k) = ix2 (row t r) k := by
    obtain ⟨-, -, -, -, ⟨h0, h1⟩, -⟩ := index_eq t
    exact ix2_ext (in_block h0) (in_only h1)
  rw [he, flushed4] at hf
  refine hf.trans ?_
  show (outsAt0 m c t.val t.isLt).1 (ix2 r k) = _
  by_cases h0 : t.val % 8 = 0
  · rw [outs_first m c t h0]
  · rw [outs_next m c t h0]

theorem dk_final (c : Dev nD) (i : Fin 4096) (h : Fin 16) (l : Fin 128) :
    (dats m 0 c).arrAt 4 cfg0.N (ix2 i (left (lane h l))) = HeadNorm.rstd (xv m c i h) * (dyv m c i h l * gv m c l - xv m c i h l * HeadNorm.rstd (xv m c i h)
      * Ideal.div (∑ k, dyv m c i h k * gv m c k * (xv m c i h k * HeadNorm.rstd (xv m c i h))) ((128 : ℝ) : EReal)) := by
  obtain ⟨t, r, rfl⟩ := exists_rowOf (n := 8) (k := 512) i
  have hN : cfg0.N = 8 := N_0
  exact (dx_final m c ⟨t.val, by have := t.isLt; omega⟩ r _).trans (block_left_at m c _ r h l)

theorem dv_final (c : Dev nD) (i : Fin 4096) (k : Fin 2048) : (dats m 0 c).arrAt 4 cfg0.N (ix2 i (right k)) = dvv m c i k := by
  obtain ⟨t, r, rfl⟩ := exists_rowOf (n := 8) (k := 512) i
  have hN : cfg0.N = 8 := N_0
  exact (dx_final m c ⟨t.val, by have := t.isLt; omega⟩ r _).trans (block_right_at m c _ r k)

/-- A row of sums that starts with the first point's and has each later point's added holds, after the last, the sum over all points. -/
theorem sums_all (c : Dev nD) (old : Vec Ideal S512x4096 .bf16 × Vec Ideal S1x128 .f32 → EReal) (f : Fin 8 → EReal)
    (h0 : ∀ t : Fin cfg0.N, t.val % 8 = 0 → old (outsAt0 m c t.val t.isLt) = f ⟨t.val, lt_N t⟩)
    (hs : ∀ t : Fin cfg0.N, ¬t.val % 8 = 0 → old (outsAt0 m c t.val t.isLt)
      = old (outsAt0 m c (t.val - 1) (Nat.lt_of_le_of_lt (Nat.sub_le _ _) t.isLt)) + f ⟨t.val, lt_N t⟩) :
    old (outsAt0 m c t0_7.val t0_7.isLt) = ∑ t, f t := by
  have hN : cfg0.N = 8 := N_0
  exact sum_of_steps_last (n := 7) (fun j hj => old (outsAt0 m c j (by omega))) f
    (fun h => h0 (⟨0, by omega⟩ : Fin cfg0.N) rfl) (fun j hj => hs (⟨j + 1, by omega⟩ : Fin cfg0.N) (by dsimp only; omega))

/-- The gradient of the gain, as the blocks and heads are summed. -/
theorem dg_final (c : Dev nD) (l : Fin 128) : (dats m 0 c).arrAt 5 cfg0.N (ix2 0 l)
    = ∑ t : Fin 8, ∑ h : Fin 16, ∑ r : Fin 512, dyv m c (rowOf 8 512 t r) h l
      * (xv m c (rowOf 8 512 t r) h l * HeadNorm.rstd (xv m c (rowOf 8 512 t r) h)) := by
  have hN : cfg0.N = 8 := N_0
  have hf := (dats m 0 c).arrAt_emb_eq_flushed 5 (fun t t' ht ht' hne => absurd (Fin.ext (by
    have := (flush0_5 t).mp ht; have := (flush0_5 t').mp ht'; have := lt_N t; have := lt_N t'; omega)) hne) t0_7 ((flush0_5 t0_7).mpr rfl) (ix2 0 l)
  have he : ((cfg0.win 5).blk t0_7).view.emb (ix2 0 l) = ix2 (0 : Fin 1) l := by
    obtain ⟨-, -, -, -, -, ⟨h0, h1⟩⟩ := index_eq t0_7
    exact ix2_ext (in_only h0) (in_only h1)
  rw [he, flushed5] at hf
  refine hf.trans ?_
  show (outsAt0 m c t0_7.val t0_7.isLt).2 (ix2 0 l) = _
  refine sums_all m c (fun o => o.2 (ix2 0 l)) _ (fun t h0 => ?_) (fun t h0 => ?_)
  · rw [outs_first m c t h0]
    refine (added_at m c t _ l).trans ?_
    unfold k0_pay5
    pointwise
    rfl
  · rw [outs_next m c t h0]
    exact added_at m c t _ l

end Cert.KernelKnormIdeal.Value

end
-- ==== Proof.KnormClaims.lean ====
/- The keys' norm's backward call against the vector-Jacobian product of the per-head root-mean-square norm: the five claims. -/
module

public import proofs.«01_k».proof.Defs
public import proofs.«01_k».proof.Proof.Gen.KernelKnorm.Frame
public import proofs.«01_k».proof.Proof.Gen.ReferenceKnormIdeal.Read
public import proofs.«01_k».proof.Proof.KnormArrays

@[expose] public section

noncomputable section

namespace Cert.ReferenceKnormIdeal.Read

open Gen Idealize.ShloMosaic TcCoe Idealize.SL.Sem Norm Cert.HeadNorm

variable (x0 x1 x2 : (⟨S4096x2048, .bf16⟩ : BufTy).Contents (Elt Ideal)) (x3 : (⟨S128, .f32⟩ : BufTy).Contents (Elt Ideal))

/-- One head's keys in a row. -/
abbrev hx (i : Fin 4096) (h : Fin 16) (l : Fin 128) : EReal := x0 (ix2 i (lane h l))

/-- The keys are the left half of the joined array. -/
theorem v3_at (i : Fin 4096) (k : Fin 2048) : val_main_v3 (F := Ideal) x0 (ix2 i k) = x0 (ix2 i k) := by
  unfold val_main_v3 val_main_v2
  refine (concatenate_pair_apply_left (t := S4096x4096) (s₁ := S4096x2048) (s₂ := S4096x2048) 1 _ _ _ _ rfl (ix2 i k) fun b => ?_).trans rfl
  match b with
  | ⟨0, _⟩ => exact (Nat.zero_add _).symm
  | ⟨1, _⟩ => exact (Nat.zero_add _).symm

theorem v5_at (i : Fin 4096) (h : Fin 16) (l : Fin 128) : val_main_v5 (F := Ideal) x0 (ix3 i h l) = hx x0 i h l := by
  unfold val_main_v5
  pointwise
  exact v3_at x0 i (lane h l)

theorem v12_at (i : Fin 4096) (h : Fin 16) (u : Fin 1) : val_main_v12 (F := Ideal) x0 (ix3 i h u) = ms (hx x0 i h) 128 eps := by
  unfold val_main_v12 val_main_v11 val_main_cst_2 val_main_v10 val_main_v9 val_main_cst_1 val_main_v8 val_main_v7 val_main_cst_0 val_main_v6
  pointwise
  simp only [v5_at, ofBits_128, ofBits_eps]

theorem v13_at (i : Fin 4096) (h : Fin 16) (u : Fin 1) : val_main_v13 (F := Ideal) x0 (ix3 i h u) = rstd (hx x0 i h) := by
  unfold val_main_v13
  pointwise
  rw [v12_at]

theorem v16_at (i : Fin 4096) (h : Fin 16) (u : Fin 1) : val_main_v16 (F := Ideal) x0 (ix3 i h u)
    = ((-(1 / 2) : ℝ) : EReal) * Ideal.div (rstd (hx x0 i h)) (ms (hx x0 i h) 128 eps) := by
  unfold val_main_v16 val_main_v15 val_main_cst_3 val_main_v14
  pointwise
  rw [v12_at, v13_at, ofBits_neg_half]

theorem v29_at (i : Fin 4096) (h : Fin 16) (l : Fin 128) : val_main_v29 (F := Ideal) x1 x3 (ix3 i h l) = hx x1 i h l * (x3 (ix1 l) : EReal) := by
  unfold val_main_v29 val_main_v28 val_main_v19 val_main_v23 val_main_v22
  pointwise
  rfl

/-- What the mean square's gradient adds, per row and head. -/
theorem v39_at (i : Fin 4096) (h : Fin 16) : val_main_v39 (F := Ideal) x0 x1 x3 (ix2 i h)
    = Ideal.div ((∑ l, hx x0 i h l * (hx x1 i h l * (x3 (ix1 l) : EReal)))
      * (((-(1 / 2) : ℝ) : EReal) * Ideal.div (rstd (hx x0 i h)) (ms (hx x0 i h) 128 eps))) ((128 : ℝ) : EReal) := by
  unfold val_main_v39 val_main_cst_8 val_main_v38 val_main_v37 val_main_cst_7 val_main_v36 val_main_v33 val_main_v32 val_main_cst_6 val_main_v31
  pointwise
  simp only [v16_at, v5_at, v29_at, ofBits_128]
  exact Fin.sum_univ_one _

theorem v45_at (i : Fin 4096) (h : Fin 16) (l : Fin 128) : val_main_v45 (F := Ideal) x0 x1 x3 (ix2 i (lane h l))
    = hx x1 i h l * (x3 (ix1 l) : EReal) * rstd (hx x0 i h) + hx x0 i h l * val_main_v39 (F := Ideal) x0 x1 x3 (ix2 i h)
      + val_main_v39 (F := Ideal) x0 x1 x3 (ix2 i h) * hx x0 i h l := by
  have e : val_main_v45 (F := Ideal) x0 x1 x3 (ix2 i (lane h l)) = val_main_v44 (F := Ideal) x0 x1 x3 (ix3 i h l) := by
    unfold val_main_v45
    pointwise
    exact congrArg (val_main_v44 (F := Ideal) x0 x1 x3) (congrArg₂ (ix3 i) (Fin.ext (show (h.val * 128 + l.val) / 128 = h.val by omega))
      (Fin.ext (show (h.val * 128 + l.val) % 128 = l.val by omega)))
  rw [e]
  unfold val_main_v44 val_main_v43 val_main_v42 val_main_v41 val_main_v40 val_main_v35 val_main_v34
  pointwise
  rw [v5_at, v13_at, v29_at]

theorem v47_left_at (i : Fin 4096) (k : Fin 2048) : val_main_v47 (F := Ideal) x0 x1 x2 x3 (ix2 i (left k)) = val_main_v45 (F := Ideal) x0 x1 x3 (ix2 i k) := by
  unfold val_main_v47 val_main_v46
  refine (concatenate_pair_apply_left (t := S4096x4096) (s₁ := S4096x2048) (s₂ := S4096x2048) 1 _ _ concatenates_S4096x2048_S4096x2048_S4096x4096_d1 _ rfl (ix2 i k) fun b => ?_).trans rfl
  match b with
  | ⟨0, _⟩ => rfl
  | ⟨1, _⟩ => rfl

theorem v47_right_at (i : Fin 4096) (k : Fin 2048) : val_main_v47 (F := Ideal) x0 x1 x2 x3 (ix2 i (right k)) = x2 (ix2 i k) := by
  unfold val_main_v47 val_main_v46
  refine (concatenate_pair_apply_right (t := S4096x4096) (s₁ := S4096x2048) (s₂ := S4096x2048) 1 _ _ concatenates_S4096x2048_S4096x2048_S4096x4096_d1 _ rfl rfl (ix2 i k) (fun b hb => ?_) (Nat.add_comm _ _)).trans rfl
  match b with
  | ⟨0, _⟩ => rfl
  | ⟨1, _⟩ => exact absurd rfl hb

theorem v48_at (l : Fin 128) : val_main_v48 (F := Ideal) x0 x1 (ix2 0 l)
    = ∑ i : Fin 4096, ∑ h : Fin 16, hx x0 i h l * rstd (hx x0 i h) * hx x1 i h l := by
  unfold val_main_v48 val_main_v30 val_main_cst_5 val_main_v27 val_main_v26 val_main_cst_4 val_main_v25 val_main_v23 val_main_v22 val_main_v18 val_main_v17
  pointwise [hostReduceAdd_rows]
  simp only [v13_at, v5_at]
  exact (Fin.sum_univ_one _).trans (Fin.sum_univ_one _)

end Cert.ReferenceKnormIdeal.Read

namespace Cert.Proof.Knorm

open Idealize.ShloMosaic TcCoe Idealize.SL.Sem KernelKnormIdeal.Value Norm Cert.HeadNorm

theorem frame : quiescent_KernelKnorm := fun m ρ _ => KernelKnorm.Gen.frame m ρ
theorem frame_ideal : quiescent_KernelKnormIdeal := fun m ρ _ => KernelKnormIdeal.Gen.frame m ρ
theorem frame_reference : quiescent_ReferenceKnormIdeal := fun m ρ _ =>
  (θ_run _ _ _).mono (fun r h => ⟨fun c => (h c).2.2, sem_eq_zero_of_no_sems (by decide) r.2⟩) (ReferenceKnormIdeal.Value.run m ρ)

theorem preserves : preserves_KernelKnorm_KernelKnormIdeal := trivial

/-- Both programs leave the gradients of keys and values and of the gain. -/
theorem algebraic : algebraic_KernelKnormIdeal_ReferenceKnormIdeal := by
  intro m ρ m' ρ' _ hm
  refine ⟨fun c => (KernelKnormIdeal.Gen.dats m 0 c).arrAt 4 KernelKnormIdeal.cfg0.N,
    fun c => (KernelKnormIdeal.Gen.dats m 0 c).arrAt 5 KernelKnormIdeal.cfg0.N, run_blocks m ρ, ?_⟩
  refine (θ_run _ _ _).mono (fun r h c => ?_) (ReferenceKnormIdeal.Value.run m' ρ')
  obtain ⟨hx, hg, hargs⟩ := h c
  obtain ⟨e0, e1, e2, e3⟩ := hm c
  refine ⟨hx.trans ?_, hg.trans ?_, hargs⟩
  · rw [ReferenceKnormIdeal.Read.val_main_v47_eq, e0, e1, e2, e3]
    funext j
    obtain ⟨i, k, rfl⟩ := exists_ix2 j
    obtain ⟨k, rfl⟩ | ⟨k, rfl⟩ := left_or_right k
    · obtain ⟨h, l, rfl⟩ := exists_rowOf (n := 16) (k := 128) k
      refine Eq.trans ?_ (dk_final m c i h l).symm
      refine (ReferenceKnormIdeal.Read.v47_left_at _ _ _ _ i (lane h l)).trans ((ReferenceKnormIdeal.Read.v45_at _ _ _ i h l).trans ?_)
      rw [ReferenceKnormIdeal.Read.v39_at,
        row_eq (fun k => xv m c i h k) 128 eps (fun k => dyv m c i h k * gv m c k) (by norm_num) eps_pos l, add_assoc]
    · exact (ReferenceKnormIdeal.Read.v47_right_at _ _ _ _ i k).trans (dv_final m c i k).symm
  · refine (ReferenceKnormIdeal.Read.val_main_v48_eq _ _).trans ?_
    rw [e0, e1]
    funext j
    obtain ⟨i, l, rfl⟩ := exists_ix2 j
    obtain rfl : i = 0 := Subsingleton.elim _ _
    refine (ReferenceKnormIdeal.Read.v48_at _ _ l).trans (Eq.trans ?_ (dg_final m c l).symm)
    rw [sum_rowOf (n := 8) (k := 512)]
    refine Finset.sum_congr rfl fun t _ => ?_
    rw [Finset.sum_comm]
    exact Finset.sum_congr rfl fun h _ => Finset.sum_congr rfl fun r _ => mul_comm _ _

end Cert.Proof.Knorm

end
-- ==== Proof.LossBlocks.lean ====
/- What one grid point of the loss call leaves in its two output blocks. -/
module

public import proofs.«01_k».proof.Proof.Gen.KernelLossIdeal.Frame
public import Idealize.ShloMosaic.Lib.Pipeline.Value
public import Idealize.ShloMosaic.Lib.Pointwise
public import Idealize.ShloMosaic.Lib.Tactic

@[expose] public section

noncomputable section

namespace Cert.KernelLossIdeal.Value

open Gen Idealize.ShloMosaic TcCoe Idealize.SL.Sem
open Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- A point writes back what its body left. -/
theorem grad_flushed (c : Dev nD) (t : Fin cfg0.N) : (dats m 0 c).flushed 2 t = (cfg0.win 2).cut (grid0.coords t) (outsAt0 m c t.val t.isLt).1 := by
  show (cfg0.win 2).cut (grid0.coords t) ((dats m 0 c).after 2 t) = _
  rw [after0_2]

theorem sums_flushed (c : Dev nD) (t : Fin cfg0.N) : (dats m 0 c).flushed 3 t = (cfg0.win 3).cut (grid0.coords t) (outsAt0 m c t.val t.isLt).2 := by
  show (cfg0.win 3).cut (grid0.coords t) ((dats m 0 c).after 3 t) = _
  rw [after0_3]

/-- Two points' blocks of the gradient share no entry. -/
theorem grad_disjoint (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne ((by decide +kernel : ∀ t t' : Fin grid0.N, win0_2.index t = win0_2.index t' → t = t') t t' h)

/-- At any point the block of the gradient is the difference times 1/2048. -/
theorem grad_block (c : Dev nD) (t : Fin cfg0.N) : (outsAt0 m c t.val t.isLt).1 = k0_pay2 (iblk m c 0 t) (iblk m c 1 t) := by
  by_cases h0 : t.val % 8 = 0
  · rw [outsAt0_A m c t h0]
    dsimp only
    unfold out0_A_2
    rw [View.read_writes_eq_canon _ _ _ (fun y => cover0_A_2 (y := y) ..)]
    unfold kernelRun0_A
    dsimp only
    rw [View.canon_unit_zero hz]
    simp only [View.readAt_eq_ld, (hs0_0 t).read_unread, (hs0_1 t).read_unread, View.ld_unit_zero (S := S512x2048) hz]
  · rw [outsAt0_B m c t h0]
    dsimp only
    unfold out0_B_2
    rw [View.read_writes_eq_canon _ _ _ (fun y => cover0_B_2 (y := y) ..)]
    unfold kernelRun0_B
    dsimp only
    rw [View.canon_unit_zero hz]
    simp only [View.readAt_eq_ld, (hs0_0 t).read_unread, (hs0_1 t).read_unread, View.ld_unit_zero (S := S512x2048) hz]

/-- The first point leaves its own column sums of squares, over zeros. -/
theorem sums_first (c : Dev nD) (t : Fin cfg0.N) (h0 : t.val % 8 = 0) :
    (outsAt0 m c t.val t.isLt).2 = k0_pay4 (iblk m c 0 t) (iblk m c 1 t) k0_pay3 := by
  rw [outsAt0_A m c t h0]
  dsimp only
  unfold out0_A_3
  rw [View.read_writes_eq_canon _ _ _ (fun y => cover0_A_3 (y := y) ..)]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, View.ld_unit_zero (S := S512x2048) hz]

/-- A later point adds its own to what the point before left. -/
theorem sums_next (c : Dev nD) (t : Fin cfg0.N) (h0 : ¬t.val % 8 = 0) :
    (outsAt0 m c t.val t.isLt).2 = k0_pay4 (iblk m c 0 t) (iblk m c 1 t)
      (outsAt0 m c (t.val - 1) (Nat.lt_of_le_of_lt (Nat.sub_le _ _) t.isLt)).2 := by
  rw [outsAt0_B m c t h0]
  dsimp only
  unfold out0_B_3
  rw [View.read_writes_eq_canon _ _ _ (fun y => cover0_B_3 (y := y) ..)]
  unfold kernelRun0_B
  dsimp only
  rw [View.canon_unit_zero hz]
  simp only [View.readAt_eq_ld, (hs0_0 t).read_unread, (hs0_1 t).read_unread, (hs0_3 t).read_unread, View.ld_unit_zero (S := S512x2048) hz, View.ld_unit_zero (S := S1x2048) hz]

end Cert.KernelLossIdeal.Value

end
-- ==== Proof.LossArrays.lean ====
/- The loss call's gradient and the loss that the host lines after it form from its column sums, in terms of the arguments. -/
module

public import proofs.«01_k».proof.Proof.LossBlocks
public import proofs.«01_k».proof.Proof.RowSums

@[expose] public section

noncomputable section

namespace Cert.KernelLossIdeal.Value

open Gen Idealize.ShloMosaic TcCoe Idealize.SL.Sem
open Pipeline (Dat)

variable (m : (ℓ : Loc nD τ sig) → Buf (Elt Ideal) ℓ) (ρ : Dev nD → PrngReg)

/-- The difference of the output and its target, entry by entry. -/
abbrev ev (c : Dev nD) (i : Fin 4096) (l : Fin 2048) : EReal := (show EReal from m (c.tc.loc main_arg0) (ix2 i l)) - (show EReal from m (c.tc.loc main_arg1) (ix2 i l))

theorem index_eq : ∀ t : Fin cfg0.N,  (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) := by decide +kernel

theorem lt_N (t : Fin cfg0.N) : t.val < 8 := by have := t.isLt; have : cfg0.N = 8 := N_0; omega

theorem y_at (c : Dev nD) (t : Fin cfg0.N) (r : Fin 512) (l : Fin 2048) :
    iblk m c 0 t (ix2 r l) = m (c.tc.loc main_arg0) (ix2 (rowOf 8 512 ⟨t.val, lt_N t⟩ r) l) := by
  unfold iblk
  rw [View.read_apply]
  show m (c.tc.loc main_arg0) _ = _
  congr 1
  obtain ⟨⟨h0, h1⟩, -⟩ := index_eq t
  exact ix2_ext (in_block h0) (in_only h1)

theorem target_at (c : Dev nD) (t : Fin cfg0.N) (r : Fin 512) (l : Fin 2048) :
    iblk m c 1 t (ix2 r l) = m (c.tc.loc main_arg1) (ix2 (rowOf 8 512 ⟨t.val, lt_N t⟩ r) l) := by
  unfold iblk
  rw [View.read_apply]
  show m (c.tc.loc main_arg1) _ = _
  congr 1
  obtain ⟨-, ⟨h0, h1⟩, -⟩ := index_eq t
  exact ix2_ext (in_block h0) (in_only h1)

theorem ofBits_recip : Ideal.ofBits .f32 0x3A000000#32 = ((1 / 2048 : ℝ) : EReal) := by
  simp [Ideal.ofBits, Ideal.ieee, -EReal.coe_mul]
  norm_num

/-- The gradient: the difference times 1/2048. -/
theorem grad_at (c : Dev nD) (i : Fin 4096) (l : Fin 2048) :
    (dats m 0 c).arrAt 2 cfg0.N (ix2 i l) = ev m c i l * ((1 / 2048 : ℝ) : EReal) := by
  obtain ⟨t, r, rfl⟩ := exists_rowOf (n := 8) (k := 512) i
  have hN : cfg0.N = 8 := N_0
  let t' : Fin cfg0.N := ⟨t.val, by have := t.isLt; omega⟩
  have h := (dats m 0 c).arrAt_emb_eq_flushed 2 (grad_disjoint) t' (flush0_2 t') (ix2 r l)
  have he : ((cfg0.win 2).blk t').view.emb (ix2 r l) = ix2 (rowOf 8 512 t r) l := by
    obtain ⟨-, -, ⟨h0, h1⟩, -⟩ := index_eq t'
    exact ix2_ext (in_block h0) (in_only h1)
  rw [he, grad_flushed, grad_block] at h
  refine h.trans ?_
  show k0_pay2 (iblk m c 0 t') (iblk m c 1 t') (ix2 r l) = _
  unfold k0_pay2 k0_pay1
  pointwise
  rw [y_at, target_at, ofBits_recip]

/-- The column sums of squares that the point t adds. -/
theorem colsum_at (c : Dev nD) (t : Fin cfg0.N) (old : FVec Ideal S1x2048 .f32) (l : Fin 2048) :
    k0_pay4 (iblk m c 0 t) (iblk m c 1 t) old (ix2 0 l) = (show EReal from old (ix2 0 l)) + ∑ r : Fin 512,
      ev m c (rowOf 8 512 ⟨t.val, lt_N t⟩ r) l * ev m c (rowOf 8 512 ⟨t.val, lt_N t⟩ r) l := by
  unfold k0_pay4 k0_pay1
  pointwise
  simp only [y_at, target_at]
  rfl

/-- The column sums after the last point: over all rows. -/
theorem sums_at (c : Dev nD) (l : Fin 2048) : (dats m 0 c).arrAt 3 cfg0.N (ix2 0 l) = ∑ i : Fin 4096, ev m c i l * ev m c i l := by
  have hN : cfg0.N = 8 := N_0
  have h := (dats m 0 c).arrAt_emb_eq_flushed 3 (fun t t' ht ht' hne => absurd (Fin.ext (by
    have := (flush0_3 t).mp ht; have := (flush0_3 t').mp ht'; have := lt_N t; have := lt_N t'; omega)) hne) t0_7 ((flush0_3 t0_7).mpr rfl) (ix2 0 l)
  have he : ((cfg0.win 3).blk t0_7).view.emb (ix2 0 l) = ix2 (0 : Fin 1) l := by
    obtain ⟨-, -, -, ⟨h0, h1⟩⟩ := index_eq t0_7
    exact ix2_ext (in_only h0) (in_only h1)
  rw [he, sums_flushed] at h
  refine h.trans ?_
  show (outsAt0 m c t0_7.val t0_7.isLt).2 (ix2 0 l) = _
  rw [sum_rowOf (n := 8) (k := 512)]
  rw [show t0_7 = (⟨7, by omega⟩ : Fin cfg0.N) from rfl]
  refine sum_of_steps_last (n := 7) (fun j hj => ((outsAt0 m c j (by omega)).2 (ix2 0 l) : EReal))
    (fun t => ∑ r : Fin 512, ev m c (rowOf 8 512 t r) l * ev m c (rowOf 8 512 t r) l) (fun h0 => ?_) (fun j hj => ?_)
  · have e := congrFun (sums_first m c (⟨0, by omega⟩ : Fin cfg0.N) rfl) (ix2 0 l)
    rw [colsum_at] at e
    refine e.trans ?_
    unfold k0_pay3
    pointwise
  · have e := congrFun (sums_next m c (⟨j + 1, by omega⟩ : Fin cfg0.N) (by dsimp only; omega)) (ix2 0 l)
    rw [colsum_at] at e
    exact e

/-- What the host lines after the call make of the column sums: half their sum, over 2048. -/
def total (s : (⟨S1x2048, .f32⟩ : BufTy).Contents (Elt Ideal)) : (⟨S_, .f32⟩ : BufTy).Contents (Elt Ideal) :=
  Host.divf (F := Ideal) (mulf (constant S_ .f32 0x3F000000#32) (Host.reduceAdd s (constant S_ .f32 0x00000000#32) reducesTo_S1x2048_S_d0_1 h_S_))
    (constant S_ .f32 0x45000000#32)

theorem tail_eq (c : Dev nD) : Pipeline.afterTail₀ cfgs (dats m) 0 (V0 m) [hostOps1] c main_v3 = total ((dats m 0 c).arrAt 3 cfg0.N) := by
  rw [← Pipeline.withArrays_arr spec0 (by decide) c (V0 m c) (fun w => (dats m 0 c).arrAt w cfg0.N) 3]
  unfold Pipeline.afterTail₀ hostOps1
  simp only [List.flatten_cons, List.flatten_nil, List.append_nil]
  after_results
  rfl

/-- The run: the gradient's array, the loss, the arguments as they were. -/
theorem run_loss : θ_run defs (onTc (τ := τ) (main (F := Ideal))) ⟨m, fun _ => 0, ρ⟩ fun r => ∀ c : Dev nD,
      r.2.mem ((c.tc : Thread nD τ).loc main_v0_0) = (dats m 0 c).arrAt 2 cfg0.N
      ∧ r.2.mem ((c.tc : Thread nD τ).loc main_v3) = total ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  exact tail_eq m c

end Cert.KernelLossIdeal.Value

end
-- ==== Proof.LossClaims.lean ====
/- The loss call against the value and the vector-Jacobian product of ½ Σ mean((y − target)²): the five claims. -/
module

public import proofs.«01_k».proof.Defs
public import proofs.«01_k».proof.Proof.Gen.KernelLoss.Frame
public import proofs.«01_k».proof.Proof.Gen.ReferenceLossIdeal.Run
public import proofs.«01_k».proof.Proof.Gen.ReferenceLossIdeal.Read
public import proofs.«01_k».proof.Proof.LossArrays
public import proofs.«01_k».proof.Proof.ActMath

@[expose] public section

noncomputable section

namespace Cert.ReferenceLossIdeal.Read

open Idealize.ShloMosaic TcCoe Norm Cert.Act

variable (y t : (⟨S4096x2048, .f32⟩ : BufTy).Contents (Elt Ideal))

/-- The difference, entry by entry. -/
abbrev ev (i : Fin 4096) (l : Fin 2048) : EReal := (show EReal from y (ix2 i l)) - (show EReal from t (ix2 i l))

/-- A row's mean square of the difference. -/
theorem v6_at (i : Fin 4096) : val_main_v6 (F := Ideal) y t (ix1 i) = (∑ l : Fin 2048, ev y t i l * ev y t i l) * ((1 / 2048 : ℝ) : EReal) := by
  unfold val_main_v6 val_main_v5 val_main_cst_1 val_main_v4 val_main_cst_0 val_main_v1 val_main_v0
  pointwise
  rw [ofBits_2048, Ideal.div_coe (by norm_num)]

/-- The loss. -/
theorem v8_at (j : S_.Idx) : val_main_v8 (F := Ideal) y t j = ((1 / 2 : ℝ) : EReal) * ∑ i : Fin 4096, (∑ l : Fin 2048, ev y t i l * ev y t i l) * ((1 / 2048 : ℝ) : EReal) := by
  rw [val_main_v8_apply, val_main_v7_apply, val_main_cst_2_apply, val_main_cst_3_apply, sum_idx1]
  simp only [v6_at]
  show Ideal.ofBits .f32 0x3F000000#32 * (Ideal.ofBits .f32 0x00000000#32 + _) = _
  rw [ofBits_half, Ideal.ofBits_zero .f32, zero_add]

/-- The loss's gradient. -/
theorem v14_at (i : Fin 4096) (l : Fin 2048) : val_main_v14 (F := Ideal) y t (ix2 i l) = ev y t i l * ((1 / 2048 : ℝ) : EReal) := by
  unfold val_main_v14 val_main_v13 val_main_v12 val_main_v11 val_main_cst_6 val_main_v10 val_main_v9 val_main_cst_5 val_main_cst_4 val_main_v3 val_main_v2 val_main_cst val_main_v0
  pointwise
  rw [ofBits_2048, ofBits_half, ofBits_two, Ideal.div_coe (by norm_num)]
  rw [← mul_assoc, mul_comm]
  refine congrArg₂ (fun a b : EReal => a * b) rfl ?_
  rw [← EReal.coe_mul, ← EReal.coe_mul]
  norm_num

end Cert.ReferenceLossIdeal.Read

namespace Cert.Proof.Loss

open Idealize.ShloMosaic TcCoe Idealize.SL.Sem KernelLossIdeal.Value Norm Cert.Act

theorem frame : quiescent_KernelLoss := fun m ρ _ => KernelLoss.Gen.frame m ρ
theorem frame_ideal : quiescent_KernelLossIdeal := fun m ρ _ => KernelLossIdeal.Gen.frame m ρ
theorem frame_reference : quiescent_ReferenceLossIdeal := fun m ρ _ =>
  (θ_run _ _ _).mono (fun r h => ⟨fun c => (h c).2.2, sem_eq_zero_of_no_sems (by decide) r.2⟩) (ReferenceLossIdeal.Value.run m ρ)

theorem preserves : preserves_KernelLoss_KernelLossIdeal := trivial

/-- What the host lines make of column sums: half their sum over 2048. -/
theorem total_at (s : (⟨KernelLossIdeal.S1x2048, .f32⟩ : BufTy).Contents (Elt Ideal)) (j : KernelLossIdeal.S_.Idx) :
    total s j = ((1 / 2 : ℝ) : EReal) * (∑ l : Fin 2048, (show EReal from s (ix2 0 l))) * ((1 / 2048 : ℝ) : EReal) := by
  unfold total
  have h : Host.reduceAdd (F := Ideal) s (constant KernelLossIdeal.S_ .f32 0x00000000#32) KernelLossIdeal.Gen.reducesTo_S1x2048_S_d0_1 KernelLossIdeal.Gen.h_S_ j
      = (∑ l : Fin 2048, (show EReal from s (ix2 0 l))) := by
    simp only [Host.reduceAdd, Ideal.hostReduceAdd_def]
    refine (Ideal.hostReduceAdd_total KernelLossIdeal.Gen.reducesTo_S1x2048_S_d0_1 (fun b => b.elim0) s _ j).trans ?_
    rw [sum_idx2, Fin.sum_univ_one]
    exact (congrArg (fun z : EReal => z + _) (Ideal.ofBits_zero .f32)).trans (zero_add _)
  show Ideal.div (Ideal.ofBits .f32 0x3F000000#32 * _) (Ideal.ofBits .f32 0x45000000#32) = _
  rw [ofBits_half, ofBits_2048, Ideal.div_coe (by norm_num)]
  exact congrArg (fun z : EReal => ((1 / 2 : ℝ) : EReal) * z * ((1 / 2048 : ℝ) : EReal)) h

/-- Both programs leave the loss and its gradient. -/
theorem algebraic : algebraic_KernelLossIdeal_ReferenceLossIdeal := by
  intro m ρ m' ρ' _ hm
  refine ⟨fun c => (KernelLossIdeal.Gen.dats m 0 c).arrAt 2 KernelLossIdeal.cfg0.N,
    fun c => total ((KernelLossIdeal.Gen.dats m 0 c).arrAt 3 KernelLossIdeal.cfg0.N), run_loss m ρ, ?_⟩
  refine (θ_run _ _ _).mono (fun r h c => ?_) (ReferenceLossIdeal.Value.run m' ρ')
  obtain ⟨h14, h8, hargs⟩ := h c
  obtain ⟨e0, e1⟩ := hm c
  refine ⟨h14.trans ?_, h8.trans ?_, hargs⟩
  · rw [ReferenceLossIdeal.Read.val_main_v14_eq, e0, e1]
    funext j
    obtain ⟨i, l, rfl⟩ := exists_ix2 j
    exact (ReferenceLossIdeal.Read.v14_at _ _ i l).trans (grad_at m c i l).symm
  · rw [ReferenceLossIdeal.Read.val_main_v8_eq, e0, e1]
    funext j
    refine (ReferenceLossIdeal.Read.v8_at _ _ j).trans (Eq.trans ?_ (total_at _ j).symm)
    rw [sum_mul_coe _ _ _ (by norm_num), ← mul_assoc, Finset.sum_comm]
    exact congrArg (fun z : EReal => ((1 / 2 : ℝ) : EReal) * z * ((1 / 2048 : ℝ) : EReal)) (Finset.sum_congr rfl fun l _ => (sums_at m c l).symm)

end Cert.Proof.Loss

end
-- ==== Proof.MixForward.lean ====
/- The gMLP mixing's forward call against the mixing written plainly: the result array entry by entry, and the five claims. -/
module

public import proofs.«01_k».proof.Defs
public import proofs.«01_k».proof.Proof.Gen.KernelMixfwd.Frame
public import proofs.«01_k».proof.Proof.Gen.KernelMixfwdIdeal.Value
public import proofs.«01_k».proof.Proof.Gen.ReferenceMixfwdIdeal.Read
public import proofs.«01_k».proof.Proof.MixClaims

@[expose] public section

noncomputable section

namespace Cert.KernelMixfwdIdeal.Value

open Gen Idealize.ShloMosaic TcCoe Idealize.SL.Sem
open KernelMixIdeal.Value (Kept row col duPart duPart_at rows_read)
open Pipeline (Dat)

variable (m : (ℓ : Loc nD τ sig) → Buf (Elt Ideal) ℓ)

theorem rows_eq (t : Fin cfg0.N) : (win0_0.index t 0 = t.val / 8 ∧ win0_0.index t 1 = t.val % 8) ∧ (win0_1.index t 0 = t.val / 8 ∧ win0_1.index t 1 = t.val % 8)
    ∧ (win0_4.index t 0 = t.val / 8 ∧ win0_4.index t 1 = t.val % 8) :=
  (by decide +kernel : ∀ t : Fin grid0.N, (win0_0.index t 0 = t.val / 8 ∧ win0_0.index t 1 = t.val % 8) ∧ (win0_1.index t 0 = t.val / 8 ∧ win0_1.index t 1 = t.val % 8)
    ∧ (win0_4.index t 0 = t.val / 8 ∧ win0_4.index t 1 = t.val % 8)) t

theorem groups_eq (t : Fin cfg0.N) : (win0_2.index t 0 = t.val % 8 ∧ win0_2.index t 1 = 0 ∧ win0_2.index t 2 = 0)
    ∧ (win0_3.index t 0 = t.val % 8 ∧ win0_3.index t 1 = 0 ∧ win0_3.index t 2 = 0) :=
  (by decide +kernel : ∀ t : Fin grid0.N, (win0_2.index t 0 = t.val % 8 ∧ win0_2.index t 1 = 0 ∧ win0_2.index t 2 = 0)
    ∧ (win0_3.index t 0 = t.val % 8 ∧ win0_3.index t 1 = 0 ∧ win0_3.index t 2 = 0)) t

/-- The grid point of the n-th 512 rows and of group g. -/
abbrev pt (n g : Fin 8) : Fin cfg0.N := ⟨n.val * 8 + g.val, by have := n.isLt; have := g.isLt; have : cfg0.N = 64 := N_0; omega⟩

theorem u_at (c : Dev nD) (n g : Fin 8) (r : Fin 4) (y : Fin 128) (l : Fin 768) :
    iblk m c 0 (pt n g) (ix2 (rowOf 4 128 r y) l)
      = m (c.tc.loc main_arg0) (ix2 (row (rowOf 8 4 n r) y) ⟨(col g l).val, by have := (col g l).isLt; omega⟩) := by
  refine congrArg (m (c.tc.loc main_arg0)) (funext fun a => Fin.ext ?_)
  obtain ⟨⟨h0, h1⟩, -⟩ := rows_eq (pt n g)
  match a with
  | ⟨0, _⟩ => show win0_0.index (pt n g) 0 * 512 + 1 * (r.val * 128 + y.val) = (n.val * 4 + r.val) * 128 + y.val; rw [h0]; dsimp only; omega
  | ⟨1, _⟩ => show win0_0.index (pt n g) 1 * 768 + 1 * l.val = g.val * 768 + l.val; rw [h1]; dsimp only; omega

theorem v_at (c : Dev nD) (n g : Fin 8) (r : Fin 4) (y : Fin 128) (l : Fin 768) :
    iblk m c 1 (pt n g) (ix2 (rowOf 4 128 r y) l) = m (c.tc.loc main_arg1) (ix2 (row (rowOf 8 4 n r) y) (col g l)) := by
  refine congrArg (m (c.tc.loc main_arg1)) (funext fun a => Fin.ext ?_)
  obtain ⟨-, ⟨h0, h1⟩, -⟩ := rows_eq (pt n g)
  match a with
  | ⟨0, _⟩ => show win0_1.index (pt n g) 0 * 512 + 1 * (r.val * 128 + y.val) = (n.val * 4 + r.val) * 128 + y.val; rw [h0]; dsimp only; omega
  | ⟨1, _⟩ => show win0_1.index (pt n g) 1 * 768 + 1 * l.val = g.val * 768 + l.val; rw [h1]; dsimp only; omega

theorem w_at (c : Dev nD) (n g : Fin 8) (i j : Fin 128) : iblk m c 2 (pt n g) (ix3 0 i j) = m (c.tc.loc main_arg2) (ix3 g i j) := by
  refine congrArg (m (c.tc.loc main_arg2)) (funext fun a => Fin.ext ?_)
  obtain ⟨⟨h0, h1, h2⟩, -⟩ := groups_eq (pt n g)
  match a with
  | ⟨0, _⟩ => show win0_2.index (pt n g) 0 * 1 + 1 * 0 = g.val; rw [h0]; dsimp only; omega
  | ⟨1, _⟩ => show win0_2.index (pt n g) 1 * 128 + 1 * i.val = i.val; rw [h1]; omega
  | ⟨2, _⟩ => show win0_2.index (pt n g) 2 * 128 + 1 * j.val = j.val; rw [h2]; omega

/-- The host repeats the bias along the lanes. -/
theorem b_rows (c : Dev nD) (g : Fin 8) (i j : Fin 128) : V m c main_v1 (ix3 g i j) = m (c.tc.loc main_arg3) (ix2 g i) := by
  unfold V
  after_results
  pointwise

theorem b_at (c : Dev nD) (n g : Fin 8) (i j : Fin 128) : iblk m c 3 (pt n g) (ix3 0 i j) = m (c.tc.loc main_arg3) (ix2 g i) := by
  refine Eq.trans (congrArg (V m c main_v1) (funext fun a => Fin.ext ?_)) (b_rows m c g i j)
  obtain ⟨-, h0, h1, h2⟩ := groups_eq (pt n g)
  match a with
  | ⟨0, _⟩ => show win0_3.index (pt n g) 0 * 1 + 1 * 0 = g.val; rw [h0]; dsimp only; omega
  | ⟨1, _⟩ => show win0_3.index (pt n g) 1 * 128 + 1 * i.val = i.val; rw [h1]; omega
  | ⟨2, _⟩ => show win0_3.index (pt n g) 2 * 128 + 1 * j.val = j.val; rw [h2]; omega

/-- What a point writes back, part by part: the same product as in the backward call, with the first factor in place of the cotangent. -/
theorem flushed_at (c : Dev nD) (p : Fin cfg0.N) (r : Fin 4) (y : Fin 128) (l : Fin 768) :
    (dats m 0 c).flushed 4 p (ix2 (rowOf 4 128 r y) l)
      = duPart (F := Ideal) (iblk m c 0 p) (iblk m c 1 p) (iblk m c 2 p) (iblk m c 3 p) r (ix2 y l) := by
  rw [flushed4]
  unfold_out out0_4
  simp only [View.ld_unit_zero (S := S1x128x128) hz3]
  exact rows_read (duPart (F := Ideal) (iblk m c 0 p) (iblk m c 1 p) (iblk m c 2 p) (iblk m c 3 p)) r y l

/-- The result: the first half's entry times the kept weights' row against the second half, plus the row's bias. -/
theorem out_at (c : Dev nD) (B : Fin 32) (y : Fin 128) (g : Fin 8) (l : Fin 768) :
    (dats m 0 c).arrAt 4 cfg0.N (ix2 (row B y) (col g l))
      = (show EReal from m (c.tc.loc main_arg0) (ix2 (row B y) ⟨(col g l).val, by have := (col g l).isLt; omega⟩))
        * (∑ k : Fin 128, (if Kept y k then (show EReal from m (c.tc.loc main_arg2) (ix3 g y k)) else 0) * (show EReal from m (c.tc.loc main_arg1) (ix2 (row B k) (col g l)))
          + (show EReal from m (c.tc.loc main_arg3) (ix2 g y))) := by
  obtain ⟨n, r, rfl⟩ := exists_rowOf (n := 8) (k := 4) B
  have h := (dats m 0 c).arrAt_emb_eq_flushed 4 disjoint4 (pt n g) (flush0_4 (pt n g)) (ix2 (rowOf 4 128 r y) l)
  rw [show ((cfg0.win 4).blk (pt n g)).view.emb (ix2 (rowOf 4 128 r y) l) = ix2 (row (rowOf 8 4 n r) y) (col g l) from funext fun a => Fin.ext <| by
    obtain ⟨-, -, ⟨h0, h1⟩⟩ := rows_eq (pt n g)
    match a with
    | ⟨0, _⟩ => show win0_4.index (pt n g) 0 * 512 + 1 * (r.val * 128 + y.val) = (n.val * 4 + r.val) * 128 + y.val; rw [h0]; dsimp only; omega
    | ⟨1, _⟩ => show win0_4.index (pt n g) 1 * 768 + 1 * l.val = g.val * 768 + l.val; rw [h1]; dsimp only; omega] at h
  refine h.trans ((flushed_at m c _ r y l).trans ((duPart_at _ _ _ _ r y l).trans ?_))
  simp only [u_at, v_at, w_at, b_at]

end Cert.KernelMixfwdIdeal.Value

namespace Cert.ReferenceMixfwdIdeal.Read

open Gen Idealize.ShloMosaic TcCoe Idealize.SL.Sem
open KernelMixIdeal.Value (Kept row col)

variable (x0 : (⟨S4096x12288, .bf16⟩ : BufTy).Contents (Elt Ideal)) (x1 : (⟨S4096x6144, .bf16⟩ : BufTy).Contents (Elt Ideal))
  (x2 : (⟨S8x128x128, .f32⟩ : BufTy).Contents (Elt Ideal)) (x3 : (⟨S8x128, .f32⟩ : BufTy).Contents (Elt Ideal))

/-- The gate by row, the same as in the backward call's reference. -/
theorem gate_eq : val_main_v19 (F := Ideal) x1 x2 x3 = ReferenceMixIdeal.Read.val_main_v19 (F := Ideal) x1 x2 x3 := rfl

theorem v22_at (B : Fin 32) (y : Fin 128) (g : Fin 8) (l : Fin 768) : (val_main_v22 (F := Ideal) x0 x1 x2 x3 (ix2 (row B y) (col g l)) : EReal)
    = (x0 (ix2 (row B y) ⟨(col g l).val, by have := (col g l).isLt; omega⟩) : EReal)
      * (∑ k, (x1 (ix2 (row B k) (col g l)) : EReal) * (if Kept y k then (x2 (ix3 g y k) : EReal) else 0) + x3 (ix2 g y)) := by
  rw [← ReferenceMixIdeal.Read.v19_at, ← gate_eq]
  unfold val_main_v22 val_main_v21 val_main_v20 val_main_v1 val_main_v0
  pointwise
  exact congrArg (fun s : EReal => _ * s) (ReferenceMixIdeal.Read.at_block (val_main_v19 (F := Ideal) x1 x2 x3) B y g l)

end Cert.ReferenceMixfwdIdeal.Read

namespace Cert.Proof.Mixfwd

open Idealize.ShloMosaic TcCoe Idealize.SL.Sem KernelMixfwdIdeal.Value

theorem frame : quiescent_KernelMixfwd := fun m ρ _ => KernelMixfwd.Gen.frame m ρ
theorem frame_ideal : quiescent_KernelMixfwdIdeal := fun m ρ _ => KernelMixfwdIdeal.Gen.frame m ρ
theorem frame_reference : quiescent_ReferenceMixfwdIdeal := fun m ρ _ =>
  (θ_run _ _ _).mono (fun r h => ⟨fun c => (h c).2, sem_eq_zero_of_no_sems (by decide) r.2⟩) (ReferenceMixfwdIdeal.Value.run m ρ)

theorem preserves : preserves_KernelMixfwd_KernelMixfwdIdeal := trivial

/-- Both programs leave the gated half. -/
theorem algebraic : algebraic_KernelMixfwdIdeal_ReferenceMixfwdIdeal := by
  intro m ρ m' ρ' _ hm
  refine ⟨fun c => (KernelMixfwdIdeal.Gen.dats m 0 c).arrAt 4 KernelMixfwdIdeal.cfg0.N, run_blocks m ρ, ?_⟩
  refine (θ_run _ _ _).mono (fun r h c => ?_) (ReferenceMixfwdIdeal.Value.run m' ρ')
  obtain ⟨hr, hargs⟩ := h c
  obtain ⟨e0, e1, e2, e3⟩ := hm c
  refine ⟨hr.trans ((ReferenceMixfwdIdeal.Read.val_main_v22_eq _ _ _ _).trans ?_), hargs⟩
  rw [e0, e1, e2, e3]
  funext j
  obtain ⟨i, k, rfl⟩ := exists_ix2 j
  obtain ⟨B, y, rfl⟩ := exists_rowOf (n := 32) (k := 128) i
  obtain ⟨g, l, rfl⟩ := exists_rowOf (n := 8) (k := 768) k
  refine (ReferenceMixfwdIdeal.Read.v22_at _ _ _ _ B y g l).trans (Eq.trans ?_ (out_at m c B y g l).symm)
  exact congrArg (fun s : EReal => _ * s) (congrArg (fun s : EReal => s + _) (Finset.sum_congr rfl fun k _ => mul_comm _ _))

end Cert.Proof.Mixfwd

end
-- ==== Proof.ModnormForward.lean ====
/- The modulated norm's forward call against the norm written plainly: the result array entry by entry, and the five claims. -/
module

public import proofs.«01_k».proof.Defs
public import proofs.«01_k».proof.Proof.Gen.KernelModnormfwd.Frame
public import proofs.«01_k».proof.Proof.Gen.KernelModnormfwdIdeal.Value
public import proofs.«01_k».proof.Proof.Gen.ReferenceModnormfwdIdeal.Read
public import proofs.«01_k».proof.Proof.NormMath

@[expose] public section

noncomputable section

namespace Cert.KernelModnormfwdIdeal.Value

open Gen Idealize.ShloMosaic TcCoe Idealize.SL.Sem Norm
open Pipeline (Dat)

variable (m : (ℓ : Loc nD τ sig) → Buf (Elt Ideal) ℓ)

theorem index_eq : ∀ t : Fin cfg0.N,  (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by decide +kernel

/-- The grid point of block t. -/
abbrev pt (t : Fin 8) : Fin cfg0.N := ⟨t.val, by have : cfg0.N = 8 := N_0; omega⟩

theorem x_at (c : Dev nD) (t : Fin 8) (r : Fin 512) (l : Fin 2048) :
    iblk m c 0 (pt t) (ix2 r l) = m (c.tc.loc main_arg0) (ix2 (rowOf 8 512 t r) l) := by
  obtain ⟨⟨h0, h1⟩, -⟩ := index_eq (pt t)
  exact congrArg (m (c.tc.loc main_arg0)) (ix2_ext (in_block h0) (in_only h1))

theorem gain_row (c : Dev nD) (l : Fin 2048) : V m c main_v0 (ix2 0 l) = m (c.tc.loc main_arg1) (ix1 l) := by
  unfold V
  after_results
  pointwise

theorem gain_at (c : Dev nD) (t : Fin 8) (l : Fin 2048) : iblk m c 1 (pt t) (ix2 0 l) = m (c.tc.loc main_arg1) (ix1 l) := by
  obtain ⟨-, ⟨h0, h1⟩, -⟩ := index_eq (pt t)
  exact Eq.trans (congrArg (V m c main_v0) (ix2_ext (in_only h0) (in_only h1))) (gain_row m c l)

theorem scale_at (c : Dev nD) (t : Fin 8) (l : Fin 2048) : iblk m c 2 (pt t) (ix2 0 l) = m (c.tc.loc main_arg3) (ix2 0 l) := by
  obtain ⟨-, -, ⟨h0, h1⟩, -⟩ := index_eq (pt t)
  exact congrArg (m (c.tc.loc main_arg3)) (ix2_ext (in_only h0) (in_only h1))

theorem shift_at (c : Dev nD) (t : Fin 8) (l : Fin 2048) : iblk m c 3 (pt t) (ix2 0 l) = m (c.tc.loc main_arg2) (ix2 0 l) := by
  obtain ⟨-, -, -, ⟨h0, h1⟩, -⟩ := index_eq (pt t)
  exact congrArg (m (c.tc.loc main_arg2)) (ix2_ext (in_only h0) (in_only h1))

/-- What a point writes back. -/
theorem flushed_at (c : Dev nD) (p : Fin cfg0.N) (r : Fin 512) (l : Fin 2048) :
    (dats m 0 c).flushed 4 p (ix2 r l) = k0_pay1 (iblk m c 0 p) (iblk m c 1 p) (iblk m c 2 p) (iblk m c 3 p) (ix2 r l) := by
  rw [flushed4]
  unfold out0_4
  rw [View.canon_unit_zero hz]
  simp only [View.ld_unit_zero (S := S512x2048) hz, View.ld_unit_zero (S := S1x2048) hz]
  rfl

/-- The result at row i, lane l: the normalised entry times the gain, modulated. -/
theorem out_at (c : Dev nD) (i : Fin 4096) (l : Fin 2048) :
    (dats m 0 c).arrAt 4 cfg0.N (ix2 i l)
      = (show EReal from m (c.tc.loc main_arg0) (ix2 i l)) * Ideal.rsqrt (ms (fun n : Fin 2048 => (show EReal from m (c.tc.loc main_arg0) (ix2 i n))) 2048 eps)
          * (show EReal from m (c.tc.loc main_arg1) (ix1 l)) * (1 + (show EReal from m (c.tc.loc main_arg3) (ix2 0 l)))
        + (show EReal from m (c.tc.loc main_arg2) (ix2 0 l)) := by
  obtain ⟨t, r, rfl⟩ := exists_rowOf (n := 8) (k := 512) i
  have h := (dats m 0 c).arrAt_emb_eq_flushed 4 disjoint4 (pt t) (flush0_4 (pt t)) (ix2 r l)
  rw [show ((cfg0.win 4).blk (pt t)).view.emb (ix2 r l) = ix2 (rowOf 8 512 t r) l from by
    obtain ⟨-, -, -, -, ⟨h0, h1⟩⟩ := index_eq (pt t)
    exact ix2_ext (in_block h0) (in_only h1)] at h
  refine h.trans ?_
  rw [flushed_at]
  unfold k0_pay1
  pointwise
  simp only [x_at, gain_at, scale_at, shift_at]
  rw [ofBits_2048, ofBits_eps]
  rfl

end Cert.KernelModnormfwdIdeal.Value

namespace Cert.Proof.Modnormfwd

open Idealize.ShloMosaic TcCoe Idealize.SL.Sem KernelModnormfwdIdeal.Value Norm

theorem frame : quiescent_KernelModnormfwd := fun m ρ _ => KernelModnormfwd.Gen.frame m ρ
theorem frame_ideal : quiescent_KernelModnormfwdIdeal := fun m ρ _ => KernelModnormfwdIdeal.Gen.frame m ρ
theorem frame_reference : quiescent_ReferenceModnormfwdIdeal := fun m ρ _ =>
  (θ_run _ _ _).mono (fun r h => ⟨fun c => (h c).2, sem_eq_zero_of_no_sems (by decide) r.2⟩) (ReferenceModnormfwdIdeal.Value.run m ρ)

theorem preserves : preserves_KernelModnormfwd_KernelModnormfwdIdeal := trivial

/-- Both programs leave the modulated norm. -/
theorem algebraic : algebraic_KernelModnormfwdIdeal_ReferenceModnormfwdIdeal := by
  intro m ρ m' ρ' _ hm
  refine ⟨fun c => (KernelModnormfwdIdeal.Gen.dats m 0 c).arrAt 4 KernelModnormfwdIdeal.cfg0.N, run_blocks m ρ, ?_⟩
  refine (θ_run _ _ _).mono (fun r h c => ?_) (ReferenceModnormfwdIdeal.Value.run m' ρ')
  obtain ⟨hr, hargs⟩ := h c
  obtain ⟨e0, e1, e2, e3⟩ := hm c
  refine ⟨hr.trans ?_, hargs⟩
  rw [e0, e1, e2, e3]
  funext j
  obtain ⟨i, l, rfl⟩ := exists_ix2 j
  refine Eq.trans ?_ (out_at m c i l).symm
  pointwise
  rw [ofBits_2048, ofBits_eps]

end Cert.Proof.Modnormfwd

end
-- ==== Proof.LnForward.lean ====
/- The gated MLP's layer norm, forward, against the norm written plainly: the result array entry by entry, and the five claims. -/
module

public import proofs.«01_k».proof.Defs
public import proofs.«01_k».proof.Proof.Gen.KernelLnfwd.Frame
public import proofs.«01_k».proof.Proof.Gen.KernelLnfwdIdeal.Value
public import proofs.«01_k».proof.Proof.Gen.ReferenceLnfwdIdeal.Read
public import proofs.«01_k».proof.Proof.ActMath

@[expose] public section

noncomputable section

namespace Cert.KernelLnfwdIdeal.Value

open Gen Idealize.ShloMosaic TcCoe Idealize.SL.Sem Norm Cert.Act
open Pipeline (Dat)

variable (m : (ℓ : Loc nD τ sig) → Buf (Elt Ideal) ℓ)

/-- The columns of the half that is normalised. -/
abbrev right (l : Fin 6144) : Fin 12288 := ⟨6144 + l.val, by omega⟩

/-- The arguments, entry by entry: the half, the gain and the bias. -/
abbrev vv (c : Dev nD) (i : Fin 4096) (l : Fin 6144) : EReal := m (c.tc.loc main_arg0) (ix2 i (right l))
abbrev gv (c : Dev nD) (l : Fin 6144) : EReal := m (c.tc.loc main_arg1) (ix1 l)
abbrev bv (c : Dev nD) (l : Fin 6144) : EReal := m (c.tc.loc main_arg2) (ix1 l)

theorem index_eq : ∀ t : Fin cfg0.N,  (win0_0.index t 0 = t.val ∧ win0_0.index t 1 = 1) ∧ (win0_1.index t 0 = 0 ∧ win0_1.index t 1 = 0)
    ∧ (win0_2.index t 0 = 0 ∧ win0_2.index t 1 = 0) ∧ (win0_3.index t 0 = t.val ∧ win0_3.index t 1 = 0) := by decide +kernel

/-- The grid point of block t. -/
abbrev pt (t : Fin 16) : Fin cfg0.N := ⟨t.val, by have : cfg0.N = 16 := N_0; omega⟩

theorem v_at (c : Dev nD) (t : Fin 16) (r : Fin 256) (l : Fin 6144) : iblk m c 0 (pt t) (ix2 r l) = vv m c (rowOf 16 256 t r) l := by
  refine congrArg (m (c.tc.loc main_arg0)) (funext fun a => Fin.ext ?_)
  obtain ⟨⟨h0, h1⟩, -⟩ := index_eq (pt t)
  match a with
  | ⟨0, _⟩ => show win0_0.index (pt t) 0 * 256 + 1 * r.val = t.val * 256 + r.val; rw [h0]; dsimp only; omega
  | ⟨1, _⟩ => show win0_0.index (pt t) 1 * 6144 + 1 * l.val = 6144 + l.val; rw [h1]; omega

theorem gain_row (c : Dev nD) (l : Fin 6144) : V m c main_v0 (ix2 0 l) = gv m c l := by
  unfold V
  after_results
  pointwise

theorem bias_row (c : Dev nD) (l : Fin 6144) : V m c main_v1 (ix2 0 l) = bv m c l := by
  unfold V
  after_results
  pointwise

theorem gain_at (c : Dev nD) (t : Fin 16) (l : Fin 6144) : iblk m c 1 (pt t) (ix2 0 l) = gv m c l := by
  obtain ⟨-, ⟨h0, h1⟩, -⟩ := index_eq (pt t)
  exact Eq.trans (congrArg (V m c main_v0) (ix2_ext (in_only h0) (in_only h1))) (gain_row m c l)

theorem bias_at (c : Dev nD) (t : Fin 16) (l : Fin 6144) : iblk m c 2 (pt t) (ix2 0 l) = bv m c l := by
  obtain ⟨-, -, ⟨h0, h1⟩, -⟩ := index_eq (pt t)
  exact Eq.trans (congrArg (V m c main_v1) (ix2_ext (in_only h0) (in_only h1))) (bias_row m c l)

/-- What a point writes back. -/
theorem flushed_at (c : Dev nD) (p : Fin cfg0.N) (r : Fin 256) (l : Fin 6144) :
    (dats m 0 c).flushed 3 p (ix2 r l) = k0_pay1 (iblk m c 0 p) (iblk m c 1 p) (iblk m c 2 p) (ix2 r l) := by
  rw [flushed3]
  unfold out0_3
  rw [View.canon_unit_zero hz]
  simp only [View.ld_unit_zero (S := S256x6144) hz, View.ld_unit_zero (S := S1x6144) hz]
  rfl

/-- The result at row i, lane l: the entry less its row's mean, over the root of the row's variance, with the gain and the bias. -/
theorem out_at (c : Dev nD) (i : Fin 4096) (l : Fin 6144) :
    (dats m 0 c).arrAt 3 cfg0.N (ix2 i l)
      = dev (vv m c i) 6144 l * Ideal.rsqrt (ms (dev (vv m c i) 6144) 6144 eps) * gv m c l + bv m c l := by
  obtain ⟨t, r, rfl⟩ := exists_rowOf (n := 16) (k := 256) i
  have h := (dats m 0 c).arrAt_emb_eq_flushed 3 disjoint3 (pt t) (flush0_3 (pt t)) (ix2 r l)
  rw [show ((cfg0.win 3).blk (pt t)).view.emb (ix2 r l) = ix2 (rowOf 16 256 t r) l from by
    obtain ⟨-, -, -, ⟨h0, h1⟩⟩ := index_eq (pt t)
    exact ix2_ext (in_block h0) (in_only h1)] at h
  refine h.trans ?_
  rw [flushed_at]
  unfold k0_pay1
  pointwise
  simp only [v_at, gain_at, bias_at]
  rw [ofBits_6144, ofBits_eps]
  rfl

end Cert.KernelLnfwdIdeal.Value

namespace Cert.Proof.Lnfwd

open Idealize.ShloMosaic TcCoe Idealize.SL.Sem KernelLnfwdIdeal.Value Norm Cert.Act

theorem frame : quiescent_KernelLnfwd := fun m ρ _ => KernelLnfwd.Gen.frame m ρ
theorem frame_ideal : quiescent_KernelLnfwdIdeal := fun m ρ _ => KernelLnfwdIdeal.Gen.frame m ρ
theorem frame_reference : quiescent_ReferenceLnfwdIdeal := fun m ρ _ =>
  (θ_run _ _ _).mono (fun r h => ⟨fun c => (h c).2, sem_eq_zero_of_no_sems (by decide) r.2⟩) (ReferenceLnfwdIdeal.Value.run m ρ)

theorem preserves : preserves_KernelLnfwd_KernelLnfwdIdeal := trivial

/-- Both programs leave the layer norm of the second half. -/
theorem algebraic : algebraic_KernelLnfwdIdeal_ReferenceLnfwdIdeal := by
  intro m ρ m' ρ' _ hm
  refine ⟨fun c => (KernelLnfwdIdeal.Gen.dats m 0 c).arrAt 3 KernelLnfwdIdeal.cfg0.N, run_blocks m ρ, ?_⟩
  refine (θ_run _ _ _).mono (fun r h c => ?_) (ReferenceLnfwdIdeal.Value.run m' ρ')
  obtain ⟨hr, hargs⟩ := h c
  obtain ⟨e0, e1, e2⟩ := hm c
  refine ⟨hr.trans ?_, hargs⟩
  rw [e0, e1, e2]
  funext j
  obtain ⟨i, l, rfl⟩ := exists_ix2 j
  refine Eq.trans ?_ (out_at m c i l).symm
  pointwise
  rw [ofBits_6144, ofBits_eps]

end Cert.Proof.Lnfwd

end
-- ==== Proof.GatesForward.lean ====
/- The forget gates' forward call against the product, the bias and the logarithm of the logistic function written plainly: its two result arrays entry by entry, and the five claims. -/
module

public import proofs.«01_k».proof.Defs
public import proofs.«01_k».proof.Proof.Gen.KernelGatesfwd.Frame
public import proofs.«01_k».proof.Proof.Gen.KernelGatesfwdIdeal.Value
public import proofs.«01_k».proof.Proof.Gen.ReferenceGatesfwdIdeal.Read
public import proofs.«01_k».proof.Proof.RowSums
public import Idealize.ShloMosaic.Lib.KernelVsHost

@[expose] public section

noncomputable section

namespace Cert.KernelGatesfwdIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0) := by decide +kernel

/-- The grid point of block row t. -/
abbrev pt (t : Fin 4) : Fin cfg0.N := ⟨t.val, by have : cfg0.N = 4 := N_0; omega⟩

/-- The arguments, entry by entry: the input, and the weight and the bias with columns of zeros after the sixteen. -/
abbrev hv (c : Dev nD) (i : Fin 4096) (k : Fin 2048) : EReal := m (c.tc.loc main_arg0) (ix2 i k)
def wv (c : Dev nD) (k : Fin 2048) (l : Fin 128) : EReal := if h : l.val < 16 then m (c.tc.loc main_arg1) (ix2 k ⟨l.val, h⟩) else (0 : EReal)
def bv (c : Dev nD) (l : Fin 128) : EReal := if h : l.val < 16 then m (c.tc.loc main_arg2) (ix1 ⟨l.val, h⟩) else (0 : EReal)

/-- The gate's argument. -/
abbrev zv (c : Dev nD) (i : Fin 4096) (l : Fin 128) : EReal := (∑ k : Fin 2048, hv m c i k * wv m c k l) + bv m c l

theorem h_at (c : Dev nD) (t : Fin 4) (r : Fin 1024) (k : Fin 2048) : iblk m c 0 (pt t) (ix2 r k) = hv m c (rowOf 4 1024 t r) k := by
  obtain ⟨⟨h0, h1⟩, -⟩ := index_eq (pt t)
  exact congrArg (m (c.tc.loc main_arg0)) (ix2_ext (in_block h0) (in_only h1))

theorem pad_zero (j : S_.Idx) : (sitofp (F := Ideal) .f32 (constantI S_ 32 0#32) j : EReal) = 0 := by
  show ((((0#32 : BitVec 32).toInt : ℤ) : ℝ) : EReal) = 0
  norm_num

theorem w_rows (c : Dev nD) (k : Fin 2048) (l : Fin 128) : V m c main_v0 (ix2 k l) = wv m c k l := by
  have e : V m c main_v0 = pad S2048x128 ![0, 0] ![0, 112] ![0, 0] (m (c.tc.loc main_arg1)) (sitofp (F := Ideal) .f32 (constantI S_ 32 0#32)) pads_S2048x16_S2048x128_000_01120 h_S_ := by
    unfold V
    rfl
  rw [e]
  unfold wv
  by_cases h : l.val < 16
  · rw [dif_pos h]
    refine pad_apply_of_inside (s := S2048x16) (t := S2048x128) ![0, 0] ![0, 112] ![0, 0] (m (c.tc.loc main_arg1)) _
      pads_S2048x16_S2048x128_000_01120 h_S_ _ (ix2 k ⟨l.val, h⟩) fun a => ?_
    match a with
    | ⟨0, _⟩ => show k.val = 0 + k.val * 1; omega
    | ⟨1, _⟩ => show l.val = 0 + l.val * 1; omega
  · rw [dif_neg h]
    refine (pad_apply_of_not_inside (s := S2048x16) (t := S2048x128) ![0, 0] ![0, 112] ![0, 0] (m (c.tc.loc main_arg1)) _
      pads_S2048x16_S2048x128_000_01120 h_S_ (ix2 k l) (1 : Fin 2) ?_).trans (pad_zero _)
    show ¬(0 ≤ l.val ∧ (l.val - 0) % (0 + 1) = 0 ∧ (l.val - 0) / (0 + 1) < 16)
    omega

theorem b_row (c : Dev nD) (l : Fin 128) : V m c main_v2 (ix2 0 l) = bv m c l := by
  have e : V m c main_v2 = pad S1x128 ![0, 0] ![0, 112] ![0, 0] (shapeCast S1x16 (m (c.tc.loc main_arg2)) shapeCasts_S16_S1x16) (sitofp (F := Ideal) .f32 (constantI S_ 32 0#32)) pads_S1x16_S1x128_000_01120 h_S_ := by
    unfold V
    rfl
  rw [e]
  unfold bv
  by_cases h : l.val < 16
  · rw [dif_pos h]
    refine (pad_apply_of_inside (s := S1x16) (t := S1x128) ![0, 0] ![0, 112] ![0, 0] _ _
      pads_S1x16_S1x128_000_01120 h_S_ _ (ix2 0 ⟨l.val, h⟩) fun a => ?_).trans ?_
    · match a with
      | ⟨0, _⟩ => rfl
      | ⟨1, _⟩ => show l.val = 0 + l.val * 1; omega
    · pointwise
  · rw [dif_neg h]
    refine (pad_apply_of_not_inside (s := S1x16) (t := S1x128) ![0, 0] ![0, 112] ![0, 0] _ _
      pads_S1x16_S1x128_000_01120 h_S_ (ix2 0 l) (1 : Fin 2) ?_).trans (pad_zero _)
    show ¬(0 ≤ l.val ∧ (l.val - 0) % (0 + 1) = 0 ∧ (l.val - 0) / (0 + 1) < 16)
    omega

theorem w_at (c : Dev nD) (p : Fin cfg0.N) (k : Fin 2048) (l : Fin 128) : iblk m c 1 p (ix2 k l) = wv m c k l := by
  obtain ⟨-, ⟨h0, h1⟩, -⟩ := index_eq p
  exact Eq.trans (congrArg (V m c main_v0) (ix2_ext (in_only h0) (in_only h1))) (w_rows m c k l)

theorem b_at (c : Dev nD) (p : Fin cfg0.N) (l : Fin 128) : iblk m c 2 p (ix2 0 l) = bv m c l := by
  obtain ⟨-, -, ⟨h0, h1⟩, -⟩ := index_eq p
  exact Eq.trans (congrArg (V m c main_v2) (ix2_ext (in_only h0) (in_only h1))) (b_row m c l)

/-- What a point writes back to each result. -/
theorem flushed_z (c : Dev nD) (p : Fin cfg0.N) (r : Fin 1024) (l : Fin 128) :
    (dats m 0 c).flushed 3 p (ix2 r l) = k0_pay3 (iblk m c 0 p) (iblk m c 1 p) (iblk m c 2 p) (ix2 r l) := by
  rw [flushed3]
  unfold out0_3
  rw [View.canon_unit_zero hz]
  simp only [View.ld_unit_zero (S := S1024x2048) hz, View.ld_unit_zero (S := S2048x128) hz, View.ld_unit_zero (S := S1x128) hz]
  rfl

theorem flushed_g (c : Dev nD) (p : Fin cfg0.N) (r : Fin 1024) (l : Fin 128) :
    (dats m 0 c).flushed 4 p (ix2 r l) = k0_pay4 (iblk m c 0 p) (iblk m c 1 p) (iblk m c 2 p) (ix2 r l) := by
  rw [flushed4]
  unfold out0_4
  rw [View.canon_unit_zero hz]
  simp only [View.ld_unit_zero (S := S1024x2048) hz, View.ld_unit_zero (S := S2048x128) hz, View.ld_unit_zero (S := S1x128) hz]
  rfl

theorem arg_at (c : Dev nD) (t : Fin 4) (r : Fin 1024) (l : Fin 128) :
    (k0_pay3 (F := Ideal) (iblk m c 0 (pt t)) (iblk m c 1 (pt t)) (iblk m c 2 (pt t)) (ix2 r l) : EReal) = zv m c (rowOf 4 1024 t r) l := by
  unfold k0_pay3 k0_pay1 k0_pay2
  pointwise
  simp only [h_at, w_at, b_at]

/-- The logarithm of the logistic function, as both programs write it. -/
def logSigmoid (z : EReal) : EReal := -(max (-z) 0 + Ideal.log1p (Ideal.exp (-(FloatOps.absf (F := Ideal) (φ := .f32) (-z) : EReal))))

theorem z_at (c : Dev nD) (i : Fin 4096) (l : Fin 128) : (dats m 0 c).arrAt 3 cfg0.N (ix2 i l) = zv m c i l := by
  obtain ⟨t, r, rfl⟩ := exists_rowOf (n := 4) (k := 1024) i
  have h := (dats m 0 c).arrAt_emb_eq_flushed 3 disjoint3 (pt t) (flush0_3 (pt t)) (ix2 r l)
  rw [show ((cfg0.win 3).blk (pt t)).view.emb (ix2 r l) = ix2 (rowOf 4 1024 t r) l from by
    obtain ⟨-, -, -, ⟨h0, h1⟩, -⟩ := index_eq (pt t)
    exact ix2_ext (in_block h0) (in_only h1)] at h
  exact h.trans ((flushed_z m c _ r l).trans (arg_at m c t r l))

theorem g_at (c : Dev nD) (i : Fin 4096) (l : Fin 128) : (dats m 0 c).arrAt 4 cfg0.N (ix2 i l) = logSigmoid (zv m c i l) := by
  obtain ⟨t, r, rfl⟩ := exists_rowOf (n := 4) (k := 1024) i
  have h := (dats m 0 c).arrAt_emb_eq_flushed 4 disjoint4 (pt t) (flush0_4 (pt t)) (ix2 r l)
  rw [show ((cfg0.win 4).blk (pt t)).view.emb (ix2 r l) = ix2 (rowOf 4 1024 t r) l from by
    obtain ⟨-, -, -, -, ⟨h0, h1⟩⟩ := index_eq (pt t)
    exact ix2_ext (in_block h0) (in_only h1)] at h
  refine h.trans ((flushed_g m c _ r l).trans ?_)
  rw [← arg_at]
  unfold k0_pay3 k0_pay4
  generalize k0_pay1 (F := Ideal) (iblk m c 0 (pt t)) (iblk m c 1 (pt t)) = x
  generalize k0_pay2 (F := Ideal) (iblk m c 2 (pt t)) = y
  pointwise
  unfold logSigmoid
  simp only [zero_sub, ne_eq, not_true_eq_false, if_false]

end Cert.KernelGatesfwdIdeal.Value

namespace Cert.ReferenceGatesfwdIdeal.Read

open Gen Idealize.ShloMosaic TcCoe Idealize.SL.Sem
open KernelGatesfwdIdeal.Value (logSigmoid pad_zero)

variable (x0 : (⟨S4096x2048, .bf16⟩ : BufTy).Contents (Elt Ideal)) (x1 : (⟨S2048x16, .f32⟩ : BufTy).Contents (Elt Ideal)) (x2 : (⟨S16, .f32⟩ : BufTy).Contents (Elt Ideal))

/-- The gate's argument in the sixteen columns, and the zero after them. -/
theorem v5_inside (i : Fin 4096) (l : Fin 128) (h : l.val < 16) : val_main_v5 (F := Ideal) x0 x1 x2 (ix2 i l)
    = (∑ k : Fin 2048, (x0 (ix2 i k) : EReal) * (x1 (ix2 k ⟨l.val, h⟩) : EReal)) + (x2 (ix1 ⟨l.val, h⟩) : EReal) := by
  unfold val_main_v5
  refine (pad_apply_of_inside (s := S4096x16) (t := S4096x128) ![0, 0] ![0, 112] ![0, 0] _ _
    pads_S4096x16_S4096x128_000_01120 h_S_ _ (ix2 i ⟨l.val, h⟩) fun a => ?_).trans ?_
  · match a with
    | ⟨0, _⟩ => show i.val = 0 + i.val * 1; omega
    | ⟨1, _⟩ => show l.val = 0 + l.val * 1; omega
  · unfold val_main_v4 val_main_v3 val_main_v2 val_main_v1 val_main_v0
    pointwise

theorem v5_outside (i : Fin 4096) (l : Fin 128) (h : ¬l.val < 16) : val_main_v5 (F := Ideal) x0 x1 x2 (ix2 i l) = (0 : EReal) := by
  unfold val_main_v5 val_main_call0_v0 val_main_c
  refine (pad_apply_of_not_inside (s := S4096x16) (t := S4096x128) ![0, 0] ![0, 112] ![0, 0] _ _
    pads_S4096x16_S4096x128_000_01120 h_S_ (ix2 i l) (1 : Fin 2) ?_).trans (pad_zero _)
  show ¬(0 ≤ l.val ∧ (l.val - 0) % (0 + 1) = 0 ∧ (l.val - 0) / (0 + 1) < 16)
  omega

theorem v6_at (j : S4096x128.Idx) : val_main_v6 (F := Ideal) x0 x1 x2 j = logSigmoid (val_main_v5 (F := Ideal) x0 x1 x2 j) := by
  unfold val_main_v6 val_main_call1_v1 val_main_call1_call0_v11 val_main_call1_call0_v10 val_main_call1_call0_v9 val_main_call1_call0_v8 val_main_call1_call0_v7
    val_main_call1_call0_v6 val_main_call1_call0_v5 val_main_call1_call0_v4 val_main_call1_call0_v3 val_main_call1_call0_v2 val_main_call1_call0_v1 val_main_call1_call0_v0
    val_main_call1_call0_cst val_main_call1_v0
  generalize val_main_v5 (F := Ideal) x0 x1 x2 = z
  obtain ⟨i, l, rfl⟩ := exists_ix2 j
  pointwise
  exact congrArg (- ·) (if_neg fun h => h rfl)

end Cert.ReferenceGatesfwdIdeal.Read

namespace Cert.Proof.Gatesfwd

open Idealize.ShloMosaic TcCoe Idealize.SL.Sem KernelGatesfwdIdeal.Value

theorem frame : quiescent_KernelGatesfwd := fun m ρ _ => KernelGatesfwd.Gen.frame m ρ
theorem frame_ideal : quiescent_KernelGatesfwdIdeal := fun m ρ _ => KernelGatesfwdIdeal.Gen.frame m ρ
theorem frame_reference : quiescent_ReferenceGatesfwdIdeal := fun m ρ _ =>
  (θ_run _ _ _).mono (fun r h => ⟨fun c => (h c).2.2, sem_eq_zero_of_no_sems (by decide) r.2⟩) (ReferenceGatesfwdIdeal.Value.run m ρ)

theorem preserves : preserves_KernelGatesfwd_KernelGatesfwdIdeal := trivial

/-- Both programs leave the gate's argument and the logarithm of the gate. -/
theorem algebraic : algebraic_KernelGatesfwdIdeal_ReferenceGatesfwdIdeal := by
  intro m ρ m' ρ' _ hm
  refine ⟨fun c => (KernelGatesfwdIdeal.Gen.dats m 0 c).arrAt 3 KernelGatesfwdIdeal.cfg0.N,
    fun c => (KernelGatesfwdIdeal.Gen.dats m 0 c).arrAt 4 KernelGatesfwdIdeal.cfg0.N, run_blocks m ρ, ?_⟩
  refine (θ_run _ _ _).mono (fun r h c => ?_) (ReferenceGatesfwdIdeal.Value.run m' ρ')
  obtain ⟨hr, hs, hargs⟩ := h c
  obtain ⟨e0, e1, e2⟩ := hm c
  have arg : ∀ (i : Fin 4096) (l : Fin 128), ReferenceGatesfwdIdeal.Read.val_main_v5 (F := Ideal) (m (c.tc.loc KernelGatesfwdIdeal.main_arg0))
      (m (c.tc.loc KernelGatesfwdIdeal.main_arg1)) (m (c.tc.loc KernelGatesfwdIdeal.main_arg2)) (ix2 i l) = zv m c i l := by
    intro i l
    by_cases h : l.val < 16
    · refine (ReferenceGatesfwdIdeal.Read.v5_inside _ _ _ i l h).trans ?_
      unfold zv wv bv
      simp only [dif_pos h]
    · refine (ReferenceGatesfwdIdeal.Read.v5_outside _ _ _ i l h).trans ?_
      unfold zv wv bv
      simp only [dif_neg h, mul_zero, Finset.sum_const_zero, add_zero]
  refine ⟨hr.trans ?_, hs.trans ?_, hargs⟩
  · rw [ReferenceGatesfwdIdeal.Read.val_main_v5_eq, e0, e1, e2]
    funext j
    obtain ⟨i, l, rfl⟩ := exists_ix2 j
    exact (arg i l).trans (z_at m c i l).symm
  · rw [ReferenceGatesfwdIdeal.Read.val_main_v6_eq, e0, e1, e2]
    funext j
    obtain ⟨i, l, rfl⟩ := exists_ix2 j
    exact ((ReferenceGatesfwdIdeal.Read.v6_at _ _ _ _).trans (congrArg logSigmoid (arg i l))).trans (g_at m c i l).symm

end Cert.Proof.Gatesfwd

end
-- ==== Proof.GeluupClaims.lean ====
/- The gated branch's forward projection and activation against them written plainly: its two result arrays entry by entry, and the five claims. -/
module

public import proofs.«01_k».proof.Defs
public import proofs.«01_k».proof.Proof.Gen.KernelGeluup.Frame
public import proofs.«01_k».proof.Proof.Gen.KernelGeluupIdeal.Value
public import proofs.«01_k».proof.Proof.Gen.ReferenceGeluupIdeal.Read
public import proofs.«01_k».proof.Proof.ActMath

@[expose] public section

noncomputable section

namespace Cert.KernelGeluupIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = t.val / 12 ∧ win0_0.index t 1 = 0)
    ∧ (win0_1.index t 0 = t.val % 12 / 3 ∧ win0_1.index t 1 = 0 ∧ win0_1.index t 2 = t.val % 3)
    ∧ (win0_2.index t 0 = t.val / 12 ∧ win0_2.index t 1 = t.val % 12) ∧ (win0_3.index t 0 = t.val / 12 ∧ win0_3.index t 1 = t.val % 12) := by decide +kernel

/-- The grid point of block row t and block column u. -/
abbrev pt (t : Fin 4) (u : Fin 12) : Fin cfg0.N := ⟨t.val * 12 + u.val, by have : cfg0.N = 48 := N_0; omega⟩

/-- The arguments, entry by entry: the normed input and the weight. -/
abbrev hv (c : Dev nD) (i : Fin 4096) (k : Fin 2048) : EReal := m (c.tc.loc main_arg0) (ix2 i k)
abbrev wv (c : Dev nD) (k : Fin 2048) (l : Fin 12288) : EReal := m (c.tc.loc main_arg1) (ix2 k l)

theorem h_at (c : Dev nD) (t : Fin 4) (u : Fin 12) (r : Fin 1024) (k : Fin 2048) :
    iblk m c 0 (pt t u) (ix2 r k) = hv m c (rowOf 4 1024 t r) k := by
  obtain ⟨⟨h0, h1⟩, -⟩ := index_eq (pt t u)
  exact congrArg (m (c.tc.loc main_arg0)) (ix2_ext (in_block (h0.trans (by dsimp only; omega))) (in_only h1))

/-- The host lays the weight out in four blocks of columns. -/
theorem w_rows (c : Dev nD) (p : Fin 4) (k : Fin 2048) (q : Fin 3072) : V m c main_v1 (ix3 p k q) = wv m c k (rowOf 4 3072 p q) := by
  unfold V
  after_results
  pointwise
  refine congrArg (m (c.tc.loc main_arg1)) (funext fun a => Fin.ext ?_)
  match a with
  | ⟨0, _⟩ => rfl
  | ⟨1, _⟩ => rfl

theorem w_at (c : Dev nD) (t : Fin 4) (u : Fin 12) (k : Fin 2048) (s : Fin 1024) :
    iblk m c 1 (pt t u) (ix3 0 k s) = wv m c k (rowOf 12 1024 u s) := by
  obtain ⟨-, ⟨h0, h1, h2⟩, -⟩ := index_eq (pt t u)
  refine Eq.trans (congrArg (V m c main_v1) (funext fun a => Fin.ext ?_)) ((w_rows m c ⟨u.val / 3, by omega⟩ k ⟨u.val % 3 * 1024 + s.val, by omega⟩).trans
    (congrArg (wv m c k) (Fin.ext (show u.val / 3 * 3072 + (u.val % 3 * 1024 + s.val) = u.val * 1024 + s.val by omega))))
  match a with
  | ⟨0, _⟩ => show win0_1.index (pt t u) 0 * 1 + 1 * 0 = u.val / 3; rw [h0]; dsimp only; omega
  | ⟨1, _⟩ => show win0_1.index (pt t u) 1 * 2048 + 1 * k.val = k.val; rw [h1]; omega
  | ⟨2, _⟩ => show win0_1.index (pt t u) 2 * 1024 + 1 * s.val = u.val % 3 * 1024 + s.val; rw [h2]; dsimp only; omega

/-- What a point writes back to each result. -/
theorem flushed_a (c : Dev nD) (p : Fin cfg0.N) (r s : Fin 1024) :
    (dats m 0 c).flushed 2 p (ix2 r s) = k0_pay2 (iblk m c 0 p) (iblk m c 1 p) (ix2 r s) := by
  rw [flushed2]
  unfold out0_2
  rw [View.canon_unit_zero hz]
  simp only [View.ld_unit_zero (S := S1024x2048) hz, View.ld_unit_zero (S := S1x2048x1024) hz3]
  rfl

theorem flushed_s (c : Dev nD) (p : Fin cfg0.N) (r s : Fin 1024) :
    (dats m 0 c).flushed 3 p (ix2 r s) = k0_pay3 (iblk m c 0 p) (iblk m c 1 p) (ix2 r s) := by
  rw [flushed3]
  unfold out0_3
  rw [View.canon_unit_zero hz]
  simp only [View.ld_unit_zero (S := S1024x2048) hz, View.ld_unit_zero (S := S1x2048x1024) hz3]
  rfl

theorem pay_at (c : Dev nD) (t : Fin 4) (u : Fin 12) (r s : Fin 1024) :
    (k0_pay1 (F := Ideal) (iblk m c 0 (pt t u)) (iblk m c 1 (pt t u)) (ix2 r s) : EReal)
      = ∑ k : Fin 2048, hv m c (rowOf 4 1024 t r) k * wv m c k (rowOf 12 1024 u s) := by
  unfold k0_pay1
  pointwise
  simp only [h_at, w_at]

theorem a_at (c : Dev nD) (i : Fin 4096) (l : Fin 12288) :
    (dats m 0 c).arrAt 2 cfg0.N (ix2 i l) = ∑ k : Fin 2048, hv m c i k * wv m c k l := by
  obtain ⟨t, r, rfl⟩ := exists_rowOf (n := 4) (k := 1024) i
  obtain ⟨u, s, rfl⟩ := exists_rowOf (n := 12) (k := 1024) l
  have h := (dats m 0 c).arrAt_emb_eq_flushed 2 disjoint2 (pt t u) (flush0_2 (pt t u)) (ix2 r s)
  rw [show ((cfg0.win 2).blk (pt t u)).view.emb (ix2 r s) = ix2 (rowOf 4 1024 t r) (rowOf 12 1024 u s) from by
    obtain ⟨-, -, ⟨h0, h1⟩, -⟩ := index_eq (pt t u)
    exact ix2_ext (in_block (h0.trans (by dsimp only; omega))) (in_block (h1.trans (by dsimp only; omega)))] at h
  refine h.trans ((flushed_a m c _ r s).trans (Eq.trans ?_ (pay_at m c t u r s)))
  unfold k0_pay2
  pointwise

/-- The second result: the product activated. -/
theorem s_at (c : Dev nD) (i : Fin 4096) (l : Fin 12288) :
    (dats m 0 c).arrAt 3 cfg0.N (ix2 i l) = Act.gelu (∑ k : Fin 2048, hv m c i k * wv m c k l) := by
  obtain ⟨t, r, rfl⟩ := exists_rowOf (n := 4) (k := 1024) i
  obtain ⟨u, s, rfl⟩ := exists_rowOf (n := 12) (k := 1024) l
  have h := (dats m 0 c).arrAt_emb_eq_flushed 3 disjoint3 (pt t u) (flush0_3 (pt t u)) (ix2 r s)
  rw [show ((cfg0.win 3).blk (pt t u)).view.emb (ix2 r s) = ix2 (rowOf 4 1024 t r) (rowOf 12 1024 u s) from by
    obtain ⟨-, -, -, ⟨h0, h1⟩⟩ := index_eq (pt t u)
    exact ix2_ext (in_block (h0.trans (by dsimp only; omega))) (in_block (h1.trans (by dsimp only; omega)))] at h
  refine h.trans ((flushed_s m c _ r s).trans ?_)
  rw [← pay_at]
  unfold k0_pay3
  pointwise
  rw [Act.ofBits_half]
  generalize k0_pay1 (F := Ideal) (iblk m c 0 (pt t u)) (iblk m c 1 (pt t u)) (ix2 r s) = z
  exact (congrArg (· * (1 + Ideal.erf ((z : EReal) * (Act.rt : EReal)))) (mul_comm ((1 / 2 : ℝ) : EReal) (z : EReal))).trans (mul_assoc _ _ _)

end Cert.KernelGeluupIdeal.Value

namespace Cert.Proof.Geluup

open Idealize.ShloMosaic TcCoe Idealize.SL.Sem KernelGeluupIdeal.Value

theorem frame : quiescent_KernelGeluup := fun m ρ _ => KernelGeluup.Gen.frame m ρ
theorem frame_ideal : quiescent_KernelGeluupIdeal := fun m ρ _ => KernelGeluupIdeal.Gen.frame m ρ
theorem frame_reference : quiescent_ReferenceGeluupIdeal := fun m ρ _ =>
  (θ_run _ _ _).mono (fun r h => ⟨fun c => (h c).2.2, sem_eq_zero_of_no_sems (by decide) r.2⟩) (ReferenceGeluupIdeal.Value.run m ρ)

theorem preserves : preserves_KernelGeluup_KernelGeluupIdeal := IdealRules.named_const.statement _ _ _ _ _ rfl

/-- Both programs leave the product and its activation. -/
theorem algebraic : algebraic_KernelGeluupIdeal_ReferenceGeluupIdeal := by
  intro m ρ m' ρ' _ hm
  refine ⟨fun c => (KernelGeluupIdeal.Gen.dats m 0 c).arrAt 2 KernelGeluupIdeal.cfg0.N,
    fun c => (KernelGeluupIdeal.Gen.dats m 0 c).arrAt 3 KernelGeluupIdeal.cfg0.N, run_blocks m ρ, ?_⟩
  refine (θ_run _ _ _).mono (fun r h c => ?_) (ReferenceGeluupIdeal.Value.run m' ρ')
  obtain ⟨hr, hs, hargs⟩ := h c
  obtain ⟨e0, e1⟩ := hm c
  refine ⟨hr.trans ?_, hs.trans ?_, hargs⟩
  · rw [e0, e1]
    funext j
    obtain ⟨i, l, rfl⟩ := exists_ix2 j
    refine Eq.trans ?_ (a_at m c i l).symm
    pointwise
  · rw [e0, e1]
    funext j
    obtain ⟨i, l, rfl⟩ := exists_ix2 j
    refine Eq.trans ?_ (s_at m c i l).symm
    rw [← Act.gelu_erfc]
    pointwise
    rw [Act.ofBits_half, Act.ofBits_two, Act.rsqrt_two]

end Cert.Proof.Geluup

end
-- ==== Proof.UpForward.lean ====
/- The up-projection's forward call against the product written plainly: its two result arrays entry by entry, and the five claims. -/
module

public import proofs.«01_k».proof.Defs
public import proofs.«01_k».proof.Proof.Gen.KernelUpfwd.Frame
public import proofs.«01_k».proof.Proof.Gen.KernelUpfwdIdeal.Value
public import proofs.«01_k».proof.Proof.Gen.ReferenceUpfwdIdeal.Read
public import proofs.«01_k».proof.Proof.RowSums

@[expose] public section

noncomputable section

namespace Cert.KernelUpfwdIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = t.val / 8 ∧ win0_0.index t 1 = 0)
    ∧ (win0_1.index t 0 = t.val % 8 / 2 ∧ win0_1.index t 1 = 0 ∧ win0_1.index t 2 = t.val % 2)
    ∧ (win0_2.index t 0 = t.val / 8 ∧ win0_2.index t 1 = t.val % 8) ∧ (win0_3.index t 0 = t.val / 8 ∧ win0_3.index t 1 = t.val % 8) := by decide +kernel

/-- The grid point of block row t and block column u. -/
abbrev pt (t : Fin 4) (u : Fin 8) : Fin cfg0.N := ⟨t.val * 8 + u.val, by have : cfg0.N = 32 := N_0; omega⟩

/-- The arguments, entry by entry: the normed input and the weight. -/
abbrev hv (c : Dev nD) (i : Fin 4096) (k : Fin 2048) : EReal := m (c.tc.loc main_arg0) (ix2 i k)
abbrev wv (c : Dev nD) (k : Fin 2048) (l : Fin 8192) : EReal := m (c.tc.loc main_arg1) (ix2 k l)

theorem h_at (c : Dev nD) (t : Fin 4) (u : Fin 8) (r : Fin 1024) (k : Fin 2048) :
    iblk m c 0 (pt t u) (ix2 r k) = hv m c (rowOf 4 1024 t r) k := by
  obtain ⟨⟨h0, h1⟩, -⟩ := index_eq (pt t u)
  exact congrArg (m (c.tc.loc main_arg0)) (ix2_ext (in_block (h0.trans (by dsimp only; omega))) (in_only h1))

/-- The host lays the weight out in four blocks of columns. -/
theorem w_rows (c : Dev nD) (p : Fin 4) (k q : Fin 2048) : V m c main_v1 (ix3 p k q) = wv m c k (rowOf 4 2048 p q) := by
  unfold V
  after_results
  pointwise
  refine congrArg (m (c.tc.loc main_arg1)) (funext fun a => Fin.ext ?_)
  match a with
  | ⟨0, _⟩ => rfl
  | ⟨1, _⟩ => rfl

theorem w_at (c : Dev nD) (t : Fin 4) (u : Fin 8) (k : Fin 2048) (s : Fin 1024) :
    iblk m c 1 (pt t u) (ix3 0 k s) = wv m c k (rowOf 8 1024 u s) := by
  obtain ⟨-, ⟨h0, h1, h2⟩, -⟩ := index_eq (pt t u)
  refine Eq.trans (congrArg (V m c main_v1) (funext fun a => Fin.ext ?_)) ((w_rows m c ⟨u.val / 2, by omega⟩ k ⟨u.val % 2 * 1024 + s.val, by omega⟩).trans
    (congrArg (wv m c k) (Fin.ext (show u.val / 2 * 2048 + (u.val % 2 * 1024 + s.val) = u.val * 1024 + s.val by omega))))
  match a with
  | ⟨0, _⟩ => show win0_1.index (pt t u) 0 * 1 + 1 * 0 = u.val / 2; rw [h0]; dsimp only; omega
  | ⟨1, _⟩ => show win0_1.index (pt t u) 1 * 2048 + 1 * k.val = k.val; rw [h1]; omega
  | ⟨2, _⟩ => show win0_1.index (pt t u) 2 * 1024 + 1 * s.val = u.val % 2 * 1024 + s.val; rw [h2]; dsimp only; omega

/-- What a point writes back to each result. -/
theorem flushed_a (c : Dev nD) (p : Fin cfg0.N) (r s : Fin 1024) :
    (dats m 0 c).flushed 2 p (ix2 r s) = k0_pay2 (iblk m c 0 p) (iblk m c 1 p) (ix2 r s) := by
  rw [flushed2]
  unfold out0_2
  rw [View.canon_unit_zero hz]
  simp only [View.ld_unit_zero (S := S1024x2048) hz, View.ld_unit_zero (S := S1x2048x1024) hz3]
  rfl

theorem flushed_s (c : Dev nD) (p : Fin cfg0.N) (r s : Fin 1024) :
    (dats m 0 c).flushed 3 p (ix2 r s) = k0_pay3 (iblk m c 0 p) (iblk m c 1 p) (ix2 r s) := by
  rw [flushed3]
  unfold out0_3
  rw [View.canon_unit_zero hz]
  simp only [View.ld_unit_zero (S := S1024x2048) hz, View.ld_unit_zero (S := S1x2048x1024) hz3]
  rfl

theorem pay_at (c : Dev nD) (t : Fin 4) (u : Fin 8) (r s : Fin 1024) :
    (k0_pay1 (F := Ideal) (iblk m c 0 (pt t u)) (iblk m c 1 (pt t u)) (ix2 r s) : EReal)
      = ∑ k : Fin 2048, hv m c (rowOf 4 1024 t r) k * wv m c k (rowOf 8 1024 u s) := by
  unfold k0_pay1
  pointwise
  simp only [h_at, w_at]

theorem a_at (c : Dev nD) (i : Fin 4096) (l : Fin 8192) :
    (dats m 0 c).arrAt 2 cfg0.N (ix2 i l) = ∑ k : Fin 2048, hv m c i k * wv m c k l := by
  obtain ⟨t, r, rfl⟩ := exists_rowOf (n := 4) (k := 1024) i
  obtain ⟨u, s, rfl⟩ := exists_rowOf (n := 8) (k := 1024) l
  have h := (dats m 0 c).arrAt_emb_eq_flushed 2 disjoint2 (pt t u) (flush0_2 (pt t u)) (ix2 r s)
  rw [show ((cfg0.win 2).blk (pt t u)).view.emb (ix2 r s) = ix2 (rowOf 4 1024 t r) (rowOf 8 1024 u s) from by
    obtain ⟨-, -, ⟨h0, h1⟩, -⟩ := index_eq (pt t u)
    exact ix2_ext (in_block (h0.trans (by dsimp only; omega))) (in_block (h1.trans (by dsimp only; omega)))] at h
  refine h.trans ((flushed_a m c _ r s).trans (Eq.trans ?_ (pay_at m c t u r s)))
  unfold k0_pay2
  pointwise

/-- The second result: the square of the product's positive part. -/
theorem s_at (c : Dev nD) (i : Fin 4096) (l : Fin 8192) :
    (dats m 0 c).arrAt 3 cfg0.N (ix2 i l) = max (∑ k : Fin 2048, hv m c i k * wv m c k l) 0 * max (∑ k : Fin 2048, hv m c i k * wv m c k l) 0 := by
  obtain ⟨t, r, rfl⟩ := exists_rowOf (n := 4) (k := 1024) i
  obtain ⟨u, s, rfl⟩ := exists_rowOf (n := 8) (k := 1024) l
  have h := (dats m 0 c).arrAt_emb_eq_flushed 3 disjoint3 (pt t u) (flush0_3 (pt t u)) (ix2 r s)
  rw [show ((cfg0.win 3).blk (pt t u)).view.emb (ix2 r s) = ix2 (rowOf 4 1024 t r) (rowOf 8 1024 u s) from by
    obtain ⟨-, -, -, ⟨h0, h1⟩⟩ := index_eq (pt t u)
    exact ix2_ext (in_block (h0.trans (by dsimp only; omega))) (in_block (h1.trans (by dsimp only; omega)))] at h
  refine h.trans ((flushed_s m c _ r s).trans ?_)
  rw [← pay_at]
  unfold k0_pay3
  pointwise

end Cert.KernelUpfwdIdeal.Value

namespace Cert.Proof.Upfwd

open Idealize.ShloMosaic TcCoe Idealize.SL.Sem KernelUpfwdIdeal.Value

theorem frame : quiescent_KernelUpfwd := fun m ρ _ => KernelUpfwd.Gen.frame m ρ
theorem frame_ideal : quiescent_KernelUpfwdIdeal := fun m ρ _ => KernelUpfwdIdeal.Gen.frame m ρ
theorem frame_reference : quiescent_ReferenceUpfwdIdeal := fun m ρ _ =>
  (θ_run _ _ _).mono (fun r h => ⟨fun c => (h c).2.2, sem_eq_zero_of_no_sems (by decide) r.2⟩) (ReferenceUpfwdIdeal.Value.run m ρ)

theorem preserves : preserves_KernelUpfwd_KernelUpfwdIdeal := trivial

/-- Both programs leave the product and its squared positive part. -/
theorem algebraic : algebraic_KernelUpfwdIdeal_ReferenceUpfwdIdeal := by
  intro m ρ m' ρ' _ hm
  refine ⟨fun c => (KernelUpfwdIdeal.Gen.dats m 0 c).arrAt 2 KernelUpfwdIdeal.cfg0.N,
    fun c => (KernelUpfwdIdeal.Gen.dats m 0 c).arrAt 3 KernelUpfwdIdeal.cfg0.N, run_blocks m ρ, ?_⟩
  refine (θ_run _ _ _).mono (fun r h c => ?_) (ReferenceUpfwdIdeal.Value.run m' ρ')
  obtain ⟨hr, hs, hargs⟩ := h c
  obtain ⟨e0, e1⟩ := hm c
  refine ⟨hr.trans ?_, hs.trans ?_, hargs⟩
  · rw [e0, e1]
    funext j
    obtain ⟨i, l, rfl⟩ := exists_ix2 j
    refine Eq.trans ?_ (a_at m c i l).symm
    pointwise
  · rw [e0, e1]
    funext j
    obtain ⟨i, l, rfl⟩ := exists_ix2 j
    refine Eq.trans ?_ (s_at m c i l).symm
    pointwise

end Cert.Proof.Upfwd

end
-- ==== Proof.HeadForward.lean ====
/- The norm of eight heads' columns over a block of 1024 rows, forward: the operations once for the eight heads, and what they are at an entry. -/
module

public import proofs.«01_k».proof.Proof.NormMath
public import Idealize.ShloMosaic.Lib.Pointwise
public import Idealize.ShloMosaic.Lib.Pipeline.Value
public import Idealize.ShloMosaic.Lib.Tactic

@[expose] public section

noncomputable section

namespace Cert.HeadForward

open Idealize.ShloMosaic Idealize.SL.Sem Norm

abbrev Block : Shape := ⟨2, ![1024, 1024]⟩
abbrev Head : Shape := ⟨2, ![1024, 128]⟩
abbrev Col : Shape := ⟨2, ![1024, 1]⟩
abbrev Row : Shape := ⟨2, ![1, 128]⟩
abbrev Rows : Shape := ⟨1, ![1024]⟩

section

variable {F : FTy → Type} [FloatOps F]

theorem slices (h : Fin 8) : Block.Slices ![0, h.val * 128] Head := by revert h; decide

/-- The columns of one head. -/
def cut (h : Fin 8) (x : FVec F Block .f32) : FVec F Head .f32 := extractStridedSlice Head ![0, h.val * 128] x (slices h)

/-- The reciprocal root of the mean square over a head's columns. -/
def root (x : FVec F Head .f32) : FVec F Col .f32 :=
  rsqrt (addf (divf (shapeCast Col (multiReduction .add [1] Rows (mulf x x) 0x00000000#32 (by decide) (.inl rfl) rfl) (by decide))
    (broadcast Col (Scalar.ofBits .f32 0x43000000#32))) (broadcast Col (Scalar.ofBits .f32 0x358637BD#32)))

/-- The head normed, with the gain. -/
def norm (g : FVec F Row .f32) (x : FVec F Head .f32) : FVec F Head .f32 :=
  mulf (mulf x (broadcastTo Head (root x) (by decide))) (broadcastTo Head g (by decide))

theorem concatenates (f : Fin 8 → FVec F Head .f32) :
    Shape.Concatenates ((List.ofFn fun h : Fin 8 => (⟨Head, f h⟩ : (s : Shape) × (s.Idx → F .f32))).map (·.1)) Block 1 := by
  rw [List.map_ofFn]
  exact (by decide : Shape.Concatenates (List.ofFn fun _ : Fin 8 => Head) Block 1)

/-- The eight heads normed, side by side. -/
def norms (g : FVec F Row .f32) (x : FVec F Block .f32) : FVec F Block .f32 :=
  concatenate Block 1 (List.ofFn fun h : Fin 8 => ⟨Head, norm g (cut h x)⟩) (concatenates fun h => norm g (cut h x))

end

/-- Column l of head h. -/
abbrev lane (h : Fin 8) (l : Fin 128) : Fin 1024 := rowOf 8 128 h l rfl

theorem norm_at (g : FVec Ideal Row .f32) (x : FVec Ideal Head .f32) (r : Fin 1024) (l : Fin 128) :
    norm g x (ix2 r l) = (x (ix2 r l) : EReal) * Ideal.rsqrt (ms (fun k => (x (ix2 r k) : EReal)) 128 eps) * (g (ix2 0 l) : EReal) := by
  unfold norm root
  pointwise
  rw [ofBits_128, ofBits_eps]

theorem norms_at (g : FVec Ideal Row .f32) (x : FVec Ideal Block .f32) (r : Fin 1024) (h : Fin 8) (l : Fin 128) :
    norms g x (ix2 r (lane h l)) = (x (ix2 r (lane h l)) : EReal)
      * Ideal.rsqrt (ms (fun k => (x (ix2 r (lane h k)) : EReal)) 128 eps) * (g (ix2 0 l) : EReal) := by
  have e : ∀ k, (cut h x (ix2 r k) : EReal) = (x (ix2 r (lane h k)) : EReal) := fun k => by
    unfold cut
    pointwise
    rfl
  refine (concatenate_ofFn_apply (t := Block) (s₁ := Head) 1 (fun h => norm g (cut h x)) _ rfl 128 rfl (ix2 r (lane h l)) h
    (show (h.val * 128 + l.val) / 128 = h.val by omega) (ix2 r l) (show l.val = (h.val * 128 + l.val) % 128 by omega)
    (fun b hb => by
      match b with
      | ⟨0, _⟩ => rfl
      | ⟨1, _⟩ => exact absurd rfl hb)).trans ?_
  rw [norm_at]
  simp only [e]

end Cert.HeadForward

end
-- ==== Proof.QForward.lean ====
/- The queries' forward call against the product, the norm of its heads and the scale written plainly: its two result arrays entry by entry, and the five claims. -/
module

public import proofs.«01_k».proof.Defs
public import proofs.«01_k».proof.Proof.Gen.KernelQfwd.Frame
public import proofs.«01_k».proof.Proof.Gen.KernelQfwdIdeal.Value
public import proofs.«01_k».proof.Proof.Gen.ReferenceQfwdIdeal.Read
public import proofs.«01_k».proof.Proof.HeadForward

@[expose] public section

noncomputable section

namespace Cert.KernelQfwdIdeal.Value

open Gen Idealize.ShloMosaic TcCoe Idealize.SL.Sem Norm
open Pipeline (Dat)

variable (m : (ℓ : Loc nD τ sig) → Buf (Elt Ideal) ℓ)

theorem index_eq : ∀ t : Fin cfg0.N,  (win0_0.index t 0 = t.val / 2 ∧ win0_0.index t 1 = 0)
    ∧ (win0_1.index t 0 = 0 ∧ win0_1.index t 1 = t.val % 2) ∧ (win0_2.index t 0 = 0 ∧ win0_2.index t 1 = 0)
    ∧ (win0_3.index t 0 = t.val / 2 ∧ win0_3.index t 1 = t.val % 2) ∧ (win0_4.index t 0 = t.val / 2 ∧ win0_4.index t 1 = t.val % 2) := by decide +kernel

/-- The grid point of block row t and block column u. -/
abbrev pt (t : Fin 4) (u : Fin 2) : Fin cfg0.N := ⟨t.val * 2 + u.val, by have : cfg0.N = 8 := N_0; omega⟩

/-- The arguments, entry by entry: the input, the weight, the gain; and the product. -/
abbrev hv (c : Dev nD) (i : Fin 4096) (k : Fin 2048) : EReal := m (c.tc.loc main_arg0) (ix2 i k)
abbrev wv (c : Dev nD) (k : Fin 2048) (l : Fin 2048) : EReal := m (c.tc.loc main_arg1) (ix2 k l)
abbrev gv (c : Dev nD) (l : Fin 128) : EReal := m (c.tc.loc main_arg2) (ix1 l)
abbrev qv (c : Dev nD) (i : Fin 4096) (l : Fin 2048) : EReal := ∑ k : Fin 2048, hv m c i k * wv m c k l

theorem h_at (c : Dev nD) (t : Fin 4) (u : Fin 2) (r : Fin 1024) (k : Fin 2048) :
    iblk m c 0 (pt t u) (ix2 r k) = hv m c (rowOf 4 1024 t r) k := by
  obtain ⟨⟨h0, h1⟩, -⟩ := index_eq (pt t u)
  exact congrArg (m (c.tc.loc main_arg0)) (ix2_ext (in_block (h0.trans (by dsimp only; omega))) (in_only h1))

theorem w_at (c : Dev nD) (t : Fin 4) (u : Fin 2) (k : Fin 2048) (s : Fin 1024) :
    iblk m c 1 (pt t u) (ix2 k s) = wv m c k (rowOf 2 1024 u s) := by
  obtain ⟨-, ⟨h0, h1⟩, -⟩ := index_eq (pt t u)
  exact congrArg (m (c.tc.loc main_arg1)) (ix2_ext (in_only h0) (in_block (h1.trans (by dsimp only; omega))))

/-- The host lays the gain out as one row. -/
theorem gain_row (c : Dev nD) (l : Fin 128) : V m c main_v0 (ix2 0 l) = gv m c l := by
  unfold V
  after_results
  pointwise

theorem gain_at (c : Dev nD) (p : Fin cfg0.N) (l : Fin 128) : iblk m c 2 p (ix2 0 l) = gv m c l := by
  obtain ⟨-, -, ⟨h0, h1⟩, -⟩ := index_eq p
  exact Eq.trans (congrArg (V m c main_v0) (ix2_ext (in_only h0) (in_only h1))) (gain_row m c l)

/-- What a point writes back: the product, and its heads normed. -/
theorem flushed_a (c : Dev nD) (p : Fin cfg0.N) (r s : Fin 1024) :
    (dats m 0 c).flushed 3 p (ix2 r s) = k0_pay1 (k0_pay3 (iblk m c 0 p) (iblk m c 1 p)) (ix2 r s) := by
  rw [flushed3]
  unfold_out out0_3
  rw [View.canon_unit_zero hz]
  simp only [View.ld_unit_zero (S := S1024x2048) hz, View.ld_unit_zero (S := S2048x1024) hz]
  rfl

/-- The block of the second result. -/
def normed (x : FVec Ideal S1024x2048 .bf16) (w : FVec Ideal S2048x1024 .bf16) (g : FVec Ideal S1x128 .f32) : FVec Ideal S1024x1024 .bf16 :=
  truncf .bf16 (mulf (HeadForward.norms (k0_pay4 g) (k0_pay3 x w)) (broadcast S1024x1024 (Scalar.ofBits .f32 0x3DB504F3#32))) bitsLt_bf16_f32

set_option maxHeartbeats 1000000 in
theorem flushed_y (c : Dev nD) (p : Fin cfg0.N) (r s : Fin 1024) :
    (dats m 0 c).flushed 4 p (ix2 r s) = normed (iblk m c 0 p) (iblk m c 1 p) (iblk m c 2 p) (ix2 r s) := by
  rw [flushed4]
  unfold_out out0_4
  rw [View.canon_unit_zero hz]
  simp only [View.ld_unit_zero (S := S1024x2048) hz, View.ld_unit_zero (S := S2048x1024) hz, View.ld_unit_zero (S := S1x128) hz]
  rfl

theorem pay_at (c : Dev nD) (t : Fin 4) (u : Fin 2) (r s : Fin 1024) :
    (k0_pay3 (F := Ideal) (iblk m c 0 (pt t u)) (iblk m c 1 (pt t u)) (ix2 r s) : EReal) = qv m c (rowOf 4 1024 t r) (rowOf 2 1024 u s) := by
  unfold k0_pay3
  pointwise
  simp only [h_at, w_at]

theorem a_at (c : Dev nD) (i : Fin 4096) (l : Fin 2048) : (dats m 0 c).arrAt 3 cfg0.N (ix2 i l) = qv m c i l := by
  obtain ⟨t, r, rfl⟩ := exists_rowOf (n := 4) (k := 1024) i
  obtain ⟨u, s, rfl⟩ := exists_rowOf (n := 2) (k := 1024) l
  have h := (dats m 0 c).arrAt_emb_eq_flushed 3 disjoint3 (pt t u) (flush0_3 (pt t u)) (ix2 r s)
  rw [show ((cfg0.win 3).blk (pt t u)).view.emb (ix2 r s) = ix2 (rowOf 4 1024 t r) (rowOf 2 1024 u s) from by
    obtain ⟨-, -, -, ⟨h0, h1⟩, -⟩ := index_eq (pt t u)
    exact ix2_ext (in_block (h0.trans (by dsimp only; omega))) (in_block (h1.trans (by dsimp only; omega)))] at h
  refine h.trans ((flushed_a m c _ r s).trans (Eq.trans ?_ (pay_at m c t u r s)))
  unfold k0_pay1
  pointwise

/-- Column l of head h. -/
abbrev lane (h : Fin 16) (l : Fin 128) : Fin 2048 := rowOf 16 128 h l rfl

theorem lane_eq (u : Fin 2) (h : Fin 8) (l : Fin 128) : rowOf 2 1024 u (HeadForward.lane h l) = lane (rowOf 2 8 u h) l :=
  Fin.ext (show u.val * 1024 + (h.val * 128 + l.val) = (u.val * 8 + h.val) * 128 + l.val by omega)

/-- The second result: each head of the product normed, with the gain and the scale. -/
theorem y_at (c : Dev nD) (i : Fin 4096) (h : Fin 16) (l : Fin 128) :
    (dats m 0 c).arrAt 4 cfg0.N (ix2 i (lane h l))
      = qv m c i (lane h l) * Ideal.rsqrt (ms (fun k => qv m c i (lane h k)) 128 eps) * gv m c l * Ideal.ofBits .f32 0x3DB504F3#32 := by
  obtain ⟨t, r, rfl⟩ := exists_rowOf (n := 4) (k := 1024) i
  obtain ⟨u, h, rfl⟩ := exists_rowOf (n := 2) (k := 8) h
  have e := (dats m 0 c).arrAt_emb_eq_flushed 4 disjoint4 (pt t u) (flush0_4 (pt t u)) (ix2 r (HeadForward.lane h l))
  rw [show ((cfg0.win 4).blk (pt t u)).view.emb (ix2 r (HeadForward.lane h l)) = ix2 (rowOf 4 1024 t r) (rowOf 2 1024 u (HeadForward.lane h l)) from
      funext fun a => Fin.ext <| by
    obtain ⟨-, -, -, -, ⟨h0, h1⟩⟩ := index_eq (pt t u)
    match a with
    | ⟨0, _⟩ => show win0_4.index (pt t u) 0 * 1024 + 1 * r.val = t.val * 1024 + r.val; rw [h0]; dsimp only; omega
    | ⟨1, _⟩ => show win0_4.index (pt t u) 1 * 1024 + 1 * (h.val * 128 + l.val) = u.val * 1024 + (h.val * 128 + l.val); rw [h1]; dsimp only; omega, lane_eq] at e
  refine e.trans ((flushed_y m c _ r _).trans ?_)
  unfold normed
  pointwise
  rw [HeadForward.norms_at]
  unfold k0_pay4
  pointwise
  simp only [pay_at, gain_at, lane_eq]

end Cert.KernelQfwdIdeal.Value

namespace Cert.ReferenceQfwdIdeal.Read

open Gen Idealize.ShloMosaic TcCoe Idealize.SL.Sem Norm
open KernelQfwdIdeal.Value (lane)

variable (x0 : (⟨S4096x2048, .bf16⟩ : BufTy).Contents (Elt Ideal)) (x1 : (⟨S2048x2048, .bf16⟩ : BufTy).Contents (Elt Ideal))
  (x2 : (⟨S128, .f32⟩ : BufTy).Contents (Elt Ideal))

/-- The product. -/
abbrev prod (i : Fin 4096) (l : Fin 2048) : EReal := ∑ k : Fin 2048, (x0 (ix2 i k) : EReal) * (x1 (ix2 k l) : EReal)

theorem v20_at (i : Fin 4096) (l : Fin 2048) : val_main_v20 (F := Ideal) x0 x1 (ix2 i l) = prod x0 x1 i l := by
  unfold val_main_v20 val_main_v2 val_main_v1 val_main_v0
  pointwise

theorem v3_at (i : Fin 4096) (h : Fin 16) (l : Fin 128) : val_main_v3 (F := Ideal) x0 x1 (ix3 i h l) = prod x0 x1 i (lane h l) := by
  unfold val_main_v3
  pointwise
  exact v20_at x0 x1 i (lane h l)

theorem root_at (i : Fin 4096) (h : Fin 16) (u : Fin 1) : val_main_v11 (F := Ideal) x0 x1 (ix3 i h u)
    = Ideal.rsqrt (ms (fun k => prod x0 x1 i (lane h k)) 128 eps) := by
  unfold val_main_v11 val_main_v10 val_main_v9 val_main_cst_1 val_main_v8 val_main_v7 val_main_cst_0 val_main_v6 val_main_v5 val_main_cst val_main_v4
  pointwise
  simp only [v3_at, ofBits_128, ofBits_eps]

theorem y_at (i : Fin 4096) (h : Fin 16) (l : Fin 128) : val_main_v21 (F := Ideal) x0 x1 x2 (ix2 i (lane h l))
    = prod x0 x1 i (lane h l) * Ideal.rsqrt (ms (fun k => prod x0 x1 i (lane h k)) 128 eps) * (x2 (ix1 l) : EReal) * Ideal.ofBits .f32 0x3DB504F3#32 := by
  have e : val_main_v17 (F := Ideal) x0 x1 x2 (ix2 i (lane h l)) = val_main_v16 (F := Ideal) x0 x1 x2 (ix3 i h l) := by
    unfold val_main_v17
    pointwise
    exact congrArg (val_main_v16 (F := Ideal) x0 x1 x2) (congrArg₂ (ix3 i) (Fin.ext (show (h.val * 128 + l.val) / 128 = h.val by omega))
      (Fin.ext (show (h.val * 128 + l.val) % 128 = l.val by omega)))
  unfold val_main_v21 val_main_v19 val_main_v18 val_main_cst_2
  pointwise
  rw [e]
  unfold val_main_v16 val_main_v15 val_main_v14 val_main_v13 val_main_v12
  pointwise
  rw [v3_at, root_at]

end Cert.ReferenceQfwdIdeal.Read

namespace Cert.Proof.Qfwd

open Idealize.ShloMosaic TcCoe Idealize.SL.Sem KernelQfwdIdeal.Value

theorem frame : quiescent_KernelQfwd := fun m ρ _ => KernelQfwd.Gen.frame m ρ
theorem frame_ideal : quiescent_KernelQfwdIdeal := fun m ρ _ => KernelQfwdIdeal.Gen.frame m ρ
theorem frame_reference : quiescent_ReferenceQfwdIdeal := fun m ρ _ =>
  (θ_run _ _ _).mono (fun r h => ⟨fun c => (h c).2.2, sem_eq_zero_of_no_sems (by decide) r.2⟩) (ReferenceQfwdIdeal.Value.run m ρ)

theorem preserves : preserves_KernelQfwd_KernelQfwdIdeal := trivial

/-- Both programs leave the product and its heads normed. -/
theorem algebraic : algebraic_KernelQfwdIdeal_ReferenceQfwdIdeal := by
  intro m ρ m' ρ' _ hm
  refine ⟨fun c => (KernelQfwdIdeal.Gen.dats m 0 c).arrAt 3 KernelQfwdIdeal.cfg0.N,
    fun c => (KernelQfwdIdeal.Gen.dats m 0 c).arrAt 4 KernelQfwdIdeal.cfg0.N, run_blocks m ρ, ?_⟩
  refine (θ_run _ _ _).mono (fun r h c => ?_) (ReferenceQfwdIdeal.Value.run m' ρ')
  obtain ⟨hr, hs, hargs⟩ := h c
  obtain ⟨e0, e1, e2⟩ := hm c
  refine ⟨hr.trans ?_, hs.trans ?_, hargs⟩
  · rw [ReferenceQfwdIdeal.Read.val_main_v20_eq, e0, e1]
    funext j
    obtain ⟨i, l, rfl⟩ := exists_ix2 j
    exact (ReferenceQfwdIdeal.Read.v20_at _ _ i l).trans (a_at m c i l).symm
  · rw [ReferenceQfwdIdeal.Read.val_main_v21_eq, e0, e1, e2]
    funext j
    obtain ⟨i, k, rfl⟩ := exists_ix2 j
    obtain ⟨h, l, rfl⟩ := exists_rowOf (n := 16) (k := 128) k
    exact (ReferenceQfwdIdeal.Read.y_at _ _ _ i h l).trans (y_at m c i h l).symm

end Cert.Proof.Qfwd

end
-- ==== Proof.KForward.lean ====
/- The keys' forward call against the product and the norm of its heads written plainly: its two result arrays entry by entry, and the five claims. -/
module

public import proofs.«01_k».proof.Defs
public import proofs.«01_k».proof.Proof.Gen.KernelKfwd.Frame
public import proofs.«01_k».proof.Proof.Gen.KernelKfwdIdeal.Value
public import proofs.«01_k».proof.Proof.Gen.ReferenceKfwdIdeal.Read
public import proofs.«01_k».proof.Proof.HeadForward

@[expose] public section

noncomputable section

namespace Cert.KernelKfwdIdeal.Value

open Gen Idealize.ShloMosaic TcCoe Idealize.SL.Sem Norm
open Pipeline (Dat)

variable (m : (ℓ : Loc nD τ sig) → Buf (Elt Ideal) ℓ)

theorem index_eq : ∀ t : Fin cfg0.N,  (win0_0.index t 0 = t.val / 2 ∧ win0_0.index t 1 = 0)
    ∧ (win0_1.index t 0 = t.val % 2 ∧ win0_1.index t 1 = 0 ∧ win0_1.index t 2 = 0) ∧ (win0_2.index t 0 = 0 ∧ win0_2.index t 1 = 0)
    ∧ (win0_3.index t 0 = t.val / 2 ∧ win0_3.index t 1 = t.val % 2) ∧ (win0_4.index t 0 = t.val / 2 ∧ win0_4.index t 1 = t.val % 2) := by decide +kernel

/-- The grid point of block row t and block column u. -/
abbrev pt (t : Fin 4) (u : Fin 2) : Fin cfg0.N := ⟨t.val * 2 + u.val, by have : cfg0.N = 8 := N_0; omega⟩

/-- The arguments, entry by entry: the input, the weight, the gain; and the product. -/
abbrev hv (c : Dev nD) (i : Fin 4096) (k : Fin 2048) : EReal := m (c.tc.loc main_arg0) (ix2 i k)
abbrev wv (c : Dev nD) (k : Fin 2048) (l : Fin 2048) : EReal := m (c.tc.loc main_arg1) (ix2 k l)
abbrev gv (c : Dev nD) (l : Fin 128) : EReal := m (c.tc.loc main_arg2) (ix1 l)
abbrev qv (c : Dev nD) (i : Fin 4096) (l : Fin 2048) : EReal := ∑ k : Fin 2048, hv m c i k * wv m c k l

theorem h_at (c : Dev nD) (t : Fin 4) (u : Fin 2) (r : Fin 1024) (k : Fin 2048) :
    iblk m c 0 (pt t u) (ix2 r k) = hv m c (rowOf 4 1024 t r) k := by
  obtain ⟨⟨h0, h1⟩, -⟩ := index_eq (pt t u)
  exact congrArg (m (c.tc.loc main_arg0)) (ix2_ext (in_block (h0.trans (by dsimp only; omega))) (in_only h1))

/-- The host lays the weight out in two blocks of columns. -/
theorem w_rows (c : Dev nD) (p : Fin 2) (k : Fin 2048) (q : Fin 1024) : V m c main_v1 (ix3 p k q) = wv m c k (rowOf 2 1024 p q) := by
  unfold V
  after_results
  pointwise
  refine congrArg (m (c.tc.loc main_arg1)) (funext fun a => Fin.ext ?_)
  match a with
  | ⟨0, _⟩ => rfl
  | ⟨1, _⟩ => rfl

theorem w_at (c : Dev nD) (t : Fin 4) (u : Fin 2) (k : Fin 2048) (s : Fin 1024) :
    iblk m c 1 (pt t u) (ix3 0 k s) = wv m c k (rowOf 2 1024 u s) := by
  obtain ⟨-, ⟨h0, h1, h2⟩, -⟩ := index_eq (pt t u)
  refine Eq.trans (congrArg (V m c main_v1) (funext fun a => Fin.ext ?_)) (w_rows m c u k s)
  match a with
  | ⟨0, _⟩ => show win0_1.index (pt t u) 0 * 1 + 1 * 0 = u.val; rw [h0]; dsimp only; omega
  | ⟨1, _⟩ => show win0_1.index (pt t u) 1 * 2048 + 1 * k.val = k.val; rw [h1]; omega
  | ⟨2, _⟩ => show win0_1.index (pt t u) 2 * 1024 + 1 * s.val = s.val; rw [h2]; omega

/-- The host lays the gain out as one row. -/
theorem gain_row (c : Dev nD) (l : Fin 128) : V m c main_v2 (ix2 0 l) = gv m c l := by
  unfold V
  after_results
  pointwise

theorem gain_at (c : Dev nD) (p : Fin cfg0.N) (l : Fin 128) : iblk m c 2 p (ix2 0 l) = gv m c l := by
  obtain ⟨-, -, ⟨h0, h1⟩, -⟩ := index_eq p
  exact Eq.trans (congrArg (V m c main_v2) (ix2_ext (in_only h0) (in_only h1))) (gain_row m c l)

/-- What a point writes back: the product, and its heads normed. -/
theorem flushed_a (c : Dev nD) (p : Fin cfg0.N) (r s : Fin 1024) :
    (dats m 0 c).flushed 3 p (ix2 r s) = k0_pay1 (k0_pay3 (iblk m c 0 p) (iblk m c 1 p)) (ix2 r s) := by
  rw [flushed3]
  unfold_out out0_3
  rw [View.canon_unit_zero hz]
  simp only [View.ld_unit_zero (S := S1024x2048) hz, View.ld_unit_zero (S := S1x2048x1024) hz3]
  rfl

/-- The block of the second result. -/
def normed (x : FVec Ideal S1024x2048 .bf16) (w : FVec Ideal S1x2048x1024 .bf16) (g : FVec Ideal S1x128 .f32) : FVec Ideal S1024x1024 .bf16 :=
  truncf .bf16 (HeadForward.norms (k0_pay4 g) (k0_pay3 x w)) bitsLt_bf16_f32

set_option maxHeartbeats 1000000 in
theorem flushed_y (c : Dev nD) (p : Fin cfg0.N) (r s : Fin 1024) :
    (dats m 0 c).flushed 4 p (ix2 r s) = normed (iblk m c 0 p) (iblk m c 1 p) (iblk m c 2 p) (ix2 r s) := by
  rw [flushed4]
  unfold_out out0_4
  rw [View.canon_unit_zero hz]
  simp only [View.ld_unit_zero (S := S1024x2048) hz, View.ld_unit_zero (S := S1x2048x1024) hz3, View.ld_unit_zero (S := S1x128) hz]
  rfl

theorem pay_at (c : Dev nD) (t : Fin 4) (u : Fin 2) (r s : Fin 1024) :
    (k0_pay3 (F := Ideal) (iblk m c 0 (pt t u)) (iblk m c 1 (pt t u)) (ix2 r s) : EReal) = qv m c (rowOf 4 1024 t r) (rowOf 2 1024 u s) := by
  unfold k0_pay3
  pointwise
  simp only [h_at, w_at]

theorem a_at (c : Dev nD) (i : Fin 4096) (l : Fin 2048) : (dats m 0 c).arrAt 3 cfg0.N (ix2 i l) = qv m c i l := by
  obtain ⟨t, r, rfl⟩ := exists_rowOf (n := 4) (k := 1024) i
  obtain ⟨u, s, rfl⟩ := exists_rowOf (n := 2) (k := 1024) l
  have h := (dats m 0 c).arrAt_emb_eq_flushed 3 disjoint3 (pt t u) (flush0_3 (pt t u)) (ix2 r s)
  rw [show ((cfg0.win 3).blk (pt t u)).view.emb (ix2 r s) = ix2 (rowOf 4 1024 t r) (rowOf 2 1024 u s) from by
    obtain ⟨-, -, -, ⟨h0, h1⟩, -⟩ := index_eq (pt t u)
    exact ix2_ext (in_block (h0.trans (by dsimp only; omega))) (in_block (h1.trans (by dsimp only; omega)))] at h
  refine h.trans ((flushed_a m c _ r s).trans (Eq.trans ?_ (pay_at m c t u r s)))
  unfold k0_pay1
  pointwise

/-- Column l of head h. -/
abbrev lane (h : Fin 16) (l : Fin 128) : Fin 2048 := rowOf 16 128 h l rfl

theorem lane_eq (u : Fin 2) (h : Fin 8) (l : Fin 128) : rowOf 2 1024 u (HeadForward.lane h l) = lane (rowOf 2 8 u h) l :=
  Fin.ext (show u.val * 1024 + (h.val * 128 + l.val) = (u.val * 8 + h.val) * 128 + l.val by omega)

/-- The second result: each head of the product normed, with the gain. -/
theorem y_at (c : Dev nD) (i : Fin 4096) (h : Fin 16) (l : Fin 128) :
    (dats m 0 c).arrAt 4 cfg0.N (ix2 i (lane h l))
      = qv m c i (lane h l) * Ideal.rsqrt (ms (fun k => qv m c i (lane h k)) 128 eps) * gv m c l := by
  obtain ⟨t, r, rfl⟩ := exists_rowOf (n := 4) (k := 1024) i
  obtain ⟨u, h, rfl⟩ := exists_rowOf (n := 2) (k := 8) h
  have e := (dats m 0 c).arrAt_emb_eq_flushed 4 disjoint4 (pt t u) (flush0_4 (pt t u)) (ix2 r (HeadForward.lane h l))
  rw [show ((cfg0.win 4).blk (pt t u)).view.emb (ix2 r (HeadForward.lane h l)) = ix2 (rowOf 4 1024 t r) (rowOf 2 1024 u (HeadForward.lane h l)) from
      funext fun a => Fin.ext <| by
    obtain ⟨-, -, -, -, ⟨h0, h1⟩⟩ := index_eq (pt t u)
    match a with
    | ⟨0, _⟩ => show win0_4.index (pt t u) 0 * 1024 + 1 * r.val = t.val * 1024 + r.val; rw [h0]; dsimp only; omega
    | ⟨1, _⟩ => show win0_4.index (pt t u) 1 * 1024 + 1 * (h.val * 128 + l.val) = u.val * 1024 + (h.val * 128 + l.val); rw [h1]; dsimp only; omega, lane_eq] at e
  refine e.trans ((flushed_y m c _ r _).trans ?_)
  unfold normed
  pointwise
  rw [HeadForward.norms_at]
  unfold k0_pay4
  pointwise
  simp only [pay_at, gain_at, lane_eq]

end Cert.KernelKfwdIdeal.Value

namespace Cert.ReferenceKfwdIdeal.Read

open Gen Idealize.ShloMosaic TcCoe Idealize.SL.Sem Norm
open KernelKfwdIdeal.Value (lane)

variable (x0 : (⟨S4096x2048, .bf16⟩ : BufTy).Contents (Elt Ideal)) (x1 : (⟨S2048x2048, .bf16⟩ : BufTy).Contents (Elt Ideal))
  (x2 : (⟨S128, .f32⟩ : BufTy).Contents (Elt Ideal))

/-- The product. -/
abbrev prod (i : Fin 4096) (l : Fin 2048) : EReal := ∑ k : Fin 2048, (x0 (ix2 i k) : EReal) * (x1 (ix2 k l) : EReal)

theorem v3_at (i : Fin 4096) (l : Fin 2048) : val_main_v3 (F := Ideal) x0 x1 (ix2 i l) = prod x0 x1 i l := by
  unfold val_main_v3 val_main_v2 val_main_v1 val_main_v0
  pointwise

theorem v4_at (i : Fin 4096) (h : Fin 16) (l : Fin 128) : val_main_v4 (F := Ideal) x0 x1 (ix3 i h l) = prod x0 x1 i (lane h l) := by
  unfold val_main_v4
  pointwise
  exact v3_at x0 x1 i (lane h l)

theorem root_at (i : Fin 4096) (h : Fin 16) (u : Fin 1) : val_main_v12 (F := Ideal) x0 x1 (ix3 i h u)
    = Ideal.rsqrt (ms (fun k => prod x0 x1 i (lane h k)) 128 eps) := by
  unfold val_main_v12 val_main_v11 val_main_v10 val_main_cst_1 val_main_v9 val_main_v8 val_main_cst_0 val_main_v7 val_main_v6 val_main_cst val_main_v5
  pointwise
  simp only [v4_at, ofBits_128, ofBits_eps]

theorem y_at (i : Fin 4096) (h : Fin 16) (l : Fin 128) : val_main_v19 (F := Ideal) x0 x1 x2 (ix2 i (lane h l))
    = prod x0 x1 i (lane h l) * Ideal.rsqrt (ms (fun k => prod x0 x1 i (lane h k)) 128 eps) * (x2 (ix1 l) : EReal) := by
  have e : val_main_v18 (F := Ideal) x0 x1 x2 (ix2 i (lane h l)) = val_main_v17 (F := Ideal) x0 x1 x2 (ix3 i h l) := by
    unfold val_main_v18
    pointwise
    exact congrArg (val_main_v17 (F := Ideal) x0 x1 x2) (congrArg₂ (ix3 i) (Fin.ext (show (h.val * 128 + l.val) / 128 = h.val by omega))
      (Fin.ext (show (h.val * 128 + l.val) % 128 = l.val by omega)))
  unfold val_main_v19
  pointwise
  rw [e]
  unfold val_main_v17 val_main_v16 val_main_v15 val_main_v14 val_main_v13
  pointwise
  rw [v4_at, root_at]

end Cert.ReferenceKfwdIdeal.Read

namespace Cert.Proof.Kfwd

open Idealize.ShloMosaic TcCoe Idealize.SL.Sem KernelKfwdIdeal.Value

theorem frame : quiescent_KernelKfwd := fun m ρ _ => KernelKfwd.Gen.frame m ρ
theorem frame_ideal : quiescent_KernelKfwdIdeal := fun m ρ _ => KernelKfwdIdeal.Gen.frame m ρ
theorem frame_reference : quiescent_ReferenceKfwdIdeal := fun m ρ _ =>
  (θ_run _ _ _).mono (fun r h => ⟨fun c => (h c).2.2, sem_eq_zero_of_no_sems (by decide) r.2⟩) (ReferenceKfwdIdeal.Value.run m ρ)

theorem preserves : preserves_KernelKfwd_KernelKfwdIdeal := trivial

/-- Both programs leave the product and its heads normed. -/
theorem algebraic : algebraic_KernelKfwdIdeal_ReferenceKfwdIdeal := by
  intro m ρ m' ρ' _ hm
  refine ⟨fun c => (KernelKfwdIdeal.Gen.dats m 0 c).arrAt 3 KernelKfwdIdeal.cfg0.N,
    fun c => (KernelKfwdIdeal.Gen.dats m 0 c).arrAt 4 KernelKfwdIdeal.cfg0.N, run_blocks m ρ, ?_⟩
  refine (θ_run _ _ _).mono (fun r h c => ?_) (ReferenceKfwdIdeal.Value.run m' ρ')
  obtain ⟨hr, hs, hargs⟩ := h c
  obtain ⟨e0, e1, e2⟩ := hm c
  refine ⟨hr.trans ?_, hs.trans ?_, hargs⟩
  · rw [ReferenceKfwdIdeal.Read.val_main_v3_eq, e0, e1]
    funext j
    obtain ⟨i, l, rfl⟩ := exists_ix2 j
    exact (ReferenceKfwdIdeal.Read.v3_at _ _ i l).trans (a_at m c i l).symm
  · rw [ReferenceKfwdIdeal.Read.val_main_v19_eq, e0, e1, e2]
    funext j
    obtain ⟨i, k, rfl⟩ := exists_ix2 j
    obtain ⟨h, l, rfl⟩ := exists_rowOf (n := 16) (k := 128) k
    exact (ReferenceKfwdIdeal.Read.y_at _ _ _ i h l).trans (y_at m c i h l).symm

end Cert.Proof.Kfwd

end
-- ==== Proof.DownForward.lean ====
/- The down-projection's forward call, which sums over four blocks of the inner axis, against the product written plainly: its two result arrays entry by entry, and the five claims. -/
module

public import proofs.«01_k».proof.Defs
public import proofs.«01_k».proof.Proof.Gen.KernelDownfwd.Frame
public import proofs.«01_k».proof.Proof.Gen.KernelDownfwdIdeal.Value
public import proofs.«01_k».proof.Proof.Gen.ReferenceDownfwdIdeal.Read
public import proofs.«01_k».proof.Proof.RowSums

@[expose] public section

noncomputable section

namespace Cert.KernelDownfwdIdeal.Value

open Gen Idealize.ShloMosaic TcCoe Idealize.SL.Sem
open Pipeline (Dat)

section

variable {F : FTy → Type} [FloatOps F] (m : (ℓ : Loc nD τ sig) → Buf (Elt F) ℓ)

/-- The first point of a block's four leaves its own product in the carried buffer. -/
theorem acc_first (c : Dev nD) (t : Fin cfg0.N) (h : t.val % 4 = 0) : (outsAt0 m c t.val t.isLt).2.2 = k0_pay2 (iblk m c 0 t) (iblk m c 1 t) := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  simp only [View.readAt_eq_ld, (hs0_0 t).read_unread, (hs0_1 t).read_unread, View.ld_unit_zero (S := S1024x2048) hz, View.ld_unit_zero (S := S2048x1024) hz]

/-- The next two add theirs to what the point before left. -/
theorem acc_next (c : Dev nD) (t : Fin cfg0.N) (h : 1 ≤ t.val % 4 ∧ t.val % 4 ≤ 2) : (outsAt0 m c t.val t.isLt).2.2
    = k0_pay3 (iblk m c 0 t) (iblk m c 1 t) (outsAt0 m c (t.val - 1) (Nat.lt_of_le_of_lt (Nat.sub_le _ _) t.isLt)).2.2 := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

/-- The last writes both results from the sum. -/
theorem out_last (c : Dev nD) (t : Fin cfg0.N) (h : t.val % 4 = 3) : (outsAt0 m c t.val t.isLt).1
    = k0_pay5 (iblk m c 0 t) (iblk m c 1 t) (outsAt0 m c (t.val - 1) (Nat.lt_of_le_of_lt (Nat.sub_le _ _) t.isLt)).2.2 (iblk m c 2 t) (iblk m c 3 t) := by
  rw [outsAt0_C m c t (by omega) (by omega) h]
  dsimp only
  unfold out0_C_4
  rw [View.read_writes_eq_canon _ _ _ (fun y => cover0_C_4 (y := y) ..)]
  unfold kernelRun0_C
  dsimp only
  rw [View.canon_unit_zero hz]
  simp only [View.readAt_eq_ld, (hs0_0 t).read_unread, (hs0_1 t).read_unread, (hs0_2 t).read_unread, (hs0_3 t).read_unread, (Memref.isWhole_whole _).read_unread,
    View.ld_unit_zero (S := S1024x2048) hz, View.ld_unit_zero (S := S2048x1024) hz, View.ld_unit_zero (S := S1024x1024) hz, View.ld_unit_zero (S := S1x1024) hz]

theorem sum_last (c : Dev nD) (t : Fin cfg0.N) (h : t.val % 4 = 3) : (outsAt0 m c t.val t.isLt).2.1
    = k0_pay6 (iblk m c 0 t) (iblk m c 1 t) (outsAt0 m c (t.val - 1) (Nat.lt_of_le_of_lt (Nat.sub_le _ _) t.isLt)).2.2 := by
  rw [outsAt0_C m c t (by omega) (by omega) h]
  dsimp only
  unfold out0_C_5
  rw [View.read_writes_eq_canon _ _ _ (fun y => cover0_C_5 (y := y) ..)]
  unfold kernelRun0_C
  dsimp only
  rw [View.canon_unit_zero hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

end

variable (m : (ℓ : Loc nD τ sig) → Buf (Elt Ideal) ℓ)

theorem index_eq : ∀ t : Fin cfg0.N,  (win0_0.index t 0 = t.val / 8 ∧ win0_0.index t 1 = t.val % 4) ∧ (win0_1.index t 0 = t.val % 4 ∧ win0_1.index t 1 = t.val / 4 % 2)
    ∧ (win0_2.index t 0 = t.val / 8 ∧ win0_2.index t 1 = t.val / 4 % 2) ∧ (win0_3.index t 0 = 0 ∧ win0_3.index t 1 = t.val / 4 % 2) := by decide +kernel

/-- The grid point of block row t, block column u and inner block q. -/
abbrev pt (t : Fin 4) (u : Fin 2) (q : Fin 4) : Fin cfg0.N := ⟨t.val * 8 + u.val * 4 + q.val, by have : cfg0.N = 32 := N_0; omega⟩

/-- The arguments, entry by entry: the squared activation, the weight, the residual and the gate. -/
abbrev sv (c : Dev nD) (i : Fin 4096) (k : Fin 8192) : EReal := m (c.tc.loc main_arg0) (ix2 i k)
abbrev wv (c : Dev nD) (k : Fin 8192) (l : Fin 2048) : EReal := m (c.tc.loc main_arg1) (ix2 k l)
abbrev xv (c : Dev nD) (i : Fin 4096) (l : Fin 2048) : EReal := m (c.tc.loc main_arg2) (ix2 i l)
abbrev gv (c : Dev nD) (l : Fin 2048) : EReal := m (c.tc.loc main_arg3) (ix2 0 l)

theorem s_at (c : Dev nD) (t : Fin 4) (u : Fin 2) (q : Fin 4) (r : Fin 1024) (k : Fin 2048) :
    iblk m c 0 (pt t u q) (ix2 r k) = sv m c (rowOf 4 1024 t r) (rowOf 4 2048 q k) := by
  obtain ⟨⟨h0, h1⟩, -⟩ := index_eq (pt t u q)
  exact congrArg (m (c.tc.loc main_arg0)) (ix2_ext (in_block (h0.trans (by dsimp only; omega))) (in_block (h1.trans (by dsimp only; omega))))

theorem w_at (c : Dev nD) (t : Fin 4) (u : Fin 2) (q : Fin 4) (k : Fin 2048) (l : Fin 1024) :
    iblk m c 1 (pt t u q) (ix2 k l) = wv m c (rowOf 4 2048 q k) (rowOf 2 1024 u l) := by
  obtain ⟨-, ⟨h0, h1⟩, -⟩ := index_eq (pt t u q)
  exact congrArg (m (c.tc.loc main_arg1)) (ix2_ext (in_block (h0.trans (by dsimp only; omega))) (in_block (h1.trans (by dsimp only; omega))))

theorem x_at (c : Dev nD) (t : Fin 4) (u : Fin 2) (q : Fin 4) (r l : Fin 1024) :
    iblk m c 2 (pt t u q) (ix2 r l) = xv m c (rowOf 4 1024 t r) (rowOf 2 1024 u l) := by
  obtain ⟨-, -, ⟨h0, h1⟩, -⟩ := index_eq (pt t u q)
  exact congrArg (m (c.tc.loc main_arg2)) (ix2_ext (in_block (h0.trans (by dsimp only; omega))) (in_block (h1.trans (by dsimp only; omega))))

theorem g_at (c : Dev nD) (t : Fin 4) (u : Fin 2) (q : Fin 4) (l : Fin 1024) :
    iblk m c 3 (pt t u q) (ix2 0 l) = gv m c (rowOf 2 1024 u l) := by
  obtain ⟨-, -, -, ⟨h0, h1⟩⟩ := index_eq (pt t u q)
  exact congrArg (m (c.tc.loc main_arg3)) (ix2_ext (in_only h0) (in_block (h1.trans (by dsimp only; omega))))

/-- One inner block's share of the product. -/
abbrev share (c : Dev nD) (i : Fin 4096) (l : Fin 2048) (q : Fin 4) : EReal := ∑ k : Fin 2048, sv m c i (rowOf 4 2048 q k) * wv m c (rowOf 4 2048 q k) l

theorem pay_at (c : Dev nD) (t : Fin 4) (u : Fin 2) (q : Fin 4) (r l : Fin 1024) :
    (k0_pay1 (F := Ideal) (iblk m c 0 (pt t u q)) (iblk m c 1 (pt t u q)) (ix2 r l) : EReal) = share m c (rowOf 4 1024 t r) (rowOf 2 1024 u l) q := by
  unfold k0_pay1
  pointwise
  simp only [s_at, w_at]

/-- The carried buffer before the last point: the first three shares. -/
theorem acc_two (c : Dev nD) (t : Fin 4) (u : Fin 2) (r l : Fin 1024) :
    ((outsAt0 m c (pt t u 2).val (pt t u 2).isLt).2.2 (ix2 r l) : EReal)
      = share m c (rowOf 4 1024 t r) (rowOf 2 1024 u l) 0 + share m c (rowOf 4 1024 t r) (rowOf 2 1024 u l) 1 + share m c (rowOf 4 1024 t r) (rowOf 2 1024 u l) 2 := by
  have h0 := congrFun (acc_first m c (pt t u 0) (by dsimp only; omega)) (ix2 r l)
  have h1 := congrFun (acc_next m c (pt t u 1) (by dsimp only; omega)) (ix2 r l)
  have h2 := congrFun (acc_next m c (pt t u 2) (by dsimp only; omega)) (ix2 r l)
  rw [show k0_pay2 (iblk m c 0 (pt t u 0)) (iblk m c 1 (pt t u 0)) (ix2 r l) = k0_pay1 (F := Ideal) (iblk m c 0 (pt t u 0)) (iblk m c 1 (pt t u 0)) (ix2 r l) by
    unfold k0_pay2; pointwise, pay_at] at h0
  have step : ∀ (q : Fin 4) (old : FVec Ideal S1024x1024 .f32), (k0_pay3 (F := Ideal) (iblk m c 0 (pt t u q)) (iblk m c 1 (pt t u q)) old (ix2 r l) : EReal)
      = (old (ix2 r l) : EReal) + share m c (rowOf 4 1024 t r) (rowOf 2 1024 u l) q := by
    intro q old
    rw [← pay_at]
    unfold k0_pay3
    pointwise
  rw [step] at h1 h2
  exact h2.trans (congrArg (· + share m c (rowOf 4 1024 t r) (rowOf 2 1024 u l) 2) (h1.trans (congrArg (· + share m c (rowOf 4 1024 t r) (rowOf 2 1024 u l) 1) h0)))

theorem total (c : Dev nD) (t : Fin 4) (u : Fin 2) (r l : Fin 1024) :
    (k0_pay4 (F := Ideal) (iblk m c 0 (pt t u 3)) (iblk m c 1 (pt t u 3)) (outsAt0 m c (pt t u 2).val (pt t u 2).isLt).2.2 (ix2 r l) : EReal)
      = ∑ k : Fin 8192, sv m c (rowOf 4 1024 t r) k * wv m c k (rowOf 2 1024 u l) := by
  rw [sum_rowOf (n := 4) (k := 2048), Fin.sum_univ_four]
  refine Eq.trans ?_ (congrArg (· + share m c (rowOf 4 1024 t r) (rowOf 2 1024 u l) 3) (acc_two m c t u r l))
  rw [← pay_at]
  unfold k0_pay4
  pointwise

/-- The first result: the residual plus the gated product. -/
theorem x_final (c : Dev nD) (i : Fin 4096) (l : Fin 2048) :
    G4 m c (ix2 i l) = xv m c i l + gv m c l * ∑ k : Fin 8192, sv m c i k * wv m c k l := by
  obtain ⟨t, r, rfl⟩ := exists_rowOf (n := 4) (k := 1024) i
  obtain ⟨u, s, rfl⟩ := exists_rowOf (n := 2) (k := 1024) l
  have close : ∀ (n : ℕ) (j : S1024x1024.Idx) (z : EReal), n = (pt t u 3).val → j = ix2 r s →
      (if h : n < cfg0.N then (Pipeline.accAt (fun n h => stAt0 m c n h junk0) (stAt0 m c) 0 n (by omega)).1 j else z) = (outsAt0 m c (pt t u 3).val (pt t u 3).isLt).1 (ix2 r s) := by
    rintro _ _ z rfl rfl
    rw [dif_pos (pt t u 3).isLt, outsAt0_sweep]
  refine (close _ _ _ ?_ ?_).trans ((congrFun (out_last m c (pt t u 3) (by dsimp only; omega)) (ix2 r s)).trans ?_)
  · show 4 * (2 * ((t.val * 1024 + r.val) / 1024 - 0) + 1 * ((u.val * 1024 + s.val) / 1024 - 0)) + 3 = t.val * 8 + u.val * 4 + 3
    omega
  · funext a
    match a with
    | ⟨0, _⟩ => exact Fin.ext (show (t.val * 1024 + r.val) % 1024 = r.val by omega)
    | ⟨1, _⟩ => exact Fin.ext (show (u.val * 1024 + s.val) % 1024 = s.val by omega)
  · refine Eq.trans ?_ (congrArg (fun z : EReal => xv m c (rowOf 4 1024 t r) (rowOf 2 1024 u s) + gv m c (rowOf 2 1024 u s) * z) (total m c t u r s))
    unfold k0_pay5
    pointwise
    rw [x_at, g_at]
    rfl

/-- The second result: the product. -/
theorem y_final (c : Dev nD) (i : Fin 4096) (l : Fin 2048) : G5 m c (ix2 i l) = ∑ k : Fin 8192, sv m c i k * wv m c k l := by
  obtain ⟨t, r, rfl⟩ := exists_rowOf (n := 4) (k := 1024) i
  obtain ⟨u, s, rfl⟩ := exists_rowOf (n := 2) (k := 1024) l
  have close : ∀ (n : ℕ) (j : S1024x1024.Idx) (z : EReal), n = (pt t u 3).val → j = ix2 r s →
      (if h : n < cfg0.N then (Pipeline.accAt (fun n h => stAt0 m c n h junk0) (stAt0 m c) 0 n (by omega)).2.1 j else z) = (outsAt0 m c (pt t u 3).val (pt t u 3).isLt).2.1 (ix2 r s) := by
    rintro _ _ z rfl rfl
    rw [dif_pos (pt t u 3).isLt, outsAt0_sweep]
  refine (close _ _ _ ?_ ?_).trans ((congrFun (sum_last m c (pt t u 3) (by dsimp only; omega)) (ix2 r s)).trans ?_)
  · show 4 * (2 * ((t.val * 1024 + r.val) / 1024 - 0) + 1 * ((u.val * 1024 + s.val) / 1024 - 0)) + 3 = t.val * 8 + u.val * 4 + 3
    omega
  · funext a
    match a with
    | ⟨0, _⟩ => exact Fin.ext (show (t.val * 1024 + r.val) % 1024 = r.val by omega)
    | ⟨1, _⟩ => exact Fin.ext (show (u.val * 1024 + s.val) % 1024 = s.val by omega)
  · refine Eq.trans ?_ (total m c t u r s)
    unfold k0_pay6
    pointwise
    rfl

end Cert.KernelDownfwdIdeal.Value

namespace Cert.Proof.Downfwd

open Idealize.ShloMosaic TcCoe Idealize.SL.Sem KernelDownfwdIdeal.Value

theorem frame : quiescent_KernelDownfwd := fun m ρ _ => KernelDownfwd.Gen.frame m ρ
theorem frame_ideal : quiescent_KernelDownfwdIdeal := fun m ρ _ => KernelDownfwdIdeal.Gen.frame m ρ
theorem frame_reference : quiescent_ReferenceDownfwdIdeal := fun m ρ _ =>
  (θ_run _ _ _).mono (fun r h => ⟨fun c => (h c).2.2, sem_eq_zero_of_no_sems (by decide) r.2⟩) (ReferenceDownfwdIdeal.Value.run m ρ)

theorem preserves : preserves_KernelDownfwd_KernelDownfwdIdeal := trivial

/-- Both programs leave the residual with the gated product added, and the product. -/
theorem algebraic : algebraic_KernelDownfwdIdeal_ReferenceDownfwdIdeal := by
  intro m ρ m' ρ' _ hm
  refine ⟨G4 m, G5 m, KernelDownfwdIdeal.Value.run m ρ, ?_⟩
  refine (θ_run _ _ _).mono (fun r h c => ?_) (ReferenceDownfwdIdeal.Value.run m' ρ')
  obtain ⟨hr, hs, hargs⟩ := h c
  obtain ⟨e0, e1, e2, e3⟩ := hm c
  refine ⟨hr.trans ?_, hs.trans ?_, hargs⟩
  · rw [e0, e1, e2, e3]
    funext j
    obtain ⟨i, l, rfl⟩ := exists_ix2 j
    refine Eq.trans ?_ (x_final m c i l).symm
    pointwise
  · rw [e0, e1]
    funext j
    obtain ⟨i, l, rfl⟩ := exists_ix2 j
    refine Eq.trans ?_ (y_final m c i l).symm
    pointwise

end Cert.Proof.Downfwd

end
-- ==== Proof.AttnoForward.lean ====
/- The attention's output projection, forward, against the product and the gated residual written plainly: its two result arrays entry by entry, and the five claims. -/
module

public import proofs.«01_k».proof.Defs
public import proofs.«01_k».proof.Proof.Gen.KernelAttnofwd.Frame
public import proofs.«01_k».proof.Proof.Gen.KernelAttnofwdIdeal.Value
public import proofs.«01_k».proof.Proof.Gen.ReferenceAttnofwdIdeal.Read
public import proofs.«01_k».proof.Proof.RowSums

@[expose] public section

noncomputable section

namespace Cert.KernelAttnofwdIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = 0 ∧ win0_3.index t 1 = t.val % 2)
    ∧ (win0_4.index t 0 = t.val / 2 ∧ win0_4.index t 1 = t.val % 2) ∧ (win0_5.index t 0 = t.val / 2 ∧ win0_5.index t 1 = t.val % 2) := by decide +kernel

/-- The grid point of block row t and block column u. -/
abbrev pt (t : Fin 4) (u : Fin 2) : Fin cfg0.N := ⟨t.val * 2 + u.val, by have : cfg0.N = 8 := N_0; omega⟩

/-- The arguments, entry by entry: the attention's output, the weight, the residual and the gate. -/
abbrev ov (c : Dev nD) (i : Fin 4096) (k : Fin 2048) : EReal := m (c.tc.loc main_arg0) (ix2 i k)
abbrev wv (c : Dev nD) (k : Fin 2048) (l : Fin 2048) : EReal := m (c.tc.loc main_arg1) (ix2 k l)
abbrev xv (c : Dev nD) (i : Fin 4096) (l : Fin 2048) : EReal := m (c.tc.loc main_arg2) (ix2 i l)
abbrev gv (c : Dev nD) (l : Fin 2048) : EReal := m (c.tc.loc main_arg3) (ix2 0 l)

theorem o_at (c : Dev nD) (t : Fin 4) (u : Fin 2) (r : Fin 1024) (k : Fin 2048) : iblk m c 0 (pt t u) (ix2 r k) = ov m c (rowOf 4 1024 t r) k := by
  obtain ⟨⟨h0, h1⟩, -⟩ := index_eq (pt t u)
  exact congrArg (m (c.tc.loc main_arg0)) (ix2_ext (in_block (h0.trans (by dsimp only; omega))) (in_only h1))

theorem w_at (c : Dev nD) (t : Fin 4) (u : Fin 2) (k : Fin 2048) (s : Fin 1024) : iblk m c 1 (pt t u) (ix2 k s) = wv m c k (rowOf 2 1024 u s) := by
  obtain ⟨-, ⟨h0, h1⟩, -⟩ := index_eq (pt t u)
  exact congrArg (m (c.tc.loc main_arg1)) (ix2_ext (in_only h0) (in_block (h1.trans (by dsimp only; omega))))

theorem x_at (c : Dev nD) (t : Fin 4) (u : Fin 2) (r s : Fin 1024) : iblk m c 2 (pt t u) (ix2 r s) = xv m c (rowOf 4 1024 t r) (rowOf 2 1024 u s) := by
  obtain ⟨-, -, ⟨h0, h1⟩, -⟩ := index_eq (pt t u)
  exact congrArg (m (c.tc.loc main_arg2)) (ix2_ext (in_block (h0.trans (by dsimp only; omega))) (in_block (h1.trans (by dsimp only; omega))))

theorem g_at (c : Dev nD) (t : Fin 4) (u : Fin 2) (s : Fin 1024) : iblk m c 3 (pt t u) (ix2 0 s) = gv m c (rowOf 2 1024 u s) := by
  obtain ⟨-, -, -, ⟨h0, h1⟩, -⟩ := index_eq (pt t u)
  exact congrArg (m (c.tc.loc main_arg3)) (ix2_ext (in_only h0) (in_block (h1.trans (by dsimp only; omega))))

/-- What a point writes back to each result. -/
theorem flushed_x (c : Dev nD) (p : Fin cfg0.N) (r s : Fin 1024) :
    (dats m 0 c).flushed 4 p (ix2 r s) = k0_pay2 (iblk m c 0 p) (iblk m c 1 p) (iblk m c 2 p) (iblk m c 3 p) (ix2 r s) := by
  rw [flushed4]
  unfold out0_4
  rw [View.canon_unit_zero hz]
  simp only [View.ld_unit_zero (S := S1024x2048) hz, View.ld_unit_zero (S := S2048x1024) hz, View.ld_unit_zero (S := S1024x1024) hz, View.ld_unit_zero (S := S1x1024) hz]
  rfl

theorem flushed_y (c : Dev nD) (p : Fin cfg0.N) (r s : Fin 1024) :
    (dats m 0 c).flushed 5 p (ix2 r s) = k0_pay3 (iblk m c 0 p) (iblk m c 1 p) (ix2 r s) := by
  rw [flushed5]
  unfold out0_5
  rw [View.canon_unit_zero hz]
  simp only [View.ld_unit_zero (S := S1024x2048) hz, View.ld_unit_zero (S := S2048x1024) hz]
  rfl

theorem pay_at (c : Dev nD) (t : Fin 4) (u : Fin 2) (r s : Fin 1024) :
    (k0_pay1 (F := Ideal) (iblk m c 0 (pt t u)) (iblk m c 1 (pt t u)) (ix2 r s) : EReal)
      = ∑ k : Fin 2048, ov m c (rowOf 4 1024 t r) k * wv m c k (rowOf 2 1024 u s) := by
  unfold k0_pay1
  pointwise
  simp only [o_at, w_at]

/-- The first result: the residual plus the gated product. -/
theorem x_final (c : Dev nD) (i : Fin 4096) (l : Fin 2048) :
    (dats m 0 c).arrAt 4 cfg0.N (ix2 i l) = xv m c i l + gv m c l * ∑ k : Fin 2048, ov m c i k * wv m c k l := by
  obtain ⟨t, r, rfl⟩ := exists_rowOf (n := 4) (k := 1024) i
  obtain ⟨u, s, rfl⟩ := exists_rowOf (n := 2) (k := 1024) l
  have h := (dats m 0 c).arrAt_emb_eq_flushed 4 disjoint4 (pt t u) (flush0_4 (pt t u)) (ix2 r s)
  rw [show ((cfg0.win 4).blk (pt t u)).view.emb (ix2 r s) = ix2 (rowOf 4 1024 t r) (rowOf 2 1024 u s) from by
    obtain ⟨-, -, -, -, ⟨h0, h1⟩, -⟩ := index_eq (pt t u)
    exact ix2_ext (in_block (h0.trans (by dsimp only; omega))) (in_block (h1.trans (by dsimp only; omega)))] at h
  refine h.trans ((flushed_x m c _ r s).trans ?_)
  rw [← pay_at, ← x_at m c t u r s, ← g_at m c t u s]
  unfold k0_pay2
  pointwise

/-- The second result: the product. -/
theorem y_final (c : Dev nD) (i : Fin 4096) (l : Fin 2048) : (dats m 0 c).arrAt 5 cfg0.N (ix2 i l) = ∑ k : Fin 2048, ov m c i k * wv m c k l := by
  obtain ⟨t, r, rfl⟩ := exists_rowOf (n := 4) (k := 1024) i
  obtain ⟨u, s, rfl⟩ := exists_rowOf (n := 2) (k := 1024) l
  have h := (dats m 0 c).arrAt_emb_eq_flushed 5 disjoint5 (pt t u) (flush0_5 (pt t u)) (ix2 r s)
  rw [show ((cfg0.win 5).blk (pt t u)).view.emb (ix2 r s) = ix2 (rowOf 4 1024 t r) (rowOf 2 1024 u s) from by
    obtain ⟨-, -, -, -, -, ⟨h0, h1⟩⟩ := index_eq (pt t u)
    exact ix2_ext (in_block (h0.trans (by dsimp only; omega))) (in_block (h1.trans (by dsimp only; omega)))] at h
  refine h.trans ((flushed_y m c _ r s).trans (Eq.trans ?_ (pay_at m c t u r s)))
  unfold k0_pay3
  pointwise

end Cert.KernelAttnofwdIdeal.Value

namespace Cert.Proof.Attnofwd

open Idealize.ShloMosaic TcCoe Idealize.SL.Sem KernelAttnofwdIdeal.Value

theorem frame : quiescent_KernelAttnofwd := fun m ρ _ => KernelAttnofwd.Gen.frame m ρ
theorem frame_ideal : quiescent_KernelAttnofwdIdeal := fun m ρ _ => KernelAttnofwdIdeal.Gen.frame m ρ
theorem frame_reference : quiescent_ReferenceAttnofwdIdeal := fun m ρ _ =>
  (θ_run _ _ _).mono (fun r h => ⟨fun c => (h c).2.2, sem_eq_zero_of_no_sems (by decide) r.2⟩) (ReferenceAttnofwdIdeal.Value.run m ρ)

theorem preserves : preserves_KernelAttnofwd_KernelAttnofwdIdeal := trivial

/-- Both programs leave the residual with the gated product added, and the product. -/
theorem algebraic : algebraic_KernelAttnofwdIdeal_ReferenceAttnofwdIdeal := by
  intro m ρ m' ρ' _ hm
  refine ⟨fun c => (KernelAttnofwdIdeal.Gen.dats m 0 c).arrAt 4 KernelAttnofwdIdeal.cfg0.N,
    fun c => (KernelAttnofwdIdeal.Gen.dats m 0 c).arrAt 5 KernelAttnofwdIdeal.cfg0.N, run_blocks m ρ, ?_⟩
  refine (θ_run _ _ _).mono (fun r h c => ?_) (ReferenceAttnofwdIdeal.Value.run m' ρ')
  obtain ⟨hr, hs, hargs⟩ := h c
  obtain ⟨e0, e1, e2, e3⟩ := hm c
  refine ⟨hr.trans ?_, hs.trans ?_, hargs⟩
  · rw [e0, e1, e2, e3]
    funext j
    obtain ⟨i, l, rfl⟩ := exists_ix2 j
    refine Eq.trans ?_ (x_final m c i l).symm
    pointwise
  · rw [e0, e1]
    funext j
    obtain ⟨i, l, rfl⟩ := exists_ix2 j
    refine Eq.trans ?_ (y_final m c i l).symm
    pointwise

end Cert.Proof.Attnofwd

end
-- ==== Proof.GmlpoutForward.lean ====
/- The spatial block's output projection's forward call, which sums over four blocks of the inner axis, against the product written plainly: its two result arrays entry by entry, and the five claims. -/
module

public import proofs.«01_k».proof.Defs
public import proofs.«01_k».proof.Proof.Gen.KernelGmlpoutfwd.Frame
public import proofs.«01_k».proof.Proof.Gen.KernelGmlpoutfwdIdeal.Value
public import proofs.«01_k».proof.Proof.Gen.ReferenceGmlpoutfwdIdeal.Read
public import proofs.«01_k».proof.Proof.RowSums

@[expose] public section

noncomputable section

namespace Cert.KernelGmlpoutfwdIdeal.Value

open Gen Idealize.ShloMosaic TcCoe Idealize.SL.Sem
open Pipeline (Dat)

section

variable {F : FTy → Type} [FloatOps F] (m : (ℓ : Loc nD τ sig) → Buf (Elt F) ℓ)

/-- The first point of a block's three leaves its own product in the carried buffer. -/
theorem acc_first (c : Dev nD) (t : Fin cfg0.N) (h : t.val % 3 = 0) : (outsAt0 m c t.val t.isLt).2.2 = k0_pay2 (iblk m c 0 t) (iblk m c 1 t) := by
  rw [outsAt0_A m c t h (by omega) (by omega)]
  dsimp only
  unfold sout0_A_0
  rw [View.read_writes_eq_canon _ _ _ (fun y => scover0_A_0 (y := y) ..)]
  unfold kernelRun0_A
  dsimp only
  rw [View.canon_unit_zero hz]
  simp only [View.readAt_eq_ld, (hs0_0 t).read_unread, (hs0_1 t).read_unread, View.ld_unit_zero (S := S1024x2048) hz, View.ld_unit_zero (S := S2048x1024) hz]

/-- The next adds its own to what the point before left. -/
theorem acc_next (c : Dev nD) (t : Fin cfg0.N) (h : t.val % 3 = 1) : (outsAt0 m c t.val t.isLt).2.2
    = k0_pay3 (iblk m c 0 t) (iblk m c 1 t) (outsAt0 m c (t.val - 1) (Nat.lt_of_le_of_lt (Nat.sub_le _ _) t.isLt)).2.2 := by
  rw [outsAt0_B m c t (by omega) h (by omega)]
  dsimp only
  unfold sout0_B_0
  rw [View.read_writes_eq_canon _ _ _ (fun y => scover0_B_0 (y := y) ..)]
  unfold kernelRun0_B
  dsimp only
  rw [View.canon_unit_zero hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

/-- The last writes both results from the sum. -/
theorem out_last (c : Dev nD) (t : Fin cfg0.N) (h : t.val % 3 = 2) : (outsAt0 m c t.val t.isLt).1
    = k0_pay5 (iblk m c 0 t) (iblk m c 1 t) (outsAt0 m c (t.val - 1) (Nat.lt_of_le_of_lt (Nat.sub_le _ _) t.isLt)).2.2 (iblk m c 2 t) (iblk m c 3 t) := by
  rw [outsAt0_C m c t (by omega) (by omega) h]
  dsimp only
  unfold out0_C_4
  rw [View.read_writes_eq_canon _ _ _ (fun y => cover0_C_4 (y := y) ..)]
  unfold kernelRun0_C
  dsimp only
  rw [View.canon_unit_zero hz]
  simp only [View.readAt_eq_ld, (hs0_0 t).read_unread, (hs0_1 t).read_unread, (hs0_2 t).read_unread, (hs0_3 t).read_unread, (Memref.isWhole_whole _).read_unread,
    View.ld_unit_zero (S := S1024x2048) hz, View.ld_unit_zero (S := S2048x1024) hz, View.ld_unit_zero (S := S1024x1024) hz, View.ld_unit_zero (S := S1x1024) hz]

theorem sum_last (c : Dev nD) (t : Fin cfg0.N) (h : t.val % 3 = 2) : (outsAt0 m c t.val t.isLt).2.1
    = k0_pay6 (iblk m c 0 t) (iblk m c 1 t) (outsAt0 m c (t.val - 1) (Nat.lt_of_le_of_lt (Nat.sub_le _ _) t.isLt)).2.2 := by
  rw [outsAt0_C m c t (by omega) (by omega) h]
  dsimp only
  unfold out0_C_5
  rw [View.read_writes_eq_canon _ _ _ (fun y => cover0_C_5 (y := y) ..)]
  unfold kernelRun0_C
  dsimp only
  rw [View.canon_unit_zero hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

end

variable (m : (ℓ : Loc nD τ sig) → Buf (Elt Ideal) ℓ)

theorem index_eq : ∀ t : Fin cfg0.N,  (win0_0.index t 0 = t.val / 6 ∧ win0_0.index t 1 = t.val % 3) ∧ (win0_1.index t 0 = t.val % 3 ∧ win0_1.index t 1 = t.val / 3 % 2)
    ∧ (win0_2.index t 0 = t.val / 6 ∧ win0_2.index t 1 = t.val / 3 % 2) ∧ (win0_3.index t 0 = 0 ∧ win0_3.index t 1 = t.val / 3 % 2) := by decide +kernel

/-- The grid point of block row t, block column u and inner block q. -/
abbrev pt (t : Fin 4) (u : Fin 2) (q : Fin 3) : Fin cfg0.N := ⟨t.val * 6 + u.val * 3 + q.val, by have : cfg0.N = 24 := N_0; omega⟩

/-- The arguments, entry by entry: the gated half, the weight, the residual and the gate. -/
abbrev sv (c : Dev nD) (i : Fin 4096) (k : Fin 6144) : EReal := m (c.tc.loc main_arg0) (ix2 i k)
abbrev wv (c : Dev nD) (k : Fin 6144) (l : Fin 2048) : EReal := m (c.tc.loc main_arg1) (ix2 k l)
abbrev xv (c : Dev nD) (i : Fin 4096) (l : Fin 2048) : EReal := m (c.tc.loc main_arg2) (ix2 i l)
abbrev gv (c : Dev nD) (l : Fin 2048) : EReal := m (c.tc.loc main_arg3) (ix2 0 l)

theorem s_at (c : Dev nD) (t : Fin 4) (u : Fin 2) (q : Fin 3) (r : Fin 1024) (k : Fin 2048) :
    iblk m c 0 (pt t u q) (ix2 r k) = sv m c (rowOf 4 1024 t r) (rowOf 3 2048 q k) := by
  obtain ⟨⟨h0, h1⟩, -⟩ := index_eq (pt t u q)
  exact congrArg (m (c.tc.loc main_arg0)) (ix2_ext (in_block (h0.trans (by dsimp only; omega))) (in_block (h1.trans (by dsimp only; omega))))

theorem w_at (c : Dev nD) (t : Fin 4) (u : Fin 2) (q : Fin 3) (k : Fin 2048) (l : Fin 1024) :
    iblk m c 1 (pt t u q) (ix2 k l) = wv m c (rowOf 3 2048 q k) (rowOf 2 1024 u l) := by
  obtain ⟨-, ⟨h0, h1⟩, -⟩ := index_eq (pt t u q)
  exact congrArg (m (c.tc.loc main_arg1)) (ix2_ext (in_block (h0.trans (by dsimp only; omega))) (in_block (h1.trans (by dsimp only; omega))))

theorem x_at (c : Dev nD) (t : Fin 4) (u : Fin 2) (q : Fin 3) (r l : Fin 1024) :
    iblk m c 2 (pt t u q) (ix2 r l) = xv m c (rowOf 4 1024 t r) (rowOf 2 1024 u l) := by
  obtain ⟨-, -, ⟨h0, h1⟩, -⟩ := index_eq (pt t u q)
  exact congrArg (m (c.tc.loc main_arg2)) (ix2_ext (in_block (h0.trans (by dsimp only; omega))) (in_block (h1.trans (by dsimp only; omega))))

theorem g_at (c : Dev nD) (t : Fin 4) (u : Fin 2) (q : Fin 3) (l : Fin 1024) :
    iblk m c 3 (pt t u q) (ix2 0 l) = gv m c (rowOf 2 1024 u l) := by
  obtain ⟨-, -, -, ⟨h0, h1⟩⟩ := index_eq (pt t u q)
  exact congrArg (m (c.tc.loc main_arg3)) (ix2_ext (in_only h0) (in_block (h1.trans (by dsimp only; omega))))

/-- One inner block's share of the product. -/
abbrev share (c : Dev nD) (i : Fin 4096) (l : Fin 2048) (q : Fin 3) : EReal := ∑ k : Fin 2048, sv m c i (rowOf 3 2048 q k) * wv m c (rowOf 3 2048 q k) l

theorem pay_at (c : Dev nD) (t : Fin 4) (u : Fin 2) (q : Fin 3) (r l : Fin 1024) :
    (k0_pay1 (F := Ideal) (iblk m c 0 (pt t u q)) (iblk m c 1 (pt t u q)) (ix2 r l) : EReal) = share m c (rowOf 4 1024 t r) (rowOf 2 1024 u l) q := by
  unfold k0_pay1
  pointwise
  simp only [s_at, w_at]

/-- The carried buffer before the last point: the first two shares. -/
theorem acc_one (c : Dev nD) (t : Fin 4) (u : Fin 2) (r l : Fin 1024) :
    ((outsAt0 m c (pt t u 1).val (pt t u 1).isLt).2.2 (ix2 r l) : EReal)
      = share m c (rowOf 4 1024 t r) (rowOf 2 1024 u l) 0 + share m c (rowOf 4 1024 t r) (rowOf 2 1024 u l) 1 := by
  have h0 := congrFun (acc_first m c (pt t u 0) (by dsimp only; omega)) (ix2 r l)
  have h1 := congrFun (acc_next m c (pt t u 1) (by dsimp only; omega)) (ix2 r l)
  rw [show k0_pay2 (iblk m c 0 (pt t u 0)) (iblk m c 1 (pt t u 0)) (ix2 r l) = k0_pay1 (F := Ideal) (iblk m c 0 (pt t u 0)) (iblk m c 1 (pt t u 0)) (ix2 r l) by
    unfold k0_pay2; pointwise, pay_at] at h0
  rw [show ∀ old : FVec Ideal S1024x1024 .f32, k0_pay3 (F := Ideal) (iblk m c 0 (pt t u 1)) (iblk m c 1 (pt t u 1)) old (ix2 r l)
      = (old (ix2 r l) : EReal) + share m c (rowOf 4 1024 t r) (rowOf 2 1024 u l) 1 by
    intro old
    rw [← pay_at]
    unfold k0_pay3
    pointwise] at h1
  exact h1.trans (congrArg (· + share m c (rowOf 4 1024 t r) (rowOf 2 1024 u l) 1) h0)

theorem total (c : Dev nD) (t : Fin 4) (u : Fin 2) (r l : Fin 1024) :
    (k0_pay4 (F := Ideal) (iblk m c 0 (pt t u 2)) (iblk m c 1 (pt t u 2)) (outsAt0 m c (pt t u 1).val (pt t u 1).isLt).2.2 (ix2 r l) : EReal)
      = ∑ k : Fin 6144, sv m c (rowOf 4 1024 t r) k * wv m c k (rowOf 2 1024 u l) := by
  rw [sum_rowOf (n := 3) (k := 2048), Fin.sum_univ_three]
  refine Eq.trans ?_ (congrArg (· + share m c (rowOf 4 1024 t r) (rowOf 2 1024 u l) 2) (acc_one m c t u r l))
  rw [← pay_at]
  unfold k0_pay4
  pointwise

/-- The first result: the residual plus the gated product. -/
theorem x_final (c : Dev nD) (i : Fin 4096) (l : Fin 2048) :
    G4 m c (ix2 i l) = xv m c i l + gv m c l * ∑ k : Fin 6144, sv m c i k * wv m c k l := by
  obtain ⟨t, r, rfl⟩ := exists_rowOf (n := 4) (k := 1024) i
  obtain ⟨u, s, rfl⟩ := exists_rowOf (n := 2) (k := 1024) l
  have close : ∀ (n : ℕ) (j : S1024x1024.Idx) (z : EReal), n = (pt t u 2).val → j = ix2 r s →
      (if h : n < cfg0.N then (Pipeline.accAt (fun n h => stAt0 m c n h junk0) (stAt0 m c) 0 n (by omega)).1 j else z) = (outsAt0 m c (pt t u 2).val (pt t u 2).isLt).1 (ix2 r s) := by
    rintro _ _ z rfl rfl
    rw [dif_pos (pt t u 2).isLt, outsAt0_sweep]
  refine (close _ _ _ ?_ ?_).trans ((congrFun (out_last m c (pt t u 2) (by dsimp only; omega)) (ix2 r s)).trans ?_)
  · show 3 * (2 * ((t.val * 1024 + r.val) / 1024 - 0) + 1 * ((u.val * 1024 + s.val) / 1024 - 0)) + 2 = t.val * 6 + u.val * 3 + 2
    omega
  · funext a
    match a with
    | ⟨0, _⟩ => exact Fin.ext (show (t.val * 1024 + r.val) % 1024 = r.val by omega)
    | ⟨1, _⟩ => exact Fin.ext (show (u.val * 1024 + s.val) % 1024 = s.val by omega)
  · refine Eq.trans ?_ (congrArg (fun z : EReal => xv m c (rowOf 4 1024 t r) (rowOf 2 1024 u s) + gv m c (rowOf 2 1024 u s) * z) (total m c t u r s))
    unfold k0_pay5
    pointwise
    rw [x_at, g_at]
    rfl

/-- The second result: the product. -/
theorem y_final (c : Dev nD) (i : Fin 4096) (l : Fin 2048) : G5 m c (ix2 i l) = ∑ k : Fin 6144, sv m c i k * wv m c k l := by
  obtain ⟨t, r, rfl⟩ := exists_rowOf (n := 4) (k := 1024) i
  obtain ⟨u, s, rfl⟩ := exists_rowOf (n := 2) (k := 1024) l
  have close : ∀ (n : ℕ) (j : S1024x1024.Idx) (z : EReal), n = (pt t u 2).val → j = ix2 r s →
      (if h : n < cfg0.N then (Pipeline.accAt (fun n h => stAt0 m c n h junk0) (stAt0 m c) 0 n (by omega)).2.1 j else z) = (outsAt0 m c (pt t u 2).val (pt t u 2).isLt).2.1 (ix2 r s) := by
    rintro _ _ z rfl rfl
    rw [dif_pos (pt t u 2).isLt, outsAt0_sweep]
  refine (close _ _ _ ?_ ?_).trans ((congrFun (sum_last m c (pt t u 2) (by dsimp only; omega)) (ix2 r s)).trans ?_)
  · show 3 * (2 * ((t.val * 1024 + r.val) / 1024 - 0) + 1 * ((u.val * 1024 + s.val) / 1024 - 0)) + 2 = t.val * 6 + u.val * 3 + 2
    omega
  · funext a
    match a with
    | ⟨0, _⟩ => exact Fin.ext (show (t.val * 1024 + r.val) % 1024 = r.val by omega)
    | ⟨1, _⟩ => exact Fin.ext (show (u.val * 1024 + s.val) % 1024 = s.val by omega)
  · refine Eq.trans ?_ (total m c t u r s)
    unfold k0_pay6
    pointwise
    rfl

end Cert.KernelGmlpoutfwdIdeal.Value

namespace Cert.Proof.Gmlpoutfwd

open Idealize.ShloMosaic TcCoe Idealize.SL.Sem KernelGmlpoutfwdIdeal.Value

theorem frame : quiescent_KernelGmlpoutfwd := fun m ρ _ => KernelGmlpoutfwd.Gen.frame m ρ
theorem frame_ideal : quiescent_KernelGmlpoutfwdIdeal := fun m ρ _ => KernelGmlpoutfwdIdeal.Gen.frame m ρ
theorem frame_reference : quiescent_ReferenceGmlpoutfwdIdeal := fun m ρ _ =>
  (θ_run _ _ _).mono (fun r h => ⟨fun c => (h c).2.2, sem_eq_zero_of_no_sems (by decide) r.2⟩) (ReferenceGmlpoutfwdIdeal.Value.run m ρ)

theorem preserves : preserves_KernelGmlpoutfwd_KernelGmlpoutfwdIdeal := trivial

/-- Both programs leave the residual with the gated product added, and the product. -/
theorem algebraic : algebraic_KernelGmlpoutfwdIdeal_ReferenceGmlpoutfwdIdeal := by
  intro m ρ m' ρ' _ hm
  refine ⟨G4 m, G5 m, KernelGmlpoutfwdIdeal.Value.run m ρ, ?_⟩
  refine (θ_run _ _ _).mono (fun r h c => ?_) (ReferenceGmlpoutfwdIdeal.Value.run m' ρ')
  obtain ⟨hr, hs, hargs⟩ := h c
  obtain ⟨e0, e1, e2, e3⟩ := hm c
  refine ⟨hr.trans ?_, hs.trans ?_, hargs⟩
  · rw [e0, e1, e2, e3]
    funext j
    obtain ⟨i, l, rfl⟩ := exists_ix2 j
    refine Eq.trans ?_ (x_final m c i l).symm
    pointwise
  · rw [e0, e1]
    funext j
    obtain ⟨i, l, rfl⟩ := exists_ix2 j
    refine Eq.trans ?_ (y_final m c i l).symm
    pointwise

end Cert.Proof.Gmlpoutfwd

end
-- ==== Proof.SiluForward.lean ====
/- The activation of the condition, forward, against it written plainly: its result array entry by entry, and the five claims. -/
module

public import proofs.«01_k».proof.Defs
public import proofs.«01_k».proof.Proof.Gen.KernelSilufwd.Frame
public import proofs.«01_k».proof.Proof.Gen.KernelSilufwdIdeal.Value
public import proofs.«01_k».proof.Proof.Gen.ReferenceSilufwdIdeal.Read
public import proofs.«01_k».proof.Proof.NormMath

@[expose] public section

noncomputable section

namespace Cert.KernelSilufwdIdeal.Value

open Gen Idealize.ShloMosaic TcCoe Idealize.SL.Sem Norm
open Pipeline (Dat)

variable (m : (ℓ : Loc nD τ sig) → Buf (Elt Ideal) ℓ)

theorem index_eq : ∀ t : Fin cfg0.N,  (win0_0.index t 0 = 0 ∧ win0_0.index t 1 = 0) ∧ (win0_1.index t 0 = 0 ∧ win0_1.index t 1 = 0) := by decide +kernel

/-- The one grid point. -/
abbrev pt : Fin cfg0.N := ⟨0, by have : cfg0.N = 1 := N_0; omega⟩

abbrev cv (c : Dev nD) (i : Fin 8) (l : Fin 2048) : EReal := m (c.tc.loc main_arg0) (ix2 i l)

theorem c_at (c : Dev nD) (i : Fin 8) (l : Fin 2048) : iblk m c 0 pt (ix2 i l) = cv m c i l := by
  obtain ⟨⟨h0, h1⟩, -⟩ := index_eq pt
  exact congrArg (m (c.tc.loc main_arg0)) (ix2_ext (in_only h0) (in_only h1))

theorem flushed_at (c : Dev nD) (i : Fin 8) (l : Fin 2048) : (dats m 0 c).flushed 1 pt (ix2 i l) = k0_pay1 (iblk m c 0 pt) (ix2 i l) := by
  rw [flushed1]
  unfold out0_1
  rw [View.canon_unit_zero hz]
  simp only [View.ld_unit_zero (S := S8x2048) hz]
  rfl

theorem pay_at (x : FVec Ideal S8x2048 .f32) (i : Fin 8) (l : Fin 2048) :
    k0_pay1 x (ix2 i l) = (x (ix2 i l) : EReal) * Ideal.div 1 (1 + Ideal.exp (-(x (ix2 i l) : EReal))) := by
  unfold k0_pay1
  pointwise
  rfl

/-- An entry times its logistic function. -/
theorem out_at (c : Dev nD) (i : Fin 8) (l : Fin 2048) :
    (dats m 0 c).arrAt 1 cfg0.N (ix2 i l) = cv m c i l * Ideal.div 1 (1 + Ideal.exp (-cv m c i l)) := by
  have h := (dats m 0 c).arrAt_emb_eq_flushed 1 disjoint1 pt (flush0_1 pt) (ix2 i l)
  rw [show ((cfg0.win 1).blk pt).view.emb (ix2 i l) = ix2 i l from by
    obtain ⟨-, ⟨h0, h1⟩⟩ := index_eq pt
    exact ix2_ext (in_only h0) (in_only h1)] at h
  refine h.trans ?_
  rw [flushed_at, pay_at, c_at]
  rfl

end Cert.KernelSilufwdIdeal.Value

namespace Cert.Proof.Silufwd

open Idealize.ShloMosaic TcCoe Idealize.SL.Sem KernelSilufwdIdeal.Value Norm

theorem frame : quiescent_KernelSilufwd := fun m ρ _ => KernelSilufwd.Gen.frame m ρ
theorem frame_ideal : quiescent_KernelSilufwdIdeal := fun m ρ _ => KernelSilufwdIdeal.Gen.frame m ρ
theorem frame_reference : quiescent_ReferenceSilufwdIdeal := fun m ρ _ =>
  (θ_run _ _ _).mono (fun r h => ⟨fun c => (h c).2, sem_eq_zero_of_no_sems (by decide) r.2⟩) (ReferenceSilufwdIdeal.Value.run m ρ)

theorem preserves : preserves_KernelSilufwd_KernelSilufwdIdeal := trivial

/-- Both programs leave the activation. -/
theorem algebraic : algebraic_KernelSilufwdIdeal_ReferenceSilufwdIdeal := by
  intro m ρ m' ρ' _ hm
  refine ⟨fun c => (KernelSilufwdIdeal.Gen.dats m 0 c).arrAt 1 KernelSilufwdIdeal.cfg0.N, run_blocks m ρ, ?_⟩
  refine (θ_run _ _ _).mono (fun r h c => ?_) (ReferenceSilufwdIdeal.Value.run m' ρ')
  obtain ⟨hr, hargs⟩ := h c
  refine ⟨hr.trans ?_, hargs⟩
  rw [hm c]
  funext j
  obtain ⟨i, l, rfl⟩ := exists_ix2 j
  refine Eq.trans ?_ (out_at m c i l).symm
  pointwise

end Cert.Proof.Silufwd

end
-- ==== Proof.AdaForward.lean ====
/- The layers' modulations, forward, against the products and biases written plainly: the result array entry by entry, and the five claims. -/
module

public import proofs.«01_k».proof.Defs
public import proofs.«01_k».proof.Proof.Gen.KernelAdafwd.Frame
public import proofs.«01_k».proof.Proof.Gen.KernelAdafwdIdeal.Value
public import proofs.«01_k».proof.Proof.Gen.ReferenceAdafwdIdeal.Read
public import proofs.«01_k».proof.Proof.RowSums

@[expose] public section

noncomputable section

namespace Cert.KernelAdafwdIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = 0 ∧ win0_0.index t 1 = 0)
    ∧ (win0_1.index t 0 = t.val / 3 ∧ win0_1.index t 1 = 0 ∧ win0_1.index t 2 = t.val % 3)
    ∧ (win0_2.index t 0 = 0 ∧ win0_2.index t 1 = t.val) ∧ (win0_3.index t 0 = 0 ∧ win0_3.index t 1 = t.val) := by decide +kernel

/-- The grid point of layer p's third q. -/
abbrev pt (p : Fin 4) (q : Fin 3) : Fin cfg0.N := ⟨p.val * 3 + q.val, by have : cfg0.N = 12 := N_0; omega⟩

/-- The arguments, entry by entry: the activated conditioning, the layers' weights and biases. -/
abbrev sv (c : Dev nD) (i : Fin 8) (k : Fin 2048) : EReal := m (c.tc.loc main_arg0) (ix2 i k)
abbrev wv (c : Dev nD) (p : Fin 4) (k : Fin 2048) (s : Fin 3072) : EReal := m (c.tc.loc main_arg1) (ix3 p k s)
abbrev bv (c : Dev nD) (p : Fin 4) (s : Fin 3072) : EReal := m (c.tc.loc main_arg2) (ix2 p s)

theorem s_at (c : Dev nD) (t : Fin cfg0.N) (i : Fin 8) (k : Fin 2048) : iblk m c 0 t (ix2 i k) = sv m c i k := by
  obtain ⟨⟨h0, h1⟩, -⟩ := index_eq t
  exact congrArg (m (c.tc.loc main_arg0)) (ix2_ext (in_only h0) (in_only h1))

theorem w_at (c : Dev nD) (p : Fin 4) (q : Fin 3) (k : Fin 2048) (s : Fin 1024) :
    iblk m c 1 (pt p q) (ix3 0 k s) = wv m c p k (rowOf 3 1024 q s) := by
  refine congrArg (m (c.tc.loc main_arg1)) (funext fun a => Fin.ext ?_)
  obtain ⟨-, ⟨h0, h1, h2⟩, -⟩ := index_eq (pt p q)
  match a with
  | ⟨0, _⟩ => show win0_1.index (pt p q) 0 * 1 + 1 * 0 = p.val; rw [h0]; dsimp only; omega
  | ⟨1, _⟩ => show win0_1.index (pt p q) 1 * 2048 + 1 * k.val = k.val; rw [h1]; omega
  | ⟨2, _⟩ => show win0_1.index (pt p q) 2 * 1024 + 1 * s.val = q.val * 1024 + s.val; rw [h2]; dsimp only; omega

/-- A column of the result is one of a layer's. -/
theorem layer_of (p : Fin 4) (s : Fin 3072) (h) : (⟨(rowOf (N := 12288) 4 3072 p s).val / 3072, h⟩ : Fin 4) = p :=
  Fin.ext (show (p.val * 3072 + s.val) / 3072 = p.val by have := s.isLt; omega)
theorem place_of (p : Fin 4) (s : Fin 3072) (h) : (⟨(rowOf (N := 12288) 4 3072 p s).val % 3072, h⟩ : Fin 3072) = s :=
  Fin.ext (show (p.val * 3072 + s.val) % 3072 = s.val by have := s.isLt; omega)

/-- The host lays the layers' biases out in one row. -/
theorem b_row (c : Dev nD) (p : Fin 4) (s : Fin 3072) : V m c main_v0 (ix2 0 (rowOf 4 3072 p s)) = bv m c p s := by
  unfold V
  after_results
  pointwise
  exact congrArg₂ (fun a b => m (c.tc.loc main_arg2) (ix2 a b)) (layer_of p s _) (place_of p s _)

theorem b_at (c : Dev nD) (p : Fin 4) (q : Fin 3) (s : Fin 1024) : iblk m c 2 (pt p q) (ix2 0 s) = bv m c p (rowOf 3 1024 q s) := by
  obtain ⟨-, -, ⟨h0, h1⟩, -⟩ := index_eq (pt p q)
  refine Eq.trans (congrArg (V m c main_v0) (funext fun a => Fin.ext ?_)) (b_row m c p (rowOf 3 1024 q s))
  match a with
  | ⟨0, _⟩ => show win0_2.index (pt p q) 0 * 1 + 1 * 0 = 0; rw [h0]
  | ⟨1, _⟩ => show win0_2.index (pt p q) 1 * 1024 + 1 * s.val = p.val * 3072 + (q.val * 1024 + s.val); rw [h1]; dsimp only; omega

/-- What a point writes back. -/
theorem flushed_at (c : Dev nD) (t : Fin cfg0.N) (i : Fin 8) (s : Fin 1024) :
    (dats m 0 c).flushed 3 t (ix2 i s) = k0_pay1 (iblk m c 0 t) (iblk m c 1 t) (iblk m c 2 t) (ix2 i s) := by
  rw [flushed3]
  unfold out0_3
  rw [View.canon_unit_zero hz]
  simp only [View.ld_unit_zero (S := S8x2048) hz, View.ld_unit_zero (S := S1x2048x1024) hz3, View.ld_unit_zero (S := S1x1024) hz]
  rfl

/-- The result: each layer's product with its bias added. -/
theorem final (c : Dev nD) (i : Fin 8) (p : Fin 4) (s : Fin 3072) :
    (dats m 0 c).arrAt 3 cfg0.N (ix2 i (rowOf 4 3072 p s)) = (∑ k : Fin 2048, sv m c i k * wv m c p k s) + bv m c p s := by
  obtain ⟨q, s, rfl⟩ := exists_rowOf (n := 3) (k := 1024) s
  have h := (dats m 0 c).arrAt_emb_eq_flushed 3 disjoint3 (pt p q) (flush0_3 (pt p q)) (ix2 i s)
  rw [show ((cfg0.win 3).blk (pt p q)).view.emb (ix2 i s) = ix2 i (rowOf 4 3072 p (rowOf 3 1024 q s)) from funext fun a => Fin.ext <| by
    obtain ⟨-, -, -, ⟨h0, h1⟩⟩ := index_eq (pt p q)
    match a with
    | ⟨0, _⟩ => show win0_3.index (pt p q) 0 * 8 + 1 * i.val = i.val; rw [h0]; omega
    | ⟨1, _⟩ => show win0_3.index (pt p q) 1 * 1024 + 1 * s.val = p.val * 3072 + (q.val * 1024 + s.val); rw [h1]; dsimp only; omega] at h
  refine h.trans ((flushed_at m c _ i s).trans ?_)
  unfold k0_pay1
  pointwise
  simp only [s_at, w_at, b_at]

end Cert.KernelAdafwdIdeal.Value

namespace Cert.Proof.Adafwd

open Idealize.ShloMosaic TcCoe Idealize.SL.Sem KernelAdafwdIdeal.Value

theorem frame : quiescent_KernelAdafwd := fun m ρ _ => KernelAdafwd.Gen.frame m ρ
theorem frame_ideal : quiescent_KernelAdafwdIdeal := fun m ρ _ => KernelAdafwdIdeal.Gen.frame m ρ
theorem frame_reference : quiescent_ReferenceAdafwdIdeal := fun m ρ _ =>
  (θ_run _ _ _).mono (fun r h => ⟨fun c => (h c).2, sem_eq_zero_of_no_sems (by decide) r.2⟩) (ReferenceAdafwdIdeal.Value.run m ρ)

theorem preserves : preserves_KernelAdafwd_KernelAdafwdIdeal := trivial

/-- Both programs leave each layer's product with its bias added. -/
theorem algebraic : algebraic_KernelAdafwdIdeal_ReferenceAdafwdIdeal := by
  intro m ρ m' ρ' _ hm
  refine ⟨fun c => (KernelAdafwdIdeal.Gen.dats m 0 c).arrAt 3 KernelAdafwdIdeal.cfg0.N, run_blocks m ρ, ?_⟩
  refine (θ_run _ _ _).mono (fun r h c => ?_) (ReferenceAdafwdIdeal.Value.run m' ρ')
  obtain ⟨hr, hargs⟩ := h c
  obtain ⟨e0, e1, e2⟩ := hm c
  refine ⟨hr.trans ?_, hargs⟩
  rw [e0, e1, e2]
  funext j
  obtain ⟨i, l, rfl⟩ := exists_ix2 j
  obtain ⟨p, s, rfl⟩ := exists_rowOf (n := 4) (k := 3072) l
  refine Eq.trans ?_ (final m c i p s).symm
  pointwise
  rw [layer_of, place_of]

end Cert.Proof.Adafwd

end
-- ==== Proof.FcumForwardRun.lean ====
/- The running total of the log-gates, forward: its body's run, from any contents of its buffers, and the whole call's. The body stores the total's rows block by block and then
   reads them back to lay them out in columns, so what it stores there depends on the first result's buffer: on the rows just stored alone, since they cover it. -/
module

public import proofs.«01_k».proof.Proof.Gen.KernelFcumfwdIdeal.Frame
public import proofs.«01_k».proof.Proof.Gen.KernelFcumfwdIdeal.Loops
public import Idealize.ShloMosaic.Lib.Claim

@[expose] public section

noncomputable section

namespace Cert.KernelFcumfwdIdeal.Run

open KernelFcumfwdIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The three buffers of a call of the body: the log-gates, the rows and the columns of their running total. -/
structure Bufs where
  x : Memref sig .tc .vmem S4096x128 .f32
  hx : x.IsWhole
  r : Memref sig .tc .vmem S4096x128 .f32
  hr : r.IsWhole
  k : Memref sig .tc .vmem S4x128x1024 .f32
  hk : k.IsWhole

set_option maxHeartbeats 1000000 in
/-- The body's run when the rows' buffer holds `e`: the pieces it stores there and in the columns' buffer. -/
def body (c : Dev nD) (b : Bufs) (x : Vec F S4096x128 .f32) (e : BufTy.Contents (Elt F) b.r.view.ty) :
    Σ' (L : List (View.Piece (Elt F) S4096x128 .f32)), { M : List (View.Piece (Elt F) S4x128x1024 .f32) //
      ∀ (E : Set ℕ) (K : PUnit → sProp 𝕄),
        iprop(owns (c : Thread nD τ) b.x fullShare x ∗ (b.r.view.loc (c : Thread nD τ) ↦[b.r.view.set]{fullShare} e) ∗ (∃ d, owns (c : Thread nD τ) b.k fullShare d)
            ∗ (iprop(owns (c : Thread nD τ) b.x fullShare x ∗ (b.r.view.loc (c : Thread nD τ) ↦[b.r.view.set]{fullShare} b.r.view.writes (Elt F) e L)
                ∗ (∃ f, b.k.view.loc (c : Thread nD τ) ↦[b.k.view.set]{fullShare} b.k.view.writes (Elt F) f M)) -∗ K ⟨⟩))
          ⊢ wp frame (wpE (defs₀ (F := F)) Variants.none c none) E (cc0_fcum_fwd b.x b.hx b.r b.hr b.k b.hk) K } := by
  refine ⟨?_, ?_, fun E K => ?run⟩
  case run =>
    simp only [cc0_fcum_fwd_eq_skeleton]; unfold cc0_fcum_fwd_skel
    unfold owns
    iintro ⟨⟨%f0, %hf0, H0⟩, H1, ⟨%d2, %f2, -, H2⟩, Hk⟩
    obtain rfl := b.hx.eq_unread hf0
    sl_exec
    sl_step
    iapply Hk
    isplitl [H0]
    · iexists _; isplitr; · ipureintro; exact b.hx.read_unread _
      iexact H0
    isplitl [H1]; · iexact H1
    iexists _; iexact H2

/-- The stored rows tile their block. -/
theorem rows_cover (c : Dev nD) (b : Bufs) (x : Vec F S4096x128 .f32) (e : BufTy.Contents (Elt F) b.r.view.ty) (y : S4096x128.Idx) :
    ∃ pc ∈ (body c b x e).1, y ∈ pc.1.set :=
  View.cover_of_tiledL (body c b x e).1 S128x128.size (by sl_kernel_rfl) y

/-- The stored columns tile theirs. -/
theorem columns_cover (c : Dev nD) (b : Bufs) (x : Vec F S4096x128 .f32) (e : BufTy.Contents (Elt F) b.r.view.ty) (y : S4x128x1024.Idx) :
    ∃ pc ∈ (body c b x e).2.1, y ∈ pc.1.set :=
  View.cover_of_tiledL (body c b x e).2.1 S1x128x1024.size (by sl_kernel_rfl) y

/-- The rows the loop stores. -/
def rows (c : Dev nD) (b : Bufs) (x : Vec F S4096x128 .f32) : Vec F S4096x128 .f32 := View.canon (body c b x b.r.view.junk).1

/-- A block of 1024 rows of a total, laid out in columns. -/
abbrev turned (y : Vec F S4096x128 .f32) : List (View.Piece (Elt F) S4x128x1024 .f32) :=
  [⟨Rect.unit ![3, 0, 0] ![1, 128, 1024] inb_S4x128x1024_S1x128x1024_3_0_0, k0_pay7 (View.ld y (Rect.unit ![3072, 0] ![1024, 128] inb_S4096x128_S1024x128_3072_0))⟩,
    ⟨Rect.unit ![2, 0, 0] ![1, 128, 1024] inb_S4x128x1024_S1x128x1024_2_0_0, k0_pay6 (View.ld y (Rect.unit ![2048, 0] ![1024, 128] inb_S4096x128_S1024x128_2048_0))⟩,
    ⟨Rect.unit ![1, 0, 0] ![1, 128, 1024] inb_S4x128x1024_S1x128x1024_1_0_0, k0_pay5 (View.ld y (Rect.unit ![1024, 0] ![1024, 128] inb_S4096x128_S1024x128_1024_0))⟩,
    ⟨Rect.unit ![0, 0, 0] ![1, 128, 1024] inb_S4x128x1024_S1x128x1024_0_0_0, k0_pay4 (View.ld y (Rect.unit ![0, 0] ![1024, 128] inb_S4096x128_S1024x128_0_0))⟩]

theorem rows_read (c : Dev nD) (b : Bufs) (x : Vec F S4096x128 .f32) (e : BufTy.Contents (Elt F) b.r.view.ty) :
    b.r.view.read (Elt F) (b.r.view.writes (Elt F) e (body c b x e).1) = rows c b x :=
  View.read_writes_eq_canon _ _ _ (rows_cover c b x e)

/-- What is stored in columns is the rows just stored, turned: the loads that follow the loop read what it stored. -/
theorem columns_eq (c : Dev nD) (b : Bufs) (x : Vec F S4096x128 .f32) (e : BufTy.Contents (Elt F) b.r.view.ty) :
    (body c b x e).2.1 = turned (rows c b x) := by
  rw [← rows_read c b x e]
  rfl

variable (m : (ℓ : Loc nD τ sig) → Buf (Elt F) ℓ) (ρ : Dev nD → PrngReg)

/-- The buffers of the call at a point. -/
abbrev bufs (t : Fin cfg0.N) : Bufs :=
  ⟨win0_0.stage (cfg0.slots t 0), hstage0_0 0, win0_1.stage (cfg0.slots t 1), hstage0_1 0, win0_2.stage (cfg0.slots t 2), hstage0_2 0⟩

/-- The proof data: the log-gates stay, and the two results hold the rows and the columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => rows c (bufs t) (iblk m c 0 t)
    | ⟨2, _⟩ => View.canon (turned (rows c (bufs t) (iblk m c 0 t)))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = rows c (bufs t) (iblk m c 0 t) := by dsimp only [dats]
theorem after_2 (c : Dev nD) (t : Fin cfg0.N) : (dats m 0 c).after 2 t = View.canon (turned (rows c (bufs t) (iblk m c 0 t))) := by dsimp only [dats]
theorem before_0 (c : Dev nD) (t : Fin cfg0.N) (d) : (dats m 0 c).before 0 t d = iblk m c 0 t :=
  before0_0_of m (dats m 0 c) (A_eq m c 0) (after_0 m c) t d

/-- The body at a point, between the invariants of the pipeline. -/
theorem at_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ => iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t))) := by
  unfold bodyAt0
  simp only [before_0]
  rw [show (dats m 0 c).Φ t.succ = (dats m 0 c).Φ t.castSucc from rfl, show (dats m 0 c).owesAt () t.succ = (dats m 0 c).owesAt () t.castSucc from rfl,
    after_0, after_1, after_2]
  have opened : ∀ d, (owns (c : Thread nD τ) (st0_1 t) fullShare d : sProp 𝕄)
      = iprop(∃ f, ⌜(st0_1 t).view.read (Elt F) f = d⌝ ∗ ((st0_1 t).view.loc (c : Thread nD τ) ↦[(st0_1 t).view.set]{fullShare} f)) := fun _ => rfl
  simp only [opened]
  iintro ⟨HI, Ho, ⟨%d0, H0⟩, ⟨%d1, %f1, -, H1⟩, ⟨%d2, H2⟩⟩
  iapply ((body c (bufs t) (iblk m c 0 t) f1).2.2 Set.univ _)
  isplitl [H0]; · iexact H0
  isplitl [H1]; · iexact H1
  isplitl [H2]; · iexists _; iexact H2
  iintro ⟨H0, H1, ⟨%e2, H2⟩⟩
  isplitl [HI]; · iexact HI
  isplitl [Ho]; · iexact Ho
  isplitl [H0]; · iexact H0
  isplitl [H1]
  · iexists _; isplitr
    swap; · iexact H1
    ipureintro; exact rows_read c (bufs t) _ _
  unfold owns; iexists _; isplitr
  swap; · iexact H2
  ipureintro
  rw [← columns_eq c (bufs t) _ f1]
  exact View.read_writes_eq_canon _ _ _ (columns_cover c (bufs t) _ _)

theorem row_of_table (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_of_table]
  exact triple_restated (at_point m c t) rfl .rfl fun _ => .rfl

set_option backward.isDefEq.respectTransparency.types false in
/-- The launch: every array of the pipeline ends as the proof data say, and every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (launched m ρ))) ((θ_run defs _ _).mono (fun _ h => h.2) (launched m ρ))

/-- The two results by the proof data, the argument unchanged. -/
theorem results : θ_run defs (onTc (τ := τ) (main (F := F))) ⟨m, fun _ => 0, ρ⟩ (fun r => ∀ c : Dev nD,
      (r.2.mem ((c.tc : Thread nD τ).loc main_v1_0) = (dats m 0 c).arrAt 1 cfg0.N ∧ r.2.mem ((c.tc : Thread nD τ).loc main_v1_1) = (dats m 0 c).arrAt 2 cfg0.N)
      ∧ r.2.mem ((c.tc : Thread nD τ).loc main_arg0) = m ((c.tc : Thread nD τ).loc main_arg0)) :=
  (θ_run defs _ _).mono (fun _ h c => ⟨⟨(h.1.1 c).1 1, (h.1.1 c).1 2⟩, h.2.1 c⟩) (θ_run_and (launched m ρ) (frame m ρ))

end Cert.KernelFcumfwdIdeal.Run

end
-- ==== Proof.FromStart.lean ====
/- Sums up to a row: block by block from the first, and as a window sum of the host. -/
module

public import proofs.«01_k».proof.Proof.FromEnd

@[expose] public section

noncomputable section

namespace Cert.FromStart

open Idealize.ShloMosaic

/-- The sum over the first n rows. -/
def below (d : Fin 4096 → EReal) (n : ℕ) : EReal := ∑ k, if k.val < n then d k else 0

theorem below_zero (d : Fin 4096 → EReal) : below d 0 = 0 := Finset.sum_eq_zero fun k _ => if_neg (Nat.not_lt_zero _)

/-- Up to row y of block B: that block's rows up to it, and the blocks before. -/
theorem below_block (d : Fin 4096 → EReal) (B : Fin 32) (y : Fin 128) :
    below d (B.val * 128 + y.val + 1) = (∑ j : Fin 128, if j ≤ y then d (rowOf 32 128 B j) else 0) + below d (B.val * 128) := by
  have hy := y.isLt
  have e : ∀ t : Fin 32, (∑ j : Fin 128, if (rowOf (N := 4096) 32 128 t j).val < B.val * 128 + y.val + 1 then d (rowOf 32 128 t j) else 0)
      = (if t = B then ∑ j : Fin 128, if j ≤ y then d (rowOf 32 128 t j) else 0 else 0)
        + ∑ j : Fin 128, if (rowOf (N := 4096) 32 128 t j).val < B.val * 128 then d (rowOf 32 128 t j) else 0 := by
    intro t
    have val : ∀ j : Fin 128, (rowOf (N := 4096) 32 128 t j).val = t.val * 128 + j.val := fun _ => rfl
    by_cases h : t = B
    · subst h
      rw [if_pos rfl, Finset.sum_eq_zero (f := fun j : Fin 128 => if (rowOf (N := 4096) 32 128 t j).val < t.val * 128 then d (rowOf 32 128 t j) else 0)
        fun j _ => if_neg (by rw [val]; omega), add_zero]
      exact Finset.sum_congr rfl fun j _ => if_congr (by rw [val, Fin.le_def]; omega) rfl rfl
    · have hne : t.val ≠ B.val := fun e => h (Fin.ext e)
      rw [if_neg h, zero_add]
      exact Finset.sum_congr rfl fun j _ => if_congr (by have := j.isLt; rw [val]; omega) rfl rfl
  rw [below, below, sum_rowOf (n := 32) (k := 128), sum_rowOf (n := 32) (k := 128) (f := fun k => if k.val < B.val * 128 then d k else 0),
    Finset.sum_congr rfl fun t _ => e t, Finset.sum_add_distrib, Finset.sum_ite_eq' Finset.univ, if_pos (Finset.mem_univ _)]

/-- The host's window sum over a row and all before it. -/
theorem window_below {C : ℕ} (h : (⟨2, ![4096, C]⟩ : Shape).ReduceWindows ![4096, 1] ![1, 1] ![4095, 0] ![0, 0] ⟨2, ![4096, C]⟩)
    (x : (⟨2, ![4096, C]⟩ : Shape).Idx → EReal) (i : Fin 4096) (c : Fin C) :
    Ideal.hostReduceWindowAdd ![4096, 1] ![1, 1] ![4095, 0] ![0, 0] h x 0 (ix2 i c) = below (fun k => x (ix2 k c)) (i.val + 1) := by
  unfold Ideal.hostReduceWindowAdd Host.reduceWindow
  dsimp only
  rw [FromEnd.foldl_sum, zero_add, ← List.ofFn_eq_map, List.sum_ofFn]
  have hi := i.isLt
  let g : ℕ → EReal := fun n => if hn : n < 4096 then x (ix2 ⟨n, hn⟩ c) else 0
  let In : (⟨2, ![4096, 1]⟩ : Shape).Idx → Fin 2 → Prop := fun w a =>
    (![4095, 0] : Fin 2 → ℕ) a ≤ ((ix2 i c : (⟨2, ![4096, C]⟩ : Shape).Idx) (a.cast h.1.symm)).val * (![1, 1] : Fin 2 → ℕ) a + (w a).val
      ∧ ((ix2 i c : (⟨2, ![4096, C]⟩ : Shape).Idx) (a.cast h.1.symm)).val * (![1, 1] : Fin 2 → ℕ) a + (w a).val - (![4095, 0] : Fin 2 → ℕ) a
        < (⟨2, ![4096, C]⟩ : Shape).size a
  have key : ∀ (w : (⟨2, ![4096, 1]⟩ : Shape).Idx) (D : Decidable (∀ a, In w a)),
      (if hin : ∀ a, In w a then x (fun a => ⟨_, (hin a).2⟩) else 0) = if 4095 ≤ i.val + (w 0).val then g (i.val + (w 0).val - 4095) else 0 := by
    intro w D
    have hw0 : (w 0).val < 4096 := (w 0).isLt
    have hw : (w 1).val = 0 := by have : (w 1).val < 1 := (w 1).isLt; omega
    by_cases hn : 4095 ≤ i.val + (w 0).val
    · have hin : ∀ a, In w a := by
        intro a
        match a with
        | ⟨0, _⟩ => exact ⟨show 4095 ≤ i.val * 1 + (w 0).val by omega, show i.val * 1 + (w 0).val - 4095 < 4096 by omega⟩
        | ⟨1, _⟩ => exact ⟨Nat.zero_le _, show c.val * 1 + (w 1).val - 0 < C by have := c.isLt; omega⟩
      rw [dif_pos hin, if_pos hn]
      dsimp only [g]
      rw [dif_pos (by omega)]
      refine congrArg x (funext fun a => Fin.ext ?_)
      match a with
      | ⟨0, _⟩ => show i.val * 1 + (w 0).val - 4095 = i.val + (w 0).val - 4095; omega
      | ⟨1, _⟩ => show c.val * 1 + (w 1).val - 0 = c.val; omega
    · rw [if_neg hn, dif_neg (fun hin => hn (by have h0 : 4095 ≤ i.val * 1 + (w 0).val := (hin 0).1; omega))]
  refine (Finset.sum_congr rfl fun n _ => key _ _).trans ?_
  rw [(⟨2, ![4096, 1]⟩ : Shape).rowMajor.symm.sum_comp (fun w => if 4095 ≤ i.val + (w 0).val then g (i.val + (w 0).val - 4095) else 0), ValueIdx.sum_idx2]
  simp only [Fin.sum_univ_one]
  show ∑ n : Fin 4096, (if 4095 ≤ i.val + n.val then g (i.val + n.val - 4095) else 0) = _
  rw [Fin.sum_univ_eq_sum_range (fun n => if 4095 ≤ i.val + n then g (i.val + n - 4095) else 0) 4096]
  have e : below (fun k => x (ix2 k c)) (i.val + 1) = ∑ k ∈ Finset.range 4096, if k < i.val + 1 then g k else 0 := by
    rw [← Fin.sum_univ_eq_sum_range (fun k => if k < i.val + 1 then g k else 0) 4096]
    refine Finset.sum_congr rfl fun k _ => if_congr Iff.rfl ?_ rfl
    show x (ix2 k c) = if hn : k.val < 4096 then x (ix2 ⟨k.val, hn⟩ c) else 0
    rw [dif_pos k.isLt]
  rw [e, ← Finset.sum_filter, ← Finset.sum_filter]
  refine Finset.sum_nbij' (fun n => i.val + n - 4095) (fun k => k + 4095 - i.val) ?_ ?_ ?_ ?_ fun _ _ => rfl
  all_goals
    intro n hn
    simp only [Finset.mem_filter, Finset.mem_range] at hn ⊢
    omega

end Cert.FromStart

end
-- ==== Proof.FcumForward.lean ====
/- The running total of the log-gates, forward, against the running total written plainly: its two result arrays entry by entry, and the five claims. -/
module

public import proofs.«01_k».proof.Defs
public import proofs.«01_k».proof.Proof.Gen.ReferenceFcumfwdIdeal.Read
public import proofs.«01_k».proof.Proof.Gen.KernelFcumfwd.Frame
public import proofs.«01_k».proof.Proof.FcumForwardRun
public import proofs.«01_k».proof.Proof.FromStart
public import Idealize.ShloMosaic.Lib.KernelVsHost

@[expose] public section

noncomputable section

namespace Cert.KernelFcumfwdIdeal.Run

open Gen Idealize.ShloMosaic TcCoe Idealize.SL.Sem FromStart
open Pipeline (Dat)

/-! ## Blocks of rows and of columns -/

section Place

variable {of : Fin 2 → ℕ} (h : ∀ a, of a + ![128, 128] a ≤ S4096x128.size a) {B : Fin 32} (ho : of = ![B.val * 128, 0]) (y l : Fin 128)
include ho

theorem place_emb : (Rect.unit (s := S4096x128) of ![128, 128] h).emb (ix2 y l) = ix2 (rowOf 32 128 B y) l := by
  subst ho
  funext a
  apply Fin.ext
  match a with
  | ⟨0, _⟩ => show B.val * 128 + 1 * y.val = B.val * 128 + y.val; omega
  | ⟨1, _⟩ => show 0 + 1 * l.val = l.val; omega

theorem row_hit (P : Vec Ideal S128x128 .f32) (L : List (View.Piece (Elt Ideal) S4096x128 .f32)) :
    View.canon (⟨Rect.unit (s := S4096x128) of ![128, 128] h, P⟩ :: L) (ix2 (rowOf 32 128 B y) l) = P (ix2 y l) := by
  rw [← place_emb h ho]
  exact View.canon_cons_emb (Rect.unit (s := S4096x128) of ![128, 128] h) P L (ix2 y l)

theorem row_skip {A : Fin 32} (hA : A ≠ B) (P : Vec Ideal S128x128 .f32) (L : List (View.Piece (Elt Ideal) S4096x128 .f32)) :
    View.canon (⟨Rect.unit (s := S4096x128) of ![128, 128] h, P⟩ :: L) (ix2 (rowOf 32 128 A y) l) = View.canon L (ix2 (rowOf 32 128 A y) l) := by
  subst ho
  refine View.canon_cons_of_not_mem (⟨Rect.unit (s := S4096x128) _ ![128, 128] h, P⟩ : View.Piece (Elt Ideal) S4096x128 .f32) L fun e => hA (Fin.ext ?_)
  obtain ⟨h1, h2⟩ := (Rect.mem_set_unit (inb := h)).mp e 0
  have h1 : B.val * 128 ≤ A.val * 128 + y.val := h1
  have h2 : A.val * 128 + y.val < B.val * 128 + 128 := h2
  omega

end Place

section Turn

variable {of : Fin 3 → ℕ} (h : ∀ a, of a + ![1, 128, 1024] a ≤ S4x128x1024.size a) {B : Fin 4} (ho : of = ![B.val, 0, 0]) (l : Fin 128) (r : Fin 1024)
include ho

theorem column_hit (P : Vec Ideal S1x128x1024 .f32) (L : List (View.Piece (Elt Ideal) S4x128x1024 .f32)) :
    View.canon (⟨Rect.unit (s := S4x128x1024) of ![1, 128, 1024] h, P⟩ :: L) (ix3 B l r) = P (ix3 0 l r) := by
  have e : (Rect.unit (s := S4x128x1024) of ![1, 128, 1024] h).emb (ix3 0 l r) = ix3 B l r := by
    subst ho
    funext a
    apply Fin.ext
    match a with
    | ⟨0, _⟩ => show B.val + 1 * 0 = B.val; omega
    | ⟨1, _⟩ => show 0 + 1 * l.val = l.val; omega
    | ⟨2, _⟩ => show 0 + 1 * r.val = r.val; omega
  rw [← e]
  exact View.canon_cons_emb (Rect.unit (s := S4x128x1024) of ![1, 128, 1024] h) P L (ix3 0 l r)

theorem column_skip {A : Fin 4} (hA : A ≠ B) (P : Vec Ideal S1x128x1024 .f32) (L : List (View.Piece (Elt Ideal) S4x128x1024 .f32)) :
    View.canon (⟨Rect.unit (s := S4x128x1024) of ![1, 128, 1024] h, P⟩ :: L) (ix3 A l r) = View.canon L (ix3 A l r) := by
  subst ho
  refine View.canon_cons_of_not_mem (⟨Rect.unit (s := S4x128x1024) _ ![1, 128, 1024] h, P⟩ : View.Piece (Elt Ideal) S4x128x1024 .f32) L fun e => hA (Fin.ext ?_)
  obtain ⟨h1, h2⟩ := (Rect.mem_set_unit (inb := h)).mp e 0
  have h1 : B.val ≤ A.val := h1
  have h2 : A.val < B.val + 1 := h2
  omega

end Turn

section Pay

variable (v : Vec Ideal S1024x128 .f32) (l : Fin 128) (r : Fin 1024)

theorem pay4_at : (k0_pay4 v (ix3 0 l r) : EReal) = v (ix2 r l) := by unfold k0_pay4; pointwise
theorem pay5_at : (k0_pay5 v (ix3 0 l r) : EReal) = v (ix2 r l) := by unfold k0_pay5; pointwise
theorem pay6_at : (k0_pay6 v (ix3 0 l r) : EReal) = v (ix2 r l) := by unfold k0_pay6; pointwise
theorem pay7_at : (k0_pay7 v (ix3 0 l r) : EReal) = v (ix2 r l) := by unfold k0_pay7; pointwise

end Pay

theorem ld_rows (y : Vec Ideal S4096x128 .f32) {of : Fin 2 → ℕ} (h : ∀ a, of a + ![1024, 128] a ≤ S4096x128.size a) (B : Fin 4) (ho : of = ![B.val * 1024, 0])
    (r : Fin 1024) (l : Fin 128) : View.ld y (Rect.unit (s := S4096x128) of ![1024, 128] h) (ix2 r l) = y (ix2 (rowOf 4 1024 B r) l) := by
  subst ho
  refine congrArg y (funext fun a => Fin.ext ?_)
  match a with
  | ⟨0, _⟩ => show B.val * 1024 + 1 * r.val = B.val * 1024 + r.val; omega
  | ⟨1, _⟩ => show 0 + 1 * l.val = l.val; omega

/-- The columns are the rows turned, block by block. -/
theorem turned_at (y : Vec Ideal S4096x128 .f32) (B : Fin 4) (l : Fin 128) (r : Fin 1024) :
    (View.canon (turned y) (ix3 B l r) : EReal) = y (ix2 (rowOf 4 1024 B r) l) := by
  match B with
  | ⟨3, h⟩ => exact (column_hit _ (B := ⟨3, h⟩) rfl l r _ _).trans ((pay7_at _ l r).trans (ld_rows y _ ⟨3, h⟩ rfl r l))
  | ⟨2, h⟩ => exact (column_skip _ (B := 3) rfl l r (by decide +revert) _ _).trans ((column_hit _ (B := ⟨2, h⟩) rfl l r _ _).trans ((pay6_at _ l r).trans (ld_rows y _ ⟨2, h⟩ rfl r l)))
  | ⟨1, h⟩ => exact (column_skip _ (B := 3) rfl l r (by decide +revert) _ _).trans ((column_skip _ (B := 2) rfl l r (by decide +revert) _ _).trans
      ((column_hit _ (B := ⟨1, h⟩) rfl l r _ _).trans ((pay5_at _ l r).trans (ld_rows y _ ⟨1, h⟩ rfl r l))))
  | ⟨0, h⟩ => exact (column_skip _ (B := 3) rfl l r (by decide +revert) _ _).trans ((column_skip _ (B := 2) rfl l r (by decide +revert) _ _).trans
      ((column_skip _ (B := 1) rfl l r (by decide +revert) _ _).trans ((column_hit _ (B := ⟨0, h⟩) rfl l r _ _).trans ((pay4_at _ l r).trans (ld_rows y _ ⟨0, h⟩ rfl r l)))))

/-! ## The loop -/

/-- The rows of a block up to a row. -/
theorem tri_at (y j : Fin 128) : (FloatOps.sitofp (F := Ideal) FTy.f32 (BitVec.setWidth 32 (IntOp.cmpi CmpIPredicate.sge (BitVec.ofNat 32 y.val) (BitVec.ofNat 32 j.val))) : EReal)
    = if j ≤ y then 1 else 0 := by
  have hy := y.isLt
  have hj := j.isLt
  rw [WordCmp.cmpi_sge_ofNat (by omega) (by omega)]
  by_cases h : j.val ≤ y.val
  · rw [if_pos (Fin.le_def.mpr h), decide_eq_true h]
    show (((1 : ℤ) : ℝ) : EReal) = 1
    norm_num
  · rw [if_neg (fun e => h (Fin.le_def.mp e)), decide_eq_false h]
    show (((0 : ℤ) : ℝ) : EReal) = 0
    norm_num

section Trip

variable (s : FVec Ideal S1x128 .f32) (d : Vec Ideal S128x128 .f32) (y l : Fin 128)

theorem pay2_at : (k0_pay2 s d (ix2 y l) : EReal) = (∑ j : Fin 128, if j ≤ y then (d (ix2 j l) : EReal) else 0) + s (ix2 0 l) := by
  unfold k0_pay2
  pointwise
  simp only [tri_at, ite_mul, one_mul, zero_mul]

theorem pay3_at : (k0_pay3 s d (ix2 0 l) : EReal) = k0_pay2 s d (ix2 127 l) := by
  unfold k0_pay3
  pointwise

end Trip

theorem off : ∀ k : Fin k0_t1_loop.trips, k0_off1 k = ![k.val * 128, 0] := by decide +kernel
theorem trips : k0_t1_loop.trips = 32 := by decide +kernel

variable (c : Dev nD) (b : Bufs) (x : Vec Ideal S4096x128 .f32)

/-- The loop's carried row before step n, and what it has stored. -/
def run (n : ℕ) : FVec Ideal S1x128 .f32 × List (View.Piece (Elt Ideal) S4096x128 .f32) :=
  st_k0_t1 (F := Ideal) Variants.none c none b.x b.hx b.r b.hr b.k b.hk (b.hx.unread x) k0_pay1 n

theorem rows_run : rows c b x = View.canon (run c b x 32).2 := by
  unfold rows body
  dsimp only
  have e := trips
  dsimp only [k0_t1_loop, Scf.Loop.trips] at e
  rw [e]
  rfl

theorem run_succ (n : ℕ) (hn : n < k0_t1_loop.trips) : run c b x (n + 1) =
    let d : Vec Ideal S128x128 .f32 := View.ld x (Rect.unit (s := S4096x128) (k0_off1 ⟨n, hn⟩) ![128, 128] (k0_off1_inb ⟨n, hn⟩))
    (k0_pay3 (run c b x n).1 d,
      ⟨Rect.unit (s := S4096x128) (k0_off1 ⟨n, hn⟩) ![128, 128] (k0_off1_inb ⟨n, hn⟩), k0_pay2 (run c b x n).1 d⟩ :: (run c b x n).2) := by
  have e : run c b x (n + 1) = _ := st_k0_t1_succ (F := Ideal) Variants.none c none b.x b.hx b.r b.hr b.k b.hk (b.hx.unread x) k0_pay1 ⟨n, hn⟩
  rw [e]
  unfold tripR_k0_t1 tripL_k0_t1 trip_k0_t1
  dsimp only
  simp only [View.readAt_eq_ld, b.hx.read_unread]
  rfl

theorem run_at (l : Fin 128) (n : ℕ) (hn : n ≤ k0_t1_loop.trips) :
    ((run c b x n).1 (ix2 0 l) : EReal) = below (fun i => x (ix2 i l)) (n * 128)
      ∧ ∀ (B : Fin 32) (y : Fin 128), B.val < n → (View.canon (run c b x n).2 (ix2 (rowOf 32 128 B y) l) : EReal) = below (fun i => x (ix2 i l)) (B.val * 128 + y.val + 1) := by
  induction n with
  | zero =>
    refine ⟨?_, fun B y h => absurd h (Nat.not_lt_zero _)⟩
    rw [Nat.zero_mul, below_zero]; unfold run; rw [st_k0_t1_zero]; unfold k0_pay1; pointwise
  | succ n ih =>
    obtain ⟨i1, i2⟩ := ih (Nat.le_of_succ_le hn)
    have h32 : n < 32 := by rw [trips] at hn; omega
    have ho : k0_off1 ⟨n, hn⟩ = ![(⟨n, h32⟩ : Fin 32).val * 128, 0] := off ⟨n, hn⟩
    have e2 : ∀ y : Fin 128, (k0_pay2 (run c b x n).1 (View.ld x (Rect.unit (s := S4096x128) (k0_off1 ⟨n, hn⟩) ![128, 128] (k0_off1_inb ⟨n, hn⟩))) (ix2 y l) : EReal)
        = below (fun i => x (ix2 i l)) (n * 128 + y.val + 1) := by
      intro y
      rw [pay2_at, i1]
      exact Eq.trans (congrArg (fun p : EReal => p + _) (Finset.sum_congr rfl fun j _ => if_congr Iff.rfl (congrArg x (place_emb _ ho j l)) rfl))
        (below_block (fun i => x (ix2 i l)) ⟨n, h32⟩ y).symm
    rw [run_succ c b x n hn]
    dsimp only
    refine ⟨?_, fun B y h => ?_⟩
    · rw [pay3_at, e2]
      exact congrArg _ (show n * 128 + 127 + 1 = (n + 1) * 128 by omega)
    · by_cases hB : B = ⟨n, h32⟩
      · rw [hB, row_hit _ ho]
        exact e2 y
      · rw [row_skip _ ho _ _ hB]
        exact i2 B y (by
          have : B.val ≠ n := fun e => hB (Fin.ext e)
          omega)

/-- A stored row is the sum of the rows up to it. -/
theorem rows_value (i : Fin 4096) (l : Fin 128) : (rows c b x (ix2 i l) : EReal) = below (fun i => x (ix2 i l)) (i.val + 1) := by
  obtain ⟨B, y, rfl⟩ := exists_rowOf (n := 32) (k := 128) i
  rw [rows_run]
  exact (run_at c b x l 32 (by rw [trips])).2 B y B.isLt

/-! ## The arrays -/

variable (m : (ℓ : Loc nD τ sig) → Buf (Elt Ideal) ℓ)

theorem index_eq : ∀ t : Fin cfg0.N,  (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0) := by decide +kernel

/-- The log-gates, beside columns of zeros. -/
def pv (l : Fin 128) (i : Fin 4096) : EReal := if h : l.val < 16 then m (c.tc.loc main_arg0) (ix2 i ⟨l.val, h⟩) else 0

theorem padded (i : Fin 4096) (l : Fin 128) : V m c main_v0 (ix2 i l) = pv c m l i := by
  have e : V m c main_v0 = pad S4096x128 ![0, 0] ![0, 112] ![0, 0] (m (c.tc.loc main_arg0)) (sitofp (F := Ideal) .f32 (constantI S_ 32 0#32)) pads_S4096x16_S4096x128_000_01120 h_S_ := by
    unfold V
    rfl
  rw [e]
  unfold pv
  by_cases h : l.val < 16
  · rw [dif_pos h]
    refine pad_apply_of_inside (s := S4096x16) (t := S4096x128) ![0, 0] ![0, 112] ![0, 0] (m (c.tc.loc main_arg0)) _ pads_S4096x16_S4096x128_000_01120 h_S_ _ (ix2 i ⟨l.val, h⟩) fun a => ?_
    match a with
    | ⟨0, _⟩ => show i.val = 0 + i.val * 1; omega
    | ⟨1, _⟩ => show l.val = 0 + l.val * 1; omega
  · rw [dif_neg h]
    refine (pad_apply_of_not_inside (s := S4096x16) (t := S4096x128) ![0, 0] ![0, 112] ![0, 0] _ _ pads_S4096x16_S4096x128_000_01120 h_S_ _ 1 fun e => h ?_).trans ?_
    · obtain ⟨-, -, h3⟩ := e
      have h3 : (l.val - 0) / (0 + 1) < 16 := h3
      omega
    · pointwise
      show ((((0#32 : BitVec 32).toInt : ℤ) : ℝ) : EReal) = 0
      simp

theorem x_at (t : Fin cfg0.N) (i : Fin 4096) (l : Fin 128) : iblk m c 0 t (ix2 i l) = pv c m l i := by
  obtain ⟨⟨h0, h1⟩, -⟩ := index_eq t
  exact Eq.trans (congrArg (V m c main_v0) (ix2_ext (in_only h0) (in_only h1))) (padded c m i l)

theorem rows_at (t : Fin cfg0.N) (i : Fin 4096) (l : Fin 128) : (rows c (bufs t) (iblk m c 0 t) (ix2 i l) : EReal) = below (pv c m l) (i.val + 1) :=
  (rows_value c (bufs t) (iblk m c 0 t) i l).trans (congrArg (fun d => below d (i.val + 1)) (funext fun k => x_at c m t k l))

abbrev only : Fin cfg0.N := t0_0

theorem alone (t t' : Fin cfg0.N) : t = t' := (fin_N0 t).trans (fin_N0 t').symm

theorem rows_final (i : Fin 4096) (l : Fin 128) : (dats m 0 c).arrAt 1 cfg0.N (ix2 i l) = below (pv c m l) (i.val + 1) := by
  have h := (dats m 0 c).arrAt_emb_eq_flushed 1 (fun t t' _ _ hne => absurd (alone t t') hne) only (flush0_1 only) (ix2 i l)
  rw [show ((cfg0.win 1).blk only).view.emb (ix2 i l) = ix2 i l from by
    obtain ⟨-, ⟨h0, h1⟩, -⟩ := index_eq only
    exact ix2_ext (in_only h0) (in_only h1)] at h
  refine h.trans ?_
  show (cfg0.win 1).cut (grid0.coords only) ((dats m 0 c).after 1 only) (ix2 i l) = _
  rw [after_1]
  exact rows_at c m only i l

theorem columns_final (B : Fin 4) (l : Fin 128) (r : Fin 1024) : (dats m 0 c).arrAt 2 cfg0.N (ix3 B l r) = below (pv c m l) ((rowOf (N := 4096) 4 1024 B r).val + 1) := by
  have h := (dats m 0 c).arrAt_emb_eq_flushed 2 (fun t t' _ _ hne => absurd (alone t t') hne) only (flush0_2 only) (ix3 B l r)
  rw [show ((cfg0.win 2).blk only).view.emb (ix3 B l r) = ix3 B l r from funext fun a => Fin.ext <| by
    obtain ⟨-, -, ⟨h0, h1, h2⟩⟩ := index_eq only
    match a with
    | ⟨0, _⟩ => show win0_2.index only 0 * 4 + 1 * B.val = B.val; rw [h0]; omega
    | ⟨1, _⟩ => show win0_2.index only 1 * 128 + 1 * l.val = l.val; rw [h1]; omega
    | ⟨2, _⟩ => show win0_2.index only 2 * 1024 + 1 * r.val = r.val; rw [h2]; omega] at h
  refine h.trans ?_
  show (cfg0.win 2).cut (grid0.coords only) ((dats m 0 c).after 2 only) (ix3 B l r) = _
  rw [after_2]
  exact (turned_at _ B l r).trans (rows_at c m only _ l)

end Cert.KernelFcumfwdIdeal.Run

namespace Cert.ReferenceFcumfwdIdeal.Read

open Gen Idealize.ShloMosaic TcCoe Idealize.SL.Sem FromStart

variable (x0 : (⟨S4096x16, .f32⟩ : BufTy).Contents (Elt Ideal))

theorem total_at (i : Fin 4096) (l : Fin 16) : val_main_v0 (F := Ideal) x0 (ix2 i l) = below (fun k => x0 (ix2 k l)) (i.val + 1) := by
  have e : val_main_call0_call0_v0 (F := Ideal) (Shape.Idx.first h_S_) = (0 : EReal) := by
    unfold val_main_call0_call0_v0 val_main_call0_call0_cst
    pointwise
  unfold val_main_v0
  simp only [Host.reduceWindowAdd, Ideal.hostReduceWindowAdd_def, e]
  exact window_below _ x0 i l

theorem rows_at (i : Fin 4096) (l : Fin 128) : val_main_v1 (F := Ideal) x0 (ix2 i l)
    = below (fun k => if h : l.val < 16 then (x0 (ix2 k ⟨l.val, h⟩) : EReal) else 0) (i.val + 1) := by
  unfold val_main_v1
  by_cases h : l.val < 16
  · simp only [dif_pos h]
    refine (pad_apply_of_inside (s := S4096x16) (t := S4096x128) ![0, 0] ![0, 112] ![0, 0] _ _ pads_S4096x16_S4096x128_000_01120 h_S_ _ (ix2 i ⟨l.val, h⟩) fun a => ?_).trans (total_at x0 i ⟨l.val, h⟩)
    match a with
    | ⟨0, _⟩ => show i.val = 0 + i.val * 1; omega
    | ⟨1, _⟩ => show l.val = 0 + l.val * 1; omega
  · simp only [dif_neg h]
    refine (pad_apply_of_not_inside (s := S4096x16) (t := S4096x128) ![0, 0] ![0, 112] ![0, 0] _ _ pads_S4096x16_S4096x128_000_01120 h_S_ _ 1 fun e => h ?_).trans ?_
    · obtain ⟨-, -, h3⟩ := e
      have h3 : (l.val - 0) / (0 + 1) < 16 := h3
      omega
    · unfold val_main_call1_v0 val_main_c
      pointwise
      refine Eq.trans (b := (0 : EReal)) ?_ (Finset.sum_eq_zero fun k _ => by split <;> rfl).symm
      show ((((0#32 : BitVec 32).toInt : ℤ) : ℝ) : EReal) = 0
      simp

theorem columns_at (B : Fin 4) (l : Fin 128) (r : Fin 1024) : val_main_v3 (F := Ideal) x0 (ix3 B l r) = val_main_v1 (F := Ideal) x0 (ix2 (rowOf 4 1024 B r) l) := by
  unfold val_main_v3 val_main_v2
  pointwise
  rfl

end Cert.ReferenceFcumfwdIdeal.Read

namespace Cert.Proof.Fcumfwd

open Idealize.ShloMosaic TcCoe Idealize.SL.Sem KernelFcumfwdIdeal.Run

/-- No operation changes between the kernel's two printings: one body, one table. -/
theorem same_body {F : FTy → Type} [FloatOps F] : (@KernelFcumfwd.defs₀ F _ _) = @KernelFcumfwdIdeal.defs₀ F _ _ := by
  unfold KernelFcumfwd.defs₀ KernelFcumfwdIdeal.defs₀
  refine congrArg Defs.onTc (funext fun l => funext fun a => ?_)
  match l with
  | 0 => rfl

theorem same_table {F : FTy → Type} [FloatOps F] : (@KernelFcumfwd.defs F _ _) = @KernelFcumfwdIdeal.defs F _ _ :=
  congrArg (Pipeline.defs KernelFcumfwdIdeal.pcfgs) same_body

theorem frame : quiescent_KernelFcumfwd := fun m ρ _ => by
  have h := KernelFcumfwdIdeal.Run.frame (F := Bits) m ρ
  rw [← same_table] at h
  exact h
theorem frame_ideal : quiescent_KernelFcumfwdIdeal := fun m ρ _ => KernelFcumfwdIdeal.Run.frame m ρ
theorem frame_reference : quiescent_ReferenceFcumfwdIdeal := fun m ρ _ =>
  (θ_run _ _ _).mono (fun r h => ⟨fun c => (h c).2.2, sem_eq_zero_of_no_sems (by decide) r.2⟩) (ReferenceFcumfwdIdeal.Value.run m ρ)

theorem preserves : preserves_KernelFcumfwd_KernelFcumfwdIdeal := trivial

/-- Both programs leave the running total, beside 112 columns of zeros, and the same in columns. -/
theorem algebraic : algebraic_KernelFcumfwdIdeal_ReferenceFcumfwdIdeal := by
  intro m ρ m' ρ' _ hm
  refine ⟨fun c => (dats m 0 c).arrAt 1 KernelFcumfwdIdeal.cfg0.N, fun c => (dats m 0 c).arrAt 2 KernelFcumfwdIdeal.cfg0.N,
    (θ_run _ _ _).mono (fun r h c => ⟨(h c).1.1, (h c).1.2, (h c).2⟩) (results m ρ), ?_⟩
  refine (θ_run _ _ _).mono (fun r h c => ?_) (ReferenceFcumfwdIdeal.Value.run m' ρ')
  obtain ⟨h0, h1, hargs⟩ := h c
  refine ⟨h0.trans ?_, h1.trans ?_, hargs⟩
  · refine (ReferenceFcumfwdIdeal.Read.val_main_v1_eq _).trans ?_
    rw [hm c]
    funext j
    obtain ⟨i, l, rfl⟩ := exists_ix2 j
    exact (ReferenceFcumfwdIdeal.Read.rows_at _ i l).trans (rows_final c m i l).symm
  · refine (ReferenceFcumfwdIdeal.Read.val_main_v3_eq _).trans ?_
    rw [hm c]
    funext j
    obtain ⟨B, l, r, rfl⟩ : ∃ (B : Fin 4) (l : Fin 128) (r : Fin 1024), j = ix3 B l r := ⟨_, _, _, eq_ix3 j⟩
    exact (ReferenceFcumfwdIdeal.Read.columns_at _ B l r).trans ((ReferenceFcumfwdIdeal.Read.rows_at _ _ l).trans (columns_final c m B l r).symm)

end Cert.Proof.Fcumfwd

end
-- ==== Proof.WeightGradient.lean ====
/- The gradient of the feed-forward block's second weight, a product over the rows in two blocks, against the product written plainly: its result array entry by entry, and the five claims. -/
module

public import proofs.«01_k».proof.Defs
public import proofs.«01_k».proof.Proof.Gen.KernelWgrad.Frame
public import proofs.«01_k».proof.Proof.Gen.KernelWgradIdeal.Value
public import proofs.«01_k».proof.Proof.Gen.ReferenceWgradIdeal.Read
public import proofs.«01_k».proof.Proof.RowSums

@[expose] public section

noncomputable section

namespace Cert.KernelWgradIdeal.Value

open Gen Idealize.ShloMosaic TcCoe Idealize.SL.Sem
open Pipeline (Dat)

section

variable {F : FTy → Type} [FloatOps F] (m : (ℓ : Loc nD τ sig) → Buf (Elt F) ℓ)

/-- The first point of a block's two leaves its own product in the carried buffer. -/
theorem kept (c : Dev nD) (t : Fin cfg0.N) (h : t.val % 2 = 0) : (outsAt0 m c t.val t.isLt).2 = k0_pay2 (iblk m c 0 t) (iblk m c 1 t) := by
  rw [outsAt0_A m c t h (by omega)]
  dsimp only
  unfold sout0_A_0
  rw [View.read_writes_eq_canon _ _ _ (fun y => scover0_A_0 (y := y) ..)]
  unfold kernelRun0_A
  dsimp only
  rw [View.canon_unit_zero hz]
  simp only [View.readAt_eq_ld, (hs0_0 t).read_unread, (hs0_1 t).read_unread, View.ld_unit_zero (S := S2048x1024) hz]

/-- The second writes the sum of both. -/
theorem written (c : Dev nD) (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) h]
  dsimp only
  unfold out0_B_2
  rw [View.read_writes_eq_canon _ _ _ (fun y => cover0_B_2 (y := y) ..)]
  unfold kernelRun0_B
  dsimp only
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

end

variable (m : (ℓ : Loc nD τ sig) → Buf (Elt Ideal) ℓ)

theorem index_eq : ∀ t : Fin cfg0.N,  (win0_0.index t 0 = t.val % 2 ∧ win0_0.index t 1 = t.val / 4) ∧ (win0_1.index t 0 = t.val % 2 ∧ win0_1.index t 1 = t.val / 2 % 2) := by decide +kernel

/-- The grid point of block row t, block column u and half q of the rows summed over. -/
abbrev pt (t : Fin 8) (u q : Fin 2) : Fin cfg0.N := ⟨t.val * 4 + u.val * 2 + q.val, by have : cfg0.N = 32 := N_0; omega⟩

/-- The arguments, entry by entry: the activation's squares and the block's cotangent. -/
abbrev av (c : Dev nD) (k : Fin 4096) (i : Fin 8192) : EReal := m (c.tc.loc main_arg0) (ix2 k i)
abbrev yv (c : Dev nD) (k : Fin 4096) (l : Fin 2048) : EReal := m (c.tc.loc main_arg1) (ix2 k l)

theorem a_at (c : Dev nD) (t : Fin 8) (u q : Fin 2) (k : Fin 2048) (r : Fin 1024) :
    iblk m c 0 (pt t u q) (ix2 k r) = av m c (rowOf 2 2048 q k) (rowOf 8 1024 t r) := by
  obtain ⟨⟨h0, h1⟩, -⟩ := index_eq (pt t u q)
  exact congrArg (m (c.tc.loc main_arg0)) (ix2_ext (in_block (h0.trans (by dsimp only; omega))) (in_block (h1.trans (by dsimp only; omega))))

theorem y_at (c : Dev nD) (t : Fin 8) (u q : Fin 2) (k : Fin 2048) (l : Fin 1024) :
    iblk m c 1 (pt t u q) (ix2 k l) = yv m c (rowOf 2 2048 q k) (rowOf 2 1024 u l) := by
  obtain ⟨-, ⟨h0, h1⟩⟩ := index_eq (pt t u q)
  exact congrArg (m (c.tc.loc main_arg1)) (ix2_ext (in_block (h0.trans (by dsimp only; omega))) (in_block (h1.trans (by dsimp only; omega))))

/-- One half's share of the product. -/
abbrev half (c : Dev nD) (i : Fin 8192) (l : Fin 2048) (q : Fin 2) : EReal := ∑ k : Fin 2048, av m c (rowOf 2 2048 q k) i * yv m c (rowOf 2 2048 q k) l

theorem pay_at (c : Dev nD) (t : Fin 8) (u q : Fin 2) (r l : Fin 1024) :
    (k0_pay1 (F := Ideal) (iblk m c 0 (pt t u q)) (iblk m c 1 (pt t u q)) (ix2 r l) : EReal) = half m c (rowOf 8 1024 t r) (rowOf 2 1024 u l) q := by
  unfold k0_pay1
  pointwise
  simp only [a_at, y_at]

/-- The result: the product of the activation's transpose with the cotangent. -/
theorem grad_final (c : Dev nD) (i : Fin 8192) (l : Fin 2048) : G2 m c (ix2 i l) = ∑ k : Fin 4096, av m c k i * yv m c k l := by
  obtain ⟨t, r, rfl⟩ := exists_rowOf (n := 8) (k := 1024) i
  obtain ⟨u, s, rfl⟩ := exists_rowOf (n := 2) (k := 1024) l
  have close : ∀ (n : ℕ) (j : S1024x1024.Idx) (z : EReal), n = (pt t u 1).val → j = ix2 r s →
      (if h : n < cfg0.N then (Pipeline.accAt (fun n h => stAt0 m c n h junk0) (stAt0 m c) 0 n (by omega)).1 j else z) = (outsAt0 m c (pt t u 1).val (pt t u 1).isLt).1 (ix2 r s) := by
    rintro _ _ z rfl rfl
    rw [dif_pos (pt t u 1).isLt, outsAt0_sweep]
  have h0 := congrFun (kept m c (pt t u 0) (by dsimp only; omega)) (ix2 r s)
  rw [show k0_pay2 (iblk m c 0 (pt t u 0)) (iblk m c 1 (pt t u 0)) (ix2 r s) = k0_pay1 (F := Ideal) (iblk m c 0 (pt t u 0)) (iblk m c 1 (pt t u 0)) (ix2 r s) by
    unfold k0_pay2; pointwise, pay_at] at h0
  refine (close _ _ _ ?_ ?_).trans ((congrFun (written m c (pt t u 1) (by dsimp only; omega)) (ix2 r s)).trans ?_)
  · show 2 * (2 * ((t.val * 1024 + r.val) / 1024 - 0) + 1 * ((u.val * 1024 + s.val) / 1024 - 0)) + 1 = t.val * 4 + u.val * 2 + 1
    omega
  · funext a
    match a with
    | ⟨0, _⟩ => exact Fin.ext (show (t.val * 1024 + r.val) % 1024 = r.val by omega)
    | ⟨1, _⟩ => exact Fin.ext (show (u.val * 1024 + s.val) % 1024 = s.val by omega)
  · rw [sum_rowOf (n := 2) (k := 2048), Fin.sum_univ_two]
    refine Eq.trans ?_ (congrArg (· + half m c (rowOf 8 1024 t r) (rowOf 2 1024 u s) 1) h0)
    rw [← pay_at]
    unfold k0_pay4
    pointwise
    rfl

end Cert.KernelWgradIdeal.Value

namespace Cert.Proof.Wgrad

open Idealize.ShloMosaic TcCoe Idealize.SL.Sem KernelWgradIdeal.Value

theorem frame : quiescent_KernelWgrad := fun m ρ _ => KernelWgrad.Gen.frame m ρ
theorem frame_ideal : quiescent_KernelWgradIdeal := fun m ρ _ => KernelWgradIdeal.Gen.frame m ρ
theorem frame_reference : quiescent_ReferenceWgradIdeal := fun m ρ _ =>
  (θ_run _ _ _).mono (fun r h => ⟨fun c => (h c).2, sem_eq_zero_of_no_sems (by decide) r.2⟩) (ReferenceWgradIdeal.Value.run m ρ)

theorem preserves : preserves_KernelWgrad_KernelWgradIdeal := trivial

/-- Both programs leave the product. -/
theorem algebraic : algebraic_KernelWgradIdeal_ReferenceWgradIdeal := by
  intro m ρ m' ρ' _ hm
  refine ⟨G2 m, KernelWgradIdeal.Value.run m ρ, ?_⟩
  refine (θ_run _ _ _).mono (fun r h c => ?_) (ReferenceWgradIdeal.Value.run m' ρ')
  obtain ⟨hr, hargs⟩ := h c
  obtain ⟨e0, e1⟩ := hm c
  refine ⟨hr.trans ?_, hargs⟩
  rw [e0, e1]
  funext j
  obtain ⟨i, l, rfl⟩ := exists_ix2 j
  refine Eq.trans ?_ (grad_final m c i l).symm
  pointwise

end Cert.Proof.Wgrad

end
-- ==== Proof.OptimiserStep.lean ====
/- One step of the optimiser on a weight, against the same update written plainly: its four result arrays entry by entry, and the five claims. -/
module

public import proofs.«01_k».proof.Defs
public import proofs.«01_k».proof.Proof.Gen.KernelAdamw.Frame
public import proofs.«01_k».proof.Proof.Gen.KernelAdamwIdeal.Value
public import proofs.«01_k».proof.Proof.Gen.ReferenceAdamwIdeal.Read
public import proofs.«01_k».proof.Proof.RowSums

@[expose] public section

noncomputable section

namespace Cert.KernelAdamwIdeal.Value

open Gen Idealize.ShloMosaic TcCoe Idealize.SL.Sem
open Pipeline (Dat)

variable (m : (ℓ : Loc nD τ sig) → Buf (Elt Ideal) ℓ)

theorem index_eq : ∀ t : Fin cfg0.N,  ∀ w : Fin 8, ![win0_0.index t, win0_1.index t, win0_2.index t, win0_3.index t, win0_4.index t, win0_5.index t, win0_6.index t, win0_7.index t] w
    = ![t.val, 0] := by decide +kernel

/-- The grid point of block row t. -/
abbrev pt (t : Fin 4) : Fin cfg0.N := ⟨t.val, by have : cfg0.N = 4 := N_0; omega⟩

/-- A block's entry in the array it is cut from. -/
theorem place (t : Fin 4) (r : Fin 512) (l : Fin 1024) (f : Fin 2 → Nat) (i : S2048x1024.Idx) (hf : f = ![t.val, 0]) (h0 : (i 0).val = f 0 * 512 + 1 * r.val) (h1 : (i 1).val = f 1 * 1024 + 1 * l.val) :
    i = ix2 (rowOf 4 512 t r) l := by
  rw [hf] at h0 h1
  funext a
  match a with
  | ⟨0, _⟩ => exact Fin.ext (h0.trans (show t.val * 512 + 1 * r.val = t.val * 512 + r.val by omega))
  | ⟨1, _⟩ => exact Fin.ext (h1.trans (show 0 * 1024 + 1 * l.val = l.val by omega))

/-- The arguments, entry by entry: the weight, its gradient and the two running means. -/
abbrev wv (c : Dev nD) (i : Fin 2048) (l : Fin 1024) : EReal := m (c.tc.loc main_arg0) (ix2 i l)
abbrev gv (c : Dev nD) (i : Fin 2048) (l : Fin 1024) : EReal := m (c.tc.loc main_arg1) (ix2 i l)
abbrev mv (c : Dev nD) (i : Fin 2048) (l : Fin 1024) : EReal := m (c.tc.loc main_arg2) (ix2 i l)
abbrev vv (c : Dev nD) (i : Fin 2048) (l : Fin 1024) : EReal := m (c.tc.loc main_arg3) (ix2 i l)

theorem w_at (c : Dev nD) (t : Fin 4) (r : Fin 512) (l : Fin 1024) : iblk m c 0 (pt t) (ix2 r l) = wv m c (rowOf 4 512 t r) l :=
  congrArg (m (c.tc.loc main_arg0)) (place t r l _ _ (index_eq (pt t) 0) rfl rfl)
theorem g_at (c : Dev nD) (t : Fin 4) (r : Fin 512) (l : Fin 1024) : iblk m c 1 (pt t) (ix2 r l) = gv m c (rowOf 4 512 t r) l :=
  congrArg (m (c.tc.loc main_arg1)) (place t r l _ _ (index_eq (pt t) 1) rfl rfl)
theorem m_at (c : Dev nD) (t : Fin 4) (r : Fin 512) (l : Fin 1024) : iblk m c 2 (pt t) (ix2 r l) = mv m c (rowOf 4 512 t r) l :=
  congrArg (m (c.tc.loc main_arg2)) (place t r l _ _ (index_eq (pt t) 2) rfl rfl)
theorem v_at (c : Dev nD) (t : Fin 4) (r : Fin 512) (l : Fin 1024) : iblk m c 3 (pt t) (ix2 r l) = vv m c (rowOf 4 512 t r) l :=
  congrArg (m (c.tc.loc main_arg3)) (place t r l _ _ (index_eq (pt t) 3) rfl rfl)

/-- A literal's value. -/
abbrev lit (b : BitVec 32) : EReal := FloatOps.ofBits (F := Ideal) .f32 b

/-- The running mean of the gradient, of its square, and the weight's change. -/
abbrev mean (g a : EReal) : EReal := lit 0x3F666666#32 * a + lit 0x3DCCCCCD#32 * g
abbrev square (g v : EReal) : EReal := lit 0x3F7FBE77#32 * v + lit 0x3A83126F#32 * (g * g)
abbrev change (w g a v : EReal) : EReal :=
  lit 0xBA83126F#32 * (Ideal.div (Ideal.div (mean g a) (lit 0x3F26BD02#32)) (Ideal.sqrt (Ideal.div (square g v) (lit 0x3C231ACC#32)) + lit 0x322BCC77#32) + lit 0x3C23D70A#32 * w)

theorem mean_at (c : Dev nD) (t : Fin 4) (r : Fin 512) (l : Fin 1024) :
    k0_pay1 (F := Ideal) (iblk m c 1 (pt t)) (iblk m c 2 (pt t)) (ix2 r l) = mean (gv m c (rowOf 4 512 t r) l) (mv m c (rowOf 4 512 t r) l) := by
  rw [← g_at, ← m_at]
  rfl

theorem square_at (c : Dev nD) (t : Fin 4) (r : Fin 512) (l : Fin 1024) :
    k0_pay2 (F := Ideal) (iblk m c 1 (pt t)) (iblk m c 3 (pt t)) (ix2 r l) = square (gv m c (rowOf 4 512 t r) l) (vv m c (rowOf 4 512 t r) l) := by
  rw [← g_at, ← v_at]
  rfl

theorem change_at (c : Dev nD) (t : Fin 4) (r : Fin 512) (l : Fin 1024) :
    k0_pay3 (F := Ideal) (iblk m c 0 (pt t)) (iblk m c 1 (pt t)) (iblk m c 2 (pt t)) (iblk m c 3 (pt t)) (ix2 r l)
      = change (wv m c (rowOf 4 512 t r) l) (gv m c (rowOf 4 512 t r) l) (mv m c (rowOf 4 512 t r) l) (vv m c (rowOf 4 512 t r) l) := by
  rw [← w_at, ← g_at, ← m_at, ← v_at]
  rfl

theorem delta_final (c : Dev nD) (i : Fin 2048) (l : Fin 1024) : (dats m 0 c).arrAt 4 cfg0.N (ix2 i l) = change (wv m c i l) (gv m c i l) (mv m c i l) (vv m c i l) := by
  obtain ⟨t, r, rfl⟩ := exists_rowOf (n := 4) (k := 512) i
  rw [← change_at, ← place t r l _ (((cfg0.win 4).blk (pt t)).view.emb (ix2 r l)) (index_eq (pt t) 4) rfl rfl,
    (dats m 0 c).arrAt_emb_eq_flushed 4 disjoint4 (pt t) (flush0_4 (pt t)) (ix2 r l), flushed4]
  unfold out0_4
  rw [View.canon_unit_zero hz]
  simp only [View.ld_unit_zero (S := S512x1024) hz]
  rfl

theorem mean_final (c : Dev nD) (i : Fin 2048) (l : Fin 1024) : (dats m 0 c).arrAt 5 cfg0.N (ix2 i l) = mean (gv m c i l) (mv m c i l) := by
  obtain ⟨t, r, rfl⟩ := exists_rowOf (n := 4) (k := 512) i
  rw [← mean_at, ← place t r l _ (((cfg0.win 5).blk (pt t)).view.emb (ix2 r l)) (index_eq (pt t) 5) rfl rfl,
    (dats m 0 c).arrAt_emb_eq_flushed 5 disjoint5 (pt t) (flush0_5 (pt t)) (ix2 r l), flushed5]
  unfold out0_5
  rw [View.canon_unit_zero hz]
  simp only [View.ld_unit_zero (S := S512x1024) hz]
  rfl

theorem square_final (c : Dev nD) (i : Fin 2048) (l : Fin 1024) : (dats m 0 c).arrAt 6 cfg0.N (ix2 i l) = square (gv m c i l) (vv m c i l) := by
  obtain ⟨t, r, rfl⟩ := exists_rowOf (n := 4) (k := 512) i
  rw [← square_at, ← place t r l _ (((cfg0.win 6).blk (pt t)).view.emb (ix2 r l)) (index_eq (pt t) 6) rfl rfl,
    (dats m 0 c).arrAt_emb_eq_flushed 6 disjoint6 (pt t) (flush0_6 (pt t)) (ix2 r l), flushed6]
  unfold out0_6
  rw [View.canon_unit_zero hz]
  simp only [View.ld_unit_zero (S := S512x1024) hz]
  rfl

theorem copy_final (c : Dev nD) (i : Fin 2048) (l : Fin 1024) : (dats m 0 c).arrAt 7 cfg0.N (ix2 i l) = gv m c i l := by
  obtain ⟨t, r, rfl⟩ := exists_rowOf (n := 4) (k := 512) i
  rw [← g_at, ← place t r l _ (((cfg0.win 7).blk (pt t)).view.emb (ix2 r l)) (index_eq (pt t) 7) rfl rfl,
    (dats m 0 c).arrAt_emb_eq_flushed 7 disjoint7 (pt t) (flush0_7 (pt t)) (ix2 r l), flushed7]
  unfold out0_7
  rw [View.canon_unit_zero hz]
  simp only [View.ld_unit_zero (S := S512x1024) hz]
  rfl

end Cert.KernelAdamwIdeal.Value

namespace Cert.Proof.Adamw

open Idealize.ShloMosaic TcCoe Idealize.SL.Sem KernelAdamwIdeal.Value

theorem frame : quiescent_KernelAdamw := fun m ρ _ => KernelAdamw.Gen.frame m ρ
theorem frame_ideal : quiescent_KernelAdamwIdeal := fun m ρ _ => KernelAdamwIdeal.Gen.frame m ρ
theorem frame_reference : quiescent_ReferenceAdamwIdeal := fun m ρ _ =>
  (θ_run _ _ _).mono (fun r h => ⟨fun c => (h c).2.2.2.2, sem_eq_zero_of_no_sems (by decide) r.2⟩) (ReferenceAdamwIdeal.Value.run m ρ)

theorem preserves : preserves_KernelAdamw_KernelAdamwIdeal := trivial

/-- Both programs leave the change, the two means and the gradient itself. -/
theorem algebraic : algebraic_KernelAdamwIdeal_ReferenceAdamwIdeal := by
  intro m ρ m' ρ' _ hm
  refine ⟨_, _, _, _, run_blocks m ρ, ?_⟩
  refine (θ_run _ _ _).mono (fun r h c => ?_) (ReferenceAdamwIdeal.Value.run m' ρ')
  obtain ⟨hd, hme, hs, hg, hargs⟩ := h c
  obtain ⟨e0, e1, e2, e3⟩ := hm c
  refine ⟨hd.trans ?_, hme.trans ?_, hs.trans ?_, hg.trans ?_, hargs⟩
  · rw [e0, e1, e2, e3]
    funext j
    obtain ⟨i, l, rfl⟩ := exists_ix2 j
    exact Eq.trans rfl (delta_final m c i l).symm
  · rw [e1, e2]
    funext j
    obtain ⟨i, l, rfl⟩ := exists_ix2 j
    exact Eq.trans rfl (mean_final m c i l).symm
  · rw [e1, e3]
    funext j
    obtain ⟨i, l, rfl⟩ := exists_ix2 j
    exact Eq.trans rfl (square_final m c i l).symm
  · rw [e1]
    funext j
    obtain ⟨i, l, rfl⟩ := exists_ix2 j
    exact (copy_final m c i l).symm

end Cert.Proof.Adamw

end
-- ==== Proof.DeviceSum.lean ====
/- The sum of the devices' small gradients, against the sum written plainly: the result array entry by entry, and the five claims. -/
module

public import proofs.«01_k».proof.Defs
public import proofs.«01_k».proof.Proof.Gen.KernelSumdev.Frame
public import proofs.«01_k».proof.Proof.Gen.KernelSumdevIdeal.Value
public import proofs.«01_k».proof.Proof.Gen.ReferenceSumdevIdeal.Read
public import proofs.«01_k».proof.Proof.RowSums

@[expose] public section

noncomputable section

namespace Cert.KernelSumdevIdeal.Value

open Gen Idealize.ShloMosaic TcCoe Idealize.SL.Sem
open Pipeline (Dat)

variable (m : (ℓ : Loc nD τ sig) → Buf (Elt Ideal) ℓ)

theorem index_eq : ∀ t : Fin cfg0.N,  (win0_0.index t 0 = 0 ∧ win0_0.index t 1 = t.val ∧ win0_0.index t 2 = 0) ∧ (win0_1.index t 0 = t.val ∧ win0_1.index t 1 = 0) := by decide +kernel

/-- The grid point of block row t. -/
abbrev pt (t : Fin 49) : Fin cfg0.N := ⟨t.val, by have : cfg0.N = 49 := N_0; omega⟩

/-- The argument, entry by entry: device d's row i. -/
abbrev gv (c : Dev nD) (d : Fin 8) (i : Fin 392) (l : Fin 1024) : EReal := m (c.tc.loc main_arg0) (ix3 d i l)

theorem g_at (c : Dev nD) (t : Fin 49) (d r : Fin 8) (l : Fin 1024) : iblk m c 0 (pt t) (ix3 d r l) = gv m c d (rowOf 49 8 t r) l := by
  refine congrArg (m (c.tc.loc main_arg0)) (funext fun a => Fin.ext ?_)
  obtain ⟨⟨h0, h1, h2⟩, -⟩ := index_eq (pt t)
  match a with
  | ⟨0, _⟩ => show win0_0.index (pt t) 0 * 8 + 1 * d.val = d.val; rw [h0]; omega
  | ⟨1, _⟩ => show win0_0.index (pt t) 1 * 8 + 1 * r.val = t.val * 8 + r.val; rw [h1]; dsimp only; omega
  | ⟨2, _⟩ => show win0_0.index (pt t) 2 * 1024 + 1 * l.val = l.val; rw [h2]; omega

theorem pay_at (c : Dev nD) (t : Fin 49) (r : Fin 8) (l : Fin 1024) : (dats m 0 c).flushed 1 (pt t) (ix2 r l) = ∑ d : Fin 8, gv m c d (rowOf 49 8 t r) l := by
  rw [flushed1]
  unfold out0_1
  refine (canon1_eq _ _ _ _ _ _ _ _ (ix2 r l)).trans ?_
  have each : ∀ (d : Fin 8) (R : Rect S8x8x1024) (x : _), (∀ a, (R.emb x a).val = ![d.val, r.val, l.val] a) → View.ld (iblk m c 0 (pt t)) R x = gv m c d (rowOf 49 8 t r) l := fun d R x h =>
    (congrArg (iblk m c 0 (pt t)) (funext fun a => Fin.ext ((h a).trans (by fin_cases a <;> rfl)))).trans (g_at m c t d r l)
  rw [Fin.sum_univ_eight]
  unfold E1
  iterate 7 refine congrArg₂ (· + ·) ?_ (each _ _ _ fun a => ?_)
  on_goal 1 => refine each _ _ _ fun a => ?_
  all_goals
    fin_cases a
    · rfl
    · exact (Nat.zero_add _).trans (Nat.one_mul _)
    · exact (Nat.zero_add _).trans (Nat.one_mul _)

/-- The sum over the devices. -/
theorem sum_final (c : Dev nD) (i : Fin 392) (l : Fin 1024) : (dats m 0 c).arrAt 1 cfg0.N (ix2 i l) = ∑ d : Fin 8, gv m c d i l := by
  obtain ⟨t, r, rfl⟩ := exists_rowOf (n := 49) (k := 8) i
  refine Eq.trans ?_ (((dats m 0 c).arrAt_emb_eq_flushed 1 disjoint1 (pt t) (flush0_1 (pt t)) (ix2 r l)).trans (pay_at m c t r l))
  refine congrArg ((dats m 0 c).arrAt 1 cfg0.N) (funext fun a => Fin.ext ?_)
  obtain ⟨-, h0, h1⟩ := index_eq (pt t)
  match a with
  | ⟨0, _⟩ => show t.val * 8 + r.val = win0_1.index (pt t) 0 * 8 + 1 * r.val; rw [h0]; dsimp only; omega
  | ⟨1, _⟩ => show l.val = win0_1.index (pt t) 1 * 1024 + 1 * l.val; rw [h1]; omega

end Cert.KernelSumdevIdeal.Value

namespace Cert.Proof.Sumdev

open Idealize.ShloMosaic TcCoe Idealize.SL.Sem KernelSumdevIdeal.Value

theorem frame : quiescent_KernelSumdev := fun m ρ _ => KernelSumdev.Gen.frame m ρ
theorem frame_ideal : quiescent_KernelSumdevIdeal := fun m ρ _ => KernelSumdevIdeal.Gen.frame m ρ
theorem frame_reference : quiescent_ReferenceSumdevIdeal := fun m ρ _ =>
  (θ_run _ _ _).mono (fun r h => ⟨fun c => (h c).2, sem_eq_zero_of_no_sems (by decide) r.2⟩) (ReferenceSumdevIdeal.Value.run m ρ)

theorem preserves : preserves_KernelSumdev_KernelSumdevIdeal := trivial

/-- Both programs leave the sum. -/
theorem algebraic : algebraic_KernelSumdevIdeal_ReferenceSumdevIdeal := by
  intro m ρ m' ρ' _ hm
  refine ⟨fun c => (KernelSumdevIdeal.Gen.dats m 0 c).arrAt 1 KernelSumdevIdeal.cfg0.N, run_blocks m ρ, ?_⟩
  refine (θ_run _ _ _).mono (fun r h c => ?_) (ReferenceSumdevIdeal.Value.run m' ρ')
  obtain ⟨hr, hargs⟩ := h c
  refine ⟨hr.trans ?_, hargs⟩
  rw [hm c]
  funext j
  obtain ⟨i, l, rfl⟩ := exists_ix2 j
  refine Eq.trans ?_ (sum_final m c i l).symm
  pointwise

end Cert.Proof.Sumdev

end
-- ==== Proof.ExchangeBody.lean ====
/- The exchange of halves between the two devices of a chip: the protocol of its four semaphores and the run of its body. Each device sends half of the rows of each of its two
   arrays straight into the other's result and waits for its sends and for what it is sent. Nobody asks whether the other is ready: the results are arrays of the program, not the
   kernel's own scratch, so a device may hold the other's results from the start of the program, and it gives them back filled. -/
module

public import proofs.«01_k».proof.Proof.Gen.KernelExchIdeal.Skeleton
public import proofs.«01_k».proof.Proof.Gen.KernelExchIdeal.Launch
public import Idealize.ShloMosaic.Lib.Pipeline.Launch
public import Idealize.ShloMosaic.Lib.Tactic

@[expose] public section

noncomputable section

namespace Cert.KernelExchIdeal.Run

open KernelExchIdeal.Gen
open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type}

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The two devices -/

/-- The other device of the chip. -/
def other (c : Dev nD) : Dev nD := ⟨1 - c.val, by have : c.val < 2 := c.isLt; show 1 - c.val < 2; omega⟩

theorem other_other (c : Dev nD) : other (other c) = c := by revert c; decide
theorem to_other₁ (c : Dev nD) : (⟨k0_dev1 c, k0_dev1_lt c⟩ : Dev nD) = other c := by revert c; decide +kernel
theorem to_other₂ (c : Dev nD) : (⟨k0_dev2 c, k0_dev2_lt c⟩ : Dev nD) = other c := by revert c; decide +kernel

def crossing : Dev nD ≃ Dev nD := ⟨other, other, other_other, other_other⟩

/-! ## Its memory and its semaphores -/

/-- The half of an array's rows that device `d` sends. -/
abbrev rows (d : Dev nD) : Rect S4x2048x2048 := Rect.unit (s := S4x2048x2048) (k0_off1 d) S4x1024x2048.size (k0_off1_inb d)

abbrev src₁ (d : Dev nD) : Memref sig .tc .hbm S4x1024x2048 .bf16 := (Memref.whole main_arg0 : Memref sig .tc .hbm S4x2048x2048 .bf16).slice (rows d) (fun _ => rfl)
abbrev src₂ (d : Dev nD) : Memref sig .tc .hbm S4x1024x2048 .bf16 := (Memref.whole main_arg1 : Memref sig .tc .hbm S4x2048x2048 .bf16).slice (rows d) (fun _ => rfl)
abbrev dst₁ : Memref sig .tc .hbm S4x1024x2048 .bf16 := Memref.whole main_v1_0
abbrev dst₂ : Memref sig .tc .hbm S4x1024x2048 .bf16 := Memref.whole main_v1_1

abbrev one (s : DmaSems sig S1) : DmaSem sig := (s.squeeze S_ squeezes_S1_S_).sem
abbrev sent₁ : DmaSem sig := one (cc0_scratch0.slice (Rect.unit (s := S2) ![0] S1.size inb_S2_S1_0))
abbrev sent₂ : DmaSem sig := one (cc0_scratch0.slice (Rect.unit (s := S2) ![1] S1.size inb_S2_S1_1))
abbrev came₁ : DmaSem sig := one (cc0_scratch1.slice (Rect.unit (s := S2) ![0] S1.size inb_S2_S1_0))
abbrev came₂ : DmaSem sig := one (cc0_scratch1.slice (Rect.unit (s := S2) ![1] S1.size inb_S2_S1_1))

abbrev own : Fin 4 → SemLoc sig := fun | 0 => .dma sent₁ | 1 => .dma sent₂ | 2 => .dma came₁ | 3 => .dma came₂
abbrev cell (c : Dev nD) (k : Fin 4) : GSem nD τ sig := ((c : Thread nD τ), own k)

theorem own_injective : Function.Injective own := by decide

def amt : ℕ := (dst₁ : Memref sig .tc .hbm S4x1024x2048 .bf16).view.dmaCredit
theorem amt_pos : 0 < amt := by unfold amt; exact View.dmaCredit_pos _ (by decide)
theorem amt₂ : (dst₂ : Memref sig .tc .hbm S4x1024x2048 .bf16).view.dmaCredit = amt := rfl
theorem amt₃ (d : Dev nD) : (src₁ d).view.dmaCredit = amt := rfl
theorem amt₄ (d : Dev nD) : (src₂ d).view.dmaCredit = amt := rfl

/-! ## Contents -/

/-- What device `c` ends with in its two results: the rows the other sends. -/
def landed₁ (c : Dev nD) : Buf (Elt F) ((c : Thread nD τ).loc main_v1_0) :=
  (src₁ (other c)).view.read (Elt F) (m ((other c : Thread nD τ).loc main_arg0))
def landed₂ (c : Dev nD) : Buf (Elt F) ((c : Thread nD τ).loc main_v1_1) :=
  (src₂ (other c)).view.read (Elt F) (m ((other c : Thread nD τ).loc main_arg1))

def res₁ (c : Dev nD) (f : Buf (Elt F) ((c : Thread nD τ).loc main_v1_0)) : sProp 𝕄 := ((c : Thread nD τ).loc main_v1_0) ↦{fullShare} f
def res₂ (c : Dev nD) (f : Buf (Elt F) ((c : Thread nD τ).loc main_v1_1)) : sProp 𝕄 := ((c : Thread nD τ).loc main_v1_1) ↦{fullShare} f

/-- A share of the two arguments. -/
def args (q : PosShare TreeShare) (c : Dev nD) : sProp 𝕄 :=
  iprop((((c : Thread nD τ).loc main_arg0) ↦{q} m ((c : Thread nD τ).loc main_arg0)) ∗ (((c : Thread nD τ).loc main_arg1) ↦{q} m ((c : Thread nD τ).loc main_arg1)))

instance res₁_storable (c : Dev nD) (f) : BI.Storable (upEmb : UEmb _ 𝕄) (res₁ (F := F) c f) := by unfold res₁; infer_instance
instance res₂_storable (c : Dev nD) (f) : BI.Storable (upEmb : UEmb _ 𝕄) (res₂ (F := F) c f) := by unfold res₂; infer_instance

/-! ## The schedule: one round of each semaphore -/

def plan : Rounds.Schedule (GSem nD τ sig) Unit 𝕄 where
  duties g r := if r = 0 ∧ g.1.2 = .tc then {()} else ∅
  unitless _ := False
  amount _ _ _ := amt
  payload g _ _ := if g.2 = .dma came₁ then res₁ g.1.1 (landed₁ m g.1.1) else if g.2 = .dma came₂ then res₂ g.1.1 (landed₂ m g.1.1) else iprop(emp)
  amount_pos _ _ _ _ := amt_pos

instance plan_storable (g : GSem nD τ sig) (r : ℕ) (d : Unit) : BI.Storable (upEmb : UEmb _ 𝕄) ((plan (F := F) m).payload g r d) := by
  show BI.Storable upEmb (if g.2 = .dma came₁ then res₁ g.1.1 (landed₁ m g.1.1) else if g.2 = .dma came₂ then res₂ g.1.1 (landed₂ m g.1.1) else iprop(emp))
  (repeat' split) <;> infer_instance

theorem duties_first (c : Dev nD) (k : Fin 4) : (plan (F := F) m).duties (cell c k) 0 = {()} := by dsimp only [plan]; exact if_pos ⟨rfl, rfl⟩
theorem duties_later (g : GSem nD τ sig) : ∀ r, 1 ≤ r → (plan (F := F) m).duties g r = ∅ :=
  fun r hr => by dsimp only [plan]; exact if_neg fun h => by omega
theorem expected (c : Dev nD) (k : Fin 4) : (plan (F := F) m).expect (cell c k) 0 = amt := by
  unfold Schedule.expect Schedule.amountOf; rw [duties_first, Finset.sum_singleton]; dsimp only [plan]
theorem pay_sent₁ (c : Dev nD) (u : Unit) : (plan (F := F) m).payload (cell c 0) 0 u = iprop(emp) := by
  dsimp only [plan]; rw [if_neg (by decide), if_neg (by decide)]
theorem pay_sent₂ (c : Dev nD) (u : Unit) : (plan (F := F) m).payload (cell c 1) 0 u = iprop(emp) := by
  dsimp only [plan]; rw [if_neg (by decide), if_neg (by decide)]
theorem pay_came₁ (c : Dev nD) (u : Unit) : (plan (F := F) m).payload (cell c 2) 0 u = res₁ c (landed₁ m c) := by
  dsimp only [plan]; rw [if_pos rfl]
theorem pay_came₂ (c : Dev nD) (u : Unit) : (plan (F := F) m).payload (cell c 3) 0 u = res₂ c (landed₂ m c) := by
  dsimp only [plan]; rw [if_neg (by decide), if_pos rfl]
theorem rest_came₁ (c : Dev nD) : bigSep ((plan (F := F) m).duties (cell c 2) 0 \ ∅) (fun u => (plan (F := F) m).payload (cell c 2) 0 u) = res₁ c (landed₁ m c) := by
  rw [Finset.sdiff_empty, duties_first, bigSep_singleton, pay_came₁]
theorem rest_came₂ (c : Dev nD) : bigSep ((plan (F := F) m).duties (cell c 3) 0 \ ∅) (fun u => (plan (F := F) m).payload (cell c 3) 0 u) = res₂ c (landed₂ m c) := by
  rw [Finset.sdiff_empty, duties_first, bigSep_singleton, pay_came₂]

/-! ## What is owed at the start: to the other, the credit of each of its two arrivals -/

def due (c : Dev nD) : CellTallies nD τ sig Unit := tallyAt (cell (other c) 3) () amt + tallyAt (cell (other c) 2) () amt

def L (g : GSem nD τ sig) : Finset Unit := if g.1.2 = .tc then {()} else ∅
def lv (_ : GSem nD τ sig) (_ : Unit) : ℕ := 0

/-! ## What the body holds -/

def invs (K : Dev nD × Fin 4 → ℕ) (c : Dev nD) : sProp 𝕄 :=
  iprop(cellInv ER (plan m) (K (c, 0)) (cell c 0) ∗ cellInv ER (plan m) (K (c, 1)) (cell c 1) ∗ cellInv ER (plan m) (K (c, 2)) (cell c 2)
    ∗ cellInv ER (plan m) (K (c, 3)) (cell c 3)
    ∗ cellInv ER (plan m) (K (other c, 2)) (cell (other c) 2) ∗ cellInv ER (plan m) (K (other c, 3)) (cell (other c) 3))

instance invs_persistent (K : Dev nD × Fin 4 → ℕ) (c : Dev nD) : BI.Persistent (invs m K c) := by unfold invs; infer_instance

def starts (c : Dev nD) : sProp 𝕄 :=
  iprop(reached ER (cell c 0) 0 ∗ reached ER (cell c 1) 0 ∗ reached ER (cell (other c) 2) 0 ∗ reached ER (cell (other c) 3) 0)
instance starts_persistent (c : Dev nD) : BI.Persistent (starts (F := F) c) := by unfold starts; infer_instance

def payToks (c : Dev nD) : sProp 𝕄 :=
  iprop(dutyTok ER (cell c 0) 0 () ∗ dutyTok ER (cell c 1) 0 () ∗ dutyTok ER (cell (other c) 2) 0 () ∗ dutyTok ER (cell (other c) 3) 0 ())

def places (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0)

/-- The results of a device, at any contents. -/
def blank (c : Dev nD) : sProp 𝕄 := iprop((∃ f, res₁ c f) ∗ ∃ f, res₂ c f)

def ghost (K : Dev nD × Fin 4 → ℕ) (c : Dev nD) : sProp 𝕄 := iprop(invs m K c ∗ starts c ∗ places c ∗ payToks c ∗ blank (other c))

def creds (c : Dev nD) : sProp 𝕄 := iprop(cred (tallyAt (cell c 2) () amt) ∗ cred (tallyAt (cell c 3) () amt))

def before (c : Dev nD) : sProp 𝕄 := iprop((∃ K, ghost m K c) ∗ creds c ∗ args m fullShare.right c)
def after (c : Dev nD) : sProp 𝕄 :=
  iprop((res₁ c (landed₁ m c) ∗ res₂ c (landed₂ m c)) ∗ semVal (cell c 0) 0 ∗ semVal (cell c 1) 0 ∗ semVal (cell c 2) 0 ∗ semVal (cell c 3) 0)

def dats (_ : Fin 1) (c : Dev nD) : Dat τ (Elt F) Unit ℕ UU ℕ cfg0 c where
  A w := (Fin.cast (rfl : cfg0.W = 0) w).elim0
  after w := (Fin.cast (rfl : cfg0.W = 0) w).elim0
  Φ t := match t with
    | ⟨0, _⟩ => before m c
    | ⟨_ + 1, _⟩ => after m c
  q _ := fullShare
  owed t := match t with
    | ⟨0, _⟩ => due c
    | ⟨_ + 1, _⟩ => 0

abbrev 𝒱₀ : Variants := Variants.none

/-! ## The two sends -/

theorem fills₁ (c : Dev nD) (fd : Buf (Elt F) ((dst₁ : Memref sig .tc .hbm S4x1024x2048 .bf16).view.loc (other c : Thread nD τ))) :
    (dst₁ : Memref sig .tc .hbm S4x1024x2048 .bf16).view.write (Elt F) fd ((src₁ c).view.read (Elt F) (m ((c : Thread nD τ).loc main_arg0))) Finset.univ = landed₁ m (other c) := by
  unfold landed₁; rw [other_other]; exact View.write_whole_univ _ _ _
theorem fills₂ (c : Dev nD) (fd : Buf (Elt F) ((dst₂ : Memref sig .tc .hbm S4x1024x2048 .bf16).view.loc (other c : Thread nD τ))) :
    (dst₂ : Memref sig .tc .hbm S4x1024x2048 .bf16).view.write (Elt F) fd ((src₂ c).view.read (Elt F) (m ((c : Thread nD τ).loc main_arg1))) Finset.univ = landed₂ m (other c) := by
  unfold landed₂; rw [other_other]; exact View.write_whole_univ _ _ _

theorem send₁ (K : Dev nD × Fin 4 → ℕ) (c n : Dev nD) (hn : n = other c)
    {hsc : (dst₁ : Memref sig (Dev.tc n : Thread nD τ).2.kind .hbm S4x1024x2048 .bf16).view.ref.isScScratch = false}
    {hsrc : (src₁ c).view.WordExact} {hdst : (dst₁ : Memref sig .tc .hbm S4x1024x2048 .bf16).view.WordExact}
    {hsem : DmaTarget.Typed .hbm (.dma came₁) (.remote (Dev.tc n : Thread nD τ) (dst₁ : Memref sig .tc .hbm S4x1024x2048 .bf16) (.dma sent₁) hsc)}
    {α : Type} {Q : α → sProp 𝕄} {k : PUnit → Prog (TpuEff nD τ sig (Elt F) Λ₀ .tc) α} (fn) (W : Waits sig Unit) :
    iprop(cellInv ER (plan m) (K (c, 0)) (cell c 0) ∗ cellInv ER (plan m) (K (other c, 2)) (cell (other c) 2)
        ∗ (((c : Thread nD τ).loc main_arg0) ↦{fullShare.right} m ((c : Thread nD τ).loc main_arg0)) ∗ res₁ (other c) fn
        ∗ owes (c : Thread nD τ) (due c) W
        ∗ dutyTok ER (cell c 0) 0 () ∗ reached ER (cell c 0) 0 ∗ dutyTok ER (cell (other c) 2) 0 () ∗ reached ER (cell (other c) 2) 0)
      ⊢ iprop(((cred (tallyAt (cell c 0) () amt) ∗ owes (c : Thread nD τ) (tallyAt (cell (other c) 3) () amt) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src₁ c) (.remote (Dev.tc n : Thread nD τ) dst₁ (.dma sent₁) hsc) (.dma came₁) hsrc hdst hsem) k) Q) := by
  subst hn
  iintro ⟨H1, H2, Ha, Hr, Hrest⟩
  ihave Ha' := (pointsTo_split_subset (Finset.subset_univ (src₁ c).view.set)).1 $$ Ha
  icases Ha' with ⟨Ha, -⟩
  iapply (Rounds.wp_send_pointsTo 𝒱₀ ER (plan m) (c : Thread nD τ) none (κ₁ := K (c, 0)) (κ₂ := K (other c, 2))
    (r₁ := 0) (r₂ := 0) (d₁ := ()) (d₂ := ()) (fs := m ((c : Thread nD τ).loc main_arg0)) (fd := fn) (q := fullShare.right)
    (by rw [duties_first m c 0]; exact Finset.mem_singleton_self _) (by rw [duties_first m (other c) 2]; exact Finset.mem_singleton_self _)
    () () amt rfl rfl rfl (tallyAt (cell (other c) 3) () amt) rfl (W := W)
    (by rw [pay_sent₁ m c]; iintro -; iempintro)
    (by rw [pay_came₁ m (other c), fills₁ m c]; unfold res₁; rw [View.set_whole])) $$ [H1 H2 Ha Hr Hrest]
  isplitl [H1]; · iexact H1
  isplitl [H2]; · iexact H2
  isplitl [Ha]; · iexact Ha
  isplitl [Hr]; · unfold res₁; rw [View.set_whole]; iexact Hr
  iexact Hrest

theorem send₂ (K : Dev nD × Fin 4 → ℕ) (c n : Dev nD) (hn : n = other c)
    {hsc : (dst₂ : Memref sig (Dev.tc n : Thread nD τ).2.kind .hbm S4x1024x2048 .bf16).view.ref.isScScratch = false}
    {hsrc : (src₂ c).view.WordExact} {hdst : (dst₂ : Memref sig .tc .hbm S4x1024x2048 .bf16).view.WordExact}
    {hsem : DmaTarget.Typed .hbm (.dma came₂) (.remote (Dev.tc n : Thread nD τ) (dst₂ : Memref sig .tc .hbm S4x1024x2048 .bf16) (.dma sent₂) hsc)}
    {α : Type} {Q : α → sProp 𝕄} {k : PUnit → Prog (TpuEff nD τ sig (Elt F) Λ₀ .tc) α} (fn) (W : Waits sig Unit) :
    iprop(cellInv ER (plan m) (K (c, 1)) (cell c 1) ∗ cellInv ER (plan m) (K (other c, 3)) (cell (other c) 3)
        ∗ (((c : Thread nD τ).loc main_arg1) ↦{fullShare.right} m ((c : Thread nD τ).loc main_arg1)) ∗ res₂ (other c) fn
        ∗ owes (c : Thread nD τ) (tallyAt (cell (other c) 3) () amt) W
        ∗ dutyTok ER (cell c 1) 0 () ∗ reached ER (cell c 1) 0 ∗ dutyTok ER (cell (other c) 3) 0 () ∗ reached ER (cell (other c) 3) 0)
      ⊢ iprop(((cred (tallyAt (cell c 1) () amt) ∗ owes (c : Thread nD τ) 0 W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src₂ c) (.remote (Dev.tc n : Thread nD τ) dst₂ (.dma sent₂) hsc) (.dma came₂) hsrc hdst hsem) k) Q) := by
  subst hn
  iintro ⟨H1, H2, Ha, Hr, Hrest⟩
  ihave Ha' := (pointsTo_split_subset (Finset.subset_univ (src₂ c).view.set)).1 $$ Ha
  icases Ha' with ⟨Ha, -⟩
  iapply (Rounds.wp_send_pointsTo 𝒱₀ ER (plan m) (c : Thread nD τ) none (κ₁ := K (c, 1)) (κ₂ := K (other c, 3))
    (r₁ := 0) (r₂ := 0) (d₁ := ()) (d₂ := ()) (fs := m ((c : Thread nD τ).loc main_arg1)) (fd := fn) (q := fullShare.right)
    (by rw [duties_first m c 1]; exact Finset.mem_singleton_self _) (by rw [duties_first m (other c) 3]; exact Finset.mem_singleton_self _)
    () () amt rfl rfl rfl 0 (by rw [zero_add]) (W := W)
    (by rw [pay_sent₂ m c]; iintro -; iempintro)
    (by rw [pay_came₂ m (other c), fills₂ m c]; unfold res₂; rw [View.set_whole])) $$ [H1 H2 Ha Hr Hrest]
  isplitl [H1]; · iexact H1
  isplitl [H2]; · iexact H2
  isplitl [Ha]; · iexact Ha
  isplitl [Hr]; · unfold res₂; rw [View.set_whole]; iexact Hr
  iexact Hrest

end Cert.KernelExchIdeal.Run

end
-- ==== Proof.ExchangeStep.lean ====
/- The exchange of halves: the run of its body on one device, from the protocol's resources to the two results filled and the four semaphores at zero. -/
module

public import proofs.«01_k».proof.Proof.ExchangeBody

@[expose] public section

noncomputable section

namespace Cert.KernelExchIdeal.Run

open KernelExchIdeal.Gen
open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

set_option maxHeartbeats 1000000 in
theorem sound (K : Dev nD × Fin 4 → ℕ) (c : Dev nD) (W : Waits sig Unit) (Kt : PUnit → sProp 𝕄) :
    iprop(ghost m K c ∗ creds c ∗ args m fullShare.right c ∗ owes (c : Thread nD τ) (due c) W
        ∗ ((after m c ∗ ∃ W', owes (c : Thread nD τ) 0 W') -∗ Kt ⟨⟩))
      ⊢ wp frame (wpE (defs₀ (F := F)) 𝒱₀ c none) Set.univ
          (cc0_grad_exchange_halves (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1) Kt := by
  rw [cc0_grad_exchange_halves_eq_skeleton]; unfold cc0_grad_exchange_halves_skel
  rw [k0_part1_eq_skeleton, k0_part2_eq_skeleton]; unfold k0_part1_skel k0_part2_skel
  simp only [Prog.lift, Prog.bind_op, Prog.bind_ret, Prog.pure_eq_ret, wp_deviceId]
  unfold ghost invs starts places payToks blank creds args
  iintro ⟨⟨⟨#I0, #I1, #I2, #I3, #J2, #J3⟩, ⟨#R0, #R1, #R2, #R3⟩, ⟨A0, A1, A2, A3⟩, ⟨T0, T1, T2, T3⟩, ⟨⟨%f1, Hr1⟩, ⟨%f2, Hr2⟩⟩⟩, ⟨C2, C3⟩, ⟨Ha, Hb⟩, HO, Hk⟩
  iapply (send₁ m K c _ (to_other₁ c) f1 W) $$ [Ha Hr1 HO T0 T2]
  · isplitr; · iexact I0
    isplitr; · iexact J2
    isplitl [Ha]; · iexact Ha
    isplitl [Hr1]; · iexact Hr1
    isplitl [HO]; · iexact HO
    isplitl [T0]; · iexact T0
    isplitr; · iexact R0
    isplitl [T2]; · iexact T2
    iexact R2
  iintro ⟨C0, HO⟩
  iapply (send₂ m K c _ (to_other₂ c) f2 W) $$ [Hb Hr2 HO T1 T3]
  · isplitr; · iexact I1
    isplitr; · iexact J3
    isplitl [Hb]; · iexact Hb
    isplitl [Hr2]; · iexact Hr2
    isplitl [HO]; · iexact HO
    isplitl [T1]; · iexact T1
    isplitr; · iexact R1
    isplitl [T3]; · iexact T3
    iexact R3
  iintro ⟨C1, HO⟩
  iapply (Rounds.wp_wait_rest_token 𝒱₀ ER (plan m) (c : Thread nD τ) none (κ := K (c, 0))
      (wpE_waitDma2_eq 𝒱₀ (c : Thread nD τ) none Set.univ) (Set.mem_univ _) () (O := 0) (W := W) (R := 0) (m := 0) (T := ∅)
      (by rw [Nat.zero_add]; exact (amt₃ c).trans (expected m c 0).symm)) $$ [C0 HO A0]
  · isplitr; · iexact I0
    isplitl [C0]; · iexact C0
    isplitl [HO]; · iexact HO
    isplitr; · rw [MayWait_zero]; iempintro
    iexact A0
  iintro ⟨HO, A0, -, -⟩
  iapply (Rounds.wp_wait_rest_token 𝒱₀ ER (plan m) (c : Thread nD τ) none (κ := K (c, 2))
      (wpE_waitDma2_eq 𝒱₀ (c : Thread nD τ) none Set.univ) (Set.mem_univ _) () (O := 0) (R := 0) (m := 0) (T := ∅)
      (by rw [Nat.zero_add]; exact (expected m c 2).symm)) $$ [C2 HO A2]
  · isplitr; · iexact I2
    isplitl [C2]; · iexact C2
    isplitl [HO]; · iexact HO
    isplitr; · rw [MayWait_zero]; iempintro
    iexact A2
  iintro ⟨HO, A2, -, P2⟩
  ihave P2' := (Entails.of_eq (rest_came₁ m c)) $$ P2
  iapply (Rounds.wp_wait_rest_token 𝒱₀ ER (plan m) (c : Thread nD τ) none (κ := K (c, 1))
      (wpE_waitDma2_eq 𝒱₀ (c : Thread nD τ) none Set.univ) (Set.mem_univ _) () (O := 0) (R := 0) (m := 0) (T := ∅)
      (by rw [Nat.zero_add]; exact (amt₄ c).trans (expected m c 1).symm)) $$ [C1 HO A1]
  · isplitr; · iexact I1
    isplitl [C1]; · iexact C1
    isplitl [HO]; · iexact HO
    isplitr; · rw [MayWait_zero]; iempintro
    iexact A1
  iintro ⟨HO, A1, -, -⟩
  iapply (Rounds.wp_wait_rest_token 𝒱₀ ER (plan m) (c : Thread nD τ) none (κ := K (c, 3))
      (wpE_waitDma2_eq 𝒱₀ (c : Thread nD τ) none Set.univ) (Set.mem_univ _) () (O := 0) (R := 0) (m := 0) (T := ∅)
      (by rw [Nat.zero_add]; exact amt₂.trans (expected m c 3).symm)) $$ [C3 HO A3]
  · isplitr; · iexact I3
    isplitl [C3]; · iexact C3
    isplitl [HO]; · iexact HO
    isplitr; · rw [MayWait_zero]; iempintro
    iexact A3
  iintro ⟨HO, A3, -, P3⟩
  ihave P3' := (Entails.of_eq (rest_came₂ m c)) $$ P3
  imod (Rounds.cell_close ER (plan m) (Set.mem_univ (K (c, 0))) (fun h => h) (R := 0 + 1) (duties_later m (cell c 0))) $$ [A0] with Z0
  · isplitr; · iexact I0
    iexact A0
  imod (Rounds.cell_close ER (plan m) (Set.mem_univ (K (c, 1))) (fun h => h) (R := 0 + 1) (duties_later m (cell c 1))) $$ [A1] with Z1
  · isplitr; · iexact I1
    iexact A1
  imod (Rounds.cell_close ER (plan m) (Set.mem_univ (K (c, 2))) (fun h => h) (R := 0 + 1) (duties_later m (cell c 2))) $$ [A2] with Z2
  · isplitr; · iexact I2
    iexact A2
  imod (Rounds.cell_close ER (plan m) (Set.mem_univ (K (c, 3))) (fun h => h) (R := 0 + 1) (duties_later m (cell c 3))) $$ [A3] with Z3
  · isplitr; · iexact I3
    iexact A3
  rw [wp_ret]; imodintro
  iapply Hk
  unfold after
  isplitr [HO]
  · isplitl [P2' P3']
    · isplitl [P2'] <;> iassumption
    isplitl [Z0]; · iexact Z0
    isplitl [Z1]; · iexact Z1
    isplitl [Z2] <;> iassumption
  iexists _; iexact HO

/-- What the launch asks of the body at its one point. -/
theorem obligation (c : Dev nD) : BodyObligation (dats (F := F) m 0 c) (defs₀ (F := F)) 𝒱₀ () Set.univ := fun t => by
  rw [fin_N0 t]
  have none_left : ∀ Φ : Fin cfg0.W → sProp 𝕄, bigSep Finset.univ Φ = iprop(emp) := fun Φ => by
    have : IsEmpty (Fin cfg0.W) := by show IsEmpty (Fin 0); infer_instance
    rw [Finset.univ_eq_empty, bigSep_empty]; rfl
  rw [none_left, none_left]
  show iprop(before m c ∗ (dats m 0 c).owesAt () t0_0.castSucc ∗ emp) ⊢ wp frame (wpE (defs₀ (F := F)) 𝒱₀ c none) Set.univ
    (cc0_grad_exchange_halves (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1)
    (fun _ => iprop(after m c ∗ (dats m 0 c).owesAt () t0_0.succ ∗ emp))
  unfold before Dat.owesAt Pipeline.owesWithin
  rw [show (dats (F := F) m 0 c).owed t0_0.castSucc = due c from rfl, show (dats (F := F) m 0 c).owed t0_0.succ = 0 from rfl]
  iintro ⟨⟨⟨%K, Hg⟩, Hc, Ha⟩, ⟨%W, -, HO⟩, -⟩
  iapply (sound m K c W _)
  isplitl [Hg]; · iexact Hg
  isplitl [Hc]; · iexact Hc
  isplitl [Ha]; · iexact Ha
  isplitl [HO]; · iexact HO
  iintro ⟨H, ⟨%W', HO⟩⟩
  isplitl [H]; · iexact H
  isplitl [HO]
  · iexists W'; isplitr; · ipureintro; exact fun _ _ => Or.inl trivial
    iexact HO
  iempintro

end Cert.KernelExchIdeal.Run

end
-- ==== Proof.ExchangeDeal.lean ====
/- The exchange of halves: what is dealt to the two devices before they start. The four semaphores of each device are put under the protocol, and each device is handed the tokens of
   its own sends and of the other's arrivals, and the other's two results. -/
module

public import proofs.«01_k».proof.Proof.ExchangeStep

@[expose] public section

noncomputable section

namespace Cert.KernelExchIdeal.Run

open KernelExchIdeal.Gen
open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ)

/-! ## The semaphores' ghost state -/

theorem ownFacts : Pipeline.OwnSemFacts cfg0.spec own := by decide

theorem cell_injective : Function.Injective (fun ck : Dev nD × Fin 4 => cell ck.1 ck.2) := by
  rintro ⟨c, k⟩ ⟨c', k'⟩ h
  have h1 : c = c' := congrArg (fun g : GSem nD τ sig => g.1.1) h
  have h2 : k = k' := own_injective (congrArg Prod.snd h)
  rw [h1, h2]

def allCells : Finset (GSem nD τ sig) := Finset.univ.map ⟨_, cell_injective⟩
def allToks : Finset (GSem nD τ sig × ℕ × Unit) :=
  Finset.univ.map ⟨fun ck : Dev nD × Fin 4 => (cell ck.1 ck.2, 0, ()), fun _ _ h => cell_injective (congrArg Prod.fst h)⟩

def u₀ : UU := (initOf (Pipeline.cells cfgs cellOf_inj) (Pipeline.launchToks cfgs cellOf_inj), initOf allCells allToks)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

def toks (c : Dev nD) : sProp 𝕄 := iprop(dutyTok ER (cell c 0) 0 () ∗ dutyTok ER (cell c 1) 0 () ∗ dutyTok ER (cell c 2) 0 () ∗ dutyTok ER (cell c 3) 0 ())

def G (c : Dev nD) : sProp 𝕄 :=
  iprop((bigSep Finset.univ fun k : Fin 4 => roundState ER (plan m) (cell c k) 0)
    ∗ (bigSep Finset.univ fun k : Fin 4 => iprop(atPos ER (cell c k) 0 ∅ 0 ∗ reached ER (cell c k) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 4 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [four]; rfl
  iintro HX
  imod (Rounds.fund ER (plan m) allCells allToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores under the protocol -/

/-- What each device brings: its semaphores at zero, its arrays and the ghost state of its cells. -/
def brings (c : Dev nD) : sProp 𝕄 :=
  iprop(Pipeline.ownSems0 (Ix := Unit) (Name := ℕ) (U := UU) (Lvl := ℕ) (Val := Elt F) (τ := τ) own c
    ∗ (args m fullShare c ∗ blank c) ∗ G m c)

/-- What each device leaves with. -/
def G' (c : Dev nD) : sProp 𝕄 := iprop((∃ K, ghost m K c) ∗ args m fullShare c)

theorem own_alloc (c : Dev nD) :
    brings m c ⊢ |={Set.univ}=> iprop((bigSep Finset.univ fun k => iprop(∃ κ : ℕ, cellInv ER (plan m) κ (cell c k)))
      ∗ (bigSep Finset.univ fun k => iprop(atPos ER (cell c k) 0 ∅ 0 ∗ reached ER (cell c k) 0)) ∗ toks c ∗ args m fullShare c ∗ blank c) := by
  unfold brings G
  rw [show (Pipeline.ownSems0 (Ix := Unit) (Name := ℕ) (U := UU) (Lvl := ℕ) (Val := Elt F) (τ := τ) own c : sProp 𝕄)
    = bigSep Finset.univ fun k : Fin 4 => semVal (cell c k) 0 from rfl]
  iintro ⟨Hv, ⟨Ha, Hb⟩, Hst, Hat, Htok⟩
  imod (show iprop((bigSep Finset.univ fun k : Fin 4 => semVal (cell c k) 0) ∗ bigSep Finset.univ fun k : Fin 4 => roundState ER (plan m) (cell c k) 0)
      ⊢ (|={Set.univ}=> bigSep Finset.univ fun k => iprop(∃ κ : ℕ, cellInv ER (plan m) κ (cell c k)) : sProp 𝕄) from by
        rw [← bigSep_sep']
        exact (bigSep_mono fun k _ => (Rounds.body_intro ER (plan m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Ha] <;> iassumption

def records (K : Dev nD × Fin 4 → ℕ) : sProp 𝕄 :=
  iprop((bigSep Finset.univ fun ck : Dev nD × Fin 4 => cellInv ER (plan m) (K ck) (cell ck.1 ck.2))
    ∗ bigSep Finset.univ fun ck : Dev nD × Fin 4 => reached ER (cell ck.1 ck.2) 0)
instance records_persistent (K : Dev nD × Fin 4 → ℕ) : BI.Persistent (records m K) := by unfold records; infer_instance

theorem inv_at (K : Dev nD × Fin 4 → ℕ) (c : Dev nD) (k : Fin 4) :
    (bigSep Finset.univ fun ck : Dev nD × Fin 4 => (cellInv ER (plan m) (K ck) (cell ck.1 ck.2) : sProp 𝕄)) ⊢ cellInv ER (plan m) (K (c, k)) (cell c k) :=
  bigSep_elim (Finset.mem_univ (c, k))
theorem reached_at (c : Dev nD) (k : Fin 4) :
    (bigSep Finset.univ fun ck : Dev nD × Fin 4 => (reached ER (cell ck.1 ck.2) 0 : sProp 𝕄)) ⊢ reached ER (cell c k) 0 :=
  bigSep_elim (Finset.mem_univ (c, k))

def shares (c : Dev nD) : sProp 𝕄 := iprop(places c ∗ payToks c ∗ args m fullShare c ∗ blank (other c))

theorem deal_one (K : Dev nD × Fin 4 → ℕ) (c : Dev nD) : iprop(records m K ∗ shares m c) ⊢ G' m c := by
  unfold records shares G' ghost invs starts
  iintro ⟨⟨#HI, #HR⟩, Hp, Ht, Ha, Hb⟩
  isplitr [Ha]
  · iexists K
    isplitr
    · isplitr; · iapply (inv_at m K c 0); iexact HI
      isplitr; · iapply (inv_at m K c 1); iexact HI
      isplitr; · iapply (inv_at m K c 2); iexact HI
      isplitr; · iapply (inv_at m K c 3); iexact HI
      isplitr; · iapply (inv_at m K (other c) 2); iexact HI
      iapply (inv_at m K (other c) 3); iexact HI
    isplitr
    · isplitr; · iapply (reached_at (F := F) c 0); iexact HR
      isplitr; · iapply (reached_at (F := F) c 1); iexact HR
      isplitr; · iapply (reached_at (F := F) (other c) 2); iexact HR
      iapply (reached_at (F := F) (other c) 3); iexact HR
    isplitl [Hp]; · iexact Hp
    isplitl [Ht] <;> iassumption
  iexact Ha

/-- The tokens of the arrivals cross over to the device that pays them. -/
theorem toks_cross : (bigSep Finset.univ fun c : Dev nD => (toks c : sProp 𝕄)) ⊢ bigSep Finset.univ fun c : Dev nD => payToks c := by
  unfold toks payToks
  simp only [bigSep_sep']
  rw [bigSep_univ_equiv crossing (fun c : Dev nD => (dutyTok ER (cell c 2) 0 () : sProp 𝕄)),
    bigSep_univ_equiv crossing (fun c : Dev nD => (dutyTok ER (cell c 3) 0 () : sProp 𝕄))]
  exact BI.Entails.refl _

/-- And so do the results. -/
theorem blank_cross : (bigSep Finset.univ fun c : Dev nD => (blank c : sProp 𝕄)) ⊢ bigSep Finset.univ fun c : Dev nD => blank (other c) := by
  rw [bigSep_univ_equiv crossing (fun c : Dev nD => (blank c : sProp 𝕄))]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_all :
    (bigSep Finset.univ fun c : Dev nD => iprop((bigSep Finset.univ fun k => iprop(∃ κ : ℕ, cellInv ER (plan m) κ (cell c k)))
      ∗ (bigSep Finset.univ fun k => iprop(atPos ER (cell c k) 0 ∅ 0 ∗ reached ER (cell c k) 0)) ∗ toks c ∗ args m fullShare c ∗ blank c) : sProp 𝕄)
      ⊢ bigSep Finset.univ (G' m) := by
  rw [bigSep_sep', bigSep_sep', bigSep_sep', bigSep_sep', ← bigSep_univ_prod (fun ck : Dev nD × Fin 4 => iprop(∃ κ : ℕ, cellInv ER (plan m) κ (cell ck.1 ck.2))),
    bigSep_congr (s := Finset.univ) (fun (c : Dev nD) _ => bigSep_sep' Finset.univ (fun k : Fin 4 => (atPos ER (cell c k) 0 ∅ 0 : sProp 𝕄)) (fun k => reached ER (cell c k) 0)),
    bigSep_sep', ← bigSep_univ_prod (fun ck : Dev nD × Fin 4 => (reached ER (cell ck.1 ck.2) 0 : sProp 𝕄))]
  iintro ⟨HI, ⟨Hat, #HR⟩, Htok, Ha, Hb⟩
  ihave HK := (BI.bigSep_exists_pi Finset.univ (fun (ck : Dev nD × Fin 4) (κ : ℕ) => (cellInv ER (plan m) κ (cell ck.1 ck.2) : sProp 𝕄))) $$ HI
  icases HK with ⟨%K, #HI⟩
  ihave Htk := (toks_cross (F := F)) $$ Htok
  ihave Hbl := (blank_cross (F := F)) $$ Hb
  iapply (with_persistent (R := records m K) fun c _ => deal_one m K c)
  isplitr
  · unfold records; isplitl; · iexact HI
    iexact HR
  · unfold shares places
    simp only [bigSep_sep', four]
    icases Hat with ⟨H0, H1, H2, H3⟩
    isplitl [H0 H1 H2 H3]
    · isplitl [H0]; · iexact H0
      isplitl [H1]; · iexact H1
      isplitl [H2] <;> iassumption
    isplitl [Htk]; · iexact Htk
    isplitl [Ha] <;> iassumption

theorem deal : (bigSep Finset.univ fun c => brings m c : sProp 𝕄) ⊢ |={Set.univ}=> bigSep Finset.univ (G' m) :=
  ((bigSep_mono fun c _ => own_alloc m c).trans (bigSep_fupd _ _)).trans (BI.fupd_mono (deal_all m))

/-! ## The credit of the two arrivals -/

theorem cell_eq_iff {a b : Dev nD} {s : SemLoc sig} : ((((a : Thread nD τ), s) : GSem nD τ sig) = ((b : Thread nD τ), s)) ↔ a = b :=
  ⟨fun h => congrArg (fun g : GSem nD τ sig => g.1.1) h, fun h => h ▸ rfl⟩
theorem eq_other_iff {d c : Dev nD} : other d = c ↔ d = other c :=
  ⟨fun h => by rw [← h, other_other], fun h => by rw [h, other_other]⟩

theorem due₁ (d c : Dev nD) : due d (cell c 2) () = if d = other c then amt else 0 := by
  unfold due
  rw [Pi.add_apply, Finsupp.add_apply, tallyAt_ne_cell (fun h => absurd (congrArg Prod.snd h : own 2 = own 3) (by decide)), tallyAt_apply, Finsupp.zero_apply, Nat.zero_add]
  by_cases h : d = other c
  · subst h; rw [other_other, if_pos ⟨rfl, rfl⟩, if_pos rfl]
  · rw [if_neg (fun ⟨h1, _⟩ => h (eq_other_iff.mp (cell_eq_iff.mp h1).symm)), if_neg h]
theorem due₂ (d c : Dev nD) : due d (cell c 3) () = if d = other c then amt else 0 := by
  unfold due
  rw [Pi.add_apply, Finsupp.add_apply, tallyAt_apply, tallyAt_ne_cell (fun h => absurd (congrArg Prod.snd h : own 3 = own 2) (by decide)), Finsupp.zero_apply, Nat.add_zero]
  by_cases h : d = other c
  · subst h; rw [other_other, if_pos ⟨rfl, rfl⟩, if_pos rfl]
  · rw [if_neg (fun ⟨h1, _⟩ => h (eq_other_iff.mp (cell_eq_iff.mp h1).symm)), if_neg h]

theorem credit₁ (c : Dev nD) :
    tallyOn (cell c 2) (launchCredit (Pipeline.owing due) 0 (cell c 2)) = (tallyAt (cell c 2) () amt : CellTallies nD τ sig Unit) := by
  unfold tallyAt; refine congrArg _ (Finsupp.ext fun u => ?_); cases u
  rw [Pipeline.launchCredit_owing, Finsupp.single_eq_same, Finset.sum_congr rfl fun d _ => due₁ d c, Finset.sum_ite_eq' Finset.univ (other c) fun _ => amt,
    if_pos (Finset.mem_univ _)]
theorem credit₂ (c : Dev nD) :
    tallyOn (cell c 3) (launchCredit (Pipeline.owing due) 0 (cell c 3)) = (tallyAt (cell c 3) () amt : CellTallies nD τ sig Unit) := by
  unfold tallyAt; refine congrArg _ (Finsupp.ext fun u => ?_); cases u
  rw [Pipeline.launchCredit_owing, Finsupp.single_eq_same, Finset.sum_congr rfl fun d _ => due₂ d c, Finset.sum_ite_eq' Finset.univ (other c) fun _ => amt,
    if_pos (Finset.mem_univ _)]

theorem creds_intro (c : Dev nD) : (Pipeline.launchCred due c : sProp 𝕄) ⊢ creds c := by
  unfold Pipeline.launchCred creds
  rw [bigSep_univ_at _ (own 2), credit₁]
  refine sep_mono_right ?_
  rw [← credit₂]
  exact bigSep_elim (Finset.mem_erase.mpr ⟨by decide, Finset.mem_univ (own 3)⟩)

end Cert.KernelExchIdeal.Run

end
-- ==== Proof.ExchangeRun.lean ====
/- The exchange of halves: the whole program's run. The launch is the one of a call that owes, except that the arrays of the two devices are dealt together with their semaphores before
   either starts, because a device sends into the other's results without asking. -/
module

public import proofs.«01_k».proof.Proof.ExchangeDeal

@[expose] public section

noncomputable section

namespace Cert.KernelExchIdeal.Run

open KernelExchIdeal.Gen
open Idealize.ShloMosaic TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type}

local notation "𝕄" => MT nD τ sig Unit (Elt F) ℕ UU ℕ

variable (m : (ℓ : Loc nD τ sig) → Buf (Elt F) ℓ) (ρ : Dev nD → PrngReg)

/-! ## The pieces of a device's launch bundle -/

theorem arrays_dealt (c : Dev nD) : (unscopedBufs c (fun b => m ((c : Thread nD τ).loc b)) : sProp 𝕄) ⊢ iprop(args m fullShare c ∗ blank c) := by
  rw [unscopedBufs_split cfgs 0 winFacts0.to₀.arr_unscoped winFacts0.arr_inj c, unscopedRest0_eq]
  unfold args blank res₁ res₂
  iintro ⟨-, Ha, Hb, H1, H2⟩
  isplitl [Ha Hb]
  · isplitl [Ha] <;> iassumption
  isplitl [H1]
  · iexists _; iexact H1
  iexists _; iexact H2

theorem args_halve (c : Dev nD) : (args m fullShare c : sProp 𝕄) ⊢ iprop(args m fullShare.left c ∗ args m fullShare.right c) := by
  unfold args
  iintro ⟨Ha, Hb⟩
  ihave Ha' := (pointsTo_share (PosShare.mem_left_op_right fullShare)).1 $$ Ha
  ihave Hb' := (pointsTo_share (PosShare.mem_left_op_right fullShare)).1 $$ Hb
  icases Ha' with ⟨Hal, Har⟩
  icases Hb' with ⟨Hbl, Hbr⟩
  isplitl [Hal Hbl]
  · isplitl [Hal] <;> iassumption
  isplitl [Har] <;> iassumption

/-- What a device's memory reads at the end. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
  ∧ s.mem ((c : Thread nD τ).loc main_v1_0) = landed₁ m c ∧ s.mem ((c : Thread nD τ).loc main_v1_1) = landed₂ m c

/-- What a device holds at the end. -/
def fin (c : Dev nD) : sProp 𝕄 :=
  iprop(((res₁ c (landed₁ m c) ∗ res₂ c (landed₂ m c)) ∗ args m fullShare.left c) ∗ scopedSems0 (c : Thread nD τ))

theorem reads (c : Dev nD) (s' : Phys nD τ sig (Elt F)) :
    iprop(((res₁ c (landed₁ m c) ∗ res₂ c (landed₂ m c)) ∗ args m fullShare.left c) ∗ SI s') ⊢ (iprop(⌜Ends m c s'.mem⌝ ∗ SI s') : sProp 𝕄) := by
  unfold res₁ res₂ args
  have one {ℓ : Loc nD τ sig} {q : PosShare TreeShare} {f : Buf (Elt F) ℓ} : iprop((ℓ ↦{q} f) ∗ SI s') ⊢ (iprop(⌜s'.mem.mem ℓ = f⌝ ∗ SI s') : sProp 𝕄) := by
    have h := pointsTo_read_all (Lvl := ℕ) (Name := ℕ) (U := UU) (Ix := Unit) ({()} : Finset Unit) (fun _ => ℓ) (fun _ => f) s' q
    rw [bigSep_singleton] at h
    exact h.trans (sep_mono_left (Laws.pure_mono fun h => h () (Finset.mem_singleton_self _)))
  iintro ⟨⟨⟨H1, H2⟩, Ha, Hb⟩, HSI⟩
  ihave K1 := one $$ [H1 HSI]
  · isplitl [H1] <;> iassumption
  icases K1 with ⟨%h1, HSI⟩
  ihave K2 := one $$ [H2 HSI]
  · isplitl [H2] <;> iassumption
  icases K2 with ⟨%h2, HSI⟩
  ihave K3 := one $$ [Ha HSI]
  · isplitl [Ha] <;> iassumption
  icases K3 with ⟨%h3, HSI⟩
  ihave K4 := one $$ [Hb HSI]
  · isplitl [Hb] <;> iassumption
  icases K4 with ⟨%h4, HSI⟩
  isplitr
  · ipureintro; exact ⟨⟨h3, h4⟩, h1, h2⟩
  iexact HSI

/-! ## The launch -/

/-- What a device starts the call with, apart from its share of the deal: the scoped storage and the launch's own bookkeeping. -/
def base (c : Dev nD) : sProp 𝕄 := iprop(scopedBufs (c : Thread nD τ) ∗ cellsSems0 cfgs 0 c ∗ idleSems0 cfgs cellOf_inj 0 ownFacts c)

def holds (c : Dev nD) : sProp 𝕄 :=
  iprop(base c ∗ owes (c : Thread nD τ) (due c) ∅ ∗ launchCred due c ∗ (PerCore.cellsGhost (fun _ : Dev nD => cfgs) EP 0 c ∗ toksInit cfgs EP 0 c) ∗ G' m c)

theorem sems_split (c : Dev nD) : (scopedSems0 (c : Thread nD τ) : sProp 𝕄) = iprop((cellsSems0 cfgs 0 c ∗ ownSems0 own c) ∗ idleSems0 cfgs cellOf_inj 0 ownFacts c) :=
  scopedSems0_split cfgs cellOf_inj 0 winFacts0.to₀ ownFacts c

theorem bundle (c : Dev nD) :
    coreInit (Ix := Unit) (Name := ℕ) (U := UU) (Lvl := ℕ) (owing due) 0 (⟨m, fun _ => 0, ρ⟩ : MemSt nD τ sig (Elt F)) (c : Thread nD τ)
      ⊢ (iprop(base c ∗ (ownSems0 own c ∗ args m fullShare c ∗ blank c) ∗ owes (c : Thread nD τ) (due c) ∅ ∗ launchCred due c) : sProp 𝕄) := by
  refine (coreInit_boundary_owing due m ρ c).trans ?_
  unfold boundary base
  rw [sems_split c]
  iintro ⟨⟨Hsc, ⟨⟨Hcells, Hos⟩, Hidle⟩, -⟩, Hub, -, HL, -, -, Hcr⟩
  ihave Harr := (arrays_dealt m c) $$ Hub
  isplitl [Hsc Hcells Hidle]
  · isplitl [Hsc]; · iexact Hsc
    isplitl [Hcells] <;> iassumption
  isplitl [Hos Harr]
  · isplitl [Hos]; · iexact Hos
    iexact Harr
  isplitl [HL] <;> iassumption

theorem start_all :
    iprop((bigSep Finset.univ fun d : Dev nD =>
        coreInit (Ix := Unit) (Name := ℕ) (U := UU) (Lvl := ℕ) (owing due) 0 (⟨m, fun _ => 0, ρ⟩ : MemSt nD τ sig (Elt F)) (d : Thread nD τ)) ∗ ownU u₀)
      ⊢ (iprop(|={Set.univ}=> ∃ _ : Unit, bigSep Finset.univ (holds m) ∗ emp) : sProp 𝕄) := by
  have regroup : (bigSep Finset.univ fun d : Dev nD =>
        coreInit (Ix := Unit) (Name := ℕ) (U := UU) (Lvl := ℕ) (owing due) 0 (⟨m, fun _ => 0, ρ⟩ : MemSt nD τ sig (Elt F)) (d : Thread nD τ))
      ⊢ (iprop((bigSep Finset.univ fun c => base c) ∗ (bigSep Finset.univ fun c => iprop(ownSems0 own c ∗ args m fullShare c ∗ blank c))
          ∗ (bigSep Finset.univ fun c : Dev nD => owes (c : Thread nD τ) (due c) ∅) ∗ bigSep Finset.univ fun c => launchCred due c) : sProp 𝕄) := by
    simp only [← bigSep_sep']
    exact bigSep_mono fun c _ => bundle m ρ c
  have pick (Φ : Fin 1 → Dev nD → sProp 𝕄) :
      (bigSep Finset.univ fun c : Dev nD => bigSep Finset.univ fun p => Φ p c) ⊢ bigSep Finset.univ fun c : Dev nD => Φ 0 c :=
    bigSep_mono fun c _ => bigSep_elim (Finset.mem_univ 0)
  iintro ⟨Hcores, Hu⟩
  ihave Hc := regroup $$ Hcores
  icases Hc with ⟨Hb, Hmine, HL, Hcr⟩
  unfold u₀
  ihave H := (ownU_pair _ _) $$ Hu
  icases H with ⟨HP, HX⟩
  imod (fund_all m) $$ HX with HG
  imod (PerCore.fund_ghost (fun _ : Dev nD => cfgs) EP cellOf_inj) $$ HP with ⟨Hg, Ht⟩
  imod (deal m) $$ [Hmine HG] with HG'
  · unfold brings
    simp only [bigSep_sep']
    icases Hmine with ⟨Hos, Ha, Hbl⟩
    isplitl [Hos]; · iexact Hos
    isplitl [Ha Hbl]
    · isplitl [Ha] <;> iassumption
    iexact HG
  imodintro
  iexists ()
  isplitl
  · unfold holds
    simp only [bigSep_sep']
    isplitl [Hb]; · iexact Hb
    isplitl [HL]; · iexact HL
    isplitl [Hcr]; · iexact Hcr
    isplitl [Hg Ht]
    · isplitl [Hg]
      · iapply (pick fun p c => PerCore.cellsGhost (fun _ : Dev nD => cfgs) EP p c); iexact Hg
      iapply (pick fun p c => toksInit cfgs EP p c); iexact Ht
    iexact HG'
  iempintro

/-- One device's run of the program: the call, then the return. -/
theorem run_one [FloatOps F] (c : Dev nD) :
    holds m c ⊢ wp frame (wpE (Pipeline.defs (fun p => (cfgs p).toPCfg (Val := Elt F)) (defs₀ (F := F))) (Variants.lift 𝒱₀) (c : Thread nD τ) none) Set.univ (main (F := F) c)
      (fun _ => post (liftTc (fin m) BI.emp) (c : Thread nD τ)) := by
  have none_left : ∀ Φ : Fin cfg0.W → sProp 𝕄, bigSep Finset.univ Φ = BI.emp := fun Φ => by
    have : IsEmpty (Fin cfg0.W) := by show IsEmpty (Fin 0); infer_instance
    rw [Finset.univ_eq_empty, bigSep_empty]
  have bufs := scopedBufs_split cfgs 0 winFacts0.to₀.stage_scoped winFacts0.to₀.stage_inj stage_whole0 (nD := nD) (τ := τ) (Ix := Unit) (Val := Elt F) (Name := ℕ) (U := UU) (Lvl := ℕ) c
  have leave : iprop((dats m 0 c).Φ (Fin.last cfg0.N) ∗ cellsSems0 cfgs 0 c ∗ Dat.staging cfg0 c ∗ idleSems0 cfgs cellOf_inj 0 ownFacts c)
      ⊢ iprop((res₁ c (landed₁ m c) ∗ res₂ c (landed₂ m c)) ∗ scopedSems0 (c : Thread nD τ) ∗ scopedBufs (c : Thread nD τ)) := by
    rw [show (dats m 0 c).Φ (Fin.last cfg0.N) = after m c from rfl, sems_split c, bufs, scopedRest0_eq,
      show (ownSems0 (Ix := Unit) (Name := ℕ) (U := UU) (Lvl := ℕ) (Val := Elt F) (τ := τ) own c : sProp 𝕄) = bigSep Finset.univ fun k : Fin 4 => semVal (cell c k) 0 from rfl, four]
    unfold after
    iintro ⟨⟨Hr, Hz⟩, Hc, Hst, Hi⟩
    isplitl [Hr]; · iexact Hr
    isplitr [Hst]
    · isplitr [Hi]
      · isplitl [Hc] <;> iassumption
      iexact Hi
    isplitl [Hst]; · iexact Hst
    iempintro
  unfold holds base G'
  rw [show main (F := F) c = .op (.customCall (entry 0) ()) fun _ => .ret ⟨⟩ from rfl]
  iintro ⟨⟨Hsc, Hcells, Hidle⟩, HL, Hcr, ⟨Hg, Ht⟩, HK, Ha⟩
  ihave Hcr' := (creds_intro (F := F) c) $$ Hcr
  ihave Ha' := (args_halve m c) $$ Ha
  icases Ha' with ⟨Hal, Har⟩
  iapply (fupd_wp frame (wpE (Pipeline.defs (fun p => (cfgs p).toPCfg (Val := Elt F)) (defs₀ (F := F))) (Variants.lift 𝒱₀) (c : Thread nD τ) none) Set.univ _ _)
  imod (cellsInit_alloc cfgs (dats m) EP cellOf_inj 0 c) $$ [Hcells Hg] with ⟨%κ, -, Hinit⟩
  · isplitl [Hcells] <;> iassumption
  imodintro
  iapply (wp_customCall_entry_frame (fun p => (cfgs p).toPCfg (Val := Elt F)) (fun p => (cfgs p).toPCfg_adm) (dats m) () EP κ cellOf_inj 0 (defs₀ (F := F)) 𝒱₀
      (fun _ => fullShare.right) c Set.univ (fun _ _ => Set.mem_univ _) (obligation m c).loose block_pos0 none (fun u h => nomatch h)
      (X := before m c) (Y := iprop(res₁ c (landed₁ m c) ∗ res₂ c (landed₂ m c))) (R := scopedRest cfg0.spec c) (I := idleSems0 cfgs cellOf_inj 0 ownFacts c)
      (Entails.of_eq bufs) (by
        rw [show (dats m 0 c).Φ 0 = before m c from rfl]
        iintro ⟨H, -, -⟩; iexact H) leave
      (k := fun _ => .ret ⟨⟩) (Q := fun _ => post (liftTc (fin m) BI.emp) (c : Thread nD τ))) $$ [HL Hinit Ht HK Hcr' Har Hidle Hsc]
  · isplitl [HL Hinit Ht]
    · unfold EntryPre PerCore.EntryPre Dat.owesAt owesWithin
      isplitr
      · unfold Dat.arrays; rw [none_left]; iempintro
      isplitl [HL]
      · iexists ∅; isplitr; · ipureintro; rw [Finset.coe_empty]; exact Set.empty_subset _
        iexact HL
      isplitr
      · iapply (cellsWaits_intro cfgs (dats m) () 0 c (R := iprop(emp)) fun w _ _ => (Fin.cast (rfl : cfg0.W = 0) w).elim0); iempintro
      isplitl [Hinit] <;> iassumption
    isplitr
    · unfold prefHeld; rw [Finset.univ_eq_empty, bigSep_empty]; iempintro
    isplitl [HK Hcr' Har]
    · unfold before
      isplitl [HK]; · iexact HK
      isplitl [Hcr'] <;> iassumption
    isplitl [Hidle]; · iexact Hidle
    iexact Hsc
  iintro ⟨Hpost, HY, Hss, -⟩
  rw [wp_ret]; imodintro
  unfold EntryPost PerCore.EntryPost Dat.owesAt owesWithin
  rw [show (dats (F := F) m 0 c).owed (Fin.last cfg0.N) = 0 from rfl]
  icases Hpost with ⟨-, %W, -, HO⟩
  unfold post; simp only [liftTc_tc, fin]
  isplitr [HO]
  · isplitl [HY Hal]
    · isplitl [HY] <;> iassumption
    iexact Hss
  iexists W; iexact HO

/-- The whole program on its two devices, from any memory with its counters at zero: it ends, the arguments as they were, the results holding what the other device sent. -/
theorem run [FloatOps F] : θ_run defs (onTc (τ := τ) (main (F := F))) ⟨m, fun _ => 0, ρ⟩ (fun r => (∀ c : Dev nD, Ends m c r.2) ∧ r.2.sem = fun _ => 0) := by
  refine (θ_run _ _ _).mono (Q := fun r => (∀ c : Dev nD, Ends m c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu _ _ _ _
      (reflect_intro_fupd_tc_sems (X := Unit) (Ix := Unit) (Name := ℕ) (U := UU) (Lvl := ℕ) (Variants.lift 𝒱₀) (owing due) 0 (noBookings fun _ => le_rfl) (owing_of_ne due) u₀
        (fun _ => holds m) (fun _ => fin m) (fun _ => iprop(emp)) Set.univ (start_all m ρ) (fun _ c => run_one m c) fun _ => ?_))
  have hcore (c : Dev nD) (s' : Phys nD τ sig (Elt F)) : iprop(fin m c ∗ SI s') ⊢ |={Set.univ}=>
      (iprop(⌜Ends m c s'.mem ∧ ∀ sm : SemLoc sig, sm.isScoped .tc = true → s'.mem.sem ((c : Thread nD τ), sm) = 0⌝ ∗ SI s') : sProp 𝕄) := by
    unfold fin
    iintro ⟨⟨H, Hss⟩, HSI⟩
    ihave %hz := (tcScoped_read_pers c s') $$ [Hss HSI]
    · isplitl [Hss] <;> iassumption
    ihave Hr := (reads m c s') $$ [H HSI]
    · isplitl [H] <;> iassumption
    icases Hr with ⟨%he, HSI⟩
    imodintro
    isplitr; · ipureintro; exact ⟨he, hz⟩
    iexact HSI
  iintro ⟨H, -, Hsc⟩ %s' HSI
  ihave %hsc := (scSems_read_zero m ρ s') $$ [Hsc HSI]
  · isplitl [Hsc] <;> iassumption
  imod (posts_fupd Finset.univ hcore s') $$ [H HSI] with %h
  · isplitl [H] <;> iassumption
  imodintro
  ipureintro
  exact ⟨fun c => h c (Finset.mem_univ c), hsc⟩

end Cert.KernelExchIdeal.Run

end
-- ==== Proof.ExchangeClaims.lean ====
/- The exchange of halves: what the two devices end with is, block by block, what the plain exchange of the whole arrays leaves; and the five claims of the pair. -/
module

public import proofs.«01_k».proof.Defs
public import proofs.«01_k».proof.Proof.Gen.KernelExch.Skeleton
public import proofs.«01_k».proof.Proof.Gen.ReferenceExchIdeal.Run
public import proofs.«01_k».proof.Proof.ExchangeRun
public import Idealize.ShloMosaic.Lib.Claim
public import Idealize.ShloMosaic.Lib.KernelVsHost

@[expose] public section

noncomputable section

namespace Cert.Proof.Exch

open Idealize.ShloMosaic TcCoe Idealize.SL.Sem
open KernelExchIdeal KernelExchIdeal.Run

variable {α : Type}

/-- The whole array of results, from the whole array of arguments: the second half of the devices' rows 0 to 1023, then the first half's rows 1024 to 2047. -/
abbrev exchanged (v : ReferenceExchIdeal.S8x2048x2048.Idx → α) : (⟨3, ![8, 1024, 2048]⟩ : Shape).Idx → α :=
  concatenate ReferenceExchIdeal.S8x1024x2048 0
    [⟨ReferenceExchIdeal.S4x1024x2048, extractStridedSlice ReferenceExchIdeal.S4x1024x2048 ![4, 0, 0] v ReferenceExchIdeal.Facts₀.slices_S8x2048x2048_S4x1024x2048_4_0_0⟩,
      ⟨ReferenceExchIdeal.S4x1024x2048, extractStridedSlice ReferenceExchIdeal.S4x1024x2048 ![0, 1024, 0] v ReferenceExchIdeal.Facts₀.slices_S8x2048x2048_S4x1024x2048_0_1024_0⟩]
    ReferenceExchIdeal.Facts₀.concatenates_S4x1024x2048_S4x1024x2048_S8x1024x2048_d0

/-- The block of the whole array that device `c` holds. -/
abbrev held (c : Dev nD) (v : ReferenceExchIdeal.S8x2048x2048.Idx → α) : (⟨3, ![4, 2048, 2048]⟩ : Shape).Idx → α :=
  Layout.blockN ⟨3, ![4, 2048, 2048]⟩ ⟨3, ![8, 2048, 2048]⟩ (Layout.meshBlock [1, 1, 2] ![[2], [], []] c) v

/-- The block of the exchanged array that is device `c`'s. -/
abbrev given (c : Dev nD) (r : (⟨3, ![8, 1024, 2048]⟩ : Shape).Idx → α) : (⟨3, ![4, 1024, 2048]⟩ : Shape).Idx → α :=
  Layout.blockN ⟨3, ![4, 1024, 2048]⟩ ⟨3, ![8, 1024, 2048]⟩ (Layout.meshBlock [1, 1, 2] ![[2], [], []] c) r

/-- What the other device sends is the block of the exchanged array that is this device's. -/
theorem crossed (c : Dev nD) (v : ReferenceExchIdeal.S8x2048x2048.Idx → α) (i : Shape.Idx KernelExchIdeal.S4x1024x2048) :
    held (other c) v ((rows (other c)).emb i) = given c (exchanged v) i := by
  have e (d : Dev nD) (a : Fin 3) : ((rows d).emb i a).val = (![0, 1024 - 1024 * d.val, 0] : Fin 3 → ℕ) a + 1 * (i a).val :=
    congrArg (fun o : Fin 3 → ℕ => o a + 1 * (i a).val) (Gen.k0_off1_eq d)
  have at0 : Layout.meshLin [1, 1, 2] 0 [2] = 0 := by decide
  have at1 : Layout.meshLin [1, 1, 2] 1 [2] = 1 := by decide
  simp only [held, given, Layout.blockN_apply]
  match c with
  | ⟨0, h⟩ =>
    symm
    refine (concatenate_pair_apply_left (t := ReferenceExchIdeal.S8x1024x2048) (s₁ := ReferenceExchIdeal.S4x1024x2048) (s₂ := ReferenceExchIdeal.S4x1024x2048) 0 _ _ _ _ rfl i fun b => ?_).trans ?_
    · fin_cases b
      · show (i 0).val = Layout.meshLin [1, 1, 2] 0 [2] * 4 + (i 0).val; rw [at0]; omega
      · show (i 1).val = 0 * 1024 + (i 1).val; omega
      · show (i 2).val = 0 * 2048 + (i 2).val; omega
    refine congrArg v (funext fun a => Fin.ext ?_)
    fin_cases a
    · show 4 + (i 0).val = Layout.meshLin [1, 1, 2] 1 [2] * 4 + ((rows ⟨1, by decide⟩).emb i 0).val; rw [e, at1]; show _ = 1 * 4 + (0 + 1 * (i 0).val); omega
    · show 0 + (i 1).val = 0 * 2048 + ((rows ⟨1, by decide⟩).emb i 1).val; rw [e]; show _ = 0 * 2048 + (1024 - 1024 * 1 + 1 * (i 1).val); omega
    · show 0 + (i 2).val = 0 * 2048 + ((rows ⟨1, by decide⟩).emb i 2).val; rw [e]; show _ = 0 * 2048 + (0 + 1 * (i 2).val); omega
  | ⟨1, h⟩ =>
    symm
    refine (concatenate_pair_apply_right (t := ReferenceExchIdeal.S8x1024x2048) (s₁ := ReferenceExchIdeal.S4x1024x2048) (s₂ := ReferenceExchIdeal.S4x1024x2048) 0 _ _ _ _ rfl rfl i (fun b hb => ?_) ?_).trans ?_
    · fin_cases b
      · exact absurd rfl hb
      · show (i 1).val = 0 * 1024 + (i 1).val; omega
      · show (i 2).val = 0 * 2048 + (i 2).val; omega
    · show (i 0).val + 4 = Layout.meshLin [1, 1, 2] 1 [2] * 4 + (i 0).val; rw [at1]; omega
    refine congrArg v (funext fun a => Fin.ext ?_)
    fin_cases a
    · show 0 + (i 0).val = Layout.meshLin [1, 1, 2] 0 [2] * 4 + ((rows ⟨0, by decide⟩).emb i 0).val; rw [e, at0]; show _ = 0 * 4 + (0 + 1 * (i 0).val); omega
    · show 1024 + (i 1).val = 0 * 2048 + ((rows ⟨0, by decide⟩).emb i 1).val; rw [e]; show _ = 0 * 2048 + (1024 - 1024 * 0 + 1 * (i 1).val); omega
    · show 0 + (i 2).val = 0 * 2048 + ((rows ⟨0, by decide⟩).emb i 2).val; rw [e]; show _ = 0 * 2048 + (0 + 1 * (i 2).val); omega

/-! ## The claims -/

/-- No operation changes between the kernel's two printings: one body, one table. -/
theorem same_body {F : FTy → Type} : (@KernelExch.defs₀ F _) = @KernelExchIdeal.defs₀ F _ := by
  unfold KernelExch.defs₀ KernelExchIdeal.defs₀
  refine congrArg Defs.onTc (funext fun l => funext fun a => ?_)
  match l with
  | 0 => rfl

theorem same_table {F : FTy → Type} : (@KernelExch.defs F _) = @KernelExchIdeal.defs F _ :=
  congrArg (Pipeline.defs KernelExchIdeal.pcfgs) same_body

theorem frame : quiescent_KernelExch := fun m ρ _ => by
  have h := KernelExchIdeal.Run.run (F := Bits) m ρ
  rw [← same_table] at h
  exact (θ_run _ _ _).mono (fun r h => ⟨fun c => (h.1 c).1, h.2⟩) h
theorem frame_ideal : quiescent_KernelExchIdeal := fun m ρ _ =>
  (θ_run _ _ _).mono (fun r h => ⟨fun c => (h.1 c).1, h.2⟩) (KernelExchIdeal.Run.run m ρ)
theorem frame_reference : quiescent_ReferenceExchIdeal := fun m ρ _ =>
  (θ_run _ _ _).mono (fun r h => ⟨fun c => (h c).2.2, sem_eq_zero_of_no_sems (by decide) r.2⟩) (ReferenceExchIdeal.Value.run m ρ)

theorem preserves : preserves_KernelExch_KernelExchIdeal := trivial

/-- Each device ends with its block of the exchanged arrays. -/
theorem algebraic : algebraic_KernelExchIdeal_ReferenceExchIdeal := by
  intro m ρ m' ρ' _ hm
  refine ⟨exchanged (m' (((0 : Dev ReferenceExchIdeal.nD).tc : Thread ReferenceExchIdeal.nD ReferenceExchIdeal.τ).loc ReferenceExchIdeal.main_arg0)),
    exchanged (m' (((0 : Dev ReferenceExchIdeal.nD).tc : Thread ReferenceExchIdeal.nD ReferenceExchIdeal.τ).loc ReferenceExchIdeal.main_arg1)), ?_,
    (θ_run _ _ _).mono (fun r h => h 0) (ReferenceExchIdeal.Value.run m' ρ')⟩
  refine (θ_run _ _ _).mono (fun r h c => ?_) (KernelExchIdeal.Run.run m ρ)
  obtain ⟨⟨ha, hb⟩, h1, h2⟩ := h.1 c
  refine ⟨h1.trans (funext fun i => ?_), h2.trans (funext fun i => ?_), ha, hb⟩
  · exact (congrFun (hm (other c)).1 ((rows (other c)).emb i)).trans (crossed c _ i)
  · exact (congrFun (hm (other c)).2 ((rows (other c)).emb i)).trans (crossed c _ i)

end Cert.Proof.Exch

end
-- ==== Proof.lean ====
module

public import proofs.«01_k».proof.Defs
public import proofs.«01_k».proof.Proof.GateClaims
public import proofs.«01_k».proof.Proof.FoxClaims
public import proofs.«01_k».proof.Proof.MlpClaims
public import proofs.«01_k».proof.Proof.MixClaims
public import proofs.«01_k».proof.Proof.ActClaims
public import proofs.«01_k».proof.Proof.FcumClaims
public import proofs.«01_k».proof.Proof.ModnormClaims
public import proofs.«01_k».proof.Proof.QnormClaims
public import proofs.«01_k».proof.Proof.KnormClaims
public import proofs.«01_k».proof.Proof.LossClaims
public import proofs.«01_k».proof.Proof.MixForward
public import proofs.«01_k».proof.Proof.ModnormForward
public import proofs.«01_k».proof.Proof.LnForward
public import proofs.«01_k».proof.Proof.GatesForward
public import proofs.«01_k».proof.Proof.GeluupClaims
public import proofs.«01_k».proof.Proof.UpForward
public import proofs.«01_k».proof.Proof.QForward
public import proofs.«01_k».proof.Proof.KForward
public import proofs.«01_k».proof.Proof.DownForward
public import proofs.«01_k».proof.Proof.AttnoForward
public import proofs.«01_k».proof.Proof.GmlpoutForward
public import proofs.«01_k».proof.Proof.SiluForward
public import proofs.«01_k».proof.Proof.AdaForward
public import proofs.«01_k».proof.Proof.FcumForward
public import proofs.«01_k».proof.Proof.WeightGradient
public import proofs.«01_k».proof.Proof.OptimiserStep
public import proofs.«01_k».proof.Proof.DeviceSum
public import proofs.«01_k».proof.Proof.ExchangeClaims
public import Idealize.ShloMosaic.Adequacy
public import Idealize.ShloMosaic.Init

@[expose] public section

noncomputable section

namespace Cert.Proof

theorem claim : Cert.Claim := ⟨KernelGate.Gen.facts, KernelGateIdeal.Gen.facts, ReferenceGateIdeal.Gen.facts,
  KernelFox.Gen.facts, KernelFoxIdeal.Gen.facts, ReferenceFoxIdeal.Gen.facts,
  KernelMlp.Gen.facts, KernelMlpIdeal.Gen.facts, ReferenceMlpIdeal.Gen.facts,
  KernelMix.Gen.facts, KernelMixIdeal.Gen.facts, ReferenceMixIdeal.Gen.facts,
  KernelAct.Gen.facts, KernelActIdeal.Gen.facts, ReferenceActIdeal.Gen.facts,
  KernelFcum.Gen.facts, KernelFcumIdeal.Gen.facts, ReferenceFcumIdeal.Gen.facts,
  KernelModnorm.Gen.facts, KernelModnormIdeal.Gen.facts, ReferenceModnormIdeal.Gen.facts,
  KernelQnorm.Gen.facts, KernelQnormIdeal.Gen.facts, ReferenceQnormIdeal.Gen.facts,
  KernelKnorm.Gen.facts, KernelKnormIdeal.Gen.facts, ReferenceKnormIdeal.Gen.facts,
  KernelLoss.Gen.facts, KernelLossIdeal.Gen.facts, ReferenceLossIdeal.Gen.facts,
  KernelMixfwd.Gen.facts, KernelMixfwdIdeal.Gen.facts, ReferenceMixfwdIdeal.Gen.facts,
  KernelModnormfwd.Gen.facts, KernelModnormfwdIdeal.Gen.facts, ReferenceModnormfwdIdeal.Gen.facts,
  KernelLnfwd.Gen.facts, KernelLnfwdIdeal.Gen.facts, ReferenceLnfwdIdeal.Gen.facts,
  KernelGatesfwd.Gen.facts, KernelGatesfwdIdeal.Gen.facts, ReferenceGatesfwdIdeal.Gen.facts,
  KernelGeluup.Gen.facts, KernelGeluupIdeal.Gen.facts, ReferenceGeluupIdeal.Gen.facts,
  KernelUpfwd.Gen.facts, KernelUpfwdIdeal.Gen.facts, ReferenceUpfwdIdeal.Gen.facts,
  KernelQfwd.Gen.facts, KernelQfwdIdeal.Gen.facts, ReferenceQfwdIdeal.Gen.facts,
  KernelKfwd.Gen.facts, KernelKfwdIdeal.Gen.facts, ReferenceKfwdIdeal.Gen.facts,
  KernelDownfwd.Gen.facts, KernelDownfwdIdeal.Gen.facts, ReferenceDownfwdIdeal.Gen.facts,
  KernelAttnofwd.Gen.facts, KernelAttnofwdIdeal.Gen.facts, ReferenceAttnofwdIdeal.Gen.facts,
  KernelGmlpoutfwd.Gen.facts, KernelGmlpoutfwdIdeal.Gen.facts, ReferenceGmlpoutfwdIdeal.Gen.facts,
  KernelSilufwd.Gen.facts, KernelSilufwdIdeal.Gen.facts, ReferenceSilufwdIdeal.Gen.facts,
  KernelAdafwd.Gen.facts, KernelAdafwdIdeal.Gen.facts, ReferenceAdafwdIdeal.Gen.facts,
  KernelFcumfwd.Gen.facts, KernelFcumfwdIdeal.Gen.facts, ReferenceFcumfwdIdeal.Gen.facts,
  KernelWgrad.Gen.facts, KernelWgradIdeal.Gen.facts, ReferenceWgradIdeal.Gen.facts,
  KernelAdamw.Gen.facts, KernelAdamwIdeal.Gen.facts, ReferenceAdamwIdeal.Gen.facts,
  KernelSumdev.Gen.facts, KernelSumdevIdeal.Gen.facts, ReferenceSumdevIdeal.Gen.facts,
  KernelExch.Gen.facts, KernelExchIdeal.Gen.facts, ReferenceExchIdeal.Gen.facts,
  Fox.facts_finite,
  Act.facts_finite,
  Modnorm.facts_finite,
  Gate.frame, Gate.frame_ideal, Gate.frame_reference,
  Fox.frame, Fox.frame_ideal, Fox.frame_ideal_pre, Fox.frame_reference, Fox.frame_reference_pre,
  Mlp.frame, Mlp.frame_ideal, Mlp.frame_reference,
  Mix.frame, Mix.frame_ideal, Mix.frame_reference,
  Act.frame, Act.frame_ideal, Act.frame_ideal_pre, Act.frame_reference, Act.frame_reference_pre,
  Fcum.frame, Fcum.frame_ideal, Fcum.frame_reference,
  Modnorm.frame, Modnorm.frame_ideal, Modnorm.frame_ideal_pre, Modnorm.frame_reference, Modnorm.frame_reference_pre,
  Qnorm.frame, Qnorm.frame_ideal, Qnorm.frame_reference,
  Knorm.frame, Knorm.frame_ideal, Knorm.frame_reference,
  Loss.frame, Loss.frame_ideal, Loss.frame_reference,
  Mixfwd.frame, Mixfwd.frame_ideal, Mixfwd.frame_reference,
  Modnormfwd.frame, Modnormfwd.frame_ideal, Modnormfwd.frame_reference,
  Lnfwd.frame, Lnfwd.frame_ideal, Lnfwd.frame_reference,
  Gatesfwd.frame, Gatesfwd.frame_ideal, Gatesfwd.frame_reference,
  Geluup.frame, Geluup.frame_ideal, Geluup.frame_reference,
  Upfwd.frame, Upfwd.frame_ideal, Upfwd.frame_reference,
  Qfwd.frame, Qfwd.frame_ideal, Qfwd.frame_reference,
  Kfwd.frame, Kfwd.frame_ideal, Kfwd.frame_reference,
  Downfwd.frame, Downfwd.frame_ideal, Downfwd.frame_reference,
  Attnofwd.frame, Attnofwd.frame_ideal, Attnofwd.frame_reference,
  Gmlpoutfwd.frame, Gmlpoutfwd.frame_ideal, Gmlpoutfwd.frame_reference,
  Silufwd.frame, Silufwd.frame_ideal, Silufwd.frame_reference,
  Adafwd.frame, Adafwd.frame_ideal, Adafwd.frame_reference,
  Fcumfwd.frame, Fcumfwd.frame_ideal, Fcumfwd.frame_reference,
  Wgrad.frame, Wgrad.frame_ideal, Wgrad.frame_reference,
  Adamw.frame, Adamw.frame_ideal, Adamw.frame_reference,
  Sumdev.frame, Sumdev.frame_ideal, Sumdev.frame_reference,
  Exch.frame, Exch.frame_ideal, Exch.frame_reference,
  Gate.preserves, Gate.algebraic,
  Fox.preserves, Fox.algebraic,
  Mlp.preserves, Mlp.algebraic,
  Mix.preserves, Mix.algebraic,
  Act.preserves, Act.algebraic,
  Fcum.preserves, Fcum.algebraic,
  Modnorm.preserves, Modnorm.algebraic,
  Qnorm.preserves, Qnorm.algebraic,
  Knorm.preserves, Knorm.algebraic,
  Loss.preserves, Loss.algebraic,
  Mixfwd.preserves, Mixfwd.algebraic,
  Modnormfwd.preserves, Modnormfwd.algebraic,
  Lnfwd.preserves, Lnfwd.algebraic,
  Gatesfwd.preserves, Gatesfwd.algebraic,
  Geluup.preserves, Geluup.algebraic,
  Upfwd.preserves, Upfwd.algebraic,
  Qfwd.preserves, Qfwd.algebraic,
  Kfwd.preserves, Kfwd.algebraic,
  Downfwd.preserves, Downfwd.algebraic,
  Attnofwd.preserves, Attnofwd.algebraic,
  Gmlpoutfwd.preserves, Gmlpoutfwd.algebraic,
  Silufwd.preserves, Silufwd.algebraic,
  Adafwd.preserves, Adafwd.algebraic,
  Fcumfwd.preserves, Fcumfwd.algebraic,
  Wgrad.preserves, Wgrad.algebraic,
  Adamw.preserves, Adamw.algebraic,
  Sumdev.preserves, Sumdev.algebraic,
  Exch.preserves, Exch.algebraic⟩

end Cert.Proof

end
